-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_inputs_finite [hPre_inputs_finite : Cert.Pre_inputs_finite.Facts] (m : (ℓ : Loc Cert.KernelIdeal.nD Cert.KernelIdeal.τ Cert.KernelIdeal.sig) → Buf (Elt Ideal) ℓ) : Prop :=
  ∀ c : Dev Cert.KernelIdeal.nD,
    (Cert.Pre_inputs_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_inputs_finite [hPre_inputs_finite : Cert.Pre_inputs_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_inputs_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Project (m : (ℓ : Loc Cert.Project.nD Cert.Project.τ Cert.Project.sig) → Buf (Elt Bits) ℓ) : Prop :=
  True

def Pre_ProjectIdeal (m : (ℓ : Loc Cert.ProjectIdeal.nD Cert.ProjectIdeal.τ Cert.ProjectIdeal.sig) → Buf (Elt Ideal) ℓ) : Prop :=
  True

def Pre_ProjectReferenceIdeal (m : (ℓ : Loc Cert.ProjectReferenceIdeal.nD Cert.ProjectReferenceIdeal.τ Cert.ProjectReferenceIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeReferenceIdeal (m : (ℓ : Loc Cert.MergeReferenceIdeal.nD Cert.MergeReferenceIdeal.τ Cert.MergeReferenceIdeal.sig) → Buf (Elt Ideal) ℓ) : Prop :=
  True

def Pre_Experts (m : (ℓ : Loc Cert.Experts.nD Cert.Experts.τ Cert.Experts.sig) → Buf (Elt Bits) ℓ) : Prop :=
  True

def Pre_ExpertsIdeal (m : (ℓ : Loc Cert.ExpertsIdeal.nD Cert.ExpertsIdeal.τ Cert.ExpertsIdeal.sig) → Buf (Elt Ideal) ℓ) : Prop :=
  True

def Pre_ExpertsReferenceIdeal (m : (ℓ : Loc Cert.ExpertsReferenceIdeal.nD Cert.ExpertsReferenceIdeal.τ Cert.ExpertsReferenceIdeal.sig) → Buf (Elt Ideal) ℓ) : Prop :=
  True

def Pre_Attend (m : (ℓ : Loc Cert.Attend.nD Cert.Attend.τ Cert.Attend.sig) → Buf (Elt Bits) ℓ) : Prop :=
  True

def Pre_AttendIdeal (m : (ℓ : Loc Cert.AttendIdeal.nD Cert.AttendIdeal.τ Cert.AttendIdeal.sig) → Buf (Elt Ideal) ℓ) : Prop :=
  True

def Pre_AttendIdeal_attended_finite [hPre_attended_finite : Cert.Pre_attended_finite.Facts] (m : (ℓ : Loc Cert.AttendIdeal.nD Cert.AttendIdeal.τ Cert.AttendIdeal.sig) → Buf (Elt Ideal) ℓ) : Prop :=
  ∀ c : Dev Cert.AttendIdeal.nD,
    (Cert.Pre_attended_finite.fn (F := Ideal) (m ((c.tc : Thread Cert.AttendIdeal.nD Cert.AttendIdeal.τ).loc Cert.AttendIdeal.main_arg0)) (m ((c.tc : Thread Cert.AttendIdeal.nD Cert.AttendIdeal.τ).loc Cert.AttendIdeal.main_arg1)) (m ((c.tc : Thread Cert.AttendIdeal.nD Cert.AttendIdeal.τ).loc Cert.AttendIdeal.main_arg2)) (m ((c.tc : Thread Cert.AttendIdeal.nD Cert.AttendIdeal.τ).loc Cert.AttendIdeal.main_arg3)) (m ((c.tc : Thread Cert.AttendIdeal.nD Cert.AttendIdeal.τ).loc Cert.AttendIdeal.main_arg4))) = (fun _ => 1#1)

def Pre_AttendReferenceIdeal (m : (ℓ : Loc Cert.AttendReferenceIdeal.nD Cert.AttendReferenceIdeal.τ Cert.AttendReferenceIdeal.sig) → Buf (Elt Ideal) ℓ) : Prop :=
  True

def Pre_AttendReferenceIdeal_attended_finite [hPre_attended_finite : Cert.Pre_attended_finite.Facts] (m : (ℓ : Loc Cert.AttendReferenceIdeal.nD Cert.AttendReferenceIdeal.τ Cert.AttendReferenceIdeal.sig) → Buf (Elt Ideal) ℓ) : Prop :=
  ∀ c : Dev Cert.AttendReferenceIdeal.nD,
    (Cert.Pre_attended_finite.fn (F := Ideal) (m ((c.tc : Thread Cert.AttendReferenceIdeal.nD Cert.AttendReferenceIdeal.τ).loc Cert.AttendReferenceIdeal.main_arg0)) (m ((c.tc : Thread Cert.AttendReferenceIdeal.nD Cert.AttendReferenceIdeal.τ).loc Cert.AttendReferenceIdeal.main_arg1)) (m ((c.tc : Thread Cert.AttendReferenceIdeal.nD Cert.AttendReferenceIdeal.τ).loc Cert.AttendReferenceIdeal.main_arg2)) (m ((c.tc : Thread Cert.AttendReferenceIdeal.nD Cert.AttendReferenceIdeal.τ).loc Cert.AttendReferenceIdeal.main_arg3)) (m ((c.tc : Thread Cert.AttendReferenceIdeal.nD Cert.AttendReferenceIdeal.τ).loc Cert.AttendReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_inputs_finite [hKernelIdeal : Cert.KernelIdeal.Facts] [hPre_inputs_finite : Cert.Pre_inputs_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_inputs_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_inputs_finite [hReferenceIdeal : Cert.ReferenceIdeal.Facts] [hPre_inputs_finite : Cert.Pre_inputs_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_inputs_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Project [hProject : Cert.Project.Facts] : Prop :=
  ∀ (m : (ℓ : Loc Cert.Project.nD Cert.Project.τ Cert.Project.sig) → Buf (Elt Bits) ℓ) (g : Dev Cert.Project.nD → PrngReg), Pre_Project m →
    θ_run (Cert.Project.defs (F := Bits)) (onTc (τ := Cert.Project.τ) (Cert.Project.main (F := Bits))) ⟨m, fun _ => 0, g⟩ (fun r => (∀ c : Dev Cert.Project.nD,
      r.2.mem ((c.tc : Thread Cert.Project.nD Cert.Project.τ).loc Cert.Project.main_arg0) = m ((c.tc : Thread Cert.Project.nD Cert.Project.τ).loc Cert.Project.main_arg0)
      ∧ r.2.mem ((c.tc : Thread Cert.Project.nD Cert.Project.τ).loc Cert.Project.main_arg1) = m ((c.tc : Thread Cert.Project.nD Cert.Project.τ).loc Cert.Project.main_arg1)
      ∧ r.2.mem ((c.tc : Thread Cert.Project.nD Cert.Project.τ).loc Cert.Project.main_arg2) = m ((c.tc : Thread Cert.Project.nD Cert.Project.τ).loc Cert.Project.main_arg2)
      ∧ r.2.mem ((c.tc : Thread Cert.Project.nD Cert.Project.τ).loc Cert.Project.main_arg3) = m ((c.tc : Thread Cert.Project.nD Cert.Project.τ).loc Cert.Project.main_arg3)
      ∧ r.2.mem ((c.tc : Thread Cert.Project.nD Cert.Project.τ).loc Cert.Project.main_arg4) = m ((c.tc : Thread Cert.Project.nD Cert.Project.τ).loc Cert.Project.main_arg4)
      ∧ r.2.mem ((c.tc : Thread Cert.Project.nD Cert.Project.τ).loc Cert.Project.main_arg5) = m ((c.tc : Thread Cert.Project.nD Cert.Project.τ).loc Cert.Project.main_arg5)
      ∧ r.2.mem ((c.tc : Thread Cert.Project.nD Cert.Project.τ).loc Cert.Project.main_arg6) = m ((c.tc : Thread Cert.Project.nD Cert.Project.τ).loc Cert.Project.main_arg6)
      ∧ r.2.mem ((c.tc : Thread Cert.Project.nD Cert.Project.τ).loc Cert.Project.main_arg7) = m ((c.tc : Thread Cert.Project.nD Cert.Project.τ).loc Cert.Project.main_arg7)
      ∧ r.2.mem ((c.tc : Thread Cert.Project.nD Cert.Project.τ).loc Cert.Project.main_arg8) = m ((c.tc : Thread Cert.Project.nD Cert.Project.τ).loc Cert.Project.main_arg8)
      ∧ r.2.mem ((c.tc : Thread Cert.Project.nD Cert.Project.τ).loc Cert.Project.main_arg9) = m ((c.tc : Thread Cert.Project.nD Cert.Project.τ).loc Cert.Project.main_arg9)
      ∧ r.2.mem ((c.tc : Thread Cert.Project.nD Cert.Project.τ).loc Cert.Project.main_arg10) = m ((c.tc : Thread Cert.Project.nD Cert.Project.τ).loc Cert.Project.main_arg10)
      ∧ r.2.mem ((c.tc : Thread Cert.Project.nD Cert.Project.τ).loc Cert.Project.main_arg11) = m ((c.tc : Thread Cert.Project.nD Cert.Project.τ).loc Cert.Project.main_arg11))
      ∧ r.2.sem = fun _ => 0)

def quiescent_ProjectIdeal [hProjectIdeal : Cert.ProjectIdeal.Facts] : Prop :=
  ∀ (m : (ℓ : Loc Cert.ProjectIdeal.nD Cert.ProjectIdeal.τ Cert.ProjectIdeal.sig) → Buf (Elt Ideal) ℓ) (g : Dev Cert.ProjectIdeal.nD → PrngReg), Pre_ProjectIdeal m →
    θ_run (Cert.ProjectIdeal.defs (F := Ideal)) (onTc (τ := Cert.ProjectIdeal.τ) (Cert.ProjectIdeal.main (F := Ideal))) ⟨m, fun _ => 0, g⟩ (fun r => (∀ c : Dev Cert.ProjectIdeal.nD,
      r.2.mem ((c.tc : Thread Cert.ProjectIdeal.nD Cert.ProjectIdeal.τ).loc Cert.ProjectIdeal.main_arg0) = m ((c.tc : Thread Cert.ProjectIdeal.nD Cert.ProjectIdeal.τ).loc Cert.ProjectIdeal.main_arg0)
      ∧ r.2.mem ((c.tc : Thread Cert.ProjectIdeal.nD Cert.ProjectIdeal.τ).loc Cert.ProjectIdeal.main_arg1) = m ((c.tc : Thread Cert.ProjectIdeal.nD Cert.ProjectIdeal.τ).loc Cert.ProjectIdeal.main_arg1)
      ∧ r.2.mem ((c.tc : Thread Cert.ProjectIdeal.nD Cert.ProjectIdeal.τ).loc Cert.ProjectIdeal.main_arg2) = m ((c.tc : Thread Cert.ProjectIdeal.nD Cert.ProjectIdeal.τ).loc Cert.ProjectIdeal.main_arg2)
      ∧ r.2.mem ((c.tc : Thread Cert.ProjectIdeal.nD Cert.ProjectIdeal.τ).loc Cert.ProjectIdeal.main_arg3) = m ((c.tc : Thread Cert.ProjectIdeal.nD Cert.ProjectIdeal.τ).loc Cert.ProjectIdeal.main_arg3)
      ∧ r.2.mem ((c.tc : Thread Cert.ProjectIdeal.nD Cert.ProjectIdeal.τ).loc Cert.ProjectIdeal.main_arg4) = m ((c.tc : Thread Cert.ProjectIdeal.nD Cert.ProjectIdeal.τ).loc Cert.ProjectIdeal.main_arg4)
      ∧ r.2.mem ((c.tc : Thread Cert.ProjectIdeal.nD Cert.ProjectIdeal.τ).loc Cert.ProjectIdeal.main_arg5) = m ((c.tc : Thread Cert.ProjectIdeal.nD Cert.ProjectIdeal.τ).loc Cert.ProjectIdeal.main_arg5)
      ∧ r.2.mem ((c.tc : Thread Cert.ProjectIdeal.nD Cert.ProjectIdeal.τ).loc Cert.ProjectIdeal.main_arg6) = m ((c.tc : Thread Cert.ProjectIdeal.nD Cert.ProjectIdeal.τ).loc Cert.ProjectIdeal.main_arg6)
      ∧ r.2.mem ((c.tc : Thread Cert.ProjectIdeal.nD Cert.ProjectIdeal.τ).loc Cert.ProjectIdeal.main_arg7) = m ((c.tc : Thread Cert.ProjectIdeal.nD Cert.ProjectIdeal.τ).loc Cert.ProjectIdeal.main_arg7)
      ∧ r.2.mem ((c.tc : Thread Cert.ProjectIdeal.nD Cert.ProjectIdeal.τ).loc Cert.ProjectIdeal.main_arg8) = m ((c.tc : Thread Cert.ProjectIdeal.nD Cert.ProjectIdeal.τ).loc Cert.ProjectIdeal.main_arg8)
      ∧ r.2.mem ((c.tc : Thread Cert.ProjectIdeal.nD Cert.ProjectIdeal.τ).loc Cert.ProjectIdeal.main_arg9) = m ((c.tc : Thread Cert.ProjectIdeal.nD Cert.ProjectIdeal.τ).loc Cert.ProjectIdeal.main_arg9)
      ∧ r.2.mem ((c.tc : Thread Cert.ProjectIdeal.nD Cert.ProjectIdeal.τ).loc Cert.ProjectIdeal.main_arg10) = m ((c.tc : Thread Cert.ProjectIdeal.nD Cert.ProjectIdeal.τ).loc Cert.ProjectIdeal.main_arg10)
      ∧ r.2.mem ((c.tc : Thread Cert.ProjectIdeal.nD Cert.ProjectIdeal.τ).loc Cert.ProjectIdeal.main_arg11) = m ((c.tc : Thread Cert.ProjectIdeal.nD Cert.ProjectIdeal.τ).loc Cert.ProjectIdeal.main_arg11))
      ∧ r.2.sem = fun _ => 0)

def quiescent_ProjectReferenceIdeal [hProjectReferenceIdeal : Cert.ProjectReferenceIdeal.Facts] : Prop :=
  ∀ (m : (ℓ : Loc Cert.ProjectReferenceIdeal.nD Cert.ProjectReferenceIdeal.τ Cert.ProjectReferenceIdeal.sig) → Buf (Elt Ideal) ℓ) (g : Dev Cert.ProjectReferenceIdeal.nD → PrngReg), Pre_ProjectReferenceIdeal m →
    θ_run (Cert.ProjectReferenceIdeal.defs (F := Ideal)) (onTc (τ := Cert.ProjectReferenceIdeal.τ) (Cert.ProjectReferenceIdeal.main (F := Ideal))) ⟨m, fun _ => 0, g⟩ (fun r => (∀ c : Dev Cert.ProjectReferenceIdeal.nD,
      r.2.mem ((c.tc : Thread Cert.ProjectReferenceIdeal.nD Cert.ProjectReferenceIdeal.τ).loc Cert.ProjectReferenceIdeal.main_arg0) = m ((c.tc : Thread Cert.ProjectReferenceIdeal.nD Cert.ProjectReferenceIdeal.τ).loc Cert.ProjectReferenceIdeal.main_arg0)
      ∧ r.2.mem ((c.tc : Thread Cert.ProjectReferenceIdeal.nD Cert.ProjectReferenceIdeal.τ).loc Cert.ProjectReferenceIdeal.main_arg1) = m ((c.tc : Thread Cert.ProjectReferenceIdeal.nD Cert.ProjectReferenceIdeal.τ).loc Cert.ProjectReferenceIdeal.main_arg1)
      ∧ r.2.mem ((c.tc : Thread Cert.ProjectReferenceIdeal.nD Cert.ProjectReferenceIdeal.τ).loc Cert.ProjectReferenceIdeal.main_arg2) = m ((c.tc : Thread Cert.ProjectReferenceIdeal.nD Cert.ProjectReferenceIdeal.τ).loc Cert.ProjectReferenceIdeal.main_arg2)
      ∧ r.2.mem ((c.tc : Thread Cert.ProjectReferenceIdeal.nD Cert.ProjectReferenceIdeal.τ).loc Cert.ProjectReferenceIdeal.main_arg3) = m ((c.tc : Thread Cert.ProjectReferenceIdeal.nD Cert.ProjectReferenceIdeal.τ).loc Cert.ProjectReferenceIdeal.main_arg3)
      ∧ r.2.mem ((c.tc : Thread Cert.ProjectReferenceIdeal.nD Cert.ProjectReferenceIdeal.τ).loc Cert.ProjectReferenceIdeal.main_arg4) = m ((c.tc : Thread Cert.ProjectReferenceIdeal.nD Cert.ProjectReferenceIdeal.τ).loc Cert.ProjectReferenceIdeal.main_arg4)
      ∧ r.2.mem ((c.tc : Thread Cert.ProjectReferenceIdeal.nD Cert.ProjectReferenceIdeal.τ).loc Cert.ProjectReferenceIdeal.main_arg5) = m ((c.tc : Thread Cert.ProjectReferenceIdeal.nD Cert.ProjectReferenceIdeal.τ).loc Cert.ProjectReferenceIdeal.main_arg5)
      ∧ r.2.mem ((c.tc : Thread Cert.ProjectReferenceIdeal.nD Cert.ProjectReferenceIdeal.τ).loc Cert.ProjectReferenceIdeal.main_arg6) = m ((c.tc : Thread Cert.ProjectReferenceIdeal.nD Cert.ProjectReferenceIdeal.τ).loc Cert.ProjectReferenceIdeal.main_arg6)
      ∧ r.2.mem ((c.tc : Thread Cert.ProjectReferenceIdeal.nD Cert.ProjectReferenceIdeal.τ).loc Cert.ProjectReferenceIdeal.main_arg7) = m ((c.tc : Thread Cert.ProjectReferenceIdeal.nD Cert.ProjectReferenceIdeal.τ).loc Cert.ProjectReferenceIdeal.main_arg7)
      ∧ r.2.mem ((c.tc : Thread Cert.ProjectReferenceIdeal.nD Cert.ProjectReferenceIdeal.τ).loc Cert.ProjectReferenceIdeal.main_arg8) = m ((c.tc : Thread Cert.ProjectReferenceIdeal.nD Cert.ProjectReferenceIdeal.τ).loc Cert.ProjectReferenceIdeal.main_arg8)
      ∧ r.2.mem ((c.tc : Thread Cert.ProjectReferenceIdeal.nD Cert.ProjectReferenceIdeal.τ).loc Cert.ProjectReferenceIdeal.main_arg9) = m ((c.tc : Thread Cert.ProjectReferenceIdeal.nD Cert.ProjectReferenceIdeal.τ).loc Cert.ProjectReferenceIdeal.main_arg9)
      ∧ r.2.mem ((c.tc : Thread Cert.ProjectReferenceIdeal.nD Cert.ProjectReferenceIdeal.τ).loc Cert.ProjectReferenceIdeal.main_arg10) = m ((c.tc : Thread Cert.ProjectReferenceIdeal.nD Cert.ProjectReferenceIdeal.τ).loc Cert.ProjectReferenceIdeal.main_arg10)
      ∧ r.2.mem ((c.tc : Thread Cert.ProjectReferenceIdeal.nD Cert.ProjectReferenceIdeal.τ).loc Cert.ProjectReferenceIdeal.main_arg11) = m ((c.tc : Thread Cert.ProjectReferenceIdeal.nD Cert.ProjectReferenceIdeal.τ).loc Cert.ProjectReferenceIdeal.main_arg11))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7)
      ∧ r.2.mem ((c.tc : Thread Cert.Merge.nD Cert.Merge.τ).loc Cert.Merge.main_arg8) = m ((c.tc : Thread Cert.Merge.nD Cert.Merge.τ).loc Cert.Merge.main_arg8)
      ∧ r.2.mem ((c.tc : Thread Cert.Merge.nD Cert.Merge.τ).loc Cert.Merge.main_arg9) = m ((c.tc : Thread Cert.Merge.nD Cert.Merge.τ).loc Cert.Merge.main_arg9)
      ∧ r.2.mem ((c.tc : Thread Cert.Merge.nD Cert.Merge.τ).loc Cert.Merge.main_arg10) = m ((c.tc : Thread Cert.Merge.nD Cert.Merge.τ).loc Cert.Merge.main_arg10))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
      ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
      ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
      ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10))
      ∧ r.2.sem = fun _ => 0)

def quiescent_MergeReferenceIdeal [hMergeReferenceIdeal : Cert.MergeReferenceIdeal.Facts] : Prop :=
  ∀ (m : (ℓ : Loc Cert.MergeReferenceIdeal.nD Cert.MergeReferenceIdeal.τ Cert.MergeReferenceIdeal.sig) → Buf (Elt Ideal) ℓ) (g : Dev Cert.MergeReferenceIdeal.nD → PrngReg), Pre_MergeReferenceIdeal m →
    θ_run (Cert.MergeReferenceIdeal.defs (F := Ideal)) (onTc (τ := Cert.MergeReferenceIdeal.τ) (Cert.MergeReferenceIdeal.main (F := Ideal))) ⟨m, fun _ => 0, g⟩ (fun r => (∀ c : Dev Cert.MergeReferenceIdeal.nD,
      r.2.mem ((c.tc : Thread Cert.MergeReferenceIdeal.nD Cert.MergeReferenceIdeal.τ).loc Cert.MergeReferenceIdeal.main_arg0) = m ((c.tc : Thread Cert.MergeReferenceIdeal.nD Cert.MergeReferenceIdeal.τ).loc Cert.MergeReferenceIdeal.main_arg0)
      ∧ r.2.mem ((c.tc : Thread Cert.MergeReferenceIdeal.nD Cert.MergeReferenceIdeal.τ).loc Cert.MergeReferenceIdeal.main_arg1) = m ((c.tc : Thread Cert.MergeReferenceIdeal.nD Cert.MergeReferenceIdeal.τ).loc Cert.MergeReferenceIdeal.main_arg1)
      ∧ r.2.mem ((c.tc : Thread Cert.MergeReferenceIdeal.nD Cert.MergeReferenceIdeal.τ).loc Cert.MergeReferenceIdeal.main_arg2) = m ((c.tc : Thread Cert.MergeReferenceIdeal.nD Cert.MergeReferenceIdeal.τ).loc Cert.MergeReferenceIdeal.main_arg2)
      ∧ r.2.mem ((c.tc : Thread Cert.MergeReferenceIdeal.nD Cert.MergeReferenceIdeal.τ).loc Cert.MergeReferenceIdeal.main_arg3) = m ((c.tc : Thread Cert.MergeReferenceIdeal.nD Cert.MergeReferenceIdeal.τ).loc Cert.MergeReferenceIdeal.main_arg3)
      ∧ r.2.mem ((c.tc : Thread Cert.MergeReferenceIdeal.nD Cert.MergeReferenceIdeal.τ).loc Cert.MergeReferenceIdeal.main_arg4) = m ((c.tc : Thread Cert.MergeReferenceIdeal.nD Cert.MergeReferenceIdeal.τ).loc Cert.MergeReferenceIdeal.main_arg4)
      ∧ r.2.mem ((c.tc : Thread Cert.MergeReferenceIdeal.nD Cert.MergeReferenceIdeal.τ).loc Cert.MergeReferenceIdeal.main_arg5) = m ((c.tc : Thread Cert.MergeReferenceIdeal.nD Cert.MergeReferenceIdeal.τ).loc Cert.MergeReferenceIdeal.main_arg5)
      ∧ r.2.mem ((c.tc : Thread Cert.MergeReferenceIdeal.nD Cert.MergeReferenceIdeal.τ).loc Cert.MergeReferenceIdeal.main_arg6) = m ((c.tc : Thread Cert.MergeReferenceIdeal.nD Cert.MergeReferenceIdeal.τ).loc Cert.MergeReferenceIdeal.main_arg6)
      ∧ r.2.mem ((c.tc : Thread Cert.MergeReferenceIdeal.nD Cert.MergeReferenceIdeal.τ).loc Cert.MergeReferenceIdeal.main_arg7) = m ((c.tc : Thread Cert.MergeReferenceIdeal.nD Cert.MergeReferenceIdeal.τ).loc Cert.MergeReferenceIdeal.main_arg7)
      ∧ r.2.mem ((c.tc : Thread Cert.MergeReferenceIdeal.nD Cert.MergeReferenceIdeal.τ).loc Cert.MergeReferenceIdeal.main_arg8) = m ((c.tc : Thread Cert.MergeReferenceIdeal.nD Cert.MergeReferenceIdeal.τ).loc Cert.MergeReferenceIdeal.main_arg8)
      ∧ r.2.mem ((c.tc : Thread Cert.MergeReferenceIdeal.nD Cert.MergeReferenceIdeal.τ).loc Cert.MergeReferenceIdeal.main_arg9) = m ((c.tc : Thread Cert.MergeReferenceIdeal.nD Cert.MergeReferenceIdeal.τ).loc Cert.MergeReferenceIdeal.main_arg9)
      ∧ r.2.mem ((c.tc : Thread Cert.MergeReferenceIdeal.nD Cert.MergeReferenceIdeal.τ).loc Cert.MergeReferenceIdeal.main_arg10) = m ((c.tc : Thread Cert.MergeReferenceIdeal.nD Cert.MergeReferenceIdeal.τ).loc Cert.MergeReferenceIdeal.main_arg10))
      ∧ r.2.sem = fun _ => 0)

def quiescent_Experts [hExperts : Cert.Experts.Facts] : Prop :=
  ∀ (m : (ℓ : Loc Cert.Experts.nD Cert.Experts.τ Cert.Experts.sig) → Buf (Elt Bits) ℓ) (g : Dev Cert.Experts.nD → PrngReg), Pre_Experts m →
    θ_run (Cert.Experts.defs (F := Bits)) (onTc (τ := Cert.Experts.τ) (Cert.Experts.main (F := Bits))) ⟨m, fun _ => 0, g⟩ (fun r => (∀ c : Dev Cert.Experts.nD,
      r.2.mem ((c.tc : Thread Cert.Experts.nD Cert.Experts.τ).loc Cert.Experts.main_arg0) = m ((c.tc : Thread Cert.Experts.nD Cert.Experts.τ).loc Cert.Experts.main_arg0)
      ∧ r.2.mem ((c.tc : Thread Cert.Experts.nD Cert.Experts.τ).loc Cert.Experts.main_arg1) = m ((c.tc : Thread Cert.Experts.nD Cert.Experts.τ).loc Cert.Experts.main_arg1)
      ∧ r.2.mem ((c.tc : Thread Cert.Experts.nD Cert.Experts.τ).loc Cert.Experts.main_arg2) = m ((c.tc : Thread Cert.Experts.nD Cert.Experts.τ).loc Cert.Experts.main_arg2)
      ∧ r.2.mem ((c.tc : Thread Cert.Experts.nD Cert.Experts.τ).loc Cert.Experts.main_arg3) = m ((c.tc : Thread Cert.Experts.nD Cert.Experts.τ).loc Cert.Experts.main_arg3)
      ∧ r.2.mem ((c.tc : Thread Cert.Experts.nD Cert.Experts.τ).loc Cert.Experts.main_arg4) = m ((c.tc : Thread Cert.Experts.nD Cert.Experts.τ).loc Cert.Experts.main_arg4)
      ∧ r.2.mem ((c.tc : Thread Cert.Experts.nD Cert.Experts.τ).loc Cert.Experts.main_arg5) = m ((c.tc : Thread Cert.Experts.nD Cert.Experts.τ).loc Cert.Experts.main_arg5)
      ∧ r.2.mem ((c.tc : Thread Cert.Experts.nD Cert.Experts.τ).loc Cert.Experts.main_arg6) = m ((c.tc : Thread Cert.Experts.nD Cert.Experts.τ).loc Cert.Experts.main_arg6)
      ∧ r.2.mem ((c.tc : Thread Cert.Experts.nD Cert.Experts.τ).loc Cert.Experts.main_arg7) = m ((c.tc : Thread Cert.Experts.nD Cert.Experts.τ).loc Cert.Experts.main_arg7)
      ∧ r.2.mem ((c.tc : Thread Cert.Experts.nD Cert.Experts.τ).loc Cert.Experts.main_arg8) = m ((c.tc : Thread Cert.Experts.nD Cert.Experts.τ).loc Cert.Experts.main_arg8)
      ∧ r.2.mem ((c.tc : Thread Cert.Experts.nD Cert.Experts.τ).loc Cert.Experts.main_arg9) = m ((c.tc : Thread Cert.Experts.nD Cert.Experts.τ).loc Cert.Experts.main_arg9))
      ∧ r.2.sem = fun _ => 0)

def quiescent_ExpertsIdeal [hExpertsIdeal : Cert.ExpertsIdeal.Facts] : Prop :=
  ∀ (m : (ℓ : Loc Cert.ExpertsIdeal.nD Cert.ExpertsIdeal.τ Cert.ExpertsIdeal.sig) → Buf (Elt Ideal) ℓ) (g : Dev Cert.ExpertsIdeal.nD → PrngReg), Pre_ExpertsIdeal m →
    θ_run (Cert.ExpertsIdeal.defs (F := Ideal)) (onTc (τ := Cert.ExpertsIdeal.τ) (Cert.ExpertsIdeal.main (F := Ideal))) ⟨m, fun _ => 0, g⟩ (fun r => (∀ c : Dev Cert.ExpertsIdeal.nD,
      r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
      ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
      ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
      ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
      ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4)
      ∧ r.2.mem ((c.tc : Thread Cert.ExpertsIdeal.nD Cert.ExpertsIdeal.τ).loc Cert.ExpertsIdeal.main_arg5) = m ((c.tc : Thread Cert.ExpertsIdeal.nD Cert.ExpertsIdeal.τ).loc Cert.ExpertsIdeal.main_arg5)
      ∧ r.2.mem ((c.tc : Thread Cert.ExpertsIdeal.nD Cert.ExpertsIdeal.τ).loc Cert.ExpertsIdeal.main_arg6) = m ((c.tc : Thread Cert.ExpertsIdeal.nD Cert.ExpertsIdeal.τ).loc Cert.ExpertsIdeal.main_arg6)
      ∧ r.2.mem ((c.tc : Thread Cert.ExpertsIdeal.nD Cert.ExpertsIdeal.τ).loc Cert.ExpertsIdeal.main_arg7) = m ((c.tc : Thread Cert.ExpertsIdeal.nD Cert.ExpertsIdeal.τ).loc Cert.ExpertsIdeal.main_arg7)
      ∧ r.2.mem ((c.tc : Thread Cert.ExpertsIdeal.nD Cert.ExpertsIdeal.τ).loc Cert.ExpertsIdeal.main_arg8) = m ((c.tc : Thread Cert.ExpertsIdeal.nD Cert.ExpertsIdeal.τ).loc Cert.ExpertsIdeal.main_arg8)
      ∧ r.2.mem ((c.tc : Thread Cert.ExpertsIdeal.nD Cert.ExpertsIdeal.τ).loc Cert.ExpertsIdeal.main_arg9) = m ((c.tc : Thread Cert.ExpertsIdeal.nD Cert.ExpertsIdeal.τ).loc Cert.ExpertsIdeal.main_arg9))
      ∧ r.2.sem = fun _ => 0)

def quiescent_ExpertsReferenceIdeal [hExpertsReferenceIdeal : Cert.ExpertsReferenceIdeal.Facts] : Prop :=
  ∀ (m : (ℓ : Loc Cert.ExpertsReferenceIdeal.nD Cert.ExpertsReferenceIdeal.τ Cert.ExpertsReferenceIdeal.sig) → Buf (Elt Ideal) ℓ) (g : Dev Cert.ExpertsReferenceIdeal.nD → PrngReg), Pre_ExpertsReferenceIdeal m →
    θ_run (Cert.ExpertsReferenceIdeal.defs (F := Ideal)) (onTc (τ := Cert.ExpertsReferenceIdeal.τ) (Cert.ExpertsReferenceIdeal.main (F := Ideal))) ⟨m, fun _ => 0, g⟩ (fun r => (∀ c : Dev Cert.ExpertsReferenceIdeal.nD,
      r.2.mem ((c.tc : Thread Cert.ExpertsReferenceIdeal.nD Cert.ExpertsReferenceIdeal.τ).loc Cert.ExpertsReferenceIdeal.main_arg0) = m ((c.tc : Thread Cert.ExpertsReferenceIdeal.nD Cert.ExpertsReferenceIdeal.τ).loc Cert.ExpertsReferenceIdeal.main_arg0)
      ∧ r.2.mem ((c.tc : Thread Cert.ExpertsReferenceIdeal.nD Cert.ExpertsReferenceIdeal.τ).loc Cert.ExpertsReferenceIdeal.main_arg1) = m ((c.tc : Thread Cert.ExpertsReferenceIdeal.nD Cert.ExpertsReferenceIdeal.τ).loc Cert.ExpertsReferenceIdeal.main_arg1)
      ∧ r.2.mem ((c.tc : Thread Cert.ExpertsReferenceIdeal.nD Cert.ExpertsReferenceIdeal.τ).loc Cert.ExpertsReferenceIdeal.main_arg2) = m ((c.tc : Thread Cert.ExpertsReferenceIdeal.nD Cert.ExpertsReferenceIdeal.τ).loc Cert.ExpertsReferenceIdeal.main_arg2)
      ∧ r.2.mem ((c.tc : Thread Cert.ExpertsReferenceIdeal.nD Cert.ExpertsReferenceIdeal.τ).loc Cert.ExpertsReferenceIdeal.main_arg3) = m ((c.tc : Thread Cert.ExpertsReferenceIdeal.nD Cert.ExpertsReferenceIdeal.τ).loc Cert.ExpertsReferenceIdeal.main_arg3)
      ∧ r.2.mem ((c.tc : Thread Cert.ExpertsReferenceIdeal.nD Cert.ExpertsReferenceIdeal.τ).loc Cert.ExpertsReferenceIdeal.main_arg4) = m ((c.tc : Thread Cert.ExpertsReferenceIdeal.nD Cert.ExpertsReferenceIdeal.τ).loc Cert.ExpertsReferenceIdeal.main_arg4)
      ∧ r.2.mem ((c.tc : Thread Cert.ExpertsReferenceIdeal.nD Cert.ExpertsReferenceIdeal.τ).loc Cert.ExpertsReferenceIdeal.main_arg5) = m ((c.tc : Thread Cert.ExpertsReferenceIdeal.nD Cert.ExpertsReferenceIdeal.τ).loc Cert.ExpertsReferenceIdeal.main_arg5)
      ∧ r.2.mem ((c.tc : Thread Cert.ExpertsReferenceIdeal.nD Cert.ExpertsReferenceIdeal.τ).loc Cert.ExpertsReferenceIdeal.main_arg6) = m ((c.tc : Thread Cert.ExpertsReferenceIdeal.nD Cert.ExpertsReferenceIdeal.τ).loc Cert.ExpertsReferenceIdeal.main_arg6)
      ∧ r.2.mem ((c.tc : Thread Cert.ExpertsReferenceIdeal.nD Cert.ExpertsReferenceIdeal.τ).loc Cert.ExpertsReferenceIdeal.main_arg7) = m ((c.tc : Thread Cert.ExpertsReferenceIdeal.nD Cert.ExpertsReferenceIdeal.τ).loc Cert.ExpertsReferenceIdeal.main_arg7)
      ∧ r.2.mem ((c.tc : Thread Cert.ExpertsReferenceIdeal.nD Cert.ExpertsReferenceIdeal.τ).loc Cert.ExpertsReferenceIdeal.main_arg8) = m ((c.tc : Thread Cert.ExpertsReferenceIdeal.nD Cert.ExpertsReferenceIdeal.τ).loc Cert.ExpertsReferenceIdeal.main_arg8)
      ∧ r.2.mem ((c.tc : Thread Cert.ExpertsReferenceIdeal.nD Cert.ExpertsReferenceIdeal.τ).loc Cert.ExpertsReferenceIdeal.main_arg9) = m ((c.tc : Thread Cert.ExpertsReferenceIdeal.nD Cert.ExpertsReferenceIdeal.τ).loc Cert.ExpertsReferenceIdeal.main_arg9))
      ∧ r.2.sem = fun _ => 0)

def quiescent_Attend [hAttend : Cert.Attend.Facts] : Prop :=
  ∀ (m : (ℓ : Loc Cert.Attend.nD Cert.Attend.τ Cert.Attend.sig) → Buf (Elt Bits) ℓ) (g : Dev Cert.Attend.nD → PrngReg), Pre_Attend m →
    θ_run (Cert.Attend.defs (F := Bits)) (onTc (τ := Cert.Attend.τ) (Cert.Attend.main (F := Bits))) ⟨m, fun _ => 0, g⟩ (fun r => (∀ c : Dev Cert.Attend.nD,
      r.2.mem ((c.tc : Thread Cert.Attend.nD Cert.Attend.τ).loc Cert.Attend.main_arg0) = m ((c.tc : Thread Cert.Attend.nD Cert.Attend.τ).loc Cert.Attend.main_arg0)
      ∧ r.2.mem ((c.tc : Thread Cert.Attend.nD Cert.Attend.τ).loc Cert.Attend.main_arg1) = m ((c.tc : Thread Cert.Attend.nD Cert.Attend.τ).loc Cert.Attend.main_arg1)
      ∧ r.2.mem ((c.tc : Thread Cert.Attend.nD Cert.Attend.τ).loc Cert.Attend.main_arg2) = m ((c.tc : Thread Cert.Attend.nD Cert.Attend.τ).loc Cert.Attend.main_arg2)
      ∧ r.2.mem ((c.tc : Thread Cert.Attend.nD Cert.Attend.τ).loc Cert.Attend.main_arg3) = m ((c.tc : Thread Cert.Attend.nD Cert.Attend.τ).loc Cert.Attend.main_arg3)
      ∧ r.2.mem ((c.tc : Thread Cert.Attend.nD Cert.Attend.τ).loc Cert.Attend.main_arg4) = m ((c.tc : Thread Cert.Attend.nD Cert.Attend.τ).loc Cert.Attend.main_arg4))
      ∧ r.2.sem = fun _ => 0)

def quiescent_AttendIdeal [hAttendIdeal : Cert.AttendIdeal.Facts] : Prop :=
  ∀ (m : (ℓ : Loc Cert.AttendIdeal.nD Cert.AttendIdeal.τ Cert.AttendIdeal.sig) → Buf (Elt Ideal) ℓ) (g : Dev Cert.AttendIdeal.nD → PrngReg), Pre_AttendIdeal m →
    θ_run (Cert.AttendIdeal.defs (F := Ideal)) (onTc (τ := Cert.AttendIdeal.τ) (Cert.AttendIdeal.main (F := Ideal))) ⟨m, fun _ => 0, g⟩ (fun r => (∀ c : Dev Cert.AttendIdeal.nD,
      r.2.mem ((c.tc : Thread Cert.AttendIdeal.nD Cert.AttendIdeal.τ).loc Cert.AttendIdeal.main_arg0) = m ((c.tc : Thread Cert.AttendIdeal.nD Cert.AttendIdeal.τ).loc Cert.AttendIdeal.main_arg0)
      ∧ r.2.mem ((c.tc : Thread Cert.AttendIdeal.nD Cert.AttendIdeal.τ).loc Cert.AttendIdeal.main_arg1) = m ((c.tc : Thread Cert.AttendIdeal.nD Cert.AttendIdeal.τ).loc Cert.AttendIdeal.main_arg1)
      ∧ r.2.mem ((c.tc : Thread Cert.AttendIdeal.nD Cert.AttendIdeal.τ).loc Cert.AttendIdeal.main_arg2) = m ((c.tc : Thread Cert.AttendIdeal.nD Cert.AttendIdeal.τ).loc Cert.AttendIdeal.main_arg2)
      ∧ r.2.mem ((c.tc : Thread Cert.AttendIdeal.nD Cert.AttendIdeal.τ).loc Cert.AttendIdeal.main_arg3) = m ((c.tc : Thread Cert.AttendIdeal.nD Cert.AttendIdeal.τ).loc Cert.AttendIdeal.main_arg3)
      ∧ r.2.mem ((c.tc : Thread Cert.AttendIdeal.nD Cert.AttendIdeal.τ).loc Cert.AttendIdeal.main_arg4) = m ((c.tc : Thread Cert.AttendIdeal.nD Cert.AttendIdeal.τ).loc Cert.AttendIdeal.main_arg4))
      ∧ r.2.sem = fun _ => 0)

def quiescent_AttendIdeal_pre_attended_finite [hAttendIdeal : Cert.AttendIdeal.Facts] [hPre_attended_finite : Cert.Pre_attended_finite.Facts] : Prop :=
  ∀ (m : (ℓ : Loc Cert.AttendIdeal.nD Cert.AttendIdeal.τ Cert.AttendIdeal.sig) → Buf (Elt Ideal) ℓ) (g : Dev Cert.AttendIdeal.nD → PrngReg), Pre_AttendIdeal_attended_finite m →
    θ_run (Cert.AttendIdeal.defs (F := Ideal)) (onTc (τ := Cert.AttendIdeal.τ) (Cert.AttendIdeal.main (F := Ideal))) ⟨m, fun _ => 0, g⟩ (fun r => (∀ c : Dev Cert.AttendIdeal.nD,
      r.2.mem ((c.tc : Thread Cert.AttendIdeal.nD Cert.AttendIdeal.τ).loc Cert.AttendIdeal.main_arg0) = m ((c.tc : Thread Cert.AttendIdeal.nD Cert.AttendIdeal.τ).loc Cert.AttendIdeal.main_arg0)
      ∧ r.2.mem ((c.tc : Thread Cert.AttendIdeal.nD Cert.AttendIdeal.τ).loc Cert.AttendIdeal.main_arg1) = m ((c.tc : Thread Cert.AttendIdeal.nD Cert.AttendIdeal.τ).loc Cert.AttendIdeal.main_arg1)
      ∧ r.2.mem ((c.tc : Thread Cert.AttendIdeal.nD Cert.AttendIdeal.τ).loc Cert.AttendIdeal.main_arg2) = m ((c.tc : Thread Cert.AttendIdeal.nD Cert.AttendIdeal.τ).loc Cert.AttendIdeal.main_arg2)
      ∧ r.2.mem ((c.tc : Thread Cert.AttendIdeal.nD Cert.AttendIdeal.τ).loc Cert.AttendIdeal.main_arg3) = m ((c.tc : Thread Cert.AttendIdeal.nD Cert.AttendIdeal.τ).loc Cert.AttendIdeal.main_arg3)
      ∧ r.2.mem ((c.tc : Thread Cert.AttendIdeal.nD Cert.AttendIdeal.τ).loc Cert.AttendIdeal.main_arg4) = m ((c.tc : Thread Cert.AttendIdeal.nD Cert.AttendIdeal.τ).loc Cert.AttendIdeal.main_arg4))
      ∧ r.2.sem = fun _ => 0)

def quiescent_AttendReferenceIdeal [hAttendReferenceIdeal : Cert.AttendReferenceIdeal.Facts] : Prop :=
  ∀ (m : (ℓ : Loc Cert.AttendReferenceIdeal.nD Cert.AttendReferenceIdeal.τ Cert.AttendReferenceIdeal.sig) → Buf (Elt Ideal) ℓ) (g : Dev Cert.AttendReferenceIdeal.nD → PrngReg), Pre_AttendReferenceIdeal m →
    θ_run (Cert.AttendReferenceIdeal.defs (F := Ideal)) (onTc (τ := Cert.AttendReferenceIdeal.τ) (Cert.AttendReferenceIdeal.main (F := Ideal))) ⟨m, fun _ => 0, g⟩ (fun r => (∀ c : Dev Cert.AttendReferenceIdeal.nD,
      r.2.mem ((c.tc : Thread Cert.AttendReferenceIdeal.nD Cert.AttendReferenceIdeal.τ).loc Cert.AttendReferenceIdeal.main_arg0) = m ((c.tc : Thread Cert.AttendReferenceIdeal.nD Cert.AttendReferenceIdeal.τ).loc Cert.AttendReferenceIdeal.main_arg0)
      ∧ r.2.mem ((c.tc : Thread Cert.AttendReferenceIdeal.nD Cert.AttendReferenceIdeal.τ).loc Cert.AttendReferenceIdeal.main_arg1) = m ((c.tc : Thread Cert.AttendReferenceIdeal.nD Cert.AttendReferenceIdeal.τ).loc Cert.AttendReferenceIdeal.main_arg1)
      ∧ r.2.mem ((c.tc : Thread Cert.AttendReferenceIdeal.nD Cert.AttendReferenceIdeal.τ).loc Cert.AttendReferenceIdeal.main_arg2) = m ((c.tc : Thread Cert.AttendReferenceIdeal.nD Cert.AttendReferenceIdeal.τ).loc Cert.AttendReferenceIdeal.main_arg2)
      ∧ r.2.mem ((c.tc : Thread Cert.AttendReferenceIdeal.nD Cert.AttendReferenceIdeal.τ).loc Cert.AttendReferenceIdeal.main_arg3) = m ((c.tc : Thread Cert.AttendReferenceIdeal.nD Cert.AttendReferenceIdeal.τ).loc Cert.AttendReferenceIdeal.main_arg3)
      ∧ r.2.mem ((c.tc : Thread Cert.AttendReferenceIdeal.nD Cert.AttendReferenceIdeal.τ).loc Cert.AttendReferenceIdeal.main_arg4) = m ((c.tc : Thread Cert.AttendReferenceIdeal.nD Cert.AttendReferenceIdeal.τ).loc Cert.AttendReferenceIdeal.main_arg4))
      ∧ r.2.sem = fun _ => 0)

def quiescent_AttendReferenceIdeal_pre_attended_finite [hAttendReferenceIdeal : Cert.AttendReferenceIdeal.Facts] [hPre_attended_finite : Cert.Pre_attended_finite.Facts] : Prop :=
  ∀ (m : (ℓ : Loc Cert.AttendReferenceIdeal.nD Cert.AttendReferenceIdeal.τ Cert.AttendReferenceIdeal.sig) → Buf (Elt Ideal) ℓ) (g : Dev Cert.AttendReferenceIdeal.nD → PrngReg), Pre_AttendReferenceIdeal_attended_finite m →
    θ_run (Cert.AttendReferenceIdeal.defs (F := Ideal)) (onTc (τ := Cert.AttendReferenceIdeal.τ) (Cert.AttendReferenceIdeal.main (F := Ideal))) ⟨m, fun _ => 0, g⟩ (fun r => (∀ c : Dev Cert.AttendReferenceIdeal.nD,
      r.2.mem ((c.tc : Thread Cert.AttendReferenceIdeal.nD Cert.AttendReferenceIdeal.τ).loc Cert.AttendReferenceIdeal.main_arg0) = m ((c.tc : Thread Cert.AttendReferenceIdeal.nD Cert.AttendReferenceIdeal.τ).loc Cert.AttendReferenceIdeal.main_arg0)
      ∧ r.2.mem ((c.tc : Thread Cert.AttendReferenceIdeal.nD Cert.AttendReferenceIdeal.τ).loc Cert.AttendReferenceIdeal.main_arg1) = m ((c.tc : Thread Cert.AttendReferenceIdeal.nD Cert.AttendReferenceIdeal.τ).loc Cert.AttendReferenceIdeal.main_arg1)
      ∧ r.2.mem ((c.tc : Thread Cert.AttendReferenceIdeal.nD Cert.AttendReferenceIdeal.τ).loc Cert.AttendReferenceIdeal.main_arg2) = m ((c.tc : Thread Cert.AttendReferenceIdeal.nD Cert.AttendReferenceIdeal.τ).loc Cert.AttendReferenceIdeal.main_arg2)
      ∧ r.2.mem ((c.tc : Thread Cert.AttendReferenceIdeal.nD Cert.AttendReferenceIdeal.τ).loc Cert.AttendReferenceIdeal.main_arg3) = m ((c.tc : Thread Cert.AttendReferenceIdeal.nD Cert.AttendReferenceIdeal.τ).loc Cert.AttendReferenceIdeal.main_arg3)
      ∧ r.2.mem ((c.tc : Thread Cert.AttendReferenceIdeal.nD Cert.AttendReferenceIdeal.τ).loc Cert.AttendReferenceIdeal.main_arg4) = m ((c.tc : Thread Cert.AttendReferenceIdeal.nD Cert.AttendReferenceIdeal.τ).loc Cert.AttendReferenceIdeal.main_arg4))
      ∧ r.2.sem = fun _ => 0)

def preserves_Kernel_KernelIdeal : Prop :=
  IdealRules.named_const.Statement Cert.KernelIdeal.κ "mask" .f32 0xF149F2CA#32 ⊥
  ∧ IdealRules.named_const.Statement Cert.KernelIdeal.κ "log2e" .f32 0x3FB8AA3B#32 (((Real.log 2)⁻¹ : ℝ) : EReal)

def algebraic_KernelIdeal_ReferenceIdeal_pre_inputs_finite [hKernelIdeal : Cert.KernelIdeal.Facts] [hReferenceIdeal : Cert.ReferenceIdeal.Facts] [hPre_inputs_finite : Cert.Pre_inputs_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_inputs_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v22)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v42) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Project_ProjectIdeal : Prop :=
  True

def algebraic_ProjectIdeal_ProjectReferenceIdeal [hProjectIdeal : Cert.ProjectIdeal.Facts] [hProjectReferenceIdeal : Cert.ProjectReferenceIdeal.Facts] : Prop :=
  ∀ (m : (ℓ : Loc Cert.ProjectIdeal.nD Cert.ProjectIdeal.τ Cert.ProjectIdeal.sig) → Buf (Elt Ideal) ℓ) (g : Dev Cert.ProjectIdeal.nD → PrngReg)
    (m' : (ℓ : Loc Cert.ProjectReferenceIdeal.nD Cert.ProjectReferenceIdeal.τ Cert.ProjectReferenceIdeal.sig) → Buf (Elt Ideal) ℓ) (g' : Dev Cert.ProjectReferenceIdeal.nD → PrngReg), Pre_ProjectIdeal m →
    (∀ c : Dev Cert.ProjectIdeal.nD,
      m' ((c.tc : Thread Cert.ProjectReferenceIdeal.nD Cert.ProjectReferenceIdeal.τ).loc Cert.ProjectReferenceIdeal.main_arg0) = m ((c.tc : Thread Cert.ProjectIdeal.nD Cert.ProjectIdeal.τ).loc Cert.ProjectIdeal.main_arg0)
      ∧ m' ((c.tc : Thread Cert.ProjectReferenceIdeal.nD Cert.ProjectReferenceIdeal.τ).loc Cert.ProjectReferenceIdeal.main_arg1) = m ((c.tc : Thread Cert.ProjectIdeal.nD Cert.ProjectIdeal.τ).loc Cert.ProjectIdeal.main_arg1)
      ∧ m' ((c.tc : Thread Cert.ProjectReferenceIdeal.nD Cert.ProjectReferenceIdeal.τ).loc Cert.ProjectReferenceIdeal.main_arg2) = m ((c.tc : Thread Cert.ProjectIdeal.nD Cert.ProjectIdeal.τ).loc Cert.ProjectIdeal.main_arg2)
      ∧ m' ((c.tc : Thread Cert.ProjectReferenceIdeal.nD Cert.ProjectReferenceIdeal.τ).loc Cert.ProjectReferenceIdeal.main_arg3) = m ((c.tc : Thread Cert.ProjectIdeal.nD Cert.ProjectIdeal.τ).loc Cert.ProjectIdeal.main_arg3)
      ∧ m' ((c.tc : Thread Cert.ProjectReferenceIdeal.nD Cert.ProjectReferenceIdeal.τ).loc Cert.ProjectReferenceIdeal.main_arg4) = m ((c.tc : Thread Cert.ProjectIdeal.nD Cert.ProjectIdeal.τ).loc Cert.ProjectIdeal.main_arg4)
      ∧ m' ((c.tc : Thread Cert.ProjectReferenceIdeal.nD Cert.ProjectReferenceIdeal.τ).loc Cert.ProjectReferenceIdeal.main_arg5) = m ((c.tc : Thread Cert.ProjectIdeal.nD Cert.ProjectIdeal.τ).loc Cert.ProjectIdeal.main_arg5)
      ∧ m' ((c.tc : Thread Cert.ProjectReferenceIdeal.nD Cert.ProjectReferenceIdeal.τ).loc Cert.ProjectReferenceIdeal.main_arg6) = m ((c.tc : Thread Cert.ProjectIdeal.nD Cert.ProjectIdeal.τ).loc Cert.ProjectIdeal.main_arg6)
      ∧ m' ((c.tc : Thread Cert.ProjectReferenceIdeal.nD Cert.ProjectReferenceIdeal.τ).loc Cert.ProjectReferenceIdeal.main_arg7) = m ((c.tc : Thread Cert.ProjectIdeal.nD Cert.ProjectIdeal.τ).loc Cert.ProjectIdeal.main_arg7)
      ∧ m' ((c.tc : Thread Cert.ProjectReferenceIdeal.nD Cert.ProjectReferenceIdeal.τ).loc Cert.ProjectReferenceIdeal.main_arg8) = m ((c.tc : Thread Cert.ProjectIdeal.nD Cert.ProjectIdeal.τ).loc Cert.ProjectIdeal.main_arg8)
      ∧ m' ((c.tc : Thread Cert.ProjectReferenceIdeal.nD Cert.ProjectReferenceIdeal.τ).loc Cert.ProjectReferenceIdeal.main_arg9) = m ((c.tc : Thread Cert.ProjectIdeal.nD Cert.ProjectIdeal.τ).loc Cert.ProjectIdeal.main_arg9)
      ∧ m' ((c.tc : Thread Cert.ProjectReferenceIdeal.nD Cert.ProjectReferenceIdeal.τ).loc Cert.ProjectReferenceIdeal.main_arg10) = m ((c.tc : Thread Cert.ProjectIdeal.nD Cert.ProjectIdeal.τ).loc Cert.ProjectIdeal.main_arg10)
      ∧ m' ((c.tc : Thread Cert.ProjectReferenceIdeal.nD Cert.ProjectReferenceIdeal.τ).loc Cert.ProjectReferenceIdeal.main_arg11) = m ((c.tc : Thread Cert.ProjectIdeal.nD Cert.ProjectIdeal.τ).loc Cert.ProjectIdeal.main_arg11)) →
    ∃ (v0 : (c : Dev Cert.ProjectIdeal.nD) → Buf (Elt Ideal) ((c.tc : Thread Cert.ProjectIdeal.nD Cert.ProjectIdeal.τ).loc Cert.ProjectIdeal.main_v0_0)) (v1 : (c : Dev Cert.ProjectIdeal.nD) → Buf (Elt Ideal) ((c.tc : Thread Cert.ProjectIdeal.nD Cert.ProjectIdeal.τ).loc Cert.ProjectIdeal.main_v0_1)) (v2 : (c : Dev Cert.ProjectIdeal.nD) → Buf (Elt Ideal) ((c.tc : Thread Cert.ProjectIdeal.nD Cert.ProjectIdeal.τ).loc Cert.ProjectIdeal.main_v0_2)) (v3 : (c : Dev Cert.ProjectIdeal.nD) → Buf (Elt Ideal) ((c.tc : Thread Cert.ProjectIdeal.nD Cert.ProjectIdeal.τ).loc Cert.ProjectIdeal.main_v0_3)) (v4 : (c : Dev Cert.ProjectIdeal.nD) → Buf (Elt Ideal) ((c.tc : Thread Cert.ProjectIdeal.nD Cert.ProjectIdeal.τ).loc Cert.ProjectIdeal.main_v0_4)),
      θ_run (Cert.ProjectIdeal.defs (F := Ideal)) (onTc (τ := Cert.ProjectIdeal.τ) (Cert.ProjectIdeal.main (F := Ideal))) ⟨m, fun _ => 0, g⟩ (fun r => ∀ c : Dev Cert.ProjectIdeal.nD,
          r.2.mem ((c.tc : Thread Cert.ProjectIdeal.nD Cert.ProjectIdeal.τ).loc Cert.ProjectIdeal.main_v0_0) = v0 c
          ∧ r.2.mem ((c.tc : Thread Cert.ProjectIdeal.nD Cert.ProjectIdeal.τ).loc Cert.ProjectIdeal.main_v0_1) = v1 c
          ∧ r.2.mem ((c.tc : Thread Cert.ProjectIdeal.nD Cert.ProjectIdeal.τ).loc Cert.ProjectIdeal.main_v0_2) = v2 c
          ∧ r.2.mem ((c.tc : Thread Cert.ProjectIdeal.nD Cert.ProjectIdeal.τ).loc Cert.ProjectIdeal.main_v0_3) = v3 c
          ∧ r.2.mem ((c.tc : Thread Cert.ProjectIdeal.nD Cert.ProjectIdeal.τ).loc Cert.ProjectIdeal.main_v0_4) = v4 c
          ∧ r.2.mem ((c.tc : Thread Cert.ProjectIdeal.nD Cert.ProjectIdeal.τ).loc Cert.ProjectIdeal.main_arg0) = m ((c.tc : Thread Cert.ProjectIdeal.nD Cert.ProjectIdeal.τ).loc Cert.ProjectIdeal.main_arg0)
          ∧ r.2.mem ((c.tc : Thread Cert.ProjectIdeal.nD Cert.ProjectIdeal.τ).loc Cert.ProjectIdeal.main_arg1) = m ((c.tc : Thread Cert.ProjectIdeal.nD Cert.ProjectIdeal.τ).loc Cert.ProjectIdeal.main_arg1)
          ∧ r.2.mem ((c.tc : Thread Cert.ProjectIdeal.nD Cert.ProjectIdeal.τ).loc Cert.ProjectIdeal.main_arg2) = m ((c.tc : Thread Cert.ProjectIdeal.nD Cert.ProjectIdeal.τ).loc Cert.ProjectIdeal.main_arg2)
          ∧ r.2.mem ((c.tc : Thread Cert.ProjectIdeal.nD Cert.ProjectIdeal.τ).loc Cert.ProjectIdeal.main_arg3) = m ((c.tc : Thread Cert.ProjectIdeal.nD Cert.ProjectIdeal.τ).loc Cert.ProjectIdeal.main_arg3)
          ∧ r.2.mem ((c.tc : Thread Cert.ProjectIdeal.nD Cert.ProjectIdeal.τ).loc Cert.ProjectIdeal.main_arg4) = m ((c.tc : Thread Cert.ProjectIdeal.nD Cert.ProjectIdeal.τ).loc Cert.ProjectIdeal.main_arg4)
          ∧ r.2.mem ((c.tc : Thread Cert.ProjectIdeal.nD Cert.ProjectIdeal.τ).loc Cert.ProjectIdeal.main_arg5) = m ((c.tc : Thread Cert.ProjectIdeal.nD Cert.ProjectIdeal.τ).loc Cert.ProjectIdeal.main_arg5)
          ∧ r.2.mem ((c.tc : Thread Cert.ProjectIdeal.nD Cert.ProjectIdeal.τ).loc Cert.ProjectIdeal.main_arg6) = m ((c.tc : Thread Cert.ProjectIdeal.nD Cert.ProjectIdeal.τ).loc Cert.ProjectIdeal.main_arg6)
          ∧ r.2.mem ((c.tc : Thread Cert.ProjectIdeal.nD Cert.ProjectIdeal.τ).loc Cert.ProjectIdeal.main_arg7) = m ((c.tc : Thread Cert.ProjectIdeal.nD Cert.ProjectIdeal.τ).loc Cert.ProjectIdeal.main_arg7)
          ∧ r.2.mem ((c.tc : Thread Cert.ProjectIdeal.nD Cert.ProjectIdeal.τ).loc Cert.ProjectIdeal.main_arg8) = m ((c.tc : Thread Cert.ProjectIdeal.nD Cert.ProjectIdeal.τ).loc Cert.ProjectIdeal.main_arg8)
          ∧ r.2.mem ((c.tc : Thread Cert.ProjectIdeal.nD Cert.ProjectIdeal.τ).loc Cert.ProjectIdeal.main_arg9) = m ((c.tc : Thread Cert.ProjectIdeal.nD Cert.ProjectIdeal.τ).loc Cert.ProjectIdeal.main_arg9)
          ∧ r.2.mem ((c.tc : Thread Cert.ProjectIdeal.nD Cert.ProjectIdeal.τ).loc Cert.ProjectIdeal.main_arg10) = m ((c.tc : Thread Cert.ProjectIdeal.nD Cert.ProjectIdeal.τ).loc Cert.ProjectIdeal.main_arg10)
          ∧ r.2.mem ((c.tc : Thread Cert.ProjectIdeal.nD Cert.ProjectIdeal.τ).loc Cert.ProjectIdeal.main_arg11) = m ((c.tc : Thread Cert.ProjectIdeal.nD Cert.ProjectIdeal.τ).loc Cert.ProjectIdeal.main_arg11))
      ∧ θ_run (Cert.ProjectReferenceIdeal.defs (F := Ideal)) (onTc (τ := Cert.ProjectReferenceIdeal.τ) (Cert.ProjectReferenceIdeal.main (F := Ideal))) ⟨m', fun _ => 0, g'⟩ (fun r => ∀ c : Dev Cert.ProjectReferenceIdeal.nD,
          r.2.mem ((c.tc : Thread Cert.ProjectReferenceIdeal.nD Cert.ProjectReferenceIdeal.τ).loc Cert.ProjectReferenceIdeal.main_v57) = v0 c
          ∧ r.2.mem ((c.tc : Thread Cert.ProjectReferenceIdeal.nD Cert.ProjectReferenceIdeal.τ).loc Cert.ProjectReferenceIdeal.main_v58) = v1 c
          ∧ r.2.mem ((c.tc : Thread Cert.ProjectReferenceIdeal.nD Cert.ProjectReferenceIdeal.τ).loc Cert.ProjectReferenceIdeal.main_v59) = v2 c
          ∧ r.2.mem ((c.tc : Thread Cert.ProjectReferenceIdeal.nD Cert.ProjectReferenceIdeal.τ).loc Cert.ProjectReferenceIdeal.main_v50) = v3 c
          ∧ r.2.mem ((c.tc : Thread Cert.ProjectReferenceIdeal.nD Cert.ProjectReferenceIdeal.τ).loc Cert.ProjectReferenceIdeal.main_v60) = v4 c
          ∧ r.2.mem ((c.tc : Thread Cert.ProjectReferenceIdeal.nD Cert.ProjectReferenceIdeal.τ).loc Cert.ProjectReferenceIdeal.main_arg0) = m' ((c.tc : Thread Cert.ProjectReferenceIdeal.nD Cert.ProjectReferenceIdeal.τ).loc Cert.ProjectReferenceIdeal.main_arg0)
          ∧ r.2.mem ((c.tc : Thread Cert.ProjectReferenceIdeal.nD Cert.ProjectReferenceIdeal.τ).loc Cert.ProjectReferenceIdeal.main_arg1) = m' ((c.tc : Thread Cert.ProjectReferenceIdeal.nD Cert.ProjectReferenceIdeal.τ).loc Cert.ProjectReferenceIdeal.main_arg1)
          ∧ r.2.mem ((c.tc : Thread Cert.ProjectReferenceIdeal.nD Cert.ProjectReferenceIdeal.τ).loc Cert.ProjectReferenceIdeal.main_arg2) = m' ((c.tc : Thread Cert.ProjectReferenceIdeal.nD Cert.ProjectReferenceIdeal.τ).loc Cert.ProjectReferenceIdeal.main_arg2)
          ∧ r.2.mem ((c.tc : Thread Cert.ProjectReferenceIdeal.nD Cert.ProjectReferenceIdeal.τ).loc Cert.ProjectReferenceIdeal.main_arg3) = m' ((c.tc : Thread Cert.ProjectReferenceIdeal.nD Cert.ProjectReferenceIdeal.τ).loc Cert.ProjectReferenceIdeal.main_arg3)
          ∧ r.2.mem ((c.tc : Thread Cert.ProjectReferenceIdeal.nD Cert.ProjectReferenceIdeal.τ).loc Cert.ProjectReferenceIdeal.main_arg4) = m' ((c.tc : Thread Cert.ProjectReferenceIdeal.nD Cert.ProjectReferenceIdeal.τ).loc Cert.ProjectReferenceIdeal.main_arg4)
          ∧ r.2.mem ((c.tc : Thread Cert.ProjectReferenceIdeal.nD Cert.ProjectReferenceIdeal.τ).loc Cert.ProjectReferenceIdeal.main_arg5) = m' ((c.tc : Thread Cert.ProjectReferenceIdeal.nD Cert.ProjectReferenceIdeal.τ).loc Cert.ProjectReferenceIdeal.main_arg5)
          ∧ r.2.mem ((c.tc : Thread Cert.ProjectReferenceIdeal.nD Cert.ProjectReferenceIdeal.τ).loc Cert.ProjectReferenceIdeal.main_arg6) = m' ((c.tc : Thread Cert.ProjectReferenceIdeal.nD Cert.ProjectReferenceIdeal.τ).loc Cert.ProjectReferenceIdeal.main_arg6)
          ∧ r.2.mem ((c.tc : Thread Cert.ProjectReferenceIdeal.nD Cert.ProjectReferenceIdeal.τ).loc Cert.ProjectReferenceIdeal.main_arg7) = m' ((c.tc : Thread Cert.ProjectReferenceIdeal.nD Cert.ProjectReferenceIdeal.τ).loc Cert.ProjectReferenceIdeal.main_arg7)
          ∧ r.2.mem ((c.tc : Thread Cert.ProjectReferenceIdeal.nD Cert.ProjectReferenceIdeal.τ).loc Cert.ProjectReferenceIdeal.main_arg8) = m' ((c.tc : Thread Cert.ProjectReferenceIdeal.nD Cert.ProjectReferenceIdeal.τ).loc Cert.ProjectReferenceIdeal.main_arg8)
          ∧ r.2.mem ((c.tc : Thread Cert.ProjectReferenceIdeal.nD Cert.ProjectReferenceIdeal.τ).loc Cert.ProjectReferenceIdeal.main_arg9) = m' ((c.tc : Thread Cert.ProjectReferenceIdeal.nD Cert.ProjectReferenceIdeal.τ).loc Cert.ProjectReferenceIdeal.main_arg9)
          ∧ r.2.mem ((c.tc : Thread Cert.ProjectReferenceIdeal.nD Cert.ProjectReferenceIdeal.τ).loc Cert.ProjectReferenceIdeal.main_arg10) = m' ((c.tc : Thread Cert.ProjectReferenceIdeal.nD Cert.ProjectReferenceIdeal.τ).loc Cert.ProjectReferenceIdeal.main_arg10)
          ∧ r.2.mem ((c.tc : Thread Cert.ProjectReferenceIdeal.nD Cert.ProjectReferenceIdeal.τ).loc Cert.ProjectReferenceIdeal.main_arg11) = m' ((c.tc : Thread Cert.ProjectReferenceIdeal.nD Cert.ProjectReferenceIdeal.τ).loc Cert.ProjectReferenceIdeal.main_arg11))

def preserves_Merge_MergeIdeal : Prop :=
  True

def algebraic_MergeIdeal_MergeReferenceIdeal [hMergeIdeal : Cert.MergeIdeal.Facts] [hMergeReferenceIdeal : Cert.MergeReferenceIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeReferenceIdeal.nD Cert.MergeReferenceIdeal.τ Cert.MergeReferenceIdeal.sig) → Buf (Elt Ideal) ℓ) (g' : Dev Cert.MergeReferenceIdeal.nD → PrngReg), Pre_MergeIdeal m →
    (∀ c : Dev Cert.MergeIdeal.nD,
      m' ((c.tc : Thread Cert.MergeReferenceIdeal.nD Cert.MergeReferenceIdeal.τ).loc Cert.MergeReferenceIdeal.main_arg0) = m ((c.tc : Thread Cert.MergeIdeal.nD Cert.MergeIdeal.τ).loc Cert.MergeIdeal.main_arg0)
      ∧ m' ((c.tc : Thread Cert.MergeReferenceIdeal.nD Cert.MergeReferenceIdeal.τ).loc Cert.MergeReferenceIdeal.main_arg1) = m ((c.tc : Thread Cert.MergeIdeal.nD Cert.MergeIdeal.τ).loc Cert.MergeIdeal.main_arg1)
      ∧ m' ((c.tc : Thread Cert.MergeReferenceIdeal.nD Cert.MergeReferenceIdeal.τ).loc Cert.MergeReferenceIdeal.main_arg2) = m ((c.tc : Thread Cert.MergeIdeal.nD Cert.MergeIdeal.τ).loc Cert.MergeIdeal.main_arg2)
      ∧ m' ((c.tc : Thread Cert.MergeReferenceIdeal.nD Cert.MergeReferenceIdeal.τ).loc Cert.MergeReferenceIdeal.main_arg3) = m ((c.tc : Thread Cert.MergeIdeal.nD Cert.MergeIdeal.τ).loc Cert.MergeIdeal.main_arg3)
      ∧ m' ((c.tc : Thread Cert.MergeReferenceIdeal.nD Cert.MergeReferenceIdeal.τ).loc Cert.MergeReferenceIdeal.main_arg4) = m ((c.tc : Thread Cert.MergeIdeal.nD Cert.MergeIdeal.τ).loc Cert.MergeIdeal.main_arg4)
      ∧ m' ((c.tc : Thread Cert.MergeReferenceIdeal.nD Cert.MergeReferenceIdeal.τ).loc Cert.MergeReferenceIdeal.main_arg5) = m ((c.tc : Thread Cert.MergeIdeal.nD Cert.MergeIdeal.τ).loc Cert.MergeIdeal.main_arg5)
      ∧ m' ((c.tc : Thread Cert.MergeReferenceIdeal.nD Cert.MergeReferenceIdeal.τ).loc Cert.MergeReferenceIdeal.main_arg6) = m ((c.tc : Thread Cert.MergeIdeal.nD Cert.MergeIdeal.τ).loc Cert.MergeIdeal.main_arg6)
      ∧ m' ((c.tc : Thread Cert.MergeReferenceIdeal.nD Cert.MergeReferenceIdeal.τ).loc Cert.MergeReferenceIdeal.main_arg7) = m ((c.tc : Thread Cert.MergeIdeal.nD Cert.MergeIdeal.τ).loc Cert.MergeIdeal.main_arg7)
      ∧ m' ((c.tc : Thread Cert.MergeReferenceIdeal.nD Cert.MergeReferenceIdeal.τ).loc Cert.MergeReferenceIdeal.main_arg8) = m ((c.tc : Thread Cert.MergeIdeal.nD Cert.MergeIdeal.τ).loc Cert.MergeIdeal.main_arg8)
      ∧ m' ((c.tc : Thread Cert.MergeReferenceIdeal.nD Cert.MergeReferenceIdeal.τ).loc Cert.MergeReferenceIdeal.main_arg9) = m ((c.tc : Thread Cert.MergeIdeal.nD Cert.MergeIdeal.τ).loc Cert.MergeIdeal.main_arg9)
      ∧ m' ((c.tc : Thread Cert.MergeReferenceIdeal.nD Cert.MergeReferenceIdeal.τ).loc Cert.MergeReferenceIdeal.main_arg10) = m ((c.tc : Thread Cert.MergeIdeal.nD Cert.MergeIdeal.τ).loc Cert.MergeIdeal.main_arg10)) →
    ∃ (v0 : (c : Dev Cert.MergeIdeal.nD) → Buf (Elt Ideal) ((c.tc : Thread Cert.MergeIdeal.nD Cert.MergeIdeal.τ).loc Cert.MergeIdeal.main_v0_0)) (v1 : (c : Dev Cert.MergeIdeal.nD) → Buf (Elt Ideal) ((c.tc : Thread Cert.MergeIdeal.nD Cert.MergeIdeal.τ).loc Cert.MergeIdeal.main_v0_1)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v0_0) = v0 c
          ∧ r.2.mem ((c.tc : Thread Cert.MergeIdeal.nD Cert.MergeIdeal.τ).loc Cert.MergeIdeal.main_v0_1) = v1 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
          ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
          ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
          ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10))
      ∧ θ_run (Cert.MergeReferenceIdeal.defs (F := Ideal)) (onTc (τ := Cert.MergeReferenceIdeal.τ) (Cert.MergeReferenceIdeal.main (F := Ideal))) ⟨m', fun _ => 0, g'⟩ (fun r => ∀ c : Dev Cert.MergeReferenceIdeal.nD,
          r.2.mem ((c.tc : Thread Cert.MergeReferenceIdeal.nD Cert.MergeReferenceIdeal.τ).loc Cert.MergeReferenceIdeal.main_v69) = v0 c
          ∧ r.2.mem ((c.tc : Thread Cert.MergeReferenceIdeal.nD Cert.MergeReferenceIdeal.τ).loc Cert.MergeReferenceIdeal.main_v71) = v1 c
          ∧ r.2.mem ((c.tc : Thread Cert.MergeReferenceIdeal.nD Cert.MergeReferenceIdeal.τ).loc Cert.MergeReferenceIdeal.main_arg0) = m' ((c.tc : Thread Cert.MergeReferenceIdeal.nD Cert.MergeReferenceIdeal.τ).loc Cert.MergeReferenceIdeal.main_arg0)
          ∧ r.2.mem ((c.tc : Thread Cert.MergeReferenceIdeal.nD Cert.MergeReferenceIdeal.τ).loc Cert.MergeReferenceIdeal.main_arg1) = m' ((c.tc : Thread Cert.MergeReferenceIdeal.nD Cert.MergeReferenceIdeal.τ).loc Cert.MergeReferenceIdeal.main_arg1)
          ∧ r.2.mem ((c.tc : Thread Cert.MergeReferenceIdeal.nD Cert.MergeReferenceIdeal.τ).loc Cert.MergeReferenceIdeal.main_arg2) = m' ((c.tc : Thread Cert.MergeReferenceIdeal.nD Cert.MergeReferenceIdeal.τ).loc Cert.MergeReferenceIdeal.main_arg2)
          ∧ r.2.mem ((c.tc : Thread Cert.MergeReferenceIdeal.nD Cert.MergeReferenceIdeal.τ).loc Cert.MergeReferenceIdeal.main_arg3) = m' ((c.tc : Thread Cert.MergeReferenceIdeal.nD Cert.MergeReferenceIdeal.τ).loc Cert.MergeReferenceIdeal.main_arg3)
          ∧ r.2.mem ((c.tc : Thread Cert.MergeReferenceIdeal.nD Cert.MergeReferenceIdeal.τ).loc Cert.MergeReferenceIdeal.main_arg4) = m' ((c.tc : Thread Cert.MergeReferenceIdeal.nD Cert.MergeReferenceIdeal.τ).loc Cert.MergeReferenceIdeal.main_arg4)
          ∧ r.2.mem ((c.tc : Thread Cert.MergeReferenceIdeal.nD Cert.MergeReferenceIdeal.τ).loc Cert.MergeReferenceIdeal.main_arg5) = m' ((c.tc : Thread Cert.MergeReferenceIdeal.nD Cert.MergeReferenceIdeal.τ).loc Cert.MergeReferenceIdeal.main_arg5)
          ∧ r.2.mem ((c.tc : Thread Cert.MergeReferenceIdeal.nD Cert.MergeReferenceIdeal.τ).loc Cert.MergeReferenceIdeal.main_arg6) = m' ((c.tc : Thread Cert.MergeReferenceIdeal.nD Cert.MergeReferenceIdeal.τ).loc Cert.MergeReferenceIdeal.main_arg6)
          ∧ r.2.mem ((c.tc : Thread Cert.MergeReferenceIdeal.nD Cert.MergeReferenceIdeal.τ).loc Cert.MergeReferenceIdeal.main_arg7) = m' ((c.tc : Thread Cert.MergeReferenceIdeal.nD Cert.MergeReferenceIdeal.τ).loc Cert.MergeReferenceIdeal.main_arg7)
          ∧ r.2.mem ((c.tc : Thread Cert.MergeReferenceIdeal.nD Cert.MergeReferenceIdeal.τ).loc Cert.MergeReferenceIdeal.main_arg8) = m' ((c.tc : Thread Cert.MergeReferenceIdeal.nD Cert.MergeReferenceIdeal.τ).loc Cert.MergeReferenceIdeal.main_arg8)
          ∧ r.2.mem ((c.tc : Thread Cert.MergeReferenceIdeal.nD Cert.MergeReferenceIdeal.τ).loc Cert.MergeReferenceIdeal.main_arg9) = m' ((c.tc : Thread Cert.MergeReferenceIdeal.nD Cert.MergeReferenceIdeal.τ).loc Cert.MergeReferenceIdeal.main_arg9)
          ∧ r.2.mem ((c.tc : Thread Cert.MergeReferenceIdeal.nD Cert.MergeReferenceIdeal.τ).loc Cert.MergeReferenceIdeal.main_arg10) = m' ((c.tc : Thread Cert.MergeReferenceIdeal.nD Cert.MergeReferenceIdeal.τ).loc Cert.MergeReferenceIdeal.main_arg10))

def preserves_Experts_ExpertsIdeal : Prop :=
  IdealRules.named_const.Statement Cert.ExpertsIdeal.κ "sqrt_half" .bf16 0x3F35#16 (((Real.sqrt 2)⁻¹ : ℝ) : EReal)

def algebraic_ExpertsIdeal_ExpertsReferenceIdeal [hExpertsIdeal : Cert.ExpertsIdeal.Facts] [hExpertsReferenceIdeal : Cert.ExpertsReferenceIdeal.Facts] : Prop :=
  ∀ (m : (ℓ : Loc Cert.ExpertsIdeal.nD Cert.ExpertsIdeal.τ Cert.ExpertsIdeal.sig) → Buf (Elt Ideal) ℓ) (g : Dev Cert.ExpertsIdeal.nD → PrngReg)
    (m' : (ℓ : Loc Cert.ExpertsReferenceIdeal.nD Cert.ExpertsReferenceIdeal.τ Cert.ExpertsReferenceIdeal.sig) → Buf (Elt Ideal) ℓ) (g' : Dev Cert.ExpertsReferenceIdeal.nD → PrngReg), Pre_ExpertsIdeal m →
    (∀ c : Dev Cert.ExpertsIdeal.nD,
      m' ((c.tc : Thread Cert.ExpertsReferenceIdeal.nD Cert.ExpertsReferenceIdeal.τ).loc Cert.ExpertsReferenceIdeal.main_arg0) = m ((c.tc : Thread Cert.ExpertsIdeal.nD Cert.ExpertsIdeal.τ).loc Cert.ExpertsIdeal.main_arg0)
      ∧ m' ((c.tc : Thread Cert.ExpertsReferenceIdeal.nD Cert.ExpertsReferenceIdeal.τ).loc Cert.ExpertsReferenceIdeal.main_arg1) = m ((c.tc : Thread Cert.ExpertsIdeal.nD Cert.ExpertsIdeal.τ).loc Cert.ExpertsIdeal.main_arg1)
      ∧ m' ((c.tc : Thread Cert.ExpertsReferenceIdeal.nD Cert.ExpertsReferenceIdeal.τ).loc Cert.ExpertsReferenceIdeal.main_arg2) = m ((c.tc : Thread Cert.ExpertsIdeal.nD Cert.ExpertsIdeal.τ).loc Cert.ExpertsIdeal.main_arg2)
      ∧ m' ((c.tc : Thread Cert.ExpertsReferenceIdeal.nD Cert.ExpertsReferenceIdeal.τ).loc Cert.ExpertsReferenceIdeal.main_arg3) = m ((c.tc : Thread Cert.ExpertsIdeal.nD Cert.ExpertsIdeal.τ).loc Cert.ExpertsIdeal.main_arg3)
      ∧ m' ((c.tc : Thread Cert.ExpertsReferenceIdeal.nD Cert.ExpertsReferenceIdeal.τ).loc Cert.ExpertsReferenceIdeal.main_arg4) = m ((c.tc : Thread Cert.ExpertsIdeal.nD Cert.ExpertsIdeal.τ).loc Cert.ExpertsIdeal.main_arg4)
      ∧ m' ((c.tc : Thread Cert.ExpertsReferenceIdeal.nD Cert.ExpertsReferenceIdeal.τ).loc Cert.ExpertsReferenceIdeal.main_arg5) = m ((c.tc : Thread Cert.ExpertsIdeal.nD Cert.ExpertsIdeal.τ).loc Cert.ExpertsIdeal.main_arg5)
      ∧ m' ((c.tc : Thread Cert.ExpertsReferenceIdeal.nD Cert.ExpertsReferenceIdeal.τ).loc Cert.ExpertsReferenceIdeal.main_arg6) = m ((c.tc : Thread Cert.ExpertsIdeal.nD Cert.ExpertsIdeal.τ).loc Cert.ExpertsIdeal.main_arg6)
      ∧ m' ((c.tc : Thread Cert.ExpertsReferenceIdeal.nD Cert.ExpertsReferenceIdeal.τ).loc Cert.ExpertsReferenceIdeal.main_arg7) = m ((c.tc : Thread Cert.ExpertsIdeal.nD Cert.ExpertsIdeal.τ).loc Cert.ExpertsIdeal.main_arg7)
      ∧ m' ((c.tc : Thread Cert.ExpertsReferenceIdeal.nD Cert.ExpertsReferenceIdeal.τ).loc Cert.ExpertsReferenceIdeal.main_arg8) = m ((c.tc : Thread Cert.ExpertsIdeal.nD Cert.ExpertsIdeal.τ).loc Cert.ExpertsIdeal.main_arg8)
      ∧ m' ((c.tc : Thread Cert.ExpertsReferenceIdeal.nD Cert.ExpertsReferenceIdeal.τ).loc Cert.ExpertsReferenceIdeal.main_arg9) = m ((c.tc : Thread Cert.ExpertsIdeal.nD Cert.ExpertsIdeal.τ).loc Cert.ExpertsIdeal.main_arg9)) →
    ∃ (v0 : (c : Dev Cert.ExpertsIdeal.nD) → Buf (Elt Ideal) ((c.tc : Thread Cert.ExpertsIdeal.nD Cert.ExpertsIdeal.τ).loc Cert.ExpertsIdeal.main_v0)),
      θ_run (Cert.ExpertsIdeal.defs (F := Ideal)) (onTc (τ := Cert.ExpertsIdeal.τ) (Cert.ExpertsIdeal.main (F := Ideal))) ⟨m, fun _ => 0, g⟩ (fun r => ∀ c : Dev Cert.ExpertsIdeal.nD,
          r.2.mem ((c.tc : Thread Cert.ExpertsIdeal.nD Cert.ExpertsIdeal.τ).loc Cert.ExpertsIdeal.main_v0) = v0 c
          ∧ r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
          ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
          ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
          ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
          ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4)
          ∧ r.2.mem ((c.tc : Thread Cert.ExpertsIdeal.nD Cert.ExpertsIdeal.τ).loc Cert.ExpertsIdeal.main_arg5) = m ((c.tc : Thread Cert.ExpertsIdeal.nD Cert.ExpertsIdeal.τ).loc Cert.ExpertsIdeal.main_arg5)
          ∧ r.2.mem ((c.tc : Thread Cert.ExpertsIdeal.nD Cert.ExpertsIdeal.τ).loc Cert.ExpertsIdeal.main_arg6) = m ((c.tc : Thread Cert.ExpertsIdeal.nD Cert.ExpertsIdeal.τ).loc Cert.ExpertsIdeal.main_arg6)
          ∧ r.2.mem ((c.tc : Thread Cert.ExpertsIdeal.nD Cert.ExpertsIdeal.τ).loc Cert.ExpertsIdeal.main_arg7) = m ((c.tc : Thread Cert.ExpertsIdeal.nD Cert.ExpertsIdeal.τ).loc Cert.ExpertsIdeal.main_arg7)
          ∧ r.2.mem ((c.tc : Thread Cert.ExpertsIdeal.nD Cert.ExpertsIdeal.τ).loc Cert.ExpertsIdeal.main_arg8) = m ((c.tc : Thread Cert.ExpertsIdeal.nD Cert.ExpertsIdeal.τ).loc Cert.ExpertsIdeal.main_arg8)
          ∧ r.2.mem ((c.tc : Thread Cert.ExpertsIdeal.nD Cert.ExpertsIdeal.τ).loc Cert.ExpertsIdeal.main_arg9) = m ((c.tc : Thread Cert.ExpertsIdeal.nD Cert.ExpertsIdeal.τ).loc Cert.ExpertsIdeal.main_arg9))
      ∧ θ_run (Cert.ExpertsReferenceIdeal.defs (F := Ideal)) (onTc (τ := Cert.ExpertsReferenceIdeal.τ) (Cert.ExpertsReferenceIdeal.main (F := Ideal))) ⟨m', fun _ => 0, g'⟩ (fun r => ∀ c : Dev Cert.ExpertsReferenceIdeal.nD,
          r.2.mem ((c.tc : Thread Cert.ExpertsReferenceIdeal.nD Cert.ExpertsReferenceIdeal.τ).loc Cert.ExpertsReferenceIdeal.main_v51) = v0 c
          ∧ r.2.mem ((c.tc : Thread Cert.ExpertsReferenceIdeal.nD Cert.ExpertsReferenceIdeal.τ).loc Cert.ExpertsReferenceIdeal.main_arg0) = m' ((c.tc : Thread Cert.ExpertsReferenceIdeal.nD Cert.ExpertsReferenceIdeal.τ).loc Cert.ExpertsReferenceIdeal.main_arg0)
          ∧ r.2.mem ((c.tc : Thread Cert.ExpertsReferenceIdeal.nD Cert.ExpertsReferenceIdeal.τ).loc Cert.ExpertsReferenceIdeal.main_arg1) = m' ((c.tc : Thread Cert.ExpertsReferenceIdeal.nD Cert.ExpertsReferenceIdeal.τ).loc Cert.ExpertsReferenceIdeal.main_arg1)
          ∧ r.2.mem ((c.tc : Thread Cert.ExpertsReferenceIdeal.nD Cert.ExpertsReferenceIdeal.τ).loc Cert.ExpertsReferenceIdeal.main_arg2) = m' ((c.tc : Thread Cert.ExpertsReferenceIdeal.nD Cert.ExpertsReferenceIdeal.τ).loc Cert.ExpertsReferenceIdeal.main_arg2)
          ∧ r.2.mem ((c.tc : Thread Cert.ExpertsReferenceIdeal.nD Cert.ExpertsReferenceIdeal.τ).loc Cert.ExpertsReferenceIdeal.main_arg3) = m' ((c.tc : Thread Cert.ExpertsReferenceIdeal.nD Cert.ExpertsReferenceIdeal.τ).loc Cert.ExpertsReferenceIdeal.main_arg3)
          ∧ r.2.mem ((c.tc : Thread Cert.ExpertsReferenceIdeal.nD Cert.ExpertsReferenceIdeal.τ).loc Cert.ExpertsReferenceIdeal.main_arg4) = m' ((c.tc : Thread Cert.ExpertsReferenceIdeal.nD Cert.ExpertsReferenceIdeal.τ).loc Cert.ExpertsReferenceIdeal.main_arg4)
          ∧ r.2.mem ((c.tc : Thread Cert.ExpertsReferenceIdeal.nD Cert.ExpertsReferenceIdeal.τ).loc Cert.ExpertsReferenceIdeal.main_arg5) = m' ((c.tc : Thread Cert.ExpertsReferenceIdeal.nD Cert.ExpertsReferenceIdeal.τ).loc Cert.ExpertsReferenceIdeal.main_arg5)
          ∧ r.2.mem ((c.tc : Thread Cert.ExpertsReferenceIdeal.nD Cert.ExpertsReferenceIdeal.τ).loc Cert.ExpertsReferenceIdeal.main_arg6) = m' ((c.tc : Thread Cert.ExpertsReferenceIdeal.nD Cert.ExpertsReferenceIdeal.τ).loc Cert.ExpertsReferenceIdeal.main_arg6)
          ∧ r.2.mem ((c.tc : Thread Cert.ExpertsReferenceIdeal.nD Cert.ExpertsReferenceIdeal.τ).loc Cert.ExpertsReferenceIdeal.main_arg7) = m' ((c.tc : Thread Cert.ExpertsReferenceIdeal.nD Cert.ExpertsReferenceIdeal.τ).loc Cert.ExpertsReferenceIdeal.main_arg7)
          ∧ r.2.mem ((c.tc : Thread Cert.ExpertsReferenceIdeal.nD Cert.ExpertsReferenceIdeal.τ).loc Cert.ExpertsReferenceIdeal.main_arg8) = m' ((c.tc : Thread Cert.ExpertsReferenceIdeal.nD Cert.ExpertsReferenceIdeal.τ).loc Cert.ExpertsReferenceIdeal.main_arg8)
          ∧ r.2.mem ((c.tc : Thread Cert.ExpertsReferenceIdeal.nD Cert.ExpertsReferenceIdeal.τ).loc Cert.ExpertsReferenceIdeal.main_arg9) = m' ((c.tc : Thread Cert.ExpertsReferenceIdeal.nD Cert.ExpertsReferenceIdeal.τ).loc Cert.ExpertsReferenceIdeal.main_arg9))

def preserves_Attend_AttendIdeal : Prop :=
  IdealRules.named_const.Statement Cert.AttendIdeal.κ "mask" .f32 0xF149F2CA#32 ⊥
  ∧ IdealRules.named_const.Statement Cert.AttendIdeal.κ "log2e" .f32 0x3FB8AA3B#32 (((Real.log 2)⁻¹ : ℝ) : EReal)

def algebraic_AttendIdeal_AttendReferenceIdeal_pre_attended_finite [hAttendIdeal : Cert.AttendIdeal.Facts] [hAttendReferenceIdeal : Cert.AttendReferenceIdeal.Facts] [hPre_attended_finite : Cert.Pre_attended_finite.Facts] : Prop :=
  ∀ (m : (ℓ : Loc Cert.AttendIdeal.nD Cert.AttendIdeal.τ Cert.AttendIdeal.sig) → Buf (Elt Ideal) ℓ) (g : Dev Cert.AttendIdeal.nD → PrngReg)
    (m' : (ℓ : Loc Cert.AttendReferenceIdeal.nD Cert.AttendReferenceIdeal.τ Cert.AttendReferenceIdeal.sig) → Buf (Elt Ideal) ℓ) (g' : Dev Cert.AttendReferenceIdeal.nD → PrngReg), Pre_AttendIdeal_attended_finite m →
    (∀ c : Dev Cert.AttendIdeal.nD,
      m' ((c.tc : Thread Cert.AttendReferenceIdeal.nD Cert.AttendReferenceIdeal.τ).loc Cert.AttendReferenceIdeal.main_arg0) = m ((c.tc : Thread Cert.AttendIdeal.nD Cert.AttendIdeal.τ).loc Cert.AttendIdeal.main_arg0)
      ∧ m' ((c.tc : Thread Cert.AttendReferenceIdeal.nD Cert.AttendReferenceIdeal.τ).loc Cert.AttendReferenceIdeal.main_arg1) = m ((c.tc : Thread Cert.AttendIdeal.nD Cert.AttendIdeal.τ).loc Cert.AttendIdeal.main_arg1)
      ∧ m' ((c.tc : Thread Cert.AttendReferenceIdeal.nD Cert.AttendReferenceIdeal.τ).loc Cert.AttendReferenceIdeal.main_arg2) = m ((c.tc : Thread Cert.AttendIdeal.nD Cert.AttendIdeal.τ).loc Cert.AttendIdeal.main_arg2)
      ∧ m' ((c.tc : Thread Cert.AttendReferenceIdeal.nD Cert.AttendReferenceIdeal.τ).loc Cert.AttendReferenceIdeal.main_arg3) = m ((c.tc : Thread Cert.AttendIdeal.nD Cert.AttendIdeal.τ).loc Cert.AttendIdeal.main_arg3)
      ∧ m' ((c.tc : Thread Cert.AttendReferenceIdeal.nD Cert.AttendReferenceIdeal.τ).loc Cert.AttendReferenceIdeal.main_arg4) = m ((c.tc : Thread Cert.AttendIdeal.nD Cert.AttendIdeal.τ).loc Cert.AttendIdeal.main_arg4)) →
    ∃ (v0 : (c : Dev Cert.AttendIdeal.nD) → Buf (Elt Ideal) ((c.tc : Thread Cert.AttendIdeal.nD Cert.AttendIdeal.τ).loc Cert.AttendIdeal.main_v0)),
      θ_run (Cert.AttendIdeal.defs (F := Ideal)) (onTc (τ := Cert.AttendIdeal.τ) (Cert.AttendIdeal.main (F := Ideal))) ⟨m, fun _ => 0, g⟩ (fun r => ∀ c : Dev Cert.AttendIdeal.nD,
          r.2.mem ((c.tc : Thread Cert.AttendIdeal.nD Cert.AttendIdeal.τ).loc Cert.AttendIdeal.main_v0) = v0 c
          ∧ r.2.mem ((c.tc : Thread Cert.AttendIdeal.nD Cert.AttendIdeal.τ).loc Cert.AttendIdeal.main_arg0) = m ((c.tc : Thread Cert.AttendIdeal.nD Cert.AttendIdeal.τ).loc Cert.AttendIdeal.main_arg0)
          ∧ r.2.mem ((c.tc : Thread Cert.AttendIdeal.nD Cert.AttendIdeal.τ).loc Cert.AttendIdeal.main_arg1) = m ((c.tc : Thread Cert.AttendIdeal.nD Cert.AttendIdeal.τ).loc Cert.AttendIdeal.main_arg1)
          ∧ r.2.mem ((c.tc : Thread Cert.AttendIdeal.nD Cert.AttendIdeal.τ).loc Cert.AttendIdeal.main_arg2) = m ((c.tc : Thread Cert.AttendIdeal.nD Cert.AttendIdeal.τ).loc Cert.AttendIdeal.main_arg2)
          ∧ r.2.mem ((c.tc : Thread Cert.AttendIdeal.nD Cert.AttendIdeal.τ).loc Cert.AttendIdeal.main_arg3) = m ((c.tc : Thread Cert.AttendIdeal.nD Cert.AttendIdeal.τ).loc Cert.AttendIdeal.main_arg3)
          ∧ r.2.mem ((c.tc : Thread Cert.AttendIdeal.nD Cert.AttendIdeal.τ).loc Cert.AttendIdeal.main_arg4) = m ((c.tc : Thread Cert.AttendIdeal.nD Cert.AttendIdeal.τ).loc Cert.AttendIdeal.main_arg4))
      ∧ θ_run (Cert.AttendReferenceIdeal.defs (F := Ideal)) (onTc (τ := Cert.AttendReferenceIdeal.τ) (Cert.AttendReferenceIdeal.main (F := Ideal))) ⟨m', fun _ => 0, g'⟩ (fun r => ∀ c : Dev Cert.AttendReferenceIdeal.nD,
          r.2.mem ((c.tc : Thread Cert.AttendReferenceIdeal.nD Cert.AttendReferenceIdeal.τ).loc Cert.AttendReferenceIdeal.main_v80) = v0 c
          ∧ r.2.mem ((c.tc : Thread Cert.AttendReferenceIdeal.nD Cert.AttendReferenceIdeal.τ).loc Cert.AttendReferenceIdeal.main_arg0) = m' ((c.tc : Thread Cert.AttendReferenceIdeal.nD Cert.AttendReferenceIdeal.τ).loc Cert.AttendReferenceIdeal.main_arg0)
          ∧ r.2.mem ((c.tc : Thread Cert.AttendReferenceIdeal.nD Cert.AttendReferenceIdeal.τ).loc Cert.AttendReferenceIdeal.main_arg1) = m' ((c.tc : Thread Cert.AttendReferenceIdeal.nD Cert.AttendReferenceIdeal.τ).loc Cert.AttendReferenceIdeal.main_arg1)
          ∧ r.2.mem ((c.tc : Thread Cert.AttendReferenceIdeal.nD Cert.AttendReferenceIdeal.τ).loc Cert.AttendReferenceIdeal.main_arg2) = m' ((c.tc : Thread Cert.AttendReferenceIdeal.nD Cert.AttendReferenceIdeal.τ).loc Cert.AttendReferenceIdeal.main_arg2)
          ∧ r.2.mem ((c.tc : Thread Cert.AttendReferenceIdeal.nD Cert.AttendReferenceIdeal.τ).loc Cert.AttendReferenceIdeal.main_arg3) = m' ((c.tc : Thread Cert.AttendReferenceIdeal.nD Cert.AttendReferenceIdeal.τ).loc Cert.AttendReferenceIdeal.main_arg3)
          ∧ r.2.mem ((c.tc : Thread Cert.AttendReferenceIdeal.nD Cert.AttendReferenceIdeal.τ).loc Cert.AttendReferenceIdeal.main_arg4) = m' ((c.tc : Thread Cert.AttendReferenceIdeal.nD Cert.AttendReferenceIdeal.τ).loc Cert.AttendReferenceIdeal.main_arg4))

def Claim : Prop :=
  ∃ (hKernel : Cert.Kernel.Facts) (hKernelIdeal : Cert.KernelIdeal.Facts) (hReferenceIdeal : Cert.ReferenceIdeal.Facts) (hProject : Cert.Project.Facts) (hProjectIdeal : Cert.ProjectIdeal.Facts) (hProjectReferenceIdeal : Cert.ProjectReferenceIdeal.Facts) (hMerge : Cert.Merge.Facts) (hMergeIdeal : Cert.MergeIdeal.Facts) (hMergeReferenceIdeal : Cert.MergeReferenceIdeal.Facts) (hExperts : Cert.Experts.Facts) (hExpertsIdeal : Cert.ExpertsIdeal.Facts) (hExpertsReferenceIdeal : Cert.ExpertsReferenceIdeal.Facts) (hAttend : Cert.Attend.Facts) (hAttendIdeal : Cert.AttendIdeal.Facts) (hAttendReferenceIdeal : Cert.AttendReferenceIdeal.Facts) (hPre_inputs_finite : Cert.Pre_inputs_finite.Facts) (hPre_attended_finite : Cert.Pre_attended_finite.Facts),
    quiescent_Kernel (hKernel := hKernel)
    ∧ quiescent_KernelIdeal (hKernelIdeal := hKernelIdeal)
    ∧ quiescent_KernelIdeal_pre_inputs_finite (hKernelIdeal := hKernelIdeal) (hPre_inputs_finite := hPre_inputs_finite)
    ∧ quiescent_ReferenceIdeal (hReferenceIdeal := hReferenceIdeal)
    ∧ quiescent_ReferenceIdeal_pre_inputs_finite (hReferenceIdeal := hReferenceIdeal) (hPre_inputs_finite := hPre_inputs_finite)
    ∧ quiescent_Project (hProject := hProject)
    ∧ quiescent_ProjectIdeal (hProjectIdeal := hProjectIdeal)
    ∧ quiescent_ProjectReferenceIdeal (hProjectReferenceIdeal := hProjectReferenceIdeal)
    ∧ quiescent_Merge (hMerge := hMerge)
    ∧ quiescent_MergeIdeal (hMergeIdeal := hMergeIdeal)
    ∧ quiescent_MergeReferenceIdeal (hMergeReferenceIdeal := hMergeReferenceIdeal)
    ∧ quiescent_Experts (hExperts := hExperts)
    ∧ quiescent_ExpertsIdeal (hExpertsIdeal := hExpertsIdeal)
    ∧ quiescent_ExpertsReferenceIdeal (hExpertsReferenceIdeal := hExpertsReferenceIdeal)
    ∧ quiescent_Attend (hAttend := hAttend)
    ∧ quiescent_AttendIdeal (hAttendIdeal := hAttendIdeal)
    ∧ quiescent_AttendIdeal_pre_attended_finite (hAttendIdeal := hAttendIdeal) (hPre_attended_finite := hPre_attended_finite)
    ∧ quiescent_AttendReferenceIdeal (hAttendReferenceIdeal := hAttendReferenceIdeal)
    ∧ quiescent_AttendReferenceIdeal_pre_attended_finite (hAttendReferenceIdeal := hAttendReferenceIdeal) (hPre_attended_finite := hPre_attended_finite)
    ∧ preserves_Kernel_KernelIdeal
    ∧ algebraic_KernelIdeal_ReferenceIdeal_pre_inputs_finite (hKernelIdeal := hKernelIdeal) (hReferenceIdeal := hReferenceIdeal) (hPre_inputs_finite := hPre_inputs_finite)
    ∧ preserves_Project_ProjectIdeal
    ∧ algebraic_ProjectIdeal_ProjectReferenceIdeal (hProjectIdeal := hProjectIdeal) (hProjectReferenceIdeal := hProjectReferenceIdeal)
    ∧ preserves_Merge_MergeIdeal
    ∧ algebraic_MergeIdeal_MergeReferenceIdeal (hMergeIdeal := hMergeIdeal) (hMergeReferenceIdeal := hMergeReferenceIdeal)
    ∧ preserves_Experts_ExpertsIdeal
    ∧ algebraic_ExpertsIdeal_ExpertsReferenceIdeal (hExpertsIdeal := hExpertsIdeal) (hExpertsReferenceIdeal := hExpertsReferenceIdeal)
    ∧ preserves_Attend_AttendIdeal
    ∧ algebraic_AttendIdeal_AttendReferenceIdeal_pre_attended_finite (hAttendIdeal := hAttendIdeal) (hAttendReferenceIdeal := hAttendReferenceIdeal) (hPre_attended_finite := hPre_attended_finite)
-- ==== Pre_attended_finite.lean ====
abbrev S128x256 : Shape := ⟨2, ![128, 256]⟩
abbrev S8x2048x3072 : Shape := ⟨3, ![8, 2048, 3072]⟩
abbrev S8x2176x512 : Shape := ⟨3, ![8, 2176, 512]⟩
abbrev S32x8 : Shape := ⟨2, ![32, 8]⟩
abbrev S8 : Shape := ⟨1, ![8]⟩
abbrev S8x2048x512 : Shape := ⟨3, ![8, 2048, 512]⟩
abbrev S8x2176x256 : Shape := ⟨3, ![8, 2176, 256]⟩
abbrev S_ : Shape := ⟨0, ![]⟩

class Facts : Prop where
  slices_S8x2048x3072_S8x2048x512_0_0_0 : S8x2048x3072.Slices ![0, 0, 0] S8x2048x512
  bitsLt_bf16_f32 : FTy.bits .bf16 < FTy.bits .f32
  slices_S8x2176x512_S8x2176x256_0_0_0 : S8x2176x512.Slices ![0, 0, 0] S8x2176x256
  bcast_S_S8x2048x512 : S_.BroadcastsInDim S8x2048x512 (![] : Fin 0 → Fin S8x2048x512.rank)
  reducesTo_S8x2048x512_S_d0_1_2 : S8x2048x512.ReducesTo [0, 1, 2] S_
  h_S_ : 0 < S_.numel
  bcast_S_S8x2176x256 : S_.BroadcastsInDim S8x2176x256 (![] : Fin 0 → Fin S8x2176x256.rank)
  reducesTo_S8x2176x256_S_d0_1_2 : S8x2176x256.ReducesTo [0, 1, 2] S_
  bcast_S_S32x8 : S_.BroadcastsInDim S32x8 (![] : Fin 0 → Fin S32x8.rank)
  reducesTo_S32x8_S_d0_1 : S32x8.ReducesTo [0, 1] S_
  bcast_S_S8 : S_.BroadcastsInDim S8 (![] : Fin 0 → Fin S8.rank)
  reducesTo_S8_S_d0 : S8.ReducesTo [0] S_

variable [Facts]

def fn_part1 {F : FTy → Type} [FloatOps F] (main_arg4 : FVec F S8 .f32) (main_v17 : IVec S_ 1) : IVec S_ 1 :=
  let main_v18 : FVec F S8 .f32 := Host.absf main_arg4
  let main_cst_4 : FVec F S_ .f32 := constant S_ .f32 0x7F800000#32
  let main_v19 : FVec F S8 .f32 := broadcastInDim S8 ![] bcast_S_S8 main_cst_4
  let main_v20 : IVec S8 1 := cmpf .olt main_v18 main_v19
  let main_c_5 : IVec S_ 1 := constantI S_ 1 1#1
  let main_v21 : IVec S_ 1 := (fun x v => Host.reduce IntOp.andi x v reducesTo_S8_S_d0 h_S_) main_v20 main_c_5
  let main_v22 : IVec S_ 1 := andi main_v17 main_v21
  main_v22

def fn {F : FTy → Type} [FloatOps F] (main_arg0 : IVec S128x256 32) (main_arg1 : FVec F S8x2048x3072 .bf16) (main_arg2 : FVec F S8x2176x512 .bf16) (main_arg3 : FVec F S32x8 .f32) (main_arg4 : FVec F S8 .f32) : IVec S_ 1 :=
  let main_v0 : FVec F S8x2048x512 .bf16 := (extractStridedSlice S8x2048x512 ![0, 0, 0] · slices_S8x2048x3072_S8x2048x512_0_0_0) main_arg1
  let main_v1 : FVec F S8x2048x512 .f32 := (extf .f32 · bitsLt_bf16_f32) main_v0
  let main_v2 : FVec F S8x2176x256 .bf16 := (extractStridedSlice S8x2176x256 ![0, 0, 0] · slices_S8x2176x512_S8x2176x256_0_0_0) main_arg2
  let main_v3 : FVec F S8x2176x256 .f32 := (extf .f32 · bitsLt_bf16_f32) main_v2
  let main_v4 : FVec F S8x2048x512 .f32 := Host.absf main_v1
  let main_cst : FVec F S_ .f32 := constant S_ .f32 0x7F800000#32
  let main_v5 : FVec F S8x2048x512 .f32 := broadcastInDim S8x2048x512 ![] bcast_S_S8x2048x512 main_cst
  let main_v6 : IVec S8x2048x512 1 := cmpf .olt main_v4 main_v5
  let main_c : IVec S_ 1 := constantI S_ 1 1#1
  let main_v7 : IVec S_ 1 := (fun x v => Host.reduce IntOp.andi x v reducesTo_S8x2048x512_S_d0_1_2 h_S_) main_v6 main_c
  let main_v8 : FVec F S8x2176x256 .f32 := Host.absf main_v3
  let main_cst_0 : FVec F S_ .f32 := constant S_ .f32 0x7F800000#32
  let main_v9 : FVec F S8x2176x256 .f32 := broadcastInDim S8x2176x256 ![] bcast_S_S8x2176x256 main_cst_0
  let main_v10 : IVec S8x2176x256 1 := cmpf .olt main_v8 main_v9
  let main_c_1 : IVec S_ 1 := constantI S_ 1 1#1
  let main_v11 : IVec S_ 1 := (fun x v => Host.reduce IntOp.andi x v reducesTo_S8x2176x256_S_d0_1_2 h_S_) main_v10 main_c_1
  let main_v12 : IVec S_ 1 := andi main_v7 main_v11
  let main_v13 : FVec F S32x8 .f32 := Host.absf main_arg3
  let main_cst_2 : FVec F S_ .f32 := constant S_ .f32 0x7F800000#32
  let main_v14 : FVec F S32x8 .f32 := broadcastInDim S32x8 ![] bcast_S_S32x8 main_cst_2
  let main_v15 : IVec S32x8 1 := cmpf .olt main_v13 main_v14
  let main_c_3 : IVec S_ 1 := constantI S_ 1 1#1
  let main_v16 : IVec S_ 1 := (fun x v => Host.reduce IntOp.andi x v reducesTo_S32x8_S_d0_1 h_S_) main_v15 main_c_3
  let main_v17 : IVec S_ 1 := andi main_v12 main_v16
  fn_part1 (F := F) main_arg4 main_v17
-- ==== Pre_inputs_finite.lean ====
abbrev S8x2048x512 : Shape := ⟨3, ![8, 2048, 512]⟩
abbrev S8x2176x512 : Shape := ⟨3, ![8, 2176, 512]⟩
abbrev S8x2176x8 : Shape := ⟨3, ![8, 2176, 8]⟩
abbrev S_ : Shape := ⟨0, ![]⟩

class Facts : Prop where
  bcast_S_S8x2048x512 : S_.BroadcastsInDim S8x2048x512 (![] : Fin 0 → Fin S8x2048x512.rank)
  reducesTo_S8x2048x512_S_d0_1_2 : S8x2048x512.ReducesTo [0, 1, 2] S_
  h_S_ : 0 < S_.numel
  bcast_S_S8x2176x512 : S_.BroadcastsInDim S8x2176x512 (![] : Fin 0 → Fin S8x2176x512.rank)
  reducesTo_S8x2176x512_S_d0_1_2 : S8x2176x512.ReducesTo [0, 1, 2] S_
  bcast_S_S8x2176x8 : S_.BroadcastsInDim S8x2176x8 (![] : Fin 0 → Fin S8x2176x8.rank)
  reducesTo_S8x2176x8_S_d0_1_2 : S8x2176x8.ReducesTo [0, 1, 2] S_

variable [Facts]

def fn {F : FTy → Type} [FloatOps F] (main_arg0 : FVec F S8x2048x512 .f32) (main_arg1 : FVec F S8x2176x512 .f32) (main_arg2 : FVec F S8x2176x512 .f32) (main_arg3 : FVec F S8x2176x8 .f32) : IVec S_ 1 :=
  let main_v0 : FVec F S8x2048x512 .f32 := Host.absf main_arg0
  let main_cst : FVec F S_ .f32 := constant S_ .f32 0x7F800000#32
  let main_v1 : FVec F S8x2048x512 .f32 := broadcastInDim S8x2048x512 ![] bcast_S_S8x2048x512 main_cst
  let main_v2 : IVec S8x2048x512 1 := cmpf .olt main_v0 main_v1
  let main_c : IVec S_ 1 := constantI S_ 1 1#1
  let main_v3 : IVec S_ 1 := (fun x v => Host.reduce IntOp.andi x v reducesTo_S8x2048x512_S_d0_1_2 h_S_) main_v2 main_c
  let main_v4 : FVec F S8x2176x512 .f32 := Host.absf main_arg1
  let main_cst_0 : FVec F S_ .f32 := constant S_ .f32 0x7F800000#32
  let main_v5 : FVec F S8x2176x512 .f32 := broadcastInDim S8x2176x512 ![] bcast_S_S8x2176x512 main_cst_0
  let main_v6 : IVec S8x2176x512 1 := cmpf .olt main_v4 main_v5
  let main_c_1 : IVec S_ 1 := constantI S_ 1 1#1
  let main_v7 : IVec S_ 1 := (fun x v => Host.reduce IntOp.andi x v reducesTo_S8x2176x512_S_d0_1_2 h_S_) main_v6 main_c_1
  let main_v8 : IVec S_ 1 := andi main_v3 main_v7
  let main_v9 : FVec F S8x2176x8 .f32 := Host.absf main_arg3
  let main_cst_2 : FVec F S_ .f32 := constant S_ .f32 0x7F800000#32
  let main_v10 : FVec F S8x2176x8 .f32 := broadcastInDim S8x2176x8 ![] bcast_S_S8x2176x8 main_cst_2
  let main_v11 : IVec S8x2176x8 1 := cmpf .olt main_v9 main_v10
  let main_c_3 : IVec S_ 1 := constantI S_ 1 1#1
  let main_v12 : IVec S_ 1 := (fun x v => Host.reduce IntOp.andi x v reducesTo_S8x2176x8_S_d0_1_2 h_S_) main_v11 main_c_3
  let main_v13 : IVec S_ 1 := andi main_v8 main_v12
  main_v13
-- ==== Kernel.lean ====
abbrev S8x2048x512 : Shape := ⟨3, ![8, 2048, 512]⟩
abbrev S8x2176x512 : Shape := ⟨3, ![8, 2176, 512]⟩
abbrev S8x2176x8 : Shape := ⟨3, ![8, 2176, 8]⟩
abbrev S_ : Shape := ⟨0, ![]⟩
abbrev S8x2048x2048 : Shape := ⟨3, ![8, 2048, 2048]⟩
abbrev S8x2048x3072 : Shape := ⟨3, ![8, 2048, 3072]⟩
abbrev S8x2560x512 : Shape := ⟨3, ![8, 2560, 512]⟩
abbrev S8x512x2176 : Shape := ⟨3, ![8, 512, 2176]⟩
abbrev S8x512x2560 : Shape := ⟨3, ![8, 512, 2560]⟩
abbrev S8x2560x128 : Shape := ⟨3, ![8, 2560, 128]⟩
abbrev S1x512x512 : Shape := ⟨3, ![1, 512, 512]⟩
abbrev S1x2560x512 : Shape := ⟨3, ![1, 2560, 512]⟩
abbrev S1x512x2560 : Shape := ⟨3, ![1, 512, 2560]⟩
abbrev S1x2560x128 : Shape := ⟨3, ![1, 2560, 128]⟩
abbrev S512x128 : Shape := ⟨2, ![512, 128]⟩
abbrev S1x512x128 : Shape := ⟨3, ![1, 512, 128]⟩
abbrev S512x512 : Shape := ⟨2, ![512, 512]⟩
abbrev S128x512 : Shape := ⟨2, ![128, 512]⟩
abbrev S1x8x128 : Shape := ⟨3, ![1, 8, 128]⟩
abbrev S8x128 : Shape := ⟨2, ![8, 128]⟩
abbrev S8 : Shape := ⟨1, ![8]⟩
abbrev S8x1 : Shape := ⟨2, ![8, 1]⟩
abbrev S1x1 : Shape := ⟨2, ![1, 1]⟩
abbrev S1x512 : Shape := ⟨2, ![1, 512]⟩
abbrev S512 : Shape := ⟨1, ![512]⟩
abbrev S512x1 : Shape := ⟨2, ![512, 1]⟩
abbrev S1x128x512 : Shape := ⟨3, ![1, 128, 512]⟩

abbrev nBuf : Space → Nat
  | .hbm => 42
  | .vmem => 10
  | .smem => 0
  | _ => 0

abbrev bufTy : (tb : Table) → Fin (tcTables nBuf tb) → BufTy
  | .hbm, ⟨0, _⟩ => ⟨S8x2048x512, .f32⟩
  | .hbm, ⟨1, _⟩ => ⟨S8x2176x512, .f32⟩
  | .hbm, ⟨2, _⟩ => ⟨S8x2176x512, .f32⟩
  | .hbm, ⟨3, _⟩ => ⟨S8x2176x8, .f32⟩
  | .hbm, ⟨4, _⟩ => ⟨S_, .f32⟩
  | .hbm, ⟨5, _⟩ => ⟨S8x2048x512, .f32⟩
  | .hbm, ⟨6, _⟩ => ⟨S8x2048x512, .f32⟩
  | .hbm, ⟨7, _⟩ => ⟨S_, .f32⟩
  | .hbm, ⟨8, _⟩ => ⟨S_, .f32⟩
  | .hbm, ⟨9, _⟩ => ⟨S8x2048x512, .f32⟩
  | .hbm, ⟨10, _⟩ => ⟨S8x2048x512, .f32⟩
  | .hbm, ⟨11, _⟩ => ⟨S_, .f32⟩
  | .hbm, ⟨12, _⟩ => ⟨S8x2048x512, .f32⟩
  | .hbm, ⟨13, _⟩ => ⟨S_, .f32⟩
  | .hbm, ⟨14, _⟩ => ⟨S8x2048x2048, .f32⟩
  | .hbm, ⟨15, _⟩ => ⟨S8x2048x3072, .f32⟩
  | .hbm, ⟨16, _⟩ => ⟨S8x2048x3072, .bf16⟩
  | .hbm, ⟨17, _⟩ => ⟨S_, .i32⟩
  | .hbm, ⟨18, _⟩ => ⟨S_, .f32⟩
  | .hbm, ⟨19, _⟩ => ⟨S8x2560x512, .f32⟩
  | .hbm, ⟨20, _⟩ => ⟨S8x2560x512, .bf16⟩
  | .hbm, ⟨21, _⟩ => ⟨S8x512x2176, .f32⟩
  | .hbm, ⟨22, _⟩ => ⟨S_, .i32⟩
  | .hbm, ⟨23, _⟩ => ⟨S_, .f32⟩
  | .hbm, ⟨24, _⟩ => ⟨S8x512x2560, .f32⟩
  | .hbm, ⟨25, _⟩ => ⟨S8x512x2560, .bf16⟩
  | .hbm, ⟨26, _⟩ => ⟨S_, .i32⟩
  | .hbm, ⟨27, _⟩ => ⟨S_, .f32⟩
  | .hbm, ⟨28, _⟩ => ⟨S8x2560x128, .f32⟩
  | .hbm, ⟨29, _⟩ => ⟨S8x2560x128, .i32⟩
  | .hbm, ⟨30, _⟩ => ⟨S_, .i32⟩
  | .hbm, ⟨31, _⟩ => ⟨S8x2560x128, .i32⟩
  | .hbm, ⟨32, _⟩ => ⟨S8x2560x128, .i1⟩
  | .hbm, ⟨33, _⟩ => ⟨S_, .i32⟩
  | .hbm, ⟨34, _⟩ => ⟨S8x2560x128, .i32⟩
  | .hbm, ⟨35, _⟩ => ⟨S8x2560x128, .i1⟩
  | .hbm, ⟨36, _⟩ => ⟨S8x2560x128, .i1⟩
  | .hbm, ⟨37, _⟩ => ⟨S_, .f32⟩
  | .hbm, ⟨38, _⟩ => ⟨S_, .f32⟩
  | .hbm, ⟨39, _⟩ => ⟨S8x2560x128, .f32⟩
  | .hbm, ⟨40, _⟩ => ⟨S8x2560x128, .f32⟩
  | .hbm, ⟨41, _⟩ => ⟨S8x2048x512, .bf16⟩
  | .local _ .vmem, ⟨0, _⟩ => ⟨S1x512x512, .bf16⟩
  | .local _ .vmem, ⟨1, _⟩ => ⟨S1x512x512, .bf16⟩
  | .local _ .vmem, ⟨2, _⟩ => ⟨S1x2560x512, .bf16⟩
  | .local _ .vmem, ⟨3, _⟩ => ⟨S1x2560x512, .bf16⟩
  | .local _ .vmem, ⟨4, _⟩ => ⟨S1x512x2560, .bf16⟩
  | .local _ .vmem, ⟨5, _⟩ => ⟨S1x512x2560, .bf16⟩
  | .local _ .vmem, ⟨6, _⟩ => ⟨S1x2560x128, .f32⟩
  | .local _ .vmem, ⟨7, _⟩ => ⟨S1x2560x128, .f32⟩
  | .local _ .vmem, ⟨8, _⟩ => ⟨S1x512x512, .bf16⟩
  | .local _ .vmem, ⟨9, _⟩ => ⟨S1x512x512, .bf16⟩
  | _, _ => ⟨S8x2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_c : Ref sig .tc := ⟨.hbm, 17, rfl⟩
abbrev main_call0_v0 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_c_3 : Ref sig .tc := ⟨.hbm, 22, rfl⟩
abbrev main_call1_v0 : Ref sig .tc := ⟨.hbm, 23, rfl⟩
abbrev main_v12 : Ref sig .tc := ⟨.hbm, 24, rfl⟩
abbrev main_v13 : Ref sig .tc := ⟨.hbm, 25, rfl⟩
abbrev main_c_4 : Ref sig .tc := ⟨.hbm, 26, rfl⟩
abbrev main_call2_v0 : Ref sig .tc := ⟨.hbm, 27, rfl⟩
abbrev main_v14 : Ref sig .tc := ⟨.hbm, 28, rfl⟩
abbrev main_v15 : Ref sig .tc := ⟨.hbm, 29, rfl⟩
abbrev main_c_5 : Ref sig .tc := ⟨.hbm, 30, rfl⟩
abbrev main_v16 : Ref sig .tc := ⟨.hbm, 31, rfl⟩
abbrev main_v17 : Ref sig .tc := ⟨.hbm, 32, rfl⟩
abbrev main_c_6 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_cst_7 : Ref sig .tc := ⟨.hbm, 37, rfl⟩
abbrev main_call3_v0 : Ref sig .tc := ⟨.hbm, 38, rfl⟩
abbrev main_call3_v1 : Ref sig .tc := ⟨.hbm, 39, rfl⟩
abbrev main_v21 : Ref sig .tc := ⟨.hbm, 40, rfl⟩
abbrev main_v22 : Ref sig .tc := ⟨.hbm, 41, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![8, 1, 4], ![false, false, false]⟩

def k0_mult1 (i : grid0.Coords) : BitVec 32 :=
  let c128_i32 : BitVec 32 := 128#32
  let arg2 : BitVec 32 := BitVec.ofNat 32 (i 2).val
  let c512_i32 : BitVec 32 := 512#32
  let v0 : BitVec 32 := Scalar.muli arg2 c512_i32
  let v1 : BitVec 32 := Scalar.addi c128_i32 v0
  v1
def k0_off1 (i : grid0.Coords) : Fin 3 → Nat :=
  let c0_12 : Index := 0#32
  let c128_i32 : BitVec 32 := 128#32
  let arg2 : BitVec 32 := BitVec.ofNat 32 (i 2).val
  let c512_i32 : BitVec 32 := 512#32
  let v0 : BitVec 32 := Scalar.muli arg2 c512_i32
  let v1 : BitVec 32 := Scalar.addi c128_i32 v0
  let v32 : BitVec 32 := v1
  let v33 : Index := Scalar.indexCast v32
  let c0_13 : Index := 0#32
  ![0, v33.toNat, 0]
@[reducible] def k0_t1_loop (i : grid0.Coords) : Scf.Loop 32 :=
  let c0_i32_80 : BitVec 32 := 0#32
  let c128_i32 : BitVec 32 := 128#32
  let arg2 : BitVec 32 := BitVec.ofNat 32 (i 2).val
  let c512_i32 : BitVec 32 := 512#32
  let v0 : BitVec 32 := Scalar.muli arg2 c512_i32
  let v1 : BitVec 32 := Scalar.addi c128_i32 v0
  let c0_i32_58 : BitVec 32 := 0#32
  let v126 : BitVec 1 := Scalar.cmpi .sgt v1 c0_i32_58
  let v127 : BitVec 32 := Scalar.extui v126
  let c0_i32_59 : BitVec 32 := 0#32
  let v128 : BitVec 1 := Scalar.cmpi .slt v1 c0_i32_59
  let v129 : BitVec 32 := Scalar.extui v128
  let v130 : BitVec 32 := Scalar.subi v127 v129
  let c512_i32_57 : BitVec 32 := 512#32
  let c0_i32_60 : BitVec 32 := 0#32
  let v131 : BitVec 1 := Scalar.cmpi .sgt c512_i32_57 c0_i32_60
  let v132 : BitVec 32 := Scalar.extui v131
  let c0_i32_61 : BitVec 32 := 0#32
  let v133 : BitVec 1 := Scalar.cmpi .slt c512_i32_57 c0_i32_61
  let v134 : BitVec 32 := Scalar.extui v133
  let v135 : BitVec 32 := Scalar.subi v132 v134
  let v136 : BitVec 1 := Scalar.cmpi .ne v130 v135
  let v137 : BitVec 32 := Scalar.remsi v1 c512_i32_57
  let c0_i32_62 : BitVec 32 := 0#32
  let v138 : BitVec 1 := Scalar.cmpi .ne v137 c0_i32_62
  let v139 : BitVec 1 := Scalar.andi v136 v138
  let v125 : BitVec 32 := Scalar.divsi v1 c512_i32_57
  let c1_i32_63 : BitVec 32 := 1#32
  let v140 : BitVec 32 := Scalar.subi v125 c1_i32_63
  let v141 : BitVec 32 := Scalar.select v139 v140 v125
  let v168 : BitVec 32 := Scalar.subi v141 c0_i32_80
  let c1_i32_81 : BitVec 32 := 1#32
  let v170 : BitVec 32 := Scalar.divsi v168 c1_i32_81
  let v171 : BitVec 32 := Scalar.muli v170 c1_i32_81
  let v172 : BitVec 32 := Scalar.addi c0_i32_80 v171
  let c1_i32_82 : BitVec 32 := 1#32
  ⟨c0_i32_80, v172, c1_i32_82⟩
def k0_mult2 (i : grid0.Coords) (k0_t1 : Fin (k0_t1_loop i).trips) : BitVec 32 :=
  let c0_i32_80 : BitVec 32 := 0#32
  let c1_i32_82 : BitVec 32 := 1#32
  let arg8 : BitVec 32 := Scf.iv c0_i32_80 c1_i32_82 k0_t1
  let c512_i32_99 : BitVec 32 := 512#32
  let v226 : BitVec 32 := Scalar.muli arg8 c512_i32_99
  v226
def k0_off2 (i : grid0.Coords) (k0_t1 : Fin (k0_t1_loop i).trips) : Fin 3 → Nat :=
  let c0_100 : Index := 0#32
  let c0_i32_80 : BitVec 32 := 0#32
  let c1_i32_82 : BitVec 32 := 1#32
  let arg8 : BitVec 32 := Scf.iv c0_i32_80 c1_i32_82 k0_t1
  let c512_i32_99 : BitVec 32 := 512#32
  let v226 : BitVec 32 := Scalar.muli arg8 c512_i32_99
  let v227 : BitVec 32 := v226
  let v228 : Index := Scalar.indexCast v227
  let c0_101 : Index := 0#32
  ![0, v228.toNat, 0]
def k0_off3 (i : grid0.Coords) (k0_t1 : Fin (k0_t1_loop i).trips) : Fin 3 → Nat :=
  let c0_150 : Index := 0#32
  let c0_i32_80 : BitVec 32 := 0#32
  let c1_i32_82 : BitVec 32 := 1#32
  let arg8 : BitVec 32 := Scf.iv c0_i32_80 c1_i32_82 k0_t1
  let c512_i32_99 : BitVec 32 := 512#32
  let v226 : BitVec 32 := Scalar.muli arg8 c512_i32_99
  let v227 : BitVec 32 := v226
  let v312 : Index := Scalar.indexCast v227
  let c0_151 : Index := 0#32
  ![0, v312.toNat, 0]
def k0_off4 (i : grid0.Coords) (k0_t1 : Fin (k0_t1_loop i).trips) : Fin 3 → Nat :=
  let c0_152 : Index := 0#32
  let c0_153 : Index := 0#32
  let c0_i32_80 : BitVec 32 := 0#32
  let c1_i32_82 : BitVec 32 := 1#32
  let arg8 : BitVec 32 := Scf.iv c0_i32_80 c1_i32_82 k0_t1
  let c512_i32_99 : BitVec 32 := 512#32
  let v226 : BitVec 32 := Scalar.muli arg8 c512_i32_99
  let v227 : BitVec 32 := v226
  let v315 : Index := Scalar.indexCast v227
  ![0, 0, v315.toNat]
def k0_off5 (i : grid0.Coords) (k0_t1 : Fin (k0_t1_loop i).trips) : Fin 3 → Nat :=
  let c0_166 : Index := 0#32
  let c0_i32_80 : BitVec 32 := 0#32
  let c1_i32_82 : BitVec 32 := 1#32
  let arg8 : BitVec 32 := Scf.iv c0_i32_80 c1_i32_82 k0_t1
  let c512_i32_99 : BitVec 32 := 512#32
  let v226 : BitVec 32 := Scalar.muli arg8 c512_i32_99
  let v227 : BitVec 32 := v226
  let v374 : Index := Scalar.indexCast v227
  let c128_167 : Index := 128#32
  ![0, v374.toNat, 128]
def k0_off6 (i : grid0.Coords) (k0_t1 : Fin (k0_t1_loop i).trips) : Fin 3 → Nat :=
  let c0_168 : Index := 0#32
  let c128_169 : Index := 128#32
  let c0_i32_80 : BitVec 32 := 0#32
  let c1_i32_82 : BitVec 32 := 1#32
  let arg8 : BitVec 32 := Scf.iv c0_i32_80 c1_i32_82 k0_t1
  let c512_i32_99 : BitVec 32 := 512#32
  let v226 : BitVec 32 := Scalar.muli arg8 c512_i32_99
  let v227 : BitVec 32 := v226
  let v377 : Index := Scalar.indexCast v227
  ![0, 128, v377.toNat]
def k0_off7 (i : grid0.Coords) (k0_t1 : Fin (k0_t1_loop i).trips) : Fin 3 → Nat :=
  let c0_182 : Index := 0#32
  let c0_i32_80 : BitVec 32 := 0#32
  let c1_i32_82 : BitVec 32 := 1#32
  let arg8 : BitVec 32 := Scf.iv c0_i32_80 c1_i32_82 k0_t1
  let c512_i32_99 : BitVec 32 := 512#32
  let v226 : BitVec 32 := Scalar.muli arg8 c512_i32_99
  let v227 : BitVec 32 := v226
  let v436 : Index := Scalar.indexCast v227
  let c256_183 : Index := 256#32
  ![0, v436.toNat, 256]
def k0_off8 (i : grid0.Coords) (k0_t1 : Fin (k0_t1_loop i).trips) : Fin 3 → Nat :=
  let c0_184 : Index := 0#32
  let c256_185 : Index := 256#32
  let c0_i32_80 : BitVec 32 := 0#32
  let c1_i32_82 : BitVec 32 := 1#32
  let arg8 : BitVec 32 := Scf.iv c0_i32_80 c1_i32_82 k0_t1
  let c512_i32_99 : BitVec 32 := 512#32
  let v226 : BitVec 32 := Scalar.muli arg8 c512_i32_99
  let v227 : BitVec 32 := v226
  let v439 : Index := Scalar.indexCast v227
  ![0, 256, v439.toNat]
def k0_off9 (i : grid0.Coords) (k0_t1 : Fin (k0_t1_loop i).trips) : Fin 3 → Nat :=
  let c0_198 : Index := 0#32
  let c0_i32_80 : BitVec 32 := 0#32
  let c1_i32_82 : BitVec 32 := 1#32
  let arg8 : BitVec 32 := Scf.iv c0_i32_80 c1_i32_82 k0_t1
  let c512_i32_99 : BitVec 32 := 512#32
  let v226 : BitVec 32 := Scalar.muli arg8 c512_i32_99
  let v227 : BitVec 32 := v226
  let v498 : Index := Scalar.indexCast v227
  let c384_199 : Index := 384#32
  ![0, v498.toNat, 384]
def k0_off10 (i : grid0.Coords) (k0_t1 : Fin (k0_t1_loop i).trips) : Fin 3 → Nat :=
  let c0_200 : Index := 0#32
  let c384_201 : Index := 384#32
  let c0_i32_80 : BitVec 32 := 0#32
  let c1_i32_82 : BitVec 32 := 1#32
  let arg8 : BitVec 32 := Scf.iv c0_i32_80 c1_i32_82 k0_t1
  let c512_i32_99 : BitVec 32 := 512#32
  let v226 : BitVec 32 := Scalar.muli arg8 c512_i32_99
  let v227 : BitVec 32 := v226
  let v501 : Index := Scalar.indexCast v227
  ![0, 384, v501.toNat]
@[reducible] def k0_t2_loop (i : grid0.Coords) : Scf.Loop 32 :=
  let c0_i32_80 : BitVec 32 := 0#32
  let c128_i32 : BitVec 32 := 128#32
  let arg2 : BitVec 32 := BitVec.ofNat 32 (i 2).val
  let c512_i32 : BitVec 32 := 512#32
  let v0 : BitVec 32 := Scalar.muli arg2 c512_i32
  let v1 : BitVec 32 := Scalar.addi c128_i32 v0
  let c0_i32_58 : BitVec 32 := 0#32
  let v126 : BitVec 1 := Scalar.cmpi .sgt v1 c0_i32_58
  let v127 : BitVec 32 := Scalar.extui v126
  let c0_i32_59 : BitVec 32 := 0#32
  let v128 : BitVec 1 := Scalar.cmpi .slt v1 c0_i32_59
  let v129 : BitVec 32 := Scalar.extui v128
  let v130 : BitVec 32 := Scalar.subi v127 v129
  let c512_i32_57 : BitVec 32 := 512#32
  let c0_i32_60 : BitVec 32 := 0#32
  let v131 : BitVec 1 := Scalar.cmpi .sgt c512_i32_57 c0_i32_60
  let v132 : BitVec 32 := Scalar.extui v131
  let c0_i32_61 : BitVec 32 := 0#32
  let v133 : BitVec 1 := Scalar.cmpi .slt c512_i32_57 c0_i32_61
  let v134 : BitVec 32 := Scalar.extui v133
  let v135 : BitVec 32 := Scalar.subi v132 v134
  let v136 : BitVec 1 := Scalar.cmpi .ne v130 v135
  let v137 : BitVec 32 := Scalar.remsi v1 c512_i32_57
  let c0_i32_62 : BitVec 32 := 0#32
  let v138 : BitVec 1 := Scalar.cmpi .ne v137 c0_i32_62
  let v139 : BitVec 1 := Scalar.andi v136 v138
  let v125 : BitVec 32 := Scalar.divsi v1 c512_i32_57
  let c1_i32_63 : BitVec 32 := 1#32
  let v140 : BitVec 32 := Scalar.subi v125 c1_i32_63
  let v141 : BitVec 32 := Scalar.select v139 v140 v125
  let v168 : BitVec 32 := Scalar.subi v141 c0_i32_80
  let c1_i32_81 : BitVec 32 := 1#32
  let v170 : BitVec 32 := Scalar.divsi v168 c1_i32_81
  let v171 : BitVec 32 := Scalar.muli v170 c1_i32_81
  let v172 : BitVec 32 := Scalar.addi c0_i32_80 v171
  let v169 : BitVec 32 := Scalar.addi c0_i32_80 v168
  let c1_i32_83 : BitVec 32 := 1#32
  ⟨v172, v169, c1_i32_83⟩
def k0_mult3 (i : grid0.Coords) (k0_t2 : Fin (k0_t2_loop i).trips) : BitVec 32 :=
  let c0_i32_80 : BitVec 32 := 0#32
  let c128_i32 : BitVec 32 := 128#32
  let arg2 : BitVec 32 := BitVec.ofNat 32 (i 2).val
  let c512_i32 : BitVec 32 := 512#32
  let v0 : BitVec 32 := Scalar.muli arg2 c512_i32
  let v1 : BitVec 32 := Scalar.addi c128_i32 v0
  let c0_i32_58 : BitVec 32 := 0#32
  let v126 : BitVec 1 := Scalar.cmpi .sgt v1 c0_i32_58
  let v127 : BitVec 32 := Scalar.extui v126
  let c0_i32_59 : BitVec 32 := 0#32
  let v128 : BitVec 1 := Scalar.cmpi .slt v1 c0_i32_59
  let v129 : BitVec 32 := Scalar.extui v128
  let v130 : BitVec 32 := Scalar.subi v127 v129
  let c512_i32_57 : BitVec 32 := 512#32
  let c0_i32_60 : BitVec 32 := 0#32
  let v131 : BitVec 1 := Scalar.cmpi .sgt c512_i32_57 c0_i32_60
  let v132 : BitVec 32 := Scalar.extui v131
  let c0_i32_61 : BitVec 32 := 0#32
  let v133 : BitVec 1 := Scalar.cmpi .slt c512_i32_57 c0_i32_61
  let v134 : BitVec 32 := Scalar.extui v133
  let v135 : BitVec 32 := Scalar.subi v132 v134
  let v136 : BitVec 1 := Scalar.cmpi .ne v130 v135
  let v137 : BitVec 32 := Scalar.remsi v1 c512_i32_57
  let c0_i32_62 : BitVec 32 := 0#32
  let v138 : BitVec 1 := Scalar.cmpi .ne v137 c0_i32_62
  let v139 : BitVec 1 := Scalar.andi v136 v138
  let v125 : BitVec 32 := Scalar.divsi v1 c512_i32_57
  let c1_i32_63 : BitVec 32 := 1#32
  let v140 : BitVec 32 := Scalar.subi v125 c1_i32_63
  let v141 : BitVec 32 := Scalar.select v139 v140 v125
  let v168 : BitVec 32 := Scalar.subi v141 c0_i32_80
  let c1_i32_81 : BitVec 32 := 1#32
  let v170 : BitVec 32 := Scalar.divsi v168 c1_i32_81
  let v171 : BitVec 32 := Scalar.muli v170 c1_i32_81
  let v172 : BitVec 32 := Scalar.addi c0_i32_80 v171
  let c1_i32_83 : BitVec 32 := 1#32
  let arg8 : BitVec 32 := Scf.iv v172 c1_i32_83 k0_t2
  let c512_i32_99 : BitVec 32 := 512#32
  let v226 : BitVec 32 := Scalar.muli arg8 c512_i32_99
  v226
def k0_off11 (i : grid0.Coords) (k0_t2 : Fin (k0_t2_loop i).trips) : Fin 3 → Nat :=
  let c0_100 : Index := 0#32
  let c0_i32_80 : BitVec 32 := 0#32
  let c128_i32 : BitVec 32 := 128#32
  let arg2 : BitVec 32 := BitVec.ofNat 32 (i 2).val
  let c512_i32 : BitVec 32 := 512#32
  let v0 : BitVec 32 := Scalar.muli arg2 c512_i32
  let v1 : BitVec 32 := Scalar.addi c128_i32 v0
  let c0_i32_58 : BitVec 32 := 0#32
  let v126 : BitVec 1 := Scalar.cmpi .sgt v1 c0_i32_58
  let v127 : BitVec 32 := Scalar.extui v126
  let c0_i32_59 : BitVec 32 := 0#32
  let v128 : BitVec 1 := Scalar.cmpi .slt v1 c0_i32_59
  let v129 : BitVec 32 := Scalar.extui v128
  let v130 : BitVec 32 := Scalar.subi v127 v129
  let c512_i32_57 : BitVec 32 := 512#32
  let c0_i32_60 : BitVec 32 := 0#32
  let v131 : BitVec 1 := Scalar.cmpi .sgt c512_i32_57 c0_i32_60
  let v132 : BitVec 32 := Scalar.extui v131
  let c0_i32_61 : BitVec 32 := 0#32
  let v133 : BitVec 1 := Scalar.cmpi .slt c512_i32_57 c0_i32_61
  let v134 : BitVec 32 := Scalar.extui v133
  let v135 : BitVec 32 := Scalar.subi v132 v134
  let v136 : BitVec 1 := Scalar.cmpi .ne v130 v135
  let v137 : BitVec 32 := Scalar.remsi v1 c512_i32_57
  let c0_i32_62 : BitVec 32 := 0#32
  let v138 : BitVec 1 := Scalar.cmpi .ne v137 c0_i32_62
  let v139 : BitVec 1 := Scalar.andi v136 v138
  let v125 : BitVec 32 := Scalar.divsi v1 c512_i32_57
  let c1_i32_63 : BitVec 32 := 1#32
  let v140 : BitVec 32 := Scalar.subi v125 c1_i32_63
  let v141 : BitVec 32 := Scalar.select v139 v140 v125
  let v168 : BitVec 32 := Scalar.subi v141 c0_i32_80
  let c1_i32_81 : BitVec 32 := 1#32
  let v170 : BitVec 32 := Scalar.divsi v168 c1_i32_81
  let v171 : BitVec 32 := Scalar.muli v170 c1_i32_81
  let v172 : BitVec 32 := Scalar.addi c0_i32_80 v171
  let c1_i32_83 : BitVec 32 := 1#32
  let arg8 : BitVec 32 := Scf.iv v172 c1_i32_83 k0_t2
  let c512_i32_99 : BitVec 32 := 512#32
  let v226 : BitVec 32 := Scalar.muli arg8 c512_i32_99
  let v227 : BitVec 32 := v226
  let v228 : Index := Scalar.indexCast v227
  let c0_101 : Index := 0#32
  ![0, v228.toNat, 0]
def k0_off12 (i : grid0.Coords) (k0_t2 : Fin (k0_t2_loop i).trips) : Fin 3 → Nat :=
  let c0_150 : Index := 0#32
  let c0_i32_80 : BitVec 32 := 0#32
  let c128_i32 : BitVec 32 := 128#32
  let arg2 : BitVec 32 := BitVec.ofNat 32 (i 2).val
  let c512_i32 : BitVec 32 := 512#32
  let v0 : BitVec 32 := Scalar.muli arg2 c512_i32
  let v1 : BitVec 32 := Scalar.addi c128_i32 v0
  let c0_i32_58 : BitVec 32 := 0#32
  let v126 : BitVec 1 := Scalar.cmpi .sgt v1 c0_i32_58
  let v127 : BitVec 32 := Scalar.extui v126
  let c0_i32_59 : BitVec 32 := 0#32
  let v128 : BitVec 1 := Scalar.cmpi .slt v1 c0_i32_59
  let v129 : BitVec 32 := Scalar.extui v128
  let v130 : BitVec 32 := Scalar.subi v127 v129
  let c512_i32_57 : BitVec 32 := 512#32
  let c0_i32_60 : BitVec 32 := 0#32
  let v131 : BitVec 1 := Scalar.cmpi .sgt c512_i32_57 c0_i32_60
  let v132 : BitVec 32 := Scalar.extui v131
  let c0_i32_61 : BitVec 32 := 0#32
  let v133 : BitVec 1 := Scalar.cmpi .slt c512_i32_57 c0_i32_61
  let v134 : BitVec 32 := Scalar.extui v133
  let v135 : BitVec 32 := Scalar.subi v132 v134
  let v136 : BitVec 1 := Scalar.cmpi .ne v130 v135
  let v137 : BitVec 32 := Scalar.remsi v1 c512_i32_57
  let c0_i32_62 : BitVec 32 := 0#32
  let v138 : BitVec 1 := Scalar.cmpi .ne v137 c0_i32_62
  let v139 : BitVec 1 := Scalar.andi v136 v138
  let v125 : BitVec 32 := Scalar.divsi v1 c512_i32_57
  let c1_i32_63 : BitVec 32 := 1#32
  let v140 : BitVec 32 := Scalar.subi v125 c1_i32_63
  let v141 : BitVec 32 := Scalar.select v139 v140 v125
  let v168 : BitVec 32 := Scalar.subi v141 c0_i32_80
  let c1_i32_81 : BitVec 32 := 1#32
  let v170 : BitVec 32 := Scalar.divsi v168 c1_i32_81
  let v171 : BitVec 32 := Scalar.muli v170 c1_i32_81
  let v172 : BitVec 32 := Scalar.addi c0_i32_80 v171
  let c1_i32_83 : BitVec 32 := 1#32
  let arg8 : BitVec 32 := Scf.iv v172 c1_i32_83 k0_t2
  let c512_i32_99 : BitVec 32 := 512#32
  let v226 : BitVec 32 := Scalar.muli arg8 c512_i32_99
  let v227 : BitVec 32 := v226
  let v312 : Index := Scalar.indexCast v227
  let c0_151 : Index := 0#32
  ![0, v312.toNat, 0]
def k0_off13 (i : grid0.Coords) (k0_t2 : Fin (k0_t2_loop i).trips) : Fin 3 → Nat :=
  let c0_152 : Index := 0#32
  let c0_153 : Index := 0#32
  let c0_i32_80 : BitVec 32 := 0#32
  let c128_i32 : BitVec 32 := 128#32
  let arg2 : BitVec 32 := BitVec.ofNat 32 (i 2).val
  let c512_i32 : BitVec 32 := 512#32
  let v0 : BitVec 32 := Scalar.muli arg2 c512_i32
  let v1 : BitVec 32 := Scalar.addi c128_i32 v0
  let c0_i32_58 : BitVec 32 := 0#32
  let v126 : BitVec 1 := Scalar.cmpi .sgt v1 c0_i32_58
  let v127 : BitVec 32 := Scalar.extui v126
  let c0_i32_59 : BitVec 32 := 0#32
  let v128 : BitVec 1 := Scalar.cmpi .slt v1 c0_i32_59
  let v129 : BitVec 32 := Scalar.extui v128
  let v130 : BitVec 32 := Scalar.subi v127 v129
  let c512_i32_57 : BitVec 32 := 512#32
  let c0_i32_60 : BitVec 32 := 0#32
  let v131 : BitVec 1 := Scalar.cmpi .sgt c512_i32_57 c0_i32_60
  let v132 : BitVec 32 := Scalar.extui v131
  let c0_i32_61 : BitVec 32 := 0#32
  let v133 : BitVec 1 := Scalar.cmpi .slt c512_i32_57 c0_i32_61
  let v134 : BitVec 32 := Scalar.extui v133
  let v135 : BitVec 32 := Scalar.subi v132 v134
  let v136 : BitVec 1 := Scalar.cmpi .ne v130 v135
  let v137 : BitVec 32 := Scalar.remsi v1 c512_i32_57
  let c0_i32_62 : BitVec 32 := 0#32
  let v138 : BitVec 1 := Scalar.cmpi .ne v137 c0_i32_62
  let v139 : BitVec 1 := Scalar.andi v136 v138
  let v125 : BitVec 32 := Scalar.divsi v1 c512_i32_57
  let c1_i32_63 : BitVec 32 := 1#32
  let v140 : BitVec 32 := Scalar.subi v125 c1_i32_63
  let v141 : BitVec 32 := Scalar.select v139 v140 v125
  let v168 : BitVec 32 := Scalar.subi v141 c0_i32_80
  let c1_i32_81 : BitVec 32 := 1#32
  let v170 : BitVec 32 := Scalar.divsi v168 c1_i32_81
  let v171 : BitVec 32 := Scalar.muli v170 c1_i32_81
  let v172 : BitVec 32 := Scalar.addi c0_i32_80 v171
  let c1_i32_83 : BitVec 32 := 1#32
  let arg8 : BitVec 32 := Scf.iv v172 c1_i32_83 k0_t2
  let c512_i32_99 : BitVec 32 := 512#32
  let v226 : BitVec 32 := Scalar.muli arg8 c512_i32_99
  let v227 : BitVec 32 := v226
  let v315 : Index := Scalar.indexCast v227
  ![0, 0, v315.toNat]
def k0_off14 (i : grid0.Coords) (k0_t2 : Fin (k0_t2_loop i).trips) : Fin 3 → Nat :=
  let c0_166 : Index := 0#32
  let c0_i32_80 : BitVec 32 := 0#32
  let c128_i32 : BitVec 32 := 128#32
  let arg2 : BitVec 32 := BitVec.ofNat 32 (i 2).val
  let c512_i32 : BitVec 32 := 512#32
  let v0 : BitVec 32 := Scalar.muli arg2 c512_i32
  let v1 : BitVec 32 := Scalar.addi c128_i32 v0
  let c0_i32_58 : BitVec 32 := 0#32
  let v126 : BitVec 1 := Scalar.cmpi .sgt v1 c0_i32_58
  let v127 : BitVec 32 := Scalar.extui v126
  let c0_i32_59 : BitVec 32 := 0#32
  let v128 : BitVec 1 := Scalar.cmpi .slt v1 c0_i32_59
  let v129 : BitVec 32 := Scalar.extui v128
  let v130 : BitVec 32 := Scalar.subi v127 v129
  let c512_i32_57 : BitVec 32 := 512#32
  let c0_i32_60 : BitVec 32 := 0#32
  let v131 : BitVec 1 := Scalar.cmpi .sgt c512_i32_57 c0_i32_60
  let v132 : BitVec 32 := Scalar.extui v131
  let c0_i32_61 : BitVec 32 := 0#32
  let v133 : BitVec 1 := Scalar.cmpi .slt c512_i32_57 c0_i32_61
  let v134 : BitVec 32 := Scalar.extui v133
  let v135 : BitVec 32 := Scalar.subi v132 v134
  let v136 : BitVec 1 := Scalar.cmpi .ne v130 v135
  let v137 : BitVec 32 := Scalar.remsi v1 c512_i32_57
  let c0_i32_62 : BitVec 32 := 0#32
  let v138 : BitVec 1 := Scalar.cmpi .ne v137 c0_i32_62
  let v139 : BitVec 1 := Scalar.andi v136 v138
  let v125 : BitVec 32 := Scalar.divsi v1 c512_i32_57
  let c1_i32_63 : BitVec 32 := 1#32
  let v140 : BitVec 32 := Scalar.subi v125 c1_i32_63
  let v141 : BitVec 32 := Scalar.select v139 v140 v125
  let v168 : BitVec 32 := Scalar.subi v141 c0_i32_80
  let c1_i32_81 : BitVec 32 := 1#32
  let v170 : BitVec 32 := Scalar.divsi v168 c1_i32_81
  let v171 : BitVec 32 := Scalar.muli v170 c1_i32_81
  let v172 : BitVec 32 := Scalar.addi c0_i32_80 v171
  let c1_i32_83 : BitVec 32 := 1#32
  let arg8 : BitVec 32 := Scf.iv v172 c1_i32_83 k0_t2
  let c512_i32_99 : BitVec 32 := 512#32
  let v226 : BitVec 32 := Scalar.muli arg8 c512_i32_99
  let v227 : BitVec 32 := v226
  let v374 : Index := Scalar.indexCast v227
  let c128_167 : Index := 128#32
  ![0, v374.toNat, 128]
def k0_off15 (i : grid0.Coords) (k0_t2 : Fin (k0_t2_loop i).trips) : Fin 3 → Nat :=
  let c0_168 : Index := 0#32
  let c128_169 : Index := 128#32
  let c0_i32_80 : BitVec 32 := 0#32
  let c128_i32 : BitVec 32 := 128#32
  let arg2 : BitVec 32 := BitVec.ofNat 32 (i 2).val
  let c512_i32 : BitVec 32 := 512#32
  let v0 : BitVec 32 := Scalar.muli arg2 c512_i32
  let v1 : BitVec 32 := Scalar.addi c128_i32 v0
  let c0_i32_58 : BitVec 32 := 0#32
  let v126 : BitVec 1 := Scalar.cmpi .sgt v1 c0_i32_58
  let v127 : BitVec 32 := Scalar.extui v126
  let c0_i32_59 : BitVec 32 := 0#32
  let v128 : BitVec 1 := Scalar.cmpi .slt v1 c0_i32_59
  let v129 : BitVec 32 := Scalar.extui v128
  let v130 : BitVec 32 := Scalar.subi v127 v129
  let c512_i32_57 : BitVec 32 := 512#32
  let c0_i32_60 : BitVec 32 := 0#32
  let v131 : BitVec 1 := Scalar.cmpi .sgt c512_i32_57 c0_i32_60
  let v132 : BitVec 32 := Scalar.extui v131
  let c0_i32_61 : BitVec 32 := 0#32
  let v133 : BitVec 1 := Scalar.cmpi .slt c512_i32_57 c0_i32_61
  let v134 : BitVec 32 := Scalar.extui v133
  let v135 : BitVec 32 := Scalar.subi v132 v134
  let v136 : BitVec 1 := Scalar.cmpi .ne v130 v135
  let v137 : BitVec 32 := Scalar.remsi v1 c512_i32_57
  let c0_i32_62 : BitVec 32 := 0#32
  let v138 : BitVec 1 := Scalar.cmpi .ne v137 c0_i32_62
  let v139 : BitVec 1 := Scalar.andi v136 v138
  let v125 : BitVec 32 := Scalar.divsi v1 c512_i32_57
  let c1_i32_63 : BitVec 32 := 1#32
  let v140 : BitVec 32 := Scalar.subi v125 c1_i32_63
  let v141 : BitVec 32 := Scalar.select v139 v140 v125
  let v168 : BitVec 32 := Scalar.subi v141 c0_i32_80
  let c1_i32_81 : BitVec 32 := 1#32
  let v170 : BitVec 32 := Scalar.divsi v168 c1_i32_81
  let v171 : BitVec 32 := Scalar.muli v170 c1_i32_81
  let v172 : BitVec 32 := Scalar.addi c0_i32_80 v171
  let c1_i32_83 : BitVec 32 := 1#32
  let arg8 : BitVec 32 := Scf.iv v172 c1_i32_83 k0_t2
  let c512_i32_99 : BitVec 32 := 512#32
  let v226 : BitVec 32 := Scalar.muli arg8 c512_i32_99
  let v227 : BitVec 32 := v226
  let v377 : Index := Scalar.indexCast v227
  ![0, 128, v377.toNat]
def k0_off16 (i : grid0.Coords) (k0_t2 : Fin (k0_t2_loop i).trips) : Fin 3 → Nat :=
  let c0_182 : Index := 0#32
  let c0_i32_80 : BitVec 32 := 0#32
  let c128_i32 : BitVec 32 := 128#32
  let arg2 : BitVec 32 := BitVec.ofNat 32 (i 2).val
  let c512_i32 : BitVec 32 := 512#32
  let v0 : BitVec 32 := Scalar.muli arg2 c512_i32
  let v1 : BitVec 32 := Scalar.addi c128_i32 v0
  let c0_i32_58 : BitVec 32 := 0#32
  let v126 : BitVec 1 := Scalar.cmpi .sgt v1 c0_i32_58
  let v127 : BitVec 32 := Scalar.extui v126
  let c0_i32_59 : BitVec 32 := 0#32
  let v128 : BitVec 1 := Scalar.cmpi .slt v1 c0_i32_59
  let v129 : BitVec 32 := Scalar.extui v128
  let v130 : BitVec 32 := Scalar.subi v127 v129
  let c512_i32_57 : BitVec 32 := 512#32
  let c0_i32_60 : BitVec 32 := 0#32
  let v131 : BitVec 1 := Scalar.cmpi .sgt c512_i32_57 c0_i32_60
  let v132 : BitVec 32 := Scalar.extui v131
  let c0_i32_61 : BitVec 32 := 0#32
  let v133 : BitVec 1 := Scalar.cmpi .slt c512_i32_57 c0_i32_61
  let v134 : BitVec 32 := Scalar.extui v133
  let v135 : BitVec 32 := Scalar.subi v132 v134
  let v136 : BitVec 1 := Scalar.cmpi .ne v130 v135
  let v137 : BitVec 32 := Scalar.remsi v1 c512_i32_57
  let c0_i32_62 : BitVec 32 := 0#32
  let v138 : BitVec 1 := Scalar.cmpi .ne v137 c0_i32_62
  let v139 : BitVec 1 := Scalar.andi v136 v138
  let v125 : BitVec 32 := Scalar.divsi v1 c512_i32_57
  let c1_i32_63 : BitVec 32 := 1#32
  let v140 : BitVec 32 := Scalar.subi v125 c1_i32_63
  let v141 : BitVec 32 := Scalar.select v139 v140 v125
  let v168 : BitVec 32 := Scalar.subi v141 c0_i32_80
  let c1_i32_81 : BitVec 32 := 1#32
  let v170 : BitVec 32 := Scalar.divsi v168 c1_i32_81
  let v171 : BitVec 32 := Scalar.muli v170 c1_i32_81
  let v172 : BitVec 32 := Scalar.addi c0_i32_80 v171
  let c1_i32_83 : BitVec 32 := 1#32
  let arg8 : BitVec 32 := Scf.iv v172 c1_i32_83 k0_t2
  let c512_i32_99 : BitVec 32 := 512#32
  let v226 : BitVec 32 := Scalar.muli arg8 c512_i32_99
  let v227 : BitVec 32 := v226
  let v436 : Index := Scalar.indexCast v227
  let c256_183 : Index := 256#32
  ![0, v436.toNat, 256]
def k0_off17 (i : grid0.Coords) (k0_t2 : Fin (k0_t2_loop i).trips) : Fin 3 → Nat :=
  let c0_184 : Index := 0#32
  let c256_185 : Index := 256#32
  let c0_i32_80 : BitVec 32 := 0#32
  let c128_i32 : BitVec 32 := 128#32
  let arg2 : BitVec 32 := BitVec.ofNat 32 (i 2).val
  let c512_i32 : BitVec 32 := 512#32
  let v0 : BitVec 32 := Scalar.muli arg2 c512_i32
  let v1 : BitVec 32 := Scalar.addi c128_i32 v0
  let c0_i32_58 : BitVec 32 := 0#32
  let v126 : BitVec 1 := Scalar.cmpi .sgt v1 c0_i32_58
  let v127 : BitVec 32 := Scalar.extui v126
  let c0_i32_59 : BitVec 32 := 0#32
  let v128 : BitVec 1 := Scalar.cmpi .slt v1 c0_i32_59
  let v129 : BitVec 32 := Scalar.extui v128
  let v130 : BitVec 32 := Scalar.subi v127 v129
  let c512_i32_57 : BitVec 32 := 512#32
  let c0_i32_60 : BitVec 32 := 0#32
  let v131 : BitVec 1 := Scalar.cmpi .sgt c512_i32_57 c0_i32_60
  let v132 : BitVec 32 := Scalar.extui v131
  let c0_i32_61 : BitVec 32 := 0#32
  let v133 : BitVec 1 := Scalar.cmpi .slt c512_i32_57 c0_i32_61
  let v134 : BitVec 32 := Scalar.extui v133
  let v135 : BitVec 32 := Scalar.subi v132 v134
  let v136 : BitVec 1 := Scalar.cmpi .ne v130 v135
  let v137 : BitVec 32 := Scalar.remsi v1 c512_i32_57
  let c0_i32_62 : BitVec 32 := 0#32
  let v138 : BitVec 1 := Scalar.cmpi .ne v137 c0_i32_62
  let v139 : BitVec 1 := Scalar.andi v136 v138
  let v125 : BitVec 32 := Scalar.divsi v1 c512_i32_57
  let c1_i32_63 : BitVec 32 := 1#32
  let v140 : BitVec 32 := Scalar.subi v125 c1_i32_63
  let v141 : BitVec 32 := Scalar.select v139 v140 v125
  let v168 : BitVec 32 := Scalar.subi v141 c0_i32_80
  let c1_i32_81 : BitVec 32 := 1#32
  let v170 : BitVec 32 := Scalar.divsi v168 c1_i32_81
  let v171 : BitVec 32 := Scalar.muli v170 c1_i32_81
  let v172 : BitVec 32 := Scalar.addi c0_i32_80 v171
  let c1_i32_83 : BitVec 32 := 1#32
  let arg8 : BitVec 32 := Scf.iv v172 c1_i32_83 k0_t2
  let c512_i32_99 : BitVec 32 := 512#32
  let v226 : BitVec 32 := Scalar.muli arg8 c512_i32_99
  let v227 : BitVec 32 := v226
  let v439 : Index := Scalar.indexCast v227
  ![0, 256, v439.toNat]
def k0_off18 (i : grid0.Coords) (k0_t2 : Fin (k0_t2_loop i).trips) : Fin 3 → Nat :=
  let c0_198 : Index := 0#32
  let c0_i32_80 : BitVec 32 := 0#32
  let c128_i32 : BitVec 32 := 128#32
  let arg2 : BitVec 32 := BitVec.ofNat 32 (i 2).val
  let c512_i32 : BitVec 32 := 512#32
  let v0 : BitVec 32 := Scalar.muli arg2 c512_i32
  let v1 : BitVec 32 := Scalar.addi c128_i32 v0
  let c0_i32_58 : BitVec 32 := 0#32
  let v126 : BitVec 1 := Scalar.cmpi .sgt v1 c0_i32_58
  let v127 : BitVec 32 := Scalar.extui v126
  let c0_i32_59 : BitVec 32 := 0#32
  let v128 : BitVec 1 := Scalar.cmpi .slt v1 c0_i32_59
  let v129 : BitVec 32 := Scalar.extui v128
  let v130 : BitVec 32 := Scalar.subi v127 v129
  let c512_i32_57 : BitVec 32 := 512#32
  let c0_i32_60 : BitVec 32 := 0#32
  let v131 : BitVec 1 := Scalar.cmpi .sgt c512_i32_57 c0_i32_60
  let v132 : BitVec 32 := Scalar.extui v131
  let c0_i32_61 : BitVec 32 := 0#32
  let v133 : BitVec 1 := Scalar.cmpi .slt c512_i32_57 c0_i32_61
  let v134 : BitVec 32 := Scalar.extui v133
  let v135 : BitVec 32 := Scalar.subi v132 v134
  let v136 : BitVec 1 := Scalar.cmpi .ne v130 v135
  let v137 : BitVec 32 := Scalar.remsi v1 c512_i32_57
  let c0_i32_62 : BitVec 32 := 0#32
  let v138 : BitVec 1 := Scalar.cmpi .ne v137 c0_i32_62
  let v139 : BitVec 1 := Scalar.andi v136 v138
  let v125 : BitVec 32 := Scalar.divsi v1 c512_i32_57
  let c1_i32_63 : BitVec 32 := 1#32
  let v140 : BitVec 32 := Scalar.subi v125 c1_i32_63
  let v141 : BitVec 32 := Scalar.select v139 v140 v125
  let v168 : BitVec 32 := Scalar.subi v141 c0_i32_80
  let c1_i32_81 : BitVec 32 := 1#32
  let v170 : BitVec 32 := Scalar.divsi v168 c1_i32_81
  let v171 : BitVec 32 := Scalar.muli v170 c1_i32_81
  let v172 : BitVec 32 := Scalar.addi c0_i32_80 v171
  let c1_i32_83 : BitVec 32 := 1#32
  let arg8 : BitVec 32 := Scf.iv v172 c1_i32_83 k0_t2
  let c512_i32_99 : BitVec 32 := 512#32
  let v226 : BitVec 32 := Scalar.muli arg8 c512_i32_99
  let v227 : BitVec 32 := v226
  let v498 : Index := Scalar.indexCast v227
  let c384_199 : Index := 384#32
  ![0, v498.toNat, 384]
def k0_off19 (i : grid0.Coords) (k0_t2 : Fin (k0_t2_loop i).trips) : Fin 3 → Nat :=
  let c0_200 : Index := 0#32
  let c384_201 : Index := 384#32
  let c0_i32_80 : BitVec 32 := 0#32
  let c128_i32 : BitVec 32 := 128#32
  let arg2 : BitVec 32 := BitVec.ofNat 32 (i 2).val
  let c512_i32 : BitVec 32 := 512#32
  let v0 : BitVec 32 := Scalar.muli arg2 c512_i32
  let v1 : BitVec 32 := Scalar.addi c128_i32 v0
  let c0_i32_58 : BitVec 32 := 0#32
  let v126 : BitVec 1 := Scalar.cmpi .sgt v1 c0_i32_58
  let v127 : BitVec 32 := Scalar.extui v126
  let c0_i32_59 : BitVec 32 := 0#32
  let v128 : BitVec 1 := Scalar.cmpi .slt v1 c0_i32_59
  let v129 : BitVec 32 := Scalar.extui v128
  let v130 : BitVec 32 := Scalar.subi v127 v129
  let c512_i32_57 : BitVec 32 := 512#32
  let c0_i32_60 : BitVec 32 := 0#32
  let v131 : BitVec 1 := Scalar.cmpi .sgt c512_i32_57 c0_i32_60
  let v132 : BitVec 32 := Scalar.extui v131
  let c0_i32_61 : BitVec 32 := 0#32
  let v133 : BitVec 1 := Scalar.cmpi .slt c512_i32_57 c0_i32_61
  let v134 : BitVec 32 := Scalar.extui v133
  let v135 : BitVec 32 := Scalar.subi v132 v134
  let v136 : BitVec 1 := Scalar.cmpi .ne v130 v135
  let v137 : BitVec 32 := Scalar.remsi v1 c512_i32_57
  let c0_i32_62 : BitVec 32 := 0#32
  let v138 : BitVec 1 := Scalar.cmpi .ne v137 c0_i32_62
  let v139 : BitVec 1 := Scalar.andi v136 v138
  let v125 : BitVec 32 := Scalar.divsi v1 c512_i32_57
  let c1_i32_63 : BitVec 32 := 1#32
  let v140 : BitVec 32 := Scalar.subi v125 c1_i32_63
  let v141 : BitVec 32 := Scalar.select v139 v140 v125
  let v168 : BitVec 32 := Scalar.subi v141 c0_i32_80
  let c1_i32_81 : BitVec 32 := 1#32
  let v170 : BitVec 32 := Scalar.divsi v168 c1_i32_81
  let v171 : BitVec 32 := Scalar.muli v170 c1_i32_81
  let v172 : BitVec 32 := Scalar.addi c0_i32_80 v171
  let c1_i32_83 : BitVec 32 := 1#32
  let arg8 : BitVec 32 := Scf.iv v172 c1_i32_83 k0_t2
  let c512_i32_99 : BitVec 32 := 512#32
  let v226 : BitVec 32 := Scalar.muli arg8 c512_i32_99
  let v227 : BitVec 32 := v226
  let v501 : Index := Scalar.indexCast v227
  ![0, 384, v501.toNat]
@[reducible] def k0_t3_loop (i : grid0.Coords) : Scf.Loop 32 :=
  let c128_i32 : BitVec 32 := 128#32
  let arg2 : BitVec 32 := BitVec.ofNat 32 (i 2).val
  let c512_i32 : BitVec 32 := 512#32
  let v0 : BitVec 32 := Scalar.muli arg2 c512_i32
  let v1 : BitVec 32 := Scalar.addi c128_i32 v0
  let c0_i32_58 : BitVec 32 := 0#32
  let v126 : BitVec 1 := Scalar.cmpi .sgt v1 c0_i32_58
  let v127 : BitVec 32 := Scalar.extui v126
  let c0_i32_59 : BitVec 32 := 0#32
  let v128 : BitVec 1 := Scalar.cmpi .slt v1 c0_i32_59
  let v129 : BitVec 32 := Scalar.extui v128
  let v130 : BitVec 32 := Scalar.subi v127 v129
  let c512_i32_57 : BitVec 32 := 512#32
  let c0_i32_60 : BitVec 32 := 0#32
  let v131 : BitVec 1 := Scalar.cmpi .sgt c512_i32_57 c0_i32_60
  let v132 : BitVec 32 := Scalar.extui v131
  let c0_i32_61 : BitVec 32 := 0#32
  let v133 : BitVec 1 := Scalar.cmpi .slt c512_i32_57 c0_i32_61
  let v134 : BitVec 32 := Scalar.extui v133
  let v135 : BitVec 32 := Scalar.subi v132 v134
  let v136 : BitVec 1 := Scalar.cmpi .ne v130 v135
  let v137 : BitVec 32 := Scalar.remsi v1 c512_i32_57
  let c0_i32_62 : BitVec 32 := 0#32
  let v138 : BitVec 1 := Scalar.cmpi .ne v137 c0_i32_62
  let v139 : BitVec 1 := Scalar.andi v136 v138
  let v125 : BitVec 32 := Scalar.divsi v1 c512_i32_57
  let c1_i32_63 : BitVec 32 := 1#32
  let v140 : BitVec 32 := Scalar.subi v125 c1_i32_63
  let v141 : BitVec 32 := Scalar.select v139 v140 v125
  let c512_i32_64 : BitVec 32 := 512#32
  let v142 : BitVec 32 := Scalar.addi v1 c512_i32_64
  let c512_i32_65 : BitVec 32 := 512#32
  let v143 : BitVec 32 := Scalar.addi v142 c512_i32_65
  let c1_i32_66 : BitVec 32 := 1#32
  let v144 : BitVec 32 := Scalar.subi v143 c1_i32_66
  let c0_i32_68 : BitVec 32 := 0#32
  let v146 : BitVec 1 := Scalar.cmpi .sgt v144 c0_i32_68
  let v147 : BitVec 32 := Scalar.extui v146
  let c0_i32_69 : BitVec 32 := 0#32
  let v148 : BitVec 1 := Scalar.cmpi .slt v144 c0_i32_69
  let v149 : BitVec 32 := Scalar.extui v148
  let v150 : BitVec 32 := Scalar.subi v147 v149
  let c512_i32_67 : BitVec 32 := 512#32
  let c0_i32_70 : BitVec 32 := 0#32
  let v151 : BitVec 1 := Scalar.cmpi .sgt c512_i32_67 c0_i32_70
  let v152 : BitVec 32 := Scalar.extui v151
  let c0_i32_71 : BitVec 32 := 0#32
  let v153 : BitVec 1 := Scalar.cmpi .slt c512_i32_67 c0_i32_71
  let v154 : BitVec 32 := Scalar.extui v153
  let v155 : BitVec 32 := Scalar.subi v152 v154
  let v156 : BitVec 1 := Scalar.cmpi .ne v150 v155
  let v157 : BitVec 32 := Scalar.remsi v144 c512_i32_67
  let c0_i32_72 : BitVec 32 := 0#32
  let v158 : BitVec 1 := Scalar.cmpi .ne v157 c0_i32_72
  let v159 : BitVec 1 := Scalar.andi v156 v158
  let v145 : BitVec 32 := Scalar.divsi v144 c512_i32_67
  let c1_i32_73 : BitVec 32 := 1#32
  let v160 : BitVec 32 := Scalar.subi v145 c1_i32_73
  let v161 : BitVec 32 := Scalar.select v159 v160 v145
  let v175 : BitVec 32 := Scalar.subi v161 v141
  let c1_i32_84 : BitVec 32 := 1#32
  let v177 : BitVec 32 := Scalar.divsi v175 c1_i32_84
  let v178 : BitVec 32 := Scalar.muli v177 c1_i32_84
  let v179 : BitVec 32 := Scalar.addi v141 v178
  let c1_i32_85 : BitVec 32 := 1#32
  ⟨v141, v179, c1_i32_85⟩
def k0_mult4 (i : grid0.Coords) (k0_t3 : Fin (k0_t3_loop i).trips) : BitVec 32 :=
  let c128_i32 : BitVec 32 := 128#32
  let arg2 : BitVec 32 := BitVec.ofNat 32 (i 2).val
  let c512_i32 : BitVec 32 := 512#32
  let v0 : BitVec 32 := Scalar.muli arg2 c512_i32
  let v1 : BitVec 32 := Scalar.addi c128_i32 v0
  let c0_i32_58 : BitVec 32 := 0#32
  let v126 : BitVec 1 := Scalar.cmpi .sgt v1 c0_i32_58
  let v127 : BitVec 32 := Scalar.extui v126
  let c0_i32_59 : BitVec 32 := 0#32
  let v128 : BitVec 1 := Scalar.cmpi .slt v1 c0_i32_59
  let v129 : BitVec 32 := Scalar.extui v128
  let v130 : BitVec 32 := Scalar.subi v127 v129
  let c512_i32_57 : BitVec 32 := 512#32
  let c0_i32_60 : BitVec 32 := 0#32
  let v131 : BitVec 1 := Scalar.cmpi .sgt c512_i32_57 c0_i32_60
  let v132 : BitVec 32 := Scalar.extui v131
  let c0_i32_61 : BitVec 32 := 0#32
  let v133 : BitVec 1 := Scalar.cmpi .slt c512_i32_57 c0_i32_61
  let v134 : BitVec 32 := Scalar.extui v133
  let v135 : BitVec 32 := Scalar.subi v132 v134
  let v136 : BitVec 1 := Scalar.cmpi .ne v130 v135
  let v137 : BitVec 32 := Scalar.remsi v1 c512_i32_57
  let c0_i32_62 : BitVec 32 := 0#32
  let v138 : BitVec 1 := Scalar.cmpi .ne v137 c0_i32_62
  let v139 : BitVec 1 := Scalar.andi v136 v138
  let v125 : BitVec 32 := Scalar.divsi v1 c512_i32_57
  let c1_i32_63 : BitVec 32 := 1#32
  let v140 : BitVec 32 := Scalar.subi v125 c1_i32_63
  let v141 : BitVec 32 := Scalar.select v139 v140 v125
  let c1_i32_85 : BitVec 32 := 1#32
  let arg8 : BitVec 32 := Scf.iv v141 c1_i32_85 k0_t3
  let c512_i32_99 : BitVec 32 := 512#32
  let v226 : BitVec 32 := Scalar.muli arg8 c512_i32_99
  v226
def k0_off20 (i : grid0.Coords) (k0_t3 : Fin (k0_t3_loop i).trips) : Fin 3 → Nat :=
  let c0_100 : Index := 0#32
  let c128_i32 : BitVec 32 := 128#32
  let arg2 : BitVec 32 := BitVec.ofNat 32 (i 2).val
  let c512_i32 : BitVec 32 := 512#32
  let v0 : BitVec 32 := Scalar.muli arg2 c512_i32
  let v1 : BitVec 32 := Scalar.addi c128_i32 v0
  let c0_i32_58 : BitVec 32 := 0#32
  let v126 : BitVec 1 := Scalar.cmpi .sgt v1 c0_i32_58
  let v127 : BitVec 32 := Scalar.extui v126
  let c0_i32_59 : BitVec 32 := 0#32
  let v128 : BitVec 1 := Scalar.cmpi .slt v1 c0_i32_59
  let v129 : BitVec 32 := Scalar.extui v128
  let v130 : BitVec 32 := Scalar.subi v127 v129
  let c512_i32_57 : BitVec 32 := 512#32
  let c0_i32_60 : BitVec 32 := 0#32
  let v131 : BitVec 1 := Scalar.cmpi .sgt c512_i32_57 c0_i32_60
  let v132 : BitVec 32 := Scalar.extui v131
  let c0_i32_61 : BitVec 32 := 0#32
  let v133 : BitVec 1 := Scalar.cmpi .slt c512_i32_57 c0_i32_61
  let v134 : BitVec 32 := Scalar.extui v133
  let v135 : BitVec 32 := Scalar.subi v132 v134
  let v136 : BitVec 1 := Scalar.cmpi .ne v130 v135
  let v137 : BitVec 32 := Scalar.remsi v1 c512_i32_57
  let c0_i32_62 : BitVec 32 := 0#32
  let v138 : BitVec 1 := Scalar.cmpi .ne v137 c0_i32_62
  let v139 : BitVec 1 := Scalar.andi v136 v138
  let v125 : BitVec 32 := Scalar.divsi v1 c512_i32_57
  let c1_i32_63 : BitVec 32 := 1#32
  let v140 : BitVec 32 := Scalar.subi v125 c1_i32_63
  let v141 : BitVec 32 := Scalar.select v139 v140 v125
  let c1_i32_85 : BitVec 32 := 1#32
  let arg8 : BitVec 32 := Scf.iv v141 c1_i32_85 k0_t3
  let c512_i32_99 : BitVec 32 := 512#32
  let v226 : BitVec 32 := Scalar.muli arg8 c512_i32_99
  let v227 : BitVec 32 := v226
  let v228 : Index := Scalar.indexCast v227
  let c0_101 : Index := 0#32
  ![0, v228.toNat, 0]
def k0_off21 (i : grid0.Coords) (k0_t3 : Fin (k0_t3_loop i).trips) : Fin 3 → Nat :=
  let c0_150 : Index := 0#32
  let c128_i32 : BitVec 32 := 128#32
  let arg2 : BitVec 32 := BitVec.ofNat 32 (i 2).val
  let c512_i32 : BitVec 32 := 512#32
  let v0 : BitVec 32 := Scalar.muli arg2 c512_i32
  let v1 : BitVec 32 := Scalar.addi c128_i32 v0
  let c0_i32_58 : BitVec 32 := 0#32
  let v126 : BitVec 1 := Scalar.cmpi .sgt v1 c0_i32_58
  let v127 : BitVec 32 := Scalar.extui v126
  let c0_i32_59 : BitVec 32 := 0#32
  let v128 : BitVec 1 := Scalar.cmpi .slt v1 c0_i32_59
  let v129 : BitVec 32 := Scalar.extui v128
  let v130 : BitVec 32 := Scalar.subi v127 v129
  let c512_i32_57 : BitVec 32 := 512#32
  let c0_i32_60 : BitVec 32 := 0#32
  let v131 : BitVec 1 := Scalar.cmpi .sgt c512_i32_57 c0_i32_60
  let v132 : BitVec 32 := Scalar.extui v131
  let c0_i32_61 : BitVec 32 := 0#32
  let v133 : BitVec 1 := Scalar.cmpi .slt c512_i32_57 c0_i32_61
  let v134 : BitVec 32 := Scalar.extui v133
  let v135 : BitVec 32 := Scalar.subi v132 v134
  let v136 : BitVec 1 := Scalar.cmpi .ne v130 v135
  let v137 : BitVec 32 := Scalar.remsi v1 c512_i32_57
  let c0_i32_62 : BitVec 32 := 0#32
  let v138 : BitVec 1 := Scalar.cmpi .ne v137 c0_i32_62
  let v139 : BitVec 1 := Scalar.andi v136 v138
  let v125 : BitVec 32 := Scalar.divsi v1 c512_i32_57
  let c1_i32_63 : BitVec 32 := 1#32
  let v140 : BitVec 32 := Scalar.subi v125 c1_i32_63
  let v141 : BitVec 32 := Scalar.select v139 v140 v125
  let c1_i32_85 : BitVec 32 := 1#32
  let arg8 : BitVec 32 := Scf.iv v141 c1_i32_85 k0_t3
  let c512_i32_99 : BitVec 32 := 512#32
  let v226 : BitVec 32 := Scalar.muli arg8 c512_i32_99
  let v227 : BitVec 32 := v226
  let v312 : Index := Scalar.indexCast v227
  let c0_151 : Index := 0#32
  ![0, v312.toNat, 0]
def k0_off22 (i : grid0.Coords) (k0_t3 : Fin (k0_t3_loop i).trips) : Fin 3 → Nat :=
  let c0_152 : Index := 0#32
  let c0_153 : Index := 0#32
  let c128_i32 : BitVec 32 := 128#32
  let arg2 : BitVec 32 := BitVec.ofNat 32 (i 2).val
  let c512_i32 : BitVec 32 := 512#32
  let v0 : BitVec 32 := Scalar.muli arg2 c512_i32
  let v1 : BitVec 32 := Scalar.addi c128_i32 v0
  let c0_i32_58 : BitVec 32 := 0#32
  let v126 : BitVec 1 := Scalar.cmpi .sgt v1 c0_i32_58
  let v127 : BitVec 32 := Scalar.extui v126
  let c0_i32_59 : BitVec 32 := 0#32
  let v128 : BitVec 1 := Scalar.cmpi .slt v1 c0_i32_59
  let v129 : BitVec 32 := Scalar.extui v128
  let v130 : BitVec 32 := Scalar.subi v127 v129
  let c512_i32_57 : BitVec 32 := 512#32
  let c0_i32_60 : BitVec 32 := 0#32
  let v131 : BitVec 1 := Scalar.cmpi .sgt c512_i32_57 c0_i32_60
  let v132 : BitVec 32 := Scalar.extui v131
  let c0_i32_61 : BitVec 32 := 0#32
  let v133 : BitVec 1 := Scalar.cmpi .slt c512_i32_57 c0_i32_61
  let v134 : BitVec 32 := Scalar.extui v133
  let v135 : BitVec 32 := Scalar.subi v132 v134
  let v136 : BitVec 1 := Scalar.cmpi .ne v130 v135
  let v137 : BitVec 32 := Scalar.remsi v1 c512_i32_57
  let c0_i32_62 : BitVec 32 := 0#32
  let v138 : BitVec 1 := Scalar.cmpi .ne v137 c0_i32_62
  let v139 : BitVec 1 := Scalar.andi v136 v138
  let v125 : BitVec 32 := Scalar.divsi v1 c512_i32_57
  let c1_i32_63 : BitVec 32 := 1#32
  let v140 : BitVec 32 := Scalar.subi v125 c1_i32_63
  let v141 : BitVec 32 := Scalar.select v139 v140 v125
  let c1_i32_85 : BitVec 32 := 1#32
  let arg8 : BitVec 32 := Scf.iv v141 c1_i32_85 k0_t3
  let c512_i32_99 : BitVec 32 := 512#32
  let v226 : BitVec 32 := Scalar.muli arg8 c512_i32_99
  let v227 : BitVec 32 := v226
  let v315 : Index := Scalar.indexCast v227
  ![0, 0, v315.toNat]
def k0_off23 (i : grid0.Coords) (k0_t3 : Fin (k0_t3_loop i).trips) : Fin 3 → Nat :=
  let c0_168 : Index := 0#32
  let c128_i32 : BitVec 32 := 128#32
  let arg2 : BitVec 32 := BitVec.ofNat 32 (i 2).val
  let c512_i32 : BitVec 32 := 512#32
  let v0 : BitVec 32 := Scalar.muli arg2 c512_i32
  let v1 : BitVec 32 := Scalar.addi c128_i32 v0
  let c0_i32_58 : BitVec 32 := 0#32
  let v126 : BitVec 1 := Scalar.cmpi .sgt v1 c0_i32_58
  let v127 : BitVec 32 := Scalar.extui v126
  let c0_i32_59 : BitVec 32 := 0#32
  let v128 : BitVec 1 := Scalar.cmpi .slt v1 c0_i32_59
  let v129 : BitVec 32 := Scalar.extui v128
  let v130 : BitVec 32 := Scalar.subi v127 v129
  let c512_i32_57 : BitVec 32 := 512#32
  let c0_i32_60 : BitVec 32 := 0#32
  let v131 : BitVec 1 := Scalar.cmpi .sgt c512_i32_57 c0_i32_60
  let v132 : BitVec 32 := Scalar.extui v131
  let c0_i32_61 : BitVec 32 := 0#32
  let v133 : BitVec 1 := Scalar.cmpi .slt c512_i32_57 c0_i32_61
  let v134 : BitVec 32 := Scalar.extui v133
  let v135 : BitVec 32 := Scalar.subi v132 v134
  let v136 : BitVec 1 := Scalar.cmpi .ne v130 v135
  let v137 : BitVec 32 := Scalar.remsi v1 c512_i32_57
  let c0_i32_62 : BitVec 32 := 0#32
  let v138 : BitVec 1 := Scalar.cmpi .ne v137 c0_i32_62
  let v139 : BitVec 1 := Scalar.andi v136 v138
  let v125 : BitVec 32 := Scalar.divsi v1 c512_i32_57
  let c1_i32_63 : BitVec 32 := 1#32
  let v140 : BitVec 32 := Scalar.subi v125 c1_i32_63
  let v141 : BitVec 32 := Scalar.select v139 v140 v125
  let c1_i32_85 : BitVec 32 := 1#32
  let arg8 : BitVec 32 := Scf.iv v141 c1_i32_85 k0_t3
  let c512_i32_99 : BitVec 32 := 512#32
  let v226 : BitVec 32 := Scalar.muli arg8 c512_i32_99
  let v227 : BitVec 32 := v226
  let v384 : Index := Scalar.indexCast v227
  let c128_169 : Index := 128#32
  ![0, v384.toNat, 128]
def k0_off24 (i : grid0.Coords) (k0_t3 : Fin (k0_t3_loop i).trips) : Fin 3 → Nat :=
  let c0_170 : Index := 0#32
  let c128_171 : Index := 128#32
  let c128_i32 : BitVec 32 := 128#32
  let arg2 : BitVec 32 := BitVec.ofNat 32 (i 2).val
  let c512_i32 : BitVec 32 := 512#32
  let v0 : BitVec 32 := Scalar.muli arg2 c512_i32
  let v1 : BitVec 32 := Scalar.addi c128_i32 v0
  let c0_i32_58 : BitVec 32 := 0#32
  let v126 : BitVec 1 := Scalar.cmpi .sgt v1 c0_i32_58
  let v127 : BitVec 32 := Scalar.extui v126
  let c0_i32_59 : BitVec 32 := 0#32
  let v128 : BitVec 1 := Scalar.cmpi .slt v1 c0_i32_59
  let v129 : BitVec 32 := Scalar.extui v128
  let v130 : BitVec 32 := Scalar.subi v127 v129
  let c512_i32_57 : BitVec 32 := 512#32
  let c0_i32_60 : BitVec 32 := 0#32
  let v131 : BitVec 1 := Scalar.cmpi .sgt c512_i32_57 c0_i32_60
  let v132 : BitVec 32 := Scalar.extui v131
  let c0_i32_61 : BitVec 32 := 0#32
  let v133 : BitVec 1 := Scalar.cmpi .slt c512_i32_57 c0_i32_61
  let v134 : BitVec 32 := Scalar.extui v133
  let v135 : BitVec 32 := Scalar.subi v132 v134
  let v136 : BitVec 1 := Scalar.cmpi .ne v130 v135
  let v137 : BitVec 32 := Scalar.remsi v1 c512_i32_57
  let c0_i32_62 : BitVec 32 := 0#32
  let v138 : BitVec 1 := Scalar.cmpi .ne v137 c0_i32_62
  let v139 : BitVec 1 := Scalar.andi v136 v138
  let v125 : BitVec 32 := Scalar.divsi v1 c512_i32_57
  let c1_i32_63 : BitVec 32 := 1#32
  let v140 : BitVec 32 := Scalar.subi v125 c1_i32_63
  let v141 : BitVec 32 := Scalar.select v139 v140 v125
  let c1_i32_85 : BitVec 32 := 1#32
  let arg8 : BitVec 32 := Scf.iv v141 c1_i32_85 k0_t3
  let c512_i32_99 : BitVec 32 := 512#32
  let v226 : BitVec 32 := Scalar.muli arg8 c512_i32_99
  let v227 : BitVec 32 := v226
  let v387 : Index := Scalar.indexCast v227
  ![0, 128, v387.toNat]
def k0_off25 (i : grid0.Coords) (k0_t3 : Fin (k0_t3_loop i).trips) : Fin 3 → Nat :=
  let c0_186 : Index := 0#32
  let c128_i32 : BitVec 32 := 128#32
  let arg2 : BitVec 32 := BitVec.ofNat 32 (i 2).val
  let c512_i32 : BitVec 32 := 512#32
  let v0 : BitVec 32 := Scalar.muli arg2 c512_i32
  let v1 : BitVec 32 := Scalar.addi c128_i32 v0
  let c0_i32_58 : BitVec 32 := 0#32
  let v126 : BitVec 1 := Scalar.cmpi .sgt v1 c0_i32_58
  let v127 : BitVec 32 := Scalar.extui v126
  let c0_i32_59 : BitVec 32 := 0#32
  let v128 : BitVec 1 := Scalar.cmpi .slt v1 c0_i32_59
  let v129 : BitVec 32 := Scalar.extui v128
  let v130 : BitVec 32 := Scalar.subi v127 v129
  let c512_i32_57 : BitVec 32 := 512#32
  let c0_i32_60 : BitVec 32 := 0#32
  let v131 : BitVec 1 := Scalar.cmpi .sgt c512_i32_57 c0_i32_60
  let v132 : BitVec 32 := Scalar.extui v131
  let c0_i32_61 : BitVec 32 := 0#32
  let v133 : BitVec 1 := Scalar.cmpi .slt c512_i32_57 c0_i32_61
  let v134 : BitVec 32 := Scalar.extui v133
  let v135 : BitVec 32 := Scalar.subi v132 v134
  let v136 : BitVec 1 := Scalar.cmpi .ne v130 v135
  let v137 : BitVec 32 := Scalar.remsi v1 c512_i32_57
  let c0_i32_62 : BitVec 32 := 0#32
  let v138 : BitVec 1 := Scalar.cmpi .ne v137 c0_i32_62
  let v139 : BitVec 1 := Scalar.andi v136 v138
  let v125 : BitVec 32 := Scalar.divsi v1 c512_i32_57
  let c1_i32_63 : BitVec 32 := 1#32
  let v140 : BitVec 32 := Scalar.subi v125 c1_i32_63
  let v141 : BitVec 32 := Scalar.select v139 v140 v125
  let c1_i32_85 : BitVec 32 := 1#32
  let arg8 : BitVec 32 := Scf.iv v141 c1_i32_85 k0_t3
  let c512_i32_99 : BitVec 32 := 512#32
  let v226 : BitVec 32 := Scalar.muli arg8 c512_i32_99
  let v227 : BitVec 32 := v226
  let v456 : Index := Scalar.indexCast v227
  let c256_187 : Index := 256#32
  ![0, v456.toNat, 256]
def k0_off26 (i : grid0.Coords) (k0_t3 : Fin (k0_t3_loop i).trips) : Fin 3 → Nat :=
  let c0_188 : Index := 0#32
  let c256_189 : Index := 256#32
  let c128_i32 : BitVec 32 := 128#32
  let arg2 : BitVec 32 := BitVec.ofNat 32 (i 2).val
  let c512_i32 : BitVec 32 := 512#32
  let v0 : BitVec 32 := Scalar.muli arg2 c512_i32
  let v1 : BitVec 32 := Scalar.addi c128_i32 v0
  let c0_i32_58 : BitVec 32 := 0#32
  let v126 : BitVec 1 := Scalar.cmpi .sgt v1 c0_i32_58
  let v127 : BitVec 32 := Scalar.extui v126
  let c0_i32_59 : BitVec 32 := 0#32
  let v128 : BitVec 1 := Scalar.cmpi .slt v1 c0_i32_59
  let v129 : BitVec 32 := Scalar.extui v128
  let v130 : BitVec 32 := Scalar.subi v127 v129
  let c512_i32_57 : BitVec 32 := 512#32
  let c0_i32_60 : BitVec 32 := 0#32
  let v131 : BitVec 1 := Scalar.cmpi .sgt c512_i32_57 c0_i32_60
  let v132 : BitVec 32 := Scalar.extui v131
  let c0_i32_61 : BitVec 32 := 0#32
  let v133 : BitVec 1 := Scalar.cmpi .slt c512_i32_57 c0_i32_61
  let v134 : BitVec 32 := Scalar.extui v133
  let v135 : BitVec 32 := Scalar.subi v132 v134
  let v136 : BitVec 1 := Scalar.cmpi .ne v130 v135
  let v137 : BitVec 32 := Scalar.remsi v1 c512_i32_57
  let c0_i32_62 : BitVec 32 := 0#32
  let v138 : BitVec 1 := Scalar.cmpi .ne v137 c0_i32_62
  let v139 : BitVec 1 := Scalar.andi v136 v138
  let v125 : BitVec 32 := Scalar.divsi v1 c512_i32_57
  let c1_i32_63 : BitVec 32 := 1#32
  let v140 : BitVec 32 := Scalar.subi v125 c1_i32_63
  let v141 : BitVec 32 := Scalar.select v139 v140 v125
  let c1_i32_85 : BitVec 32 := 1#32
  let arg8 : BitVec 32 := Scf.iv v141 c1_i32_85 k0_t3
  let c512_i32_99 : BitVec 32 := 512#32
  let v226 : BitVec 32 := Scalar.muli arg8 c512_i32_99
  let v227 : BitVec 32 := v226
  let v459 : Index := Scalar.indexCast v227
  ![0, 256, v459.toNat]
def k0_off27 (i : grid0.Coords) (k0_t3 : Fin (k0_t3_loop i).trips) : Fin 3 → Nat :=
  let c0_204 : Index := 0#32
  let c128_i32 : BitVec 32 := 128#32
  let arg2 : BitVec 32 := BitVec.ofNat 32 (i 2).val
  let c512_i32 : BitVec 32 := 512#32
  let v0 : BitVec 32 := Scalar.muli arg2 c512_i32
  let v1 : BitVec 32 := Scalar.addi c128_i32 v0
  let c0_i32_58 : BitVec 32 := 0#32
  let v126 : BitVec 1 := Scalar.cmpi .sgt v1 c0_i32_58
  let v127 : BitVec 32 := Scalar.extui v126
  let c0_i32_59 : BitVec 32 := 0#32
  let v128 : BitVec 1 := Scalar.cmpi .slt v1 c0_i32_59
  let v129 : BitVec 32 := Scalar.extui v128
  let v130 : BitVec 32 := Scalar.subi v127 v129
  let c512_i32_57 : BitVec 32 := 512#32
  let c0_i32_60 : BitVec 32 := 0#32
  let v131 : BitVec 1 := Scalar.cmpi .sgt c512_i32_57 c0_i32_60
  let v132 : BitVec 32 := Scalar.extui v131
  let c0_i32_61 : BitVec 32 := 0#32
  let v133 : BitVec 1 := Scalar.cmpi .slt c512_i32_57 c0_i32_61
  let v134 : BitVec 32 := Scalar.extui v133
  let v135 : BitVec 32 := Scalar.subi v132 v134
  let v136 : BitVec 1 := Scalar.cmpi .ne v130 v135
  let v137 : BitVec 32 := Scalar.remsi v1 c512_i32_57
  let c0_i32_62 : BitVec 32 := 0#32
  let v138 : BitVec 1 := Scalar.cmpi .ne v137 c0_i32_62
  let v139 : BitVec 1 := Scalar.andi v136 v138
  let v125 : BitVec 32 := Scalar.divsi v1 c512_i32_57
  let c1_i32_63 : BitVec 32 := 1#32
  let v140 : BitVec 32 := Scalar.subi v125 c1_i32_63
  let v141 : BitVec 32 := Scalar.select v139 v140 v125
  let c1_i32_85 : BitVec 32 := 1#32
  let arg8 : BitVec 32 := Scf.iv v141 c1_i32_85 k0_t3
  let c512_i32_99 : BitVec 32 := 512#32
  let v226 : BitVec 32 := Scalar.muli arg8 c512_i32_99
  let v227 : BitVec 32 := v226
  let v528 : Index := Scalar.indexCast v227
  let c384_205 : Index := 384#32
  ![0, v528.toNat, 384]
def k0_off28 (i : grid0.Coords) (k0_t3 : Fin (k0_t3_loop i).trips) : Fin 3 → Nat :=
  let c0_206 : Index := 0#32
  let c384_207 : Index := 384#32
  let c128_i32 : BitVec 32 := 128#32
  let arg2 : BitVec 32 := BitVec.ofNat 32 (i 2).val
  let c512_i32 : BitVec 32 := 512#32
  let v0 : BitVec 32 := Scalar.muli arg2 c512_i32
  let v1 : BitVec 32 := Scalar.addi c128_i32 v0
  let c0_i32_58 : BitVec 32 := 0#32
  let v126 : BitVec 1 := Scalar.cmpi .sgt v1 c0_i32_58
  let v127 : BitVec 32 := Scalar.extui v126
  let c0_i32_59 : BitVec 32 := 0#32
  let v128 : BitVec 1 := Scalar.cmpi .slt v1 c0_i32_59
  let v129 : BitVec 32 := Scalar.extui v128
  let v130 : BitVec 32 := Scalar.subi v127 v129
  let c512_i32_57 : BitVec 32 := 512#32
  let c0_i32_60 : BitVec 32 := 0#32
  let v131 : BitVec 1 := Scalar.cmpi .sgt c512_i32_57 c0_i32_60
  let v132 : BitVec 32 := Scalar.extui v131
  let c0_i32_61 : BitVec 32 := 0#32
  let v133 : BitVec 1 := Scalar.cmpi .slt c512_i32_57 c0_i32_61
  let v134 : BitVec 32 := Scalar.extui v133
  let v135 : BitVec 32 := Scalar.subi v132 v134
  let v136 : BitVec 1 := Scalar.cmpi .ne v130 v135
  let v137 : BitVec 32 := Scalar.remsi v1 c512_i32_57
  let c0_i32_62 : BitVec 32 := 0#32
  let v138 : BitVec 1 := Scalar.cmpi .ne v137 c0_i32_62
  let v139 : BitVec 1 := Scalar.andi v136 v138
  let v125 : BitVec 32 := Scalar.divsi v1 c512_i32_57
  let c1_i32_63 : BitVec 32 := 1#32
  let v140 : BitVec 32 := Scalar.subi v125 c1_i32_63
  let v141 : BitVec 32 := Scalar.select v139 v140 v125
  let c1_i32_85 : BitVec 32 := 1#32
  let arg8 : BitVec 32 := Scf.iv v141 c1_i32_85 k0_t3
  let c512_i32_99 : BitVec 32 := 512#32
  let v226 : BitVec 32 := Scalar.muli arg8 c512_i32_99
  let v227 : BitVec 32 := v226
  let v531 : Index := Scalar.indexCast v227
  ![0, 384, v531.toNat]
@[reducible] def k0_t4_loop (i : grid0.Coords) : Scf.Loop 32 :=
  let c128_i32 : BitVec 32 := 128#32
  let arg2 : BitVec 32 := BitVec.ofNat 32 (i 2).val
  let c512_i32 : BitVec 32 := 512#32
  let v0 : BitVec 32 := Scalar.muli arg2 c512_i32
  let v1 : BitVec 32 := Scalar.addi c128_i32 v0
  let c0_i32_58 : BitVec 32 := 0#32
  let v126 : BitVec 1 := Scalar.cmpi .sgt v1 c0_i32_58
  let v127 : BitVec 32 := Scalar.extui v126
  let c0_i32_59 : BitVec 32 := 0#32
  let v128 : BitVec 1 := Scalar.cmpi .slt v1 c0_i32_59
  let v129 : BitVec 32 := Scalar.extui v128
  let v130 : BitVec 32 := Scalar.subi v127 v129
  let c512_i32_57 : BitVec 32 := 512#32
  let c0_i32_60 : BitVec 32 := 0#32
  let v131 : BitVec 1 := Scalar.cmpi .sgt c512_i32_57 c0_i32_60
  let v132 : BitVec 32 := Scalar.extui v131
  let c0_i32_61 : BitVec 32 := 0#32
  let v133 : BitVec 1 := Scalar.cmpi .slt c512_i32_57 c0_i32_61
  let v134 : BitVec 32 := Scalar.extui v133
  let v135 : BitVec 32 := Scalar.subi v132 v134
  let v136 : BitVec 1 := Scalar.cmpi .ne v130 v135
  let v137 : BitVec 32 := Scalar.remsi v1 c512_i32_57
  let c0_i32_62 : BitVec 32 := 0#32
  let v138 : BitVec 1 := Scalar.cmpi .ne v137 c0_i32_62
  let v139 : BitVec 1 := Scalar.andi v136 v138
  let v125 : BitVec 32 := Scalar.divsi v1 c512_i32_57
  let c1_i32_63 : BitVec 32 := 1#32
  let v140 : BitVec 32 := Scalar.subi v125 c1_i32_63
  let v141 : BitVec 32 := Scalar.select v139 v140 v125
  let c512_i32_64 : BitVec 32 := 512#32
  let v142 : BitVec 32 := Scalar.addi v1 c512_i32_64
  let c512_i32_65 : BitVec 32 := 512#32
  let v143 : BitVec 32 := Scalar.addi v142 c512_i32_65
  let c1_i32_66 : BitVec 32 := 1#32
  let v144 : BitVec 32 := Scalar.subi v143 c1_i32_66
  let c0_i32_68 : BitVec 32 := 0#32
  let v146 : BitVec 1 := Scalar.cmpi .sgt v144 c0_i32_68
  let v147 : BitVec 32 := Scalar.extui v146
  let c0_i32_69 : BitVec 32 := 0#32
  let v148 : BitVec 1 := Scalar.cmpi .slt v144 c0_i32_69
  let v149 : BitVec 32 := Scalar.extui v148
  let v150 : BitVec 32 := Scalar.subi v147 v149
  let c512_i32_67 : BitVec 32 := 512#32
  let c0_i32_70 : BitVec 32 := 0#32
  let v151 : BitVec 1 := Scalar.cmpi .sgt c512_i32_67 c0_i32_70
  let v152 : BitVec 32 := Scalar.extui v151
  let c0_i32_71 : BitVec 32 := 0#32
  let v153 : BitVec 1 := Scalar.cmpi .slt c512_i32_67 c0_i32_71
  let v154 : BitVec 32 := Scalar.extui v153
  let v155 : BitVec 32 := Scalar.subi v152 v154
  let v156 : BitVec 1 := Scalar.cmpi .ne v150 v155
  let v157 : BitVec 32 := Scalar.remsi v144 c512_i32_67
  let c0_i32_72 : BitVec 32 := 0#32
  let v158 : BitVec 1 := Scalar.cmpi .ne v157 c0_i32_72
  let v159 : BitVec 1 := Scalar.andi v156 v158
  let v145 : BitVec 32 := Scalar.divsi v144 c512_i32_67
  let c1_i32_73 : BitVec 32 := 1#32
  let v160 : BitVec 32 := Scalar.subi v145 c1_i32_73
  let v161 : BitVec 32 := Scalar.select v159 v160 v145
  let v175 : BitVec 32 := Scalar.subi v161 v141
  let c1_i32_84 : BitVec 32 := 1#32
  let v177 : BitVec 32 := Scalar.divsi v175 c1_i32_84
  let v178 : BitVec 32 := Scalar.muli v177 c1_i32_84
  let v179 : BitVec 32 := Scalar.addi v141 v178
  let v176 : BitVec 32 := Scalar.addi v141 v175
  let c1_i32_86 : BitVec 32 := 1#32
  ⟨v179, v176, c1_i32_86⟩
def k0_mult5 (i : grid0.Coords) (k0_t4 : Fin (k0_t4_loop i).trips) : BitVec 32 :=
  let c128_i32 : BitVec 32 := 128#32
  let arg2 : BitVec 32 := BitVec.ofNat 32 (i 2).val
  let c512_i32 : BitVec 32 := 512#32
  let v0 : BitVec 32 := Scalar.muli arg2 c512_i32
  let v1 : BitVec 32 := Scalar.addi c128_i32 v0
  let c0_i32_58 : BitVec 32 := 0#32
  let v126 : BitVec 1 := Scalar.cmpi .sgt v1 c0_i32_58
  let v127 : BitVec 32 := Scalar.extui v126
  let c0_i32_59 : BitVec 32 := 0#32
  let v128 : BitVec 1 := Scalar.cmpi .slt v1 c0_i32_59
  let v129 : BitVec 32 := Scalar.extui v128
  let v130 : BitVec 32 := Scalar.subi v127 v129
  let c512_i32_57 : BitVec 32 := 512#32
  let c0_i32_60 : BitVec 32 := 0#32
  let v131 : BitVec 1 := Scalar.cmpi .sgt c512_i32_57 c0_i32_60
  let v132 : BitVec 32 := Scalar.extui v131
  let c0_i32_61 : BitVec 32 := 0#32
  let v133 : BitVec 1 := Scalar.cmpi .slt c512_i32_57 c0_i32_61
  let v134 : BitVec 32 := Scalar.extui v133
  let v135 : BitVec 32 := Scalar.subi v132 v134
  let v136 : BitVec 1 := Scalar.cmpi .ne v130 v135
  let v137 : BitVec 32 := Scalar.remsi v1 c512_i32_57
  let c0_i32_62 : BitVec 32 := 0#32
  let v138 : BitVec 1 := Scalar.cmpi .ne v137 c0_i32_62
  let v139 : BitVec 1 := Scalar.andi v136 v138
  let v125 : BitVec 32 := Scalar.divsi v1 c512_i32_57
  let c1_i32_63 : BitVec 32 := 1#32
  let v140 : BitVec 32 := Scalar.subi v125 c1_i32_63
  let v141 : BitVec 32 := Scalar.select v139 v140 v125
  let c512_i32_64 : BitVec 32 := 512#32
  let v142 : BitVec 32 := Scalar.addi v1 c512_i32_64
  let c512_i32_65 : BitVec 32 := 512#32
  let v143 : BitVec 32 := Scalar.addi v142 c512_i32_65
  let c1_i32_66 : BitVec 32 := 1#32
  let v144 : BitVec 32 := Scalar.subi v143 c1_i32_66
  let c0_i32_68 : BitVec 32 := 0#32
  let v146 : BitVec 1 := Scalar.cmpi .sgt v144 c0_i32_68
  let v147 : BitVec 32 := Scalar.extui v146
  let c0_i32_69 : BitVec 32 := 0#32
  let v148 : BitVec 1 := Scalar.cmpi .slt v144 c0_i32_69
  let v149 : BitVec 32 := Scalar.extui v148
  let v150 : BitVec 32 := Scalar.subi v147 v149
  let c512_i32_67 : BitVec 32 := 512#32
  let c0_i32_70 : BitVec 32 := 0#32
  let v151 : BitVec 1 := Scalar.cmpi .sgt c512_i32_67 c0_i32_70
  let v152 : BitVec 32 := Scalar.extui v151
  let c0_i32_71 : BitVec 32 := 0#32
  let v153 : BitVec 1 := Scalar.cmpi .slt c512_i32_67 c0_i32_71
  let v154 : BitVec 32 := Scalar.extui v153
  let v155 : BitVec 32 := Scalar.subi v152 v154
  let v156 : BitVec 1 := Scalar.cmpi .ne v150 v155
  let v157 : BitVec 32 := Scalar.remsi v144 c512_i32_67
  let c0_i32_72 : BitVec 32 := 0#32
  let v158 : BitVec 1 := Scalar.cmpi .ne v157 c0_i32_72
  let v159 : BitVec 1 := Scalar.andi v156 v158
  let v145 : BitVec 32 := Scalar.divsi v144 c512_i32_67
  let c1_i32_73 : BitVec 32 := 1#32
  let v160 : BitVec 32 := Scalar.subi v145 c1_i32_73
  let v161 : BitVec 32 := Scalar.select v159 v160 v145
  let v175 : BitVec 32 := Scalar.subi v161 v141
  let c1_i32_84 : BitVec 32 := 1#32
  let v177 : BitVec 32 := Scalar.divsi v175 c1_i32_84
  let v178 : BitVec 32 := Scalar.muli v177 c1_i32_84
  let v179 : BitVec 32 := Scalar.addi v141 v178
  let c1_i32_86 : BitVec 32 := 1#32
  let arg8 : BitVec 32 := Scf.iv v179 c1_i32_86 k0_t4
  let c512_i32_99 : BitVec 32 := 512#32
  let v226 : BitVec 32 := Scalar.muli arg8 c512_i32_99
  v226
def k0_off29 (i : grid0.Coords) (k0_t4 : Fin (k0_t4_loop i).trips) : Fin 3 → Nat :=
  let c0_100 : Index := 0#32
  let c128_i32 : BitVec 32 := 128#32
  let arg2 : BitVec 32 := BitVec.ofNat 32 (i 2).val
  let c512_i32 : BitVec 32 := 512#32
  let v0 : BitVec 32 := Scalar.muli arg2 c512_i32
  let v1 : BitVec 32 := Scalar.addi c128_i32 v0
  let c0_i32_58 : BitVec 32 := 0#32
  let v126 : BitVec 1 := Scalar.cmpi .sgt v1 c0_i32_58
  let v127 : BitVec 32 := Scalar.extui v126
  let c0_i32_59 : BitVec 32 := 0#32
  let v128 : BitVec 1 := Scalar.cmpi .slt v1 c0_i32_59
  let v129 : BitVec 32 := Scalar.extui v128
  let v130 : BitVec 32 := Scalar.subi v127 v129
  let c512_i32_57 : BitVec 32 := 512#32
  let c0_i32_60 : BitVec 32 := 0#32
  let v131 : BitVec 1 := Scalar.cmpi .sgt c512_i32_57 c0_i32_60
  let v132 : BitVec 32 := Scalar.extui v131
  let c0_i32_61 : BitVec 32 := 0#32
  let v133 : BitVec 1 := Scalar.cmpi .slt c512_i32_57 c0_i32_61
  let v134 : BitVec 32 := Scalar.extui v133
  let v135 : BitVec 32 := Scalar.subi v132 v134
  let v136 : BitVec 1 := Scalar.cmpi .ne v130 v135
  let v137 : BitVec 32 := Scalar.remsi v1 c512_i32_57
  let c0_i32_62 : BitVec 32 := 0#32
  let v138 : BitVec 1 := Scalar.cmpi .ne v137 c0_i32_62
  let v139 : BitVec 1 := Scalar.andi v136 v138
  let v125 : BitVec 32 := Scalar.divsi v1 c512_i32_57
  let c1_i32_63 : BitVec 32 := 1#32
  let v140 : BitVec 32 := Scalar.subi v125 c1_i32_63
  let v141 : BitVec 32 := Scalar.select v139 v140 v125
  let c512_i32_64 : BitVec 32 := 512#32
  let v142 : BitVec 32 := Scalar.addi v1 c512_i32_64
  let c512_i32_65 : BitVec 32 := 512#32
  let v143 : BitVec 32 := Scalar.addi v142 c512_i32_65
  let c1_i32_66 : BitVec 32 := 1#32
  let v144 : BitVec 32 := Scalar.subi v143 c1_i32_66
  let c0_i32_68 : BitVec 32 := 0#32
  let v146 : BitVec 1 := Scalar.cmpi .sgt v144 c0_i32_68
  let v147 : BitVec 32 := Scalar.extui v146
  let c0_i32_69 : BitVec 32 := 0#32
  let v148 : BitVec 1 := Scalar.cmpi .slt v144 c0_i32_69
  let v149 : BitVec 32 := Scalar.extui v148
  let v150 : BitVec 32 := Scalar.subi v147 v149
  let c512_i32_67 : BitVec 32 := 512#32
  let c0_i32_70 : BitVec 32 := 0#32
  let v151 : BitVec 1 := Scalar.cmpi .sgt c512_i32_67 c0_i32_70
  let v152 : BitVec 32 := Scalar.extui v151
  let c0_i32_71 : BitVec 32 := 0#32
  let v153 : BitVec 1 := Scalar.cmpi .slt c512_i32_67 c0_i32_71
  let v154 : BitVec 32 := Scalar.extui v153
  let v155 : BitVec 32 := Scalar.subi v152 v154
  let v156 : BitVec 1 := Scalar.cmpi .ne v150 v155
  let v157 : BitVec 32 := Scalar.remsi v144 c512_i32_67
  let c0_i32_72 : BitVec 32 := 0#32
  let v158 : BitVec 1 := Scalar.cmpi .ne v157 c0_i32_72
  let v159 : BitVec 1 := Scalar.andi v156 v158
  let v145 : BitVec 32 := Scalar.divsi v144 c512_i32_67
  let c1_i32_73 : BitVec 32 := 1#32
  let v160 : BitVec 32 := Scalar.subi v145 c1_i32_73
  let v161 : BitVec 32 := Scalar.select v159 v160 v145
  let v175 : BitVec 32 := Scalar.subi v161 v141
  let c1_i32_84 : BitVec 32 := 1#32
  let v177 : BitVec 32 := Scalar.divsi v175 c1_i32_84
  let v178 : BitVec 32 := Scalar.muli v177 c1_i32_84
  let v179 : BitVec 32 := Scalar.addi v141 v178
  let c1_i32_86 : BitVec 32 := 1#32
  let arg8 : BitVec 32 := Scf.iv v179 c1_i32_86 k0_t4
  let c512_i32_99 : BitVec 32 := 512#32
  let v226 : BitVec 32 := Scalar.muli arg8 c512_i32_99
  let v227 : BitVec 32 := v226
  let v228 : Index := Scalar.indexCast v227
  let c0_101 : Index := 0#32
  ![0, v228.toNat, 0]
def k0_off30 (i : grid0.Coords) (k0_t4 : Fin (k0_t4_loop i).trips) : Fin 3 → Nat :=
  let c0_150 : Index := 0#32
  let c128_i32 : BitVec 32 := 128#32
  let arg2 : BitVec 32 := BitVec.ofNat 32 (i 2).val
  let c512_i32 : BitVec 32 := 512#32
  let v0 : BitVec 32 := Scalar.muli arg2 c512_i32
  let v1 : BitVec 32 := Scalar.addi c128_i32 v0
  let c0_i32_58 : BitVec 32 := 0#32
  let v126 : BitVec 1 := Scalar.cmpi .sgt v1 c0_i32_58
  let v127 : BitVec 32 := Scalar.extui v126
  let c0_i32_59 : BitVec 32 := 0#32
  let v128 : BitVec 1 := Scalar.cmpi .slt v1 c0_i32_59
  let v129 : BitVec 32 := Scalar.extui v128
  let v130 : BitVec 32 := Scalar.subi v127 v129
  let c512_i32_57 : BitVec 32 := 512#32
  let c0_i32_60 : BitVec 32 := 0#32
  let v131 : BitVec 1 := Scalar.cmpi .sgt c512_i32_57 c0_i32_60
  let v132 : BitVec 32 := Scalar.extui v131
  let c0_i32_61 : BitVec 32 := 0#32
  let v133 : BitVec 1 := Scalar.cmpi .slt c512_i32_57 c0_i32_61
  let v134 : BitVec 32 := Scalar.extui v133
  let v135 : BitVec 32 := Scalar.subi v132 v134
  let v136 : BitVec 1 := Scalar.cmpi .ne v130 v135
  let v137 : BitVec 32 := Scalar.remsi v1 c512_i32_57
  let c0_i32_62 : BitVec 32 := 0#32
  let v138 : BitVec 1 := Scalar.cmpi .ne v137 c0_i32_62
  let v139 : BitVec 1 := Scalar.andi v136 v138
  let v125 : BitVec 32 := Scalar.divsi v1 c512_i32_57
  let c1_i32_63 : BitVec 32 := 1#32
  let v140 : BitVec 32 := Scalar.subi v125 c1_i32_63
  let v141 : BitVec 32 := Scalar.select v139 v140 v125
  let c512_i32_64 : BitVec 32 := 512#32
  let v142 : BitVec 32 := Scalar.addi v1 c512_i32_64
  let c512_i32_65 : BitVec 32 := 512#32
  let v143 : BitVec 32 := Scalar.addi v142 c512_i32_65
  let c1_i32_66 : BitVec 32 := 1#32
  let v144 : BitVec 32 := Scalar.subi v143 c1_i32_66
  let c0_i32_68 : BitVec 32 := 0#32
  let v146 : BitVec 1 := Scalar.cmpi .sgt v144 c0_i32_68
  let v147 : BitVec 32 := Scalar.extui v146
  let c0_i32_69 : BitVec 32 := 0#32
  let v148 : BitVec 1 := Scalar.cmpi .slt v144 c0_i32_69
  let v149 : BitVec 32 := Scalar.extui v148
  let v150 : BitVec 32 := Scalar.subi v147 v149
  let c512_i32_67 : BitVec 32 := 512#32
  let c0_i32_70 : BitVec 32 := 0#32
  let v151 : BitVec 1 := Scalar.cmpi .sgt c512_i32_67 c0_i32_70
  let v152 : BitVec 32 := Scalar.extui v151
  let c0_i32_71 : BitVec 32 := 0#32
  let v153 : BitVec 1 := Scalar.cmpi .slt c512_i32_67 c0_i32_71
  let v154 : BitVec 32 := Scalar.extui v153
  let v155 : BitVec 32 := Scalar.subi v152 v154
  let v156 : BitVec 1 := Scalar.cmpi .ne v150 v155
  let v157 : BitVec 32 := Scalar.remsi v144 c512_i32_67
  let c0_i32_72 : BitVec 32 := 0#32
  let v158 : BitVec 1 := Scalar.cmpi .ne v157 c0_i32_72
  let v159 : BitVec 1 := Scalar.andi v156 v158
  let v145 : BitVec 32 := Scalar.divsi v144 c512_i32_67
  let c1_i32_73 : BitVec 32 := 1#32
  let v160 : BitVec 32 := Scalar.subi v145 c1_i32_73
  let v161 : BitVec 32 := Scalar.select v159 v160 v145
  let v175 : BitVec 32 := Scalar.subi v161 v141
  let c1_i32_84 : BitVec 32 := 1#32
  let v177 : BitVec 32 := Scalar.divsi v175 c1_i32_84
  let v178 : BitVec 32 := Scalar.muli v177 c1_i32_84
  let v179 : BitVec 32 := Scalar.addi v141 v178
  let c1_i32_86 : BitVec 32 := 1#32
  let arg8 : BitVec 32 := Scf.iv v179 c1_i32_86 k0_t4
  let c512_i32_99 : BitVec 32 := 512#32
  let v226 : BitVec 32 := Scalar.muli arg8 c512_i32_99
  let v227 : BitVec 32 := v226
  let v312 : Index := Scalar.indexCast v227
  let c0_151 : Index := 0#32
  ![0, v312.toNat, 0]
def k0_off31 (i : grid0.Coords) (k0_t4 : Fin (k0_t4_loop i).trips) : Fin 3 → Nat :=
  let c0_152 : Index := 0#32
  let c0_153 : Index := 0#32
  let c128_i32 : BitVec 32 := 128#32
  let arg2 : BitVec 32 := BitVec.ofNat 32 (i 2).val
  let c512_i32 : BitVec 32 := 512#32
  let v0 : BitVec 32 := Scalar.muli arg2 c512_i32
  let v1 : BitVec 32 := Scalar.addi c128_i32 v0
  let c0_i32_58 : BitVec 32 := 0#32
  let v126 : BitVec 1 := Scalar.cmpi .sgt v1 c0_i32_58
  let v127 : BitVec 32 := Scalar.extui v126
  let c0_i32_59 : BitVec 32 := 0#32
  let v128 : BitVec 1 := Scalar.cmpi .slt v1 c0_i32_59
  let v129 : BitVec 32 := Scalar.extui v128
  let v130 : BitVec 32 := Scalar.subi v127 v129
  let c512_i32_57 : BitVec 32 := 512#32
  let c0_i32_60 : BitVec 32 := 0#32
  let v131 : BitVec 1 := Scalar.cmpi .sgt c512_i32_57 c0_i32_60
  let v132 : BitVec 32 := Scalar.extui v131
  let c0_i32_61 : BitVec 32 := 0#32
  let v133 : BitVec 1 := Scalar.cmpi .slt c512_i32_57 c0_i32_61
  let v134 : BitVec 32 := Scalar.extui v133
  let v135 : BitVec 32 := Scalar.subi v132 v134
  let v136 : BitVec 1 := Scalar.cmpi .ne v130 v135
  let v137 : BitVec 32 := Scalar.remsi v1 c512_i32_57
  let c0_i32_62 : BitVec 32 := 0#32
  let v138 : BitVec 1 := Scalar.cmpi .ne v137 c0_i32_62
  let v139 : BitVec 1 := Scalar.andi v136 v138
  let v125 : BitVec 32 := Scalar.divsi v1 c512_i32_57
  let c1_i32_63 : BitVec 32 := 1#32
  let v140 : BitVec 32 := Scalar.subi v125 c1_i32_63
  let v141 : BitVec 32 := Scalar.select v139 v140 v125
  let c512_i32_64 : BitVec 32 := 512#32
  let v142 : BitVec 32 := Scalar.addi v1 c512_i32_64
  let c512_i32_65 : BitVec 32 := 512#32
  let v143 : BitVec 32 := Scalar.addi v142 c512_i32_65
  let c1_i32_66 : BitVec 32 := 1#32
  let v144 : BitVec 32 := Scalar.subi v143 c1_i32_66
  let c0_i32_68 : BitVec 32 := 0#32
  let v146 : BitVec 1 := Scalar.cmpi .sgt v144 c0_i32_68
  let v147 : BitVec 32 := Scalar.extui v146
  let c0_i32_69 : BitVec 32 := 0#32
  let v148 : BitVec 1 := Scalar.cmpi .slt v144 c0_i32_69
  let v149 : BitVec 32 := Scalar.extui v148
  let v150 : BitVec 32 := Scalar.subi v147 v149
  let c512_i32_67 : BitVec 32 := 512#32
  let c0_i32_70 : BitVec 32 := 0#32
  let v151 : BitVec 1 := Scalar.cmpi .sgt c512_i32_67 c0_i32_70
  let v152 : BitVec 32 := Scalar.extui v151
  let c0_i32_71 : BitVec 32 := 0#32
  let v153 : BitVec 1 := Scalar.cmpi .slt c512_i32_67 c0_i32_71
  let v154 : BitVec 32 := Scalar.extui v153
  let v155 : BitVec 32 := Scalar.subi v152 v154
  let v156 : BitVec 1 := Scalar.cmpi .ne v150 v155
  let v157 : BitVec 32 := Scalar.remsi v144 c512_i32_67
  let c0_i32_72 : BitVec 32 := 0#32
  let v158 : BitVec 1 := Scalar.cmpi .ne v157 c0_i32_72
  let v159 : BitVec 1 := Scalar.andi v156 v158
  let v145 : BitVec 32 := Scalar.divsi v144 c512_i32_67
  let c1_i32_73 : BitVec 32 := 1#32
  let v160 : BitVec 32 := Scalar.subi v145 c1_i32_73
  let v161 : BitVec 32 := Scalar.select v159 v160 v145
  let v175 : BitVec 32 := Scalar.subi v161 v141
  let c1_i32_84 : BitVec 32 := 1#32
  let v177 : BitVec 32 := Scalar.divsi v175 c1_i32_84
  let v178 : BitVec 32 := Scalar.muli v177 c1_i32_84
  let v179 : BitVec 32 := Scalar.addi v141 v178
  let c1_i32_86 : BitVec 32 := 1#32
  let arg8 : BitVec 32 := Scf.iv v179 c1_i32_86 k0_t4
  let c512_i32_99 : BitVec 32 := 512#32
  let v226 : BitVec 32 := Scalar.muli arg8 c512_i32_99
  let v227 : BitVec 32 := v226
  let v315 : Index := Scalar.indexCast v227
  ![0, 0, v315.toNat]
def k0_off32 (i : grid0.Coords) (k0_t4 : Fin (k0_t4_loop i).trips) : Fin 3 → Nat :=
  let c0_168 : Index := 0#32
  let c128_i32 : BitVec 32 := 128#32
  let arg2 : BitVec 32 := BitVec.ofNat 32 (i 2).val
  let c512_i32 : BitVec 32 := 512#32
  let v0 : BitVec 32 := Scalar.muli arg2 c512_i32
  let v1 : BitVec 32 := Scalar.addi c128_i32 v0
  let c0_i32_58 : BitVec 32 := 0#32
  let v126 : BitVec 1 := Scalar.cmpi .sgt v1 c0_i32_58
  let v127 : BitVec 32 := Scalar.extui v126
  let c0_i32_59 : BitVec 32 := 0#32
  let v128 : BitVec 1 := Scalar.cmpi .slt v1 c0_i32_59
  let v129 : BitVec 32 := Scalar.extui v128
  let v130 : BitVec 32 := Scalar.subi v127 v129
  let c512_i32_57 : BitVec 32 := 512#32
  let c0_i32_60 : BitVec 32 := 0#32
  let v131 : BitVec 1 := Scalar.cmpi .sgt c512_i32_57 c0_i32_60
  let v132 : BitVec 32 := Scalar.extui v131
  let c0_i32_61 : BitVec 32 := 0#32
  let v133 : BitVec 1 := Scalar.cmpi .slt c512_i32_57 c0_i32_61
  let v134 : BitVec 32 := Scalar.extui v133
  let v135 : BitVec 32 := Scalar.subi v132 v134
  let v136 : BitVec 1 := Scalar.cmpi .ne v130 v135
  let v137 : BitVec 32 := Scalar.remsi v1 c512_i32_57
  let c0_i32_62 : BitVec 32 := 0#32
  let v138 : BitVec 1 := Scalar.cmpi .ne v137 c0_i32_62
  let v139 : BitVec 1 := Scalar.andi v136 v138
  let v125 : BitVec 32 := Scalar.divsi v1 c512_i32_57
  let c1_i32_63 : BitVec 32 := 1#32
  let v140 : BitVec 32 := Scalar.subi v125 c1_i32_63
  let v141 : BitVec 32 := Scalar.select v139 v140 v125
  let c512_i32_64 : BitVec 32 := 512#32
  let v142 : BitVec 32 := Scalar.addi v1 c512_i32_64
  let c512_i32_65 : BitVec 32 := 512#32
  let v143 : BitVec 32 := Scalar.addi v142 c512_i32_65
  let c1_i32_66 : BitVec 32 := 1#32
  let v144 : BitVec 32 := Scalar.subi v143 c1_i32_66
  let c0_i32_68 : BitVec 32 := 0#32
  let v146 : BitVec 1 := Scalar.cmpi .sgt v144 c0_i32_68
  let v147 : BitVec 32 := Scalar.extui v146
  let c0_i32_69 : BitVec 32 := 0#32
  let v148 : BitVec 1 := Scalar.cmpi .slt v144 c0_i32_69
  let v149 : BitVec 32 := Scalar.extui v148
  let v150 : BitVec 32 := Scalar.subi v147 v149
  let c512_i32_67 : BitVec 32 := 512#32
  let c0_i32_70 : BitVec 32 := 0#32
  let v151 : BitVec 1 := Scalar.cmpi .sgt c512_i32_67 c0_i32_70
  let v152 : BitVec 32 := Scalar.extui v151
  let c0_i32_71 : BitVec 32 := 0#32
  let v153 : BitVec 1 := Scalar.cmpi .slt c512_i32_67 c0_i32_71
  let v154 : BitVec 32 := Scalar.extui v153
  let v155 : BitVec 32 := Scalar.subi v152 v154
  let v156 : BitVec 1 := Scalar.cmpi .ne v150 v155
  let v157 : BitVec 32 := Scalar.remsi v144 c512_i32_67
  let c0_i32_72 : BitVec 32 := 0#32
  let v158 : BitVec 1 := Scalar.cmpi .ne v157 c0_i32_72
  let v159 : BitVec 1 := Scalar.andi v156 v158
  let v145 : BitVec 32 := Scalar.divsi v144 c512_i32_67
  let c1_i32_73 : BitVec 32 := 1#32
  let v160 : BitVec 32 := Scalar.subi v145 c1_i32_73
  let v161 : BitVec 32 := Scalar.select v159 v160 v145
  let v175 : BitVec 32 := Scalar.subi v161 v141
  let c1_i32_84 : BitVec 32 := 1#32
  let v177 : BitVec 32 := Scalar.divsi v175 c1_i32_84
  let v178 : BitVec 32 := Scalar.muli v177 c1_i32_84
  let v179 : BitVec 32 := Scalar.addi v141 v178
  let c1_i32_86 : BitVec 32 := 1#32
  let arg8 : BitVec 32 := Scf.iv v179 c1_i32_86 k0_t4
  let c512_i32_99 : BitVec 32 := 512#32
  let v226 : BitVec 32 := Scalar.muli arg8 c512_i32_99
  let v227 : BitVec 32 := v226
  let v384 : Index := Scalar.indexCast v227
  let c128_169 : Index := 128#32
  ![0, v384.toNat, 128]
def k0_off33 (i : grid0.Coords) (k0_t4 : Fin (k0_t4_loop i).trips) : Fin 3 → Nat :=
  let c0_170 : Index := 0#32
  let c128_171 : Index := 128#32
  let c128_i32 : BitVec 32 := 128#32
  let arg2 : BitVec 32 := BitVec.ofNat 32 (i 2).val
  let c512_i32 : BitVec 32 := 512#32
  let v0 : BitVec 32 := Scalar.muli arg2 c512_i32
  let v1 : BitVec 32 := Scalar.addi c128_i32 v0
  let c0_i32_58 : BitVec 32 := 0#32
  let v126 : BitVec 1 := Scalar.cmpi .sgt v1 c0_i32_58
  let v127 : BitVec 32 := Scalar.extui v126
  let c0_i32_59 : BitVec 32 := 0#32
  let v128 : BitVec 1 := Scalar.cmpi .slt v1 c0_i32_59
  let v129 : BitVec 32 := Scalar.extui v128
  let v130 : BitVec 32 := Scalar.subi v127 v129
  let c512_i32_57 : BitVec 32 := 512#32
  let c0_i32_60 : BitVec 32 := 0#32
  let v131 : BitVec 1 := Scalar.cmpi .sgt c512_i32_57 c0_i32_60
  let v132 : BitVec 32 := Scalar.extui v131
  let c0_i32_61 : BitVec 32 := 0#32
  let v133 : BitVec 1 := Scalar.cmpi .slt c512_i32_57 c0_i32_61
  let v134 : BitVec 32 := Scalar.extui v133
  let v135 : BitVec 32 := Scalar.subi v132 v134
  let v136 : BitVec 1 := Scalar.cmpi .ne v130 v135
  let v137 : BitVec 32 := Scalar.remsi v1 c512_i32_57
  let c0_i32_62 : BitVec 32 := 0#32
  let v138 : BitVec 1 := Scalar.cmpi .ne v137 c0_i32_62
  let v139 : BitVec 1 := Scalar.andi v136 v138
  let v125 : BitVec 32 := Scalar.divsi v1 c512_i32_57
  let c1_i32_63 : BitVec 32 := 1#32
  let v140 : BitVec 32 := Scalar.subi v125 c1_i32_63
  let v141 : BitVec 32 := Scalar.select v139 v140 v125
  let c512_i32_64 : BitVec 32 := 512#32
  let v142 : BitVec 32 := Scalar.addi v1 c512_i32_64
  let c512_i32_65 : BitVec 32 := 512#32
  let v143 : BitVec 32 := Scalar.addi v142 c512_i32_65
  let c1_i32_66 : BitVec 32 := 1#32
  let v144 : BitVec 32 := Scalar.subi v143 c1_i32_66
  let c0_i32_68 : BitVec 32 := 0#32
  let v146 : BitVec 1 := Scalar.cmpi .sgt v144 c0_i32_68
  let v147 : BitVec 32 := Scalar.extui v146
  let c0_i32_69 : BitVec 32 := 0#32
  let v148 : BitVec 1 := Scalar.cmpi .slt v144 c0_i32_69
  let v149 : BitVec 32 := Scalar.extui v148
  let v150 : BitVec 32 := Scalar.subi v147 v149
  let c512_i32_67 : BitVec 32 := 512#32
  let c0_i32_70 : BitVec 32 := 0#32
  let v151 : BitVec 1 := Scalar.cmpi .sgt c512_i32_67 c0_i32_70
  let v152 : BitVec 32 := Scalar.extui v151
  let c0_i32_71 : BitVec 32 := 0#32
  let v153 : BitVec 1 := Scalar.cmpi .slt c512_i32_67 c0_i32_71
  let v154 : BitVec 32 := Scalar.extui v153
  let v155 : BitVec 32 := Scalar.subi v152 v154
  let v156 : BitVec 1 := Scalar.cmpi .ne v150 v155
  let v157 : BitVec 32 := Scalar.remsi v144 c512_i32_67
  let c0_i32_72 : BitVec 32 := 0#32
  let v158 : BitVec 1 := Scalar.cmpi .ne v157 c0_i32_72
  let v159 : BitVec 1 := Scalar.andi v156 v158
  let v145 : BitVec 32 := Scalar.divsi v144 c512_i32_67
  let c1_i32_73 : BitVec 32 := 1#32
  let v160 : BitVec 32 := Scalar.subi v145 c1_i32_73
  let v161 : BitVec 32 := Scalar.select v159 v160 v145
  let v175 : BitVec 32 := Scalar.subi v161 v141
  let c1_i32_84 : BitVec 32 := 1#32
  let v177 : BitVec 32 := Scalar.divsi v175 c1_i32_84
  let v178 : BitVec 32 := Scalar.muli v177 c1_i32_84
  let v179 : BitVec 32 := Scalar.addi v141 v178
  let c1_i32_86 : BitVec 32 := 1#32
  let arg8 : BitVec 32 := Scf.iv v179 c1_i32_86 k0_t4
  let c512_i32_99 : BitVec 32 := 512#32
  let v226 : BitVec 32 := Scalar.muli arg8 c512_i32_99
  let v227 : BitVec 32 := v226
  let v387 : Index := Scalar.indexCast v227
  ![0, 128, v387.toNat]
def k0_off34 (i : grid0.Coords) (k0_t4 : Fin (k0_t4_loop i).trips) : Fin 3 → Nat :=
  let c0_186 : Index := 0#32
  let c128_i32 : BitVec 32 := 128#32
  let arg2 : BitVec 32 := BitVec.ofNat 32 (i 2).val
  let c512_i32 : BitVec 32 := 512#32
  let v0 : BitVec 32 := Scalar.muli arg2 c512_i32
  let v1 : BitVec 32 := Scalar.addi c128_i32 v0
  let c0_i32_58 : BitVec 32 := 0#32
  let v126 : BitVec 1 := Scalar.cmpi .sgt v1 c0_i32_58
  let v127 : BitVec 32 := Scalar.extui v126
  let c0_i32_59 : BitVec 32 := 0#32
  let v128 : BitVec 1 := Scalar.cmpi .slt v1 c0_i32_59
  let v129 : BitVec 32 := Scalar.extui v128
  let v130 : BitVec 32 := Scalar.subi v127 v129
  let c512_i32_57 : BitVec 32 := 512#32
  let c0_i32_60 : BitVec 32 := 0#32
  let v131 : BitVec 1 := Scalar.cmpi .sgt c512_i32_57 c0_i32_60
  let v132 : BitVec 32 := Scalar.extui v131
  let c0_i32_61 : BitVec 32 := 0#32
  let v133 : BitVec 1 := Scalar.cmpi .slt c512_i32_57 c0_i32_61
  let v134 : BitVec 32 := Scalar.extui v133
  let v135 : BitVec 32 := Scalar.subi v132 v134
  let v136 : BitVec 1 := Scalar.cmpi .ne v130 v135
  let v137 : BitVec 32 := Scalar.remsi v1 c512_i32_57
  let c0_i32_62 : BitVec 32 := 0#32
  let v138 : BitVec 1 := Scalar.cmpi .ne v137 c0_i32_62
  let v139 : BitVec 1 := Scalar.andi v136 v138
  let v125 : BitVec 32 := Scalar.divsi v1 c512_i32_57
  let c1_i32_63 : BitVec 32 := 1#32
  let v140 : BitVec 32 := Scalar.subi v125 c1_i32_63
  let v141 : BitVec 32 := Scalar.select v139 v140 v125
  let c512_i32_64 : BitVec 32 := 512#32
  let v142 : BitVec 32 := Scalar.addi v1 c512_i32_64
  let c512_i32_65 : BitVec 32 := 512#32
  let v143 : BitVec 32 := Scalar.addi v142 c512_i32_65
  let c1_i32_66 : BitVec 32 := 1#32
  let v144 : BitVec 32 := Scalar.subi v143 c1_i32_66
  let c0_i32_68 : BitVec 32 := 0#32
  let v146 : BitVec 1 := Scalar.cmpi .sgt v144 c0_i32_68
  let v147 : BitVec 32 := Scalar.extui v146
  let c0_i32_69 : BitVec 32 := 0#32
  let v148 : BitVec 1 := Scalar.cmpi .slt v144 c0_i32_69
  let v149 : BitVec 32 := Scalar.extui v148
  let v150 : BitVec 32 := Scalar.subi v147 v149
  let c512_i32_67 : BitVec 32 := 512#32
  let c0_i32_70 : BitVec 32 := 0#32
  let v151 : BitVec 1 := Scalar.cmpi .sgt c512_i32_67 c0_i32_70
  let v152 : BitVec 32 := Scalar.extui v151
  let c0_i32_71 : BitVec 32 := 0#32
  let v153 : BitVec 1 := Scalar.cmpi .slt c512_i32_67 c0_i32_71
  let v154 : BitVec 32 := Scalar.extui v153
  let v155 : BitVec 32 := Scalar.subi v152 v154
  let v156 : BitVec 1 := Scalar.cmpi .ne v150 v155
  let v157 : BitVec 32 := Scalar.remsi v144 c512_i32_67
  let c0_i32_72 : BitVec 32 := 0#32
  let v158 : BitVec 1 := Scalar.cmpi .ne v157 c0_i32_72
  let v159 : BitVec 1 := Scalar.andi v156 v158
  let v145 : BitVec 32 := Scalar.divsi v144 c512_i32_67
  let c1_i32_73 : BitVec 32 := 1#32
  let v160 : BitVec 32 := Scalar.subi v145 c1_i32_73
  let v161 : BitVec 32 := Scalar.select v159 v160 v145
  let v175 : BitVec 32 := Scalar.subi v161 v141
  let c1_i32_84 : BitVec 32 := 1#32
  let v177 : BitVec 32 := Scalar.divsi v175 c1_i32_84
  let v178 : BitVec 32 := Scalar.muli v177 c1_i32_84
  let v179 : BitVec 32 := Scalar.addi v141 v178
  let c1_i32_86 : BitVec 32 := 1#32
  let arg8 : BitVec 32 := Scf.iv v179 c1_i32_86 k0_t4
  let c512_i32_99 : BitVec 32 := 512#32
  let v226 : BitVec 32 := Scalar.muli arg8 c512_i32_99
  let v227 : BitVec 32 := v226
  let v456 : Index := Scalar.indexCast v227
  let c256_187 : Index := 256#32
  ![0, v456.toNat, 256]
def k0_off35 (i : grid0.Coords) (k0_t4 : Fin (k0_t4_loop i).trips) : Fin 3 → Nat :=
  let c0_188 : Index := 0#32
  let c256_189 : Index := 256#32
  let c128_i32 : BitVec 32 := 128#32
  let arg2 : BitVec 32 := BitVec.ofNat 32 (i 2).val
  let c512_i32 : BitVec 32 := 512#32
  let v0 : BitVec 32 := Scalar.muli arg2 c512_i32
  let v1 : BitVec 32 := Scalar.addi c128_i32 v0
  let c0_i32_58 : BitVec 32 := 0#32
  let v126 : BitVec 1 := Scalar.cmpi .sgt v1 c0_i32_58
  let v127 : BitVec 32 := Scalar.extui v126
  let c0_i32_59 : BitVec 32 := 0#32
  let v128 : BitVec 1 := Scalar.cmpi .slt v1 c0_i32_59
  let v129 : BitVec 32 := Scalar.extui v128
  let v130 : BitVec 32 := Scalar.subi v127 v129
  let c512_i32_57 : BitVec 32 := 512#32
  let c0_i32_60 : BitVec 32 := 0#32
  let v131 : BitVec 1 := Scalar.cmpi .sgt c512_i32_57 c0_i32_60
  let v132 : BitVec 32 := Scalar.extui v131
  let c0_i32_61 : BitVec 32 := 0#32
  let v133 : BitVec 1 := Scalar.cmpi .slt c512_i32_57 c0_i32_61
  let v134 : BitVec 32 := Scalar.extui v133
  let v135 : BitVec 32 := Scalar.subi v132 v134
  let v136 : BitVec 1 := Scalar.cmpi .ne v130 v135
  let v137 : BitVec 32 := Scalar.remsi v1 c512_i32_57
  let c0_i32_62 : BitVec 32 := 0#32
  let v138 : BitVec 1 := Scalar.cmpi .ne v137 c0_i32_62
  let v139 : BitVec 1 := Scalar.andi v136 v138
  let v125 : BitVec 32 := Scalar.divsi v1 c512_i32_57
  let c1_i32_63 : BitVec 32 := 1#32
  let v140 : BitVec 32 := Scalar.subi v125 c1_i32_63
  let v141 : BitVec 32 := Scalar.select v139 v140 v125
  let c512_i32_64 : BitVec 32 := 512#32
  let v142 : BitVec 32 := Scalar.addi v1 c512_i32_64
  let c512_i32_65 : BitVec 32 := 512#32
  let v143 : BitVec 32 := Scalar.addi v142 c512_i32_65
  let c1_i32_66 : BitVec 32 := 1#32
  let v144 : BitVec 32 := Scalar.subi v143 c1_i32_66
  let c0_i32_68 : BitVec 32 := 0#32
  let v146 : BitVec 1 := Scalar.cmpi .sgt v144 c0_i32_68
  let v147 : BitVec 32 := Scalar.extui v146
  let c0_i32_69 : BitVec 32 := 0#32
  let v148 : BitVec 1 := Scalar.cmpi .slt v144 c0_i32_69
  let v149 : BitVec 32 := Scalar.extui v148
  let v150 : BitVec 32 := Scalar.subi v147 v149
  let c512_i32_67 : BitVec 32 := 512#32
  let c0_i32_70 : BitVec 32 := 0#32
  let v151 : BitVec 1 := Scalar.cmpi .sgt c512_i32_67 c0_i32_70
  let v152 : BitVec 32 := Scalar.extui v151
  let c0_i32_71 : BitVec 32 := 0#32
  let v153 : BitVec 1 := Scalar.cmpi .slt c512_i32_67 c0_i32_71
  let v154 : BitVec 32 := Scalar.extui v153
  let v155 : BitVec 32 := Scalar.subi v152 v154
  let v156 : BitVec 1 := Scalar.cmpi .ne v150 v155
  let v157 : BitVec 32 := Scalar.remsi v144 c512_i32_67
  let c0_i32_72 : BitVec 32 := 0#32
  let v158 : BitVec 1 := Scalar.cmpi .ne v157 c0_i32_72
  let v159 : BitVec 1 := Scalar.andi v156 v158
  let v145 : BitVec 32 := Scalar.divsi v144 c512_i32_67
  let c1_i32_73 : BitVec 32 := 1#32
  let v160 : BitVec 32 := Scalar.subi v145 c1_i32_73
  let v161 : BitVec 32 := Scalar.select v159 v160 v145
  let v175 : BitVec 32 := Scalar.subi v161 v141
  let c1_i32_84 : BitVec 32 := 1#32
  let v177 : BitVec 32 := Scalar.divsi v175 c1_i32_84
  let v178 : BitVec 32 := Scalar.muli v177 c1_i32_84
  let v179 : BitVec 32 := Scalar.addi v141 v178
  let c1_i32_86 : BitVec 32 := 1#32
  let arg8 : BitVec 32 := Scf.iv v179 c1_i32_86 k0_t4
  let c512_i32_99 : BitVec 32 := 512#32
  let v226 : BitVec 32 := Scalar.muli arg8 c512_i32_99
  let v227 : BitVec 32 := v226
  let v459 : Index := Scalar.indexCast v227
  ![0, 256, v459.toNat]
def k0_off36 (i : grid0.Coords) (k0_t4 : Fin (k0_t4_loop i).trips) : Fin 3 → Nat :=
  let c0_204 : Index := 0#32
  let c128_i32 : BitVec 32 := 128#32
  let arg2 : BitVec 32 := BitVec.ofNat 32 (i 2).val
  let c512_i32 : BitVec 32 := 512#32
  let v0 : BitVec 32 := Scalar.muli arg2 c512_i32
  let v1 : BitVec 32 := Scalar.addi c128_i32 v0
  let c0_i32_58 : BitVec 32 := 0#32
  let v126 : BitVec 1 := Scalar.cmpi .sgt v1 c0_i32_58
  let v127 : BitVec 32 := Scalar.extui v126
  let c0_i32_59 : BitVec 32 := 0#32
  let v128 : BitVec 1 := Scalar.cmpi .slt v1 c0_i32_59
  let v129 : BitVec 32 := Scalar.extui v128
  let v130 : BitVec 32 := Scalar.subi v127 v129
  let c512_i32_57 : BitVec 32 := 512#32
  let c0_i32_60 : BitVec 32 := 0#32
  let v131 : BitVec 1 := Scalar.cmpi .sgt c512_i32_57 c0_i32_60
  let v132 : BitVec 32 := Scalar.extui v131
  let c0_i32_61 : BitVec 32 := 0#32
  let v133 : BitVec 1 := Scalar.cmpi .slt c512_i32_57 c0_i32_61
  let v134 : BitVec 32 := Scalar.extui v133
  let v135 : BitVec 32 := Scalar.subi v132 v134
  let v136 : BitVec 1 := Scalar.cmpi .ne v130 v135
  let v137 : BitVec 32 := Scalar.remsi v1 c512_i32_57
  let c0_i32_62 : BitVec 32 := 0#32
  let v138 : BitVec 1 := Scalar.cmpi .ne v137 c0_i32_62
  let v139 : BitVec 1 := Scalar.andi v136 v138
  let v125 : BitVec 32 := Scalar.divsi v1 c512_i32_57
  let c1_i32_63 : BitVec 32 := 1#32
  let v140 : BitVec 32 := Scalar.subi v125 c1_i32_63
  let v141 : BitVec 32 := Scalar.select v139 v140 v125
  let c512_i32_64 : BitVec 32 := 512#32
  let v142 : BitVec 32 := Scalar.addi v1 c512_i32_64
  let c512_i32_65 : BitVec 32 := 512#32
  let v143 : BitVec 32 := Scalar.addi v142 c512_i32_65
  let c1_i32_66 : BitVec 32 := 1#32
  let v144 : BitVec 32 := Scalar.subi v143 c1_i32_66
  let c0_i32_68 : BitVec 32 := 0#32
  let v146 : BitVec 1 := Scalar.cmpi .sgt v144 c0_i32_68
  let v147 : BitVec 32 := Scalar.extui v146
  let c0_i32_69 : BitVec 32 := 0#32
  let v148 : BitVec 1 := Scalar.cmpi .slt v144 c0_i32_69
  let v149 : BitVec 32 := Scalar.extui v148
  let v150 : BitVec 32 := Scalar.subi v147 v149
  let c512_i32_67 : BitVec 32 := 512#32
  let c0_i32_70 : BitVec 32 := 0#32
  let v151 : BitVec 1 := Scalar.cmpi .sgt c512_i32_67 c0_i32_70
  let v152 : BitVec 32 := Scalar.extui v151
  let c0_i32_71 : BitVec 32 := 0#32
  let v153 : BitVec 1 := Scalar.cmpi .slt c512_i32_67 c0_i32_71
  let v154 : BitVec 32 := Scalar.extui v153
  let v155 : BitVec 32 := Scalar.subi v152 v154
  let v156 : BitVec 1 := Scalar.cmpi .ne v150 v155
  let v157 : BitVec 32 := Scalar.remsi v144 c512_i32_67
  let c0_i32_72 : BitVec 32 := 0#32
  let v158 : BitVec 1 := Scalar.cmpi .ne v157 c0_i32_72
  let v159 : BitVec 1 := Scalar.andi v156 v158
  let v145 : BitVec 32 := Scalar.divsi v144 c512_i32_67
  let c1_i32_73 : BitVec 32 := 1#32
  let v160 : BitVec 32 := Scalar.subi v145 c1_i32_73
  let v161 : BitVec 32 := Scalar.select v159 v160 v145
  let v175 : BitVec 32 := Scalar.subi v161 v141
  let c1_i32_84 : BitVec 32 := 1#32
  let v177 : BitVec 32 := Scalar.divsi v175 c1_i32_84
  let v178 : BitVec 32 := Scalar.muli v177 c1_i32_84
  let v179 : BitVec 32 := Scalar.addi v141 v178
  let c1_i32_86 : BitVec 32 := 1#32
  let arg8 : BitVec 32 := Scf.iv v179 c1_i32_86 k0_t4
  let c512_i32_99 : BitVec 32 := 512#32
  let v226 : BitVec 32 := Scalar.muli arg8 c512_i32_99
  let v227 : BitVec 32 := v226
  let v528 : Index := Scalar.indexCast v227
  let c384_205 : Index := 384#32
  ![0, v528.toNat, 384]
def k0_off37 (i : grid0.Coords) (k0_t4 : Fin (k0_t4_loop i).trips) : Fin 3 → Nat :=
  let c0_206 : Index := 0#32
  let c384_207 : Index := 384#32
  let c128_i32 : BitVec 32 := 128#32
  let arg2 : BitVec 32 := BitVec.ofNat 32 (i 2).val
  let c512_i32 : BitVec 32 := 512#32
  let v0 : BitVec 32 := Scalar.muli arg2 c512_i32
  let v1 : BitVec 32 := Scalar.addi c128_i32 v0
  let c0_i32_58 : BitVec 32 := 0#32
  let v126 : BitVec 1 := Scalar.cmpi .sgt v1 c0_i32_58
  let v127 : BitVec 32 := Scalar.extui v126
  let c0_i32_59 : BitVec 32 := 0#32
  let v128 : BitVec 1 := Scalar.cmpi .slt v1 c0_i32_59
  let v129 : BitVec 32 := Scalar.extui v128
  let v130 : BitVec 32 := Scalar.subi v127 v129
  let c512_i32_57 : BitVec 32 := 512#32
  let c0_i32_60 : BitVec 32 := 0#32
  let v131 : BitVec 1 := Scalar.cmpi .sgt c512_i32_57 c0_i32_60
  let v132 : BitVec 32 := Scalar.extui v131
  let c0_i32_61 : BitVec 32 := 0#32
  let v133 : BitVec 1 := Scalar.cmpi .slt c512_i32_57 c0_i32_61
  let v134 : BitVec 32 := Scalar.extui v133
  let v135 : BitVec 32 := Scalar.subi v132 v134
  let v136 : BitVec 1 := Scalar.cmpi .ne v130 v135
  let v137 : BitVec 32 := Scalar.remsi v1 c512_i32_57
  let c0_i32_62 : BitVec 32 := 0#32
  let v138 : BitVec 1 := Scalar.cmpi .ne v137 c0_i32_62
  let v139 : BitVec 1 := Scalar.andi v136 v138
  let v125 : BitVec 32 := Scalar.divsi v1 c512_i32_57
  let c1_i32_63 : BitVec 32 := 1#32
  let v140 : BitVec 32 := Scalar.subi v125 c1_i32_63
  let v141 : BitVec 32 := Scalar.select v139 v140 v125
  let c512_i32_64 : BitVec 32 := 512#32
  let v142 : BitVec 32 := Scalar.addi v1 c512_i32_64
  let c512_i32_65 : BitVec 32 := 512#32
  let v143 : BitVec 32 := Scalar.addi v142 c512_i32_65
  let c1_i32_66 : BitVec 32 := 1#32
  let v144 : BitVec 32 := Scalar.subi v143 c1_i32_66
  let c0_i32_68 : BitVec 32 := 0#32
  let v146 : BitVec 1 := Scalar.cmpi .sgt v144 c0_i32_68
  let v147 : BitVec 32 := Scalar.extui v146
  let c0_i32_69 : BitVec 32 := 0#32
  let v148 : BitVec 1 := Scalar.cmpi .slt v144 c0_i32_69
  let v149 : BitVec 32 := Scalar.extui v148
  let v150 : BitVec 32 := Scalar.subi v147 v149
  let c512_i32_67 : BitVec 32 := 512#32
  let c0_i32_70 : BitVec 32 := 0#32
  let v151 : BitVec 1 := Scalar.cmpi .sgt c512_i32_67 c0_i32_70
  let v152 : BitVec 32 := Scalar.extui v151
  let c0_i32_71 : BitVec 32 := 0#32
  let v153 : BitVec 1 := Scalar.cmpi .slt c512_i32_67 c0_i32_71
  let v154 : BitVec 32 := Scalar.extui v153
  let v155 : BitVec 32 := Scalar.subi v152 v154
  let v156 : BitVec 1 := Scalar.cmpi .ne v150 v155
  let v157 : BitVec 32 := Scalar.remsi v144 c512_i32_67
  let c0_i32_72 : BitVec 32 := 0#32
  let v158 : BitVec 1 := Scalar.cmpi .ne v157 c0_i32_72
  let v159 : BitVec 1 := Scalar.andi v156 v158
  let v145 : BitVec 32 := Scalar.divsi v144 c512_i32_67
  let c1_i32_73 : BitVec 32 := 1#32
  let v160 : BitVec 32 := Scalar.subi v145 c1_i32_73
  let v161 : BitVec 32 := Scalar.select v159 v160 v145
  let v175 : BitVec 32 := Scalar.subi v161 v141
  let c1_i32_84 : BitVec 32 := 1#32
  let v177 : BitVec 32 := Scalar.divsi v175 c1_i32_84
  let v178 : BitVec 32 := Scalar.muli v177 c1_i32_84
  let v179 : BitVec 32 := Scalar.addi v141 v178
  let c1_i32_86 : BitVec 32 := 1#32
  let arg8 : BitVec 32 := Scf.iv v179 c1_i32_86 k0_t4
  let c512_i32_99 : BitVec 32 := 512#32
  let v226 : BitVec 32 := Scalar.muli arg8 c512_i32_99
  let v227 : BitVec 32 := v226
  let v531 : Index := Scalar.indexCast v227
  ![0, 384, v531.toNat]
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi c1_i32 arg1
  let c0_i32 : BitVec 32 := 0#32
  ![arg0.toNat, arg2.toNat, v0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x2560x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x512x2560 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x2560x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev stage0_4 : Fin 2 → Memref sig .tc .vmem S1x512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]
-- ==== KernelIdeal.lean ====
variable {F : FTy → Type} [FloatOps F] [Named F]
def κ : String → Option EReal := fun
  | "log2e" => some (((Real.log 2)⁻¹ : ℝ) : EReal)
  | "mask" => some ⊥
  | _ => none
-- ==== ReferenceIdeal.lean ====
abbrev S8x2048x512 : Shape := ⟨3, ![8, 2048, 512]⟩
abbrev S8x2176x512 : Shape := ⟨3, ![8, 2176, 512]⟩
abbrev S8x2176x8 : Shape := ⟨3, ![8, 2176, 8]⟩
abbrev S8x2048x8x64 : Shape := ⟨4, ![8, 2048, 8, 64]⟩
abbrev S8x2176x8x64 : Shape := ⟨4, ![8, 2176, 8, 64]⟩
abbrev S8x8x2176 : Shape := ⟨3, ![8, 8, 2176]⟩
abbrev S8x8x2048x2176 : Shape := ⟨4, ![8, 8, 2048, 2176]⟩
abbrev S_ : Shape := ⟨0, ![]⟩
abbrev S8x8x2048 : Shape := ⟨3, ![8, 8, 2048]⟩
abbrev S8x8x2048x1 : Shape := ⟨4, ![8, 8, 2048, 1]⟩
abbrev S8x8x1x2176 : Shape := ⟨4, ![8, 8, 1, 2176]⟩
abbrev S2048 : Shape := ⟨1, ![2048]⟩
abbrev S2048x1 : Shape := ⟨2, ![2048, 1]⟩
abbrev S2176 : Shape := ⟨1, ![2176]⟩
abbrev S1x2176 : Shape := ⟨2, ![1, 2176]⟩
abbrev S2048x2176 : Shape := ⟨2, ![2048, 2176]⟩
abbrev S8x8x64x2048 : Shape := ⟨4, ![8, 8, 64, 2048]⟩

abbrev nBuf : Space → Nat
  | .hbm => 57
  | .vmem => 0
  | .smem => 0
  | _ => 0

abbrev bufTy : (tb : Table) → Fin (tcTables nBuf tb) → BufTy
  | .hbm, ⟨0, _⟩ => ⟨S8x2048x512, .f32⟩
  | .hbm, ⟨1, _⟩ => ⟨S8x2176x512, .f32⟩
  | .hbm, ⟨2, _⟩ => ⟨S8x2176x512, .f32⟩
  | .hbm, ⟨3, _⟩ => ⟨S8x2176x8, .f32⟩
  | .hbm, ⟨4, _⟩ => ⟨S8x2048x8x64, .f32⟩
  | .hbm, ⟨5, _⟩ => ⟨S8x2176x8x64, .f32⟩
  | .hbm, ⟨6, _⟩ => ⟨S8x2176x8x64, .f32⟩
  | .hbm, ⟨7, _⟩ => ⟨S8x8x2176, .f32⟩
  | .hbm, ⟨8, _⟩ => ⟨S8x8x2048x2176, .f32⟩
  | .hbm, ⟨9, _⟩ => ⟨S_, .f32⟩
  | .hbm, ⟨10, _⟩ => ⟨S8x8x2048x2176, .f32⟩
  | .hbm, ⟨11, _⟩ => ⟨S8x8x2048x2176, .f32⟩
  | .hbm, ⟨12, _⟩ => ⟨S8x8x2048, .f32⟩
  | .hbm, ⟨13, _⟩ => ⟨S8x8x2048x1, .f32⟩
  | .hbm, ⟨14, _⟩ => ⟨S8x8x1x2176, .f32⟩
  | .hbm, ⟨15, _⟩ => ⟨S8x8x2048x2176, .f32⟩
  | .hbm, ⟨16, _⟩ => ⟨S8x8x2048x2176, .f32⟩
  | .hbm, ⟨17, _⟩ => ⟨S8x8x2048x2176, .f32⟩
  | .hbm, ⟨18, _⟩ => ⟨S8x8x2048x2176, .f32⟩
  | .hbm, ⟨19, _⟩ => ⟨S2048, .i32⟩
  | .hbm, ⟨20, _⟩ => ⟨S2048x1, .i32⟩
  | .hbm, ⟨21, _⟩ => ⟨S_, .i32⟩
  | .hbm, ⟨22, _⟩ => ⟨S2048x1, .i32⟩
  | .hbm, ⟨23, _⟩ => ⟨S2048x1, .i32⟩
  | .hbm, ⟨24, _⟩ => ⟨S2176, .i32⟩
  | .hbm, ⟨25, _⟩ => ⟨S1x2176, .i32⟩
  | .hbm, ⟨26, _⟩ => ⟨S2048x2176, .i32⟩
  | .hbm, ⟨27, _⟩ => ⟨S2048x2176, .i32⟩
  | .hbm, ⟨28, _⟩ => ⟨S2048x2176, .i1⟩
  | .hbm, ⟨29, _⟩ => ⟨S_, .i32⟩
  | .hbm, ⟨30, _⟩ => ⟨S1x2176, .i32⟩
  | .hbm, ⟨31, _⟩ => ⟨S1x2176, .i1⟩
  | .hbm, ⟨32, _⟩ => ⟨S2048x2176, .i1⟩
  | .hbm, ⟨33, _⟩ => ⟨S2048x2176, .i1⟩
  | .hbm, ⟨34, _⟩ => ⟨S_, .f32⟩
  | .hbm, ⟨35, _⟩ => ⟨S_, .f32⟩
  | .hbm, ⟨36, _⟩ => ⟨S8x8x2048x2176, .i1⟩
  | .hbm, ⟨37, _⟩ => ⟨S8x8x2048x2176, .f32⟩
  | .hbm, ⟨38, _⟩ => ⟨S8x8x2048x2176, .f32⟩
  | .hbm, ⟨39, _⟩ => ⟨S_, .f32⟩
  | .hbm, ⟨40, _⟩ => ⟨S8x8x2048, .f32⟩
  | .hbm, ⟨41, _⟩ => ⟨S_, .f32⟩
  | .hbm, ⟨42, _⟩ => ⟨S8x8x2048, .f32⟩
  | .hbm, ⟨43, _⟩ => ⟨S8x8x2048, .f32⟩
  | .hbm, ⟨44, _⟩ => ⟨S8x8x2048x1, .f32⟩
  | .hbm, ⟨45, _⟩ => ⟨S8x8x2048x2176, .f32⟩
  | .hbm, ⟨46, _⟩ => ⟨S8x8x2048x2176, .f32⟩
  | .hbm, ⟨47, _⟩ => ⟨S8x8x2048x2176, .f32⟩
  | .hbm, ⟨48, _⟩ => ⟨S_, .f32⟩
  | .hbm, ⟨49, _⟩ => ⟨S8x8x2048, .f32⟩
  | .hbm, ⟨50, _⟩ => ⟨S8x8x2048x1, .f32⟩
  | .hbm, ⟨51, _⟩ => ⟨S8x8x2048x2176, .f32⟩
  | .hbm, ⟨52, _⟩ => ⟨S8x8x2048x2176, .f32⟩
  | .hbm, ⟨53, _⟩ => ⟨S8x8x64x2048, .f32⟩
  | .hbm, ⟨54, _⟩ => ⟨S8x2048x8x64, .f32⟩
  | .hbm, ⟨55, _⟩ => ⟨S8x2048x512, .f32⟩
  | .hbm, ⟨56, _⟩ => ⟨S8x2048x512, .bf16⟩
  | _, _ => ⟨S8x2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_c : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_c_0 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_cst_1 : Ref sig .tc := ⟨.hbm, 34, rfl⟩
abbrev main_call0_v0 : Ref sig .tc := ⟨.hbm, 35, rfl⟩
abbrev main_call0_v1 : Ref sig .tc := ⟨.hbm, 36, rfl⟩
abbrev main_call0_v2 : Ref sig .tc := ⟨.hbm, 37, rfl⟩
abbrev main_v27 : Ref sig .tc := ⟨.hbm, 38, rfl⟩
abbrev main_cst_2 : Ref sig .tc := ⟨.hbm, 39, rfl⟩
abbrev main_v28 : Ref sig .tc := ⟨.hbm, 40, rfl⟩
abbrev main_cst_3 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_cst_4 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩

abbrev nD : Nat := 1
abbrev τ : Topo := Topo.v7x

variable {F : FTy → Type} [FloatOps F]
-- ==== Project.lean ====
abbrev S8x2048x1024 : Shape := ⟨3, ![8, 2048, 1024]⟩
abbrev S16x1024 : Shape := ⟨2, ![16, 1024]⟩
abbrev S1x1024 : Shape := ⟨2, ![1, 1024]⟩
abbrev S1024x1024 : Shape := ⟨2, ![1024, 1024]⟩
abbrev S512x1024 : Shape := ⟨2, ![512, 1024]⟩
abbrev S512x1 : Shape := ⟨2, ![512, 1]⟩
abbrev S1024x128 : Shape := ⟨2, ![1024, 128]⟩
abbrev S1x128 : Shape := ⟨2, ![1, 128]⟩
abbrev S1024x3072 : Shape := ⟨2, ![1024, 3072]⟩
abbrev S1x3072 : Shape := ⟨2, ![1, 3072]⟩
abbrev S8x2176x512 : Shape := ⟨3, ![8, 2176, 512]⟩
abbrev S8x2560x512 : Shape := ⟨3, ![8, 2560, 512]⟩
abbrev S8x512x2560 : Shape := ⟨3, ![8, 512, 2560]⟩
abbrev S8x2560x128 : Shape := ⟨3, ![8, 2560, 128]⟩
abbrev S8x2048x3072 : Shape := ⟨3, ![8, 2048, 3072]⟩
abbrev S1x2048x1024 : Shape := ⟨3, ![1, 2048, 1024]⟩
abbrev S1024x512 : Shape := ⟨2, ![1024, 512]⟩
abbrev S1x512 : Shape := ⟨2, ![1, 512]⟩
abbrev S1x2176x512 : Shape := ⟨3, ![1, 2176, 512]⟩
abbrev S1x2560x512 : Shape := ⟨3, ![1, 2560, 512]⟩
abbrev S1x512x2560 : Shape := ⟨3, ![1, 512, 2560]⟩
abbrev S1x2560x128 : Shape := ⟨3, ![1, 2560, 128]⟩
abbrev S1x2048x512 : Shape := ⟨3, ![1, 2048, 512]⟩
abbrev S2176x1024 : Shape := ⟨2, ![2176, 1024]⟩
abbrev S112x1024 : Shape := ⟨2, ![112, 1024]⟩
abbrev S16 : Shape := ⟨1, ![16]⟩
abbrev S16x1 : Shape := ⟨2, ![16, 1]⟩
abbrev S2048x1024 : Shape := ⟨2, ![2048, 1024]⟩
abbrev S2048 : Shape := ⟨1, ![2048]⟩
abbrev S2048x1 : Shape := ⟨2, ![2048, 1]⟩
abbrev S2176x512 : Shape := ⟨2, ![2176, 512]⟩
abbrev S384x512 : Shape := ⟨2, ![384, 512]⟩
abbrev S1x384x512 : Shape := ⟨3, ![1, 384, 512]⟩
abbrev S512x2176 : Shape := ⟨2, ![512, 2176]⟩
abbrev S1x512x2176 : Shape := ⟨3, ![1, 512, 2176]⟩
abbrev S512x384 : Shape := ⟨2, ![512, 384]⟩
abbrev S1x512x384 : Shape := ⟨3, ![1, 512, 384]⟩
abbrev S384x128 : Shape := ⟨2, ![384, 128]⟩
abbrev S1x384x128 : Shape := ⟨3, ![1, 384, 128]⟩
abbrev S2176x128 : Shape := ⟨2, ![2176, 128]⟩
abbrev S128x128 : Shape := ⟨2, ![128, 128]⟩
abbrev S1x128x128 : Shape := ⟨3, ![1, 128, 128]⟩
abbrev S2048x512 : Shape := ⟨2, ![2048, 512]⟩

abbrev nBuf : Space → Nat
  | .hbm => 17
  | .vmem => 26
  | .smem => 0
  | _ => 0

abbrev bufTy : (tb : Table) → Fin (tcTables nBuf tb) → BufTy
  | .hbm, ⟨0, _⟩ => ⟨S8x2048x1024, .f32⟩
  | .hbm, ⟨1, _⟩ => ⟨S16x1024, .f32⟩
  | .hbm, ⟨2, _⟩ => ⟨S1x1024, .f32⟩
  | .hbm, ⟨3, _⟩ => ⟨S1x1024, .f32⟩
  | .hbm, ⟨4, _⟩ => ⟨S1024x1024, .bf16⟩
  | .hbm, ⟨5, _⟩ => ⟨S1x1024, .f32⟩
  | .hbm, ⟨6, _⟩ => ⟨S512x1024, .bf16⟩
  | .hbm, ⟨7, _⟩ => ⟨S512x1, .f32⟩
  | .hbm, ⟨8, _⟩ => ⟨S1024x128, .bf16⟩
  | .hbm, ⟨9, _⟩ => ⟨S1x128, .f32⟩
  | .hbm, ⟨10, _⟩ => ⟨S1024x3072, .bf16⟩
  | .hbm, ⟨11, _⟩ => ⟨S1x3072, .f32⟩
  | .hbm, ⟨12, _⟩ => ⟨S8x2176x512, .bf16⟩
  | .hbm, ⟨13, _⟩ => ⟨S8x2560x512, .bf16⟩
  | .hbm, ⟨14, _⟩ => ⟨S8x512x2560, .bf16⟩
  | .hbm, ⟨15, _⟩ => ⟨S8x2560x128, .f32⟩
  | .hbm, ⟨16, _⟩ => ⟨S8x2048x3072, .bf16⟩
  | .local _ .vmem, ⟨0, _⟩ => ⟨S1x2048x1024, .f32⟩
  | .local _ .vmem, ⟨1, _⟩ => ⟨S1x2048x1024, .f32⟩
  | .local _ .vmem, ⟨2, _⟩ => ⟨S16x1024, .f32⟩
  | .local _ .vmem, ⟨3, _⟩ => ⟨S1x1024, .f32⟩
  | .local _ .vmem, ⟨4, _⟩ => ⟨S1x1024, .f32⟩
  | .local _ .vmem, ⟨5, _⟩ => ⟨S1024x1024, .bf16⟩
  | .local _ .vmem, ⟨6, _⟩ => ⟨S1x1024, .f32⟩
  | .local _ .vmem, ⟨7, _⟩ => ⟨S512x1024, .bf16⟩
  | .local _ .vmem, ⟨8, _⟩ => ⟨S512x1, .f32⟩
  | .local _ .vmem, ⟨9, _⟩ => ⟨S1024x128, .bf16⟩
  | .local _ .vmem, ⟨10, _⟩ => ⟨S1x128, .f32⟩
  | .local _ .vmem, ⟨11, _⟩ => ⟨S1024x512, .bf16⟩
  | .local _ .vmem, ⟨12, _⟩ => ⟨S1024x512, .bf16⟩
  | .local _ .vmem, ⟨13, _⟩ => ⟨S1x512, .f32⟩
  | .local _ .vmem, ⟨14, _⟩ => ⟨S1x512, .f32⟩
  | .local _ .vmem, ⟨15, _⟩ => ⟨S1x2176x512, .bf16⟩
  | .local _ .vmem, ⟨16, _⟩ => ⟨S1x2176x512, .bf16⟩
  | .local _ .vmem, ⟨17, _⟩ => ⟨S1x2560x512, .bf16⟩
  | .local _ .vmem, ⟨18, _⟩ => ⟨S1x2560x512, .bf16⟩
  | .local _ .vmem, ⟨19, _⟩ => ⟨S1x512x2560, .bf16⟩
  | .local _ .vmem, ⟨20, _⟩ => ⟨S1x512x2560, .bf16⟩
  | .local _ .vmem, ⟨21, _⟩ => ⟨S1x2560x128, .f32⟩
  | .local _ .vmem, ⟨22, _⟩ => ⟨S1x2560x128, .f32⟩
  | .local _ .vmem, ⟨23, _⟩ => ⟨S1x2048x512, .bf16⟩
  | .local _ .vmem, ⟨24, _⟩ => ⟨S1x2048x512, .bf16⟩
  | .local _ .vmem, ⟨25, _⟩ => ⟨S2176x1024, .bf16⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0_0 : Ref sig .tc := ⟨.hbm, 12, rfl⟩
abbrev main_v0_1 : Ref sig .tc := ⟨.hbm, 13, rfl⟩
abbrev main_v0_2 : Ref sig .tc := ⟨.hbm, 14, rfl⟩
abbrev main_v0_3 : Ref sig .tc := ⟨.hbm, 15, rfl⟩
abbrev main_v0_4 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg10_1 : Ref sig .tc := ⟨.vmem, 12, rfl⟩
abbrev cc0_stg11_0 : Ref sig .tc := ⟨.vmem, 13, rfl⟩
abbrev cc0_stg11_1 : Ref sig .tc := ⟨.vmem, 14, rfl⟩
abbrev cc0_stg12_0 : Ref sig .tc := ⟨.vmem, 15, rfl⟩
abbrev cc0_stg12_1 : Ref sig .tc := ⟨.vmem, 16, rfl⟩
abbrev cc0_stg13_0 : Ref sig .tc := ⟨.vmem, 17, rfl⟩
abbrev cc0_stg13_1 : Ref sig .tc := ⟨.vmem, 18, rfl⟩
abbrev cc0_stg14_0 : Ref sig .tc := ⟨.vmem, 19, rfl⟩
abbrev cc0_stg14_1 : Ref sig .tc := ⟨.vmem, 20, rfl⟩
abbrev cc0_stg15_0 : Ref sig .tc := ⟨.vmem, 21, rfl⟩
abbrev cc0_stg15_1 : Ref sig .tc := ⟨.vmem, 22, rfl⟩
abbrev cc0_stg16_0 : Ref sig .tc := ⟨.vmem, 23, rfl⟩
abbrev cc0_stg16_1 : Ref sig .tc := ⟨.vmem, 24, rfl⟩
abbrev cc0_scratch0 : Ref sig .tc := ⟨.vmem, 25, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem10_1 : DmaSem sig := 12
abbrev cc0_sem11_0 : DmaSem sig := 13
abbrev cc0_sem11_1 : DmaSem sig := 14
abbrev cc0_sem12_0 : DmaSem sig := 15
abbrev cc0_sem12_1 : DmaSem sig := 16
abbrev cc0_sem13_0 : DmaSem sig := 17
abbrev cc0_sem13_1 : DmaSem sig := 18
abbrev cc0_sem14_0 : DmaSem sig := 19
abbrev cc0_sem14_1 : DmaSem sig := 20
abbrev cc0_sem15_0 : DmaSem sig := 21
abbrev cc0_sem15_1 : DmaSem sig := 22
abbrev cc0_sem16_0 : DmaSem sig := 23
abbrev cc0_sem16_1 : DmaSem sig := 24

abbrev nD : Nat := 1
abbrev τ : Topo := Topo.v7x

variable {F : FTy → Type} [FloatOps F]

abbrev grid0 : Pipeline.Grid := ⟨2, ![8, 7], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg1 : BitVec 32 := BitVec.ofNat 32 (i 1).val
  let c0_i32_1 : BitVec 32 := 0#32
  let v3 : BitVec 1 := Scalar.cmpi .sgt arg1 c0_i32_1
  let v4 : BitVec 32 := Scalar.extui v3
  let c0_i32_2 : BitVec 32 := 0#32
  let v5 : BitVec 1 := Scalar.cmpi .ne v4 c0_i32_2
  v5

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  let c0_i32_1 : BitVec 32 := 0#32
  ![c0_i32_0.toNat, v1.toNat]

def cc0_transform_11 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  let c0_i32_1 : BitVec 32 := 0#32
  ![c0_i32_0.toNat, v1.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_16 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  let c0_i32_1 : BitVec 32 := 0#32
  ![arg0.toNat, c0_i32_0.toNat, v1.toNat]

abbrev stage0_0 : Fin 2 → Memref sig .tc .vmem S1x2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S16x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S512x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1024x128 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1024x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![false, true]

abbrev stage0_11 : Fin 2 → Memref sig .tc .vmem S1x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![false, true]

abbrev stage0_12 : Fin 2 → Memref sig .tc .vmem S1x2176x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]

abbrev stage0_13 : Fin 2 → Memref sig .tc .vmem S1x2560x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, false]

abbrev stage0_14 : Fin 2 → Memref sig .tc .vmem S1x512x2560 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, false]

abbrev stage0_15 : Fin 2 → Memref sig .tc .vmem S1x2560x128 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, false]

abbrev stage0_16 : Fin 2 → Memref sig .tc .vmem S1x2048x512 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]
-- ==== ProjectReferenceIdeal.lean ====
abbrev S8x2048x1024 : Shape := ⟨3, ![8, 2048, 1024]⟩
abbrev S16x1024 : Shape := ⟨2, ![16, 1024]⟩
abbrev S1x1024 : Shape := ⟨2, ![1, 1024]⟩
abbrev S1024x1024 : Shape := ⟨2, ![1024, 1024]⟩
abbrev S512x1024 : Shape := ⟨2, ![512, 1024]⟩
abbrev S512x1 : Shape := ⟨2, ![512, 1]⟩
abbrev S1024x128 : Shape := ⟨2, ![1024, 128]⟩
abbrev S1x128 : Shape := ⟨2, ![1, 128]⟩
abbrev S1024x3072 : Shape := ⟨2, ![1024, 3072]⟩
abbrev S1x3072 : Shape := ⟨2, ![1, 3072]⟩
abbrev S8x16x1024 : Shape := ⟨3, ![8, 16, 1024]⟩
abbrev S8x2064x1024 : Shape := ⟨3, ![8, 2064, 1024]⟩
abbrev S_ : Shape := ⟨0, ![]⟩
abbrev S8x2064 : Shape := ⟨2, ![8, 2064]⟩
abbrev S8x2064x1 : Shape := ⟨3, ![8, 2064, 1]⟩
abbrev S1x1x1024 : Shape := ⟨3, ![1, 1, 1024]⟩
abbrev S8x2176x1024 : Shape := ⟨3, ![8, 2176, 1024]⟩
abbrev S8x2176x512 : Shape := ⟨3, ![8, 2176, 512]⟩
abbrev S8x2560x512 : Shape := ⟨3, ![8, 2560, 512]⟩
abbrev S8x512x2176 : Shape := ⟨3, ![8, 512, 2176]⟩
abbrev S1x512x1 : Shape := ⟨3, ![1, 512, 1]⟩
abbrev S8x512x2560 : Shape := ⟨3, ![8, 512, 2560]⟩
abbrev S8x2064x128 : Shape := ⟨3, ![8, 2064, 128]⟩
abbrev S1x1x128 : Shape := ⟨3, ![1, 1, 128]⟩
abbrev S8x2176x128 : Shape := ⟨3, ![8, 2176, 128]⟩
abbrev S8x2560x128 : Shape := ⟨3, ![8, 2560, 128]⟩
abbrev S8x2048x3072 : Shape := ⟨3, ![8, 2048, 3072]⟩
abbrev S1x1x3072 : Shape := ⟨3, ![1, 1, 3072]⟩

abbrev nBuf : Space → Nat
  | .hbm => 105
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S16x1024, .f32⟩
  | .hbm, ⟨2, _⟩ => ⟨S1x1024, .f32⟩
  | .hbm, ⟨3, _⟩ => ⟨S1x1024, .f32⟩
  | .hbm, ⟨4, _⟩ => ⟨S1024x1024, .bf16⟩
  | .hbm, ⟨5, _⟩ => ⟨S1x1024, .f32⟩
  | .hbm, ⟨6, _⟩ => ⟨S512x1024, .bf16⟩
  | .hbm, ⟨7, _⟩ => ⟨S512x1, .f32⟩
  | .hbm, ⟨8, _⟩ => ⟨S1024x128, .bf16⟩
  | .hbm, ⟨9, _⟩ => ⟨S1x128, .f32⟩
  | .hbm, ⟨10, _⟩ => ⟨S1024x3072, .bf16⟩
  | .hbm, ⟨11, _⟩ => ⟨S1x3072, .f32⟩
  | .hbm, ⟨12, _⟩ => ⟨S8x16x1024, .f32⟩
  | .hbm, ⟨13, _⟩ => ⟨S8x2064x1024, .f32⟩
  | .hbm, ⟨14, _⟩ => ⟨S_, .f32⟩
  | .hbm, ⟨15, _⟩ => ⟨S8x2064, .f32⟩
  | .hbm, ⟨16, _⟩ => ⟨S8x2064x1, .f32⟩
  | .hbm, ⟨17, _⟩ => ⟨S_, .f32⟩
  | .hbm, ⟨18, _⟩ => ⟨S8x2064x1, .f32⟩
  | .hbm, ⟨19, _⟩ => ⟨S8x2064x1, .f32⟩
  | .hbm, ⟨20, _⟩ => ⟨S8x2064x1024, .f32⟩
  | .hbm, ⟨21, _⟩ => ⟨S8x2064x1024, .f32⟩
  | .hbm, ⟨22, _⟩ => ⟨S8x2064x1024, .f32⟩
  | .hbm, ⟨23, _⟩ => ⟨S_, .f32⟩
  | .hbm, ⟨24, _⟩ => ⟨S8x2064, .f32⟩
  | .hbm, ⟨25, _⟩ => ⟨S8x2064x1, .f32⟩
  | .hbm, ⟨26, _⟩ => ⟨S_, .f32⟩
  | .hbm, ⟨27, _⟩ => ⟨S8x2064x1, .f32⟩
  | .hbm, ⟨28, _⟩ => ⟨S8x2064x1, .f32⟩
  | .hbm, ⟨29, _⟩ => ⟨S_, .f32⟩
  | .hbm, ⟨30, _⟩ => ⟨S8x2064x1, .f32⟩
  | .hbm, ⟨31, _⟩ => ⟨S8x2064x1, .f32⟩
  | .hbm, ⟨32, _⟩ => ⟨S8x2064x1, .f32⟩
  | .hbm, ⟨33, _⟩ => ⟨S8x2064x1024, .f32⟩
  | .hbm, ⟨34, _⟩ => ⟨S8x2064x1024, .f32⟩
  | .hbm, ⟨35, _⟩ => ⟨S1x1x1024, .f32⟩
  | .hbm, ⟨36, _⟩ => ⟨S8x2064x1024, .f32⟩
  | .hbm, ⟨37, _⟩ => ⟨S8x2064x1024, .f32⟩
  | .hbm, ⟨38, _⟩ => ⟨S1x1x1024, .f32⟩
  | .hbm, ⟨39, _⟩ => ⟨S8x2064x1024, .f32⟩
  | .hbm, ⟨40, _⟩ => ⟨S8x2064x1024, .f32⟩
  | .hbm, ⟨41, _⟩ => ⟨S_, .i32⟩
  | .hbm, ⟨42, _⟩ => ⟨S_, .f32⟩
  | .hbm, ⟨43, _⟩ => ⟨S8x2176x1024, .f32⟩
  | .hbm, ⟨44, _⟩ => ⟨S1024x1024, .f32⟩
  | .hbm, ⟨45, _⟩ => ⟨S8x2176x1024, .f32⟩
  | .hbm, ⟨46, _⟩ => ⟨S1x1x1024, .f32⟩
  | .hbm, ⟨47, _⟩ => ⟨S8x2176x1024, .f32⟩
  | .hbm, ⟨48, _⟩ => ⟨S8x2176x1024, .f32⟩
  | .hbm, ⟨49, _⟩ => ⟨S8x2176x512, .f32⟩
  | .hbm, ⟨50, _⟩ => ⟨S8x2176x512, .f32⟩
  | .hbm, ⟨51, _⟩ => ⟨S_, .i32⟩
  | .hbm, ⟨52, _⟩ => ⟨S_, .f32⟩
  | .hbm, ⟨53, _⟩ => ⟨S8x2560x512, .f32⟩
  | .hbm, ⟨54, _⟩ => ⟨S512x1024, .f32⟩
  | .hbm, ⟨55, _⟩ => ⟨S8x2176x512, .f32⟩
  | .hbm, ⟨56, _⟩ => ⟨S8x512x2176, .f32⟩
  | .hbm, ⟨57, _⟩ => ⟨S1x512x1, .f32⟩
  | .hbm, ⟨58, _⟩ => ⟨S8x512x2176, .f32⟩
  | .hbm, ⟨59, _⟩ => ⟨S8x512x2176, .f32⟩
  | .hbm, ⟨60, _⟩ => ⟨S_, .i32⟩
  | .hbm, ⟨61, _⟩ => ⟨S_, .f32⟩
  | .hbm, ⟨62, _⟩ => ⟨S8x512x2560, .f32⟩
  | .hbm, ⟨63, _⟩ => ⟨S8x2064x1024, .f32⟩
  | .hbm, ⟨64, _⟩ => ⟨S1024x128, .f32⟩
  | .hbm, ⟨65, _⟩ => ⟨S8x2064x128, .f32⟩
  | .hbm, ⟨66, _⟩ => ⟨S1x1x128, .f32⟩
  | .hbm, ⟨67, _⟩ => ⟨S8x2064x128, .f32⟩
  | .hbm, ⟨68, _⟩ => ⟨S8x2064x128, .f32⟩
  | .hbm, ⟨69, _⟩ => ⟨S8x2064x128, .f32⟩
  | .hbm, ⟨70, _⟩ => ⟨S_, .f32⟩
  | .hbm, ⟨71, _⟩ => ⟨S8x2064x128, .f32⟩
  | .hbm, ⟨72, _⟩ => ⟨S8x2064x128, .f32⟩
  | .hbm, ⟨73, _⟩ => ⟨S8x2064x128, .f32⟩
  | .hbm, ⟨74, _⟩ => ⟨S8x2064x128, .f32⟩
  | .hbm, ⟨75, _⟩ => ⟨S8x2064x128, .i1⟩
  | .hbm, ⟨76, _⟩ => ⟨S8x2064x128, .f32⟩
  | .hbm, ⟨77, _⟩ => ⟨S8x2064x128, .f32⟩
  | .hbm, ⟨78, _⟩ => ⟨S8x2064x128, .f32⟩
  | .hbm, ⟨79, _⟩ => ⟨S8x2064x128, .f32⟩
  | .hbm, ⟨80, _⟩ => ⟨S8x2064x128, .f32⟩
  | .hbm, ⟨81, _⟩ => ⟨S8x2064x128, .f32⟩
  | .hbm, ⟨82, _⟩ => ⟨S8x2064x128, .f32⟩
  | .hbm, ⟨83, _⟩ => ⟨S8x2064x128, .f32⟩
  | .hbm, ⟨84, _⟩ => ⟨S8x2064x128, .f32⟩
  | .hbm, ⟨85, _⟩ => ⟨S_, .i32⟩
  | .hbm, ⟨86, _⟩ => ⟨S_, .f32⟩
  | .hbm, ⟨87, _⟩ => ⟨S8x2176x128, .f32⟩
  | .hbm, ⟨88, _⟩ => ⟨S_, .f32⟩
  | .hbm, ⟨89, _⟩ => ⟨S_, .f32⟩
  | .hbm, ⟨90, _⟩ => ⟨S8x2176x128, .f32⟩
  | .hbm, ⟨91, _⟩ => ⟨S8x2064x128, .f32⟩
  | .hbm, ⟨92, _⟩ => ⟨S_, .f32⟩
  | .hbm, ⟨93, _⟩ => ⟨S_, .f32⟩
  | .hbm, ⟨94, _⟩ => ⟨S8x2560x128, .f32⟩
  | .hbm, ⟨95, _⟩ => ⟨S8x2048x1024, .f32⟩
  | .hbm, ⟨96, _⟩ => ⟨S1024x3072, .f32⟩
  | .hbm, ⟨97, _⟩ => ⟨S8x2048x3072, .f32⟩
  | .hbm, ⟨98, _⟩ => ⟨S1x1x3072, .f32⟩
  | .hbm, ⟨99, _⟩ => ⟨S8x2048x3072, .f32⟩
  | .hbm, ⟨100, _⟩ => ⟨S8x2048x3072, .f32⟩
  | .hbm, ⟨101, _⟩ => ⟨S8x2176x512, .bf16⟩
  | .hbm, ⟨102, _⟩ => ⟨S8x2560x512, .bf16⟩
  | .hbm, ⟨103, _⟩ => ⟨S8x512x2560, .bf16⟩
  | .hbm, ⟨104, _⟩ => ⟨S8x2048x3072, .bf16⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_cst : Ref sig .tc := ⟨.hbm, 14, rfl⟩
abbrev main_v2 : Ref sig .tc := ⟨.hbm, 15, rfl⟩
abbrev main_v3 : Ref sig .tc := ⟨.hbm, 16, rfl⟩
abbrev main_cst_0 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_cst_1 : Ref sig .tc := ⟨.hbm, 23, rfl⟩
abbrev main_v9 : Ref sig .tc := ⟨.hbm, 24, rfl⟩
abbrev main_v10 : Ref sig .tc := ⟨.hbm, 25, rfl⟩
abbrev main_cst_2 : Ref sig .tc := ⟨.hbm, 26, rfl⟩
abbrev main_v11 : Ref sig .tc := ⟨.hbm, 27, rfl⟩
abbrev main_v12 : Ref sig .tc := ⟨.hbm, 28, rfl⟩
abbrev main_cst_3 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_c : Ref sig .tc := ⟨.hbm, 41, rfl⟩
abbrev main_call0_v0 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_c_4 : Ref sig .tc := ⟨.hbm, 51, rfl⟩
abbrev main_call1_v0 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_c_5 : Ref sig .tc := ⟨.hbm, 60, rfl⟩
abbrev main_call2_v0 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_call3_v0 : Ref sig .tc := ⟨.hbm, 69, rfl⟩
abbrev main_call3_call0_cst : Ref sig .tc := ⟨.hbm, 70, rfl⟩
abbrev main_call3_call0_v0 : Ref sig .tc := ⟨.hbm, 71, rfl⟩
abbrev main_call3_call0_v1 : Ref sig .tc := ⟨.hbm, 72, rfl⟩
abbrev main_call3_call0_v2 : Ref sig .tc := ⟨.hbm, 73, rfl⟩
abbrev main_call3_call0_v3 : Ref sig .tc := ⟨.hbm, 74, rfl⟩
abbrev main_call3_call0_v4 : Ref sig .tc := ⟨.hbm, 75, rfl⟩
abbrev main_call3_call0_v5 : Ref sig .tc := ⟨.hbm, 76, rfl⟩
abbrev main_call3_call0_v6 : Ref sig .tc := ⟨.hbm, 77, rfl⟩
abbrev main_call3_call0_v7 : Ref sig .tc := ⟨.hbm, 78, rfl⟩
abbrev main_call3_call0_v8 : Ref sig .tc := ⟨.hbm, 79, rfl⟩
abbrev main_call3_call0_v9 : Ref sig .tc := ⟨.hbm, 80, rfl⟩
abbrev main_call3_call0_v10 : Ref sig .tc := ⟨.hbm, 81, rfl⟩
abbrev main_call3_call0_v11 : Ref sig .tc := ⟨.hbm, 82, rfl⟩
abbrev main_call3_v1 : Ref sig .tc := ⟨.hbm, 83, rfl⟩
abbrev main_v46 : Ref sig .tc := ⟨.hbm, 84, rfl⟩
abbrev main_c_6 : Ref sig .tc := ⟨.hbm, 85, rfl⟩
abbrev main_call4_v0 : Ref sig .tc := ⟨.hbm, 86, rfl⟩
abbrev main_v47 : Ref sig .tc := ⟨.hbm, 87, rfl⟩
abbrev main_call5_call0_cst : Ref sig .tc := ⟨.hbm, 88, rfl⟩
abbrev main_call5_call0_v0 : Ref sig .tc := ⟨.hbm, 89, rfl⟩
abbrev main_v48 : Ref sig .tc := ⟨.hbm, 90, rfl⟩
abbrev main_v49 : Ref sig .tc := ⟨.hbm, 91, rfl⟩
abbrev main_cst_7 : Ref sig .tc := ⟨.hbm, 92, rfl⟩
abbrev main_call6_v0 : Ref sig .tc := ⟨.hbm, 93, rfl⟩
abbrev main_v50 : Ref sig .tc := ⟨.hbm, 94, rfl⟩
abbrev main_v51 : Ref sig .tc := ⟨.hbm, 95, rfl⟩
abbrev main_v52 : Ref sig .tc := ⟨.hbm, 96, rfl⟩
abbrev main_v53 : Ref sig .tc := ⟨.hbm, 97, rfl⟩
abbrev main_v54 : Ref sig .tc := ⟨.hbm, 98, rfl⟩
abbrev main_v55 : Ref sig .tc := ⟨.hbm, 99, rfl⟩
abbrev main_v56 : Ref sig .tc := ⟨.hbm, 100, rfl⟩
abbrev main_v57 : Ref sig .tc := ⟨.hbm, 101, rfl⟩
abbrev main_v58 : Ref sig .tc := ⟨.hbm, 102, rfl⟩
abbrev main_v59 : Ref sig .tc := ⟨.hbm, 103, rfl⟩
abbrev main_v60 : Ref sig .tc := ⟨.hbm, 104, rfl⟩

abbrev nD : Nat := 1
abbrev τ : Topo := Topo.v7x

variable {F : FTy → Type} [FloatOps F]
-- ==== Merge.lean ====
abbrev S16384x1024 : Shape := ⟨2, ![16384, 1024]⟩
abbrev S16384x512 : Shape := ⟨2, ![16384, 512]⟩
abbrev S16384x3072 : Shape := ⟨2, ![16384, 3072]⟩
abbrev S1x1024 : Shape := ⟨2, ![1, 1024]⟩
abbrev S512x1024 : Shape := ⟨2, ![512, 1024]⟩
abbrev S1024x1024 : Shape := ⟨2, ![1024, 1024]⟩
abbrev S1024x16384 : Shape := ⟨2, ![1024, 16384]⟩
abbrev S512x512 : Shape := ⟨2, ![512, 512]⟩
abbrev S1024x512 : Shape := ⟨2, ![1024, 512]⟩
abbrev S512 : Shape := ⟨1, ![512]⟩
abbrev S512x1 : Shape := ⟨2, ![512, 1]⟩

abbrev nBuf : Space → Nat
  | .hbm => 13
  | .vmem => 21
  | .smem => 0
  | _ => 0

abbrev bufTy : (tb : Table) → Fin (tcTables nBuf tb) → BufTy
  | .hbm, ⟨0, _⟩ => ⟨S16384x1024, .f32⟩
  | .hbm, ⟨1, _⟩ => ⟨S16384x512, .bf16⟩
  | .hbm, ⟨2, _⟩ => ⟨S16384x512, .bf16⟩
  | .hbm, ⟨3, _⟩ => ⟨S16384x3072, .bf16⟩
  | .hbm, ⟨4, _⟩ => ⟨S1x1024, .f32⟩
  | .hbm, ⟨5, _⟩ => ⟨S1x1024, .f32⟩
  | .hbm, ⟨6, _⟩ => ⟨S512x1024, .bf16⟩
  | .hbm, ⟨7, _⟩ => ⟨S512x1024, .bf16⟩
  | .hbm, ⟨8, _⟩ => ⟨S1024x1024, .bf16⟩
  | .hbm, ⟨9, _⟩ => ⟨S1x1024, .f32⟩
  | .hbm, ⟨10, _⟩ => ⟨S1x1024, .f32⟩
  | .hbm, ⟨11, _⟩ => ⟨S16384x1024, .f32⟩
  | .hbm, ⟨12, _⟩ => ⟨S1024x16384, .bf16⟩
  | .local _ .vmem, ⟨0, _⟩ => ⟨S512x1024, .f32⟩
  | .local _ .vmem, ⟨1, _⟩ => ⟨S512x1024, .f32⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S1x1024, .f32⟩
  | .local _ .vmem, ⟨11, _⟩ => ⟨S1x1024, .f32⟩
  | .local _ .vmem, ⟨12, _⟩ => ⟨S512x1024, .bf16⟩
  | .local _ .vmem, ⟨13, _⟩ => ⟨S512x1024, .bf16⟩
  | .local _ .vmem, ⟨14, _⟩ => ⟨S1024x1024, .bf16⟩
  | .local _ .vmem, ⟨15, _⟩ => ⟨S1x1024, .f32⟩
  | .local _ .vmem, ⟨16, _⟩ => ⟨S1x1024, .f32⟩
  | .local _ .vmem, ⟨17, _⟩ => ⟨S512x1024, .f32⟩
  | .local _ .vmem, ⟨18, _⟩ => ⟨S512x1024, .f32⟩
  | .local _ .vmem, ⟨19, _⟩ => ⟨S1024x512, .bf16⟩
  | .local _ .vmem, ⟨20, _⟩ => ⟨S1024x512, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0_0 : Ref sig .tc := ⟨.hbm, 11, rfl⟩
abbrev main_v0_1 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg12_1 : Ref sig .tc := ⟨.vmem, 18, rfl⟩
abbrev cc0_stg13_0 : Ref sig .tc := ⟨.vmem, 19, rfl⟩
abbrev cc0_stg13_1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem12_0 : DmaSem sig := 17
abbrev cc0_sem12_1 : DmaSem sig := 18
abbrev cc0_sem13_0 : DmaSem sig := 19
abbrev cc0_sem13_1 : DmaSem sig := 20

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_4 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S512x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S512x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1024x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== MergeReferenceIdeal.lean ====
abbrev S16384x1024 : Shape := ⟨2, ![16384, 1024]⟩
abbrev S16384x512 : Shape := ⟨2, ![16384, 512]⟩
abbrev S16384x3072 : Shape := ⟨2, ![16384, 3072]⟩
abbrev S1x1024 : Shape := ⟨2, ![1, 1024]⟩
abbrev S512x1024 : Shape := ⟨2, ![512, 1024]⟩
abbrev S1024x1024 : Shape := ⟨2, ![1024, 1024]⟩
abbrev S_ : Shape := ⟨0, ![]⟩
abbrev S16384 : Shape := ⟨1, ![16384]⟩
abbrev S16384x1 : Shape := ⟨2, ![16384, 1]⟩
abbrev S1024x16384 : Shape := ⟨2, ![1024, 16384]⟩

abbrev nBuf : Space → Nat
  | .hbm => 98
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x512, .bf16⟩
  | .hbm, ⟨2, _⟩ => ⟨S16384x512, .bf16⟩
  | .hbm, ⟨3, _⟩ => ⟨S16384x3072, .bf16⟩
  | .hbm, ⟨4, _⟩ => ⟨S1x1024, .f32⟩
  | .hbm, ⟨5, _⟩ => ⟨S1x1024, .f32⟩
  | .hbm, ⟨6, _⟩ => ⟨S512x1024, .bf16⟩
  | .hbm, ⟨7, _⟩ => ⟨S512x1024, .bf16⟩
  | .hbm, ⟨8, _⟩ => ⟨S1024x1024, .bf16⟩
  | .hbm, ⟨9, _⟩ => ⟨S1x1024, .f32⟩
  | .hbm, ⟨10, _⟩ => ⟨S1x1024, .f32⟩
  | .hbm, ⟨11, _⟩ => ⟨S16384x1024, .bf16⟩
  | .hbm, ⟨12, _⟩ => ⟨S16384x1024, .f32⟩
  | .hbm, ⟨13, _⟩ => ⟨S16384x1024, .bf16⟩
  | .hbm, ⟨14, _⟩ => ⟨S16384x1024, .f32⟩
  | .hbm, ⟨15, _⟩ => ⟨S_, .f32⟩
  | .hbm, ⟨16, _⟩ => ⟨S16384, .f32⟩
  | .hbm, ⟨17, _⟩ => ⟨S16384x1, .f32⟩
  | .hbm, ⟨18, _⟩ => ⟨S_, .f32⟩
  | .hbm, ⟨19, _⟩ => ⟨S16384x1, .f32⟩
  | .hbm, ⟨20, _⟩ => ⟨S16384x1, .f32⟩
  | .hbm, ⟨21, _⟩ => ⟨S16384x1024, .f32⟩
  | .hbm, ⟨22, _⟩ => ⟨S16384x1024, .f32⟩
  | .hbm, ⟨23, _⟩ => ⟨S16384x1024, .f32⟩
  | .hbm, ⟨24, _⟩ => ⟨S_, .f32⟩
  | .hbm, ⟨25, _⟩ => ⟨S16384, .f32⟩
  | .hbm, ⟨26, _⟩ => ⟨S16384x1, .f32⟩
  | .hbm, ⟨27, _⟩ => ⟨S_, .f32⟩
  | .hbm, ⟨28, _⟩ => ⟨S16384x1, .f32⟩
  | .hbm, ⟨29, _⟩ => ⟨S16384x1, .f32⟩
  | .hbm, ⟨30, _⟩ => ⟨S_, .f32⟩
  | .hbm, ⟨31, _⟩ => ⟨S16384x1, .f32⟩
  | .hbm, ⟨32, _⟩ => ⟨S16384x1, .f32⟩
  | .hbm, ⟨33, _⟩ => ⟨S16384x1, .f32⟩
  | .hbm, ⟨34, _⟩ => ⟨S16384x1024, .f32⟩
  | .hbm, ⟨35, _⟩ => ⟨S16384x1024, .f32⟩
  | .hbm, ⟨36, _⟩ => ⟨S16384x1024, .f32⟩
  | .hbm, ⟨37, _⟩ => ⟨S16384x1024, .f32⟩
  | .hbm, ⟨38, _⟩ => ⟨S16384x1024, .f32⟩
  | .hbm, ⟨39, _⟩ => ⟨S16384x1024, .f32⟩
  | .hbm, ⟨40, _⟩ => ⟨S16384x1024, .f32⟩
  | .hbm, ⟨41, _⟩ => ⟨S16384x1024, .f32⟩
  | .hbm, ⟨42, _⟩ => ⟨S_, .f32⟩
  | .hbm, ⟨43, _⟩ => ⟨S16384x1024, .f32⟩
  | .hbm, ⟨44, _⟩ => ⟨S16384x1024, .f32⟩
  | .hbm, ⟨45, _⟩ => ⟨S_, .f32⟩
  | .hbm, ⟨46, _⟩ => ⟨S16384x1024, .f32⟩
  | .hbm, ⟨47, _⟩ => ⟨S16384x1024, .f32⟩
  | .hbm, ⟨48, _⟩ => ⟨S16384x512, .f32⟩
  | .hbm, ⟨49, _⟩ => ⟨S512x1024, .f32⟩
  | .hbm, ⟨50, _⟩ => ⟨S16384x1024, .f32⟩
  | .hbm, ⟨51, _⟩ => ⟨S16384x1024, .f32⟩
  | .hbm, ⟨52, _⟩ => ⟨S16384x1024, .f32⟩
  | .hbm, ⟨53, _⟩ => ⟨S16384x1024, .f32⟩
  | .hbm, ⟨54, _⟩ => ⟨S_, .f32⟩
  | .hbm, ⟨55, _⟩ => ⟨S16384x1024, .f32⟩
  | .hbm, ⟨56, _⟩ => ⟨S16384x1024, .f32⟩
  | .hbm, ⟨57, _⟩ => ⟨S_, .f32⟩
  | .hbm, ⟨58, _⟩ => ⟨S16384x1024, .f32⟩
  | .hbm, ⟨59, _⟩ => ⟨S16384x1024, .f32⟩
  | .hbm, ⟨60, _⟩ => ⟨S16384x512, .f32⟩
  | .hbm, ⟨61, _⟩ => ⟨S512x1024, .f32⟩
  | .hbm, ⟨62, _⟩ => ⟨S16384x1024, .f32⟩
  | .hbm, ⟨63, _⟩ => ⟨S16384x1024, .f32⟩
  | .hbm, ⟨64, _⟩ => ⟨S16384x1024, .f32⟩
  | .hbm, ⟨65, _⟩ => ⟨S_, .f32⟩
  | .hbm, ⟨66, _⟩ => ⟨S16384x1024, .f32⟩
  | .hbm, ⟨67, _⟩ => ⟨S16384x1024, .f32⟩
  | .hbm, ⟨68, _⟩ => ⟨S1024x1024, .f32⟩
  | .hbm, ⟨69, _⟩ => ⟨S16384x1024, .f32⟩
  | .hbm, ⟨70, _⟩ => ⟨S16384x1024, .f32⟩
  | .hbm, ⟨71, _⟩ => ⟨S_, .f32⟩
  | .hbm, ⟨72, _⟩ => ⟨S16384, .f32⟩
  | .hbm, ⟨73, _⟩ => ⟨S16384x1, .f32⟩
  | .hbm, ⟨74, _⟩ => ⟨S_, .f32⟩
  | .hbm, ⟨75, _⟩ => ⟨S16384x1, .f32⟩
  | .hbm, ⟨76, _⟩ => ⟨S16384x1, .f32⟩
  | .hbm, ⟨77, _⟩ => ⟨S16384x1024, .f32⟩
  | .hbm, ⟨78, _⟩ => ⟨S16384x1024, .f32⟩
  | .hbm, ⟨79, _⟩ => ⟨S16384x1024, .f32⟩
  | .hbm, ⟨80, _⟩ => ⟨S_, .f32⟩
  | .hbm, ⟨81, _⟩ => ⟨S16384, .f32⟩
  | .hbm, ⟨82, _⟩ => ⟨S16384x1, .f32⟩
  | .hbm, ⟨83, _⟩ => ⟨S_, .f32⟩
  | .hbm, ⟨84, _⟩ => ⟨S16384x1, .f32⟩
  | .hbm, ⟨85, _⟩ => ⟨S16384x1, .f32⟩
  | .hbm, ⟨86, _⟩ => ⟨S_, .f32⟩
  | .hbm, ⟨87, _⟩ => ⟨S16384x1, .f32⟩
  | .hbm, ⟨88, _⟩ => ⟨S16384x1, .f32⟩
  | .hbm, ⟨89, _⟩ => ⟨S16384x1, .f32⟩
  | .hbm, ⟨90, _⟩ => ⟨S16384x1024, .f32⟩
  | .hbm, ⟨91, _⟩ => ⟨S16384x1024, .f32⟩
  | .hbm, ⟨92, _⟩ => ⟨S16384x1024, .f32⟩
  | .hbm, ⟨93, _⟩ => ⟨S16384x1024, .f32⟩
  | .hbm, ⟨94, _⟩ => ⟨S16384x1024, .f32⟩
  | .hbm, ⟨95, _⟩ => ⟨S16384x1024, .f32⟩
  | .hbm, ⟨96, _⟩ => ⟨S1024x16384, .f32⟩
  | .hbm, ⟨97, _⟩ => ⟨S1024x16384, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst : Ref sig .tc := ⟨.hbm, 15, rfl⟩
abbrev main_v4 : Ref sig .tc := ⟨.hbm, 16, rfl⟩
abbrev main_v5 : Ref sig .tc := ⟨.hbm, 17, rfl⟩
abbrev main_cst_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst_1 : Ref sig .tc := ⟨.hbm, 24, rfl⟩
abbrev main_v11 : Ref sig .tc := ⟨.hbm, 25, rfl⟩
abbrev main_v12 : Ref sig .tc := ⟨.hbm, 26, rfl⟩
abbrev main_cst_2 : Ref sig .tc := ⟨.hbm, 27, rfl⟩
abbrev main_v13 : Ref sig .tc := ⟨.hbm, 28, rfl⟩
abbrev main_v14 : Ref sig .tc := ⟨.hbm, 29, rfl⟩
abbrev main_cst_3 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_cst_4 : Ref sig .tc := ⟨.hbm, 42, rfl⟩
abbrev main_v26 : Ref sig .tc := ⟨.hbm, 43, rfl⟩
abbrev main_v27 : Ref sig .tc := ⟨.hbm, 44, rfl⟩
abbrev main_cst_5 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_cst_6 : Ref sig .tc := ⟨.hbm, 54, rfl⟩
abbrev main_v36 : Ref sig .tc := ⟨.hbm, 55, rfl⟩
abbrev main_v37 : Ref sig .tc := ⟨.hbm, 56, rfl⟩
abbrev main_cst_7 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_cst_8 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_cst_9 : Ref sig .tc := ⟨.hbm, 71, rfl⟩
abbrev main_v50 : Ref sig .tc := ⟨.hbm, 72, rfl⟩
abbrev main_v51 : Ref sig .tc := ⟨.hbm, 73, rfl⟩
abbrev main_cst_10 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_cst_11 : Ref sig .tc := ⟨.hbm, 80, rfl⟩
abbrev main_v57 : Ref sig .tc := ⟨.hbm, 81, rfl⟩
abbrev main_v58 : Ref sig .tc := ⟨.hbm, 82, rfl⟩
abbrev main_cst_12 : Ref sig .tc := ⟨.hbm, 83, rfl⟩
abbrev main_v59 : Ref sig .tc := ⟨.hbm, 84, rfl⟩
abbrev main_v60 : Ref sig .tc := ⟨.hbm, 85, rfl⟩
abbrev main_cst_13 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩

abbrev nD : Nat := 1
abbrev τ : Topo := Topo.v7x

variable {F : FTy → Type} [FloatOps F]
-- ==== Experts.lean ====
abbrev S1024x16384 : Shape := ⟨2, ![1024, 16384]⟩
abbrev S16384x1024 : Shape := ⟨2, ![16384, 1024]⟩
abbrev S8x128x16384 : Shape := ⟨3, ![8, 128, 16384]⟩
abbrev S1x1024 : Shape := ⟨2, ![1, 1024]⟩
abbrev S1024x512 : Shape := ⟨2, ![1024, 512]⟩
abbrev S512x1024 : Shape := ⟨2, ![512, 1024]⟩
abbrev S2048x1024 : Shape := ⟨2, ![2048, 1024]⟩
abbrev S8x128x512 : Shape := ⟨3, ![8, 128, 512]⟩
abbrev S2048x512 : Shape := ⟨2, ![2048, 512]⟩
abbrev S128x512 : Shape := ⟨2, ![128, 512]⟩
abbrev S8x16x512 : Shape := ⟨3, ![8, 16, 512]⟩
abbrev S1x16x512 : Shape := ⟨3, ![1, 16, 512]⟩
abbrev S16x512 : Shape := ⟨2, ![16, 512]⟩
abbrev S1x512 : Shape := ⟨2, ![1, 512]⟩
abbrev S1x128x512 : Shape := ⟨3, ![1, 128, 512]⟩
abbrev S512 : Shape := ⟨1, ![512]⟩
abbrev S512x1 : Shape := ⟨2, ![512, 1]⟩

abbrev nBuf : Space → Nat
  | .hbm => 11
  | .vmem => 23
  | .smem => 0
  | _ => 0

abbrev bufTy : (tb : Table) → Fin (tcTables nBuf tb) → BufTy
  | .hbm, ⟨0, _⟩ => ⟨S1024x16384, .bf16⟩
  | .hbm, ⟨1, _⟩ => ⟨S16384x1024, .f32⟩
  | .hbm, ⟨2, _⟩ => ⟨S16384x1024, .bf16⟩
  | .hbm, ⟨3, _⟩ => ⟨S16384x1024, .bf16⟩
  | .hbm, ⟨4, _⟩ => ⟨S8x128x16384, .f32⟩
  | .hbm, ⟨5, _⟩ => ⟨S8x128x16384, .f32⟩
  | .hbm, ⟨6, _⟩ => ⟨S8x128x16384, .bf16⟩
  | .hbm, ⟨7, _⟩ => ⟨S8x128x16384, .bf16⟩
  | .hbm, ⟨8, _⟩ => ⟨S1x1024, .f32⟩
  | .hbm, ⟨9, _⟩ => ⟨S1x1024, .f32⟩
  | .hbm, ⟨10, _⟩ => ⟨S16384x1024, .f32⟩
  | .local _ .vmem, ⟨0, _⟩ => ⟨S1024x512, .bf16⟩
  | .local _ .vmem, ⟨1, _⟩ => ⟨S1024x512, .bf16⟩
  | .local _ .vmem, ⟨2, _⟩ => ⟨S512x1024, .f32⟩
  | .local _ .vmem, ⟨3, _⟩ => ⟨S512x1024, .f32⟩
  | .local _ .vmem, ⟨4, _⟩ => ⟨S2048x1024, .bf16⟩
  | .local _ .vmem, ⟨5, _⟩ => ⟨S2048x1024, .bf16⟩
  | .local _ .vmem, ⟨6, _⟩ => ⟨S2048x1024, .bf16⟩
  | .local _ .vmem, ⟨7, _⟩ => ⟨S2048x1024, .bf16⟩
  | .local _ .vmem, ⟨8, _⟩ => ⟨S8x128x512, .f32⟩
  | .local _ .vmem, ⟨9, _⟩ => ⟨S8x128x512, .f32⟩
  | .local _ .vmem, ⟨10, _⟩ => ⟨S8x128x512, .f32⟩
  | .local _ .vmem, ⟨11, _⟩ => ⟨S8x128x512, .f32⟩
  | .local _ .vmem, ⟨12, _⟩ => ⟨S8x128x512, .bf16⟩
  | .local _ .vmem, ⟨13, _⟩ => ⟨S8x128x512, .bf16⟩
  | .local _ .vmem, ⟨14, _⟩ => ⟨S8x128x512, .bf16⟩
  | .local _ .vmem, ⟨15, _⟩ => ⟨S8x128x512, .bf16⟩
  | .local _ .vmem, ⟨16, _⟩ => ⟨S1x1024, .f32⟩
  | .local _ .vmem, ⟨17, _⟩ => ⟨S1x1024, .f32⟩
  | .local _ .vmem, ⟨18, _⟩ => ⟨S512x1024, .f32⟩
  | .local _ .vmem, ⟨19, _⟩ => ⟨S512x1024, .f32⟩
  | .local _ .vmem, ⟨20, _⟩ => ⟨S512x1024, .f32⟩
  | .local _ .vmem, ⟨21, _⟩ => ⟨S2048x512, .f32⟩
  | .local _ .vmem, ⟨22, _⟩ => ⟨S2048x512, .bf16⟩
  | _, _ => ⟨S1024x16384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg10_1 : Ref sig .tc := ⟨.vmem, 19, rfl⟩
abbrev cc0_scratch0 : Ref sig .tc := ⟨.vmem, 20, rfl⟩
abbrev cc0_scratch1 : Ref sig .tc := ⟨.vmem, 21, rfl⟩
abbrev cc0_scratch2 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem10_0 : DmaSem sig := 18
abbrev cc0_sem10_1 : DmaSem sig := 19

abbrev nD : Nat := 1
abbrev τ : Topo := Topo.v7x

variable {F : FTy → Type} [FloatOps F]

abbrev grid0 : Pipeline.Grid := ⟨2, ![32, 8], ![false, false]⟩

def k0_mult1 (i : grid0.Coords) : BitVec 32 :=
  let arg1 : BitVec 32 := BitVec.ofNat 32 (i 1).val
  let c16_i32 : BitVec 32 := 16#32
  let v9 : BitVec 32 := Scalar.muli arg1 c16_i32
  v9
def k0_off1 (i : grid0.Coords) : Fin 3 → Nat :=
  let c0_11 : Index := 0#32
  let arg1 : BitVec 32 := BitVec.ofNat 32 (i 1).val
  let c16_i32 : BitVec 32 := 16#32
  let v9 : BitVec 32 := Scalar.muli arg1 c16_i32
  let v10 : BitVec 32 := v9
  let v20 : Index := Scalar.indexCast v10
  let c0_12 : Index := 0#32
  ![0, v20.toNat, 0]
def k0_off2 (i : grid0.Coords) : Fin 3 → Nat :=
  let c1 : Index := 1#32
  let arg1 : BitVec 32 := BitVec.ofNat 32 (i 1).val
  let c16_i32 : BitVec 32 := 16#32
  let v9 : BitVec 32 := Scalar.muli arg1 c16_i32
  let v10 : BitVec 32 := v9
  let v49 : Index := Scalar.indexCast v10
  let c0_22 : Index := 0#32
  ![1, v49.toNat, 0]
def k0_off3 (i : grid0.Coords) : Fin 3 → Nat :=
  let c2 : Index := 2#32
  let arg1 : BitVec 32 := BitVec.ofNat 32 (i 1).val
  let c16_i32 : BitVec 32 := 16#32
  let v9 : BitVec 32 := Scalar.muli arg1 c16_i32
  let v10 : BitVec 32 := v9
  let v78 : Index := Scalar.indexCast v10
  let c0_32 : Index := 0#32
  ![2, v78.toNat, 0]
def k0_off4 (i : grid0.Coords) : Fin 3 → Nat :=
  let c3 : Index := 3#32
  let arg1 : BitVec 32 := BitVec.ofNat 32 (i 1).val
  let c16_i32 : BitVec 32 := 16#32
  let v9 : BitVec 32 := Scalar.muli arg1 c16_i32
  let v10 : BitVec 32 := v9
  let v107 : Index := Scalar.indexCast v10
  let c0_42 : Index := 0#32
  ![3, v107.toNat, 0]
def k0_off5 (i : grid0.Coords) : Fin 3 → Nat :=
  let c4 : Index := 4#32
  let arg1 : BitVec 32 := BitVec.ofNat 32 (i 1).val
  let c16_i32 : BitVec 32 := 16#32
  let v9 : BitVec 32 := Scalar.muli arg1 c16_i32
  let v10 : BitVec 32 := v9
  let v136 : Index := Scalar.indexCast v10
  let c0_52 : Index := 0#32
  ![4, v136.toNat, 0]
def k0_off6 (i : grid0.Coords) : Fin 3 → Nat :=
  let c5 : Index := 5#32
  let arg1 : BitVec 32 := BitVec.ofNat 32 (i 1).val
  let c16_i32 : BitVec 32 := 16#32
  let v9 : BitVec 32 := Scalar.muli arg1 c16_i32
  let v10 : BitVec 32 := v9
  let v165 : Index := Scalar.indexCast v10
  let c0_62 : Index := 0#32
  ![5, v165.toNat, 0]
def k0_off7 (i : grid0.Coords) : Fin 3 → Nat :=
  let c6 : Index := 6#32
  let arg1 : BitVec 32 := BitVec.ofNat 32 (i 1).val
  let c16_i32 : BitVec 32 := 16#32
  let v9 : BitVec 32 := Scalar.muli arg1 c16_i32
  let v10 : BitVec 32 := v9
  let v194 : Index := Scalar.indexCast v10
  let c0_72 : Index := 0#32
  ![6, v194.toNat, 0]
def k0_off8 (i : grid0.Coords) : Fin 3 → Nat :=
  let c7 : Index := 7#32
  let arg1 : BitVec 32 := BitVec.ofNat 32 (i 1).val
  let c16_i32 : BitVec 32 := 16#32
  let v9 : BitVec 32 := Scalar.muli arg1 c16_i32
  let v10 : BitVec 32 := v9
  let v223 : Index := Scalar.indexCast v10
  let c0_82 : Index := 0#32
  ![7, v223.toNat, 0]
def k0_cond2 (i : grid0.Coords) : BitVec 1 :=
  let arg1 : BitVec 32 := BitVec.ofNat 32 (i 1).val
  let c7_i32 : BitVec 32 := 7#32
  let v3955 : BitVec 1 := Scalar.cmpi .eq arg1 c7_i32
  let v3956 : BitVec 32 := Scalar.extui v3955
  let c0_i32_1513 : BitVec 32 := 0#32
  let v3957 : BitVec 1 := Scalar.cmpi .ne v3956 c0_i32_1513
  v3957

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S8x128x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S8x128x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S8x128x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S8x128x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]
-- ==== ExpertsIdeal.lean ====
variable {F : FTy → Type} [FloatOps F] [Named F]
def κ : String → Option EReal := fun
  | "sqrt_half" => some (((Real.sqrt 2)⁻¹ : ℝ) : EReal)
  | _ => none
-- ==== ExpertsReferenceIdeal.lean ====
abbrev S1024x16384 : Shape := ⟨2, ![1024, 16384]⟩
abbrev S16384x1024 : Shape := ⟨2, ![16384, 1024]⟩
abbrev S8x128x16384 : Shape := ⟨3, ![8, 128, 16384]⟩
abbrev S1x1024 : Shape := ⟨2, ![1, 1024]⟩
abbrev S8x1x128x16384 : Shape := ⟨4, ![8, 1, 128, 16384]⟩
abbrev S8x128x1x16384 : Shape := ⟨4, ![8, 128, 1, 16384]⟩
abbrev S8x128x128x16384 : Shape := ⟨4, ![8, 128, 128, 16384]⟩
abbrev S_ : Shape := ⟨0, ![]⟩
abbrev S128x128x16384 : Shape := ⟨3, ![128, 128, 16384]⟩
abbrev S16384x16384 : Shape := ⟨2, ![16384, 16384]⟩
abbrev S16384 : Shape := ⟨1, ![16384]⟩
abbrev S16384x1 : Shape := ⟨2, ![16384, 1]⟩

abbrev nBuf : Space → Nat
  | .hbm => 74
  | .vmem => 0
  | .smem => 0
  | _ => 0

abbrev bufTy : (tb : Table) → Fin (tcTables nBuf tb) → BufTy
  | .hbm, ⟨0, _⟩ => ⟨S1024x16384, .bf16⟩
  | .hbm, ⟨1, _⟩ => ⟨S16384x1024, .f32⟩
  | .hbm, ⟨2, _⟩ => ⟨S16384x1024, .bf16⟩
  | .hbm, ⟨3, _⟩ => ⟨S16384x1024, .bf16⟩
  | .hbm, ⟨4, _⟩ => ⟨S8x128x16384, .f32⟩
  | .hbm, ⟨5, _⟩ => ⟨S8x128x16384, .f32⟩
  | .hbm, ⟨6, _⟩ => ⟨S8x128x16384, .bf16⟩
  | .hbm, ⟨7, _⟩ => ⟨S8x128x16384, .bf16⟩
  | .hbm, ⟨8, _⟩ => ⟨S1x1024, .f32⟩
  | .hbm, ⟨9, _⟩ => ⟨S1x1024, .f32⟩
  | .hbm, ⟨10, _⟩ => ⟨S8x1x128x16384, .bf16⟩
  | .hbm, ⟨11, _⟩ => ⟨S8x128x1x16384, .f32⟩
  | .hbm, ⟨12, _⟩ => ⟨S8x1x128x16384, .f32⟩
  | .hbm, ⟨13, _⟩ => ⟨S8x128x128x16384, .f32⟩
  | .hbm, ⟨14, _⟩ => ⟨S8x128x128x16384, .f32⟩
  | .hbm, ⟨15, _⟩ => ⟨S8x128x128x16384, .i1⟩
  | .hbm, ⟨16, _⟩ => ⟨S8x1x128x16384, .bf16⟩
  | .hbm, ⟨17, _⟩ => ⟨S8x1x128x16384, .f32⟩
  | .hbm, ⟨18, _⟩ => ⟨S8x128x1x16384, .f32⟩
  | .hbm, ⟨19, _⟩ => ⟨S8x128x128x16384, .f32⟩
  | .hbm, ⟨20, _⟩ => ⟨S8x128x128x16384, .f32⟩
  | .hbm, ⟨21, _⟩ => ⟨S8x128x128x16384, .f32⟩
  | .hbm, ⟨22, _⟩ => ⟨S_, .f32⟩
  | .hbm, ⟨23, _⟩ => ⟨S_, .f32⟩
  | .hbm, ⟨24, _⟩ => ⟨S8x128x128x16384, .f32⟩
  | .hbm, ⟨25, _⟩ => ⟨S8x128x128x16384, .f32⟩
  | .hbm, ⟨26, _⟩ => ⟨S_, .f32⟩
  | .hbm, ⟨27, _⟩ => ⟨S128x128x16384, .f32⟩
  | .hbm, ⟨28, _⟩ => ⟨S16384x1024, .f32⟩
  | .hbm, ⟨29, _⟩ => ⟨S1024x16384, .f32⟩
  | .hbm, ⟨30, _⟩ => ⟨S16384x16384, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S16384x16384, .f32⟩
  | .hbm, ⟨35, _⟩ => ⟨S16384x16384, .f32⟩
  | .hbm, ⟨36, _⟩ => ⟨S16384x16384, .f32⟩
  | .hbm, ⟨37, _⟩ => ⟨S_, .f32⟩
  | .hbm, ⟨38, _⟩ => ⟨S16384x16384, .f32⟩
  | .hbm, ⟨39, _⟩ => ⟨S16384x16384, .f32⟩
  | .hbm, ⟨40, _⟩ => ⟨S16384x16384, .f32⟩
  | .hbm, ⟨41, _⟩ => ⟨S16384x16384, .f32⟩
  | .hbm, ⟨42, _⟩ => ⟨S16384x16384, .f32⟩
  | .hbm, ⟨43, _⟩ => ⟨S16384x1024, .f32⟩
  | .hbm, ⟨44, _⟩ => ⟨S16384x1024, .f32⟩
  | .hbm, ⟨45, _⟩ => ⟨S_, .f32⟩
  | .hbm, ⟨46, _⟩ => ⟨S16384x1024, .f32⟩
  | .hbm, ⟨47, _⟩ => ⟨S16384x1024, .f32⟩
  | .hbm, ⟨48, _⟩ => ⟨S16384x1024, .f32⟩
  | .hbm, ⟨49, _⟩ => ⟨S_, .f32⟩
  | .hbm, ⟨50, _⟩ => ⟨S16384, .f32⟩
  | .hbm, ⟨51, _⟩ => ⟨S16384x1, .f32⟩
  | .hbm, ⟨52, _⟩ => ⟨S_, .f32⟩
  | .hbm, ⟨53, _⟩ => ⟨S16384x1, .f32⟩
  | .hbm, ⟨54, _⟩ => ⟨S16384x1, .f32⟩
  | .hbm, ⟨55, _⟩ => ⟨S16384x1024, .f32⟩
  | .hbm, ⟨56, _⟩ => ⟨S16384x1024, .f32⟩
  | .hbm, ⟨57, _⟩ => ⟨S16384x1024, .f32⟩
  | .hbm, ⟨58, _⟩ => ⟨S_, .f32⟩
  | .hbm, ⟨59, _⟩ => ⟨S16384, .f32⟩
  | .hbm, ⟨60, _⟩ => ⟨S16384x1, .f32⟩
  | .hbm, ⟨61, _⟩ => ⟨S_, .f32⟩
  | .hbm, ⟨62, _⟩ => ⟨S16384x1, .f32⟩
  | .hbm, ⟨63, _⟩ => ⟨S16384x1, .f32⟩
  | .hbm, ⟨64, _⟩ => ⟨S_, .f32⟩
  | .hbm, ⟨65, _⟩ => ⟨S16384x1, .f32⟩
  | .hbm, ⟨66, _⟩ => ⟨S16384x1, .f32⟩
  | .hbm, ⟨67, _⟩ => ⟨S16384x1, .f32⟩
  | .hbm, ⟨68, _⟩ => ⟨S16384x1024, .f32⟩
  | .hbm, ⟨69, _⟩ => ⟨S16384x1024, .f32⟩
  | .hbm, ⟨70, _⟩ => ⟨S16384x1024, .f32⟩
  | .hbm, ⟨71, _⟩ => ⟨S16384x1024, .f32⟩
  | .hbm, ⟨72, _⟩ => ⟨S16384x1024, .f32⟩
  | .hbm, ⟨73, _⟩ => ⟨S16384x1024, .f32⟩
  | _, _ => ⟨S1024x16384, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst : Ref sig .tc := ⟨.hbm, 22, rfl⟩
abbrev main_call0_v0 : Ref sig .tc := ⟨.hbm, 23, rfl⟩
abbrev main_call0_v1 : Ref sig .tc := ⟨.hbm, 24, rfl⟩
abbrev main_v12 : Ref sig .tc := ⟨.hbm, 25, rfl⟩
abbrev main_cst_0 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_cst_1 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_cst_2 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_cst_3 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_cst_4 : Ref sig .tc := ⟨.hbm, 49, rfl⟩
abbrev main_v32 : Ref sig .tc := ⟨.hbm, 50, rfl⟩
abbrev main_v33 : Ref sig .tc := ⟨.hbm, 51, rfl⟩
abbrev main_cst_5 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_cst_6 : Ref sig .tc := ⟨.hbm, 58, rfl⟩
abbrev main_v39 : Ref sig .tc := ⟨.hbm, 59, rfl⟩
abbrev main_v40 : Ref sig .tc := ⟨.hbm, 60, rfl⟩
abbrev main_cst_7 : Ref sig .tc := ⟨.hbm, 61, rfl⟩
abbrev main_v41 : Ref sig .tc := ⟨.hbm, 62, rfl⟩
abbrev main_v42 : Ref sig .tc := ⟨.hbm, 63, rfl⟩
abbrev main_cst_8 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩

abbrev nD : Nat := 1
abbrev τ : Topo := Topo.v7x

variable {F : FTy → Type} [FloatOps F]
-- ==== Attend.lean ====
abbrev S128x256 : Shape := ⟨2, ![128, 256]⟩
abbrev S8x2048x3072 : Shape := ⟨3, ![8, 2048, 3072]⟩
abbrev S8x2176x512 : Shape := ⟨3, ![8, 2176, 512]⟩
abbrev S32x8 : Shape := ⟨2, ![32, 8]⟩
abbrev S8 : Shape := ⟨1, ![8]⟩
abbrev S8x2048x512 : Shape := ⟨3, ![8, 2048, 512]⟩
abbrev S1x512x512 : Shape := ⟨3, ![1, 512, 512]⟩
abbrev S1x128x512 : Shape := ⟨3, ![1, 128, 512]⟩
abbrev S8x128x256 : Shape := ⟨3, ![8, 128, 256]⟩
abbrev S1x1 : Shape := ⟨2, ![1, 1]⟩
abbrev S1x128x256 : Shape := ⟨3, ![1, 128, 256]⟩
abbrev S128x128 : Shape := ⟨2, ![128, 128]⟩
abbrev S256x128 : Shape := ⟨2, ![256, 128]⟩
abbrev S1x128x128 : Shape := ⟨3, ![1, 128, 128]⟩
abbrev S1 : Shape := ⟨1, ![1]⟩
abbrev S128 : Shape := ⟨1, ![128]⟩
abbrev S128x1 : Shape := ⟨2, ![128, 1]⟩

abbrev nBuf : Space → Nat
  | .hbm => 6
  | .vmem => 16
  | .smem => 2
  | _ => 0

abbrev bufTy : (tb : Table) → Fin (tcTables nBuf tb) → BufTy
  | .hbm, ⟨0, _⟩ => ⟨S128x256, .i32⟩
  | .hbm, ⟨1, _⟩ => ⟨S8x2048x3072, .bf16⟩
  | .hbm, ⟨2, _⟩ => ⟨S8x2176x512, .bf16⟩
  | .hbm, ⟨3, _⟩ => ⟨S32x8, .f32⟩
  | .hbm, ⟨4, _⟩ => ⟨S8, .f32⟩
  | .hbm, ⟨5, _⟩ => ⟨S8x2048x512, .bf16⟩
  | .local _ .vmem, ⟨0, _⟩ => ⟨S128x256, .i32⟩
  | .local _ .vmem, ⟨1, _⟩ => ⟨S1x512x512, .bf16⟩
  | .local _ .vmem, ⟨2, _⟩ => ⟨S1x512x512, .bf16⟩
  | .local _ .vmem, ⟨3, _⟩ => ⟨S1x128x512, .bf16⟩
  | .local _ .vmem, ⟨4, _⟩ => ⟨S1x128x512, .bf16⟩
  | .local _ .vmem, ⟨5, _⟩ => ⟨S1x128x512, .bf16⟩
  | .local _ .vmem, ⟨6, _⟩ => ⟨S1x128x512, .bf16⟩
  | .local _ .vmem, ⟨7, _⟩ => ⟨S1x128x512, .bf16⟩
  | .local _ .vmem, ⟨8, _⟩ => ⟨S1x128x512, .bf16⟩
  | .local _ .vmem, ⟨9, _⟩ => ⟨S1x128x512, .bf16⟩
  | .local _ .vmem, ⟨10, _⟩ => ⟨S1x128x512, .bf16⟩
  | .local _ .vmem, ⟨11, _⟩ => ⟨S1x128x512, .bf16⟩
  | .local _ .vmem, ⟨12, _⟩ => ⟨S1x128x512, .bf16⟩
  | .local _ .vmem, ⟨13, _⟩ => ⟨S1x512x512, .bf16⟩
  | .local _ .vmem, ⟨14, _⟩ => ⟨S1x512x512, .bf16⟩
  | .local _ .vmem, ⟨15, _⟩ => ⟨S8x128x256, .f32⟩
  | .local _ .smem, ⟨0, _⟩ => ⟨S32x8, .f32⟩
  | .local _ .smem, ⟨1, _⟩ => ⟨S8, .f32⟩
  | _, _ => ⟨S128x256, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg3_0 : Ref sig .tc := ⟨.vmem, 1, rfl⟩
abbrev cc0_stg3_1 : Ref sig .tc := ⟨.vmem, 2, rfl⟩
abbrev cc0_stg4_0 : Ref sig .tc := ⟨.vmem, 3, rfl⟩
abbrev cc0_stg4_1 : Ref sig .tc := ⟨.vmem, 4, rfl⟩
abbrev cc0_stg5_0 : Ref sig .tc := ⟨.vmem, 5, rfl⟩
abbrev cc0_stg5_1 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_scratch0 : Ref sig .tc := ⟨.vmem, 15, rfl⟩
abbrev cc0_stg1_0 : Ref sig .tc := ⟨.smem, 0, rfl⟩
abbrev cc0_stg2_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli c4_i32 arg1
  let c0_i32 : BitVec 32 := 0#32
  let v1 : BitVec 32 := Scalar.addi v0 c0_i32
  let c0_i32_0 : BitVec 32 := 0#32
  let c0_i32_1 : BitVec 32 := 0#32
  ![arg0.toNat, v1.toNat, c0_i32_0.toNat]

def cc0_transform_5 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli c4_i32 arg1
  let c1_i32 : BitVec 32 := 1#32
  let v1 : BitVec 32 := Scalar.addi v0 c1_i32
  let c0_i32 : BitVec 32 := 0#32
  let c0_i32_0 : BitVec 32 := 0#32
  ![arg0.toNat, v1.toNat, c0_i32.toNat]

def cc0_transform_6 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli c4_i32 arg1
  let c2_i32 : BitVec 32 := 2#32
  let v1 : BitVec 32 := Scalar.addi v0 c2_i32
  let c0_i32 : BitVec 32 := 0#32
  let c0_i32_0 : BitVec 32 := 0#32
  ![arg0.toNat, v1.toNat, c0_i32.toNat]

def cc0_transform_7 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli c4_i32 arg1
  let c3_i32 : BitVec 32 := 3#32
  let v1 : BitVec 32 := Scalar.addi v0 c3_i32
  let c0_i32 : BitVec 32 := 0#32
  let c0_i32_0 : BitVec 32 := 0#32
  ![arg0.toNat, v1.toNat, c0_i32.toNat]

def cc0_transform_8 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli c4_i32 arg1
  let c4_i32_0 : BitVec 32 := 4#32
  let v1 : BitVec 32 := Scalar.addi v0 c4_i32_0
  let c0_i32 : BitVec 32 := 0#32
  let c0_i32_1 : BitVec 32 := 0#32
  ![arg0.toNat, v1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .vmem S128x256 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .smem S32x8 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .smem S8 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x128x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x128x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x128x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x128x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x512x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== AttendIdeal.lean ====
variable {F : FTy → Type} [FloatOps F] [Named F]
def κ : String → Option EReal := fun
  | "log2e" => some (((Real.log 2)⁻¹ : ℝ) : EReal)
  | "mask" => some ⊥
  | _ => none
-- ==== AttendReferenceIdeal.lean ====
abbrev S128x256 : Shape := ⟨2, ![128, 256]⟩
abbrev S8x2048x3072 : Shape := ⟨3, ![8, 2048, 3072]⟩
abbrev S8x2176x512 : Shape := ⟨3, ![8, 2176, 512]⟩
abbrev S32x8 : Shape := ⟨2, ![32, 8]⟩
abbrev S8 : Shape := ⟨1, ![8]⟩
abbrev S8x2048x512 : Shape := ⟨3, ![8, 2048, 512]⟩
abbrev S_ : Shape := ⟨0, ![]⟩
abbrev S128x128x8x64 : Shape := ⟨4, ![128, 128, 8, 64]⟩
abbrev S8x17x128x512 : Shape := ⟨4, ![8, 17, 128, 512]⟩
abbrev S8x16x128x512 : Shape := ⟨4, ![8, 16, 128, 512]⟩
abbrev S128x128x512 : Shape := ⟨3, ![128, 128, 512]⟩
abbrev S128x256x512 : Shape := ⟨3, ![128, 256, 512]⟩
abbrev S128x256x256 : Shape := ⟨3, ![128, 256, 256]⟩
abbrev S128x256x4x64 : Shape := ⟨4, ![128, 256, 4, 64]⟩
abbrev S128x256x2x64 : Shape := ⟨4, ![128, 256, 2, 64]⟩
abbrev S128x256x8x64 : Shape := ⟨4, ![128, 256, 8, 64]⟩
abbrev S128x8x128x256 : Shape := ⟨4, ![128, 8, 128, 256]⟩
abbrev S128x256x1x1 : Shape := ⟨4, ![128, 256, 1, 1]⟩
abbrev S32 : Shape := ⟨1, ![32]⟩
abbrev S32x1 : Shape := ⟨2, ![32, 1]⟩
abbrev S1x1x32x1 : Shape := ⟨4, ![1, 1, 32, 1]⟩
abbrev S128x256x32x1 : Shape := ⟨4, ![128, 256, 32, 1]⟩
abbrev S128x256x32x8 : Shape := ⟨4, ![128, 256, 32, 8]⟩
abbrev S128x256x8 : Shape := ⟨3, ![128, 256, 8]⟩
abbrev S128 : Shape := ⟨1, ![128]⟩
abbrev S1x128x256 : Shape := ⟨3, ![1, 128, 256]⟩
abbrev S128x1x1 : Shape := ⟨3, ![128, 1, 1]⟩
abbrev S256 : Shape := ⟨1, ![256]⟩
abbrev S1x1x256 : Shape := ⟨3, ![1, 1, 256]⟩
abbrev S128x1x256 : Shape := ⟨3, ![128, 1, 256]⟩
abbrev S128x128x256 : Shape := ⟨3, ![128, 128, 256]⟩
abbrev S128x1x128x256 : Shape := ⟨4, ![128, 1, 128, 256]⟩
abbrev S8x128x256 : Shape := ⟨3, ![8, 128, 256]⟩
abbrev S1x8x128x256 : Shape := ⟨4, ![1, 8, 128, 256]⟩
abbrev S8x1x1 : Shape := ⟨3, ![8, 1, 1]⟩
abbrev S128x8x128x1 : Shape := ⟨4, ![128, 8, 128, 1]⟩
abbrev S128x8x128x257 : Shape := ⟨4, ![128, 8, 128, 257]⟩
abbrev S128x8x128 : Shape := ⟨3, ![128, 8, 128]⟩
abbrev S128x8x64x128 : Shape := ⟨4, ![128, 8, 64, 128]⟩

abbrev nBuf : Space → Nat
  | .hbm => 124
  | .vmem => 0
  | .smem => 0
  | _ => 0

abbrev bufTy : (tb : Table) → Fin (tcTables nBuf tb) → BufTy
  | .hbm, ⟨0, _⟩ => ⟨S128x256, .i32⟩
  | .hbm, ⟨1, _⟩ => ⟨S8x2048x3072, .bf16⟩
  | .hbm, ⟨2, _⟩ => ⟨S8x2176x512, .bf16⟩
  | .hbm, ⟨3, _⟩ => ⟨S32x8, .f32⟩
  | .hbm, ⟨4, _⟩ => ⟨S8, .f32⟩
  | .hbm, ⟨5, _⟩ => ⟨S8x2048x512, .bf16⟩
  | .hbm, ⟨6, _⟩ => ⟨S8x2048x512, .f32⟩
  | .hbm, ⟨7, _⟩ => ⟨S_, .f32⟩
  | .hbm, ⟨8, _⟩ => ⟨S_, .f32⟩
  | .hbm, ⟨9, _⟩ => ⟨S8x2048x512, .f32⟩
  | .hbm, ⟨10, _⟩ => ⟨S8x2048x512, .f32⟩
  | .hbm, ⟨11, _⟩ => ⟨S128x128x8x64, .f32⟩
  | .hbm, ⟨12, _⟩ => ⟨S8x2176x512, .f32⟩
  | .hbm, ⟨13, _⟩ => ⟨S8x17x128x512, .f32⟩
  | .hbm, ⟨14, _⟩ => ⟨S8x16x128x512, .f32⟩
  | .hbm, ⟨15, _⟩ => ⟨S128x128x512, .f32⟩
  | .hbm, ⟨16, _⟩ => ⟨S8x16x128x512, .f32⟩
  | .hbm, ⟨17, _⟩ => ⟨S128x128x512, .f32⟩
  | .hbm, ⟨18, _⟩ => ⟨S128x256x512, .f32⟩
  | .hbm, ⟨19, _⟩ => ⟨S128x256x256, .f32⟩
  | .hbm, ⟨20, _⟩ => ⟨S128x256x4x64, .f32⟩
  | .hbm, ⟨21, _⟩ => ⟨S128x256x2x64, .f32⟩
  | .hbm, ⟨22, _⟩ => ⟨S128x256x2x64, .f32⟩
  | .hbm, ⟨23, _⟩ => ⟨S128x256x2x64, .f32⟩
  | .hbm, ⟨24, _⟩ => ⟨S128x256x2x64, .f32⟩
  | .hbm, ⟨25, _⟩ => ⟨S128x256x8x64, .f32⟩
  | .hbm, ⟨26, _⟩ => ⟨S128x8x128x256, .f32⟩
  | .hbm, ⟨27, _⟩ => ⟨S128x256x1x1, .i32⟩
  | .hbm, ⟨28, _⟩ => ⟨S32, .i32⟩
  | .hbm, ⟨29, _⟩ => ⟨S32x1, .i32⟩
  | .hbm, ⟨30, _⟩ => ⟨S1x1x32x1, .i32⟩
  | .hbm, ⟨31, _⟩ => ⟨S128x256x32x1, .i32⟩
  | .hbm, ⟨32, _⟩ => ⟨S128x256x32x1, .i32⟩
  | .hbm, ⟨33, _⟩ => ⟨S128x256x32x1, .i1⟩
  | .hbm, ⟨34, _⟩ => ⟨S_, .f32⟩
  | .hbm, ⟨35, _⟩ => ⟨S_, .f32⟩
  | .hbm, ⟨36, _⟩ => ⟨S128x256x32x8, .i1⟩
  | .hbm, ⟨37, _⟩ => ⟨S128x256x32x8, .f32⟩
  | .hbm, ⟨38, _⟩ => ⟨S128x256x32x8, .f32⟩
  | .hbm, ⟨39, _⟩ => ⟨S128x256x32x8, .f32⟩
  | .hbm, ⟨40, _⟩ => ⟨S_, .f32⟩
  | .hbm, ⟨41, _⟩ => ⟨S128x256x8, .f32⟩
  | .hbm, ⟨42, _⟩ => ⟨S128, .i32⟩
  | .hbm, ⟨43, _⟩ => ⟨S_, .i32⟩
  | .hbm, ⟨44, _⟩ => ⟨S_, .i32⟩
  | .hbm, ⟨45, _⟩ => ⟨S_, .i32⟩
  | .hbm, ⟨46, _⟩ => ⟨S_, .i1⟩
  | .hbm, ⟨47, _⟩ => ⟨S_, .i32⟩
  | .hbm, ⟨48, _⟩ => ⟨S_, .i32⟩
  | .hbm, ⟨49, _⟩ => ⟨S128, .i32⟩
  | .hbm, ⟨50, _⟩ => ⟨S128, .i32⟩
  | .hbm, ⟨51, _⟩ => ⟨S_, .i32⟩
  | .hbm, ⟨52, _⟩ => ⟨S128, .i32⟩
  | .hbm, ⟨53, _⟩ => ⟨S128, .i1⟩
  | .hbm, ⟨54, _⟩ => ⟨S_, .i32⟩
  | .hbm, ⟨55, _⟩ => ⟨S128, .i32⟩
  | .hbm, ⟨56, _⟩ => ⟨S128, .i1⟩
  | .hbm, ⟨57, _⟩ => ⟨S_, .i32⟩
  | .hbm, ⟨58, _⟩ => ⟨S_, .i1⟩
  | .hbm, ⟨59, _⟩ => ⟨S128, .i1⟩
  | .hbm, ⟨60, _⟩ => ⟨S128, .i1⟩
  | .hbm, ⟨61, _⟩ => ⟨S128, .i1⟩
  | .hbm, ⟨62, _⟩ => ⟨S128, .i32⟩
  | .hbm, ⟨63, _⟩ => ⟨S128, .i32⟩
  | .hbm, ⟨64, _⟩ => ⟨S128, .i32⟩
  | .hbm, ⟨65, _⟩ => ⟨S_, .i32⟩
  | .hbm, ⟨66, _⟩ => ⟨S128, .i32⟩
  | .hbm, ⟨67, _⟩ => ⟨S128, .i1⟩
  | .hbm, ⟨68, _⟩ => ⟨S_, .i32⟩
  | .hbm, ⟨69, _⟩ => ⟨S128x256, .i32⟩
  | .hbm, ⟨70, _⟩ => ⟨S128x256, .i1⟩
  | .hbm, ⟨71, _⟩ => ⟨S1x128x256, .i1⟩
  | .hbm, ⟨72, _⟩ => ⟨S128x1x1, .i1⟩
  | .hbm, ⟨73, _⟩ => ⟨S256, .i32⟩
  | .hbm, ⟨74, _⟩ => ⟨S_, .i32⟩
  | .hbm, ⟨75, _⟩ => ⟨S256, .i32⟩
  | .hbm, ⟨76, _⟩ => ⟨S256, .i1⟩
  | .hbm, ⟨77, _⟩ => ⟨S1x1x256, .i1⟩
  | .hbm, ⟨78, _⟩ => ⟨S128x1x256, .i1⟩
  | .hbm, ⟨79, _⟩ => ⟨S128x1x256, .i1⟩
  | .hbm, ⟨80, _⟩ => ⟨S128x1x256, .i1⟩
  | .hbm, ⟨81, _⟩ => ⟨S128x1x256, .i1⟩
  | .hbm, ⟨82, _⟩ => ⟨S128x128x256, .i1⟩
  | .hbm, ⟨83, _⟩ => ⟨S128x128x256, .i1⟩
  | .hbm, ⟨84, _⟩ => ⟨S128x128x256, .i1⟩
  | .hbm, ⟨85, _⟩ => ⟨S128x1x128x256, .i1⟩
  | .hbm, ⟨86, _⟩ => ⟨S8x128x256, .f32⟩
  | .hbm, ⟨87, _⟩ => ⟨S1x8x128x256, .f32⟩
  | .hbm, ⟨88, _⟩ => ⟨S128x8x128x256, .f32⟩
  | .hbm, ⟨89, _⟩ => ⟨S128x8x128x256, .f32⟩
  | .hbm, ⟨90, _⟩ => ⟨S_, .f32⟩
  | .hbm, ⟨91, _⟩ => ⟨S_, .f32⟩
  | .hbm, ⟨92, _⟩ => ⟨S128x8x128x256, .i1⟩
  | .hbm, ⟨93, _⟩ => ⟨S128x8x128x256, .f32⟩
  | .hbm, ⟨94, _⟩ => ⟨S128x8x128x256, .f32⟩
  | .hbm, ⟨95, _⟩ => ⟨S8x1x1, .f32⟩
  | .hbm, ⟨96, _⟩ => ⟨S128x8x128x1, .f32⟩
  | .hbm, ⟨97, _⟩ => ⟨S128x8x128x257, .f32⟩
  | .hbm, ⟨98, _⟩ => ⟨S_, .f32⟩
  | .hbm, ⟨99, _⟩ => ⟨S128x8x128, .f32⟩
  | .hbm, ⟨100, _⟩ => ⟨S_, .f32⟩
  | .hbm, ⟨101, _⟩ => ⟨S128x8x128, .f32⟩
  | .hbm, ⟨102, _⟩ => ⟨S128x8x128, .f32⟩
  | .hbm, ⟨103, _⟩ => ⟨S128x8x128x1, .f32⟩
  | .hbm, ⟨104, _⟩ => ⟨S128x8x128x257, .f32⟩
  | .hbm, ⟨105, _⟩ => ⟨S128x8x128x257, .f32⟩
  | .hbm, ⟨106, _⟩ => ⟨S128x8x128x257, .f32⟩
  | .hbm, ⟨107, _⟩ => ⟨S_, .f32⟩
  | .hbm, ⟨108, _⟩ => ⟨S128x8x128, .f32⟩
  | .hbm, ⟨109, _⟩ => ⟨S128x8x128x1, .f32⟩
  | .hbm, ⟨110, _⟩ => ⟨S128x8x128x257, .f32⟩
  | .hbm, ⟨111, _⟩ => ⟨S128x8x128x257, .f32⟩
  | .hbm, ⟨112, _⟩ => ⟨S128x8x128x256, .f32⟩
  | .hbm, ⟨113, _⟩ => ⟨S128x256x256, .f32⟩
  | .hbm, ⟨114, _⟩ => ⟨S128x256x4x64, .f32⟩
  | .hbm, ⟨115, _⟩ => ⟨S128x256x2x64, .f32⟩
  | .hbm, ⟨116, _⟩ => ⟨S128x256x2x64, .f32⟩
  | .hbm, ⟨117, _⟩ => ⟨S128x256x2x64, .f32⟩
  | .hbm, ⟨118, _⟩ => ⟨S128x256x2x64, .f32⟩
  | .hbm, ⟨119, _⟩ => ⟨S128x256x8x64, .f32⟩
  | .hbm, ⟨120, _⟩ => ⟨S128x8x64x128, .f32⟩
  | .hbm, ⟨121, _⟩ => ⟨S128x128x8x64, .f32⟩
  | .hbm, ⟨122, _⟩ => ⟨S8x2048x512, .f32⟩
  | .hbm, ⟨123, _⟩ => ⟨S8x2048x512, .bf16⟩
  | _, _ => ⟨S128x256, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_cst_0 : Ref sig .tc := ⟨.hbm, 34, rfl⟩
abbrev main_call0_v0 : Ref sig .tc := ⟨.hbm, 35, rfl⟩
abbrev main_call0_v1 : Ref sig .tc := ⟨.hbm, 36, rfl⟩
abbrev main_call0_v2 : Ref sig .tc := ⟨.hbm, 37, rfl⟩
abbrev main_call0_v3 : Ref sig .tc := ⟨.hbm, 38, rfl⟩
abbrev main_v28 : Ref sig .tc := ⟨.hbm, 39, rfl⟩
abbrev main_cst_1 : Ref sig .tc := ⟨.hbm, 40, rfl⟩
abbrev main_v29 : Ref sig .tc := ⟨.hbm, 41, rfl⟩
abbrev main_v30 : Ref sig .tc := ⟨.hbm, 42, rfl⟩
abbrev main_c : Ref sig .tc := ⟨.hbm, 43, rfl⟩
abbrev main_call1_v0 : Ref sig .tc := ⟨.hbm, 44, rfl⟩
abbrev main_call1_c : Ref sig .tc := ⟨.hbm, 45, rfl⟩
abbrev main_call1_v1 : Ref sig .tc := ⟨.hbm, 46, rfl⟩
abbrev main_call1_c_0 : Ref sig .tc := ⟨.hbm, 47, rfl⟩
abbrev main_call1_v2 : Ref sig .tc := ⟨.hbm, 48, rfl⟩
abbrev main_call1_v3 : Ref sig .tc := ⟨.hbm, 49, rfl⟩
abbrev main_call1_v4 : Ref sig .tc := ⟨.hbm, 50, rfl⟩
abbrev main_call1_c_1 : Ref sig .tc := ⟨.hbm, 51, rfl⟩
abbrev main_call1_v5 : Ref sig .tc := ⟨.hbm, 52, rfl⟩
abbrev main_call1_v6 : Ref sig .tc := ⟨.hbm, 53, rfl⟩
abbrev main_call1_c_2 : Ref sig .tc := ⟨.hbm, 54, rfl⟩
abbrev main_call1_v7 : Ref sig .tc := ⟨.hbm, 55, rfl⟩
abbrev main_call1_v8 : Ref sig .tc := ⟨.hbm, 56, rfl⟩
abbrev main_call1_c_3 : Ref sig .tc := ⟨.hbm, 57, rfl⟩
abbrev main_call1_v9 : Ref sig .tc := ⟨.hbm, 58, rfl⟩
abbrev main_call1_v10 : Ref sig .tc := ⟨.hbm, 59, rfl⟩
abbrev main_call1_v11 : Ref sig .tc := ⟨.hbm, 60, rfl⟩
abbrev main_call1_v12 : Ref sig .tc := ⟨.hbm, 61, rfl⟩
abbrev main_call1_v13 : Ref sig .tc := ⟨.hbm, 62, rfl⟩
abbrev main_call1_v14 : Ref sig .tc := ⟨.hbm, 63, rfl⟩
abbrev main_v31 : Ref sig .tc := ⟨.hbm, 64, rfl⟩
abbrev main_c_2 : Ref sig .tc := ⟨.hbm, 65, rfl⟩
abbrev main_v32 : Ref sig .tc := ⟨.hbm, 66, rfl⟩
abbrev main_v33 : Ref sig .tc := ⟨.hbm, 67, rfl⟩
abbrev main_c_3 : Ref sig .tc := ⟨.hbm, 68, rfl⟩
abbrev main_v34 : Ref sig .tc := ⟨.hbm, 69, rfl⟩
abbrev main_v35 : Ref sig .tc := ⟨.hbm, 70, rfl⟩
abbrev main_v36 : Ref sig .tc := ⟨.hbm, 71, rfl⟩
abbrev main_v37 : Ref sig .tc := ⟨.hbm, 72, rfl⟩
abbrev main_v38 : Ref sig .tc := ⟨.hbm, 73, rfl⟩
abbrev main_c_4 : Ref sig .tc := ⟨.hbm, 74, rfl⟩
abbrev main_v39 : Ref sig .tc := ⟨.hbm, 75, rfl⟩
abbrev main_v40 : Ref sig .tc := ⟨.hbm, 76, rfl⟩
abbrev main_v41 : Ref sig .tc := ⟨.hbm, 77, rfl⟩
abbrev main_v42 : Ref sig .tc := ⟨.hbm, 78, rfl⟩
abbrev main_v43 : Ref sig .tc := ⟨.hbm, 79, rfl⟩
abbrev main_v44 : Ref sig .tc := ⟨.hbm, 80, rfl⟩
abbrev main_v45 : Ref sig .tc := ⟨.hbm, 81, rfl⟩
abbrev main_v46 : Ref sig .tc := ⟨.hbm, 82, rfl⟩
abbrev main_v47 : Ref sig .tc := ⟨.hbm, 83, rfl⟩
abbrev main_v48 : Ref sig .tc := ⟨.hbm, 84, rfl⟩
abbrev main_v49 : Ref sig .tc := ⟨.hbm, 85, rfl⟩
abbrev main_v50 : Ref sig .tc := ⟨.hbm, 86, rfl⟩
abbrev main_v51 : Ref sig .tc := ⟨.hbm, 87, rfl⟩
abbrev main_v52 : Ref sig .tc := ⟨.hbm, 88, rfl⟩
abbrev main_v53 : Ref sig .tc := ⟨.hbm, 89, rfl⟩
abbrev main_cst_5 : Ref sig .tc := ⟨.hbm, 90, rfl⟩
abbrev main_call2_v0 : Ref sig .tc := ⟨.hbm, 91, rfl⟩
abbrev main_call2_v1 : Ref sig .tc := ⟨.hbm, 92, rfl⟩
abbrev main_call2_v2 : Ref sig .tc := ⟨.hbm, 93, rfl⟩
abbrev main_v54 : Ref sig .tc := ⟨.hbm, 94, rfl⟩
abbrev main_v55 : Ref sig .tc := ⟨.hbm, 95, rfl⟩
abbrev main_v56 : Ref sig .tc := ⟨.hbm, 96, rfl⟩
abbrev main_v57 : Ref sig .tc := ⟨.hbm, 97, rfl⟩
abbrev main_cst_6 : Ref sig .tc := ⟨.hbm, 98, rfl⟩
abbrev main_v58 : Ref sig .tc := ⟨.hbm, 99, rfl⟩
abbrev main_cst_7 : Ref sig .tc := ⟨.hbm, 100, rfl⟩
abbrev main_v59 : Ref sig .tc := ⟨.hbm, 101, rfl⟩
abbrev main_v60 : Ref sig .tc := ⟨.hbm, 102, rfl⟩
abbrev main_v61 : Ref sig .tc := ⟨.hbm, 103, rfl⟩
abbrev main_v62 : Ref sig .tc := ⟨.hbm, 104, rfl⟩
abbrev main_v63 : Ref sig .tc := ⟨.hbm, 105, rfl⟩
abbrev main_v64 : Ref sig .tc := ⟨.hbm, 106, rfl⟩
abbrev main_cst_8 : Ref sig .tc := ⟨.hbm, 107, rfl⟩
abbrev main_v65 : Ref sig .tc := ⟨.hbm, 108, rfl⟩
abbrev main_v66 : Ref sig .tc := ⟨.hbm, 109, rfl⟩
abbrev main_v67 : Ref sig .tc := ⟨.hbm, 110, rfl⟩
abbrev main_v68 : Ref sig .tc := ⟨.hbm, 111, rfl⟩
abbrev main_v69 : Ref sig .tc := ⟨.hbm, 112, rfl⟩
abbrev main_v70 : Ref sig .tc := ⟨.hbm, 113, rfl⟩
abbrev main_v71 : Ref sig .tc := ⟨.hbm, 114, rfl⟩
abbrev main_v72 : Ref sig .tc := ⟨.hbm, 115, rfl⟩
abbrev main_v73 : Ref sig .tc := ⟨.hbm, 116, rfl⟩
abbrev main_v74 : Ref sig .tc := ⟨.hbm, 117, rfl⟩
abbrev main_v75 : Ref sig .tc := ⟨.hbm, 118, rfl⟩
abbrev main_v76 : Ref sig .tc := ⟨.hbm, 119, rfl⟩
abbrev main_v77 : Ref sig .tc := ⟨.hbm, 120, rfl⟩
abbrev main_v78 : Ref sig .tc := ⟨.hbm, 121, rfl⟩
abbrev main_v79 : Ref sig .tc := ⟨.hbm, 122, rfl⟩
abbrev main_v80 : Ref sig .tc := ⟨.hbm, 123, rfl⟩

abbrev nD : Nat := 1
abbrev τ : Topo := Topo.v7x

variable {F : FTy → Type} [FloatOps F]
-- ==== Proof.Step.lean ====
/- One chunk of the kernel `fox`, for one pair of heads, as a function of the chunk's keys, values and gates. The two loops
   of the kernel (over the chunks that every query of the tile sees, and over those that only some see) apply it to each of
   the four pairs of heads. -/
module

public import proofs.«01_k».proof.Proof.Gen.KernelIdeal.Value
public import Idealize.ShloMosaic.Lib.Tactic

@[expose] public section

set_option maxRecDepth 16384

noncomputable section

namespace Fox

open Cert.KernelIdeal Cert.KernelIdeal.Gen Idealize.ShloMosaic Idealize.ShloMosaic.TcCoe Idealize.SL.Sem

variable {F : FTy → Type} [FloatOps F] [Named F]

/-- What a pair of heads carries from chunk to chunk: the running maximum of each head, the running sum of each head, and
    the accumulator of both heads. -/
abbrev Pair (F : FTy → Type) : Type :=
  FVec F S1x512 .f32 × FVec F S1x512 .f32 × FVec F S1x512 .f32 × FVec F S1x512 .f32 × FVec F S128x512 .f32

/-- What the kernel carries from chunk to chunk: the four pairs, one after another. -/
abbrev Carry (F : FTy → Type) : Type :=
  FVec F S1x512 .f32 × FVec F S1x512 .f32 × FVec F S1x512 .f32 × FVec F S1x512 .f32 × FVec F S128x512 .f32 ×
  FVec F S1x512 .f32 × FVec F S1x512 .f32 × FVec F S1x512 .f32 × FVec F S1x512 .f32 × FVec F S128x512 .f32 ×
  FVec F S1x512 .f32 × FVec F S1x512 .f32 × FVec F S1x512 .f32 × FVec F S1x512 .f32 × FVec F S128x512 .f32 ×
  FVec F S1x512 .f32 × FVec F S1x512 .f32 × FVec F S1x512 .f32 × FVec F S1x512 .f32 × FVec F S128x512 .f32

/-- Pair `p` of what is carried. -/
def pairOf (p : Fin 4) (a : Carry F) : Pair F :=
  match p with
  | 0 => (a.1, a.2.1, a.2.2.1, a.2.2.2.1, a.2.2.2.2.1)
  | 1 => (a.2.2.2.2.2.1, a.2.2.2.2.2.2.1, a.2.2.2.2.2.2.2.1, a.2.2.2.2.2.2.2.2.1, a.2.2.2.2.2.2.2.2.2.1)
  | 2 => (a.2.2.2.2.2.2.2.2.2.2.1, a.2.2.2.2.2.2.2.2.2.2.2.1, a.2.2.2.2.2.2.2.2.2.2.2.2.1, a.2.2.2.2.2.2.2.2.2.2.2.2.2.1, a.2.2.2.2.2.2.2.2.2.2.2.2.2.2.1)
  | 3 => (a.2.2.2.2.2.2.2.2.2.2.2.2.2.2.2.1, a.2.2.2.2.2.2.2.2.2.2.2.2.2.2.2.2.1, a.2.2.2.2.2.2.2.2.2.2.2.2.2.2.2.2.2.1, a.2.2.2.2.2.2.2.2.2.2.2.2.2.2.2.2.2.2.1, a.2.2.2.2.2.2.2.2.2.2.2.2.2.2.2.2.2.2.2)

/-- The word of head `h` of pair `p` in the group of heads `g`. -/
def headWord (g : BitVec 32) (p : Fin 4) (h : Fin 2) : BitVec 32 :=
  Scalar.addi (Scalar.muli 2#32 (Scalar.addi (Scalar.muli g 4#32) (BitVec.ofNat 32 p.val))) (BitVec.ofNat 32 h.val)

/-- The gates of one head out of a chunk's rows of gates. -/
def gateCol (c : FVec F S1x512x128 .f32) (w : BitVec 32) : FVec F S512x1 .f32 :=
  shapeCast S512x1 (multiReduction .add [1] S512
    (select (cmpi .eq (iota .tc S512x128 32 [1] iota_S512x128_d1_w32) (broadcast S512x128 w))
      (shapeCast S512x128 c shapeCasts_S1x512x128_S512x128) (broadcast S512x128 (Scalar.ofBits .f32 0x00000000#32)))
    0x00000000#32 reduces_S512x128_S512 (.inl rfl) rfl) shapeCasts_S512_S512x1

/-- The logits of one head: keys by queries, plus the difference of the gates. -/
def logits (kk : FVec F S1x512x128 .bf16) (q : FVec F S512x128 .bf16) (cq : FVec F S1x1 .f32) (cc : FVec F S512x1 .f32) :
    FVec F S512x512 .f32 :=
  addf (matmul dot_S512x128_S512x128_S512x512_1_1_0_0_n_n none (shapeCast S512x128 kk shapeCasts_S1x512x128_S512x128) q
      (constant S512x512 .f32 0x00000000#32))
    (broadcastTo S512x512 (mulf (subf (broadcastTo S512x1 cq broadcasts_S1x1_S512x1) cc)
      (broadcast S512x1 (Named.named κ "log2e" 0x3FB8AA3B#32))) broadcasts_S512x1_S512x512)

/-- Keep the logits of the keys up to the query, the chunk's first key being number `ks`. -/
def causal (ks : BitVec 32) (kpos qpos : IVec S512x512 32) (s : FVec F S512x512 .f32) : FVec F S512x512 .f32 :=
  select (cmpi .sle (addi (broadcast S512x512 ks) kpos) qpos) s (broadcast S512x512 (Named.named κ "mask" 0xF149F2CA#32))

/-- The running maximum after the logits `s`. -/
def newMax (m : FVec F S1x512 .f32) (s : FVec F S512x512 .f32) : FVec F S1x512 .f32 :=
  maximumf m (shapeCast S1x512 (multiReduction .maximumf [0] S512 s 0xFF800000#32 reduces_S512x512_S512 (.inl rfl) rfl)
    shapeCasts_S512_S1x512)

/-- The factor by which what was summed before shrinks. -/
def alpha (m : FVec F S1x512 .f32) (s : FVec F S512x512 .f32) : FVec F S1x512 .f32 := exp2 (subf m (newMax m s))

/-- The weights of the chunk's keys, by the new maximum. -/
def prob (m : FVec F S1x512 .f32) (s : FVec F S512x512 .f32) : FVec F S512x512 .f32 :=
  exp2 (subf s (broadcastTo S512x512 (newMax m s) broadcasts_S1x512_S512x512))

/-- The running sum after the logits `s`. -/
def newSum (m l : FVec F S1x512 .f32) (s : FVec F S512x512 .f32) : FVec F S1x512 .f32 :=
  addf (mulf (alpha m s) l) (shapeCast S1x512
    (multiReduction .add [0] S512 (prob m s) 0x00000000#32 reduces_S512x512_S512 (.inl rfl) rfl) shapeCasts_S512_S1x512)

/-- The rows of the first head of a pair, in a block of both heads' values. -/
def topRows : IVec S128x512 1 := cmpi .slt (iota .tc S128x512 32 [0] iota_S128x512_d0_w32) (broadcast S128x512 64#32)

/-- The values of one head of a pair, zero in the other head's rows. -/
def valuesOf (h : Fin 2) (vt : FVec F S1x128x512 .bf16) : FVec F S128x512 .bf16 :=
  match h with
  | 0 => select topRows (shapeCast S128x512 vt shapeCasts_S1x128x512_S128x512) (broadcast S128x512 (Scalar.ofBits .bf16 0x0000#16))
  | 1 => select topRows (broadcast S128x512 (Scalar.ofBits .bf16 0x0000#16)) (shapeCast S128x512 vt shapeCasts_S1x128x512_S128x512)

/-- The accumulator after the logits `s0` and `s1` of the two heads. -/
def newAcc (top : IVec S128x512 1) (vt : FVec F S1x128x512 .bf16) (m0 m1 : FVec F S1x512 .f32) (acc : FVec F S128x512 .f32)
    (s0 s1 : FVec F S512x512 .f32) : FVec F S128x512 .f32 :=
  addf
    (mulf (select top
        (broadcastTo S128x512 (shapeCast S1x512 (alpha m0 s0) shapeCasts_S1x512_S1x512) broadcasts_S1x512_S128x512)
        (broadcastTo S128x512 (shapeCast S1x512 (alpha m1 s1) shapeCasts_S1x512_S1x512) broadcasts_S1x512_S128x512)) acc)
    (addf
      (matmul dot_S128x512_S512x512_S128x512_1_0_0_1_n_n none (valuesOf 0 vt) (truncf .bf16 (prob m0 s0) bitsLt_bf16_f32)
        (constant S128x512 .f32 0x00000000#32))
      (matmul dot_S128x512_S512x512_S128x512_1_0_0_1_n_n none (valuesOf 1 vt) (truncf .bf16 (prob m1 s1) bitsLt_bf16_f32)
        (constant S128x512 .f32 0x00000000#32)))

/-- What a pair carries after the logits `s h` of its two heads and the values `vt`. -/
def pairStep (top : IVec S128x512 1) (vt : FVec F S1x128x512 .bf16) (s : Fin 2 → FVec F S512x512 .f32) (a : Pair F) : Pair F :=
  (newMax a.1 (s 0), newMax a.2.1 (s 1), newSum a.1 a.2.2.1 (s 0), newSum a.2.1 a.2.2.2.1 (s 1),
    newAcc top vt a.1 a.2.1 a.2.2.2.2 (s 0) (s 1))

section Loops

variable (𝒱 : Variants) (c : Dev nD) (bd : Option 𝒱.V) (i : grid0.Coords)
  (arg3 : Memref sig .tc .vmem S1x512x512 .bf16) (harg3 : arg3.IsWhole)
  (arg4 : Memref sig .tc .vmem S1x2560x512 .bf16) (harg4 : arg4.IsWhole)
  (arg5 : Memref sig .tc .vmem S1x512x2560 .bf16) (harg5 : arg5.IsWhole)
  (arg6 : Memref sig .tc .vmem S1x2560x128 .f32) (harg6 : arg6.IsWhole)
  (arg7 : Memref sig .tc .vmem S1x512x512 .bf16) (harg7 : arg7.IsWhole)
  (g : BitVec 32) (q : Fin 4 → Fin 2 → FVec F S512x128 .bf16) (kpos qpos : IVec S512x512 32) (top : IVec S128x512 1)
  (cq : Fin 4 → Fin 2 → FVec F S1x1 .f32) (w141 w144 w512 w145 w150 w152 : BitVec 32)
  (X4 : BufTy.Contents (Elt F) arg4.view.ty) (X5 : BufTy.Contents (Elt F) arg5.view.ty)
  (X6 : BufTy.Contents (Elt F) arg6.view.ty)

/-- The keys of pair `p` in chunk `k` of the first loop. -/
def keys1 (p : Fin 4) (k : Fin (k0_t1_loop i).trips) : FVec F S1x512x128 .bf16 :=
  match p with
  | 0 => arg4.view.readAt (Elt F) (Rect.unit (s := S1x2560x512) (k0_off3 i k) S1x512x128.size (k0_off3_inb i k)).toLoadRect X4
  | 1 => arg4.view.readAt (Elt F) (Rect.unit (s := S1x2560x512) (k0_off5 i k) S1x512x128.size (k0_off5_inb i k)).toLoadRect X4
  | 2 => arg4.view.readAt (Elt F) (Rect.unit (s := S1x2560x512) (k0_off7 i k) S1x512x128.size (k0_off7_inb i k)).toLoadRect X4
  | 3 => arg4.view.readAt (Elt F) (Rect.unit (s := S1x2560x512) (k0_off9 i k) S1x512x128.size (k0_off9_inb i k)).toLoadRect X4

/-- The values of pair `p` in chunk `k` of the first loop. -/
def values1 (p : Fin 4) (k : Fin (k0_t1_loop i).trips) : FVec F S1x128x512 .bf16 :=
  match p with
  | 0 => arg5.view.readAt (Elt F) (Rect.unit (s := S1x512x2560) (k0_off4 i k) S1x128x512.size (k0_off4_inb i k)).toLoadRect X5
  | 1 => arg5.view.readAt (Elt F) (Rect.unit (s := S1x512x2560) (k0_off6 i k) S1x128x512.size (k0_off6_inb i k)).toLoadRect X5
  | 2 => arg5.view.readAt (Elt F) (Rect.unit (s := S1x512x2560) (k0_off8 i k) S1x128x512.size (k0_off8_inb i k)).toLoadRect X5
  | 3 => arg5.view.readAt (Elt F) (Rect.unit (s := S1x512x2560) (k0_off10 i k) S1x128x512.size (k0_off10_inb i k)).toLoadRect X5

/-- The gates in chunk `k` of the first loop. -/
def gates1 (k : Fin (k0_t1_loop i).trips) : FVec F S1x512x128 .f32 :=
  arg6.view.readAt (Elt F) (Rect.unit (s := S1x2560x128) (k0_off2 i k) S1x512x128.size (k0_off2_inb i k)).toLoadRect X6

/-- A chunk of the first loop steps each pair. -/
theorem pairOf_trip1 (k : Fin (k0_t1_loop i).trips) (acc : Carry F) (p : Fin 4) :
    pairOf p (tripR_k0_t1 𝒱 c bd i arg3 harg3 arg4 harg4 arg5 harg5 arg6 harg6 arg7 harg7 g (q 0 0) (q 0 1) (q 1 0) (q 1 1)
      (q 2 0) (q 2 1) (q 3 0) (q 3 1) kpos qpos top (cq 0 0) (cq 0 1) (cq 1 0) (cq 1 1) (cq 2 0) (cq 2 1) (cq 3 0) (cq 3 1)
      w141 w144 w512 w145 w150 w152 X4 X5 X6 k acc) =
    pairStep top (values1 i arg5 X5 p k)
      (fun h => logits (keys1 i arg4 X4 p k) (q p h) (cq p h) (gateCol (gates1 i arg6 X6 k) (headWord g p h))) (pairOf p acc) := by
  unfold tripR_k0_t1 trip_k0_t1
  dsimp only
  match p with
  | 0 => rfl
  | 1 => rfl
  | 2 => rfl
  | 3 => rfl

/-- The keys of pair `p` in chunk `k` of the second loop. -/
def keys3 (p : Fin 4) (k : Fin (k0_t3_loop i).trips) : FVec F S1x512x128 .bf16 :=
  match p with
  | 0 => arg4.view.readAt (Elt F) (Rect.unit (s := S1x2560x512) (k0_off21 i k) S1x512x128.size (k0_off21_inb i k)).toLoadRect X4
  | 1 => arg4.view.readAt (Elt F) (Rect.unit (s := S1x2560x512) (k0_off23 i k) S1x512x128.size (k0_off23_inb i k)).toLoadRect X4
  | 2 => arg4.view.readAt (Elt F) (Rect.unit (s := S1x2560x512) (k0_off25 i k) S1x512x128.size (k0_off25_inb i k)).toLoadRect X4
  | 3 => arg4.view.readAt (Elt F) (Rect.unit (s := S1x2560x512) (k0_off27 i k) S1x512x128.size (k0_off27_inb i k)).toLoadRect X4

/-- The values of pair `p` in chunk `k` of the second loop. -/
def values3 (p : Fin 4) (k : Fin (k0_t3_loop i).trips) : FVec F S1x128x512 .bf16 :=
  match p with
  | 0 => arg5.view.readAt (Elt F) (Rect.unit (s := S1x512x2560) (k0_off22 i k) S1x128x512.size (k0_off22_inb i k)).toLoadRect X5
  | 1 => arg5.view.readAt (Elt F) (Rect.unit (s := S1x512x2560) (k0_off24 i k) S1x128x512.size (k0_off24_inb i k)).toLoadRect X5
  | 2 => arg5.view.readAt (Elt F) (Rect.unit (s := S1x512x2560) (k0_off26 i k) S1x128x512.size (k0_off26_inb i k)).toLoadRect X5
  | 3 => arg5.view.readAt (Elt F) (Rect.unit (s := S1x512x2560) (k0_off28 i k) S1x128x512.size (k0_off28_inb i k)).toLoadRect X5

/-- The gates in chunk `k` of the second loop. -/
def gates3 (k : Fin (k0_t3_loop i).trips) : FVec F S1x512x128 .f32 :=
  arg6.view.readAt (Elt F) (Rect.unit (s := S1x2560x128) (k0_off20 i k) S1x512x128.size (k0_off20_inb i k)).toLoadRect X6

/-- A chunk of the second loop steps each pair, by the logits of the keys up to the query. -/
theorem pairOf_trip3 (k : Fin (k0_t3_loop i).trips) (acc : Carry F) (p : Fin 4) :
    pairOf p (tripR_k0_t3 𝒱 c bd i arg3 harg3 arg4 harg4 arg5 harg5 arg6 harg6 arg7 harg7 g (q 0 0) (q 0 1) (q 1 0) (q 1 1)
      (q 2 0) (q 2 1) (q 3 0) (q 3 1) kpos qpos top (cq 0 0) (cq 0 1) (cq 1 0) (cq 1 1) (cq 2 0) (cq 2 1) (cq 3 0) (cq 3 1)
      w141 w144 w512 w145 w150 w152 X4 X5 X6 k acc) =
    pairStep top (values3 i arg5 X5 p k)
      (fun h => causal (Scalar.muli (Scf.iv w141 1#32 k) 512#32) kpos qpos
        (logits (keys3 i arg4 X4 p k) (q p h) (cq p h) (gateCol (gates3 i arg6 X6 k) (headWord g p h)))) (pairOf p acc) := by
  unfold tripR_k0_t3 trip_k0_t3
  dsimp only
  match p with
  | 0 => rfl
  | 1 => rfl
  | 2 => rfl
  | 3 => rfl

end Loops

end Fox

end
-- ==== Proof.Pieces.lean ====
/- What one grid point of `fox` stores: the queries, the positions and the gates that it starts from, what its loops leave, and
   the four pairs of heads that it writes. -/
module

public import proofs.«01_k».proof.Proof.Step

@[expose] public section

set_option maxRecDepth 16384

noncomputable section

namespace Fox

open Cert.KernelIdeal Cert.KernelIdeal.Gen Idealize.ShloMosaic Idealize.ShloMosaic.TcCoe Idealize.SL.Sem

variable {F : FTy → Type} [FloatOps F] [Named F]

/-- The lanes of the first head of a pair, in a block of both heads' queries. -/
def firstLanes : IVec S512x128 1 := cmpi .slt (iota .tc S512x128 32 [1] iota_S512x128_d1_w32) (broadcast S512x128 64#32)

/-- The queries of one head of a pair, zero in the other head's lanes. -/
def queriesOf (h : Fin 2) (x : FVec F S1x512x128 .bf16) : FVec F S512x128 .bf16 :=
  match h with
  | 0 => select firstLanes (shapeCast S512x128 x shapeCasts_S1x512x128_S512x128) (broadcast S512x128 (Scalar.ofBits .bf16 0x0000#16))
  | 1 => select firstLanes (broadcast S512x128 (Scalar.ofBits .bf16 0x0000#16)) (shapeCast S512x128 x shapeCasts_S1x512x128_S512x128)

/-- The number of each key of a chunk. -/
def keyPos : IVec S512x512 32 := iota .tc S512x512 32 [0] iota_S512x512_d0_w32

/-- The position of each query of the tile. -/
def queryPos (i : grid0.Coords) : IVec S512x512 32 :=
  addi (broadcast S512x512 (Scalar.addi 128#32 (Scalar.muli (BitVec.ofNat 32 (i 2).val) 512#32)))
    (iota .tc S512x512 32 [1] iota_S512x512_d1_w32)

/-- The gate of one head at the tile's first query, out of the rows of gates that begin there. -/
def firstGate (x : FVec F S1x8x128 .f32) (w : BitVec 32) : FVec F S1x1 .f32 :=
  extractStridedSlice S1x1 ![0, 0] (shapeCast S8x1 (multiReduction .add [1] S8
    (select (cmpi .eq (iota .tc S8x128 32 [1] iota_S8x128_d1_w32) (broadcast S8x128 w))
      (shapeCast S8x128 x shapeCasts_S1x8x128_S8x128) (broadcast S8x128 (Scalar.ofBits .f32 0x00000000#32)))
    0x00000000#32 reduces_S8x128_S8 (.inl rfl) rfl) shapeCasts_S8_S8x1) slices_S8x1_o0_0_S1x1

/-- What a pair starts from: maxima below everything, sums and accumulator zero. -/
def pair0 : Pair F :=
  (broadcast S1x512 (Named.named κ "mask" 0xF149F2CA#32), broadcast S1x512 (Named.named κ "mask" 0xF149F2CA#32),
    broadcast S1x512 (Scalar.ofBits .f32 0x00000000#32), broadcast S1x512 (Scalar.ofBits .f32 0x00000000#32),
    broadcast S128x512 (Scalar.ofBits .f32 0x00000000#32))

/-- What the kernel starts from: every pair the same. -/
def carry0 : Carry F :=
  (pair0.1, pair0.2.1, pair0.2.2.1, pair0.2.2.2.1, pair0.2.2.2.2, pair0.1, pair0.2.1, pair0.2.2.1, pair0.2.2.2.1, pair0.2.2.2.2,
    pair0.1, pair0.2.1, pair0.2.2.1, pair0.2.2.2.1, pair0.2.2.2.2, pair0)

/-- What is carried, taken apart and put together again (as it passes from loop to loop). -/
def again (a : Carry F) : Carry F :=
  (a.1, a.2.1, a.2.2.1, a.2.2.2.1, a.2.2.2.2.1, a.2.2.2.2.2.1, a.2.2.2.2.2.2.1, a.2.2.2.2.2.2.2.1, a.2.2.2.2.2.2.2.2.1, a.2.2.2.2.2.2.2.2.2.1, a.2.2.2.2.2.2.2.2.2.2.1, a.2.2.2.2.2.2.2.2.2.2.2.1, a.2.2.2.2.2.2.2.2.2.2.2.2.1, a.2.2.2.2.2.2.2.2.2.2.2.2.2.1, a.2.2.2.2.2.2.2.2.2.2.2.2.2.2.1, a.2.2.2.2.2.2.2.2.2.2.2.2.2.2.2.1, a.2.2.2.2.2.2.2.2.2.2.2.2.2.2.2.2.1, a.2.2.2.2.2.2.2.2.2.2.2.2.2.2.2.2.2.1, a.2.2.2.2.2.2.2.2.2.2.2.2.2.2.2.2.2.2.1, a.2.2.2.2.2.2.2.2.2.2.2.2.2.2.2.2.2.2.2)

/-- What a pair writes: its accumulator over its sums, one row for each query. -/
def outPay (top : IVec S128x512 1) (a : Pair F) : FVec F S1x512x128 .bf16 :=
  shapeCast S1x512x128 (truncf .bf16 (transpose S512x128 [1, 0] (divf a.2.2.2.2 (select top
    (broadcastTo S128x512 (shapeCast S1x512 a.2.2.1 shapeCasts_S1x512_S1x512) broadcasts_S1x512_S128x512)
    (broadcastTo S128x512 (shapeCast S1x512 a.2.2.2.1 shapeCasts_S1x512_S1x512) broadcasts_S1x512_S128x512)))
    transposes_S128x512_p1_0_S512x128) bitsLt_bf16_f32) shapeCasts_S512x128_S1x512x128

variable (c : Dev nD) (i : grid0.Coords)
  (arg3 : Memref sig .tc .vmem S1x512x512 .bf16) (harg3 : arg3.IsWhole)
  (arg4 : Memref sig .tc .vmem S1x2560x512 .bf16) (harg4 : arg4.IsWhole)
  (arg5 : Memref sig .tc .vmem S1x512x2560 .bf16) (harg5 : arg5.IsWhole)
  (arg6 : Memref sig .tc .vmem S1x2560x128 .f32) (harg6 : arg6.IsWhole)
  (arg7 : Memref sig .tc .vmem S1x512x512 .bf16) (harg7 : arg7.IsWhole)
  (x0 : Vec F S1x512x512 .bf16) (x1 : Vec F S1x2560x512 .bf16) (x2 : Vec F S1x512x2560 .bf16) (x3 : Vec F S1x2560x128 .f32)

section After

variable (g : BitVec 32) (q : Fin 4 → Fin 2 → FVec F S512x128 .bf16) (kpos qpos : IVec S512x512 32) (top : IVec S128x512 1)
  (cq : Fin 4 → Fin 2 → FVec F S1x1 .f32) (w141 w144 w512 w145 w150 w152 w172 w179 : BitVec 32)

/-- What the kernel carries after its first loop and the rest of that loop. -/
def after1 : Carry F :=
  st_k0_t2 Variants.none c none i arg3 harg3 arg4 harg4 arg5 harg5 arg6 harg6 arg7 harg7 g (q 0 0) (q 0 1) (q 1 0) (q 1 1) (q 2 0) (q 2 1) (q 3 0) (q 3 1)
      kpos qpos top (cq 0 0) (cq 0 1) (cq 1 0) (cq 1 1) (cq 2 0) (cq 2 1) (cq 3 0) (cq 3 1) w141 w144 w512 w145 w150 w152 w172
      (harg4.unread x1) (harg5.unread x2) (harg6.unread x3) (again (st_k0_t1 Variants.none c none i arg3 harg3 arg4 harg4 arg5 harg5 arg6 harg6 arg7 harg7 g (q 0 0) (q 0 1) (q 1 0) (q 1 1) (q 2 0) (q 2 1) (q 3 0) (q 3 1)
      kpos qpos top (cq 0 0) (cq 0 1) (cq 1 0) (cq 1 1) (cq 2 0) (cq 2 1) (cq 3 0) (cq 3 1) w141 w144 w512 w145 w150 w152
      (harg4.unread x1) (harg5.unread x2) (harg6.unread x3) carry0 (k0_t1_loop i).trips)) (k0_t2_loop i).trips

/-- What the kernel carries after its second loop and the rest of that loop. -/
def after3 : Carry F :=
  st_k0_t4 Variants.none c none i arg3 harg3 arg4 harg4 arg5 harg5 arg6 harg6 arg7 harg7 g (q 0 0) (q 0 1) (q 1 0) (q 1 1) (q 2 0) (q 2 1) (q 3 0) (q 3 1)
      kpos qpos top (cq 0 0) (cq 0 1) (cq 1 0) (cq 1 1) (cq 2 0) (cq 2 1) (cq 3 0) (cq 3 1) w141 w144 w512 w145 w150 w152 w179
      (harg4.unread x1) (harg5.unread x2) (harg6.unread x3) (again (st_k0_t3 Variants.none c none i arg3 harg3 arg4 harg4 arg5 harg5 arg6 harg6 arg7 harg7 g (q 0 0) (q 0 1) (q 1 0) (q 1 1) (q 2 0) (q 2 1) (q 3 0) (q 3 1)
      kpos qpos top (cq 0 0) (cq 0 1) (cq 1 0) (cq 1 1) (cq 2 0) (cq 2 1) (cq 3 0) (cq 3 1) w141 w144 w512 w145 w150 w152
      (harg4.unread x1) (harg5.unread x2) (harg6.unread x3) (again (after1 c i arg3 harg3 arg4 harg4 arg5 harg5 arg6 harg6 arg7 harg7 x1 x2 x3 g q kpos qpos top cq w141 w144 w512 w145 w150 w152 w172)) (k0_t3_loop i).trips)) (k0_t4_loop i).trips

end After

/-- The queries of head `h` of pair `p`, as the kernel loads and masks them. -/
def queries (p : Fin 4) (h : Fin 2) : FVec F S512x128 .bf16 :=
  match p with
  | 0 => queriesOf h (arg3.view.readAt (Elt F) (Rect.unit (s := S1x512x512) ![0, 0, 0] S1x512x128.size inb_S1x512x512_S1x512x128_0_0_0).toLoadRect (harg3.unread x0))
  | 1 => queriesOf h (arg3.view.readAt (Elt F) (Rect.unit (s := S1x512x512) ![0, 0, 128] S1x512x128.size inb_S1x512x512_S1x512x128_0_0_128).toLoadRect (harg3.unread x0))
  | 2 => queriesOf h (arg3.view.readAt (Elt F) (Rect.unit (s := S1x512x512) ![0, 0, 256] S1x512x128.size inb_S1x512x512_S1x512x128_0_0_256).toLoadRect (harg3.unread x0))
  | 3 => queriesOf h (arg3.view.readAt (Elt F) (Rect.unit (s := S1x512x512) ![0, 0, 384] S1x512x128.size inb_S1x512x512_S1x512x128_0_0_384).toLoadRect (harg3.unread x0))

/-- The gate of head `h` of pair `p` at the tile's first query. -/
def startGate (p : Fin 4) (h : Fin 2) : FVec F S1x1 .f32 :=
  firstGate (arg6.view.readAt (Elt F) (Rect.unit (s := S1x2560x128) (k0_off1 i) S1x8x128.size (k0_off1_inb i)).toLoadRect (harg6.unread x3))
    (headWord (BitVec.ofNat 32 (i 1).val) p h)

/-- The stores of a grid point: the four pairs, the last one first. -/
def stores (a : Carry F) : List (View.Piece (Elt F) S1x512x512 .bf16) :=
  [⟨Rect.unit (s := S1x512x512) ![0, 0, 384] S1x512x128.size inb_S1x512x512_S1x512x128_0_0_384, outPay topRows (pairOf 3 a)⟩,
   ⟨Rect.unit (s := S1x512x512) ![0, 0, 256] S1x512x128.size inb_S1x512x512_S1x512x128_0_0_256, outPay topRows (pairOf 2 a)⟩,
   ⟨Rect.unit (s := S1x512x512) ![0, 0, 128] S1x512x128.size inb_S1x512x512_S1x512x128_0_0_128, outPay topRows (pairOf 1 a)⟩,
   ⟨Rect.unit (s := S1x512x512) ![0, 0, 0] S1x512x128.size inb_S1x512x512_S1x512x128_0_0_0, outPay topRows (pairOf 0 a)⟩]

/-- The position after the last key that some query of the tile sees, rounded up to a chunk, less one. -/
def endWord (i : grid0.Coords) : BitVec 32 :=
  Scalar.subi (Scalar.addi (Scalar.addi (Scalar.addi 128#32 (Scalar.muli (BitVec.ofNat 32 (i 2).val) 512#32)) 512#32) 512#32) 1#32

/-- What the kernel carries at its end. -/
def finalCarry : Carry F :=
  after3 c i arg3 harg3 arg4 harg4 arg5 harg5 arg6 harg6 arg7 harg7 x1 x2 x3 (BitVec.ofNat 32 (i 1).val) (queries arg3 harg3 x0) keyPos (queryPos i) topRows
    (startGate i arg6 harg6 x3) (k0_t3_loop i).lb (endWord i) 512#32 (Scalar.divsi (endWord i) 512#32)
    (Scalar.subi (Scalar.extui (Scalar.cmpi .sgt (endWord i) 0#32)) (Scalar.extui (Scalar.cmpi .slt (endWord i) 0#32))) 1#32
    (k0_t2_loop i).lb (k0_t4_loop i).lb

/-- The stores of a grid point are those of what its loops leave. -/
theorem stores_eq :
    (kernelRun0_A c i arg3 harg3 arg4 harg4 arg5 harg5 arg6 harg6 arg7 harg7 x0 x1 x2 x3).1 = stores (finalCarry c i arg3 harg3 arg4 harg4 arg5 harg5 arg6 harg6 arg7 harg7 x0 x1 x2 x3) := by
  unfold kernelRun0_A
  dsimp only
  sl_unfold_words
  generalize h4 : st_k0_t4 (F := F) _ _ _ _ _ _ _ _ _ _ _ _ _ _ _ _ _ _ _ _ _ _ _ _ _ _ _ _ _ _ _ _ _ _ _ _ _ _ _ _ _ _ _ _ _ _ = a4
  suffices h : a4 = finalCarry c i arg3 harg3 arg4 harg4 arg5 harg5 arg6 harg6 arg7 harg7 x0 x1 x2 x3 by subst h; rfl
  rw [← h4]; clear h4
  generalize h3 : st_k0_t3 (F := F) _ _ _ _ _ _ _ _ _ _ _ _ _ _ _ _ _ _ _ _ _ _ _ _ _ _ _ _ _ _ _ _ _ _ _ _ _ _ _ _ _ _ _ _ _ = a3
  refine congr (congrArg (st_k0_t4 (F := F) _ _ _ _ _ _ _ _ _ _ _ _ _ _ _ _ _ _ _ _ _ _ _ _ _ _ _ _ _ _ _ _ _ _ _ _ _ _ _ _ _ _ _ _) (congrArg again ?_)) rfl
  rw [← h3]; clear h3
  generalize h2 : st_k0_t2 (F := F) _ _ _ _ _ _ _ _ _ _ _ _ _ _ _ _ _ _ _ _ _ _ _ _ _ _ _ _ _ _ _ _ _ _ _ _ _ _ _ _ _ _ _ _ _ _ = a2
  refine congr (congrArg (st_k0_t3 (F := F) _ _ _ _ _ _ _ _ _ _ _ _ _ _ _ _ _ _ _ _ _ _ _ _ _ _ _ _ _ _ _ _ _ _ _ _ _ _ _ _ _ _ _) (congrArg again ?_)) rfl
  rw [← h2]; clear h2
  generalize h1 : st_k0_t1 (F := F) _ _ _ _ _ _ _ _ _ _ _ _ _ _ _ _ _ _ _ _ _ _ _ _ _ _ _ _ _ _ _ _ _ _ _ _ _ _ _ _ _ _ _ _ _ = a1
  refine congr (congrArg (st_k0_t2 (F := F) _ _ _ _ _ _ _ _ _ _ _ _ _ _ _ _ _ _ _ _ _ _ _ _ _ _ _ _ _ _ _ _ _ _ _ _ _ _ _ _ _ _ _ _) (congrArg again ?_)) rfl
  rw [← h1]; clear h1
  rfl

end Fox

end
-- ==== Proof.OnlineSoftmax.lean ====
/- The mathematics of attention by chunks, over the extended reals. A family of logits, each a real number or −∞, is met in
   order; what is kept of the first `N` is their maximum and a sum weighted by powers of two. `mass_add`: one more chunk
   rescales the sum and adds its own terms. `attention_eq`: the weighted sum over the sum of the weights is the softmax of the
   logits in nats, applied to the values. -/
module

public import Idealize.ShloMosaic.PureOps.Ideal

@[expose] public section

noncomputable section

namespace Fox

open Idealize.ShloMosaic

/-- The greatest of the first `N` logits. -/
def top (t : ℕ → EReal) (N : ℕ) : EReal := (Finset.range N).sup t

/-- The sum of the first `N` values, each weighted by 2 to its logit less the greatest. -/
def mass (t v : ℕ → EReal) (N : ℕ) : EReal := ∑ j ∈ Finset.range N, Ideal.exp2 (t j - top t N) * v j

/-- The greatest of no logits. -/
theorem top_zero (t : ℕ → EReal) : top t 0 = ⊥ := rfl

/-- The sum over no logits. -/
theorem mass_zero (t v : ℕ → EReal) : mass t v 0 = 0 := by simp [mass]

/-- The greatest of `N + n` logits is the greater of the first `N`'s and of the next `n`'s. -/
theorem top_add (t : ℕ → EReal) (N n : ℕ) :
    top t (N + n) = max (top t N) (Finset.univ.sup fun i : Fin n => t (N + i.val)) := by
  unfold top
  apply le_antisymm
  · refine Finset.sup_le fun j hj => ?_
    rw [Finset.mem_range] at hj
    by_cases h : j < N
    · exact le_max_of_le_left (Finset.le_sup (f := t) (Finset.mem_range.2 h))
    · refine le_max_of_le_right ?_
      have e : j = N + (⟨j - N, by omega⟩ : Fin n).val := by simp only []; omega
      rw [e]
      exact Finset.le_sup (f := fun i : Fin n => t (N + i.val)) (Finset.mem_univ _)
  · refine max_le (Finset.sup_mono (Finset.range_mono (by omega))) (Finset.sup_le fun i _ => ?_)
    exact Finset.le_sup (f := t) (Finset.mem_range.2 (by omega))

/-- Two to a difference, taken in two steps. -/
theorem exp2_sub_mul {x m m' : EReal} (h : x ≤ m) (h' : m ≤ m') (hm : m' ≠ ⊤) :
    Ideal.exp2 (m - m') * Ideal.exp2 (x - m) = Ideal.exp2 (x - m') := by
  induction x with
  | bot => simp
  | top => exact absurd (top_le_iff.1 (h.trans h')) hm
  | coe x =>
    induction m with
    | bot => exact absurd h (by simp)
    | top => exact absurd (top_le_iff.1 h') hm
    | coe m =>
      induction m' with
      | bot => exact absurd h' (by simp)
      | top => exact absurd rfl hm
      | coe m' =>
        rw [← EReal.coe_sub, ← EReal.coe_sub, ← EReal.coe_sub, Ideal.exp2_coe, Ideal.exp2_coe, Ideal.exp2_coe, ← EReal.coe_mul]
        congr 1
        show (2 : ℝ) ^ (m - m') * (2 : ℝ) ^ (x - m) = (2 : ℝ) ^ (x - m')
        rw [← Real.rpow_add two_pos]
        congr 1
        ring

/-- Two to a difference of logits, the first not above the second, is a nonnegative number that is not infinite. -/
theorem exp2_sub_nonneg {m m' : EReal} (h' : m ≤ m') (hm : m' ≠ ⊤) :
    0 ≤ Ideal.exp2 (m - m') ∧ Ideal.exp2 (m - m') ≠ ⊤ := by
  induction m with
  | bot => simp
  | top => exact absurd (top_le_iff.1 h') hm
  | coe m =>
    induction m' with
    | bot => exact absurd h' (by simp)
    | top => exact absurd rfl hm
    | coe m' =>
      rw [← EReal.coe_sub, Ideal.exp2_coe]
      refine ⟨?_, EReal.coe_ne_top _⟩
      rw [← EReal.coe_zero, EReal.coe_le_coe_iff]
      exact (Real.rpow_pos_of_pos two_pos _).le

/-- A nonnegative number that is not infinite goes inside a sum. -/
theorem mul_sum_of_nonneg {ι : Type} (s : Finset ι) (f : ι → EReal) {a : EReal} (h0 : 0 ≤ a) (h1 : a ≠ ⊤) :
    a * ∑ i ∈ s, f i = ∑ i ∈ s, a * f i := by
  classical
  induction s using Finset.induction_on with
  | empty => simp
  | insert i s hi ih => rw [Finset.sum_insert hi, Finset.sum_insert hi, EReal.left_distrib_of_nonneg_of_ne_top h0 h1, ih]

/-- The greatest of finitely many logits below +∞ is below +∞. -/
theorem top_ne_top {t : ℕ → EReal} (ht : ∀ j, t j ≠ ⊤) (N : ℕ) : top t N ≠ ⊤ := by
  have : top t N < ⊤ := (Finset.sup_lt_iff (by simp)).2 fun j _ => lt_top_iff_ne_top.2 (ht j)
  exact this.ne

/-- One more chunk: the sum so far shrinks by the step of the maximum, and the chunk's own terms join it. -/
theorem mass_add {t : ℕ → EReal} (ht : ∀ j, t j ≠ ⊤) (v : ℕ → EReal) (N n : ℕ) :
    mass t v (N + n) = Ideal.exp2 (top t N - top t (N + n)) * mass t v N +
      ∑ i : Fin n, Ideal.exp2 (t (N + i.val) - top t (N + n)) * v (N + i.val) := by
  have hle : top t N ≤ top t (N + n) := Finset.sup_mono (Finset.range_mono (by omega))
  obtain ⟨h0, h1⟩ := exp2_sub_nonneg hle (top_ne_top ht _)
  unfold mass
  rw [Finset.sum_range_add, mul_sum_of_nonneg _ _ h0 h1, Finset.sum_range (n := n)]
  congr 1
  refine Finset.sum_congr rfl fun j hj => ?_
  rw [← mul_assoc, exp2_sub_mul (show t j ≤ top t N from Finset.le_sup (f := t) hj) hle (top_ne_top ht _)]

/-- The greatest of logits that are real on a set `V` and −∞ off it is real. -/
theorem top_real {t : ℕ → EReal} {N : ℕ} {V : Finset ℕ} (hV : V.Nonempty) (hN : V ⊆ Finset.range N) (τ : ℕ → ℝ)
    (ht : ∀ j ∈ V, t j = (τ j : EReal)) (ht' : ∀ j < N, j ∉ V → t j = ⊥) : ∃ μ : ℝ, top t N = (μ : EReal) := by
  obtain ⟨i, hi⟩ := hV
  obtain ⟨j, hj, e⟩ := Finset.exists_mem_eq_sup (Finset.range N) ⟨i, hN hi⟩ t
  by_cases h : j ∈ V
  · exact ⟨τ j, by rw [top, e, ht j h]⟩
  · have : t i ≤ ⊥ := by
      rw [← ht' j (Finset.mem_range.1 hj) h, ← e]
      exact Finset.le_sup (hN hi)
    rw [ht i hi] at this
    exact absurd this (by simp)

/-- Attention by powers of two is the softmax: logits in bits that are, on the set `V` of the visible keys, those in nats
    over log 2 plus a number `β`, and −∞ off it on both sides, weigh the values alike once divided by their sums. -/
theorem attention_eq {t s : ℕ → EReal} {N K : ℕ} {V : Finset ℕ} (hV : V.Nonempty) (hN : V ⊆ Finset.range N)
    (hK : V ⊆ Finset.range K) (τ : ℕ → ℝ) (β : ℝ)
    (ht : ∀ j ∈ V, t j = ((τ j * (Real.log 2)⁻¹ + β : ℝ) : EReal)) (ht' : ∀ j < N, j ∉ V → t j = ⊥)
    (hs : ∀ j ∈ V, s j = (τ j : EReal)) (hs' : ∀ j < K, j ∉ V → s j = ⊥) (v : ℕ → EReal) :
    Ideal.div (mass t v N) (mass t (fun _ => 1) N) =
      ∑ j ∈ Finset.range K, Ideal.div (Ideal.exp (s j - top s K)) (∑ i ∈ Finset.range K, Ideal.exp (s i - top s K)) * v j := by
  obtain ⟨μ, hμ⟩ := top_real hV hN _ ht ht'
  obtain ⟨ν, hν⟩ := top_real hV hK _ hs hs'
  set C : ℝ := Real.exp (Real.log 2 * (β - μ) + ν) with hC
  have hCpos : 0 < C := Real.exp_pos _
  set e : ℕ → ℝ := fun j => Real.exp (τ j - ν) with he
  have hl : Real.log 2 ≠ 0 := (Real.log_pos one_lt_two).ne'
  have hw : ∀ j ∈ V, Ideal.exp2 (t j - top t N) = ((C * e j : ℝ) : EReal) := by
    intro j hj
    rw [hμ, ht j hj, ← EReal.coe_sub, Ideal.exp2_coe]
    congr 1
    show (2 : ℝ) ^ (τ j * (Real.log 2)⁻¹ + β - μ) = C * e j
    rw [Real.rpow_def_of_pos two_pos, hC, he, ← Real.exp_add]
    congr 1
    field_simp
    ring
  have hw' : ∀ j ∈ Finset.range N, j ∉ V → Ideal.exp2 (t j - top t N) = 0 := by
    intro j hj h
    rw [ht' j (Finset.mem_range.1 hj) h]; simp
  have hz : ∀ j ∈ V, Ideal.exp (s j - top s K) = (e j : EReal) := by
    intro j hj
    rw [hν, hs j hj, ← EReal.coe_sub, Ideal.exp_coe]
  have hz' : ∀ j ∈ Finset.range K, j ∉ V → Ideal.exp (s j - top s K) = 0 := by
    intro j hj h
    rw [hs' j (Finset.mem_range.1 hj) h]; simp
  set Z : ℝ := ∑ j ∈ V, e j with hZ
  have hZpos : 0 < Z := Finset.sum_pos (fun j _ => Real.exp_pos _) hV
  have coe_sum : ∀ (f : ℕ → ℝ) (S : Finset ℕ), ∑ j ∈ S, ((f j : ℝ) : EReal) = ((∑ j ∈ S, f j : ℝ) : EReal) := by
    intro f S
    induction S using Finset.induction_on with
    | empty => simp
    | insert i S hi ih => rw [Finset.sum_insert hi, Finset.sum_insert hi, EReal.coe_add, ih]
  have h1 : mass t (fun _ => 1) N = ((C * Z : ℝ) : EReal) := by
    unfold mass
    rw [← Finset.sum_subset hN (fun j hj h => by rw [hw' j hj h, zero_mul]), hZ, Finset.mul_sum, ← coe_sum]
    exact Finset.sum_congr rfl fun j hj => by rw [hw j hj, mul_one]
  have h2 : ∑ i ∈ Finset.range K, Ideal.exp (s i - top s K) = (Z : EReal) := by
    rw [← Finset.sum_subset hK hz', hZ, ← coe_sum]
    exact Finset.sum_congr rfl hz
  have h3 : mass t v N = ∑ j ∈ V, ((C * e j : ℝ) : EReal) * v j := by
    unfold mass
    rw [← Finset.sum_subset hN (fun j hj h => by rw [hw' j hj h, zero_mul])]
    exact Finset.sum_congr rfl fun j hj => by rw [hw j hj]
  have hdiv : ∀ x : ℝ, Ideal.div (x : EReal) (Z : EReal) = ((x * (1 / Z) : ℝ) : EReal) := by
    intro x; rw [Ideal.div_coe hZpos.ne', ← EReal.coe_mul]
  rw [h1, h2, h3, Ideal.div_coe (mul_pos hCpos hZpos).ne', mul_comm, mul_sum_of_nonneg]
  · rw [← Finset.sum_subset hK (fun j hj h => by
      rw [hz' j hj h, ← EReal.coe_zero, hdiv, zero_mul, EReal.coe_zero, zero_mul])]
    refine Finset.sum_congr rfl fun j hj => ?_
    rw [hz j hj, hdiv, ← mul_assoc, ← EReal.coe_mul]
    congr 2
    field_simp
  · rw [← EReal.coe_zero, EReal.coe_le_coe_iff]
    exact (one_div_pos.2 (mul_pos hCpos hZpos)).le
  · exact EReal.coe_ne_top _

end Fox

end
-- ==== Proof.Values.lean ====
/- The kernel's operations read at one element, over the extended reals: each chunk step keeps, for every head and query of the
   tile, the greatest logit so far, the sum of the weights, and the weighted sum of the values. -/
module

public import proofs.«01_k».proof.Proof.Pieces
public import proofs.«01_k».proof.Proof.OnlineSoftmax
public import Idealize.ShloMosaic.Lib.Pointwise

@[expose] public section

set_option maxRecDepth 16384

noncomputable section

namespace Fox

open Cert.KernelIdeal Cert.KernelIdeal.Gen Idealize.ShloMosaic Idealize.ShloMosaic.TcCoe Idealize.SL.Sem

/-- The head of a pair to which row `d` of the accumulator belongs. -/
def headOf (d : Fin 128) : Fin 2 := if d.val < 64 then 0 else 1

/-- The kernel's mask is −∞. -/
theorem mask_eq : (Named.named κ "mask" 0xF149F2CA#32 : Ideal .f32) = (⊥ : EReal) := rfl

/-- The kernel's constant is 1 over the logarithm of 2. -/
theorem log2e_eq : (Named.named κ "log2e" 0x3FB8AA3B#32 : Ideal .f32) = (((Real.log 2)⁻¹ : ℝ) : EReal) := rfl

/-- The word on which a maximum starts is −∞. -/
theorem negInf_eq : Ideal.ofBits .f32 0xFF800000#32 = (⊥ : EReal) := by
  simp [Ideal.ofBits, Ideal.ieee]

/-- A choice by whether a row is in the first head's half. -/
theorem select_half {α : Type} (d : Fin 128) (x y : α) :
    Scalar.select (IntOp.cmpi CmpIPredicate.slt (BitVec.ofNat 32 d.val) 64#32) x y = if d.val < 64 then x else y := by
  have : IntOp.cmpi CmpIPredicate.slt (BitVec.ofNat 32 d.val) 64#32 = if d.val < 64 then 1#1 else 0#1 := by
    revert d; decide
  rw [this]
  split <;> rfl

/-- A sum of one lane's choice is that lane. -/
theorem sum_select (w : Fin 128) (f : Fin 128 → EReal) :
    ∑ x : Fin 128, Scalar.select (IntOp.cmpi CmpIPredicate.eq (BitVec.ofNat 32 x.val) (BitVec.ofNat 32 w.val)) (f x) 0 = f w := by
  have key : ∀ x w : Fin 128, IntOp.cmpi CmpIPredicate.eq (BitVec.ofNat 32 x.val) (BitVec.ofNat 32 w.val) =
      if x = w then 1#1 else 0#1 := by decide +kernel
  rw [Finset.sum_eq_single w]
  · rw [key, if_pos rfl]; rfl
  · intro x _ hx; rw [key, if_neg hx]; rfl
  · intro h; exact absurd (Finset.mem_univ _) h

/-- The gates of one head at a key of the chunk. -/
theorem gateCol_apply (c : FVec Ideal S1x512x128 .f32) (w : Fin 128) (j : Fin 512) :
    gateCol c (BitVec.ofNat 32 w.val) (ix2 j 0) = c (ix3 0 j w) := by
  unfold gateCol
  pointwise
  exact sum_select w fun x => c (ix3 0 j x)

/-- The gate of one head at the tile's first query. -/
theorem firstGate_apply (x : FVec Ideal S1x8x128 .f32) (w : Fin 128) :
    firstGate x (BitVec.ofNat 32 w.val) (ix2 0 0) = x (ix3 0 0 w) := by
  unfold firstGate
  pointwise
  exact sum_select w fun l => x (ix3 0 0 l)

/-- The logits at a key and a query. -/
theorem logits_apply (kk : FVec Ideal S1x512x128 .bf16) (q : FVec Ideal S512x128 .bf16) (cq : FVec Ideal S1x1 .f32)
    (cc : FVec Ideal S512x1 .f32) (j r : Fin 512) :
    logits kk q cq cc (ix2 j r) = (∑ x : Fin 128, (kk (ix3 0 j x) * q (ix2 r x) : EReal)) +
      (cq (ix2 0 0) - cc (ix2 j 0)) * (((Real.log 2)⁻¹ : ℝ) : EReal) := by
  unfold logits
  pointwise
  rfl

/-- The queries of one head of a pair are zero in the other head's lanes. -/
theorem queriesOf_apply (h : Fin 2) (x : FVec Ideal S1x512x128 .bf16) (r : Fin 512) (d : Fin 128) :
    queriesOf h x (ix2 r d) = if headOf d = h then x (ix3 0 r d) else 0 := by
  match h with
  | 0 =>
    unfold queriesOf firstLanes
    pointwise
    rw [select_half]
    by_cases hd : d.val < 64 <;> simp [headOf, hd]
  | 1 =>
    unfold queriesOf firstLanes
    pointwise
    rw [select_half]
    by_cases hd : d.val < 64 <;> simp [headOf, hd]

/-- The running maximum at a query. -/
theorem newMax_apply (m : FVec Ideal S1x512 .f32) (s : FVec Ideal S512x512 .f32) (r : Fin 512) :
    newMax m s (ix2 0 r) = max (m (ix2 0 r) : EReal) (Finset.univ.sup fun j : Fin 512 => (s (ix2 j r) : EReal)) := by
  unfold newMax
  pointwise
  rw [negInf_eq]
  rfl

/-- The running sum at a query. -/
theorem newSum_apply (m l : FVec Ideal S1x512 .f32) (s : FVec Ideal S512x512 .f32) (r : Fin 512) :
    newSum m l s (ix2 0 r) = Ideal.exp2 (m (ix2 0 r) - newMax m s (ix2 0 r)) * l (ix2 0 r) +
      ∑ j : Fin 512, Ideal.exp2 (s (ix2 j r) - newMax m s (ix2 0 r)) := by
  unfold newSum alpha prob
  pointwise
  rfl

/-- The accumulator at a row and a query: the other head's products are zero. -/
theorem newAcc_apply (vt : FVec Ideal S1x128x512 .bf16) (m : Fin 2 → FVec Ideal S1x512 .f32) (acc : FVec Ideal S128x512 .f32)
    (s : Fin 2 → FVec Ideal S512x512 .f32) (d : Fin 128) (r : Fin 512) :
    newAcc topRows vt (m 0) (m 1) acc (s 0) (s 1) (ix2 d r) =
      Ideal.exp2 (m (headOf d) (ix2 0 r) - newMax (m (headOf d)) (s (headOf d)) (ix2 0 r)) * acc (ix2 d r) +
      ∑ j : Fin 512, (Ideal.exp2 (s (headOf d) (ix2 j r) - newMax (m (headOf d)) (s (headOf d)) (ix2 0 r)) : EReal) * vt (ix3 0 d j) := by
  unfold newAcc topRows valuesOf topRows alpha prob
  pointwise
  simp only [select_half]
  by_cases h : d.val < 64
  · simp only [if_pos h, headOf, Finset.sum_const_zero, add_zero]
    exact congrArg (_ + ·) (Finset.sum_congr rfl fun j _ => mul_comm _ _)
  · simp only [if_neg h, headOf, Finset.sum_const_zero, zero_add]
    exact congrArg (_ + ·) (Finset.sum_congr rfl fun j _ => mul_comm _ _)

/-- What a pair writes at a query and a lane. -/
theorem outPay_apply (a : Pair Ideal) (r : Fin 512) (d : Fin 128) :
    outPay topRows a (ix3 0 r d) = Ideal.div (a.2.2.2.2 (ix2 d r))
      (if d.val < 64 then a.2.2.1 (ix2 0 r) else a.2.2.2.1 (ix2 0 r)) := by
  unfold outPay topRows
  pointwise
  rw [select_half]

/-- What a pair carries after `N` keys, where `t h r` are the logits of head `h` at query `r` and `v d` the values of row `d`. -/
structure Carries (t : Fin 2 → Fin 512 → ℕ → EReal) (v : Fin 128 → ℕ → EReal) (N : ℕ) (a : Pair Ideal) : Prop where
  max0 : ∀ r, a.1 (ix2 0 r) = top (t 0 r) N
  max1 : ∀ r, a.2.1 (ix2 0 r) = top (t 1 r) N
  sum0 : ∀ r, a.2.2.1 (ix2 0 r) = mass (t 0 r) (fun _ => 1) N
  sum1 : ∀ r, a.2.2.2.1 (ix2 0 r) = mass (t 1 r) (fun _ => 1) N
  acc : ∀ d r, a.2.2.2.2 (ix2 d r) = mass (t (headOf d) r) (v d) N

/-- A pair starts with nothing. -/
theorem carries_zero (t : Fin 2 → Fin 512 → ℕ → EReal) (v : Fin 128 → ℕ → EReal) : Carries t v 0 pair0 where
  max0 _ := rfl
  max1 _ := rfl
  sum0 _ := by rw [mass_zero]; exact Ideal.ofBits_zero_f32
  sum1 _ := by rw [mass_zero]; exact Ideal.ofBits_zero_f32
  acc _ _ := by rw [mass_zero]; exact Ideal.ofBits_zero_f32

/-- One chunk carries a pair from `N` keys to `N + 512`. -/
theorem Carries.step {t : Fin 2 → Fin 512 → ℕ → EReal} {v : Fin 128 → ℕ → EReal} {N : ℕ} {a : Pair Ideal}
    (ha : Carries t v N a) (ht : ∀ h r j, t h r j ≠ ⊤) {vt : FVec Ideal S1x128x512 .bf16} {s : Fin 2 → FVec Ideal S512x512 .f32}
    (hs : ∀ h (j r : Fin 512), s h (ix2 j r) = t h r (N + j.val)) (hv : ∀ d (j : Fin 512), vt (ix3 0 d j) = v d (N + j.val)) :
    Carries t v (N + 512) (pairStep topRows vt s a) := by
  have hmax : ∀ h (m : FVec Ideal S1x512 .f32), (∀ r, m (ix2 0 r) = top (t h r) N) →
      ∀ r, newMax m (s h) (ix2 0 r) = top (t h r) (N + 512) := by
    intro h m hm r
    rw [newMax_apply, hm, top_add]
    simp only [hs]
  have hsum : ∀ h (m l : FVec Ideal S1x512 .f32), (∀ r, m (ix2 0 r) = top (t h r) N) →
      (∀ r, l (ix2 0 r) = mass (t h r) (fun _ => 1) N) →
      ∀ r, newSum m l (s h) (ix2 0 r) = mass (t h r) (fun _ => 1) (N + 512) := by
    intro h m l hm hl r
    rw [newSum_apply, hmax h m hm, hm, hl, mass_add (ht h r)]
    simp only [hs, mul_one]
  refine ⟨hmax 0 _ ha.max0, hmax 1 _ ha.max1, hsum 0 _ _ ha.max0 ha.sum0, hsum 1 _ _ ha.max1 ha.sum1, fun d r => ?_⟩
  have hm : ∀ h r, (![a.1, a.2.1] : Fin 2 → FVec Ideal S1x512 .f32) h (ix2 0 r) = top (t h r) N := by
    intro h r
    match h with
    | 0 => exact ha.max0 r
    | 1 => exact ha.max1 r
  refine (newAcc_apply vt ![a.1, a.2.1] _ s d r).trans ?_
  rw [hmax _ _ (hm _), hm, ha.acc, mass_add (ht _ r)]
  simp only [hs, hv]

end Fox

end
-- ==== Proof.Tile.lean ====
/- What one grid point of `fox` leaves: for each head and query of the tile, the quotient of the weighted sum of the values by
   the sum of the weights, over the keys of all the chunks that the tile reads. -/
module

public import proofs.«01_k».proof.Proof.Values
public import Idealize.ShloMosaic.Lib.Pipeline.ValueKit.Tiles

@[expose] public section

set_option maxRecDepth 16384

noncomputable section

namespace Fox

open Cert.KernelIdeal Cert.KernelIdeal.Gen Idealize.ShloMosaic Idealize.ShloMosaic.TcCoe Idealize.SL.Sem

/-! ## The loops' bounds -/

theorem tile_lt (i : grid0.Coords) : (i 2).val < 4 := (i 2).isLt

/-- The first loop takes one chunk for each tile before this one. -/
theorem trips1 (i : grid0.Coords) : (k0_t1_loop i).trips = (i 2).val := by
  have h := tile_lt i
  unfold k0_t1_loop
  generalize (i 2).val = n at *
  interval_cases n <;> decide

/-- Nothing is left of the first loop. -/
theorem trips2 (i : grid0.Coords) : (k0_t2_loop i).trips = 0 := by
  have h := tile_lt i
  unfold k0_t2_loop
  generalize (i 2).val = n at *
  interval_cases n <;> decide

/-- The second loop takes two chunks, -/
theorem trips3 (i : grid0.Coords) : (k0_t3_loop i).trips = 2 := by
  have h := tile_lt i
  unfold k0_t3_loop
  generalize (i 2).val = n at *
  interval_cases n <;> decide

/-- beginning with the tile's own number, -/
theorem lb3 (i : grid0.Coords) : (k0_t3_loop i).lb = BitVec.ofNat 32 (i 2).val := by
  have h := tile_lt i
  unfold k0_t3_loop
  generalize (i 2).val = n at *
  interval_cases n <;> decide

/-- and nothing is left of it. -/
theorem trips4 (i : grid0.Coords) : (k0_t4_loop i).trips = 0 := by
  have h := tile_lt i
  unfold k0_t4_loop
  generalize (i 2).val = n at *
  interval_cases n <;> decide

/-- The first key of a chunk of the first loop. -/
theorem chunk1 {n : ℕ} (h : n < 4) : (Scalar.muli (Scf.iv 0#32 1#32 n) 512#32).toNat = 512 * n := by
  interval_cases n <;> decide

/-- The first key of a chunk of the second loop, as a word -/
theorem chunk3_word (i : grid0.Coords) {n : ℕ} (h : n < 2) :
    Scalar.muli (Scf.iv (k0_t3_loop i).lb 1#32 n) 512#32 = BitVec.ofNat 32 (512 * ((i 2).val + n)) := by
  rw [lb3]
  have h' := tile_lt i
  generalize (i 2).val = q at *
  interval_cases q <;> interval_cases n <;> decide

/-- and as a number. -/
theorem chunk3 (i : grid0.Coords) {n : ℕ} (h : n < 2) :
    (Scalar.muli (Scf.iv (k0_t3_loop i).lb 1#32 n) 512#32).toNat = 512 * ((i 2).val + n) := by
  have h' := tile_lt i
  rw [chunk3_word i h, BitVec.toNat_ofNat, Nat.mod_eq_of_lt]
  omega

/-- The row of the tile's first query. -/
theorem first_row (i : grid0.Coords) :
    (Scalar.addi 128#32 (Scalar.muli (BitVec.ofNat 32 (i 2).val) 512#32)).toNat = 128 + 512 * (i 2).val := by
  have h' := tile_lt i
  generalize (i 2).val = q at *
  interval_cases q <;> decide

/-! ## The order of the keys -/

/-- Small numbers are ordered as their words are. -/
theorem sle_ofNat {a b : ℕ} (ha : a < 2 ^ 31) (hb : b < 2 ^ 31) :
    IntOp.cmpi CmpIPredicate.sle (BitVec.ofNat 32 a) (BitVec.ofNat 32 b) = if a ≤ b then 1#1 else 0#1 := by
  have key : ∀ {n : ℕ}, n < 2 ^ 31 → (BitVec.ofNat 32 n).toInt = n := by
    intro n hn
    rw [BitVec.toInt_eq_toNat_of_lt] <;> rw [BitVec.toNat_ofNat, Nat.mod_eq_of_lt] <;> omega
  show BitVec.ofBool (BitVec.sle _ _) = _
  rw [BitVec.sle, key ha, key hb]
  by_cases h : a ≤ b
  · simp [h]
  · simp [h]

/-- A chunk's logits are kept for the keys up to the query. -/
theorem causal_apply (i : grid0.Coords) {n : ℕ} (hn : n < 2) (s : FVec Ideal S512x512 .f32) (j r : Fin 512) :
    causal (Scalar.muli (Scf.iv (k0_t3_loop i).lb 1#32 n) 512#32) keyPos (queryPos i) s (ix2 j r) =
      if 512 * ((i 2).val + n) + j.val ≤ 128 + 512 * (i 2).val + r.val then s (ix2 j r) else (⊥ : EReal) := by
  have h' := tile_lt i
  unfold causal keyPos queryPos
  pointwise
  have hq : Scalar.addi 128#32 (Scalar.muli (BitVec.ofNat 32 (i 2).val) 512#32) = BitVec.ofNat 32 (128 + 512 * (i 2).val) := by
    generalize (i 2).val = q at *
    interval_cases q <;> decide
  rw [chunk3_word i hn, hq]
  show Scalar.select (IntOp.cmpi CmpIPredicate.sle (BitVec.ofNat 32 _ + BitVec.ofNat 32 _)
    (BitVec.ofNat 32 _ + BitVec.ofNat 32 _)) _ _ = _
  rw [← BitVec.ofNat_add, ← BitVec.ofNat_add, sle_ofNat (by omega) (by omega)]
  split <;> rfl

/-! ## The loads -/

/-- Lane `d` of pair `p`. -/
def lane (p : Fin 4) (d : Fin 128) : Fin 512 := ⟨128 * p.val + d.val, by omega⟩

/-- The gate lane of head `h` of pair `p`. -/
def gateLane (p : Fin 4) (h : Fin 2) : Fin 128 := ⟨2 * p.val + h.val, by omega⟩

/-- The tile's first query, as a row of keys. -/
def firstKey (i : grid0.Coords) : Fin 2560 := ⟨128 + 512 * (i 2).val, by have := tile_lt i; omega⟩

/-- A load of some rows and lanes. -/
theorem readAt_apply {A B a b n l : ℕ} {e : EltTy} (arg : Memref sig .tc .vmem ⟨3, ![1, A, B]⟩ e) (harg : arg.IsWhole)
    (X : Vec Ideal ⟨3, ![1, A, B]⟩ e) {off : Fin 3 → ℕ}
    (inb : ∀ x, off x + (![1, a, b] : Fin 3 → ℕ) x ≤ (![1, A, B] : Fin 3 → ℕ) x)
    (h : off = ![0, n, l]) (j : Fin a) (x : Fin b) (hj : n + j.val < A) (hx : l + x.val < B) :
    arg.view.readAt (Elt Ideal) (Rect.unit (s := ⟨3, ![1, A, B]⟩) off ![1, a, b] inb).toLoadRect (harg.unread X)
        (ix3 (0 : Fin 1) j x) = X (ix3 (0 : Fin 1) ⟨n + j.val, hj⟩ ⟨l + x.val, hx⟩) := by
  subst h
  rw [View.readAt_eq_ld, harg.read_unread]
  refine View.ld_unit_apply_of (S := ⟨3, ![1, A, B]⟩) _ _ _ _ _ _ fun c => ?_
  match c with
  | 0 => rfl
  | 1 => rfl
  | 2 => rfl

section Loads

variable (i : grid0.Coords)
  (arg3 : Memref sig .tc .vmem S1x512x512 .bf16) (harg3 : arg3.IsWhole)
  (arg4 : Memref sig .tc .vmem S1x2560x512 .bf16) (harg4 : arg4.IsWhole)
  (arg5 : Memref sig .tc .vmem S1x512x2560 .bf16) (harg5 : arg5.IsWhole)
  (arg6 : Memref sig .tc .vmem S1x2560x128 .f32) (harg6 : arg6.IsWhole)
  (x0 : Vec Ideal S1x512x512 .bf16) (x1 : Vec Ideal S1x2560x512 .bf16) (x2 : Vec Ideal S1x512x2560 .bf16)
  (x3 : Vec Ideal S1x2560x128 .f32)

theorem trip1_lt (k : Fin (k0_t1_loop i).trips) : k.val < 4 := by
  have := tile_lt i
  have := trips1 i
  omega

theorem trip3_lt (k : Fin (k0_t3_loop i).trips) : k.val < 2 := by
  have := trips3 i
  omega

theorem keys1_apply (p : Fin 4) (k : Fin (k0_t1_loop i).trips) (j : Fin 512) (d : Fin 128) (hj : 512 * k.val + j.val < 2560) :
    keys1 i arg4 (harg4.unread x1) p k (ix3 0 j d) = x1 (ix3 0 ⟨512 * k.val + j.val, hj⟩ (lane p d)) := by
  have h := chunk1 (trip1_lt i k)
  match p with
  | 0 =>
    exact readAt_apply arg4 harg4 x1 _ (congrArg (![0, ·, 0]) h) j d hj _
  | 1 =>
    exact readAt_apply arg4 harg4 x1 _ (congrArg (![0, ·, 128]) h) j d hj _
  | 2 =>
    exact readAt_apply arg4 harg4 x1 _ (congrArg (![0, ·, 256]) h) j d hj _
  | 3 =>
    exact readAt_apply arg4 harg4 x1 _ (congrArg (![0, ·, 384]) h) j d hj _

theorem values1_apply (p : Fin 4) (k : Fin (k0_t1_loop i).trips) (d : Fin 128) (j : Fin 512) (hj : 512 * k.val + j.val < 2560) :
    values1 i arg5 (harg5.unread x2) p k (ix3 0 d j) = x2 (ix3 0 (lane p d) ⟨512 * k.val + j.val, hj⟩) := by
  have h := chunk1 (trip1_lt i k)
  match p with
  | 0 =>
    exact readAt_apply arg5 harg5 x2 _ (congrArg (![0, 0, ·]) h) d j _ hj
  | 1 =>
    exact readAt_apply arg5 harg5 x2 _ (congrArg (![0, 128, ·]) h) d j _ hj
  | 2 =>
    exact readAt_apply arg5 harg5 x2 _ (congrArg (![0, 256, ·]) h) d j _ hj
  | 3 =>
    exact readAt_apply arg5 harg5 x2 _ (congrArg (![0, 384, ·]) h) d j _ hj

theorem gates1_apply (k : Fin (k0_t1_loop i).trips) (j : Fin 512) (d : Fin 128) (hj : 512 * k.val + j.val < 2560) :
    gates1 i arg6 (harg6.unread x3) k (ix3 0 j d) = x3 (ix3 0 ⟨512 * k.val + j.val, hj⟩ d) := by
  refine (readAt_apply arg6 harg6 x3 _ (congrArg (![0, ·, 0]) (chunk1 (trip1_lt i k))) j d hj (by omega)).trans ?_
  exact congrArg (fun l => x3 (ix3 0 _ l)) (Fin.ext (Nat.zero_add _))

theorem keys3_apply (p : Fin 4) (k : Fin (k0_t3_loop i).trips) (j : Fin 512) (d : Fin 128)
    (hj : 512 * ((i 2).val + k.val) + j.val < 2560) :
    keys3 i arg4 (harg4.unread x1) p k (ix3 0 j d) = x1 (ix3 0 ⟨512 * ((i 2).val + k.val) + j.val, hj⟩ (lane p d)) := by
  have h := chunk3 i (trip3_lt i k)
  match p with
  | 0 =>
    exact readAt_apply arg4 harg4 x1 _ (congrArg (![0, ·, 0]) h) j d hj _
  | 1 =>
    exact readAt_apply arg4 harg4 x1 _ (congrArg (![0, ·, 128]) h) j d hj _
  | 2 =>
    exact readAt_apply arg4 harg4 x1 _ (congrArg (![0, ·, 256]) h) j d hj _
  | 3 =>
    exact readAt_apply arg4 harg4 x1 _ (congrArg (![0, ·, 384]) h) j d hj _

theorem values3_apply (p : Fin 4) (k : Fin (k0_t3_loop i).trips) (d : Fin 128) (j : Fin 512)
    (hj : 512 * ((i 2).val + k.val) + j.val < 2560) :
    values3 i arg5 (harg5.unread x2) p k (ix3 0 d j) = x2 (ix3 0 (lane p d) ⟨512 * ((i 2).val + k.val) + j.val, hj⟩) := by
  have h := chunk3 i (trip3_lt i k)
  match p with
  | 0 =>
    exact readAt_apply arg5 harg5 x2 _ (congrArg (![0, 0, ·]) h) d j _ hj
  | 1 =>
    exact readAt_apply arg5 harg5 x2 _ (congrArg (![0, 128, ·]) h) d j _ hj
  | 2 =>
    exact readAt_apply arg5 harg5 x2 _ (congrArg (![0, 256, ·]) h) d j _ hj
  | 3 =>
    exact readAt_apply arg5 harg5 x2 _ (congrArg (![0, 384, ·]) h) d j _ hj

theorem gates3_apply (k : Fin (k0_t3_loop i).trips) (j : Fin 512) (d : Fin 128) (hj : 512 * ((i 2).val + k.val) + j.val < 2560) :
    gates3 i arg6 (harg6.unread x3) k (ix3 0 j d) = x3 (ix3 0 ⟨512 * ((i 2).val + k.val) + j.val, hj⟩ d) := by
  refine (readAt_apply arg6 harg6 x3 _ (congrArg (![0, ·, 0]) (chunk3 i (trip3_lt i k))) j d hj (by omega)).trans ?_
  exact congrArg (fun l => x3 (ix3 0 _ l)) (Fin.ext (Nat.zero_add _))

theorem queries_apply (p : Fin 4) (h : Fin 2) (r : Fin 512) (d : Fin 128) :
    queries arg3 harg3 x0 p h (ix2 r d) = if headOf d = h then x0 (ix3 0 r (lane p d)) else 0 := by
  have e : ∀ l (hl : l + d.val < 512) (hr : 0 + r.val < 512), x0 (ix3 0 ⟨0 + r.val, hr⟩ ⟨l + d.val, hl⟩) = x0 (ix3 0 r ⟨l + d.val, hl⟩) :=
    fun l hl hr => congrArg (fun r' => x0 (ix3 0 r' _)) (Fin.ext (Nat.zero_add _))
  match p with
  | 0 =>
    exact (queriesOf_apply h _ r d).trans (if_congr Iff.rfl ((readAt_apply arg3 harg3 x0 _ rfl r d (by omega) (by omega)).trans (e 0 _ _)) rfl)
  | 1 =>
    exact (queriesOf_apply h _ r d).trans (if_congr Iff.rfl ((readAt_apply arg3 harg3 x0 _ rfl r d (by omega) (by omega)).trans (e 128 _ _)) rfl)
  | 2 =>
    exact (queriesOf_apply h _ r d).trans (if_congr Iff.rfl ((readAt_apply arg3 harg3 x0 _ rfl r d (by omega) (by omega)).trans (e 256 _ _)) rfl)
  | 3 =>
    exact (queriesOf_apply h _ r d).trans (if_congr Iff.rfl ((readAt_apply arg3 harg3 x0 _ rfl r d (by omega) (by omega)).trans (e 384 _ _)) rfl)

/-- There is one group of heads: the word of a head is its gate lane. -/
theorem headWord_eq (p : Fin 4) (h : Fin 2) : headWord (BitVec.ofNat 32 (i 1).val) p h = BitVec.ofNat 32 (gateLane p h).val := by
  have h1 : (i 1).val = 0 := Nat.lt_one_iff.mp (i 1).isLt
  rw [h1]
  revert p h
  decide

theorem startGate_apply (p : Fin 4) (h : Fin 2) :
    startGate i arg6 harg6 x3 p h (ix2 0 0) = x3 (ix3 0 (firstKey i) (gateLane p h)) := by
  unfold startGate
  rw [headWord_eq, firstGate_apply]
  refine (readAt_apply arg6 harg6 x3 _ (congrArg (![0, ·, 0]) (first_row i)) (0 : Fin 8) (gateLane p h) (firstKey i).isLt (by omega)).trans ?_
  exact congrArg (fun l => x3 (ix3 0 _ l)) (Fin.ext (Nat.zero_add _))

end Loads

end Fox

end
-- ==== Proof.Loops.lean ====
/- What the loops of one grid point leave in each pair of heads. -/
module

public import proofs.«01_k».proof.Proof.Tile

@[expose] public section

set_option maxRecDepth 16384

noncomputable section

namespace Fox

open Cert.KernelIdeal Cert.KernelIdeal.Gen Idealize.ShloMosaic Idealize.ShloMosaic.TcCoe Idealize.SL.Sem

/-- The logit of head `h` of pair `p` at a query of the tile and a key. -/
def keyLogit (i : grid0.Coords) (x0 : Vec Ideal S1x512x512 .bf16) (x1 : Vec Ideal S1x2560x512 .bf16) (x3 : Vec Ideal S1x2560x128 .f32)
    (p : Fin 4) (h : Fin 2) (r : Fin 512) (j : Fin 2560) : EReal :=
  (∑ d : Fin 128, (x1 (ix3 0 j (lane p d)) * (if headOf d = h then x0 (ix3 0 r (lane p d)) else 0) : EReal)) +
    (x3 (ix3 0 (firstKey i) (gateLane p h)) - x3 (ix3 0 j (gateLane p h))) * (((Real.log 2)⁻¹ : ℝ) : EReal)

/-- The logits of a query, −∞ after the query. -/
def tileLogit (i : grid0.Coords) (x0 : Vec Ideal S1x512x512 .bf16) (x1 : Vec Ideal S1x2560x512 .bf16) (x3 : Vec Ideal S1x2560x128 .f32)
    (p : Fin 4) (h : Fin 2) (r : Fin 512) (j : ℕ) : EReal :=
  if hj : j ≤ 128 + 512 * (i 2).val + r.val then
    keyLogit i x0 x1 x3 p h r ⟨j, by have := tile_lt i; omega⟩ else ⊥

/-- The values of a row of a pair. -/
def tileValue (x2 : Vec Ideal S1x512x2560 .bf16) (p : Fin 4) (d : Fin 128) (j : ℕ) : EReal :=
  if hj : j < 2560 then x2 (ix3 0 (lane p d) ⟨j, hj⟩) else 0

section Invariants

variable (c : Dev nD) (i : grid0.Coords)
  (arg3 : Memref sig .tc .vmem S1x512x512 .bf16) (harg3 : arg3.IsWhole)
  (arg4 : Memref sig .tc .vmem S1x2560x512 .bf16) (harg4 : arg4.IsWhole)
  (arg5 : Memref sig .tc .vmem S1x512x2560 .bf16) (harg5 : arg5.IsWhole)
  (arg6 : Memref sig .tc .vmem S1x2560x128 .f32) (harg6 : arg6.IsWhole)
  (arg7 : Memref sig .tc .vmem S1x512x512 .bf16) (harg7 : arg7.IsWhole)
  (x0 : Vec Ideal S1x512x512 .bf16) (x1 : Vec Ideal S1x2560x512 .bf16) (x2 : Vec Ideal S1x512x2560 .bf16)
  (x3 : Vec Ideal S1x2560x128 .f32) (w141 w144 w512 w145 w150 w152 : BitVec 32) (p : Fin 4)

/-- The logits of a chunk of the first loop. -/
theorem logits1 (k : Fin (k0_t1_loop i).trips) (h : Fin 2) (j r : Fin 512) (hj : 512 * k.val + j.val < 2560) :
    logits (keys1 i arg4 (harg4.unread x1) p k) (queries arg3 harg3 x0 p h) (startGate i arg6 harg6 x3 p h)
      (gateCol (gates1 i arg6 (harg6.unread x3) k) (headWord (BitVec.ofNat 32 (i 1).val) p h)) (ix2 j r) =
    keyLogit i x0 x1 x3 p h r ⟨512 * k.val + j.val, hj⟩ := by
  rw [logits_apply, startGate_apply, headWord_eq, gateCol_apply, gates1_apply _ _ _ _ _ _ _ hj]
  simp only [queries_apply, keys1_apply _ _ _ _ _ _ _ _ hj]
  rfl

/-- The logits of a chunk of the second loop. -/
theorem logits3 (k : Fin (k0_t3_loop i).trips) (h : Fin 2) (j r : Fin 512) (hj : 512 * ((i 2).val + k.val) + j.val < 2560) :
    logits (keys3 i arg4 (harg4.unread x1) p k) (queries arg3 harg3 x0 p h) (startGate i arg6 harg6 x3 p h)
      (gateCol (gates3 i arg6 (harg6.unread x3) k) (headWord (BitVec.ofNat 32 (i 1).val) p h)) (ix2 j r) =
    keyLogit i x0 x1 x3 p h r ⟨512 * ((i 2).val + k.val) + j.val, hj⟩ := by
  rw [logits_apply, startGate_apply, headWord_eq, gateCol_apply, gates3_apply _ _ _ _ _ _ _ hj]
  simp only [queries_apply, keys3_apply _ _ _ _ _ _ _ _ hj]
  rfl

variable (ht : ∀ h r j, keyLogit i x0 x1 x3 p h r j ≠ ⊤)

include ht in
theorem tileLogit_ne_top (h : Fin 2) (r : Fin 512) (j : ℕ) : tileLogit i x0 x1 x3 p h r j ≠ ⊤ := by
  unfold tileLogit
  split
  · exact ht _ _ _
  · exact bot_ne_top

include ht in
/-- The first loop: the chunks before the tile's own. -/
theorem carries1 (n : ℕ) (hn : n ≤ (k0_t1_loop i).trips) :
    Carries (tileLogit i x0 x1 x3 p) (tileValue x2 p) (512 * n)
      (pairOf p (st_k0_t1 (F := Ideal) Variants.none c none i arg3 harg3 arg4 harg4 arg5 harg5 arg6 harg6 arg7 harg7 (BitVec.ofNat 32 (i 1).val)
        (queries arg3 harg3 x0 0 0) (queries arg3 harg3 x0 0 1) (queries arg3 harg3 x0 1 0) (queries arg3 harg3 x0 1 1)
        (queries arg3 harg3 x0 2 0) (queries arg3 harg3 x0 2 1) (queries arg3 harg3 x0 3 0) (queries arg3 harg3 x0 3 1)
        keyPos (queryPos i) topRows (startGate i arg6 harg6 x3 0 0) (startGate i arg6 harg6 x3 0 1)
        (startGate i arg6 harg6 x3 1 0) (startGate i arg6 harg6 x3 1 1) (startGate i arg6 harg6 x3 2 0) (startGate i arg6 harg6 x3 2 1)
        (startGate i arg6 harg6 x3 3 0) (startGate i arg6 harg6 x3 3 1) w141 w144 w512 w145 w150 w152
        (harg4.unread x1) (harg5.unread x2) (harg6.unread x3) carry0 n)) := by
  have h4 := tile_lt i
  have h1 := trips1 i
  induction n with
  | zero =>
    rw [st_k0_t1_zero]
    have : pairOf p (carry0 (F := Ideal)) = pair0 := by
      match p with
      | 0 => rfl
      | 1 => rfl
      | 2 => rfl
      | 3 => rfl
    rw [this]
    exact carries_zero _ _
  | succ n ih =>
    have hk : n < (k0_t1_loop i).trips := hn
    have step := st_k0_t1_succ (F := Ideal) Variants.none c none i arg3 harg3 arg4 harg4 arg5 harg5 arg6 harg6 arg7 harg7 (BitVec.ofNat 32 (i 1).val)
        (queries arg3 harg3 x0 0 0) (queries arg3 harg3 x0 0 1) (queries arg3 harg3 x0 1 0) (queries arg3 harg3 x0 1 1)
        (queries arg3 harg3 x0 2 0) (queries arg3 harg3 x0 2 1) (queries arg3 harg3 x0 3 0) (queries arg3 harg3 x0 3 1)
        keyPos (queryPos i) topRows (startGate i arg6 harg6 x3 0 0) (startGate i arg6 harg6 x3 0 1)
        (startGate i arg6 harg6 x3 1 0) (startGate i arg6 harg6 x3 1 1) (startGate i arg6 harg6 x3 2 0) (startGate i arg6 harg6 x3 2 1)
        (startGate i arg6 harg6 x3 3 0) (startGate i arg6 harg6 x3 3 1) w141 w144 w512 w145 w150 w152
        (harg4.unread x1) (harg5.unread x2) (harg6.unread x3) carry0 ⟨n, hk⟩
    rw [step, pairOf_trip1 Variants.none c none i arg3 harg3 arg4 harg4 arg5 harg5 arg6 harg6 arg7 harg7 _ (queries arg3 harg3 x0) _ _ _
      (startGate i arg6 harg6 x3)]
    refine (ih (by omega)).step (tileLogit_ne_top i x0 x1 x3 p ht) (fun h j r => ?_) fun d j => ?_
    · rw [logits1 i arg3 harg3 arg4 harg4 arg6 harg6 x0 x1 x3 p ⟨n, hk⟩ h j r (by show 512 * n + _ < _; omega), tileLogit, dif_pos (by omega)]
    · rw [values1_apply i arg5 harg5 x2 p ⟨n, hk⟩ d j (by show 512 * n + _ < _; omega), tileValue, dif_pos (by omega)]

include ht in
/-- The second loop: the tile's own chunk and the next one, whatever stood before them. -/
theorem carries3 (init : Carry Ideal) (h0 : Carries (tileLogit i x0 x1 x3 p) (tileValue x2 p) (512 * (i 2).val) (pairOf p init))
    (n : ℕ) (hn : n ≤ (k0_t3_loop i).trips) :
    Carries (tileLogit i x0 x1 x3 p) (tileValue x2 p) (512 * ((i 2).val + n))
      (pairOf p (st_k0_t3 (F := Ideal) Variants.none c none i arg3 harg3 arg4 harg4 arg5 harg5 arg6 harg6 arg7 harg7 (BitVec.ofNat 32 (i 1).val)
        (queries arg3 harg3 x0 0 0) (queries arg3 harg3 x0 0 1) (queries arg3 harg3 x0 1 0) (queries arg3 harg3 x0 1 1)
        (queries arg3 harg3 x0 2 0) (queries arg3 harg3 x0 2 1) (queries arg3 harg3 x0 3 0) (queries arg3 harg3 x0 3 1)
        keyPos (queryPos i) topRows (startGate i arg6 harg6 x3 0 0) (startGate i arg6 harg6 x3 0 1)
        (startGate i arg6 harg6 x3 1 0) (startGate i arg6 harg6 x3 1 1) (startGate i arg6 harg6 x3 2 0) (startGate i arg6 harg6 x3 2 1)
        (startGate i arg6 harg6 x3 3 0) (startGate i arg6 harg6 x3 3 1) (k0_t3_loop i).lb w144 w512 w145 w150 w152
        (harg4.unread x1) (harg5.unread x2) (harg6.unread x3) init n)) := by
  have h4 := tile_lt i
  have h3 := trips3 i
  induction n with
  | zero => exact h0
  | succ n ih =>
    have hk : n < (k0_t3_loop i).trips := hn
    have step := st_k0_t3_succ (F := Ideal) Variants.none c none i arg3 harg3 arg4 harg4 arg5 harg5 arg6 harg6 arg7 harg7 (BitVec.ofNat 32 (i 1).val)
        (queries arg3 harg3 x0 0 0) (queries arg3 harg3 x0 0 1) (queries arg3 harg3 x0 1 0) (queries arg3 harg3 x0 1 1)
        (queries arg3 harg3 x0 2 0) (queries arg3 harg3 x0 2 1) (queries arg3 harg3 x0 3 0) (queries arg3 harg3 x0 3 1)
        keyPos (queryPos i) topRows (startGate i arg6 harg6 x3 0 0) (startGate i arg6 harg6 x3 0 1)
        (startGate i arg6 harg6 x3 1 0) (startGate i arg6 harg6 x3 1 1) (startGate i arg6 harg6 x3 2 0) (startGate i arg6 harg6 x3 2 1)
        (startGate i arg6 harg6 x3 3 0) (startGate i arg6 harg6 x3 3 1) (k0_t3_loop i).lb w144 w512 w145 w150 w152
        (harg4.unread x1) (harg5.unread x2) (harg6.unread x3) init ⟨n, hk⟩
    rw [step, pairOf_trip3 Variants.none c none i arg3 harg3 arg4 harg4 arg5 harg5 arg6 harg6 arg7 harg7 _ (queries arg3 harg3 x0) _ _ _
      (startGate i arg6 harg6 x3)]
    refine (ih (by omega)).step (tileLogit_ne_top i x0 x1 x3 p ht) (fun h j r => ?_) fun d j => ?_
    · rw [causal_apply i (show n < 2 by omega), logits3 i arg3 harg3 arg4 harg4 arg6 harg6 x0 x1 x3 p ⟨n, hk⟩ h j r
        (by show 512 * (_ + n) + _ < _; omega), tileLogit]
      by_cases hj : 512 * ((i 2).val + n) + j.val ≤ 128 + 512 * (i 2).val + r.val
      · rw [if_pos hj, dif_pos hj]
      · rw [if_neg hj, dif_neg hj]
    · rw [values3_apply i arg5 harg5 x2 p ⟨n, hk⟩ d j (by show 512 * (_ + n) + _ < _; omega), tileValue, dif_pos (by omega)]

/-- Taking apart and putting together changes no pair. -/
theorem pairOf_again (a : Carry Ideal) : pairOf p (again a) = pairOf p a := by
  match p with
  | 0 => rfl
  | 1 => rfl
  | 2 => rfl
  | 3 => rfl

include ht in
/-- What the kernel carries at its end: the chunks up to the one after the tile's own. -/
theorem carries_final :
    Carries (tileLogit i x0 x1 x3 p) (tileValue x2 p) (512 * ((i 2).val + 2))
      (pairOf p (finalCarry c i arg3 harg3 arg4 harg4 arg5 harg5 arg6 harg6 arg7 harg7 x0 x1 x2 x3)) := by
  unfold finalCarry after3
  rw [trips4, st_k0_t4_zero, pairOf_again, trips3]
  refine carries3 c i arg3 harg3 arg4 harg4 arg5 harg5 arg6 harg6 arg7 harg7 x0 x1 x2 x3 _ _ _ _ _ p ht _ ?_ 2 (trips3 i).ge
  unfold after1
  rw [trips2, st_k0_t2_zero, pairOf_again, pairOf_again, trips1]
  exact carries1 c i arg3 harg3 arg4 harg4 arg5 harg5 arg6 harg6 arg7 harg7 x0 x1 x2 x3 _ _ _ _ _ _ p ht _ (trips1 i).ge

/-- What the kernel writes for a query and a lane. -/
theorem outPay_final {t : Fin 2 → Fin 512 → ℕ → EReal} {v : Fin 128 → ℕ → EReal} {N : ℕ} {a : Pair Ideal} (ha : Carries t v N a)
    (r : Fin 512) (d : Fin 128) :
    outPay topRows a (ix3 0 r d) = Ideal.div (mass (t (headOf d) r) (v d) N) (mass (t (headOf d) r) (fun _ => 1) N) := by
  rw [outPay_apply, ha.acc, ha.sum0, ha.sum1]
  unfold headOf
  split <;> rfl

/-- The tile that a grid point leaves, at a query and a lane of a pair. -/
theorem out_apply (ht : ∀ p h r j, keyLogit i x0 x1 x3 p h r j ≠ ⊤) (r : Fin 512) (d : Fin 128) :
    out0_A_4 c i arg3 harg3 arg4 harg4 arg5 harg5 arg6 harg6 arg7 harg7 x0 x1 x2 x3 (ix3 0 r (lane p d)) =
      Ideal.div (mass (tileLogit i x0 x1 x3 p (headOf d) r) (tileValue x2 p d) (512 * ((i 2).val + 2)))
        (mass (tileLogit i x0 x1 x3 p (headOf d) r) (fun _ => 1) (512 * ((i 2).val + 2))) := by
  have cover := cover0_A_4 c i arg3 harg3 arg4 harg4 arg5 harg5 arg6 harg6 arg7 harg7 x0 x1 x2 x3 (ix3 0 r (lane p d))
  unfold out0_A_4
  refine (View.read_writes_apply_eq_canon _ _ _ _ cover).trans ?_
  rw [stores_eq] at cover ⊢
  refine View.canon_eq_of_allAt _ _ _ cover ?_
  have piece : ∀ (q : Fin 4) {off : Fin 3 → ℕ}, off = ![0, 0, 128 * q.val] →
      View.TileAt (Val := Elt Ideal) (S := S1x512x512) (e := .bf16) (ix3 0 r (lane p d)) off ![1, 512, 128]
        (outPay topRows (pairOf q (finalCarry c i arg3 harg3 arg4 harg4 arg5 harg5 arg6 harg6 arg7 harg7 x0 x1 x2 x3)))
        (Ideal.div (mass (tileLogit i x0 x1 x3 p (headOf d) r) (tileValue x2 p d) (512 * ((i 2).val + 2)))
          (mass (tileLogit i x0 x1 x3 p (headOf d) r) (fun _ => 1) (512 * ((i 2).val + 2)))) := by
    rintro q off rfl x hx
    have h1 : r.val = 0 + (x 1).val := hx 1
    have h2 : 128 * p.val + d.val = 128 * q.val + (x 2).val := hx 2
    have h2' : (x 2).val < 128 := (x 2).isLt
    obtain rfl : p = q := Fin.ext (by omega)
    have : x = ix3 0 r d := by
      funext a
      match a with
      | 0 => exact Subsingleton.elim (α := Fin 1) _ _
      | 1 => exact Fin.ext (by show (x 1).val = r.val; omega)
      | 2 => exact Fin.ext (by show (x 2).val = d.val; omega)
    rw [this]
    exact outPay_final (carries_final c i arg3 harg3 arg4 harg4 arg5 harg5 arg6 harg6 arg7 harg7 x0 x1 x2 x3 p (ht p)) r d
  unfold stores
  exact View.allAt_cons_unit _ _ _ _ _ (piece 3 rfl) (View.allAt_cons_unit _ _ _ _ _ (piece 2 rfl)
    (View.allAt_cons_unit _ _ _ _ _ (piece 1 rfl) (View.allAt_cons_unit _ _ _ _ _ (piece 0 rfl) (View.allAt_nil _ _))))

end Invariants

end Fox

end
-- ==== Proof.Arrays.lean ====
/- The four arrays that `fox` reads, at one element: the scaled queries, the keys, the transposed values and the gates, as the
   host lays them out from the arguments. -/
module

public import proofs.«01_k».proof.Proof.Loops

@[expose] public section

set_option maxRecDepth 16384

noncomputable section

namespace Fox

open Cert.KernelIdeal Cert.KernelIdeal.Gen Idealize.ShloMosaic Idealize.ShloMosaic.TcCoe Idealize.SL.Sem

/-- The queries, scaled and set beside zeros. -/
def queryArray (q : FVec Ideal S8x2048x512 .f32) : FVec Ideal S8x2048x3072 .bf16 :=
  truncf .bf16 (concatenate S8x2048x3072 2
    [⟨S8x2048x512, broadcastInDim S8x2048x512 ![] bcast_S_S8x2048x512 (constant (F := Ideal) S_ .f32 0x00000000#32)⟩,
     ⟨S8x2048x512, Host.divf (mulf q (broadcastInDim S8x2048x512 ![] bcast_S_S8x2048x512 (constant S_ .f32 0x3E000000#32)))
        (broadcastInDim S8x2048x512 ![] bcast_S_S8x2048x512 (Host.log (constant S_ .f32 0x40000000#32)))⟩,
     ⟨S8x2048x2048, broadcastInDim S8x2048x2048 ![] bcast_S_S8x2048x2048 (constant (F := Ideal) S_ .f32 0x00000000#32)⟩]
    concatenates_S8x2048x512_S8x2048x512_S8x2048x2048_S8x2048x3072_d2) bitsLt_bf16_f32

/-- The keys, padded with zeros. -/
def keyArray (k : FVec Ideal S8x2176x512 .f32) : FVec Ideal S8x2560x512 .bf16 :=
  truncf .bf16 (pad S8x2560x512 ![0, 0, 0] ![0, 384, 0] ![0, 0, 0] k (sitofp .f32 (constantI S_ 32 0#32))
    pads_S8x2176x512_S8x2560x512_000_03840_000 h_S_) bitsLt_bf16_f32

/-- The values, transposed and padded with zeros. -/
def valueArray (v : FVec Ideal S8x2176x512 .f32) : FVec Ideal S8x512x2560 .bf16 :=
  truncf .bf16 (pad S8x512x2560 ![0, 0, 0] ![0, 0, 384] ![0, 0, 0]
    (transpose S8x512x2176 [0, 2, 1] v transposes_S8x2176x512_S8x512x2176_0_2_1) (sitofp .f32 (constantI S_ 32 0#32))
    pads_S8x512x2176_S8x512x2560_000_000_03840 h_S_) bitsLt_bf16_f32

/-- The gates, +∞ outside the keys that are seen. -/
def gateArray (g : FVec Ideal S8x2176x8 .f32) : FVec Ideal S8x2560x128 .f32 :=
  select (andi (cmpi .sge (iotaInDim S8x2560x128 32 1) (broadcastInDim S8x2560x128 ![] bcast_S_S8x2560x128 (constantI S_ 32 112#32)))
      (cmpi .slt (iotaInDim S8x2560x128 32 1) (broadcastInDim S8x2560x128 ![] bcast_S_S8x2560x128 (constantI S_ 32 2176#32))))
    (pad S8x2560x128 ![0, 0, 0] ![0, 384, 120] ![0, 0, 0] g (sitofp .f32 (constantI S_ 32 0#32))
      pads_S8x2176x8_S8x2560x128_000_03840_01200 h_S_)
    (broadcastInDim S8x2560x128 ![] bcast_S_S8x2560x128 (constant S_ .f32 0x7F800000#32))

section Entry

variable (m : (ℓ : Loc nD τ sig) → Buf (Elt Ideal) ℓ) (c : Dev nD)

theorem V_queries : V m c main_v8 = queryArray (m ((c : Thread nD τ).loc main_arg0)) := by
  show StableHlo.after _ _ _ = _
  simp only [hostOps0, hostOps0_1, hostOps0_2, hostOps0_3, hostOps0_4, hostOps0_5, hostOps0_6, hostOps0_7, List.flatten_cons, List.flatten_nil, List.append_nil, List.cons_append, List.nil_append]
  after_results
  rfl

theorem V_keys : V m c main_v10 = keyArray (m ((c : Thread nD τ).loc main_arg1)) := by
  show StableHlo.after _ _ _ = _
  simp only [hostOps0, hostOps0_1, hostOps0_2, hostOps0_3, hostOps0_4, hostOps0_5, hostOps0_6, hostOps0_7, List.flatten_cons, List.flatten_nil, List.append_nil, List.cons_append, List.nil_append]
  after_results
  rfl

theorem V_values : V m c main_v13 = valueArray (m ((c : Thread nD τ).loc main_arg2)) := by
  show StableHlo.after _ _ _ = _
  simp only [hostOps0, hostOps0_1, hostOps0_2, hostOps0_3, hostOps0_4, hostOps0_5, hostOps0_6, hostOps0_7, List.flatten_cons, List.flatten_nil, List.append_nil, List.cons_append, List.nil_append]
  after_results
  rfl

theorem V_gates : V m c main_v21 = gateArray (m ((c : Thread nD τ).loc main_arg3)) := by
  show StableHlo.after _ _ _ = _
  simp only [hostOps0, hostOps0_1, hostOps0_2, hostOps0_3, hostOps0_4, hostOps0_5, hostOps0_6, hostOps0_7, List.flatten_cons, List.flatten_nil, List.append_nil, List.cons_append, List.nil_append]
  after_results
  rfl

end Entry

theorem eighth_eq : Ideal.ofBits .f32 0x3E000000#32 = ((8⁻¹ : ℝ) : EReal) := by
  simp [Ideal.ofBits, Ideal.ieee]
  rw [← EReal.coe_mul]
  norm_num

theorem two_eq : Ideal.ofBits .f32 0x40000000#32 = ((2 : ℝ) : EReal) := by
  simp [Ideal.ofBits, Ideal.ieee]
  rw [← EReal.coe_mul]
  norm_num

theorem inf_eq : Ideal.ofBits .f32 0x7F800000#32 = (⊤ : EReal) := by
  simp [Ideal.ofBits, Ideal.ieee]

theorem log_two_ne : Real.log 2 ≠ 0 := (Real.log_pos one_lt_two).ne'

theorem queryArray_apply (q : FVec Ideal S8x2048x512 .f32) (b : Fin 8) (t : Fin 2048) (l : Fin 512) :
    queryArray q (ix3 b t ⟨512 + l.val, by omega⟩) =
      (q (ix3 b t l) : EReal) * ((8⁻¹ : ℝ) : EReal) * (((Real.log 2)⁻¹ : ℝ) : EReal) := by
  unfold queryArray
  pointwise
  rw [eighth_eq, two_eq, Ideal.log_coe, if_neg (not_le.mpr two_pos), Ideal.div_coe log_two_ne, one_div]

theorem zero_word : (FloatOps.sitofp .f32 0#32 : Ideal .f32) = (0 : EReal) := by
  show (((0#32 : BitVec 32).toInt : ℝ) : EReal) = 0
  simp

theorem keyArray_apply (k : FVec Ideal S8x2176x512 .f32) (b : Fin 8) (j : Fin 2560) (l : Fin 512) :
    keyArray k (ix3 b j l) = if h : j.val < 2176 then k (ix3 b ⟨j.val, h⟩ l) else 0 := by
  unfold keyArray
  pointwise
  rw [zero_word]

theorem valueArray_apply (v : FVec Ideal S8x2176x512 .f32) (b : Fin 8) (j : Fin 2560) (l : Fin 512) :
    valueArray v (ix3 b l j) = if h : j.val < 2176 then v (ix3 b ⟨j.val, h⟩ l) else 0 := by
  unfold valueArray
  pointwise
  rw [zero_word]

/-- The keys that are seen, by their words. -/
theorem seen_word (j : Fin 2560) :
    IntOp.andi (IntOp.cmpi CmpIPredicate.sge (BitVec.ofNat 32 j.val) 112#32) (IntOp.cmpi CmpIPredicate.slt (BitVec.ofNat 32 j.val) 2176#32) =
      if 112 ≤ j.val ∧ j.val < 2176 then 1#1 else 0#1 := by
  revert j
  decide +kernel

theorem gateArray_apply (g : FVec Ideal S8x2176x8 .f32) (b : Fin 8) (j : Fin 2560) (l : Fin 8) :
    gateArray g (ix3 b j ⟨l.val, by omega⟩) =
      if h : 112 ≤ j.val ∧ j.val < 2176 then g (ix3 b ⟨j.val, h.2⟩ l) else (⊤ : EReal) := by
  unfold gateArray
  pointwise
  rw [seen_word, inf_eq]
  by_cases h : 112 ≤ j.val ∧ j.val < 2176
  · rw [if_pos h, dif_pos h.2, dif_pos h]; rfl
  · rw [if_neg h, dif_neg h]; rfl

end Fox

end
-- ==== Proof.RefTerms.lean ====
/- The reference as a composition: scores, their maximum, exponentials, weights and the mixed values. -/
module

public import proofs.«01_k».proof.Proof.Gen.ReferenceIdeal.Run
public import proofs.«01_k».proof.Proof.Tile
public import Idealize.ShloMosaic.Lib.Pointwise

@[expose] public section

set_option maxRecDepth 16384

noncomputable section

namespace FoxRef

open Cert.ReferenceIdeal Cert.ReferenceIdeal.Gen Idealize.ShloMosaic Idealize.ShloMosaic.TcCoe Idealize.SL.Sem

/-- Which keys a query sees. -/
def valid : IVec S2048x2176 1 :=
  andi (cmpi .sle (broadcastInDim S2048x2176 ![0, 1] bcast_S1x2176_S2048x2176_0_1 (broadcastInDim S1x2176 ![1] bcast_S2176_S1x2176_1 (iotaInDim S2176 32 0)))
      (broadcastInDim S2048x2176 ![0, 1] bcast_S2048x1_S2048x2176_0_1 (addi (broadcastInDim S2048x1 ![] bcast_S_S2048x1 (constantI S_ 32 128#32))
        (broadcastInDim S2048x1 ![0] bcast_S2048_S2048x1_0 (iotaInDim S2048 32 0)))))
    (broadcastInDim S2048x2176 ![0, 1] bcast_S1x2176_S2048x2176_0_1
      (cmpi .sge (broadcastInDim S1x2176 ![1] bcast_S2176_S1x2176_1 (iotaInDim S2176 32 0)) (broadcastInDim S1x2176 ![] bcast_S_S1x2176 (constantI S_ 32 112#32))))

/-- The scores of the keys, before those not seen are struck out. -/
def rawScores (q : FVec Ideal S8x2048x512 .f32) (k : FVec Ideal S8x2176x512 .f32) (g : FVec Ideal S8x2176x8 .f32) : FVec Ideal S8x8x2048x2176 .f32 :=
  addf (mulf (Host.dotGeneral dot_S8x2048x8x64_S8x2176x8x64_S8x8x2048x2176_3_3_1_1_02_02 none
        (shapeCast S8x2048x8x64 q shapeCasts_S8x2048x512_S8x2048x8x64) (shapeCast S8x2176x8x64 k shapeCasts_S8x2176x512_S8x2176x8x64))
      (broadcastInDim S8x8x2048x2176 ![] bcast_S_S8x8x2048x2176 (constant S_ .f32 0x3E000000#32)))
    (subf (broadcastInDim S8x8x2048x2176 ![0, 1, 2, 3] bcast_S8x8x2048x1_S8x8x2048x2176_0_1_2_3 (broadcastInDim S8x8x2048x1 ![0, 1, 2] bcast_S8x8x2048_S8x8x2048x1_0_1_2
        (extractStridedSlice S8x8x2048 ![0, 0, 128] (transpose S8x8x2176 [0, 2, 1] g transposes_S8x2176x8_S8x8x2176_0_2_1) slices_S8x8x2176_S8x8x2048_0_0_128)))
      (broadcastInDim S8x8x2048x2176 ![0, 1, 2, 3] bcast_S8x8x1x2176_S8x8x2048x2176_0_1_2_3 (broadcastInDim S8x8x1x2176 ![0, 1, 3] bcast_S8x8x2176_S8x8x1x2176_0_1_3
        (transpose S8x8x2176 [0, 2, 1] g transposes_S8x2176x8_S8x8x2176_0_2_1))))

/-- The scores, −∞ where a key is not seen. -/
def scores (q : FVec Ideal S8x2048x512 .f32) (k : FVec Ideal S8x2176x512 .f32) (g : FVec Ideal S8x2176x8 .f32) : FVec Ideal S8x8x2048x2176 .f32 :=
  select (broadcastInDim S8x8x2048x2176 ![2, 3] bcast_S2048x2176_S8x8x2048x2176_2_3 valid) (rawScores q k g)
    (broadcastInDim S8x8x2048x2176 ![] bcast_S_S8x8x2048x2176 (id (constant S_ .f32 0xFF800000#32)))

/-- The greatest score of each query and head. -/
def rowMax (s : FVec Ideal S8x8x2048x2176 .f32) : FVec Ideal S8x8x2048 .f32 :=
  maximumf (broadcastInDim S8x8x2048 ![] bcast_S_S8x8x2048 (constant S_ .f32 0xFF800000#32))
    (Host.reduce FloatOps.maximumf s (constant S_ .f32 0xFF800000#32) reducesTo_S8x8x2048x2176_S8x8x2048_d3 h_S_)

/-- The exponentials of the scores less their maximum. -/
def expScores (s : FVec Ideal S8x8x2048x2176 .f32) : FVec Ideal S8x8x2048x2176 .f32 :=
  Host.exp (subf s (broadcastInDim S8x8x2048x2176 ![0, 1, 2, 3] bcast_S8x8x2048x1_S8x8x2048x2176_0_1_2_3 (broadcastInDim S8x8x2048x1 ![0, 1, 2] bcast_S8x8x2048_S8x8x2048x1_0_1_2
    (rowMax s))))

/-- The exponentials over their sum. -/
def weights (e : FVec Ideal S8x8x2048x2176 .f32) : FVec Ideal S8x8x2048x2176 .f32 :=
  Host.divf e (broadcastInDim S8x8x2048x2176 ![0, 1, 2, 3] bcast_S8x8x2048x1_S8x8x2048x2176_0_1_2_3 (broadcastInDim S8x8x2048x1 ![0, 1, 2] bcast_S8x8x2048_S8x8x2048x1_0_1_2
    (Host.reduceAdd e (constant S_ .f32 0x00000000#32) reducesTo_S8x8x2048x2176_S8x8x2048_d3 h_S_)))

/-- The values summed by weight, the heads side by side. -/
def mixed (w : FVec Ideal S8x8x2048x2176 .f32) (v : FVec Ideal S8x2176x512 .f32) : FVec Ideal S8x2048x512 .bf16 :=
  truncf .bf16 (shapeCast S8x2048x512 (transpose S8x2048x8x64 [0, 3, 1, 2]
    (Host.dotGeneral dot_S8x2176x8x64_S8x8x2048x2176_S8x8x64x2048_1_3_3_2_02_01 none (shapeCast S8x2176x8x64 v shapeCasts_S8x2176x512_S8x2176x8x64) w)
    transposes_S8x8x64x2048_S8x2048x8x64_0_3_1_2) shapeCasts_S8x2048x8x64_S8x2048x512) bitsLt_bf16_f32

/-- The reference, put together. -/
theorem result_eq (m : (ℓ : Loc nD τ sig) → Buf (Elt Ideal) ℓ) (c : Dev nD) :
    Cert.ReferenceIdeal.Value.res_out0 m c =
      mixed (weights (expScores (scores (m ((c.tc : Thread nD τ).loc main_arg0)) (m ((c.tc : Thread nD τ).loc main_arg1))
        (m ((c.tc : Thread nD τ).loc main_arg3))))) (m ((c.tc : Thread nD τ).loc main_arg2)) := rfl

/-- A head's lane. -/
def headLane (h : Fin 8) (d : Fin 64) : Fin 512 := ⟨h.val * 64 + d.val, by omega⟩

end FoxRef

end
-- ==== Proof.RefValue.lean ====
/- The reference at one element: the softmax of the scores of a query and a head, summed against the head's values. -/
module

public import proofs.«01_k».proof.Proof.RefTerms
public import Idealize.ShloMosaic.Lib.Pointwise

@[expose] public section

set_option maxRecDepth 16384

noncomputable section

namespace FoxRef

open Cert.ReferenceIdeal Cert.ReferenceIdeal.Gen Idealize.ShloMosaic Idealize.ShloMosaic.TcCoe Idealize.SL.Sem

theorem rawScores_apply (q : FVec Ideal S8x2048x512 .f32) (k : FVec Ideal S8x2176x512 .f32) (g : FVec Ideal S8x2176x8 .f32)
    (b h : Fin 8) (t : Fin 2048) (j : Fin 2176) :
    rawScores q k g (ix4 b h t j) =
      (∑ d : Fin 64, (q (ix3 b t (headLane h d)) * k (ix3 b j (headLane h d)) : EReal)) * Ideal.ofBits .f32 0x3E000000#32 +
        (g (ix3 b ⟨128 + t.val, by omega⟩ h) - g (ix3 b j h)) := by
  unfold rawScores
  pointwise
  rfl

theorem scores_apply (q : FVec Ideal S8x2048x512 .f32) (k : FVec Ideal S8x2176x512 .f32) (g : FVec Ideal S8x2176x8 .f32)
    (b h : Fin 8) (t : Fin 2048) (j : Fin 2176) :
    scores q k g (ix4 b h t j) = if 112 ≤ j.val ∧ j.val ≤ 128 + t.val then rawScores q k g (ix4 b h t j) else (⊥ : EReal) := by
  unfold scores valid
  pointwise
  show Scalar.select _ _ (Ideal.ofBits .f32 0xFF800000#32 : EReal) = _
  rw [Fox.negInf_eq]
  rw [show IntOp.addi (128#32) (BitVec.ofNat 32 t.val) = BitVec.ofNat 32 (128 + t.val) from (BitVec.ofNat_add 128 t.val).symm,
    Fox.sle_ofNat (by omega) (by omega), show IntOp.cmpi .sge (BitVec.ofNat 32 j.val) 112#32 = IntOp.cmpi .sle (BitVec.ofNat 32 112) (BitVec.ofNat 32 j.val) from rfl,
    Fox.sle_ofNat (by omega) (by omega)]
  by_cases h1 : j.val ≤ 128 + t.val <;> by_cases h2 : 112 ≤ j.val <;> simp [h1, h2, IntOp.andi, Scalar.select]

/-- A maximum from −∞, taken once more against −∞. -/
theorem fold_max_eq_sup {ι : Type} (u : Finset ι) {f : ι → EReal} {w : EReal} (hw : w = ⊥) : max w (u.fold max w f) = u.sup f := by
  rw [hw]
  exact bot_sup_eq _

theorem maximumf_at {s : Shape} (x y : FVec Ideal s .f32) (i : s.Idx) : maximumf x y i = max (x i : EReal) (y i) := rfl

theorem rowMax_apply (s : FVec Ideal S8x8x2048x2176 .f32) (b h : Fin 8) (t : Fin 2048) :
    rowMax s (ix3 b h t) = Finset.univ.sup fun i : Fin 2176 => (s (ix4 b h t i) : EReal) := by
  have hr : Host.reduce FloatOps.maximumf s (constant S_ .f32 0xFF800000#32) reducesTo_S8x8x2048x2176_S8x8x2048_d3 h_S_ (ix3 b h t)
      = Finset.fold max (Ideal.ofBits .f32 0xFF800000#32) (fun i : Fin 2176 => (s (ix4 b h t i) : EReal)) Finset.univ := by
    pointwise
  have hb : broadcastInDim S8x8x2048 ![] bcast_S_S8x8x2048 (constant S_ .f32 0xFF800000#32) (ix3 b h t) = Ideal.ofBits .f32 0xFF800000#32 := by
    pointwise
  rw [rowMax, maximumf_at, hr, hb]
  exact fold_max_eq_sup _ Fox.negInf_eq

theorem expScores_apply (s : FVec Ideal S8x8x2048x2176 .f32) (b h : Fin 8) (t : Fin 2048) (j : Fin 2176) :
    expScores s (ix4 b h t j) = Ideal.exp (s (ix4 b h t j) - rowMax s (ix3 b h t)) := by
  unfold expScores
  pointwise

theorem weights_apply (e : FVec Ideal S8x8x2048x2176 .f32) (b h : Fin 8) (t : Fin 2048) (j : Fin 2176) :
    weights e (ix4 b h t j) = Ideal.div (e (ix4 b h t j)) (∑ i : Fin 2176, (e (ix4 b h t i) : EReal)) := by
  unfold weights
  pointwise

theorem mixed_apply (w : FVec Ideal S8x8x2048x2176 .f32) (v : FVec Ideal S8x2176x512 .f32) (b h : Fin 8) (t : Fin 2048) (d : Fin 64) :
    mixed w v (ix3 b t (headLane h d)) = ∑ j : Fin 2176, (w (ix4 b h t j) * v (ix3 b j (headLane h d)) : EReal) := by
  have hh : (⟨(headLane h d).val / 64, by omega⟩ : Fin 8) = h := Fin.ext (by show (h.val * 64 + d.val) / 64 = h.val; omega)
  unfold mixed
  pointwise
  rw [hh]
  exact Finset.sum_congr rfl fun j _ => mul_comm _ _

end FoxRef

end
-- ==== Proof.Heads.lean ====
/- One query, one lane: a tile's quotient of masses is the reference's element. A head's 64 lanes are half of a pair's 128, a
   seen key's logit is its score over the logarithm of 2 up to a number common to the keys, and the other keys have −∞. -/
module

public import proofs.«01_k».proof.Proof.Arrays
public import proofs.«01_k».proof.Proof.RefValue

@[expose] public section

set_option maxRecDepth 16384

noncomputable section

namespace Fox

open Cert.KernelIdeal Cert.KernelIdeal.Gen Idealize.ShloMosaic Idealize.ShloMosaic.TcCoe Idealize.SL.Sem FoxRef

/-- The head in half `h` of pair `p`. -/
def head (p : Fin 4) (h : Fin 2) : Fin 8 := ⟨2 * p.val + h.val, by omega⟩

/-- A lane of a half, among a pair's. -/
def halfLane (h : Fin 2) (d : Fin 64) : Fin 128 := ⟨64 * h.val + d.val, by omega⟩

theorem lane_halfLane (p : Fin 4) (h : Fin 2) (d : Fin 64) : lane p (halfLane h d) = headLane (head p h) d := by
  apply Fin.ext
  show 128 * p.val + (64 * h.val + d.val) = (2 * p.val + h.val) * 64 + d.val
  omega

theorem headOf_halfLane (h : Fin 2) (d : Fin 64) : headOf (halfLane h d) = h := by
  revert h d
  decide

theorem exists_halfLane (d : Fin 128) : ∃ e : Fin 64, d = halfLane (headOf d) e := by
  revert d
  decide

/-- A sum over a pair's lanes of terms of one half. -/
theorem sum_half (h : Fin 2) (f : Fin 128 → EReal) :
    ∑ d : Fin 128, (if headOf d = h then f d else 0) = ∑ d : Fin 64, f (halfLane h d) := by
  rw [← Finset.sum_filter]
  symm
  refine Finset.sum_bij (fun d _ => halfLane h d) ?_ ?_ ?_ ?_
  · intro d _
    exact Finset.mem_filter.2 ⟨Finset.mem_univ _, headOf_halfLane h d⟩
  · intro d _ e _ he
    have := congrArg Fin.val he
    exact Fin.ext (Nat.add_left_cancel this)
  · intro d hd
    obtain ⟨e, he⟩ := exists_halfLane d
    rw [(Finset.mem_filter.1 hd).2] at he
    exact ⟨e, Finset.mem_univ _, he.symm⟩
  · intro d _
    rfl

theorem coe_sum {ι : Type} (s : Finset ι) (f : ι → ℝ) : ((∑ i ∈ s, f i : ℝ) : EReal) = ∑ i ∈ s, (f i : EReal) := by
  induction s using Finset.cons_induction with
  | empty => simp
  | cons a s ha ih => rw [Finset.sum_cons, Finset.sum_cons, EReal.coe_add, ih]

/-- The greatest term of a finite run of terms. -/
theorem top_eq_sup (s : ℕ → EReal) (N : ℕ) : top s N = Finset.univ.sup fun i : Fin N => s i.val := by
  have h := top_add s 0 N
  simp only [zero_add, top_zero] at h
  rw [h]
  exact bot_sup_eq _

/-- Where a query's lane lies in its array. -/
def queryLane (l : Fin 512) : Fin 3072 := ⟨512 + l.val, by omega⟩

theorem queryArray_lane (q : FVec Ideal S8x2048x512 .f32) (b : Fin 8) (t : Fin 2048) (l : Fin 512) :
    queryArray q (ix3 b t (queryLane l)) = (q (ix3 b t l) : EReal) * ((8⁻¹ : ℝ) : EReal) * (((Real.log 2)⁻¹ : ℝ) : EReal) :=
  queryArray_apply q b t l

section Row

variable {q : FVec Ideal S8x2048x512 .f32} {k v : FVec Ideal S8x2176x512 .f32} {g : FVec Ideal S8x2176x8 .f32}
  {Q : S8x2048x512.Idx → ℝ} {K : S8x2176x512.Idx → ℝ} {C : S8x2176x8.Idx → ℝ}
  (hq : ∀ i, q i = (Q i : EReal)) (hk : ∀ i, k i = (K i : EReal)) (hg : ∀ i, g i = (C i : EReal))
  (b : Fin 8) (hd : Fin 8) (t : Fin 2048)

/-- The product of a query and a key in a head. -/
def dot (Q : S8x2048x512.Idx → ℝ) (K : S8x2176x512.Idx → ℝ) (b hd : Fin 8) (t : Fin 2048) (j : Fin 2176) : ℝ :=
  ∑ d : Fin 64, Q (ix3 b t (headLane hd d)) * K (ix3 b j (headLane hd d))

/-- The score of a key, among the reals. -/
def score (Q : S8x2048x512.Idx → ℝ) (K : S8x2176x512.Idx → ℝ) (C : S8x2176x8.Idx → ℝ) (b hd : Fin 8) (t : Fin 2048) (j : Fin 2176) : ℝ :=
  dot Q K b hd t j * 8⁻¹ + (C (ix3 b ⟨128 + t.val, by omega⟩ hd) - C (ix3 b j hd))

include hq hk hg in
theorem rawScores_real (j : Fin 2176) : rawScores q k g (ix4 b hd t j) = (score Q K C b hd t j : EReal) := by
  rw [rawScores_apply, eighth_eq]
  simp only [hq, hk, hg, ← EReal.coe_mul, ← coe_sum, ← EReal.coe_sub, ← EReal.coe_add]
  rfl

variable (i : grid0.Coords) {x0 : Vec Ideal S1x512x512 .bf16} {x1 : Vec Ideal S1x2560x512 .bf16} {x2 : Vec Ideal S1x512x2560 .bf16}
  {x3 : Vec Ideal S1x2560x128 .f32}

/-- The tile's query among all. -/
def query (i : grid0.Coords) (r : Fin 512) : Fin 2048 := ⟨512 * (i 2).val + r.val, by have := tile_lt i; omega⟩

variable (h0 : ∀ (r l : Fin 512), x0 (ix3 0 r l) = queryArray q (ix3 b (query i r) (queryLane l)))
  (h1 : ∀ (j : Fin 2560) (l : Fin 512), x1 (ix3 0 j l) = keyArray k (ix3 b j l))
  (h2 : ∀ (l : Fin 512) (j : Fin 2560), x2 (ix3 0 l j) = valueArray v (ix3 b l j))
  (h3 : ∀ (j : Fin 2560) (l : Fin 128), x3 (ix3 0 j l) = gateArray g (ix3 b j l))

include hg h3 in
/-- The tile's first gate is a real. -/
theorem firstGate_real (p : Fin 4) (h : Fin 2) :
    x3 (ix3 0 (firstKey i) (gateLane p h)) = (C (ix3 b ⟨128 + 512 * (i 2).val, by have := tile_lt i; omega⟩ (head p h)) : EReal) := by
  have := tile_lt i
  rw [h3]
  refine (gateArray_apply g b (firstKey i) (head p h)).trans ?_
  rw [dif_pos (by show 112 ≤ 128 + 512 * (i 2).val ∧ 128 + 512 * (i 2).val < 2176; omega), hg]
  rfl

include hq hk hg h0 h1 h3 in
/-- A seen key's logit. -/
theorem keyLogit_seen (p : Fin 4) (h : Fin 2) (r : Fin 512) (j : Fin 2560) (hj : 112 ≤ j.val ∧ j.val < 2176) :
    keyLogit i x0 x1 x3 p h r j =
      ((score Q K C b (head p h) (query i r) ⟨j.val, hj.2⟩ * (Real.log 2)⁻¹ +
        (C (ix3 b ⟨128 + 512 * (i 2).val, by have := tile_lt i; omega⟩ (head p h)) -
          C (ix3 b ⟨128 + (query i r).val, by have := (query i r).isLt; omega⟩ (head p h))) * (Real.log 2)⁻¹ : ℝ) : EReal) := by
  have hgate : x3 (ix3 0 j (gateLane p h)) = (C (ix3 b ⟨j.val, hj.2⟩ (head p h)) : EReal) := by
    rw [h3]
    refine (gateArray_apply g b j (head p h)).trans ?_
    rw [dif_pos hj, hg]
  unfold keyLogit
  rw [firstGate_real hg b i h3, hgate]
  simp only [mul_ite, mul_zero]
  rw [sum_half h fun d => (x1 (ix3 0 j (lane p d)) * x0 (ix3 0 r (lane p d)) : EReal)]
  simp only [h0, h1, queryArray_lane, keyArray_apply, dif_pos hj.2, hq, hk, lane_halfLane, ← EReal.coe_mul, ← coe_sum, ← EReal.coe_sub, ← EReal.coe_add]
  congr 1
  unfold score dot
  have e : ∀ d : Fin 64, K (ix3 b ⟨j.val, hj.2⟩ (headLane (head p h) d)) *
      (Q (ix3 b (query i r) (headLane (head p h) d)) * 8⁻¹ * (Real.log 2)⁻¹) =
      Q (ix3 b (query i r) (headLane (head p h) d)) * K (ix3 b ⟨j.val, hj.2⟩ (headLane (head p h) d)) * (8⁻¹ * (Real.log 2)⁻¹) := fun d => by ring
  simp only [e]
  rw [← Finset.sum_mul]
  ring

include hg h3 in
/-- The logit of a key that no query sees. -/
theorem keyLogit_unseen (p : Fin 4) (h : Fin 2) (r : Fin 512) (j : Fin 2560) (hj : ¬ (112 ≤ j.val ∧ j.val < 2176)) :
    keyLogit i x0 x1 x3 p h r j = ⊥ := by
  have hgate : x3 (ix3 0 j (gateLane p h)) = (⊤ : EReal) := by
    rw [h3]
    refine (gateArray_apply g b j (head p h)).trans ?_
    rw [dif_neg hj]
  unfold keyLogit
  rw [firstGate_real hg b i h3, hgate, sub_eq_add_neg, EReal.neg_top, EReal.add_bot, EReal.bot_mul_coe_of_pos (inv_pos.2 (Real.log_pos one_lt_two)), EReal.add_bot]

include hq hk hg h0 h1 h3 in
theorem keyLogit_ne_top (p : Fin 4) (h : Fin 2) (r : Fin 512) (j : Fin 2560) : keyLogit i x0 x1 x3 p h r j ≠ ⊤ := by
  by_cases hj : 112 ≤ j.val ∧ j.val < 2176
  · rw [keyLogit_seen hq hk hg b i h0 h1 h3 p h r j hj]
    exact EReal.coe_ne_top _
  · rw [keyLogit_unseen hg b i h3 p h r j hj]
    exact bot_ne_top

include hq hk hg h0 h1 h2 h3 in
/-- A tile's quotient is the reference's element. -/
theorem row_eq (p : Fin 4) (d : Fin 128) (r : Fin 512) :
    Ideal.div (mass (tileLogit i x0 x1 x3 p (headOf d) r) (tileValue x2 p d) (512 * ((i 2).val + 2)))
        (mass (tileLogit i x0 x1 x3 p (headOf d) r) (fun _ => 1) (512 * ((i 2).val + 2))) =
      mixed (weights (expScores (scores q k g))) v (ix3 b (query i r) (lane p d)) := by
  obtain ⟨e, he⟩ := exists_halfLane d
  generalize headOf d = h at he
  subst he
  have hi := tile_lt i
  have hr := r.isLt
  set t := query i r with ht
  have htv : t.val = 512 * (i 2).val + r.val := rfl
  set hd := head p h with hhd
  set s : ℕ → EReal := fun j => if hj : j < 2176 then scores q k g (ix4 b hd t ⟨j, hj⟩) else ⊥ with hs
  have hsF : ∀ j : Fin 2176, s j.val = scores q k g (ix4 b hd t j) := fun j => dif_pos j.isLt
  have seen : ∀ j ∈ Finset.Icc 112 (128 + t.val), (112 ≤ j ∧ j < 2176) ∧ j ≤ 128 + t.val := by
    intro j hj
    rw [Finset.mem_Icc] at hj
    omega
  rw [attention_eq (V := Finset.Icc 112 (128 + t.val)) (s := s) (K := 2176) ⟨112, by rw [Finset.mem_Icc]; omega⟩
    (fun j hj => by rw [Finset.mem_Icc] at hj; rw [Finset.mem_range]; omega)
    (fun j hj => by rw [Finset.mem_Icc] at hj; rw [Finset.mem_range]; omega)
    (fun j => if hj : j < 2176 then score Q K C b hd t ⟨j, hj⟩ else 0)
    ((C (ix3 b ⟨128 + 512 * (i 2).val, by omega⟩ hd) - C (ix3 b ⟨128 + t.val, by omega⟩ hd)) * (Real.log 2)⁻¹)
    ?_ ?_ ?_ ?_]
  · rw [lane_halfLane, mixed_apply, Finset.sum_range]
    refine Finset.sum_congr rfl fun j _ => ?_
    rw [weights_apply, Finset.sum_range]
    simp only [expScores_apply, rowMax_apply, top_eq_sup, hsF]
    congr 1
    unfold tileValue
    rw [dif_pos (by omega : j.val < 2560), h2, valueArray_apply, dif_pos j.isLt, lane_halfLane]
  · intro j hj
    obtain ⟨h112, hc⟩ := seen j hj
    unfold tileLogit
    rw [dif_pos (by omega), keyLogit_seen hq hk hg b i h0 h1 h3 p h r _ h112]
    simp only [dif_pos h112.2]
    rfl
  · intro j hN hj
    unfold tileLogit
    split
    · refine keyLogit_unseen hg b i h3 p h r _ fun h' => hj (Finset.mem_Icc.2 ⟨h'.1, ?_⟩)
      omega
    · rfl
  · intro j hj
    obtain ⟨h112, hc⟩ := seen j hj
    rw [hs]
    simp only [dif_pos h112.2]
    rw [scores_apply, if_pos ⟨h112.1, hc⟩, rawScores_real hq hk hg]
  · intro j hK hj
    rw [hs]
    simp only [dif_pos hK]
    rw [scores_apply, if_neg]
    exact fun h' => hj (Finset.mem_Icc.2 h')

end Row

end Fox

end
-- ==== Proof.Whole.lean ====
/- The whole result: each grid point's block of the result array is the reference's block, the blocks cover the array, and so
   the array after the run is the reference of the arguments. -/
module

public import proofs.«01_k».proof.Proof.Heads
public import proofs.«01_k».proof.Proof.Gen.KernelIdeal.Value
public import proofs.«01_k».proof.Defs
public import proofs.«01_k».proof.Proof.Gen.Pre_inputs_finite
public import Idealize.ShloMosaic.Lib.ReduceAll
public import Idealize.ShloMosaic.Lib.Affine

@[expose] public section

set_option maxRecDepth 16384

noncomputable section

namespace Fox

open Cert.KernelIdeal Cert.KernelIdeal.Gen Idealize.ShloMosaic Idealize.ShloMosaic.TcCoe Idealize.SL.Sem

/-- The reference of four arrays. -/
def whole (q : FVec Ideal S8x2048x512 .f32) (k v : FVec Ideal S8x2176x512 .f32) (g : FVec Ideal S8x2176x8 .f32) : FVec Ideal S8x2048x512 .bf16 :=
  FoxRef.mixed (FoxRef.weights (FoxRef.expScores (FoxRef.scores q k g))) v

/-! ## Blocks -/

/-- A grid point's batch. -/
def batch (i : grid0.Coords) : Fin 8 := ⟨(i 0).val, (i 0).isLt⟩

theorem index_0 : ∀ t : Fin cfg0.N, win0_0.index t (0 : Fin 3) = (grid0.coords t 0).val ∧ win0_0.index t (1 : Fin 3) = (grid0.coords t 2).val ∧ win0_0.index t (2 : Fin 3) = 1 :=
  (by decide +kernel : ∀ t : Fin grid0.N, win0_0.index t (0 : Fin 3) = (grid0.coords t 0).val ∧ win0_0.index t (1 : Fin 3) = (grid0.coords t 2).val ∧ win0_0.index t (2 : Fin 3) = 1)

theorem index_1 : ∀ t : Fin cfg0.N, win0_1.index t (0 : Fin 3) = (grid0.coords t 0).val ∧ win0_1.index t (1 : Fin 3) = 0 ∧ win0_1.index t (2 : Fin 3) = 0 :=
  (by decide +kernel : ∀ t : Fin grid0.N, win0_1.index t (0 : Fin 3) = (grid0.coords t 0).val ∧ win0_1.index t (1 : Fin 3) = 0 ∧ win0_1.index t (2 : Fin 3) = 0)

theorem index_2 : ∀ t : Fin cfg0.N, win0_2.index t (0 : Fin 3) = (grid0.coords t 0).val ∧ win0_2.index t (1 : Fin 3) = 0 ∧ win0_2.index t (2 : Fin 3) = 0 :=
  (by decide +kernel : ∀ t : Fin grid0.N, win0_2.index t (0 : Fin 3) = (grid0.coords t 0).val ∧ win0_2.index t (1 : Fin 3) = 0 ∧ win0_2.index t (2 : Fin 3) = 0)

theorem index_3 : ∀ t : Fin cfg0.N, win0_3.index t (0 : Fin 3) = (grid0.coords t 0).val ∧ win0_3.index t (1 : Fin 3) = 0 ∧ win0_3.index t (2 : Fin 3) = 0 :=
  (by decide +kernel : ∀ t : Fin grid0.N, win0_3.index t (0 : Fin 3) = (grid0.coords t 0).val ∧ win0_3.index t (1 : Fin 3) = 0 ∧ win0_3.index t (2 : Fin 3) = 0)

theorem index_4 : ∀ t : Fin cfg0.N, win0_4.index t (0 : Fin 3) = (grid0.coords t 0).val ∧ win0_4.index t (1 : Fin 3) = (grid0.coords t 2).val ∧ win0_4.index t (2 : Fin 3) = 0 :=
  (by decide +kernel : ∀ t : Fin grid0.N, win0_4.index t (0 : Fin 3) = (grid0.coords t 0).val ∧ win0_4.index t (1 : Fin 3) = (grid0.coords t 2).val ∧ win0_4.index t (2 : Fin 3) = 0)

/-- Every pair of a batch and a tile is a grid point. -/
theorem point_of : ∀ (b : Fin 8) (u : Fin 4), ∃ t : Fin cfg0.N, (grid0.coords t 0).val = b.val ∧ (grid0.coords t 2).val = u.val :=
  (by decide +kernel : ∀ (b : Fin 8) (u : Fin 4), ∃ t : Fin grid0.N, (grid0.coords t 0).val = b.val ∧ (grid0.coords t 2).val = u.val)

section Blocks

variable (m : (ℓ : Loc nD τ sig) → Buf (Elt Ideal) ℓ) (c : Dev nD) (t : Fin cfg0.N)

theorem queries_block (r l : Fin 512) :
    iblk m c 0 t (ix3 0 r l) = queryArray (m ((c : Thread nD τ).loc main_arg0)) (ix3 (batch (grid0.coords t)) (query (grid0.coords t) r) (queryLane l)) := by
  show V m c main_v8 (((cfg0.win 0).blk t).view.emb (ix3 0 r l)) = _
  rw [V_queries]
  obtain ⟨e0, e1, e2⟩ := index_0 t
  refine congrArg _ ?_
  funext a; apply Fin.ext
  match a with
  | ⟨0, _⟩ => show win0_0.index t (0 : Fin 3) * 1 + 1 * 0 = (grid0.coords t 0).val; omega
  | ⟨1, _⟩ => show win0_0.index t (1 : Fin 3) * 512 + 1 * r.val = 512 * (grid0.coords t 2).val + r.val; omega
  | ⟨2, _⟩ => show win0_0.index t (2 : Fin 3) * 512 + 1 * l.val = 512 + l.val; omega

theorem keys_block (j : Fin 2560) (l : Fin 512) :
    iblk m c 1 t (ix3 0 j l) = keyArray (m ((c : Thread nD τ).loc main_arg1)) (ix3 (batch (grid0.coords t)) j l) := by
  show V m c main_v10 (((cfg0.win 1).blk t).view.emb (ix3 0 j l)) = _
  rw [V_keys]
  obtain ⟨e0, e1, e2⟩ := index_1 t
  refine congrArg _ ?_
  funext a; apply Fin.ext
  match a with
  | ⟨0, _⟩ => show win0_1.index t (0 : Fin 3) * 1 + 1 * 0 = (grid0.coords t 0).val; omega
  | ⟨1, _⟩ => show win0_1.index t (1 : Fin 3) * 2560 + 1 * j.val = j.val; omega
  | ⟨2, _⟩ => show win0_1.index t (2 : Fin 3) * 512 + 1 * l.val = l.val; omega

theorem values_block (l : Fin 512) (j : Fin 2560) :
    iblk m c 2 t (ix3 0 l j) = valueArray (m ((c : Thread nD τ).loc main_arg2)) (ix3 (batch (grid0.coords t)) l j) := by
  show V m c main_v13 (((cfg0.win 2).blk t).view.emb (ix3 0 l j)) = _
  rw [V_values]
  obtain ⟨e0, e1, e2⟩ := index_2 t
  refine congrArg _ ?_
  funext a; apply Fin.ext
  match a with
  | ⟨0, _⟩ => show win0_2.index t (0 : Fin 3) * 1 + 1 * 0 = (grid0.coords t 0).val; omega
  | ⟨1, _⟩ => show win0_2.index t (1 : Fin 3) * 512 + 1 * l.val = l.val; omega
  | ⟨2, _⟩ => show win0_2.index t (2 : Fin 3) * 2560 + 1 * j.val = j.val; omega

theorem gates_block (j : Fin 2560) (l : Fin 128) :
    iblk m c 3 t (ix3 0 j l) = gateArray (m ((c : Thread nD τ).loc main_arg3)) (ix3 (batch (grid0.coords t)) j l) := by
  show V m c main_v21 (((cfg0.win 3).blk t).view.emb (ix3 0 j l)) = _
  rw [V_gates]
  obtain ⟨e0, e1, e2⟩ := index_3 t
  refine congrArg _ ?_
  funext a; apply Fin.ext
  match a with
  | ⟨0, _⟩ => show win0_3.index t (0 : Fin 3) * 1 + 1 * 0 = (grid0.coords t 0).val; omega
  | ⟨1, _⟩ => show win0_3.index t (1 : Fin 3) * 2560 + 1 * j.val = j.val; omega
  | ⟨2, _⟩ => show win0_3.index t (2 : Fin 3) * 128 + 1 * l.val = l.val; omega

/-- The result's block at a point. -/
theorem result_emb (r l : Fin 512) :
    ((cfg0.win 4).blk t).view.emb (ix3 0 r l) = ix3 (batch (grid0.coords t)) (query (grid0.coords t) r) l := by
  obtain ⟨e0, e1, e2⟩ := index_4 t
  funext a; apply Fin.ext
  match a with
  | ⟨0, _⟩ => show win0_4.index t (0 : Fin 3) * 1 + 1 * 0 = (grid0.coords t 0).val; omega
  | ⟨1, _⟩ => show win0_4.index t (1 : Fin 3) * 512 + 1 * r.val = 512 * (grid0.coords t 2).val + r.val; omega
  | ⟨2, _⟩ => show win0_4.index t (2 : Fin 3) * 512 + 1 * l.val = l.val; omega

end Blocks

/-- Every lane of the row is a lane of a pair. -/
theorem exists_lane (l : Fin 512) : ∃ (p : Fin 4) (d : Fin 128), l = lane p d :=
  ⟨⟨l.val / 128, by omega⟩, ⟨l.val % 128, by omega⟩, Fin.ext (by show l.val = 128 * (l.val / 128) + l.val % 128; omega)⟩

/-- An index of a block, by its coordinates. -/
theorem exists_block_index (j : S1x512x512.Idx) : ∃ r l : Fin 512, j = ix3 0 r l := by
  refine ⟨⟨(j 1).val, (j 1).isLt⟩, ⟨(j 2).val, (j 2).isLt⟩, ?_⟩
  have h0 : (j 0).val < 1 := (j 0).isLt
  funext a; apply Fin.ext
  match a with
  | ⟨0, _⟩ => show (j 0).val = 0; omega
  | ⟨1, _⟩ => rfl
  | ⟨2, _⟩ => rfl

section Final

variable (m : (ℓ : Loc nD τ sig) → Buf (Elt Ideal) ℓ) (c : Dev nD)

/-- The result that the arguments call for. -/
def result : FVec Ideal S8x2048x512 .bf16 :=
  whole (m ((c : Thread nD τ).loc main_arg0)) (m ((c : Thread nD τ).loc main_arg1)) (m ((c : Thread nD τ).loc main_arg2)) (m ((c : Thread nD τ).loc main_arg3))

/-- The queries, the keys and the gates are reals. -/
def Real3 : Prop :=
  (∀ i : S8x2048x512.Idx, ∃ x : ℝ, (m ((c : Thread nD τ).loc main_arg0) : FVec Ideal S8x2048x512 .f32) i = (x : EReal)) ∧
  (∀ i : S8x2176x512.Idx, ∃ x : ℝ, (m ((c : Thread nD τ).loc main_arg1) : FVec Ideal S8x2176x512 .f32) i = (x : EReal)) ∧
  (∀ i : S8x2176x8.Idx, ∃ x : ℝ, (m ((c : Thread nD τ).loc main_arg3) : FVec Ideal S8x2176x8 .f32) i = (x : EReal))

/-- What a point writes back is its block of the result. -/
theorem flushed_eq (hm : Real3 m c) (t : Fin cfg0.N) :
    (dats m 0 c).flushed 4 t = ((cfg0.win 4).blk t).view.read (Elt Ideal) (result m c) := by
  obtain ⟨hq, hk, hg⟩ := hm
  choose Q hQ using hq
  choose K hK using hk
  choose C hC using hg
  rw [Value.flushed4_A]
  funext j
  obtain ⟨r, l, rfl⟩ := exists_block_index j
  obtain ⟨p, d, rfl⟩ := exists_lane l
  show out0_A_4 c (grid0.coords t) (ms0_0 t) (hs0_0 t) (ms0_1 t) (hs0_1 t) (ms0_2 t) (hs0_2 t) (ms0_3 t) (hs0_3 t) (ms0_4 t) (hs0_4 t)
    (iblk m c 0 t) (iblk m c 1 t) (iblk m c 2 t) (iblk m c 3 t) (ix3 0 r (lane p d)) = result m c (((cfg0.win 4).blk t).view.emb (ix3 0 r (lane p d)))
  rw [result_emb]
  refine (out_apply c (grid0.coords t) (ms0_0 t) (hs0_0 t) (ms0_1 t) (hs0_1 t) (ms0_2 t) (hs0_2 t) (ms0_3 t) (hs0_3 t) (ms0_4 t) (hs0_4 t)
    (iblk m c 0 t) (iblk m c 1 t) (iblk m c 2 t) (iblk m c 3 t) p
    (keyLogit_ne_top hQ hK hC (batch (grid0.coords t)) (grid0.coords t) (queries_block m c t) (keys_block m c t) (gates_block m c t)) r d).trans ?_
  exact row_eq hQ hK hC (batch (grid0.coords t)) (grid0.coords t) (queries_block m c t) (keys_block m c t) (values_block m c t) (gates_block m c t) p d r

/-- The blocks cover the result. -/
theorem cover (i : S8x2048x512.Idx) : ∃ t : Fin cfg0.N, (cfg0.win 4).flush t = true ∧ i ∈ ((cfg0.win 4).blk t).view.set := by
  have h0 : (i 0).val < 8 := (i 0).isLt
  have h1 : (i 1).val < 2048 := (i 1).isLt
  have h2 : (i 2).val < 512 := (i 2).isLt
  obtain ⟨t, e0, e2⟩ := point_of ⟨(i 0).val, h0⟩ ⟨(i 1).val / 512, by omega⟩
  refine ⟨t, flush0_4 t, ?_⟩
  have h := ((cfg0.win 4).blk t).view.emb_mem_set (ix3 0 (⟨(i 1).val % 512, by omega⟩ : Fin 512) ⟨(i 2).val, h2⟩)
  rw [result_emb] at h
  have e : ix3 (batch (grid0.coords t)) (query (grid0.coords t) (⟨(i 1).val % 512, by omega⟩ : Fin 512)) (⟨(i 2).val, h2⟩ : Fin 512) = i := by
    funext a; apply Fin.ext
    match a with
    | ⟨0, _⟩ => exact e0
    | ⟨1, _⟩ =>
      show 512 * (grid0.coords t 2).val + (i 1).val % 512 = (i 1).val
      simp only [] at e2
      omega
    | ⟨2, _⟩ => rfl
  rwa [e] at h

/-- The array after the run. -/
theorem final (hm : Real3 m c) : (dats m 0 c).arrAt 4 cfg0.N = result m c :=
  (dats m 0 c).arrAt_eq_of_cover 4 (result m c) (fun t _ => flushed_eq m c hm t) cover

end Final

/-! ## The precondition -/

/-- A number whose absolute value is below +∞ is a real. -/
theorem real_of_abs_lt {x : EReal} (h : Ideal.cmp .olt (max x (-x)) (Ideal.ofBits .f32 0x7F800000#32) = 1#1) : ∃ r : ℝ, x = (r : EReal) := by
  rw [inf_eq] at h
  have hlt : max x (-x) < ⊤ := by
    by_contra hn
    simp [Ideal.cmp, hn] at h
  induction x using EReal.rec with
  | bot => simp at hlt
  | top => simp at hlt
  | coe r => exact ⟨r, rfl⟩

instance : Subsingleton Cert.Pre_inputs_finite.S_.Idx := ⟨fun a b => by funext x; exact x.elim0⟩

/-- The precondition: the queries, the keys and the gates are reals. -/
theorem real_of_pre (m : (ℓ : Loc nD τ sig) → Buf (Elt Ideal) ℓ) (h : Cert.Pre_KernelIdeal_inputs_finite m) (c : Dev nD) : Real3 m c := by
  have hc := congrFun (h c) ix0
  dsimp only [Cert.Pre_inputs_finite.fn] at hc
  obtain ⟨hqk, hg⟩ := IntOp.andi_eq_one.1 hc
  obtain ⟨hq, hk⟩ := IntOp.andi_eq_one.1 hqk
  exact ⟨fun i => real_of_abs_lt (Host.reduce_andi_all _ _ _ _ _ hq i), fun i => real_of_abs_lt (Host.reduce_andi_all _ _ _ _ _ hk i),
    fun i => real_of_abs_lt (Host.reduce_andi_all _ _ _ _ _ hg i)⟩

end Fox

end
-- ==== Proof.ProjectBody.lean ====
/- The projection's body, run symbolically at its two kinds of grid point: the first of a batch, which normalises the batch's rows
   into the scratch and writes four results of all of them, and the later ones, which write one block of columns each. -/
module

public import proofs.«01_k».proof.Proof.Gen.ProjectIdeal.Frame
public import proofs.«01_k».proof.Proof.Gen.ProjectIdeal.Skeleton
public import Idealize.ShloMosaic.Lib.Pipeline.TableIdle

@[expose] public section

set_option maxRecDepth 16384

noncomputable section

namespace Cert.ProjectIdeal.Hand

open Cert.ProjectIdeal Cert.ProjectIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
/-- The later points of a batch: the body multiplies the rows kept in the scratch with a block of columns. -/
def laterRun (c : Dev nD) (i : grid0.Coords) (h1 : ¬ k0_cond1 i = 1#1) (h2 : k0_cond2 i = 1#1)
    (arg2 : Memref sig .tc .vmem S1x2048x1024 .f32) (harg2 : arg2.IsWhole) (arg3 : Memref sig .tc .vmem S16x1024 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S512x1024 .bf16) (harg8 : arg8.IsWhole) (arg9 : Memref sig .tc .vmem S512x1 .f32) (harg9 : arg9.IsWhole) (arg10 : Memref sig .tc .vmem S1024x128 .bf16) (harg10 : arg10.IsWhole) (arg11 : Memref sig .tc .vmem S1x128 .f32) (harg11 : arg11.IsWhole) (arg12 : Memref sig .tc .vmem S1024x512 .bf16) (harg12 : arg12.IsWhole) (arg13 : Memref sig .tc .vmem S1x512 .f32) (harg13 : arg13.IsWhole) (arg14 : Memref sig .tc .vmem S1x2176x512 .bf16) (harg14 : arg14.IsWhole) (arg15 : Memref sig .tc .vmem S1x2560x512 .bf16) (harg15 : arg15.IsWhole) (arg16 : Memref sig .tc .vmem S1x512x2560 .bf16) (harg16 : arg16.IsWhole) (arg17 : Memref sig .tc .vmem S1x2560x128 .f32) (harg17 : arg17.IsWhole) (arg18 : Memref sig .tc .vmem S1x2048x512 .bf16) (harg18 : arg18.IsWhole) (arg19 : Memref sig .tc .vmem S2176x1024 .bf16) (harg19 : arg19.IsWhole)
    (x0 : Vec F S1x2048x1024 .f32) (x1 : Vec F S16x1024 .f32) (x2 : Vec F S1x1024 .f32) (x3 : Vec F S1x1024 .f32) (x4 : Vec F S1024x1024 .bf16) (x5 : Vec F S1x1024 .f32) (x6 : Vec F S512x1024 .bf16) (x7 : Vec F S512x1 .f32) (x8 : Vec F S1024x128 .bf16) (x9 : Vec F S1x128 .f32) (x10 : Vec F S1024x512 .bf16) (x11 : Vec F S1x512 .f32) (hs : Vec F S2176x1024 .bf16) :
    { L : List (View.Piece (Elt F) S1x2048x512 .bf16) //
      ∀ (E : Set ℕ) (K : PUnit → sProp 𝕄),
        iprop(owns (c : Thread nD τ) arg2 fullShare x0
            ∗ owns (c : Thread nD τ) arg3 fullShare x1
            ∗ owns (c : Thread nD τ) arg4 fullShare x2
            ∗ owns (c : Thread nD τ) arg5 fullShare x3
            ∗ owns (c : Thread nD τ) arg6 fullShare x4
            ∗ owns (c : Thread nD τ) arg7 fullShare x5
            ∗ owns (c : Thread nD τ) arg8 fullShare x6
            ∗ owns (c : Thread nD τ) arg9 fullShare x7
            ∗ owns (c : Thread nD τ) arg10 fullShare x8
            ∗ owns (c : Thread nD τ) arg11 fullShare x9
            ∗ owns (c : Thread nD τ) arg12 fullShare x10
            ∗ owns (c : Thread nD τ) arg13 fullShare x11
            ∗ (∃ d, owns (c : Thread nD τ) arg18 fullShare d) ∗ owns (c : Thread nD τ) arg19 fullShare hs
            ∗ (iprop(owns (c : Thread nD τ) arg2 fullShare x0
            ∗ owns (c : Thread nD τ) arg3 fullShare x1
            ∗ owns (c : Thread nD τ) arg4 fullShare x2
            ∗ owns (c : Thread nD τ) arg5 fullShare x3
            ∗ owns (c : Thread nD τ) arg6 fullShare x4
            ∗ owns (c : Thread nD τ) arg7 fullShare x5
            ∗ owns (c : Thread nD τ) arg8 fullShare x6
            ∗ owns (c : Thread nD τ) arg9 fullShare x7
            ∗ owns (c : Thread nD τ) arg10 fullShare x8
            ∗ owns (c : Thread nD τ) arg11 fullShare x9
            ∗ owns (c : Thread nD τ) arg12 fullShare x10
            ∗ owns (c : Thread nD τ) arg13 fullShare x11
            ∗ (∃ f, arg18.view.loc (c : Thread nD τ) ↦[arg18.view.set]{fullShare} arg18.view.writes (Elt F) f L)
            ∗ owns (c : Thread nD τ) arg19 fullShare hs) -∗ K ⟨⟩))
          ⊢ wp frame (wpE (defs₀ (F := F)) Variants.none c none) E (cc0_inproj i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K } := by
  refine ⟨?_, fun E K => ?run⟩
  case run =>
    simp only [cc0_inproj_eq_skeleton]; unfold cc0_inproj_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d16, %f16, -, H16⟩, ⟨%f17, %hf17, H17⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg19.eq_unread hf17
    sl_exec (disch := first | sl_exact h1 | sl_exact h2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H16]
    · iexists _; iexact H16
    iexists _; isplitr; · ipureintro; exact harg19.read_unread _
    iexact H17

set_option maxHeartbeats 8000000 in
/-- The first point of a batch: the body normalises the rows into the scratch and writes the four results that take all of
    them. -/
def firstRun (c : Dev nD) (i : grid0.Coords) (h1 : k0_cond1 i = 1#1) (h2 : ¬ k0_cond2 i = 1#1)
    (arg2 : Memref sig .tc .vmem S1x2048x1024 .f32) (harg2 : arg2.IsWhole) (arg3 : Memref sig .tc .vmem S16x1024 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S512x1024 .bf16) (harg8 : arg8.IsWhole) (arg9 : Memref sig .tc .vmem S512x1 .f32) (harg9 : arg9.IsWhole) (arg10 : Memref sig .tc .vmem S1024x128 .bf16) (harg10 : arg10.IsWhole) (arg11 : Memref sig .tc .vmem S1x128 .f32) (harg11 : arg11.IsWhole) (arg12 : Memref sig .tc .vmem S1024x512 .bf16) (harg12 : arg12.IsWhole) (arg13 : Memref sig .tc .vmem S1x512 .f32) (harg13 : arg13.IsWhole) (arg14 : Memref sig .tc .vmem S1x2176x512 .bf16) (harg14 : arg14.IsWhole) (arg15 : Memref sig .tc .vmem S1x2560x512 .bf16) (harg15 : arg15.IsWhole) (arg16 : Memref sig .tc .vmem S1x512x2560 .bf16) (harg16 : arg16.IsWhole) (arg17 : Memref sig .tc .vmem S1x2560x128 .f32) (harg17 : arg17.IsWhole) (arg18 : Memref sig .tc .vmem S1x2048x512 .bf16) (harg18 : arg18.IsWhole) (arg19 : Memref sig .tc .vmem S2176x1024 .bf16) (harg19 : arg19.IsWhole)
    (x0 : Vec F S1x2048x1024 .f32) (x1 : Vec F S16x1024 .f32) (x2 : Vec F S1x1024 .f32) (x3 : Vec F S1x1024 .f32) (x4 : Vec F S1024x1024 .bf16) (x5 : Vec F S1x1024 .f32) (x6 : Vec F S512x1024 .bf16) (x7 : Vec F S512x1 .f32) (x8 : Vec F S1024x128 .bf16) (x9 : Vec F S1x128 .f32) (x10 : Vec F S1024x512 .bf16) (x11 : Vec F S1x512 .f32) :
    { L : List (View.Piece (Elt F) S1x2176x512 .bf16) × List (View.Piece (Elt F) S1x2560x512 .bf16) × List (View.Piece (Elt F) S1x512x2560 .bf16) × List (View.Piece (Elt F) S1x2560x128 .f32) × List (View.Piece (Elt F) S2176x1024 .bf16) //
      ∀ (E : Set ℕ) (K : PUnit → sProp 𝕄) (x16 : Vec F S1x2048x512 .bf16),
        iprop(owns (c : Thread nD τ) arg2 fullShare x0
            ∗ owns (c : Thread nD τ) arg3 fullShare x1
            ∗ owns (c : Thread nD τ) arg4 fullShare x2
            ∗ owns (c : Thread nD τ) arg5 fullShare x3
            ∗ owns (c : Thread nD τ) arg6 fullShare x4
            ∗ owns (c : Thread nD τ) arg7 fullShare x5
            ∗ owns (c : Thread nD τ) arg8 fullShare x6
            ∗ owns (c : Thread nD τ) arg9 fullShare x7
            ∗ owns (c : Thread nD τ) arg10 fullShare x8
            ∗ owns (c : Thread nD τ) arg11 fullShare x9
            ∗ owns (c : Thread nD τ) arg12 fullShare x10
            ∗ owns (c : Thread nD τ) arg13 fullShare x11
            ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d)
            ∗ owns (c : Thread nD τ) arg18 fullShare x16 ∗ (∃ d, owns (c : Thread nD τ) arg19 fullShare d)
            ∗ (iprop(owns (c : Thread nD τ) arg2 fullShare x0
            ∗ owns (c : Thread nD τ) arg3 fullShare x1
            ∗ owns (c : Thread nD τ) arg4 fullShare x2
            ∗ owns (c : Thread nD τ) arg5 fullShare x3
            ∗ owns (c : Thread nD τ) arg6 fullShare x4
            ∗ owns (c : Thread nD τ) arg7 fullShare x5
            ∗ owns (c : Thread nD τ) arg8 fullShare x6
            ∗ owns (c : Thread nD τ) arg9 fullShare x7
            ∗ owns (c : Thread nD τ) arg10 fullShare x8
            ∗ owns (c : Thread nD τ) arg11 fullShare x9
            ∗ owns (c : Thread nD τ) arg12 fullShare x10
            ∗ owns (c : Thread nD τ) arg13 fullShare x11
            ∗ (∃ f, arg14.view.loc (c : Thread nD τ) ↦[arg14.view.set]{fullShare} arg14.view.writes (Elt F) f L.1) ∗ (∃ f, arg15.view.loc (c : Thread nD τ) ↦[arg15.view.set]{fullShare} arg15.view.writes (Elt F) f L.2.1) ∗ (∃ f, arg16.view.loc (c : Thread nD τ) ↦[arg16.view.set]{fullShare} arg16.view.writes (Elt F) f L.2.2.1) ∗ (∃ f, arg17.view.loc (c : Thread nD τ) ↦[arg17.view.set]{fullShare} arg17.view.writes (Elt F) f L.2.2.2.1)
            ∗ owns (c : Thread nD τ) arg18 fullShare x16
            ∗ (∃ f, arg19.view.loc (c : Thread nD τ) ↦[arg19.view.set]{fullShare} arg19.view.writes (Elt F) f L.2.2.2.2)) -∗ K ⟨⟩))
          ⊢ wp frame (wpE (defs₀ (F := F)) Variants.none c none) E (cc0_inproj i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K } := by
  refine ⟨⟨?_, ?_, ?_, ?_, ?_⟩, fun E K x16 => ?run⟩
  case run =>
    simp only [cc0_inproj_eq_skeleton]; unfold cc0_inproj_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, ⟨%d13, %f13, -, H13⟩, ⟨%d14, %f14, -, H14⟩, ⟨%d15, %f15, -, H15⟩, ⟨%f16, %hf16, H16⟩, ⟨%d17, %f17, -, H17⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg18.eq_unread hf16
    sl_exec (disch := first | sl_exact h1 | sl_exact h2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]
    · iexists _; iexact H12
    isplitl [H13]
    · iexists _; iexact H13
    isplitl [H14]
    · iexists _; iexact H14
    isplitl [H15]
    · iexists _; iexact H15
    isplitl [H16]
    · iexists _; isplitr; · ipureintro; exact harg18.read_unread _
      iexact H16
    iexists _; iexact H17

end Cert.ProjectIdeal.Hand

end
-- ==== Proof.ProjectRun.lean ====
/- The projection's run: what its blocks hold after each grid point, the body's triple at each, and the frame. -/
module

public import proofs.«01_k».proof.Proof.ProjectBody
public import Idealize.ShloMosaic.Lib.Claim

@[expose] public section

set_option maxRecDepth 16384

noncomputable section

namespace Cert.ProjectIdeal.Hand

open Cert.ProjectIdeal Cert.ProjectIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Grid points -/

theorem cond1_iff : ∀ t : Fin cfg0.N, k0_cond1 (grid0.coords t) = 1#1 ↔ t.val % 7 = 0 :=
  (by decide +kernel : ∀ t : Fin grid0.N, k0_cond1 (grid0.coords t) = 1#1 ↔ t.val % 7 = 0)

theorem cond2_iff : ∀ t : Fin cfg0.N, k0_cond2 (grid0.coords t) = 1#1 ↔ t.val % 7 ≠ 0 :=
  (by decide +kernel : ∀ t : Fin grid0.N, k0_cond2 (grid0.coords t) = 1#1 ↔ t.val % 7 ≠ 0)

/-- The first point of a point's batch. -/
def base (t : Fin cfg0.N) : Fin cfg0.N := ⟨t.val - t.val % 7, by have := t.isLt; omega⟩

theorem base_mod (t : Fin cfg0.N) : (base t).val % 7 = 0 := by show (t.val - t.val % 7) % 7 = 0; omega

theorem base_first {t : Fin cfg0.N} (h : t.val % 7 = 0) : base t = t := Fin.ext (by show t.val - t.val % 7 = t.val; omega)

theorem base_before {t : Fin cfg0.N} (h : t.val % 7 ≠ 0) (hp) : base ⟨t.val - 1, hp⟩ = base t :=
  Fin.ext (by show t.val - 1 - (t.val - 1) % 7 = t.val - t.val % 7; omega)

theorem base_next {t : Fin cfg0.N} (h : (t.val + 1) % 7 ≠ 0) (hp) : base ⟨t.val + 1, hp⟩ = base t :=
  Fin.ext (by show t.val + 1 - (t.val + 1) % 7 = t.val - t.val % 7; omega)

/-- Each window's memref at a point, and the scratch. -/
abbrev ms0 (t : Fin cfg0.N) := win0_0.stage (cfg0.slots t 0)
abbrev hs0 (t : Fin cfg0.N) : (ms0 t).IsWhole := hstage0_0 ((cfg0.slots t 0).cast nbuf0_0)
abbrev ms1 (t : Fin cfg0.N) := win0_1.stage (cfg0.slots t 1)
abbrev hs1 (t : Fin cfg0.N) : (ms1 t).IsWhole := hstage0_1 ((cfg0.slots t 1).cast nbuf0_1)
abbrev ms2 (t : Fin cfg0.N) := win0_2.stage (cfg0.slots t 2)
abbrev hs2 (t : Fin cfg0.N) : (ms2 t).IsWhole := hstage0_2 ((cfg0.slots t 2).cast nbuf0_2)
abbrev ms3 (t : Fin cfg0.N) := win0_3.stage (cfg0.slots t 3)
abbrev hs3 (t : Fin cfg0.N) : (ms3 t).IsWhole := hstage0_3 ((cfg0.slots t 3).cast nbuf0_3)
abbrev ms4 (t : Fin cfg0.N) := win0_4.stage (cfg0.slots t 4)
abbrev hs4 (t : Fin cfg0.N) : (ms4 t).IsWhole := hstage0_4 ((cfg0.slots t 4).cast nbuf0_4)
abbrev ms5 (t : Fin cfg0.N) := win0_5.stage (cfg0.slots t 5)
abbrev hs5 (t : Fin cfg0.N) : (ms5 t).IsWhole := hstage0_5 ((cfg0.slots t 5).cast nbuf0_5)
abbrev ms6 (t : Fin cfg0.N) := win0_6.stage (cfg0.slots t 6)
abbrev hs6 (t : Fin cfg0.N) : (ms6 t).IsWhole := hstage0_6 ((cfg0.slots t 6).cast nbuf0_6)
abbrev ms7 (t : Fin cfg0.N) := win0_7.stage (cfg0.slots t 7)
abbrev hs7 (t : Fin cfg0.N) : (ms7 t).IsWhole := hstage0_7 ((cfg0.slots t 7).cast nbuf0_7)
abbrev ms8 (t : Fin cfg0.N) := win0_8.stage (cfg0.slots t 8)
abbrev hs8 (t : Fin cfg0.N) : (ms8 t).IsWhole := hstage0_8 ((cfg0.slots t 8).cast nbuf0_8)
abbrev ms9 (t : Fin cfg0.N) := win0_9.stage (cfg0.slots t 9)
abbrev hs9 (t : Fin cfg0.N) : (ms9 t).IsWhole := hstage0_9 ((cfg0.slots t 9).cast nbuf0_9)
abbrev ms10 (t : Fin cfg0.N) := win0_10.stage (cfg0.slots t 10)
abbrev hs10 (t : Fin cfg0.N) : (ms10 t).IsWhole := hstage0_10 ((cfg0.slots t 10).cast nbuf0_10)
abbrev ms11 (t : Fin cfg0.N) := win0_11.stage (cfg0.slots t 11)
abbrev hs11 (t : Fin cfg0.N) : (ms11 t).IsWhole := hstage0_11 ((cfg0.slots t 11).cast nbuf0_11)
abbrev ms12 (t : Fin cfg0.N) := win0_12.stage (cfg0.slots t 12)
abbrev hs12 (t : Fin cfg0.N) : (ms12 t).IsWhole := hstage0_12 ((cfg0.slots t 12).cast nbuf0_12)
abbrev ms13 (t : Fin cfg0.N) := win0_13.stage (cfg0.slots t 13)
abbrev hs13 (t : Fin cfg0.N) : (ms13 t).IsWhole := hstage0_13 ((cfg0.slots t 13).cast nbuf0_13)
abbrev ms14 (t : Fin cfg0.N) := win0_14.stage (cfg0.slots t 14)
abbrev hs14 (t : Fin cfg0.N) : (ms14 t).IsWhole := hstage0_14 ((cfg0.slots t 14).cast nbuf0_14)
abbrev ms15 (t : Fin cfg0.N) := win0_15.stage (cfg0.slots t 15)
abbrev hs15 (t : Fin cfg0.N) : (ms15 t).IsWhole := hstage0_15 ((cfg0.slots t 15).cast nbuf0_15)
abbrev ms16 (t : Fin cfg0.N) := win0_16.stage (cfg0.slots t 16)
abbrev hs16 (t : Fin cfg0.N) : (ms16 t).IsWhole := hstage0_16 ((cfg0.slots t 16).cast nbuf0_16)
abbrev scratch : Memref sig .tc .vmem S2176x1024 .bf16 := Memref.whole cc0_scratch0
abbrev scratch_whole : (scratch).IsWhole := Memref.isWhole_whole _

/-! ## What the points leave -/

/-- The stores of a batch's first point. -/
def first (c : Dev nD) (t : Fin cfg0.N) (h : t.val % 7 = 0) :=
  (firstRun c (grid0.coords t) ((cond1_iff t).mpr h) (fun h' => (cond2_iff t).mp h' h) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) (ms15 t) (hs15 t) (ms16 t) (hs16 t) scratch scratch_whole
    (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)).1

theorem first_congr (c : Dev nD) {t u : Fin cfg0.N} (e : t = u) (ht hu) : first m c t ht = first m c u hu := by subst e; rfl

/-- The normalised rows of a point's batch. -/
def rows (c : Dev nD) (t : Fin cfg0.N) : Vec F S2176x1024 .bf16 := View.canon (first m c (base t) (base_mod t)).2.2.2.2

/-- The store of a later point. -/
def later (c : Dev nD) (t : Fin cfg0.N) (h : t.val % 7 ≠ 0) :=
  (laterRun c (grid0.coords t) (fun h' => h ((cond1_iff t).mp h')) ((cond2_iff t).mpr h) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) (ms15 t) (hs15 t) (ms16 t) (hs16 t) scratch scratch_whole
    (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (rows m c t)).1

/-! The stores cover what they are made to. -/

theorem cover12 (c : Dev nD) (t : Fin cfg0.N) (h : t.val % 7 = 0) : ∀ y, ∃ p ∈ (first m c t h).1, y ∈ p.1.set :=
  View.cover_of_tiledBy _ S1x2176x512.size (by sl_kernel_rfl)
theorem cover13 (c : Dev nD) (t : Fin cfg0.N) (h : t.val % 7 = 0) : ∀ y, ∃ p ∈ (first m c t h).2.1, y ∈ p.1.set :=
  View.cover_of_tiledBy _ ![1, 128, 512] (by sl_kernel_rfl)
theorem cover14 (c : Dev nD) (t : Fin cfg0.N) (h : t.val % 7 = 0) : ∀ y, ∃ p ∈ (first m c t h).2.2.1, y ∈ p.1.set :=
  View.cover_of_tiledBy _ ![1, 512, 128] (by sl_kernel_rfl)
theorem cover15 (c : Dev nD) (t : Fin cfg0.N) (h : t.val % 7 = 0) : ∀ y, ∃ p ∈ (first m c t h).2.2.2.1, y ∈ p.1.set :=
  View.cover_of_tiledBy _ ![1, 128, 128] (by sl_kernel_rfl)
theorem coverRows (c : Dev nD) (t : Fin cfg0.N) (h : t.val % 7 = 0) : ∀ y, ∃ p ∈ (first m c t h).2.2.2.2, y ∈ p.1.set :=
  View.cover_of_tiledBy _ ![16, 1024] (by sl_kernel_rfl)
theorem cover16 (c : Dev nD) (t : Fin cfg0.N) (h : t.val % 7 ≠ 0) : ∀ y, ∃ p ∈ later m c t h, y ∈ p.1.set :=
  View.cover_of_tiledBy _ S1x2048x512.size (by sl_kernel_rfl)

/-! ## The proof data -/

/-- What the scratch holds before a point: the rows of its batch, once the batch's first point has run. -/
def held (c : Dev nD) (k : Fin (cfg0.N + 1)) : sProp 𝕄 :=
  if h : k.val % 7 = 0 then iprop(∃ d, owns (c : Thread nD τ) scratch fullShare d)
  else owns (c : Thread nD τ) scratch fullShare (rows m c ⟨k.val, by have h1 := k.isLt; have h2 : cfg0.N = 56 := rfl; omega⟩)

/-- The proof data on a core: a batch's four first results stay in their blocks from its first point on; the fifth's block is the
    point's own. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => View.canon (first m c (base t) (base_mod t)).1
    | ⟨13, _⟩ => View.canon (first m c (base t) (base_mod t)).2.1
    | ⟨14, _⟩ => View.canon (first m c (base t) (base_mod t)).2.2.1
    | ⟨15, _⟩ => View.canon (first m c (base t) (base_mod t)).2.2.2.1
    | ⟨16, _⟩ => if h : t.val % 7 ≠ 0 then View.canon (later m c t h) else View.canon []
    | ⟨_ + 17, h⟩ => absurd h (Nat.not_lt.2 (Nat.le_add_left _ _))
  Φ k := iprop(held m c k ∗ ∃ r, prngReg c r)
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = iblk m c 7 t := by dsimp only [dats]
theorem after8 (c : Dev nD) (t : Fin cfg0.N) : (dats m 0 c).after 8 t = iblk m c 8 t := by dsimp only [dats]
theorem after9 (c : Dev nD) (t : Fin cfg0.N) : (dats m 0 c).after 9 t = iblk m c 9 t := by dsimp only [dats]
theorem after10 (c : Dev nD) (t : Fin cfg0.N) : (dats m 0 c).after 10 t = iblk m c 10 t := by dsimp only [dats]
theorem after11 (c : Dev nD) (t : Fin cfg0.N) : (dats m 0 c).after 11 t = iblk m c 11 t := by dsimp only [dats]
theorem after12 (c : Dev nD) (t : Fin cfg0.N) : (dats m 0 c).after 12 t = View.canon (first m c (base t) (base_mod t)).1 := by dsimp only [dats]
theorem after13 (c : Dev nD) (t : Fin cfg0.N) : (dats m 0 c).after 13 t = View.canon (first m c (base t) (base_mod t)).2.1 := by dsimp only [dats]
theorem after14 (c : Dev nD) (t : Fin cfg0.N) : (dats m 0 c).after 14 t = View.canon (first m c (base t) (base_mod t)).2.2.1 := by dsimp only [dats]
theorem after15 (c : Dev nD) (t : Fin cfg0.N) : (dats m 0 c).after 15 t = View.canon (first m c (base t) (base_mod t)).2.2.2.1 := by dsimp only [dats]
theorem after16 (c : Dev nD) (t : Fin cfg0.N) (h : t.val % 7 ≠ 0) : (dats m 0 c).after 16 t = View.canon (later m c t h) := by
  dsimp only [dats]; rw [dif_pos h]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d
theorem before5 (c : Dev nD) (t : Fin cfg0.N) (d) : (dats m 0 c).before 5 t d = iblk m c 5 t :=
  before0_5_of m (dats m 0 c) (A_eq m c 5) (after5 m c) t d
theorem before6 (c : Dev nD) (t : Fin cfg0.N) (d) : (dats m 0 c).before 6 t d = iblk m c 6 t :=
  before0_6_of m (dats m 0 c) (A_eq m c 6) (after6 m c) t d
theorem before7 (c : Dev nD) (t : Fin cfg0.N) (d) : (dats m 0 c).before 7 t d = iblk m c 7 t :=
  before0_7_of m (dats m 0 c) (A_eq m c 7) (after7 m c) t d
theorem before8 (c : Dev nD) (t : Fin cfg0.N) (d) : (dats m 0 c).before 8 t d = iblk m c 8 t :=
  before0_8_of m (dats m 0 c) (A_eq m c 8) (after8 m c) t d
theorem before9 (c : Dev nD) (t : Fin cfg0.N) (d) : (dats m 0 c).before 9 t d = iblk m c 9 t :=
  before0_9_of m (dats m 0 c) (A_eq m c 9) (after9 m c) t d
theorem before10 (c : Dev nD) (t : Fin cfg0.N) (d) : (dats m 0 c).before 10 t d = iblk m c 10 t :=
  before0_10_of m (dats m 0 c) (A_eq m c 10) (after10 m c) t d
theorem before11 (c : Dev nD) (t : Fin cfg0.N) (d) : (dats m 0 c).before 11 t d = iblk m c 11 t :=
  before0_11_of m (dats m 0 c) (A_eq m c 11) (after11 m c) t d

/-! ## Idle windows -/

theorem idle12 (t : Fin cfg0.N) : cfg0.idle 12 (cfg0.grid.coords t) = !decide (t.val % 7 = 0) :=
  (show cfg0.idle 12 (cfg0.grid.coords t) = !(k0_cond1 (grid0.coords t) == 1#1) from rfl).trans (congrArg not (Bool.eq_iff_iff.mpr (by rw [beq_iff_eq, decide_eq_true_eq]; exact cond1_iff t)))
theorem idle13 (t : Fin cfg0.N) : cfg0.idle 13 (cfg0.grid.coords t) = !decide (t.val % 7 = 0) :=
  (show cfg0.idle 13 (cfg0.grid.coords t) = !(k0_cond1 (grid0.coords t) == 1#1) from rfl).trans (congrArg not (Bool.eq_iff_iff.mpr (by rw [beq_iff_eq, decide_eq_true_eq]; exact cond1_iff t)))
theorem idle14 (t : Fin cfg0.N) : cfg0.idle 14 (cfg0.grid.coords t) = !decide (t.val % 7 = 0) :=
  (show cfg0.idle 14 (cfg0.grid.coords t) = !(k0_cond1 (grid0.coords t) == 1#1) from rfl).trans (congrArg not (Bool.eq_iff_iff.mpr (by rw [beq_iff_eq, decide_eq_true_eq]; exact cond1_iff t)))
theorem idle15 (t : Fin cfg0.N) : cfg0.idle 15 (cfg0.grid.coords t) = !decide (t.val % 7 = 0) :=
  (show cfg0.idle 15 (cfg0.grid.coords t) = !(k0_cond1 (grid0.coords t) == 1#1) from rfl).trans (congrArg not (Bool.eq_iff_iff.mpr (by rw [beq_iff_eq, decide_eq_true_eq]; exact cond1_iff t)))
theorem idle16 (t : Fin cfg0.N) : cfg0.idle 16 (cfg0.grid.coords t) = decide (t.val % 7 = 0) :=
  (show cfg0.idle 16 (cfg0.grid.coords t) = !(k0_cond2 (grid0.coords t) == 1#1) from rfl).trans
    (Bool.eq_iff_iff.mpr (by rw [Bool.not_eq_true', beq_eq_false_iff_ne, decide_eq_true_eq, Ne, cond2_iff t, not_not]))

theorem flush16 : ∀ t : Fin cfg0.N, (cfg0.win 16).flush t = true ↔ t.val % 7 ≠ 0 :=
  (by decide +kernel : ∀ t : Fin grid0.N, win0_16.flush t = true ↔ t.val % 7 ≠ 0)

/-- A window written at a batch's first point alone and written back at its last holds, when the last is reached, what `after`
    says. -/
theorem before_last (c : Dev nD) (w : Fin cfg0.W) (hw : (cfg0.win w).isOut = true) (hclip : ∀ (i : cfg0.grid.Coords) a, (cfg0.win w).clip i a = none)
    (hidle : ∀ t : Fin cfg0.N, cfg0.idle w (cfg0.grid.coords t) = !decide (t.val % 7 = 0))
    (hflush : ∀ t : Fin cfg0.N, (cfg0.win w).flush t = true ↔ t.val % 7 = 6)
    (hafter : ∀ t u : Fin cfg0.N, base t = base u → (dats m 0 c).after w t = (dats m 0 c).after w u)
    (t : Fin cfg0.N) (h : t.val % 7 = 6) (d) : (dats m 0 c).before w t d = (dats m 0 c).after w t := by
  have hfresh : ∀ n, n ≤ cfg0.N → cfg0.fresh w n = decide (n % 7 = 0) :=
    cfg0.fresh_tab w _ rfl fun t => by
      rw [hidle, Bool.eq_iff_iff]
      simp only [Bool.or_eq_true, Bool.and_eq_true, Bool.not_eq_true', decide_eq_true_eq, decide_eq_false_iff_not, hflush]
      omega
  rw [(dats m 0 c).before_out_traj w hw hclip (fun t ht hi hf => ?_) _ t rfl d, hfresh _ t.isLt.le, if_neg (by simp; omega)]
  · exact hafter _ _ (base_before (by omega) _)
  · rw [hfresh _ t.isLt.le, decide_eq_false_iff_not] at hf
    exact hafter _ _ (base_before hf _).symm

theorem last12 (c : Dev nD) (t : Fin cfg0.N) (h : t.val % 7 = 6) (d) : (dats m 0 c).before 12 t d = (dats m 0 c).after 12 t :=
  before_last m c 12 rfl (fun _ _ => rfl) idle12 flush0_12 (fun t u e => by rw [after12, after12, first_congr m c e (base_mod t) (base_mod u)]) t h d
theorem last13 (c : Dev nD) (t : Fin cfg0.N) (h : t.val % 7 = 6) (d) : (dats m 0 c).before 13 t d = (dats m 0 c).after 13 t :=
  before_last m c 13 rfl (fun _ _ => rfl) idle13 flush0_13 (fun t u e => by rw [after13, after13, first_congr m c e (base_mod t) (base_mod u)]) t h d
theorem last14 (c : Dev nD) (t : Fin cfg0.N) (h : t.val % 7 = 6) (d) : (dats m 0 c).before 14 t d = (dats m 0 c).after 14 t :=
  before_last m c 14 rfl (fun _ _ => rfl) idle14 flush0_14 (fun t u e => by rw [after14, after14, first_congr m c e (base_mod t) (base_mod u)]) t h d
theorem last15 (c : Dev nD) (t : Fin cfg0.N) (h : t.val % 7 = 6) (d) : (dats m 0 c).before 15 t d = (dats m 0 c).after 15 t :=
  before_last m c 15 rfl (fun _ _ => rfl) idle15 flush0_15 (fun t u e => by rw [after15, after15, first_congr m c e (base_mod t) (base_mod u)]) t h d

theorem leaves_live {c : Dev nD} {w : Fin cfg0.W} {t : Fin cfg0.N} (h : cfg0.idle w (cfg0.grid.coords t) = false) :
    (dats m 0 c).leavesExact w t = owns (c : Thread nD τ) ((cfg0.win w).stage (cfg0.slots t w)) fullShare ((dats m 0 c).after w t) := by
  unfold Dat.leavesExact; rw [h]

theorem leaves_last {c : Dev nD} {w : Fin cfg0.W} {t : Fin cfg0.N} (h : cfg0.idle w (cfg0.grid.coords t) = true) (hf : (cfg0.win w).flush t = true) :
    (dats m 0 c).leavesExact w t = owns (c : Thread nD τ) ((cfg0.win w).stage (cfg0.slots t w)) fullShare ((dats m 0 c).after w t) := by
  unfold Dat.leavesExact; rw [h, hf]

/-- An idle window's buffer is handed back: as it was found, or, at a batch's last point, at what is written back. -/
theorem handed_back (c : Dev nD) (w : Fin cfg0.W) (t : Fin cfg0.N) (h : cfg0.idle w (cfg0.grid.coords t) = true)
    (hb : (cfg0.win w).flush t = true → ∀ d, (dats m 0 c).before w t d = (dats m 0 c).after w t) :
    iprop(∃ d, owns (c : Thread nD τ) ((cfg0.win w).stage (cfg0.slots t w)) fullShare ((dats m 0 c).before w t d)) ⊢ (dats m 0 c).leavesExact w t := by
  by_cases hf : (cfg0.win w).flush t = true
  · rw [leaves_last m h hf]
    iintro ⟨%d, H⟩
    rw [hb hf d]
    iexact H
  · rw [(dats m 0 c).leavesExact_idle w t h (Bool.not_eq_true _ ▸ hf)]

/-! ## The body's triple -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d))
    ∗ (∃ d, owns (c : Thread nD τ) (ms9 t) fullShare ((dats m 0 c).before 9 t d))
    ∗ (∃ d, owns (c : Thread nD τ) (ms10 t) fullShare ((dats m 0 c).before 10 t d))
    ∗ (∃ d, owns (c : Thread nD τ) (ms11 t) fullShare ((dats m 0 c).before 11 t d))
    ∗ (∃ d, owns (c : Thread nD τ) (ms12 t) fullShare ((dats m 0 c).before 12 t d))
    ∗ (∃ d, owns (c : Thread nD τ) (ms13 t) fullShare ((dats m 0 c).before 13 t d))
    ∗ (∃ d, owns (c : Thread nD τ) (ms14 t) fullShare ((dats m 0 c).before 14 t d))
    ∗ (∃ d, owns (c : Thread nD τ) (ms15 t) fullShare ((dats m 0 c).before 15 t d))
    ∗ (∃ d, owns (c : Thread nD τ) (ms16 t) fullShare ((dats m 0 c).before 16 t d)))

def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t)
    ∗ owns (c : Thread nD τ) (ms5 t) fullShare ((dats m 0 c).after 5 t)
    ∗ owns (c : Thread nD τ) (ms6 t) fullShare ((dats m 0 c).after 6 t)
    ∗ owns (c : Thread nD τ) (ms7 t) fullShare ((dats m 0 c).after 7 t)
    ∗ owns (c : Thread nD τ) (ms8 t) fullShare ((dats m 0 c).after 8 t)
    ∗ owns (c : Thread nD τ) (ms9 t) fullShare ((dats m 0 c).after 9 t)
    ∗ owns (c : Thread nD τ) (ms10 t) fullShare ((dats m 0 c).after 10 t)
    ∗ owns (c : Thread nD τ) (ms11 t) fullShare ((dats m 0 c).after 11 t)
    ∗ (dats m 0 c).leavesExact 12 t
    ∗ (dats m 0 c).leavesExact 13 t
    ∗ (dats m 0 c).leavesExact 14 t
    ∗ (dats m 0 c).leavesExact 15 t
    ∗ (dats m 0 c).leavesExact 16 t)

theorem held_first {c : Dev nD} {k : Fin (cfg0.N + 1)} (h : k.val % 7 = 0) : held m c k = iprop(∃ d, owns (c : Thread nD τ) scratch fullShare d) := by
  unfold held; rw [dif_pos h]

theorem held_later {c : Dev nD} {k : Fin (cfg0.N + 1)} (h : k.val % 7 ≠ 0) (t : Fin cfg0.N) (e : k.val - k.val % 7 = t.val - t.val % 7) :
    held m c k = owns (c : Thread nD τ) scratch fullShare (rows m c t) := by
  unfold held rows
  rw [dif_neg h, first_congr m c (show base ⟨k.val, _⟩ = base t from Fin.ext e) (base_mod _) (base_mod t)]

theorem sound_first (c : Dev nD) (t : Fin cfg0.N) (h : t.val % 7 = 0) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7, before8, before9, before10, before11]
  rw [show (dats m 0 c).Φ t.castSucc = iprop(held m c t.castSucc ∗ ∃ r, prngReg c r) from rfl,
    show (dats m 0 c).Φ t.succ = iprop(held m c t.succ ∗ ∃ r, prngReg c r) from rfl,
    show (dats m 0 c).owesAt () t.succ = (dats m 0 c).owesAt () t.castSucc from rfl,
    held_first m (k := t.castSucc) h, held_later m (k := t.succ) (by show (t.val + 1) % 7 ≠ 0; omega) t (by show t.val + 1 - (t.val + 1) % 7 = _; omega),
    after0, after1, after2, after3, after4, after5, after6, after7, after8, after9, after10, after11,
    leaves_live m (w := 12) (by rw [idle12]; simp [h]), leaves_live m (w := 13) (by rw [idle13]; simp [h]), leaves_live m (w := 14) (by rw [idle14]; simp [h]), leaves_live m (w := 15) (by rw [idle15]; simp [h]),
    after12, after13, after14, after15]
  unfold rows
  rw [first_congr m c (base_first h) (base_mod t) h]
  iintro ⟨⟨Hs, Hr⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩⟩
  iapply ((firstRun c (grid0.coords t) ((cond1_iff t).mpr h) (fun h' => (cond2_iff t).mp h' h) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) (ms15 t) (hs15 t) (ms16 t) (hs16 t) scratch scratch_whole
    (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)).2 Set.univ _ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexists _; iexact H12
  isplitl [H13]; · iexists _; iexact H13
  isplitl [H14]; · iexists _; iexact H14
  isplitl [H15]; · iexists _; iexact H15
  isplitl [H16]; · iexact H16
  isplitl [Hs]; · iexact Hs
  iintro ⟨H0, H1, H2, H3, H4, H5, H6, H7, H8, H9, H10, H11, ⟨%e12, H12⟩, ⟨%e13, H13⟩, ⟨%e14, H14⟩, ⟨%e15, H15⟩, H16, ⟨%es, Hs⟩⟩
  isplitl [Hs Hr]
  · isplitl [Hs]
    · unfold owns; iexists _; isplitr
      swap; · iexact Hs
      ipureintro; exact View.read_writes_eq_canon _ _ _ (coverRows m c t h)
    iexact Hr
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]
  · unfold owns; iexists _; isplitr
    swap; · iexact H12
    ipureintro; exact View.read_writes_eq_canon _ _ _ (cover12 m c t h)
  isplitl [H13]
  · unfold owns; iexists _; isplitr
    swap; · iexact H13
    ipureintro; exact View.read_writes_eq_canon _ _ _ (cover13 m c t h)
  isplitl [H14]
  · unfold owns; iexists _; isplitr
    swap; · iexact H14
    ipureintro; exact View.read_writes_eq_canon _ _ _ (cover14 m c t h)
  isplitl [H15]
  · unfold owns; iexists _; isplitr
    swap; · iexact H15
    ipureintro; exact View.read_writes_eq_canon _ _ _ (cover15 m c t h)
  iapply (handed_back m c 16 t (by rw [idle16]; simp [h]) (fun hf => absurd h ((flush16 t).mp hf)))
  iexists d16; iexact H16

theorem sound_later (c : Dev nD) (t : Fin cfg0.N) (h : t.val % 7 ≠ 0) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7, before8, before9, before10, before11]
  rw [show (dats m 0 c).Φ t.castSucc = iprop(held m c t.castSucc ∗ ∃ r, prngReg c r) from rfl,
    show (dats m 0 c).Φ t.succ = iprop(held m c t.succ ∗ ∃ r, prngReg c r) from rfl,
    show (dats m 0 c).owesAt () t.succ = (dats m 0 c).owesAt () t.castSucc from rfl,
    held_later m (k := t.castSucc) h t rfl,
    after0, after1, after2, after3, after4, after5, after6, after7, after8, after9, after10, after11,
    leaves_live m (w := 16) (by rw [idle16]; simp [h]), after16 m c t h]
  iintro ⟨⟨Hs, Hr⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, H12, H13, H14, H15, ⟨%d16, H16⟩⟩
  iapply ((laterRun c (grid0.coords t) (fun h' => h ((cond1_iff t).mp h')) ((cond2_iff t).mpr h) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) (ms15 t) (hs15 t) (ms16 t) (hs16 t) scratch scratch_whole
    (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (rows m c t)).2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H16]; · iexists _; iexact H16
  isplitl [Hs]; · iexact Hs
  iintro ⟨H0, H1, H2, H3, H4, H5, H6, H7, H8, H9, H10, H11, ⟨%e16, H16⟩, Hs⟩
  isplitl [Hs Hr]
  · isplitl [Hs]
    · by_cases h' : (t.val + 1) % 7 = 0
      · rw [held_first m (k := t.succ) h']; iexists _; iexact Hs
      · rw [held_later m (k := t.succ) h' t (by show t.val + 1 - (t.val + 1) % 7 = _; omega)]; iexact Hs
    iexact Hr
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]
  · iapply (handed_back m c 12 t (by rw [idle12]; simp [h]) (fun hf d => last12 m c t ((flush0_12 t).mp hf) d)); iexact H12
  isplitl [H13]
  · iapply (handed_back m c 13 t (by rw [idle13]; simp [h]) (fun hf d => last13 m c t ((flush0_13 t).mp hf) d)); iexact H13
  isplitl [H14]
  · iapply (handed_back m c 14 t (by rw [idle14]; simp [h]) (fun hf d => last14 m c t ((flush0_14 t).mp hf) d)); iexact H14
  isplitl [H15]
  · iapply (handed_back m c 15 t (by rw [idle15]; simp [h]) (fun hf d => last15 m c t ((flush0_15 t).mp hf) d)); iexact H15
  unfold owns; iexists _; isplitr
  swap; · iexact H16
  ipureintro; exact View.read_writes_eq_canon _ _ _ (cover16 m c t h)

theorem sound_body (c : Dev nD) (t : Fin cfg0.N) :
    bodyPre m c t ⊢ wp frame (wpE (defs₀ (F := F)) Variants.none c none) Set.univ (bodyAt0 t) (fun _ => bodyPost m c t) := by
  by_cases h : t.val % 7 = 0
  · exact sound_first m c t h
  · exact sound_later m c t h

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

set_option backward.isDefEq.respectTransparency.types false in
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m)
    (hin := fun c => by
      show Pipeline.ΦA spec0 c ⊢ iprop(held m c 0 ∗ ∃ r, prngReg c r)
      rw [held_first m (k := 0) rfl]
      unfold Pipeline.ΦA
      rw [scopedRest0_eq]
      iintro ⟨⟨%f, Hs⟩, Hr⟩
      isplitl [Hs]
      · iexists f; rw [owns_whole]; iexact Hs
      iexact Hr)
    (hout := fun c => by
      show iprop(held m c (Fin.last cfg0.N) ∗ ∃ r, prngReg c r) ⊢ Pipeline.ΦA spec0 c
      rw [held_first m (k := Fin.last cfg0.N) rfl]
      unfold Pipeline.ΦA
      rw [scopedRest0_eq]
      simp only [owns_whole]
      iintro ⟨⟨%f, Hs⟩, Hr⟩
      isplitl [Hs]
      · iexists f; iexact Hs
      iexact Hr)

theorem run_main : θ_run defs (onTc (τ := τ) (main (F := F))) (s₀ m ρ) (Pipeline.FramePost cfgs (dats m) 0 (V m)) :=
  (θ_run defs _ _).mono (fun _ h => h.1) (run_main_quiescent m ρ)

/-- The arguments end as launched, and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11))
      ∧ r.2.sem = fun _ => 0) :=
  θ_run_and (frame_of m ρ (dats m) (A_eq m) (run_main m ρ)) ((θ_run defs _ _).mono (fun _ h => h.2) (run_main_quiescent m ρ))

end Cert.ProjectIdeal.Hand

end
-- ==== Proof.ProjectFrame.lean ====
module
public import proofs.«01_k».proof.Proof.ProjectRun
public import proofs.«01_k».proof.Proof.Gen.Project.Frame
public import proofs.«01_k».proof.Proof.Gen.Project.Skeleton

/-! # The projections' frame, of the kernel as compiled

The run of the ideal program is proved at any family of floats, and the two programs are one text: so
the frame of the kernel at machine floats is that run, read at machine floats. -/

@[expose] public section

set_option maxRecDepth 16384
noncomputable section
namespace Cert.Project.Hand
open Cert.Project Cert.Project.Gen Idealize.ShloMosaic Idealize.ShloMosaic.TcCoe Idealize.SL.Sem
variable {F : FTy → Type} [FloatOps F] (m : (ℓ : Loc nD τ sig) → Buf (Elt F) ℓ) (ρ : Dev nD → PrngReg)

/-- The kernel as compiled and the kernel of the ideal program are the same code. -/
theorem kernel_same : @Cert.Project.cc0_inproj F _ _ = @Cert.ProjectIdeal.cc0_inproj F _ _ := rfl
set_option maxHeartbeats 8000000 in
/-- So are their body tables: the one kernel, called on the same staging buffers. -/
theorem defs_same : Cert.Project.defs₀ (F := F) = (Cert.ProjectIdeal.defs₀ (F := F) : Defs _ _ _ _ Cert.Project.Λ₀) := by
  unfold Cert.Project.defs₀ Cert.ProjectIdeal.defs₀
  refine congrArg Defs.onTc ?_
  funext l a
  match l, a with
  | 0, (t, s) =>
    dsimp only
    rw [kernel_same]
    have e0 : Cert.Project.win0_0.stage = Cert.ProjectIdeal.win0_0.stage := rfl
    have e1 : Cert.Project.win0_16.stage = Cert.ProjectIdeal.win0_16.stage := rfl
    rfl
/-- The arguments end as launched, and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11))
      ∧ r.2.sem = fun _ => 0) := by
  unfold Cert.Project.defs
  rw [defs_same]
  exact Cert.ProjectIdeal.Hand.frame m ρ

end Cert.Project.Hand

end
-- ==== Proof.MergeRow.lean ====
/- One row of the merge, over extended reals: a row normalised, the two mixers' rows gated and summed, and the stream's row. -/
module

public import Idealize.ShloMosaic.PureOps.Ideal

@[expose] public section

noncomputable section

namespace Merge

open Idealize.ShloMosaic

/-- The mean of a row. -/
def mean (f : Fin 1024 → EReal) : EReal := Ideal.div (∑ k, f k) (Ideal.ofBits .f32 0x44800000#32)

/-- A row less its mean. -/
def spread (f : Fin 1024 → EReal) (k : Fin 1024) : EReal := f k - mean f

/-- A row normalised, scaled and shifted. -/
def normalize (f g b : Fin 1024 → EReal) (k : Fin 1024) : EReal :=
  spread f k * Ideal.rsqrt (mean (fun i => spread f i * spread f i) + Ideal.ofBits .f32 0x3727C5AC#32) * g k + b k

/-- The two mixers' rows, each through its projection and its gate, summed. -/
def gated (za zb : Fin 1024 → EReal) (a b : Fin 512 → EReal) (wa wb : Fin 512 → Fin 1024 → EReal) (k : Fin 1024) : EReal :=
  Ideal.logistic (za k) * (∑ d, a d * wa d k) + Ideal.logistic (zb k) * (∑ d, b d * wb d k)

/-- A normalised row, scaled, plus a row through a projection. -/
def added (h y : Fin 1024 → EReal) (wo : Fin 1024 → Fin 1024 → EReal) (k : Fin 1024) : EReal :=
  Ideal.ofBits .f32 0x3F9837F0#32 * h k + ∑ d, y d * wo d k

theorem one_eq : Ideal.ofBits .f32 0x3F800000#32 = (1 : EReal) := by
  simp [Ideal.ofBits, Ideal.ieee]
  rw [← EReal.coe_mul]
  norm_num

end Merge

end
-- ==== Proof.ProjectRow.lean ====
/- The projections' rows, over extended reals: a row of the padded input, and a row through a matrix. -/
module

public import proofs.«01_k».proof.Proof.MergeRow

@[expose] public section

noncomputable section

namespace Project

open Idealize.ShloMosaic

/-- Row `p` of the layer's input: a pad of 112 zero rows, the 16 meta rows, the 2048 rows of the stream, the last two normalised. -/
def inputRow (x : Fin 2048 → Fin 1024 → EReal) (u : Fin 16 → Fin 1024 → EReal) (g b : Fin 1024 → EReal) (p : Fin 2176) (k : Fin 1024) : EReal :=
  if p.val < 112 then 0
  else if h : p.val < 128 then Merge.normalize (u ⟨p.val - 112, by omega⟩) g b k
  else Merge.normalize (x ⟨p.val - 128, by omega⟩) g b k

/-- An element of a row through a matrix's column, plus the column's bias. -/
def affine (h w : Fin 1024 → EReal) (b : EReal) : EReal := ∑ d, h d * w d + b

section InputRow

variable (x : Fin 2048 → Fin 1024 → EReal) (u : Fin 16 → Fin 1024 → EReal) (g b : Fin 1024 → EReal) (p : Fin 2176) (k : Fin 1024)

theorem inputRow_pad (h : p.val < 112) : inputRow x u g b p k = 0 := if_pos h

theorem inputRow_meta (r : Fin 16) (h : p.val = 112 + r.val) : inputRow x u g b p k = Merge.normalize (u r) g b k := by
  unfold inputRow
  rw [if_neg (by omega), dif_pos (by omega)]
  exact congrArg (fun r => Merge.normalize (u r) g b k) (Fin.ext (by show p.val - 112 = r.val; omega))

theorem inputRow_stream (r : Fin 2048) (h : p.val = 128 + r.val) : inputRow x u g b p k = Merge.normalize (x r) g b k := by
  unfold inputRow
  rw [if_neg (by omega), dif_neg (by omega)]
  exact congrArg (fun r => Merge.normalize (x r) g b k) (Fin.ext (by show p.val - 128 = r.val; omega))

end InputRow

end Project

end
-- ==== Proof.GateRow.lean ====
/- The forget gates, over extended reals: the logarithm of a sigmoid, and its sums down a column of rows. -/
module

public import proofs.«01_k».proof.Proof.ProjectRow

@[expose] public section

noncomputable section

namespace Gate

open Idealize.ShloMosaic

/-- The logarithm of the sigmoid of `x`, as `−(max(−x, 0) + log(1 + exp(−|x|)))`. -/
def logSigmoid (x : EReal) : EReal := -(max (-x) 0 + Ideal.log1p (Ideal.exp (-max (-x) (-(-x)))))

theorem exp_nonneg (x : EReal) : 0 ≤ Ideal.exp x := by
  induction x with
  | bot => exact le_refl _
  | top => exact le_top
  | coe r => exact EReal.coe_nonneg.mpr (Real.exp_pos r).le

/-- The logarithm of one plus something not negative is no −∞. -/
theorem log1p_ne_bot {x : EReal} (h : 0 ≤ x) : Ideal.log1p x ≠ ⊥ := by
  induction x with
  | bot => exact absurd h (by decide)
  | top =>
    unfold Ideal.log1p
    rw [EReal.add_top_of_ne_bot (by decide)]
    exact bot_ne_top.symm
  | coe r =>
    have hr : (0 : ℝ) ≤ r := EReal.coe_nonneg.mp h
    have e : (1 : EReal) + (r : EReal) = ((1 + r : ℝ) : EReal) := by push_cast; rfl
    unfold Ideal.log1p
    rw [e]
    show (if 1 + r ≤ 0 then ⊥ else (Real.log (1 + r) : EReal)) ≠ ⊥
    rw [if_neg (by linarith)]
    exact EReal.coe_ne_bot _

theorem logSigmoid_ne_top (x : EReal) : logSigmoid x ≠ ⊤ := by
  unfold logSigmoid
  rw [Ne, EReal.neg_eq_top_iff, EReal.add_eq_bot_iff, not_or]
  refine ⟨fun h => ?_, log1p_ne_bot (exp_nonneg _)⟩
  have : (0 : EReal) ≤ ⊥ := h ▸ le_max_right _ _
  exact absurd this (by decide)

/-- A number below +∞ in three parts, each what the parts before it leave, is the number. -/
theorem parts {x : EReal} (h : x ≠ ⊤) : x + (x - x) + (x - x - (x - x)) = x := by
  induction x with
  | bot => rfl
  | top => exact absurd rfl h
  | coe r => norm_cast; ring_nf

/-- A row's log gate: 0 in the pad, and in no row of the input. -/
def logGate (pre : Fin 2176 → EReal) (s : ℕ) : EReal := if h : 112 ≤ s ∧ s < 2176 then logSigmoid (pre ⟨s, h.2⟩) else 0

theorem logGate_ne_top (pre : Fin 2176 → EReal) (s : ℕ) : logGate pre s ≠ ⊤ := by
  unfold logGate
  split
  · exact logSigmoid_ne_top _
  · exact EReal.zero_ne_top

/-- The log gates of the rows up to `p`, summed. -/
def summed (f : ℕ → EReal) (p : ℕ) : EReal := ∑ s ∈ Finset.range (p + 1), f s

/-- The sum over the rows before `o`, and over those from `o` to `o + r`. -/
theorem summed_split (f : ℕ → EReal) (o r : ℕ) : (∑ i ∈ Finset.range (r + 1), f (o + i)) + ∑ s ∈ Finset.range o, f s = summed f (o + r) := by
  unfold summed
  exact (add_comm _ _).trans (Finset.sum_range_add f o (r + 1)).symm

/-- A triangle's row against a column sums the column up to the row. -/
theorem triangle (g : ℕ → EReal) (r : Fin 128) : (∑ i : Fin 128, (if i.val ≤ r.val then 1 else 0) * g i.val) = ∑ i ∈ Finset.range (r.val + 1), g i := by
  rw [Fin.sum_univ_eq_sum_range (fun i => (if i ≤ r.val then 1 else 0) * g i) 128]
  have hs : Finset.range (r.val + 1) ⊆ Finset.range 128 := Finset.range_mono (by omega)
  rw [← Finset.sum_subset hs fun i _ hi => by rw [if_neg (by simpa using hi), zero_mul]]
  refine Finset.sum_congr rfl fun i hi => ?_
  rw [if_pos (by have := Finset.mem_range.mp hi; omega), one_mul]

/-- A window of the whole height over a column padded above sums the column up to the row. -/
theorem window (f : ℕ → EReal) (p : Fin 2176) : (∑ w : Fin 2176, if 2175 ≤ p.val + w.val then f (p.val + w.val - 2175) else 0) = summed f p.val := by
  rw [Fin.sum_univ_eq_sum_range (fun w => if 2175 ≤ p.val + w then f (p.val + w - 2175) else 0) 2176]
  have hp := p.isLt
  have e : Finset.range 2176 = Finset.range ((2175 - p.val) + (p.val + 1)) := congrArg _ (by omega)
  unfold summed
  rw [e, Finset.sum_range_add, Finset.sum_eq_zero fun w hw => if_neg (by have := Finset.mem_range.mp hw; omega), zero_add]
  refine Finset.sum_congr rfl fun i _ => ?_
  rw [if_pos (by omega)]
  exact congrArg f (by omega)

/-- Two small numbers compared as words. -/
theorem word_sle (a b : ℕ) (ha : a < 2 ^ 31) (hb : b < 2 ^ 31) :
    IntOp.cmpi CmpIPredicate.sle (BitVec.ofNat 32 a) (BitVec.ofNat 32 b) = if a ≤ b then 1#1 else 0#1 := by
  have h : (BitVec.ofNat 32 a).sle (BitVec.ofNat 32 b) = decide (a ≤ b) := by
    rw [BitVec.sle_eq_decide]
    congr 1
    rw [BitVec.toInt_eq_toNat_of_lt (by rw [BitVec.toNat_ofNat]; omega), BitVec.toInt_eq_toNat_of_lt (by rw [BitVec.toNat_ofNat]; omega),
      BitVec.toNat_ofNat, BitVec.toNat_ofNat, Nat.mod_eq_of_lt (by omega), Nat.mod_eq_of_lt (by omega)]
    exact propext Int.ofNat_le
  show BitVec.ofBool ((BitVec.ofNat 32 a).sle (BitVec.ofNat 32 b)) = _
  rw [h]
  by_cases hab : a ≤ b
  · rw [if_pos hab, decide_eq_true hab]; rfl
  · rw [if_neg hab, decide_eq_false hab]; rfl

theorem word_sge (a : ℕ) (ha : a < 2 ^ 31) : IntOp.cmpi CmpIPredicate.sge (BitVec.ofNat 32 a) 112#32 = if 112 ≤ a then 1#1 else 0#1 :=
  word_sle 112 a (by omega) ha

/-- The masked rows' entry. -/
def masked : EReal := (Scalar.ofBits .f32 0x7149F2CA#32 : Ideal .f32)

/-- The entry of row `p`: the sum of the log gates up to it where it is a row of the input, and masked elsewhere. -/
def cumulated (pre : Fin 2176 → EReal) (p : ℕ) : EReal := if 112 ≤ p ∧ p < 2176 then summed (logGate pre) p else masked

end Gate

end
-- ==== Proof.ProjectBlock.lean ====
/- The projection's block: what its body computes of the blocks that it reads, at one element. -/
module

public import proofs.«01_k».proof.Proof.ProjectRow
public import proofs.«01_k».proof.Proof.Gen.ProjectIdeal.Skeleton
public import Idealize.ShloMosaic.Lib.Pointwise
public import Idealize.ShloMosaic.Lib.Pipeline.ValueKit.Basic

@[expose] public section

set_option maxRecDepth 16384

noncomputable section

namespace Project

open Cert.ProjectIdeal Cert.ProjectIdeal.Gen Idealize.ShloMosaic Idealize.ShloMosaic.TcCoe Idealize.SL.Sem

/-- A block's row. -/
abbrev rowOf {n w : ℕ} (x : Shape.Idx ⟨2, ![n, w]⟩ → EReal) (r : Fin n) : Fin w → EReal := fun k => x (ix2 r k)
/-- A block's column. -/
abbrev colOf {n w : ℕ} (x : Shape.Idx ⟨2, ![n, w]⟩ → EReal) (k : Fin w) : Fin n → EReal := fun r => x (ix2 r k)

theorem pad_rows (r : Fin 112) (k : Fin 1024) : k0_pay3 (F := Ideal) (ix2 r k) = (0 : EReal) := by
  unfold k0_pay3
  pointwise

theorem meta_rows (g b : FVec Ideal S1x1024 .f32) (u : FVec Ideal S16x1024 .f32) (r : Fin 16) (k : Fin 1024) :
    k0_pay4 (F := Ideal) g b u (ix2 r k) = Merge.normalize (rowOf u r) (rowOf g 0) (rowOf b 0) k := by
  unfold k0_pay4
  pointwise
  rfl

theorem means_rows (x : FVec Ideal S1x2048x1024 .f32) (r : Fin 2048) :
    k0_pay6 (F := Ideal) x (ix2 r 0) = Merge.mean fun i => x (ix3 0 r i) := by
  unfold k0_pay6 k0_pay5
  pointwise
  rfl

theorem stream_rows (g b : FVec Ideal S1x1024 .f32) (x : FVec Ideal S1x2048x1024 .f32) (r : Fin 2048) (k : Fin 1024) :
    k0_pay7 (F := Ideal) g b (k0_pay5 x) (k0_pay6 x) (ix2 r k) = Merge.normalize (fun i => x (ix3 0 r i)) (rowOf g 0) (rowOf b 0) k := by
  have h := means_rows x r
  unfold k0_pay7 k0_pay5
  pointwise
  simp only [h]
  rfl

theorem keys_block (h : FVec Ideal S2176x1024 .bf16) (w : FVec Ideal S1024x512 .bf16) (b : FVec Ideal S1x512 .f32) (p : Fin 2176) (k : Fin 512) :
    k0_pay8 (F := Ideal) h w b (ix3 0 p k) = affine (rowOf h p) (colOf w k) (b (ix2 0 k)) := by
  unfold k0_pay8
  pointwise
  rfl

theorem lookback_block (h : FVec Ideal S2176x1024 .bf16) (w : FVec Ideal S1024x512 .bf16) (b : FVec Ideal S1x512 .f32) (p : Fin 2176) (k : Fin 512) :
    k0_pay10 (F := Ideal) (k0_pay9 h w b) (ix3 0 p k) = affine (rowOf h p) (colOf w k) (b (ix2 0 k)) := by
  unfold k0_pay10 k0_pay9
  pointwise
  rfl

theorem lookback_tail (p : Fin 384) (k : Fin 512) : k0_pay11 (F := Ideal) (ix3 0 p k) = (0 : EReal) := by
  unfold k0_pay11
  pointwise

theorem values_block (h : FVec Ideal S2176x1024 .bf16) (w : FVec Ideal S512x1024 .bf16) (b : FVec Ideal S512x1 .f32) (n : Fin 512) (p : Fin 2176) :
    k0_pay12 (F := Ideal) h w b (ix3 0 n p) = affine (rowOf h p) (rowOf w n) (b (ix2 n 0)) := by
  unfold k0_pay12 affine
  pointwise
  exact congrArg (fun s : EReal => s + (b (ix2 n 0) : EReal)) (Finset.sum_congr rfl fun d _ => mul_comm _ _)

theorem values_tail (n : Fin 512) (p : Fin 384) : k0_pay13 (F := Ideal) (ix3 0 n p) = (0 : EReal) := by
  unfold k0_pay13
  pointwise

theorem queries_block (h : FVec Ideal S2048x1024 .bf16) (w : FVec Ideal S1024x512 .bf16) (b : FVec Ideal S1x512 .f32) (p : Fin 2048) (k : Fin 512) :
    k0_pay2 (F := Ideal) h w b (ix3 0 p k) = affine (rowOf h p) (colOf w k) (b (ix2 0 k)) := by
  unfold k0_pay2
  pointwise
  rfl

end Project

end
-- ==== Proof.GateBlock.lean ====
/- The forget gates in the projection's body: the log gates, a block of their sums, and the blocks one after the other. -/
module

public import proofs.«01_k».proof.Proof.GateRow
public import proofs.«01_k».proof.Proof.ProjectBlock

@[expose] public section

set_option maxRecDepth 16384

noncomputable section

namespace Project

open Cert.ProjectIdeal Cert.ProjectIdeal.Gen Idealize.ShloMosaic Idealize.ShloMosaic.TcCoe Idealize.SL.Sem

theorem gate_input (h : FVec Ideal S2176x1024 .bf16) (w : FVec Ideal S1024x128 .bf16) (b : FVec Ideal S1x128 .f32) (p : Fin 2176) (k : Fin 128) :
    k0_pay15 (F := Ideal) h w b (ix2 p k) = affine (rowOf h p) (colOf w k) (b (ix2 0 k)) := by
  unfold k0_pay15
  pointwise
  rfl

theorem gate_tail (p : Fin 384) (k : Fin 128) : k0_pay14 (F := Ideal) (ix3 0 p k) = Gate.masked := by
  unfold k0_pay14 Gate.masked
  pointwise

theorem gate_rows (v : FVec Ideal S2176x128 .f32) (p : Fin 2176) (k : Fin 128) : k0_pay16 (F := Ideal) v (ix2 p k) = Gate.logGate (colOf v k) p.val := by
  have hp := p.isLt
  have e : (0 : EReal) - v (ix2 p k) = -v (ix2 p k) := (sub_eq_add_neg _ _).trans (zero_add _)
  unfold k0_pay16 Gate.logGate Gate.logSigmoid
  pointwise
  rw [Gate.word_sge _ (by omega), e, if_neg (by simp : ¬(-v (ix2 p k) : EReal) ≠ -v (ix2 p k))]
  by_cases h : 112 ≤ p.val
  · rw [if_pos h, dif_pos h]
    show (0 : EReal) - _ = _
    rw [sub_eq_add_neg, zero_add, sub_eq_add_neg, zero_add]
    rfl
  · rw [if_neg h, dif_neg h]
    rfl

theorem triangle_block (r i : Fin 128) : k0_pay17 (F := Ideal) (ix2 r i) = (if i.val ≤ r.val then 1 else 0 : EReal) := by
  unfold k0_pay17
  pointwise
  rw [Gate.word_sle _ _ (by omega) (by omega)]
  by_cases h : i.val ≤ r.val
  · rw [if_pos h, if_pos h]; rfl
  · rw [if_neg h, if_neg h]; rfl

/-- The sums down a block of 128 rows, after what is carried to it. -/
def chunk (o : ℕ) (h : S2176x128.Slices ![o, 0] S128x128) (lf : FVec Ideal S2176x128 .f32) (carry : FVec Ideal S1x128 .f32) : FVec Ideal S128x128 .f32 :=
  let x : FVec Ideal S128x128 .f32 := extractStridedSlice S128x128 ![o, 0] lf h
  let hi : FVec Ideal S128x128 .bf16 := truncf .bf16 x bitsLt_bf16_f32
  let rest : FVec Ideal S128x128 .f32 := subf x (extf .f32 hi bitsLt_bf16_f32)
  let mid : FVec Ideal S128x128 .bf16 := truncf .bf16 rest bitsLt_bf16_f32
  let lo : FVec Ideal S128x128 .bf16 := truncf .bf16 (subf rest (extf .f32 mid bitsLt_bf16_f32)) bitsLt_bf16_f32
  addf (addf (addf (matmul dot_S128x128_S128x128_S128x128_1_0_0_1_n_n none (k0_pay17 (F := Ideal)) hi (constant S128x128 .f32 0x00000000#32))
      (matmul dot_S128x128_S128x128_S128x128_1_0_0_1_n_n none (k0_pay17 (F := Ideal)) mid (constant S128x128 .f32 0x00000000#32)))
      (matmul dot_S128x128_S128x128_S128x128_1_0_0_1_n_n none (k0_pay17 (F := Ideal)) lo (constant S128x128 .f32 0x00000000#32)))
    (broadcastTo S128x128 carry broadcasts_S1x128_S128x128)

theorem chunk_apply (o : ℕ) (h : S2176x128.Slices ![o, 0] S128x128) (lf : FVec Ideal S2176x128 .f32) (carry : FVec Ideal S1x128 .f32) (r k : Fin 128) (f : ℕ → EReal)
    (hf : ∀ s : Fin 2176, lf (ix2 s k) = f s.val) (ht : ∀ s, f s ≠ ⊤) :
    chunk o h lf carry (ix2 r k) = (∑ i ∈ Finset.range (r.val + 1), f (o + i)) + (carry (ix2 0 k) : EReal) := by
  have ho : o + 128 ≤ 2176 := h.2 0
  unfold chunk
  pointwise
  refine congrArg (· + (carry (ix2 0 k) : EReal)) ?_
  rw [← Finset.sum_add_distrib, ← Finset.sum_add_distrib, ← Gate.triangle]
  refine Finset.sum_congr rfl fun i _ => ?_
  have e : (lf (ix2 ⟨o + i.val, by omega⟩ k) : EReal) = f (o + i.val) := hf _
  rw [triangle_block, e]
  split
  · simp only [one_mul]
    exact Gate.parts (ht _)
  · simp only [zero_mul, add_zero]

theorem slices_at (n : ℕ) (h : n < 17) : S2176x128.Slices ![128 * n, 0] S128x128 :=
  ⟨rfl, fun a => by
    match a with
    | ⟨0, _⟩ => show 128 * n + 128 ≤ 2176; omega
    | ⟨1, _⟩ => show 0 + 128 ≤ 128; omega⟩

theorem last_row (x : FVec Ideal S128x128 .f32) (k : Fin 128) :
    extractStridedSlice S1x128 ![127, 0] x slices_S128x128_o127_0_S1x128 (ix2 0 k) = x (ix2 127 k) := by
  pointwise

/-- What is carried to block `n`: zero to the first, and to another the last row of the block before it. -/
def carryAt (lf : FVec Ideal S2176x128 .f32) : (n : ℕ) → n ≤ 17 → FVec Ideal S1x128 .f32
  | 0, _ => broadcast S1x128 (Scalar.ofBits (F := Ideal) .f32 0x00000000#32)
  | n + 1, h => extractStridedSlice S1x128 ![127, 0] (chunk (128 * n) (slices_at n h) lf (carryAt lf n (by omega))) slices_S128x128_o127_0_S1x128

/-- Block `n` of the sums. -/
def chunkAt (lf : FVec Ideal S2176x128 .f32) (n : ℕ) (h : n < 17) : FVec Ideal S128x128 .f32 := chunk (128 * n) (slices_at n h) lf (carryAt lf n (by omega))

section Sums

variable (lf : FVec Ideal S2176x128 .f32) (k : Fin 128) (f : ℕ → EReal) (hf : ∀ s : Fin 2176, lf (ix2 s k) = f s.val) (ht : ∀ s, f s ≠ ⊤)

include hf ht

theorem carryAt_apply (n : ℕ) (h : n ≤ 17) : carryAt lf n h (ix2 0 k) = ∑ s ∈ Finset.range (128 * n), f s := by
  induction n with
  | zero =>
    rw [Nat.mul_zero, Finset.sum_range_zero]
    unfold carryAt
    pointwise
  | succ n ih =>
    have e : carryAt lf (n + 1) h (ix2 0 k) = chunk (128 * n) (slices_at n h) lf (carryAt lf n (by omega)) (ix2 127 k) := last_row _ k
    rw [e, chunk_apply _ _ _ _ _ _ f hf ht, ih, Gate.summed_split]
    rfl

/-- A row of it holds the sum of the log gates up to the row. -/
theorem chunkAt_apply (n : ℕ) (h : n < 17) (r : Fin 128) : chunkAt lf n h (ix2 r k) = Gate.summed f (128 * n + r.val) := by
  unfold chunkAt
  rw [chunk_apply _ _ _ _ _ _ f hf ht, carryAt_apply lf k f hf ht, Gate.summed_split]

theorem stored_apply (n : ℕ) (h : n < 17) (r : Fin 128) :
    shapeCast S1x128x128 (chunkAt lf n h) shapeCasts_S128x128_S1x128x128 (ix3 0 r k) = Gate.summed f (128 * n + r.val) := by
  refine Eq.trans ?_ (chunkAt_apply lf k f hf ht n h r)
  pointwise

/-- The first block, masked in the pad. -/
theorem head_apply (r : Fin 128) : k0_pay20 (F := Ideal) (chunkAt lf 0 (by omega)) (iota .tc S128x128 32 [0] iota_S128x128_d0_w32) (ix3 0 r k) =
    if 112 ≤ r.val then Gate.summed f r.val else Gate.masked := by
  have hc := chunkAt_apply lf k f hf ht 0 (by omega) r
  unfold k0_pay20
  pointwise
  rw [Gate.word_sge _ (by omega), hc, Nat.mul_zero, Nat.zero_add]
  split
  · rfl
  · rfl

end Sums

end Project

end
-- ==== Proof.ProjectStores.lean ====
/- The projection's stores: what a grid point leaves in the scratch and in each result's block, at one element. -/
module

public import proofs.«01_k».proof.Proof.ProjectRun
public import proofs.«01_k».proof.Proof.ProjectBlock
public import Idealize.ShloMosaic.Lib.Pipeline.ValueKit.Tiles

@[expose] public section

set_option maxRecDepth 16384

noncomputable section

namespace Project

open Cert.ProjectIdeal Cert.ProjectIdeal.Gen Cert.ProjectIdeal.Hand Idealize.ShloMosaic Idealize.ShloMosaic.TcCoe Idealize.ShloMosaic.Tactic Idealize.SL.Sem

theorem exists_index {n w : ℕ} (j : Shape.Idx ⟨2, ![n, w]⟩) : ∃ (r : Fin n) (k : Fin w), j = ix2 r k := by
  refine ⟨⟨(j 0).val, (j 0).isLt⟩, ⟨(j 1).val, (j 1).isLt⟩, ?_⟩
  funext a; apply Fin.ext
  match a with
  | ⟨0, _⟩ => rfl
  | ⟨1, _⟩ => rfl

theorem exists_index3 {q n w : ℕ} (j : Shape.Idx ⟨3, ![q, n, w]⟩) : ∃ (i : Fin q) (r : Fin n) (k : Fin w), j = ix3 i r k := by
  refine ⟨⟨(j 0).val, (j 0).isLt⟩, ⟨(j 1).val, (j 1).isLt⟩, ⟨(j 2).val, (j 2).isLt⟩, ?_⟩
  funext a; apply Fin.ext
  match a with
  | ⟨0, _⟩ => rfl
  | ⟨1, _⟩ => rfl
  | ⟨2, _⟩ => rfl

/-- A load of a rectangle of a whole memref's contents. -/
theorem read_whole {sp : Space} {s : Shape} {e : EltTy} (arg : Memref sig .tc sp s e) (harg : arg.IsWhole) (r : Rect s) (x : s.Idx → Elt Ideal e) :
    arg.view.readAt (Elt Ideal) r.toLoadRect (harg.unread x) = View.ld x r :=
  funext fun y => congrFun (harg.read_unread x) (r.emb y)

section Rows

variable (x : FVec Ideal S1x2048x1024 .f32) (u : FVec Ideal S16x1024 .f32) (g b : FVec Ideal S1x1024 .f32)

/-- The three stores that fill the scratch, the last one first. -/
def rowPieces : List (View.Piece (Elt Ideal) S2176x1024 .bf16) :=
  [⟨Rect.unit ![128, 0] ![2048, 1024] inb_S2176x1024_S2048x1024_128_0, k0_pay7 (F := Ideal) g b (k0_pay5 x) (k0_pay6 x)⟩,
   ⟨Rect.unit ![112, 0] ![16, 1024] inb_S2176x1024_S16x1024_112_0, k0_pay4 (F := Ideal) g b u⟩,
   ⟨Rect.unit ![0, 0] ![112, 1024] inb_S2176x1024_S112x1024_0_0, k0_pay3 (F := Ideal)⟩]

theorem rowPieces_cover : ∀ y, ∃ p ∈ rowPieces x u g b, y ∈ p.1.set :=
  View.cover_of_tiledBy _ ![16, 1024] (by sl_kernel_rfl)

/-- The scratch's rows. -/
def filled : FVec Ideal S2176x1024 .bf16 := View.canon (rowPieces x u g b)

/-- They are the padded input's. -/
theorem filled_apply (p : Fin 2176) (k : Fin 1024) :
    filled x u g b (ix2 p k) = inputRow (fun r i => x (ix3 0 r i)) (rowOf u) (rowOf g 0) (rowOf b 0) p k := by
  refine View.canon_apply_of_pieces (fun y : S2176x1024.Idx => inputRow (fun r i => x (ix3 0 r i)) (rowOf u) (rowOf g 0) (rowOf b 0) (y 0) (y 1))
    (rowPieces x u g b) ?_ (ix2 p k) (rowPieces_cover x u g b _)
  unfold rowPieces
  simp only [List.forall_mem_cons, List.not_mem_nil, false_imp_iff, implies_true, and_true]
  refine ⟨fun y => ?_, fun y => ?_, fun y => ?_⟩
  · obtain ⟨r, i, rfl⟩ := exists_index y
    refine (stream_rows g b x r i).trans ?_
    refine Eq.trans ?_ (inputRow_stream _ _ _ _ _ _ r (by show 128 + 1 * r.val = 128 + r.val; omega)).symm
    exact congrArg _ (Fin.ext (by show i.val = 0 + 1 * i.val; omega))
  · obtain ⟨r, i, rfl⟩ := exists_index y
    refine (meta_rows g b u r i).trans ?_
    refine Eq.trans ?_ (inputRow_meta _ _ _ _ _ _ r (by show 112 + 1 * r.val = 112 + r.val; omega)).symm
    exact congrArg _ (Fin.ext (by show i.val = 0 + 1 * i.val; omega))
  · obtain ⟨r, i, rfl⟩ := exists_index y
    refine (pad_rows r i).trans (inputRow_pad _ _ _ _ _ _ (by show 0 + 1 * r.val < 112; omega)).symm

end Rows

/-! ## The first point's stores -/

section First

variable (m : (ℓ : Loc nD τ sig) → Buf (Elt Ideal) ℓ) (c : Dev nD) (t : Fin cfg0.N) (h : t.val % 7 = 0)

/-- A batch's rows, as its first point fills them. -/
abbrev filledAt : FVec Ideal S2176x1024 .bf16 := filled (iblk m c 0 t) (iblk m c 1 t) (iblk m c 2 t) (iblk m c 3 t)

theorem ld_stream {e : EltTy} (y : S1x2048x1024.Idx → Elt Ideal e) : View.ld y (Rect.unit ![0, 0, 0] ![1, 2048, 1024] inb_S1x2048x1024_S1x2048x1024_0_0_0) = y :=
  View.ld_unit_lit _ _ (by decide)
theorem ld_meta {e : EltTy} (y : S16x1024.Idx → Elt Ideal e) : View.ld y (Rect.unit ![0, 0] ![16, 1024] inb_S16x1024_S16x1024_0_0) = y := View.ld_unit_lit _ _ (by decide)
theorem ld_vector {e : EltTy} (y : S1x1024.Idx → Elt Ideal e) : View.ld y (Rect.unit ![0, 0] ![1, 1024] inb_S1x1024_S1x1024_0_0) = y := View.ld_unit_lit _ _ (by decide)
theorem ld_valueWeight {e : EltTy} (y : S512x1024.Idx → Elt Ideal e) : View.ld y (Rect.unit ![0, 0] ![512, 1024] inb_S512x1024_S512x1024_0_0) = y := View.ld_unit_lit _ _ (by decide)
theorem ld_valueBias {e : EltTy} (y : S512x1.Idx → Elt Ideal e) : View.ld y (Rect.unit ![0, 0] ![512, 1] inb_S512x1_S512x1_0_0) = y := View.ld_unit_lit _ _ (by decide)
theorem ld_queryWeight {e : EltTy} (y : S1024x512.Idx → Elt Ideal e) : View.ld y (Rect.unit ![0, 0] ![1024, 512] inb_S1024x512_S1024x512_0_0) = y := View.ld_unit_lit _ _ (by decide)
theorem ld_queryBias {e : EltTy} (y : S1x512.Idx → Elt Ideal e) : View.ld y (Rect.unit ![0, 0] ![1, 512] inb_S1x512_S1x512_0_0) = y := View.ld_unit_lit _ _ (by decide)

theorem first_rows : (first m c t h).2.2.2.2 = rowPieces (iblk m c 0 t) (iblk m c 1 t) (iblk m c 2 t) (iblk m c 3 t) := by
  unfold first firstRun rowPieces
  dsimp only
  sl_unfold_words
  simp only [read_whole, ld_stream, ld_meta, ld_vector]

/-- A load of the whole scratch. -/
theorem filled_load : (View.whole cc0_scratch0).readCov (rowPieces (iblk m c 0 t) (iblk m c 1 t) (iblk m c 2 t) (iblk m c 3 t))
    (Rect.unit ![0, 0] ![2176, 1024] inb_S2176x1024_S2176x1024_0_0).toLoadRect = filledAt m c t :=
  (View.readCov_eq_canon_ld _ _ _ (rowPieces_cover _ _ _ _)).trans (View.ld_unit_lit _ _ (by decide))

theorem first_keys : (first m c t h).1 = [⟨Rect.unit ![0, 0, 0] ![1, 2176, 512] inb_S1x2176x512_S1x2176x512_0_0_0,
    k0_pay8 (F := Ideal) (filledAt m c t) (View.ld (iblk m c 4 t) (Rect.unit ![0, 0] ![1024, 512] inb_S1024x1024_S1024x512_0_0))
      (View.ld (iblk m c 5 t) (Rect.unit ![0, 0] ![1, 512] inb_S1x1024_S1x512_0_0))⟩] := by
  rw [← filled_load]
  unfold first firstRun rowPieces
  dsimp only
  sl_unfold_words
  simp only [read_whole, ld_stream, ld_meta, ld_vector]
  rfl

theorem first_lookback : (first m c t h).2.1 = [⟨Rect.unit ![0, 2176, 0] ![1, 384, 512] inb_S1x2560x512_S1x384x512_0_2176_0, k0_pay11 (F := Ideal)⟩,
    ⟨Rect.unit ![0, 0, 0] ![1, 2176, 512] inb_S1x2560x512_S1x2176x512_0_0_0,
      k0_pay10 (F := Ideal) (k0_pay9 (filledAt m c t) (View.ld (iblk m c 4 t) (Rect.unit ![0, 512] ![1024, 512] inb_S1024x1024_S1024x512_0_512))
        (View.ld (iblk m c 5 t) (Rect.unit ![0, 512] ![1, 512] inb_S1x1024_S1x512_0_512)))⟩] := by
  rw [← filled_load]
  unfold first firstRun rowPieces
  dsimp only
  sl_unfold_words
  simp only [read_whole, ld_stream, ld_meta, ld_vector]
  rfl

theorem first_values : (first m c t h).2.2.1 = [⟨Rect.unit ![0, 0, 2176] ![1, 512, 384] inb_S1x512x2560_S1x512x384_0_0_2176, k0_pay13 (F := Ideal)⟩,
    ⟨Rect.unit ![0, 0, 0] ![1, 512, 2176] inb_S1x512x2560_S1x512x2176_0_0_0,
      k0_pay12 (F := Ideal) (filledAt m c t) (iblk m c 6 t) (iblk m c 7 t)⟩] := by
  rw [← filled_load]
  unfold first firstRun rowPieces
  dsimp only
  sl_unfold_words
  simp only [read_whole, ld_stream, ld_meta, ld_vector, ld_valueWeight, ld_valueBias]

theorem later_queries (h : t.val % 7 ≠ 0) : later m c t h = [⟨Rect.unit ![0, 0, 0] ![1, 2048, 512] inb_S1x2048x512_S1x2048x512_0_0_0,
    k0_pay2 (F := Ideal) (View.ld (rows m c t) (Rect.unit ![128, 0] ![2048, 1024] inb_S2176x1024_S2048x1024_128_0)) (iblk m c 10 t) (iblk m c 11 t)⟩] := by
  rw [← read_whole scratch scratch_whole]
  unfold later laterRun
  dsimp only
  sl_unfold_words
  simp only [read_whole, ld_queryWeight, ld_queryBias]

/-! ## What the blocks hold -/

/-- The padded input's row `p`, of a batch's stream block. -/
abbrev inputAt (p : Fin 2176) : Fin 1024 → EReal :=
  inputRow (fun r i => iblk m c 0 t (ix3 0 r i)) (rowOf (iblk m c 1 t)) (rowOf (iblk m c 2 t) 0) (rowOf (iblk m c 3 t) 0) p

theorem filled_row (p : Fin 2176) : rowOf (filledAt m c t) p = inputAt m c t p := funext fun k => filled_apply _ _ _ _ p k

theorem rows_row (p : Fin 2176) : rowOf (rows m c t) p = inputAt m c (base t) p := by
  unfold rows
  rw [first_rows]
  exact filled_row m c (base t) p

theorem keys_apply (p : Fin 2176) (k : Fin 512) : View.canon (first m c t h).1 (ix3 0 p k) =
    affine (inputAt m c t p) (colOf (iblk m c 4 t) ⟨k.val, by omega⟩) (iblk m c 5 t (ix2 0 ⟨k.val, by omega⟩)) := by
  rw [first_keys, View.canon_cons_unit_lit _ _ _ (by decide)]
  refine (keys_block _ _ _ p k).trans ?_
  rw [filled_row]
  refine congrArg₂ (affine _) (funext fun d => ?_) ?_
  · exact View.ld_unit_apply_of _ _ _ _ _ _ fun a => by
      match a with
      | ⟨0, _⟩ => show d.val = 0 + d.val; omega
      | ⟨1, _⟩ => show k.val = 0 + k.val; omega
  · exact View.ld_unit_apply_of _ _ _ _ _ _ fun a => by
      match a with
      | ⟨0, _⟩ => rfl
      | ⟨1, _⟩ => show k.val = 0 + k.val; omega

theorem lookback_apply (p : Fin 2560) (k : Fin 512) : View.canon (first m c t h).2.1 (ix3 0 p k) =
    if hp : p.val < 2176 then affine (inputAt m c t ⟨p.val, hp⟩) (colOf (iblk m c 4 t) ⟨512 + k.val, by omega⟩) (iblk m c 5 t (ix2 0 ⟨512 + k.val, by omega⟩)) else 0 := by
  refine View.canon_apply_of_pieces (fun y : S1x2560x512.Idx => if hp : (y 1).val < 2176 then affine (inputAt m c t ⟨(y 1).val, hp⟩)
      (colOf (iblk m c 4 t) ⟨512 + (y 2).val, by have : (y 2).val < 512 := (y 2).isLt; omega⟩)
      (iblk m c 5 t (ix2 0 ⟨512 + (y 2).val, by have : (y 2).val < 512 := (y 2).isLt; omega⟩)) else 0)
    _ ?_ (ix3 0 p k) (cover13 m c t h _)
  rw [first_lookback]
  simp only [List.forall_mem_cons, List.not_mem_nil, false_imp_iff, implies_true, and_true]
  refine ⟨fun y => ?_, fun y => ?_⟩
  · obtain ⟨i, r, k, rfl⟩ := exists_index3 y
    obtain rfl : i = 0 := Subsingleton.elim _ _
    refine (lookback_tail r k).trans (Eq.symm ?_)
    refine dif_neg ?_
    show ¬2176 + 1 * r.val < 2176
    omega
  · obtain ⟨i, r, k, rfl⟩ := exists_index3 y
    obtain rfl : i = 0 := Subsingleton.elim _ _
    refine (lookback_block _ _ _ r k).trans (Eq.trans ?_ (dif_pos (by show 0 + 1 * r.val < 2176; omega)).symm)
    rw [filled_row]
    have e : (⟨0 + 1 * r.val, by omega⟩ : Fin 2176) = r := Fin.ext (by show 0 + 1 * r.val = r.val; omega)
    refine congr (congr (congrArg affine (congrArg (inputAt m c t) e.symm)) (funext fun d => ?_)) ?_
    · exact View.ld_unit_apply_of _ _ _ _ _ _ fun a => by
        match a with
        | ⟨0, _⟩ => show d.val = 0 + d.val; omega
        | ⟨1, _⟩ => show 512 + (0 + 1 * k.val) = 512 + k.val; omega
    · exact View.ld_unit_apply_of _ _ _ _ _ _ fun a => by
        match a with
        | ⟨0, _⟩ => rfl
        | ⟨1, _⟩ => show 512 + (0 + 1 * k.val) = 512 + k.val; omega

theorem values_apply (n : Fin 512) (p : Fin 2560) : View.canon (first m c t h).2.2.1 (ix3 0 n p) =
    if hp : p.val < 2176 then affine (inputAt m c t ⟨p.val, hp⟩) (rowOf (iblk m c 6 t) n) (iblk m c 7 t (ix2 n 0)) else 0 := by
  refine View.canon_apply_of_pieces (fun y : S1x512x2560.Idx => if hp : (y 2).val < 2176 then affine (inputAt m c t ⟨(y 2).val, hp⟩)
      (rowOf (iblk m c 6 t) (y 1)) (iblk m c 7 t (ix2 (y 1) 0)) else 0)
    _ ?_ (ix3 0 n p) (cover14 m c t h _)
  rw [first_values]
  simp only [List.forall_mem_cons, List.not_mem_nil, false_imp_iff, implies_true, and_true]
  refine ⟨fun y => ?_, fun y => ?_⟩
  · obtain ⟨i, n, r, rfl⟩ := exists_index3 y
    obtain rfl : i = 0 := Subsingleton.elim _ _
    refine (values_tail n r).trans (Eq.symm ?_)
    refine dif_neg ?_
    show ¬2176 + 1 * r.val < 2176
    omega
  · obtain ⟨i, n, r, rfl⟩ := exists_index3 y
    obtain rfl : i = 0 := Subsingleton.elim _ _
    refine (values_block _ _ _ n r).trans (Eq.trans ?_ (dif_pos (by show 0 + 1 * r.val < 2176; omega)).symm)
    rw [filled_row]
    have e : (⟨0 + 1 * r.val, by omega⟩ : Fin 2176) = r := Fin.ext (by show 0 + 1 * r.val = r.val; omega)
    have e' : (⟨0 + 1 * n.val, by omega⟩ : Fin 512) = n := Fin.ext (by show 0 + 1 * n.val = n.val; omega)
    exact congr (congr (congrArg affine (congrArg (inputAt m c t) e.symm)) (congrArg (rowOf (iblk m c 6 t)) e'.symm)) (congrArg (fun i => iblk m c 7 t (ix2 i 0)) e'.symm)

theorem queries_apply (h : t.val % 7 ≠ 0) (r : Fin 2048) (k : Fin 512) : View.canon (later m c t h) (ix3 0 r k) =
    affine (inputAt m c (base t) ⟨128 + r.val, by omega⟩) (colOf (iblk m c 10 t) k) (iblk m c 11 t (ix2 0 k)) := by
  rw [later_queries, View.canon_cons_unit_lit _ _ _ (by decide)]
  refine (queries_block _ _ _ r k).trans ?_
  rw [← rows_row]
  refine congrArg (fun f => affine f _ _) (funext fun d => ?_)
  exact View.ld_unit_apply_of _ _ _ _ _ _ fun a => by
    match a with
    | ⟨0, _⟩ => rfl
    | ⟨1, _⟩ => show d.val = 0 + d.val; omega

end First

end Project

end
-- ==== Proof.GateStores.lean ====
/- The forget gates' block as a batch's first point leaves it, at one element. -/
module

public import proofs.«01_k».proof.Proof.GateBlock
public import proofs.«01_k».proof.Proof.ProjectStores

@[expose] public section

set_option maxRecDepth 16384

noncomputable section

namespace Project

open Cert.ProjectIdeal Cert.ProjectIdeal.Gen Cert.ProjectIdeal.Hand Idealize.ShloMosaic Idealize.ShloMosaic.TcCoe Idealize.ShloMosaic.Tactic Idealize.SL.Sem

theorem inside_at (n : ℕ) (h : n < 17) : ∀ a, (![0, 128 * n, 0] : Fin 3 → ℕ) a + S1x128x128.size a ≤ S1x2560x128.size a := fun a => by
  match a with
  | ⟨0, _⟩ => show 0 + 1 ≤ 1; omega
  | ⟨1, _⟩ => show 128 * n + 128 ≤ 2560; omega
  | ⟨2, _⟩ => show 0 + 128 ≤ 128; omega

/-- The stores of the blocks up to `n`, the last one first, after the store of the rows past the input. -/
def gatePieces (lf : FVec Ideal S2176x128 .f32) : (n : ℕ) → n < 17 → List (View.Piece (Elt Ideal) S1x2560x128 .f32)
  | 0, _ => [⟨Rect.unit ![0, 0, 0] ![1, 128, 128] inb_S1x2560x128_S1x128x128_0_0_0,
        k0_pay20 (F := Ideal) (chunkAt lf 0 (by omega)) (iota .tc S128x128 32 [0] iota_S128x128_d0_w32)⟩,
      ⟨Rect.unit ![0, 2176, 0] ![1, 384, 128] inb_S1x2560x128_S1x384x128_0_2176_0, k0_pay14 (F := Ideal)⟩]
  | n + 1, h => ⟨Rect.unit ![0, 128 * (n + 1), 0] ![1, 128, 128] (inside_at (n + 1) h), shapeCast S1x128x128 (chunkAt lf (n + 1) h) shapeCasts_S128x128_S1x128x128⟩ ::
      gatePieces lf n (by omega)

/-- A block's row in the array. -/
theorem row_emb (o : ℕ) (ho : o + 128 ≤ 2560) (h : ∀ a, (![0, o, 0] : Fin 3 → ℕ) a + S1x128x128.size a ≤ S1x2560x128.size a) (r k : Fin 128) :
    (Rect.unit (s := S1x2560x128) ![0, o, 0] ![1, 128, 128] h).emb (ix3 0 r k) = ix3 0 ⟨o + r.val, by omega⟩ k := by
  funext a; apply Fin.ext
  match a with
  | ⟨0, _⟩ => rfl
  | ⟨1, _⟩ => show o + 1 * r.val = o + r.val; omega
  | ⟨2, _⟩ => show 0 + 1 * k.val = k.val; omega

section Pieces

variable (lf : FVec Ideal S2176x128 .f32) (pre : Fin 128 → Fin 2176 → EReal) (hf : ∀ (k : Fin 128) (s : Fin 2176), lf (ix2 s k) = Gate.logGate (pre k) s.val)

include hf

/-- Each holds the cumulated log gates of its rows. -/
theorem gatePieces_hold (n : ℕ) (h : n < 17) : ∀ p ∈ gatePieces lf n h, ∀ y : p.1.shape.Idx,
    p.2 y = (fun z : S1x2560x128.Idx => Gate.cumulated (pre (z 2)) (z 1).val) (p.1.emb y) := by
  induction n with
  | zero =>
    unfold gatePieces
    simp only [List.forall_mem_cons, List.not_mem_nil, false_imp_iff, implies_true, and_true]
    refine ⟨fun y => ?_, fun y => ?_⟩
    · obtain ⟨i, r, k, rfl⟩ := exists_index3 y
      obtain rfl : i = 0 := Subsingleton.elim _ _
      refine (head_apply lf k _ (hf k) (Gate.logGate_ne_top _) r).trans ?_
      rw [row_emb 0 (by omega) _ r k]
      unfold Gate.cumulated
      show _ = if 112 ≤ 0 + r.val ∧ 0 + r.val < 2176 then Gate.summed (Gate.logGate (pre k)) (0 + r.val) else Gate.masked
      rw [Nat.zero_add]
      exact if_congr ⟨fun h => ⟨h, by omega⟩, And.left⟩ rfl rfl
    · obtain ⟨i, r, k, rfl⟩ := exists_index3 y
      obtain rfl : i = 0 := Subsingleton.elim _ _
      refine (gate_tail r k).trans (Eq.symm (if_neg ?_))
      show ¬(112 ≤ 2176 + 1 * r.val ∧ 2176 + 1 * r.val < 2176)
      omega
  | succ n ih =>
    unfold gatePieces
    refine List.forall_mem_cons.mpr ⟨fun y => ?_, ih _⟩
    obtain ⟨i, r, k, rfl⟩ := exists_index3 y
    obtain rfl : i = 0 := Subsingleton.elim _ _
    refine (stored_apply lf k _ (hf k) (Gate.logGate_ne_top _) (n + 1) h r).trans ?_
    rw [row_emb (128 * (n + 1)) (by omega) _ r k]
    exact (if_pos (by show 112 ≤ 128 * (n + 1) + r.val ∧ 128 * (n + 1) + r.val < 2176; omega)).symm

end Pieces

variable (m : (ℓ : Loc nD τ sig) → Buf (Elt Ideal) ℓ) (c : Dev nD) (t : Fin cfg0.N) (h : t.val % 7 = 0)

theorem ld_gateWeight {e : EltTy} (y : S1024x128.Idx → Elt Ideal e) : View.ld y (Rect.unit ![0, 0] ![1024, 128] inb_S1024x128_S1024x128_0_0) = y := View.ld_unit_lit _ _ (by decide)
theorem ld_gateBias {e : EltTy} (y : S1x128.Idx → Elt Ideal e) : View.ld y (Rect.unit ![0, 0] ![1, 128] inb_S1x128_S1x128_0_0) = y := View.ld_unit_lit _ _ (by decide)

theorem first_gates : (first m c t h).2.2.2.1 = gatePieces (k0_pay16 (F := Ideal) (k0_pay15 (filledAt m c t) (iblk m c 8 t) (iblk m c 9 t))) 16 (by omega) := by
  rw [← filled_load]
  unfold first firstRun rowPieces
  dsimp only
  sl_unfold_words
  simp only [read_whole, ld_stream, ld_meta, ld_vector, ld_gateWeight, ld_gateBias]
  rfl

/-- The block of gates. -/
theorem gates_apply (p : Fin 2560) (k : Fin 128) : View.canon (first m c t h).2.2.2.1 (ix3 0 p k) =
    Gate.cumulated (fun s => affine (inputAt m c t s) (colOf (iblk m c 8 t) k) (iblk m c 9 t (ix2 0 k))) p.val := by
  refine View.canon_apply_of_pieces (fun y : S1x2560x128.Idx => Gate.cumulated (fun s => affine (inputAt m c t s) (colOf (iblk m c 8 t) (y 2)) (iblk m c 9 t (ix2 0 (y 2)))) (y 1).val)
    _ ?_ (ix3 0 p k) (cover15 m c t h _)
  rw [first_gates]
  refine gatePieces_hold _ (fun k s => affine (inputAt m c t s) (colOf (iblk m c 8 t) k) (iblk m c 9 t (ix2 0 k))) (fun k s => ?_) 16 (by omega)
  refine (gate_rows _ s k).trans (congrArg (fun f => Gate.logGate f s.val) (funext fun q => ?_))
  refine (gate_input _ _ _ q k).trans ?_
  rw [filled_row]

end Project

end
-- ==== Proof.ProjectRef.lean ====
/- The projections' reference as a composition, and its value at one element. -/
module

public import proofs.«01_k».proof.Proof.ProjectRow
public import proofs.«01_k».proof.Proof.Gen.ProjectReferenceIdeal.Run
public import Idealize.ShloMosaic.Lib.Pointwise

@[expose] public section

set_option maxRecDepth 16384

noncomputable section

namespace ProjectRef

open Cert.ProjectReferenceIdeal Cert.ProjectReferenceIdeal.Gen Idealize.ShloMosaic Idealize.ShloMosaic.TcCoe Idealize.SL.Sem

/-- The meta rows before every batch's stream. -/
def stacked (x : FVec Ideal S8x2048x1024 .f32) (u : FVec Ideal S16x1024 .f32) : FVec Ideal S8x2064x1024 .f32 :=
  concatenate S8x2064x1024 1 [⟨S8x16x1024, broadcastInDim S8x16x1024 ![1, 2] bcast_S16x1024_S8x16x1024_1_2 u⟩, ⟨S8x2048x1024, x⟩]
    concatenates_S8x16x1024_S8x2048x1024_S8x2064x1024_d1

/-- The rows' means. -/
def means (x : FVec Ideal S8x2064x1024 .f32) : FVec Ideal S8x2064x1 .f32 :=
  Host.divf (broadcastInDim S8x2064x1 ![0, 1] bcast_S8x2064_S8x2064x1_0_1 (Host.reduceAdd x (constant S_ .f32 0x00000000#32) reducesTo_S8x2064x1024_S8x2064_d2 h_S_))
    (broadcastInDim S8x2064x1 ![] bcast_S_S8x2064x1 (constant S_ .f32 0x44800000#32))

/-- The rows less their means. -/
def spreads (x : FVec Ideal S8x2064x1024 .f32) : FVec Ideal S8x2064x1024 .f32 :=
  subf x (broadcastInDim S8x2064x1024 ![0, 1, 2] bcast_S8x2064x1_S8x2064x1024_0_1_2 (means x))

/-- One vector for every row. -/
def everywhere (g : FVec Ideal S1x1024 .f32) : FVec Ideal S8x2064x1024 .f32 :=
  broadcastInDim S8x2064x1024 ![0, 1, 2] bcast_S1x1x1024_S8x2064x1024_0_1_2 (broadcastInDim S1x1x1024 ![1, 2] bcast_S1x1024_S1x1x1024_1_2 g)

/-- The rows normalised, scaled and shifted. -/
def normalized (x : FVec Ideal S8x2064x1024 .f32) (g b : FVec Ideal S1x1024 .f32) : FVec Ideal S8x2064x1024 .f32 :=
  addf (mulf (mulf (spreads x) (broadcastInDim S8x2064x1024 ![0, 1, 2] bcast_S8x2064x1_S8x2064x1024_0_1_2
      (Host.rsqrt (addf (means (mulf (spreads x) (spreads x))) (broadcastInDim S8x2064x1 ![] bcast_S_S8x2064x1 (constant S_ .f32 0x3727C5AC#32))))))
      (everywhere g)) (everywhere b)

/-- The fill of a pad. -/
def fill : FVec Ideal S_ .f32 := sitofp .f32 (constantI S_ 32 0#32)

/-- The layer's input: the normalised rows after a pad. -/
def input (x : FVec Ideal S8x2048x1024 .f32) (u : FVec Ideal S16x1024 .f32) (g b : FVec Ideal S1x1024 .f32) : FVec Ideal S8x2176x1024 .f32 :=
  pad S8x2176x1024 ![0, 112, 0] ![0, 0, 0] ![0, 0, 0] (normalized (stacked x u) g b) fill pads_S8x2064x1024_S8x2176x1024_000_11200_000 h_S_

/-- Keys and values of the first mixer beside the keys of the second. -/
def keys (h : FVec Ideal S8x2176x1024 .f32) (w : FVec Ideal S1024x1024 .bf16) (b : FVec Ideal S1x1024 .f32) : FVec Ideal S8x2176x1024 .f32 :=
  addf (Host.dotGeneral dot_S8x2176x1024_S1024x1024_S8x2176x1024_2_0_01_1_n_n none h (extf .f32 w bitsLt_bf16_f32))
    (broadcastInDim S8x2176x1024 ![0, 1, 2] bcast_S1x1x1024_S8x2176x1024_0_1_2 (broadcastInDim S1x1x1024 ![1, 2] bcast_S1x1024_S1x1x1024_1_2 b))

def firstKeys (h : FVec Ideal S8x2176x1024 .f32) (w : FVec Ideal S1024x1024 .bf16) (b : FVec Ideal S1x1024 .f32) : FVec Ideal S8x2176x512 .bf16 :=
  truncf .bf16 (extractStridedSlice S8x2176x512 ![0, 0, 0] (keys h w b) slices_S8x2176x1024_S8x2176x512_0_0_0) bitsLt_bf16_f32

def secondKeys (h : FVec Ideal S8x2176x1024 .f32) (w : FVec Ideal S1024x1024 .bf16) (b : FVec Ideal S1x1024 .f32) : FVec Ideal S8x2560x512 .bf16 :=
  truncf .bf16 (pad S8x2560x512 ![0, 0, 0] ![0, 384, 0] ![0, 0, 0] (extractStridedSlice S8x2176x512 ![0, 0, 512] (keys h w b) slices_S8x2176x1024_S8x2176x512_0_0_512)
    fill pads_S8x2176x512_S8x2560x512_000_03840_000 h_S_) bitsLt_bf16_f32

/-- The second mixer's values, transposed. -/
def values (h : FVec Ideal S8x2176x1024 .f32) (w : FVec Ideal S512x1024 .bf16) (b : FVec Ideal S512x1 .f32) : FVec Ideal S8x512x2176 .f32 :=
  addf (transpose S8x512x2176 [0, 2, 1] (Host.dotGeneral dot_S8x2176x1024_S512x1024_S8x2176x512_2_1_01_0_n_n none h (extf .f32 w bitsLt_bf16_f32)) transposes_S8x2176x512_S8x512x2176_0_2_1)
    (broadcastInDim S8x512x2176 ![0, 1, 2] bcast_S1x512x1_S8x512x2176_0_1_2 (broadcastInDim S1x512x1 ![1, 2] bcast_S512x1_S1x512x1_1_2 b))

def secondValues (h : FVec Ideal S8x2176x1024 .f32) (w : FVec Ideal S512x1024 .bf16) (b : FVec Ideal S512x1 .f32) : FVec Ideal S8x512x2560 .bf16 :=
  truncf .bf16 (pad S8x512x2560 ![0, 0, 0] ![0, 0, 384] ![0, 0, 0] (values h w b) fill pads_S8x512x2176_S8x512x2560_000_000_03840 h_S_) bitsLt_bf16_f32

/-- The queries and the gates of the stream's rows. -/
def queries (h : FVec Ideal S8x2176x1024 .f32) (w : FVec Ideal S1024x3072 .bf16) (b : FVec Ideal S1x3072 .f32) : FVec Ideal S8x2048x3072 .bf16 :=
  truncf .bf16 (addf (Host.dotGeneral dot_S8x2048x1024_S1024x3072_S8x2048x3072_2_0_01_1_n_n none
      (extractStridedSlice S8x2048x1024 ![0, 128, 0] h slices_S8x2176x1024_S8x2048x1024_0_128_0) (extf .f32 w bitsLt_bf16_f32))
    (broadcastInDim S8x2048x3072 ![0, 1, 2] bcast_S1x1x3072_S8x2048x3072_0_1_2 (broadcastInDim S1x1x3072 ![1, 2] bcast_S1x3072_S1x1x3072_1_2 b))) bitsLt_bf16_f32

/-- The rows after the pad through the gates' matrix. -/
def gateInput (h : FVec Ideal S8x2176x1024 .f32) (w : FVec Ideal S1024x128 .bf16) (b : FVec Ideal S1x128 .f32) : FVec Ideal S8x2064x128 .f32 :=
  addf (Host.dotGeneral dot_S8x2064x1024_S1024x128_S8x2064x128_2_0_01_1_n_n none
      (extractStridedSlice S8x2064x1024 ![0, 112, 0] h slices_S8x2176x1024_S8x2064x1024_0_112_0) (extf .f32 w bitsLt_bf16_f32))
    (broadcastInDim S8x2064x128 ![0, 1, 2] bcast_S1x1x128_S8x2064x128_0_1_2 (broadcastInDim S1x1x128 ![1, 2] bcast_S1x128_S1x1x128_1_2 b))

/-- Zero, everywhere. -/
def zeros : FVec Ideal S8x2064x128 .f32 := broadcastInDim S8x2064x128 ![] bcast_S_S8x2064x128 (constant S_ .f32 0x00000000#32)

/-- The logarithm of the sigmoid. -/
def logGates (v : FVec Ideal S8x2064x128 .f32) : FVec Ideal S8x2064x128 .f32 :=
  Host.negf (select (cmpf .une (subf (Host.negf v) zeros) (subf (Host.negf v) zeros)) (addf (Host.negf v) zeros)
    (addf (maximumf (Host.negf v) zeros) (Host.log1p (Host.exp (Host.negf (Host.absf (subf (Host.negf v) zeros)))))))

/-- The log gates after a pad, and their sums. -/
def paddedGates (v : FVec Ideal S8x2064x128 .f32) : FVec Ideal S8x2176x128 .f32 :=
  pad S8x2176x128 ![0, 112, 0] ![0, 0, 0] ![0, 0, 0] (logGates v) fill pads_S8x2064x128_S8x2176x128_000_11200_000 h_S_
def sums (v : FVec Ideal S8x2176x128 .f32) : FVec Ideal S8x2176x128 .f32 :=
  Host.reduceWindowAdd ![1, 2176, 1] ![1, 1, 1] ![0, 2175, 0] ![0, 0, 0] v (broadcastInDim S_ ![] bcast_S_S_ (constant S_ .f32 0x00000000#32))
    reduceWindows_S8x2176x128_S8x2176x128_w1s1p0_0_w2176s1p2175_0_w1s1p0_0 h_S_

/-- The cumulated log gates, masked in the pads. -/
def gates (h : FVec Ideal S8x2176x1024 .f32) (w : FVec Ideal S1024x128 .bf16) (b : FVec Ideal S1x128 .f32) : FVec Ideal S8x2560x128 .f32 :=
  pad S8x2560x128 ![0, 112, 0] ![0, 384, 0] ![0, 0, 0]
    (extractStridedSlice S8x2064x128 ![0, 112, 0] (sums (paddedGates (gateInput h w b))) slices_S8x2176x128_S8x2064x128_0_112_0)
    (id (constant S_ .f32 0x7149F2CA#32)) pads_S8x2064x128_S8x2560x128_000_1123840_000 h_S_

section Result

variable (m : (ℓ : Loc nD τ sig) → Buf (Elt Ideal) ℓ) (c : Dev nD)

/-- The layer's input that the arguments call for. -/
def inputOf : FVec Ideal S8x2176x1024 .f32 :=
  input (m ((c.tc : Thread nD τ).loc main_arg0)) (m ((c.tc : Thread nD τ).loc main_arg1)) (m ((c.tc : Thread nD τ).loc main_arg2)) (m ((c.tc : Thread nD τ).loc main_arg3))

theorem gates_eq : Value.res_out3 m c = gates (inputOf m c) (m ((c.tc : Thread nD τ).loc main_arg8)) (m ((c.tc : Thread nD τ).loc main_arg9)) := by
  unfold Value.res_out3 Value.res_main_v50
  rfl

theorem secondKeys_eq : Value.res_out1 m c = secondKeys (inputOf m c) (m ((c.tc : Thread nD τ).loc main_arg4)) (m ((c.tc : Thread nD τ).loc main_arg5)) := by
  unfold Value.res_out1 Value.res_main_v58
  rfl

theorem secondValues_eq : Value.res_out2 m c = secondValues (inputOf m c) (m ((c.tc : Thread nD τ).loc main_arg6)) (m ((c.tc : Thread nD τ).loc main_arg7)) := by
  unfold Value.res_out2 Value.res_main_v59
  rfl

variable (ρ : Dev nD → PrngReg)

/-- The reference's run, its results as the compositions above. -/
theorem run : θ_run defs (onTc (τ := τ) (main (F := Ideal))) ⟨m, fun _ => 0, ρ⟩ fun r => ∀ c : Dev nD,
    (r.2.mem ((c.tc : Thread nD τ).loc main_v57) = firstKeys (inputOf m c) (m ((c.tc : Thread nD τ).loc main_arg4)) (m ((c.tc : Thread nD τ).loc main_arg5))
    ∧ r.2.mem ((c.tc : Thread nD τ).loc main_v58) = secondKeys (inputOf m c) (m ((c.tc : Thread nD τ).loc main_arg4)) (m ((c.tc : Thread nD τ).loc main_arg5))
    ∧ r.2.mem ((c.tc : Thread nD τ).loc main_v59) = secondValues (inputOf m c) (m ((c.tc : Thread nD τ).loc main_arg6)) (m ((c.tc : Thread nD τ).loc main_arg7))
    ∧ r.2.mem ((c.tc : Thread nD τ).loc main_v50) = gates (inputOf m c) (m ((c.tc : Thread nD τ).loc main_arg8)) (m ((c.tc : Thread nD τ).loc main_arg9))
    ∧ r.2.mem ((c.tc : Thread nD τ).loc main_v60) = queries (inputOf m c) (m ((c.tc : Thread nD τ).loc main_arg10)) (m ((c.tc : Thread nD τ).loc main_arg11)))
    ∧ (r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun _ h c => ⟨⟨(h c).1.trans rfl, (h c).2.1.trans (secondKeys_eq m c), (h c).2.2.1.trans (secondValues_eq m c),
    (h c).2.2.2.1.trans (gates_eq m c), (h c).2.2.2.2.1.trans rfl⟩, (h c).2.2.2.2.2⟩)
    (Value.run (F := Ideal) m ρ)

end Result

/-! ## At one element -/

/-- A row of an array of three axes. -/
abbrev rowOf3 {q n w : ℕ} (x : Shape.Idx ⟨3, ![q, n, w]⟩ → EReal) (i : Fin q) (r : Fin n) : Fin w → EReal := fun k => x (ix3 i r k)
abbrev rowOf {n w : ℕ} (x : Shape.Idx ⟨2, ![n, w]⟩ → EReal) (r : Fin n) : Fin w → EReal := fun k => x (ix2 r k)
abbrev colOf {n w : ℕ} (x : Shape.Idx ⟨2, ![n, w]⟩ → EReal) (k : Fin w) : Fin n → EReal := fun r => x (ix2 r k)

theorem fill_apply (i : S_.Idx) : fill i = (0 : EReal) := by
  show (((0#32 : BitVec 32).toInt : ℝ) : EReal) = 0
  simp

theorem means_apply (x : FVec Ideal S8x2064x1024 .f32) (i : Fin 8) (r : Fin 2064) : means x (ix3 i r 0) = Merge.mean (rowOf3 x i r) := by
  unfold means
  pointwise
  rfl

theorem spreads_apply (x : FVec Ideal S8x2064x1024 .f32) (i : Fin 8) (r : Fin 2064) (k : Fin 1024) : spreads x (ix3 i r k) = Merge.spread (rowOf3 x i r) k := by
  have h := means_apply x i r
  unfold spreads
  pointwise
  rw [h]
  rfl

theorem everywhere_apply (g : FVec Ideal S1x1024 .f32) (i : Fin 8) (r : Fin 2064) (k : Fin 1024) : everywhere g (ix3 i r k) = (g (ix2 0 k) : EReal) := by
  unfold everywhere
  pointwise

theorem normalized_apply (x : FVec Ideal S8x2064x1024 .f32) (g b : FVec Ideal S1x1024 .f32) (i : Fin 8) (r : Fin 2064) (k : Fin 1024) :
    normalized x g b (ix3 i r k) = Merge.normalize (rowOf3 x i r) (rowOf g 0) (rowOf b 0) k := by
  have h := means_apply (mulf (spreads x) (spreads x)) i r
  have hs : rowOf3 (mulf (spreads x) (spreads x)) i r = fun j => Merge.spread (rowOf3 x i r) j * Merge.spread (rowOf3 x i r) j :=
    funext fun j => congrArg₂ (fun u v : EReal => u * v) (spreads_apply x i r j) (spreads_apply x i r j)
  rw [hs] at h
  have h' := spreads_apply x i r k
  have hg := everywhere_apply g i r k
  have hb := everywhere_apply b i r k
  unfold normalized
  pointwise
  rw [h, h', hg, hb]
  rfl

theorem stacked_meta (x : FVec Ideal S8x2048x1024 .f32) (u : FVec Ideal S16x1024 .f32) (i : Fin 8) (r : Fin 16) (k : Fin 1024) :
    stacked x u (ix3 i ⟨r.val, by omega⟩ k) = (u (ix2 r k) : EReal) := by
  unfold stacked
  pointwise

theorem stacked_stream (x : FVec Ideal S8x2048x1024 .f32) (u : FVec Ideal S16x1024 .f32) (i : Fin 8) (r : Fin 2048) (k : Fin 1024) :
    stacked x u (ix3 i ⟨16 + r.val, by omega⟩ k) = (x (ix3 i r k) : EReal) := by
  unfold stacked
  pointwise

theorem input_apply (x : FVec Ideal S8x2048x1024 .f32) (u : FVec Ideal S16x1024 .f32) (g b : FVec Ideal S1x1024 .f32) (i : Fin 8) (p : Fin 2176) (k : Fin 1024) :
    input x u g b (ix3 i p k) = Project.inputRow (rowOf3 x i) (rowOf u) (rowOf g 0) (rowOf b 0) p k := by
  unfold input
  pointwise
  have hp := p.isLt
  unfold Project.inputRow
  by_cases h1 : p.val < 112
  · rw [dif_neg (by omega), if_pos h1, fill_apply]
  · rw [dif_pos (by omega), if_neg h1]
    refine (normalized_apply _ g b i _ k).trans ?_
    by_cases h2 : p.val < 128
    · rw [dif_pos h2]
      exact congrArg (fun f => Merge.normalize f (rowOf g 0) (rowOf b 0) k) (funext fun d => stacked_meta x u i ⟨p.val - 112, by omega⟩ d)
    · rw [dif_neg h2]
      refine congrArg (fun f => Merge.normalize f (rowOf g 0) (rowOf b 0) k) (funext fun d => ?_)
      refine Eq.trans (congrArg (fun e => stacked x u (ix3 i e d)) (Fin.ext ?_)) (stacked_stream x u i ⟨p.val - 128, by omega⟩ d)
      show p.val - 112 = 16 + (p.val - 128)
      omega

theorem keys_apply (h : FVec Ideal S8x2176x1024 .f32) (w : FVec Ideal S1024x1024 .bf16) (b : FVec Ideal S1x1024 .f32) (i : Fin 8) (p : Fin 2176) (k : Fin 1024) :
    keys h w b (ix3 i p k) = Project.affine (rowOf3 h i p) (colOf w k) (b (ix2 0 k)) := by
  unfold keys
  pointwise
  rfl

theorem firstKeys_apply (h : FVec Ideal S8x2176x1024 .f32) (w : FVec Ideal S1024x1024 .bf16) (b : FVec Ideal S1x1024 .f32) (i : Fin 8) (p : Fin 2176) (k : Fin 512) :
    firstKeys h w b (ix3 i p k) = Project.affine (rowOf3 h i p) (colOf w ⟨k.val, by omega⟩) (b (ix2 0 ⟨k.val, by omega⟩)) := by
  refine Eq.trans ?_ (keys_apply h w b i p ⟨k.val, by omega⟩)
  unfold firstKeys
  pointwise

theorem secondKeys_apply (h : FVec Ideal S8x2176x1024 .f32) (w : FVec Ideal S1024x1024 .bf16) (b : FVec Ideal S1x1024 .f32) (i : Fin 8) (p : Fin 2560) (k : Fin 512) :
    secondKeys h w b (ix3 i p k) = if hp : p.val < 2176 then Project.affine (rowOf3 h i ⟨p.val, hp⟩) (colOf w ⟨512 + k.val, by omega⟩) (b (ix2 0 ⟨512 + k.val, by omega⟩)) else 0 := by
  unfold secondKeys
  pointwise
  split
  · exact keys_apply h w b i _ _
  · exact fill_apply _

theorem values_apply (h : FVec Ideal S8x2176x1024 .f32) (w : FVec Ideal S512x1024 .bf16) (b : FVec Ideal S512x1 .f32) (i : Fin 8) (n : Fin 512) (p : Fin 2176) :
    values h w b (ix3 i n p) = Project.affine (rowOf3 h i p) (rowOf w n) (b (ix2 n 0)) := by
  unfold values
  pointwise
  rfl

theorem secondValues_apply (h : FVec Ideal S8x2176x1024 .f32) (w : FVec Ideal S512x1024 .bf16) (b : FVec Ideal S512x1 .f32) (i : Fin 8) (n : Fin 512) (p : Fin 2560) :
    secondValues h w b (ix3 i n p) = if hp : p.val < 2176 then Project.affine (rowOf3 h i ⟨p.val, hp⟩) (rowOf w n) (b (ix2 n 0)) else 0 := by
  unfold secondValues
  pointwise
  split
  · exact values_apply h w b i n _
  · exact fill_apply _

theorem queries_apply (h : FVec Ideal S8x2176x1024 .f32) (w : FVec Ideal S1024x3072 .bf16) (b : FVec Ideal S1x3072 .f32) (i : Fin 8) (r : Fin 2048) (k : Fin 3072) :
    queries h w b (ix3 i r k) = Project.affine (rowOf3 h i ⟨128 + r.val, by omega⟩) (colOf w k) (b (ix2 0 k)) := by
  unfold queries
  pointwise
  rfl

end ProjectRef

end
-- ==== Proof.GateRef.lean ====
/- The reference's forget gates: their value at one element. -/
module

public import proofs.«01_k».proof.Proof.GateRow
public import proofs.«01_k».proof.Proof.ProjectRef

@[expose] public section

set_option maxRecDepth 16384

noncomputable section

namespace ProjectRef

open Cert.ProjectReferenceIdeal Cert.ProjectReferenceIdeal.Gen Idealize.ShloMosaic Idealize.ShloMosaic.TcCoe Idealize.SL.Sem

theorem gateInput_apply (h : FVec Ideal S8x2176x1024 .f32) (w : FVec Ideal S1024x128 .bf16) (b : FVec Ideal S1x128 .f32) (i : Fin 8) (r : Fin 2064) (k : Fin 128) :
    gateInput h w b (ix3 i r k) = Project.affine (rowOf3 h i ⟨112 + r.val, by omega⟩) (colOf w k) (b (ix2 0 k)) := by
  unfold gateInput
  pointwise
  rfl

theorem logGates_apply (v : FVec Ideal S8x2064x128 .f32) (i : Fin 8) (r : Fin 2064) (k : Fin 128) : logGates v (ix3 i r k) = Gate.logSigmoid (v (ix3 i r k)) := by
  unfold logGates zeros Gate.logSigmoid
  pointwise
  rw [if_neg (by simp)]
  rfl

theorem paddedGates_apply (v : FVec Ideal S8x2064x128 .f32) (i : Fin 8) (p : Fin 2176) (k : Fin 128) (pre : Fin 2176 → EReal)
    (hp : ∀ r : Fin 2064, v (ix3 i r k) = pre ⟨112 + r.val, by omega⟩) : paddedGates v (ix3 i p k) = Gate.logGate pre p.val := by
  have hlt := p.isLt
  unfold paddedGates Gate.logGate
  pointwise
  by_cases h : 112 ≤ p.val
  · rw [dif_pos ⟨h, by omega⟩, dif_pos h]
    refine (logGates_apply v i _ k).trans (congrArg Gate.logSigmoid ((hp _).trans (congrArg pre (Fin.ext ?_))))
    show 112 + (p.val - 112) = p.val
    omega
  · rw [dif_neg (fun h' => h h'.1), dif_neg h]
    exact fill_apply _

/-- A running sum down the middle axis, at one element, whatever the sizes. -/
theorem running {B H N T : ℕ} (hT : T + 1 = H) (x : Shape.Idx ⟨3, ![B, H, N]⟩ → EReal)
    (h : (⟨3, ![B, H, N]⟩ : Shape).ReduceWindows ![1, H, 1] ![1, 1, 1] ![0, T, 0] ![0, 0, 0] ⟨3, ![B, H, N]⟩) (i : Fin B) (p : Fin H) (k : Fin N) (f : ℕ → EReal)
    (hf : ∀ s : Fin H, x (ix3 i s k) = f s.val) :
    Ideal.hostReduceWindowAdd ![1, H, 1] ![1, 1, 1] ![0, T, 0] ![0, 0, 0] h x 0 (ix3 i p k) = ∑ w : Fin H, if T ≤ p.val + w.val then f (p.val + w.val - T) else 0 := by
  unfold Ideal.hostReduceWindowAdd Host.reduceWindow
  refine Eq.trans (congrArg (fun g => List.foldl g 0 _) (funext fun a => funext fun n => congrArg (a + ·) (dite_congr rfl (fun _ => rfl) fun _ => rfl)))
    ((sum_idx_eq_foldl (M := EReal) ⟨3, ![1, H, 1]⟩ (fun y => if hin : ∀ a : Fin 3, (![0, T, 0] : Fin 3 → ℕ) a ≤ (ix3 i p k a).val * (![1, 1, 1] : Fin 3 → ℕ) a + (y a).val ∧
      (ix3 i p k a).val * (![1, 1, 1] : Fin 3 → ℕ) a + (y a).val - (![0, T, 0] : Fin 3 → ℕ) a < (![B, H, N] : Fin 3 → ℕ) a
    then (x fun a => ⟨(ix3 i p k a).val * (![1, 1, 1] : Fin 3 → ℕ) a + (y a).val - (![0, T, 0] : Fin 3 → ℕ) a, (hin a).2⟩ : EReal) else 0)).symm.trans ?_)
  rw [sum_idx3, Fin.sum_univ_one]
  simp only [Fin.sum_univ_one]
  refine Finset.sum_congr rfl fun w _ => ?_
  by_cases hw : T ≤ p.val + w.val
  · rw [if_pos hw, dif_pos]
    · refine Eq.trans (congrArg x (funext fun a => Fin.ext ?_)) (hf ⟨p.val + w.val - T, by omega⟩)
      match a with
      | ⟨0, _⟩ => show i.val * 1 + 0 - 0 = i.val; omega
      | ⟨1, _⟩ => show p.val * 1 + w.val - T = p.val + w.val - T; omega
      | ⟨2, _⟩ => show k.val * 1 + 0 - 0 = k.val; omega
    · intro a
      match a with
      | ⟨0, _⟩ => show 0 ≤ i.val * 1 + 0 ∧ i.val * 1 + 0 - 0 < B; omega
      | ⟨1, _⟩ => show T ≤ p.val * 1 + w.val ∧ p.val * 1 + w.val - T < H; omega
      | ⟨2, _⟩ => show 0 ≤ k.val * 1 + 0 ∧ k.val * 1 + 0 - 0 < N; omega
  · rw [if_neg hw, dif_neg]
    intro hin
    have : T ≤ p.val * 1 + w.val := (hin 1).1
    omega

theorem sums_apply (v : FVec Ideal S8x2176x128 .f32) (i : Fin 8) (p : Fin 2176) (k : Fin 128) (f : ℕ → EReal)
    (hf : ∀ s : Fin 2176, v (ix3 i s k) = f s.val) : sums v (ix3 i p k) = Gate.summed f p.val := by
  have hz : (broadcastInDim S_ ![] bcast_S_S_ (constant (F := Ideal) S_ .f32 0x00000000#32)) (Shape.Idx.first h_S_) = (0 : EReal) := by pointwise
  unfold sums Host.reduceWindowAdd
  rw [hz]
  exact (running rfl v _ i p k f hf).trans (Gate.window f p)

theorem gates_apply (h : FVec Ideal S8x2176x1024 .f32) (w : FVec Ideal S1024x128 .bf16) (b : FVec Ideal S1x128 .f32) (i : Fin 8) (p : Fin 2560) (k : Fin 128) :
    gates h w b (ix3 i p k) = Gate.cumulated (fun s => Project.affine (rowOf3 h i s) (colOf w k) (b (ix2 0 k))) p.val := by
  have hs := fun q : Fin 2176 => sums_apply (paddedGates (gateInput h w b)) i q k _ fun s =>
    paddedGates_apply (gateInput h w b) i s k (fun s => Project.affine (rowOf3 h i s) (colOf w k) (b (ix2 0 k))) fun r => gateInput_apply h w b i r k
  unfold gates Gate.cumulated
  pointwise
  by_cases hp : 112 ≤ p.val ∧ p.val < 2176
  · rw [dif_pos ⟨hp.1, by omega⟩, if_pos hp]
    refine (hs _).trans (congrArg (Gate.summed _) ?_)
    show 112 + (p.val - 112) = p.val
    omega
  · rw [dif_neg (fun h' => hp ⟨h'.1, by omega⟩), if_neg hp]
    rfl

end ProjectRef

end
-- ==== Proof.ProjectWhole.lean ====
/- The projection's results: each grid point's blocks are the reference's, and the blocks cover the five arrays. -/
module

public import proofs.«01_k».proof.Proof.GateStores
public import proofs.«01_k».proof.Proof.GateRef

@[expose] public section

set_option maxRecDepth 16384

noncomputable section

namespace Project

open Cert.ProjectIdeal Cert.ProjectIdeal.Gen Cert.ProjectIdeal.Hand Idealize.ShloMosaic Idealize.ShloMosaic.TcCoe Idealize.SL.Sem

/-- A grid point's batch. -/
def batch (t : Fin cfg0.N) : Fin 8 := ⟨t.val / 7, by have h : t.val < 56 := t.isLt; omega⟩

theorem batch_base (t : Fin cfg0.N) : batch (base t) = batch t :=
  Fin.ext (by show (t.val - t.val % 7) / 7 = t.val / 7; omega)

/-- Column `k` of a later point's block of queries and gates, as a column of the array. -/
def queryCol (t : Fin cfg0.N) (k : Fin 512) : Fin 3072 := ⟨512 * (t.val % 7 - 1) + k.val, by omega⟩

/-! ## Blocks -/

theorem index_stream : ∀ t : Fin cfg0.N, win0_0.index t (0 : Fin 3) = t.val / 7 ∧ win0_0.index t (1 : Fin 3) = 0 ∧ win0_0.index t (2 : Fin 3) = 0 :=
  (by decide +kernel : ∀ t : Fin grid0.N, win0_0.index t (0 : Fin 3) = t.val / 7 ∧ win0_0.index t (1 : Fin 3) = 0 ∧ win0_0.index t (2 : Fin 3) = 0)

theorem index_still : ∀ (t : Fin cfg0.N) (a : Fin 2), win0_1.index t a = 0 ∧ win0_2.index t a = 0 ∧ win0_3.index t a = 0 ∧ win0_4.index t a = 0 ∧
    win0_5.index t a = 0 ∧ win0_6.index t a = 0 ∧ win0_7.index t a = 0 :=
  (by decide +kernel : ∀ (t : Fin grid0.N) (a : Fin 2), win0_1.index t a = 0 ∧ win0_2.index t a = 0 ∧ win0_3.index t a = 0 ∧ win0_4.index t a = 0 ∧
    win0_5.index t a = 0 ∧ win0_6.index t a = 0 ∧ win0_7.index t a = 0)

theorem index_queries : ∀ t : Fin cfg0.N, (win0_10.index t (0 : Fin 2) = 0 ∧ win0_10.index t (1 : Fin 2) = t.val % 7 - 1) ∧
    (win0_11.index t (0 : Fin 2) = 0 ∧ win0_11.index t (1 : Fin 2) = t.val % 7 - 1) ∧
    (win0_16.index t (0 : Fin 3) = t.val / 7 ∧ win0_16.index t (1 : Fin 3) = 0 ∧ win0_16.index t (2 : Fin 3) = t.val % 7 - 1) :=
  (by decide +kernel : ∀ t : Fin grid0.N, (win0_10.index t (0 : Fin 2) = 0 ∧ win0_10.index t (1 : Fin 2) = t.val % 7 - 1) ∧
    (win0_11.index t (0 : Fin 2) = 0 ∧ win0_11.index t (1 : Fin 2) = t.val % 7 - 1) ∧
    (win0_16.index t (0 : Fin 3) = t.val / 7 ∧ win0_16.index t (1 : Fin 3) = 0 ∧ win0_16.index t (2 : Fin 3) = t.val % 7 - 1))

theorem index_batches : ∀ t : Fin cfg0.N, (win0_12.index t (0 : Fin 3) = t.val / 7 ∧ win0_12.index t (1 : Fin 3) = 0 ∧ win0_12.index t (2 : Fin 3) = 0) ∧
    (win0_13.index t (0 : Fin 3) = t.val / 7 ∧ win0_13.index t (1 : Fin 3) = 0 ∧ win0_13.index t (2 : Fin 3) = 0) ∧
    (win0_14.index t (0 : Fin 3) = t.val / 7 ∧ win0_14.index t (1 : Fin 3) = 0 ∧ win0_14.index t (2 : Fin 3) = 0) :=
  (by decide +kernel : ∀ t : Fin grid0.N, (win0_12.index t (0 : Fin 3) = t.val / 7 ∧ win0_12.index t (1 : Fin 3) = 0 ∧ win0_12.index t (2 : Fin 3) = 0) ∧
    (win0_13.index t (0 : Fin 3) = t.val / 7 ∧ win0_13.index t (1 : Fin 3) = 0 ∧ win0_13.index t (2 : Fin 3) = 0) ∧
    (win0_14.index t (0 : Fin 3) = t.val / 7 ∧ win0_14.index t (1 : Fin 3) = 0 ∧ win0_14.index t (2 : Fin 3) = 0))

theorem index_gates : ∀ t : Fin cfg0.N, (∀ a : Fin 2, win0_8.index t a = 0 ∧ win0_9.index t a = 0) ∧
    win0_15.index t (0 : Fin 3) = t.val / 7 ∧ win0_15.index t (1 : Fin 3) = 0 ∧ win0_15.index t (2 : Fin 3) = 0 :=
  (by decide +kernel : ∀ t : Fin grid0.N, (∀ a : Fin 2, win0_8.index t a = 0 ∧ win0_9.index t a = 0) ∧
    win0_15.index t (0 : Fin 3) = t.val / 7 ∧ win0_15.index t (1 : Fin 3) = 0 ∧ win0_15.index t (2 : Fin 3) = 0)

section Blocks

variable (m : (ℓ : Loc nD τ sig) → Buf (Elt Ideal) ℓ) (c : Dev nD) (t : Fin cfg0.N)

theorem stream_block (r : Fin 2048) (k : Fin 1024) : iblk m c 0 t (ix3 0 r k) = m ((c : Thread nD τ).loc main_arg0) (ix3 (batch t) r k) := by
  show m ((c : Thread nD τ).loc main_arg0) (((cfg0.win 0).blk t).view.emb (ix3 0 r k)) = _
  obtain ⟨e0, e1, e2⟩ := index_stream t
  refine congrArg _ ?_
  funext a; apply Fin.ext
  match a with
  | ⟨0, _⟩ => show win0_0.index t (0 : Fin 3) * 1 + 1 * 0 = t.val / 7; omega
  | ⟨1, _⟩ => show win0_0.index t (1 : Fin 3) * 2048 + 1 * r.val = r.val; omega
  | ⟨2, _⟩ => show win0_0.index t (2 : Fin 3) * 1024 + 1 * k.val = k.val; omega

theorem queryWeight_block (d : Fin 1024) (k : Fin 512) : iblk m c 10 t (ix2 d k) = m ((c : Thread nD τ).loc main_arg10) (ix2 d (queryCol t k)) := by
  show m ((c : Thread nD τ).loc main_arg10) (((cfg0.win 10).blk t).view.emb (ix2 d k)) = _
  obtain ⟨⟨e0, e1⟩, -⟩ := index_queries t
  refine congrArg _ ?_
  funext a; apply Fin.ext
  match a with
  | ⟨0, _⟩ => show win0_10.index t (0 : Fin 2) * 1024 + 1 * d.val = d.val; omega
  | ⟨1, _⟩ => show win0_10.index t (1 : Fin 2) * 512 + 1 * k.val = 512 * (t.val % 7 - 1) + k.val; omega

theorem queryBias_block (k : Fin 512) : iblk m c 11 t (ix2 0 k) = m ((c : Thread nD τ).loc main_arg11) (ix2 0 (queryCol t k)) := by
  show m ((c : Thread nD τ).loc main_arg11) (((cfg0.win 11).blk t).view.emb (ix2 0 k)) = _
  obtain ⟨-, ⟨e0, e1⟩, -⟩ := index_queries t
  refine congrArg _ ?_
  funext a; apply Fin.ext
  match a with
  | ⟨0, _⟩ => show win0_11.index t (0 : Fin 2) * 1 + 1 * 0 = 0; omega
  | ⟨1, _⟩ => show win0_11.index t (1 : Fin 2) * 512 + 1 * k.val = 512 * (t.val % 7 - 1) + k.val; omega

/-! A window that never moves reads its whole array. -/

theorem meta_block : iblk m c 1 t = m ((c : Thread nD τ).loc main_arg1) := by
  funext y
  refine congrArg (m ((c : Thread nD τ).loc main_arg1)) (funext fun a => Fin.ext ?_)
  show win0_1.index t a * S16x1024.size a + 1 * (y a).val = (y a).val
  rw [(index_still t a).1]; omega

theorem scale_block : iblk m c 2 t = m ((c : Thread nD τ).loc main_arg2) := by
  funext y
  refine congrArg (m ((c : Thread nD τ).loc main_arg2)) (funext fun a => Fin.ext ?_)
  show win0_2.index t a * S1x1024.size a + 1 * (y a).val = (y a).val
  rw [(index_still t a).2.1]; omega

theorem shift_block : iblk m c 3 t = m ((c : Thread nD τ).loc main_arg3) := by
  funext y
  refine congrArg (m ((c : Thread nD τ).loc main_arg3)) (funext fun a => Fin.ext ?_)
  show win0_3.index t a * S1x1024.size a + 1 * (y a).val = (y a).val
  rw [(index_still t a).2.2.1]; omega

theorem keyWeight_block : iblk m c 4 t = m ((c : Thread nD τ).loc main_arg4) := by
  funext y
  refine congrArg (m ((c : Thread nD τ).loc main_arg4)) (funext fun a => Fin.ext ?_)
  show win0_4.index t a * S1024x1024.size a + 1 * (y a).val = (y a).val
  rw [(index_still t a).2.2.2.1]; omega

theorem keyBias_block : iblk m c 5 t = m ((c : Thread nD τ).loc main_arg5) := by
  funext y
  refine congrArg (m ((c : Thread nD τ).loc main_arg5)) (funext fun a => Fin.ext ?_)
  show win0_5.index t a * S1x1024.size a + 1 * (y a).val = (y a).val
  rw [(index_still t a).2.2.2.2.1]; omega

theorem valueWeight_block : iblk m c 6 t = m ((c : Thread nD τ).loc main_arg6) := by
  funext y
  refine congrArg (m ((c : Thread nD τ).loc main_arg6)) (funext fun a => Fin.ext ?_)
  show win0_6.index t a * S512x1024.size a + 1 * (y a).val = (y a).val
  rw [(index_still t a).2.2.2.2.2.1]; omega

theorem valueBias_block : iblk m c 7 t = m ((c : Thread nD τ).loc main_arg7) := by
  funext y
  refine congrArg (m ((c : Thread nD τ).loc main_arg7)) (funext fun a => Fin.ext ?_)
  show win0_7.index t a * S512x1.size a + 1 * (y a).val = (y a).val
  rw [(index_still t a).2.2.2.2.2.2]; omega

theorem gateWeight_block : iblk m c 8 t = m ((c : Thread nD τ).loc main_arg8) := by
  funext y
  refine congrArg (m ((c : Thread nD τ).loc main_arg8)) (funext fun a => Fin.ext ?_)
  show win0_8.index t a * S1024x128.size a + 1 * (y a).val = (y a).val
  rw [((index_gates t).1 a).1]; omega

theorem gateBias_block : iblk m c 9 t = m ((c : Thread nD τ).loc main_arg9) := by
  funext y
  refine congrArg (m ((c : Thread nD τ).loc main_arg9)) (funext fun a => Fin.ext ?_)
  show win0_9.index t a * S1x128.size a + 1 * (y a).val = (y a).val
  rw [((index_gates t).1 a).2]; omega

theorem keys_emb (p : Fin 2176) (k : Fin 512) : ((cfg0.win 12).blk t).view.emb (ix3 0 p k) = ix3 (batch t) p k := by
  obtain ⟨⟨e0, e1, e2⟩, -⟩ := index_batches t
  funext a; apply Fin.ext
  match a with
  | ⟨0, _⟩ => show win0_12.index t (0 : Fin 3) * 1 + 1 * 0 = t.val / 7; omega
  | ⟨1, _⟩ => show win0_12.index t (1 : Fin 3) * 2176 + 1 * p.val = p.val; omega
  | ⟨2, _⟩ => show win0_12.index t (2 : Fin 3) * 512 + 1 * k.val = k.val; omega

theorem lookback_emb (p : Fin 2560) (k : Fin 512) : ((cfg0.win 13).blk t).view.emb (ix3 0 p k) = ix3 (batch t) p k := by
  obtain ⟨-, ⟨e0, e1, e2⟩, -⟩ := index_batches t
  funext a; apply Fin.ext
  match a with
  | ⟨0, _⟩ => show win0_13.index t (0 : Fin 3) * 1 + 1 * 0 = t.val / 7; omega
  | ⟨1, _⟩ => show win0_13.index t (1 : Fin 3) * 2560 + 1 * p.val = p.val; omega
  | ⟨2, _⟩ => show win0_13.index t (2 : Fin 3) * 512 + 1 * k.val = k.val; omega

theorem values_emb (n : Fin 512) (p : Fin 2560) : ((cfg0.win 14).blk t).view.emb (ix3 0 n p) = ix3 (batch t) n p := by
  obtain ⟨-, -, ⟨e0, e1, e2⟩⟩ := index_batches t
  funext a; apply Fin.ext
  match a with
  | ⟨0, _⟩ => show win0_14.index t (0 : Fin 3) * 1 + 1 * 0 = t.val / 7; omega
  | ⟨1, _⟩ => show win0_14.index t (1 : Fin 3) * 512 + 1 * n.val = n.val; omega
  | ⟨2, _⟩ => show win0_14.index t (2 : Fin 3) * 2560 + 1 * p.val = p.val; omega

theorem gates_emb (p : Fin 2560) (k : Fin 128) : ((cfg0.win 15).blk t).view.emb (ix3 0 p k) = ix3 (batch t) p k := by
  obtain ⟨-, e0, e1, e2⟩ := index_gates t
  funext a; apply Fin.ext
  match a with
  | ⟨0, _⟩ => show win0_15.index t (0 : Fin 3) * 1 + 1 * 0 = t.val / 7; omega
  | ⟨1, _⟩ => show win0_15.index t (1 : Fin 3) * 2560 + 1 * p.val = p.val; omega
  | ⟨2, _⟩ => show win0_15.index t (2 : Fin 3) * 128 + 1 * k.val = k.val; omega

theorem queries_emb (r : Fin 2048) (k : Fin 512) : ((cfg0.win 16).blk t).view.emb (ix3 0 r k) = ix3 (batch t) r (queryCol t k) := by
  obtain ⟨-, -, ⟨e0, e1, e2⟩⟩ := index_queries t
  funext a; apply Fin.ext
  match a with
  | ⟨0, _⟩ => show win0_16.index t (0 : Fin 3) * 1 + 1 * 0 = t.val / 7; omega
  | ⟨1, _⟩ => show win0_16.index t (1 : Fin 3) * 2048 + 1 * r.val = r.val; omega
  | ⟨2, _⟩ => show win0_16.index t (2 : Fin 3) * 512 + 1 * k.val = 512 * (t.val % 7 - 1) + k.val; omega

end Blocks

/-! ## The five arrays -/

section Final

variable (m : (ℓ : Loc nD τ sig) → Buf (Elt Ideal) ℓ) (c : Dev nD)

/-- The layer's input that the arguments call for. -/
def inputOf : FVec Ideal Cert.ProjectReferenceIdeal.S8x2176x1024 .f32 :=
  ProjectRef.input (m ((c : Thread nD τ).loc main_arg0)) (m ((c : Thread nD τ).loc main_arg1)) (m ((c : Thread nD τ).loc main_arg2)) (m ((c : Thread nD τ).loc main_arg3))

/-- The five arrays that they call for. -/
def keysOf : FVec Ideal S8x2176x512 .bf16 :=
  ProjectRef.firstKeys (inputOf m c) (m ((c : Thread nD τ).loc main_arg4)) (m ((c : Thread nD τ).loc main_arg5))
def lookbackOf : FVec Ideal S8x2560x512 .bf16 :=
  ProjectRef.secondKeys (inputOf m c) (m ((c : Thread nD τ).loc main_arg4)) (m ((c : Thread nD τ).loc main_arg5))
def valuesOf : FVec Ideal S8x512x2560 .bf16 :=
  ProjectRef.secondValues (inputOf m c) (m ((c : Thread nD τ).loc main_arg6)) (m ((c : Thread nD τ).loc main_arg7))
def gatesOf : FVec Ideal S8x2560x128 .f32 :=
  ProjectRef.gates (inputOf m c) (m ((c : Thread nD τ).loc main_arg8)) (m ((c : Thread nD τ).loc main_arg9))
def queriesOf : FVec Ideal S8x2048x3072 .bf16 :=
  ProjectRef.queries (inputOf m c) (m ((c : Thread nD τ).loc main_arg10)) (m ((c : Thread nD τ).loc main_arg11))

/-- The rows that the body fills the scratch with are the reference's. -/
theorem inputAt_eq (t : Fin cfg0.N) (p : Fin 2176) : inputAt m c t p = ProjectRef.rowOf3 (inputOf m c) (batch t) p := by
  funext k
  unfold inputAt inputOf
  refine Eq.trans ?_ (ProjectRef.input_apply _ _ _ _ (batch t) p k).symm
  rw [meta_block, scale_block, shift_block]
  exact congrArg (fun x => inputRow x _ _ _ p k) (funext fun r => funext fun i => stream_block m c t r i)

/-- What a point writes back is its block of the first keys and values. -/
theorem keys_flushed (t : Fin cfg0.N) : (dats m 0 c).flushed 12 t = ((cfg0.win 12).blk t).view.read (Elt Ideal) (keysOf m c) := by
  funext j
  obtain ⟨i, p, k, rfl⟩ := exists_index3 j
  obtain rfl : i = 0 := Subsingleton.elim _ _
  show (dats m 0 c).after 12 t (ix3 0 p k) = keysOf m c (((cfg0.win 12).blk t).view.emb (ix3 0 p k))
  rw [after12, keys_emb]
  refine (keys_apply m c (base t) (base_mod t) p k).trans (Eq.trans ?_ (ProjectRef.firstKeys_apply _ _ _ (batch t) p k).symm)
  rw [inputAt_eq, batch_base, keyWeight_block, keyBias_block]

/-- Of the second keys. -/
theorem lookback_flushed (t : Fin cfg0.N) : (dats m 0 c).flushed 13 t = ((cfg0.win 13).blk t).view.read (Elt Ideal) (lookbackOf m c) := by
  funext j
  obtain ⟨i, p, k, rfl⟩ := exists_index3 j
  obtain rfl : i = 0 := Subsingleton.elim _ _
  show (dats m 0 c).after 13 t (ix3 0 p k) = lookbackOf m c (((cfg0.win 13).blk t).view.emb (ix3 0 p k))
  rw [after13, lookback_emb]
  refine (lookback_apply m c (base t) (base_mod t) p k).trans (Eq.trans ?_ (ProjectRef.secondKeys_apply _ _ _ (batch t) p k).symm)
  simp only [inputAt_eq, batch_base, keyWeight_block, keyBias_block]

/-- Of the second values. -/
theorem values_flushed (t : Fin cfg0.N) : (dats m 0 c).flushed 14 t = ((cfg0.win 14).blk t).view.read (Elt Ideal) (valuesOf m c) := by
  funext j
  obtain ⟨i, n, p, rfl⟩ := exists_index3 j
  obtain rfl : i = 0 := Subsingleton.elim _ _
  show (dats m 0 c).after 14 t (ix3 0 n p) = valuesOf m c (((cfg0.win 14).blk t).view.emb (ix3 0 n p))
  rw [after14, values_emb]
  refine (values_apply m c (base t) (base_mod t) n p).trans (Eq.trans ?_ (ProjectRef.secondValues_apply _ _ _ (batch t) n p).symm)
  simp only [inputAt_eq, batch_base, valueWeight_block, valueBias_block]

/-- Of the cumulated log forget gates. -/
theorem gates_flushed (t : Fin cfg0.N) : (dats m 0 c).flushed 15 t = ((cfg0.win 15).blk t).view.read (Elt Ideal) (gatesOf m c) := by
  funext j
  obtain ⟨i, p, k, rfl⟩ := exists_index3 j
  obtain rfl : i = 0 := Subsingleton.elim _ _
  show (dats m 0 c).after 15 t (ix3 0 p k) = gatesOf m c (((cfg0.win 15).blk t).view.emb (ix3 0 p k))
  rw [after15, gates_emb]
  refine (gates_apply m c (base t) (base_mod t) p k).trans (Eq.trans ?_ (ProjectRef.gates_apply _ _ _ (batch t) p k).symm)
  simp only [inputAt_eq, batch_base, gateWeight_block, gateBias_block]

/-- Of the queries and gates. -/
theorem queries_flushed (t : Fin cfg0.N) (h : t.val % 7 ≠ 0) : (dats m 0 c).flushed 16 t = ((cfg0.win 16).blk t).view.read (Elt Ideal) (queriesOf m c) := by
  funext j
  obtain ⟨i, r, k, rfl⟩ := exists_index3 j
  obtain rfl : i = 0 := Subsingleton.elim _ _
  show (dats m 0 c).after 16 t (ix3 0 r k) = queriesOf m c (((cfg0.win 16).blk t).view.emb (ix3 0 r k))
  rw [after16 m c t h, queries_emb]
  refine (queries_apply m c t h r k).trans (Eq.trans ?_ (ProjectRef.queries_apply _ _ _ (batch t) r (queryCol t k)).symm)
  rw [inputAt_eq, batch_base, queryBias_block]
  exact congrArg (fun w => affine _ w _) (funext fun d => queryWeight_block m c t d k)

/-! Every element is in a block that is written back. -/

/-- A batch's last point. -/
def last (i : Fin 8) : Fin cfg0.N := ⟨7 * i.val + 6, by show 7 * i.val + 6 < 56; omega⟩

theorem batch_last (i : Fin 8) : batch (last i) = i := Fin.ext (by show (7 * i.val + 6) / 7 = i.val; omega)
theorem last_mod (i : Fin 8) : (last i).val % 7 = 6 := by show (7 * i.val + 6) % 7 = 6; omega

theorem keys_cover (y : S8x2176x512.Idx) : ∃ t : Fin cfg0.N, (cfg0.win 12).flush t = true ∧ y ∈ ((cfg0.win 12).blk t).view.set := by
  obtain ⟨i, p, k, rfl⟩ := exists_index3 y
  refine ⟨last i, (flush0_12 _).mpr (last_mod i), ?_⟩
  have e := keys_emb (last i) p k
  rw [batch_last] at e
  rw [← e]
  exact ((cfg0.win 12).blk (last i)).view.emb_mem_set (ix3 0 p k)

theorem lookback_cover (y : S8x2560x512.Idx) : ∃ t : Fin cfg0.N, (cfg0.win 13).flush t = true ∧ y ∈ ((cfg0.win 13).blk t).view.set := by
  obtain ⟨i, p, k, rfl⟩ := exists_index3 y
  refine ⟨last i, (flush0_13 _).mpr (last_mod i), ?_⟩
  have e := lookback_emb (last i) p k
  rw [batch_last] at e
  rw [← e]
  exact ((cfg0.win 13).blk (last i)).view.emb_mem_set (ix3 0 p k)

theorem values_cover (y : S8x512x2560.Idx) : ∃ t : Fin cfg0.N, (cfg0.win 14).flush t = true ∧ y ∈ ((cfg0.win 14).blk t).view.set := by
  obtain ⟨i, n, p, rfl⟩ := exists_index3 y
  refine ⟨last i, (flush0_14 _).mpr (last_mod i), ?_⟩
  have e := values_emb (last i) n p
  rw [batch_last] at e
  rw [← e]
  exact ((cfg0.win 14).blk (last i)).view.emb_mem_set (ix3 0 n p)

theorem gates_cover (y : S8x2560x128.Idx) : ∃ t : Fin cfg0.N, (cfg0.win 15).flush t = true ∧ y ∈ ((cfg0.win 15).blk t).view.set := by
  obtain ⟨i, p, k, rfl⟩ := exists_index3 y
  refine ⟨last i, (flush0_15 _).mpr (last_mod i), ?_⟩
  have e := gates_emb (last i) p k
  rw [batch_last] at e
  rw [← e]
  exact ((cfg0.win 15).blk (last i)).view.emb_mem_set (ix3 0 p k)

/-- The point that writes a batch's column of queries and gates. -/
def writer (i : Fin 8) (k : Fin 3072) : Fin cfg0.N := ⟨7 * i.val + 1 + k.val / 512, by show 7 * i.val + 1 + k.val / 512 < 56; omega⟩

theorem writer_mod (i : Fin 8) (k : Fin 3072) : (writer i k).val % 7 = 1 + k.val / 512 := by
  show (7 * i.val + 1 + k.val / 512) % 7 = 1 + k.val / 512; omega

theorem queries_cover (y : S8x2048x3072.Idx) : ∃ t : Fin cfg0.N, (cfg0.win 16).flush t = true ∧ y ∈ ((cfg0.win 16).blk t).view.set := by
  obtain ⟨i, r, k, rfl⟩ := exists_index3 y
  have hm := writer_mod i k
  refine ⟨writer i k, (flush16 _).mpr (by omega), ?_⟩
  have e := queries_emb (writer i k) r ⟨k.val % 512, by omega⟩
  have e1 : batch (writer i k) = i := Fin.ext (by show (7 * i.val + 1 + k.val / 512) / 7 = i.val; omega)
  have e2 : queryCol (writer i k) ⟨k.val % 512, by omega⟩ = k :=
    Fin.ext (by show 512 * ((writer i k).val % 7 - 1) + k.val % 512 = k.val; omega)
  rw [e1, e2] at e
  rw [← e]
  exact ((cfg0.win 16).blk (writer i k)).view.emb_mem_set _

/-- The five arrays after the run. -/
theorem keys_final : (dats m 0 c).arrAt 12 cfg0.N = keysOf m c :=
  (dats m 0 c).arrAt_eq_of_cover 12 (keysOf m c) (fun t _ => keys_flushed m c t) keys_cover
theorem lookback_final : (dats m 0 c).arrAt 13 cfg0.N = lookbackOf m c :=
  (dats m 0 c).arrAt_eq_of_cover 13 (lookbackOf m c) (fun t _ => lookback_flushed m c t) lookback_cover
theorem values_final : (dats m 0 c).arrAt 14 cfg0.N = valuesOf m c :=
  (dats m 0 c).arrAt_eq_of_cover 14 (valuesOf m c) (fun t _ => values_flushed m c t) values_cover
theorem gates_final : (dats m 0 c).arrAt 15 cfg0.N = gatesOf m c :=
  (dats m 0 c).arrAt_eq_of_cover 15 (gatesOf m c) (fun t _ => gates_flushed m c t) gates_cover
theorem queries_final : (dats m 0 c).arrAt 16 cfg0.N = queriesOf m c :=
  (dats m 0 c).arrAt_eq_of_cover 16 (queriesOf m c) (fun t h => queries_flushed m c t ((flush16 t).mp h)) queries_cover

variable (ρ : Dev nD → PrngReg)

/-- The run, at the five arrays and the arguments kept. -/
theorem run : θ_run defs (onTc (τ := τ) (main (F := Ideal))) ⟨m, fun _ => 0, ρ⟩ fun r => ∀ c : Dev nD,
    (r.2.mem ((c.tc : Thread nD τ).loc main_v0_0) = keysOf m c
      ∧ r.2.mem ((c.tc : Thread nD τ).loc main_v0_1) = lookbackOf m c
      ∧ r.2.mem ((c.tc : Thread nD τ).loc main_v0_2) = valuesOf m c
      ∧ r.2.mem ((c.tc : Thread nD τ).loc main_v0_3) = gatesOf m c
      ∧ r.2.mem ((c.tc : Thread nD τ).loc main_v0_4) = queriesOf m c) :=
  (θ_run defs _ _).mono (fun r h c => ⟨((h c).1 12).trans (keys_final m c), ((h c).1 13).trans (lookback_final m c), ((h c).1 14).trans (values_final m c),
    ((h c).1 15).trans (gates_final m c), ((h c).1 16).trans (queries_final m c)⟩) (run_main m ρ)

end Final

end Project

end
-- ==== Proof.MergeBlock.lean ====
/- The merge's block: what its body computes of the blocks that it reads, at one element. -/
module

public import proofs.«01_k».proof.Proof.MergeRow
public import proofs.«01_k».proof.Proof.Gen.MergeIdeal.Value
public import Idealize.ShloMosaic.Lib.Pointwise
public import Idealize.ShloMosaic.Lib.Pipeline.ValueKit.Basic

@[expose] public section

set_option maxRecDepth 16384

noncomputable section

namespace Merge

open Cert.MergeIdeal Cert.MergeIdeal.Gen Idealize.ShloMosaic Idealize.ShloMosaic.TcCoe Idealize.SL.Sem

/-- A block's row. -/
abbrev rowOf {n w : ℕ} (x : Shape.Idx ⟨2, ![n, w]⟩ → EReal) (r : Fin n) : Fin w → EReal := fun k => x (ix2 r k)

theorem normalize_block (x : FVec Ideal S512x1024 .f32) (g b : FVec Ideal S1x1024 .f32) (r : Fin 512) (k : Fin 1024) :
    k0_pay3 (F := Ideal) x g b (ix2 r k) = normalize (rowOf x r) (rowOf g 0) (rowOf b 0) k := by
  unfold k0_pay3
  pointwise
  rfl

/-- The two mixers' blocks, gated and summed. -/
def gatedBlock (za zb : FVec Ideal S512x1024 .bf16) (a b : FVec Ideal S512x512 .bf16) (wa wb : FVec Ideal S512x1024 .bf16) : FVec Ideal S512x1024 .f32 :=
  addf (k0_pay5 (F := Ideal) a wa za) (mulf (logistic (extf .f32 zb bitsLt_bf16_f32)) (k0_pay4 b wb))

theorem gated_block (za zb : FVec Ideal S512x1024 .bf16) (a b : FVec Ideal S512x512 .bf16) (wa wb : FVec Ideal S512x1024 .bf16)
    (r : Fin 512) (k : Fin 1024) :
    gatedBlock za zb a b wa wb (ix2 r k) = gated (rowOf za r) (rowOf zb r) (rowOf a r) (rowOf b r) (rowOf wa) (rowOf wb) k := by
  unfold gatedBlock k0_pay5 k0_pay4
  pointwise
  rfl

/-- The stream's block, before it is normalised. -/
def addedBlock (h y : FVec Ideal S512x1024 .f32) (wo : FVec Ideal S1024x1024 .bf16) : FVec Ideal S512x1024 .f32 :=
  addf (mulf (broadcast S512x1024 (Scalar.ofBits .f32 0x3F9837F0#32)) h)
    (matmul dot_S512x1024_S1024x1024_S512x1024_1_0_0_1_n_n none (truncf .bf16 y bitsLt_bf16_f32) wo (constant S512x1024 .f32 0x00000000#32))

theorem added_block (h y : FVec Ideal S512x1024 .f32) (wo : FVec Ideal S1024x1024 .bf16) (r : Fin 512) (k : Fin 1024) :
    addedBlock h y wo (ix2 r k) = added (rowOf h r) (rowOf y r) (rowOf wo) k := by
  unfold addedBlock
  pointwise
  rfl

theorem ld_rows {e : EltTy} (y : S512x1024.Idx → Elt Ideal e) : View.ld y r0_0 = y := View.ld_unit_lit _ _ (by decide)
theorem ld_vector {e : EltTy} (y : S1x1024.Idx → Elt Ideal e) : View.ld y r0_1 = y := View.ld_unit_lit _ _ (by decide)
theorem ld_mixer {e : EltTy} (y : S512x512.Idx → Elt Ideal e) : View.ld y r0_2 = y := View.ld_unit_lit _ _ (by decide)
theorem ld_square {e : EltTy} (y : S1024x1024.Idx → Elt Ideal e) : View.ld y r0_3 = y := View.ld_unit_lit _ _ (by decide)

section Out

variable (x : FVec Ideal S512x1024 .f32) (a b : FVec Ideal S512x512 .bf16) (za zb : FVec Ideal S512x1024 .bf16) (g0 b0 : FVec Ideal S1x1024 .f32)
  (wa wb : FVec Ideal S512x1024 .bf16) (wo : FVec Ideal S1024x1024 .bf16) (g1 b1 : FVec Ideal S1x1024 .f32)

/-- A row of the merge's result. -/
def resultRow (r : Fin 512) : Fin 1024 → EReal :=
  normalize (added (normalize (rowOf x r) (rowOf g0 0) (rowOf b0 0)) (gated (rowOf za r) (rowOf zb r) (rowOf a r) (rowOf b r) (rowOf wa) (rowOf wb)) (rowOf wo))
    (rowOf g1 0) (rowOf b1 0)

/-- What the body leaves in its first result's block. -/
theorem out_eq : out0_12 (F := Ideal) x a b za zb g0 b0 wa wb wo g1 b1
    = k0_pay3 (F := Ideal) (addedBlock (k0_pay3 (F := Ideal) x g0 b0) (gatedBlock za zb a b wa wb) wo) g1 b1 := by
  unfold out0_12 k0_pay8 k0_pay7 k0_pay6
  rw [View.canon_cons_unit_lit _ _ _ (by decide)]
  simp only [ld_rows, ld_vector, ld_mixer, ld_square]
  rfl

theorem out_apply (r : Fin 512) (k : Fin 1024) : out0_12 (F := Ideal) x a b za zb g0 b0 wa wb wo g1 b1 (ix2 r k) = resultRow x a b za zb g0 b0 wa wb wo g1 b1 r k := by
  rw [out_eq, normalize_block]
  unfold resultRow
  congr 1
  funext i
  refine (added_block _ _ _ r i).trans ?_
  congr 1
  · funext j; exact normalize_block _ _ _ r j
  · funext j; exact gated_block _ _ _ _ _ _ r j

/-- What the body leaves in its second result's block: the first's, transposed. -/
theorem outT_apply (r : Fin 512) (k : Fin 1024) : out0_13 (F := Ideal) x a b za zb g0 b0 wa wb wo g1 b1 (ix2 k r) = resultRow x a b za zb g0 b0 wa wb wo g1 b1 r k := by
  rw [← out_apply]
  unfold out0_13 out0_12
  rw [View.canon_cons_unit_lit _ _ _ (by decide), View.canon_cons_unit_lit _ _ _ (by decide)]
  unfold k0_pay2
  pointwise

end Out

end Merge

end
-- ==== Proof.MergeRef.lean ====
/- The merge's reference as a composition, and its value at one element. -/
module

public import proofs.«01_k».proof.Proof.MergeRow
public import proofs.«01_k».proof.Proof.Gen.MergeReferenceIdeal.Run
public import Idealize.ShloMosaic.Lib.Pointwise

@[expose] public section

set_option maxRecDepth 16384

noncomputable section

namespace MergeRef

open Cert.MergeReferenceIdeal Cert.MergeReferenceIdeal.Gen Idealize.ShloMosaic Idealize.ShloMosaic.TcCoe Idealize.SL.Sem

/-- The rows' means. -/
def means (x : FVec Ideal S16384x1024 .f32) : FVec Ideal S16384x1 .f32 :=
  Host.divf (broadcastInDim S16384x1 ![0] bcast_S16384_S16384x1_0 (Host.reduceAdd x (constant S_ .f32 0x00000000#32) reducesTo_S16384x1024_S16384_d1 h_S_))
    (broadcastInDim S16384x1 ![] bcast_S_S16384x1 (constant S_ .f32 0x44800000#32))

/-- The rows less their means. -/
def spreads (x : FVec Ideal S16384x1024 .f32) : FVec Ideal S16384x1024 .f32 :=
  subf x (broadcastInDim S16384x1024 ![0, 1] bcast_S16384x1_S16384x1024_0_1 (means x))

/-- The rows normalised, scaled and shifted. -/
def normalized (x : FVec Ideal S16384x1024 .f32) (g b : FVec Ideal S1x1024 .f32) : FVec Ideal S16384x1024 .f32 :=
  addf (mulf (mulf (spreads x) (broadcastInDim S16384x1024 ![0, 1] bcast_S16384x1_S16384x1024_0_1
      (Host.rsqrt (addf (means (mulf (spreads x) (spreads x))) (broadcastInDim S16384x1 ![] bcast_S_S16384x1 (constant S_ .f32 0x3727C5AC#32))))))
      (broadcastInDim S16384x1024 ![0, 1] bcast_S1x1024_S16384x1024_0_1 g))
    (broadcastInDim S16384x1024 ![0, 1] bcast_S1x1024_S16384x1024_0_1 b)

/-- The sigmoid of a gate. -/
def gate (z : FVec Ideal S16384x1024 .bf16) : FVec Ideal S16384x1024 .f32 :=
  Host.divf (broadcastInDim S16384x1024 ![] bcast_S_S16384x1024 (constant S_ .f32 0x3F800000#32))
    (addf (broadcastInDim S16384x1024 ![] bcast_S_S16384x1024 (constant S_ .f32 0x3F800000#32)) (Host.exp (Host.negf (extf .f32 z bitsLt_bf16_f32))))

/-- A mixer's rows through its projection. -/
def projected (a : FVec Ideal S16384x512 .bf16) (w : FVec Ideal S512x1024 .bf16) : FVec Ideal S16384x1024 .f32 :=
  Host.dotGeneral dot_S16384x512_S512x1024_S16384x1024_1_0_0_1_n_n none (extf .f32 a bitsLt_bf16_f32) (extf .f32 w bitsLt_bf16_f32)

/-- The two mixers, gated and summed. -/
def merged (z : FVec Ideal S16384x3072 .bf16) (a b : FVec Ideal S16384x512 .bf16) (wa wb : FVec Ideal S512x1024 .bf16) : FVec Ideal S16384x1024 .f32 :=
  addf (mulf (gate (extractStridedSlice S16384x1024 ![0, 1024] z slices_S16384x3072_S16384x1024_0_1024)) (projected a wa))
    (mulf (gate (extractStridedSlice S16384x1024 ![0, 2048] z slices_S16384x3072_S16384x1024_0_2048)) (projected b wb))

/-- The stream, scaled, plus the merged rows through the last projection. -/
def summed (h y : FVec Ideal S16384x1024 .f32) (wo : FVec Ideal S1024x1024 .bf16) : FVec Ideal S16384x1024 .f32 :=
  addf (mulf (broadcastInDim S16384x1024 ![] bcast_S_S16384x1024 (constant S_ .f32 0x3F9837F0#32)) h)
    (Host.dotGeneral dot_S16384x1024_S1024x1024_S16384x1024_1_0_0_1_n_n none y (extf .f32 wo bitsLt_bf16_f32))

/-- The merge of its arguments. -/
def whole (x : FVec Ideal S16384x1024 .f32) (a b : FVec Ideal S16384x512 .bf16) (z : FVec Ideal S16384x3072 .bf16) (g0 b0 : FVec Ideal S1x1024 .f32)
    (wa wb : FVec Ideal S512x1024 .bf16) (wo : FVec Ideal S1024x1024 .bf16) (g1 b1 : FVec Ideal S1x1024 .f32) : FVec Ideal S16384x1024 .f32 :=
  normalized (summed (normalized x g0 b0) (merged z a b wa wb) wo) g1 b1

/-- It transposed. -/
def wholeT (w : FVec Ideal S16384x1024 .f32) : FVec Ideal S1024x16384 .bf16 :=
  truncf .bf16 (transpose S1024x16384 [1, 0] w transposes_S16384x1024_S1024x16384_1_0) bitsLt_bf16_f32

section Result

variable (m : (ℓ : Loc nD τ sig) → Buf (Elt Ideal) ℓ) (c : Dev nD)

theorem result_eq : Value.res_out0 m c = whole (m ((c.tc : Thread nD τ).loc main_arg0)) (m ((c.tc : Thread nD τ).loc main_arg1))
      (m ((c.tc : Thread nD τ).loc main_arg2)) (m ((c.tc : Thread nD τ).loc main_arg3))
      (m ((c.tc : Thread nD τ).loc main_arg4)) (m ((c.tc : Thread nD τ).loc main_arg5))
      (m ((c.tc : Thread nD τ).loc main_arg6)) (m ((c.tc : Thread nD τ).loc main_arg7))
      (m ((c.tc : Thread nD τ).loc main_arg8)) (m ((c.tc : Thread nD τ).loc main_arg9))
      (m ((c.tc : Thread nD τ).loc main_arg10)) := by
  unfold Value.res_out0 Value.res_main_v69
  rfl

theorem resultT_eq : Value.res_out1 m c = wholeT (Value.res_out0 m c) := by
  unfold Value.res_out1 Value.res_main_v71 Value.res_out0 Value.res_main_v69
  rfl

end Result

/-- An array's row. -/
abbrev rowOf {n w : ℕ} (x : Shape.Idx ⟨2, ![n, w]⟩ → EReal) (r : Fin n) : Fin w → EReal := fun k => x (ix2 r k)

theorem means_apply (x : FVec Ideal S16384x1024 .f32) (r : Fin 16384) : means x (ix2 r 0) = Merge.mean (rowOf x r) := by
  unfold means
  pointwise
  rfl

theorem spreads_apply (x : FVec Ideal S16384x1024 .f32) (r : Fin 16384) (k : Fin 1024) : spreads x (ix2 r k) = Merge.spread (rowOf x r) k := by
  have h := means_apply x r
  unfold spreads
  pointwise
  rw [h]
  rfl

theorem normalized_apply (x : FVec Ideal S16384x1024 .f32) (g b : FVec Ideal S1x1024 .f32) (r : Fin 16384) (k : Fin 1024) :
    normalized x g b (ix2 r k) = Merge.normalize (rowOf x r) (rowOf g 0) (rowOf b 0) k := by
  have h := means_apply (mulf (spreads x) (spreads x)) r
  have hs : rowOf (mulf (spreads x) (spreads x)) r = fun i => Merge.spread (rowOf x r) i * Merge.spread (rowOf x r) i :=
    funext fun i => congrArg₂ (fun u v : EReal => u * v) (spreads_apply x r i) (spreads_apply x r i)
  rw [hs] at h
  have h' := spreads_apply x r k
  unfold normalized
  pointwise
  rw [h, h']
  rfl

theorem gate_apply (z : FVec Ideal S16384x1024 .bf16) (i : S16384x1024.Idx) : gate z i = Ideal.logistic (z i) := by
  show Ideal.div (Ideal.ofBits .f32 0x3F800000#32) (Ideal.ofBits .f32 0x3F800000#32 + Ideal.exp (-(z i : EReal))) = _
  rw [Merge.one_eq]
  rfl

theorem projected_apply (a : FVec Ideal S16384x512 .bf16) (w : FVec Ideal S512x1024 .bf16) (r : Fin 16384) (k : Fin 1024) :
    projected a w (ix2 r k) = ∑ d : Fin 512, (a (ix2 r d) * w (ix2 d k) : EReal) := by
  unfold projected
  pointwise

theorem merged_apply (z : FVec Ideal S16384x3072 .bf16) (a b : FVec Ideal S16384x512 .bf16) (wa wb : FVec Ideal S512x1024 .bf16) (r : Fin 16384) (k : Fin 1024) :
    merged z a b wa wb (ix2 r k) = Merge.gated (fun i => z (ix2 r ⟨1024 + i.val, by omega⟩)) (fun i => z (ix2 r ⟨2048 + i.val, by omega⟩))
      (rowOf a r) (rowOf b r) (rowOf wa) (rowOf wb) k := by
  have ha := projected_apply a wa r k
  have hb := projected_apply b wb r k
  unfold merged
  show (gate _ (ix2 r k) * projected a wa (ix2 r k) + gate _ (ix2 r k) * projected b wb (ix2 r k) : EReal) = _
  rw [ha, hb, gate_apply, gate_apply]
  pointwise
  rfl

theorem summed_apply (h y : FVec Ideal S16384x1024 .f32) (wo : FVec Ideal S1024x1024 .bf16) (r : Fin 16384) (k : Fin 1024) :
    summed h y wo (ix2 r k) = Merge.added (rowOf h r) (rowOf y r) (rowOf wo) k := by
  unfold summed
  pointwise
  rfl

/-- The gates' columns of a row. -/
def gateRow (z : FVec Ideal S16384x3072 .bf16) (o : ℕ) (ho : o + 1024 ≤ 3072) (r : Fin 16384) : Fin 1024 → EReal :=
  fun i => z (ix2 r ⟨o + i.val, by omega⟩)

theorem whole_apply (x : FVec Ideal S16384x1024 .f32) (a b : FVec Ideal S16384x512 .bf16) (z : FVec Ideal S16384x3072 .bf16) (g0 b0 : FVec Ideal S1x1024 .f32)
    (wa wb : FVec Ideal S512x1024 .bf16) (wo : FVec Ideal S1024x1024 .bf16) (g1 b1 : FVec Ideal S1x1024 .f32) (r : Fin 16384) (k : Fin 1024) :
    whole x a b z g0 b0 wa wb wo g1 b1 (ix2 r k) =
      Merge.normalize (Merge.added (Merge.normalize (rowOf x r) (rowOf g0 0) (rowOf b0 0))
        (Merge.gated (gateRow z 1024 (by decide) r) (gateRow z 2048 (by decide) r) (rowOf a r) (rowOf b r) (rowOf wa) (rowOf wb)) (rowOf wo)) (rowOf g1 0) (rowOf b1 0) k := by
  refine (normalized_apply _ _ _ r k).trans ?_
  refine congrArg (fun f => Merge.normalize f (rowOf g1 0) (rowOf b1 0) k) (funext fun i => (summed_apply _ _ _ r i).trans ?_)
  exact congrArg₂ (fun h y => Merge.added h y (rowOf wo) i) (funext fun j => normalized_apply _ _ _ r j) (funext fun j => merged_apply _ _ _ _ _ r j)

theorem wholeT_apply (w : FVec Ideal S16384x1024 .f32) (r : Fin 16384) (k : Fin 1024) : wholeT w (ix2 k r) = (w (ix2 r k) : EReal) := by
  unfold wholeT
  pointwise

end MergeRef

end
-- ==== Proof.MergeWhole.lean ====
/- The merge's results: each grid point's block of rows is the reference's, in the stream and in the stream transposed, and the
   blocks cover both arrays. -/
module

public import proofs.«01_k».proof.Proof.MergeBlock
public import proofs.«01_k».proof.Proof.MergeRef

@[expose] public section

set_option maxRecDepth 16384

noncomputable section

namespace Merge

open Cert.MergeIdeal Cert.MergeIdeal.Gen Idealize.ShloMosaic Idealize.ShloMosaic.TcCoe Idealize.SL.Sem

/-- Row `r` of a grid point's block, as a row of the array. -/
def arrayRow (t : Fin cfg0.N) (r : Fin 512) : Fin 16384 :=
  ⟨512 * t.val + r.val, by have h : t.val < 32 := t.isLt; omega⟩

/-! ## Blocks -/

theorem index_rows : ∀ t : Fin cfg0.N, (win0_0.index t (0 : Fin 2) = t.val ∧ win0_0.index t (1 : Fin 2) = 0) ∧ (win0_1.index t (0 : Fin 2) = t.val ∧ win0_1.index t (1 : Fin 2) = 0) ∧
    (win0_2.index t (0 : Fin 2) = t.val ∧ win0_2.index t (1 : Fin 2) = 0) ∧ (win0_3.index t (0 : Fin 2) = t.val ∧ win0_3.index t (1 : Fin 2) = 1) ∧
    (win0_4.index t (0 : Fin 2) = t.val ∧ win0_4.index t (1 : Fin 2) = 2) :=
  (by decide +kernel : ∀ t : Fin grid0.N, (win0_0.index t (0 : Fin 2) = t.val ∧ win0_0.index t (1 : Fin 2) = 0) ∧ (win0_1.index t (0 : Fin 2) = t.val ∧ win0_1.index t (1 : Fin 2) = 0) ∧
    (win0_2.index t (0 : Fin 2) = t.val ∧ win0_2.index t (1 : Fin 2) = 0) ∧ (win0_3.index t (0 : Fin 2) = t.val ∧ win0_3.index t (1 : Fin 2) = 1) ∧
    (win0_4.index t (0 : Fin 2) = t.val ∧ win0_4.index t (1 : Fin 2) = 2))

theorem index_weights : ∀ (t : Fin cfg0.N) (a : Fin 2), win0_5.index t a = 0 ∧ win0_6.index t a = 0 ∧ win0_7.index t a = 0 ∧ win0_8.index t a = 0 ∧
    win0_9.index t a = 0 ∧ win0_10.index t a = 0 ∧ win0_11.index t a = 0 :=
  (by decide +kernel : ∀ (t : Fin grid0.N) (a : Fin 2), win0_5.index t a = 0 ∧ win0_6.index t a = 0 ∧ win0_7.index t a = 0 ∧ win0_8.index t a = 0 ∧
    win0_9.index t a = 0 ∧ win0_10.index t a = 0 ∧ win0_11.index t a = 0)

theorem index_results : ∀ t : Fin cfg0.N, (win0_12.index t (0 : Fin 2) = t.val ∧ win0_12.index t (1 : Fin 2) = 0) ∧ (win0_13.index t (0 : Fin 2) = 0 ∧ win0_13.index t (1 : Fin 2) = t.val) :=
  (by decide +kernel : ∀ t : Fin grid0.N, (win0_12.index t (0 : Fin 2) = t.val ∧ win0_12.index t (1 : Fin 2) = 0) ∧ (win0_13.index t (0 : Fin 2) = 0 ∧ win0_13.index t (1 : Fin 2) = t.val))

section Blocks

variable (m : (ℓ : Loc nD τ sig) → Buf (Elt Ideal) ℓ) (c : Dev nD) (t : Fin cfg0.N)

theorem stream_block (r : Fin 512) (k : Fin 1024) : iblk m c 0 t (ix2 r k) = m ((c : Thread nD τ).loc main_arg0) (ix2 (arrayRow t r) k) := by
  show m ((c : Thread nD τ).loc main_arg0) (((cfg0.win 0).blk t).view.emb (ix2 r k)) = _
  obtain ⟨⟨e0, e1⟩, -⟩ := index_rows t
  refine congrArg _ ?_
  funext a; apply Fin.ext
  match a with
  | ⟨0, _⟩ => show win0_0.index t (0 : Fin 2) * 512 + 1 * r.val = 512 * t.val + r.val; omega
  | ⟨1, _⟩ => show win0_0.index t (1 : Fin 2) * 1024 + 1 * k.val = k.val; omega

theorem first_block (r : Fin 512) (k : Fin 512) : iblk m c 1 t (ix2 r k) = m ((c : Thread nD τ).loc main_arg1) (ix2 (arrayRow t r) k) := by
  show m ((c : Thread nD τ).loc main_arg1) (((cfg0.win 1).blk t).view.emb (ix2 r k)) = _
  obtain ⟨-, ⟨e0, e1⟩, -⟩ := index_rows t
  refine congrArg _ ?_
  funext a; apply Fin.ext
  match a with
  | ⟨0, _⟩ => show win0_1.index t (0 : Fin 2) * 512 + 1 * r.val = 512 * t.val + r.val; omega
  | ⟨1, _⟩ => show win0_1.index t (1 : Fin 2) * 512 + 1 * k.val = k.val; omega

theorem second_block (r : Fin 512) (k : Fin 512) : iblk m c 2 t (ix2 r k) = m ((c : Thread nD τ).loc main_arg2) (ix2 (arrayRow t r) k) := by
  show m ((c : Thread nD τ).loc main_arg2) (((cfg0.win 2).blk t).view.emb (ix2 r k)) = _
  obtain ⟨-, -, ⟨e0, e1⟩, -⟩ := index_rows t
  refine congrArg _ ?_
  funext a; apply Fin.ext
  match a with
  | ⟨0, _⟩ => show win0_2.index t (0 : Fin 2) * 512 + 1 * r.val = 512 * t.val + r.val; omega
  | ⟨1, _⟩ => show win0_2.index t (1 : Fin 2) * 512 + 1 * k.val = k.val; omega

theorem first_gate (r : Fin 512) (k : Fin 1024) : iblk m c 3 t (ix2 r k) = m ((c : Thread nD τ).loc main_arg3) (ix2 (arrayRow t r) ⟨1024 + k.val, by omega⟩) := by
  show m ((c : Thread nD τ).loc main_arg3) (((cfg0.win 3).blk t).view.emb (ix2 r k)) = _
  obtain ⟨-, -, -, ⟨e0, e1⟩, -⟩ := index_rows t
  refine congrArg _ ?_
  funext a; apply Fin.ext
  match a with
  | ⟨0, _⟩ => show win0_3.index t (0 : Fin 2) * 512 + 1 * r.val = 512 * t.val + r.val; omega
  | ⟨1, _⟩ => show win0_3.index t (1 : Fin 2) * 1024 + 1 * k.val = 1024 + k.val; omega

theorem second_gate (r : Fin 512) (k : Fin 1024) : iblk m c 4 t (ix2 r k) = m ((c : Thread nD τ).loc main_arg3) (ix2 (arrayRow t r) ⟨2048 + k.val, by omega⟩) := by
  show m ((c : Thread nD τ).loc main_arg3) (((cfg0.win 4).blk t).view.emb (ix2 r k)) = _
  obtain ⟨-, -, -, -, ⟨e0, e1⟩⟩ := index_rows t
  refine congrArg _ ?_
  funext a; apply Fin.ext
  match a with
  | ⟨0, _⟩ => show win0_4.index t (0 : Fin 2) * 512 + 1 * r.val = 512 * t.val + r.val; omega
  | ⟨1, _⟩ => show win0_4.index t (1 : Fin 2) * 1024 + 1 * k.val = 2048 + k.val; omega

/-! A window that never moves reads its whole array. -/

theorem scale_block : iblk m c 5 t = m ((c : Thread nD τ).loc main_arg4) := by
  funext y
  refine congrArg (m ((c : Thread nD τ).loc main_arg4)) (funext fun a => Fin.ext ?_)
  show win0_5.index t a * S1x1024.size a + 1 * (y a).val = (y a).val
  rw [(index_weights t a).1]; omega

theorem shift_block : iblk m c 6 t = m ((c : Thread nD τ).loc main_arg5) := by
  funext y
  refine congrArg (m ((c : Thread nD τ).loc main_arg5)) (funext fun a => Fin.ext ?_)
  show win0_6.index t a * S1x1024.size a + 1 * (y a).val = (y a).val
  rw [(index_weights t a).2.1]; omega

theorem firstWeight_block : iblk m c 7 t = m ((c : Thread nD τ).loc main_arg6) := by
  funext y
  refine congrArg (m ((c : Thread nD τ).loc main_arg6)) (funext fun a => Fin.ext ?_)
  show win0_7.index t a * S512x1024.size a + 1 * (y a).val = (y a).val
  rw [(index_weights t a).2.2.1]; omega

theorem secondWeight_block : iblk m c 8 t = m ((c : Thread nD τ).loc main_arg7) := by
  funext y
  refine congrArg (m ((c : Thread nD τ).loc main_arg7)) (funext fun a => Fin.ext ?_)
  show win0_8.index t a * S512x1024.size a + 1 * (y a).val = (y a).val
  rw [(index_weights t a).2.2.2.1]; omega

theorem lastWeight_block : iblk m c 9 t = m ((c : Thread nD τ).loc main_arg8) := by
  funext y
  refine congrArg (m ((c : Thread nD τ).loc main_arg8)) (funext fun a => Fin.ext ?_)
  show win0_9.index t a * S1024x1024.size a + 1 * (y a).val = (y a).val
  rw [(index_weights t a).2.2.2.2.1]; omega

theorem lastScale_block : iblk m c 10 t = m ((c : Thread nD τ).loc main_arg9) := by
  funext y
  refine congrArg (m ((c : Thread nD τ).loc main_arg9)) (funext fun a => Fin.ext ?_)
  show win0_10.index t a * S1x1024.size a + 1 * (y a).val = (y a).val
  rw [(index_weights t a).2.2.2.2.2.1]; omega

theorem lastShift_block : iblk m c 11 t = m ((c : Thread nD τ).loc main_arg10) := by
  funext y
  refine congrArg (m ((c : Thread nD τ).loc main_arg10)) (funext fun a => Fin.ext ?_)
  show win0_11.index t a * S1x1024.size a + 1 * (y a).val = (y a).val
  rw [(index_weights t a).2.2.2.2.2.2]; omega

theorem result_emb (r : Fin 512) (k : Fin 1024) : ((cfg0.win 12).blk t).view.emb (ix2 r k) = ix2 (arrayRow t r) k := by
  obtain ⟨⟨e0, e1⟩, -⟩ := index_results t
  funext a; apply Fin.ext
  match a with
  | ⟨0, _⟩ => show win0_12.index t (0 : Fin 2) * 512 + 1 * r.val = 512 * t.val + r.val; omega
  | ⟨1, _⟩ => show win0_12.index t (1 : Fin 2) * 1024 + 1 * k.val = k.val; omega

theorem resultT_emb (r : Fin 512) (k : Fin 1024) : ((cfg0.win 13).blk t).view.emb (ix2 k r) = ix2 k (arrayRow t r) := by
  obtain ⟨-, ⟨e0, e1⟩⟩ := index_results t
  funext a; apply Fin.ext
  match a with
  | ⟨0, _⟩ => show win0_13.index t (0 : Fin 2) * 1024 + 1 * k.val = k.val; omega
  | ⟨1, _⟩ => show win0_13.index t (1 : Fin 2) * 512 + 1 * r.val = 512 * t.val + r.val; omega

end Blocks

/-! ## The two arrays -/

section Final

variable (m : (ℓ : Loc nD τ sig) → Buf (Elt Ideal) ℓ) (c : Dev nD)

/-- The stream that the arguments call for. -/
def result : FVec Ideal S16384x1024 .f32 :=
  MergeRef.whole (m ((c : Thread nD τ).loc main_arg0)) (m ((c : Thread nD τ).loc main_arg1)) (m ((c : Thread nD τ).loc main_arg2)) (m ((c : Thread nD τ).loc main_arg3))
    (m ((c : Thread nD τ).loc main_arg4)) (m ((c : Thread nD τ).loc main_arg5)) (m ((c : Thread nD τ).loc main_arg6)) (m ((c : Thread nD τ).loc main_arg7))
    (m ((c : Thread nD τ).loc main_arg8)) (m ((c : Thread nD τ).loc main_arg9)) (m ((c : Thread nD τ).loc main_arg10))

/-- The row that the body computes is the reference's. -/
theorem row_eq (t : Fin cfg0.N) (r : Fin 512) (k : Fin 1024) :
    resultRow (iblk m c 0 t) (iblk m c 1 t) (iblk m c 2 t) (iblk m c 3 t) (iblk m c 4 t) (iblk m c 5 t) (iblk m c 6 t) (iblk m c 7 t) (iblk m c 8 t) (iblk m c 9 t)
      (iblk m c 10 t) (iblk m c 11 t) r k = result m c (ix2 (arrayRow t r) k) := by
  unfold result
  rw [MergeRef.whole_apply]
  unfold resultRow
  rw [scale_block, shift_block, firstWeight_block, secondWeight_block, lastWeight_block, lastScale_block, lastShift_block]
  rw [show rowOf (iblk m c 0 t) r = MergeRef.rowOf (m ((c : Thread nD τ).loc main_arg0)) (arrayRow t r) from funext (stream_block m c t r),
    show rowOf (iblk m c 1 t) r = MergeRef.rowOf (m ((c : Thread nD τ).loc main_arg1)) (arrayRow t r) from funext (first_block m c t r),
    show rowOf (iblk m c 2 t) r = MergeRef.rowOf (m ((c : Thread nD τ).loc main_arg2)) (arrayRow t r) from funext (second_block m c t r),
    show rowOf (iblk m c 3 t) r = MergeRef.gateRow (m ((c : Thread nD τ).loc main_arg3)) 1024 (by decide) (arrayRow t r) from funext (first_gate m c t r),
    show rowOf (iblk m c 4 t) r = MergeRef.gateRow (m ((c : Thread nD τ).loc main_arg3)) 2048 (by decide) (arrayRow t r) from funext (second_gate m c t r)]

theorem exists_index {n w : ℕ} (j : Shape.Idx ⟨2, ![n, w]⟩) : ∃ (r : Fin n) (k : Fin w), j = ix2 r k := by
  refine ⟨⟨(j 0).val, (j 0).isLt⟩, ⟨(j 1).val, (j 1).isLt⟩, ?_⟩
  funext a; apply Fin.ext
  match a with
  | ⟨0, _⟩ => rfl
  | ⟨1, _⟩ => rfl

/-- What a point writes back is its block of the stream. -/
theorem flushed_eq (t : Fin cfg0.N) : (dats m 0 c).flushed 12 t = ((cfg0.win 12).blk t).view.read (Elt Ideal) (result m c) := by
  rw [Value.flushed12]
  funext j
  obtain ⟨r, k, rfl⟩ := exists_index j
  show out0_12 (iblk m c 0 t) (iblk m c 1 t) (iblk m c 2 t) (iblk m c 3 t) (iblk m c 4 t) (iblk m c 5 t) (iblk m c 6 t) (iblk m c 7 t) (iblk m c 8 t) (iblk m c 9 t)
    (iblk m c 10 t) (iblk m c 11 t) (ix2 r k) = result m c (((cfg0.win 12).blk t).view.emb (ix2 r k))
  rw [result_emb]
  exact (out_apply _ _ _ _ _ _ _ _ _ _ _ _ r k).trans (row_eq m c t r k)

/-- What a point writes back is its block of the stream transposed. -/
theorem flushedT_eq (t : Fin cfg0.N) : (dats m 0 c).flushed 13 t = ((cfg0.win 13).blk t).view.read (Elt Ideal) (MergeRef.wholeT (result m c)) := by
  rw [Value.flushed13]
  funext j
  obtain ⟨k, r, rfl⟩ := exists_index j
  show out0_13 (iblk m c 0 t) (iblk m c 1 t) (iblk m c 2 t) (iblk m c 3 t) (iblk m c 4 t) (iblk m c 5 t) (iblk m c 6 t) (iblk m c 7 t) (iblk m c 8 t) (iblk m c 9 t)
    (iblk m c 10 t) (iblk m c 11 t) (ix2 k r) = MergeRef.wholeT (result m c) (((cfg0.win 13).blk t).view.emb (ix2 k r))
  rw [resultT_emb, MergeRef.wholeT_apply]
  exact (outT_apply _ _ _ _ _ _ _ _ _ _ _ _ r k).trans (row_eq m c t r k)

/-- Every row is a row of a point's block. -/
theorem exists_row (i : Fin 16384) : ∃ (t : Fin cfg0.N) (r : Fin 512), arrayRow t r = i :=
  ⟨⟨i.val / 512, by show i.val / 512 < 32; omega⟩, ⟨i.val % 512, by omega⟩, Fin.ext (by show 512 * (i.val / 512) + i.val % 512 = i.val; omega)⟩

theorem cover (i : S16384x1024.Idx) : ∃ t : Fin cfg0.N, (cfg0.win 12).flush t = true ∧ i ∈ ((cfg0.win 12).blk t).view.set := by
  obtain ⟨r, k, rfl⟩ := exists_index i
  obtain ⟨t, u, rfl⟩ := exists_row r
  refine ⟨t, flush0_12 t, ?_⟩
  rw [← result_emb]
  exact ((cfg0.win 12).blk t).view.emb_mem_set (ix2 u k)

theorem coverT (i : S1024x16384.Idx) : ∃ t : Fin cfg0.N, (cfg0.win 13).flush t = true ∧ i ∈ ((cfg0.win 13).blk t).view.set := by
  obtain ⟨k, r, rfl⟩ := exists_index i
  obtain ⟨t, u, rfl⟩ := exists_row r
  refine ⟨t, flush0_13 t, ?_⟩
  rw [← resultT_emb]
  exact ((cfg0.win 13).blk t).view.emb_mem_set (ix2 k u)

/-- The two arrays after the run. -/
theorem final : (dats m 0 c).arrAt 12 cfg0.N = result m c :=
  (dats m 0 c).arrAt_eq_of_cover 12 (result m c) (fun t _ => flushed_eq m c t) cover

theorem finalT : (dats m 0 c).arrAt 13 cfg0.N = MergeRef.wholeT (result m c) :=
  (dats m 0 c).arrAt_eq_of_cover 13 (MergeRef.wholeT (result m c)) (fun t _ => flushedT_eq m c t) coverT

end Final

end Merge

end
-- ==== Proof.ExpertsRow.lean ====
/- One expert's part in one token, over extended reals: its activation, the heads' gate on it, and the token's row. -/
module

public import proofs.«01_k».proof.Proof.MergeRow

@[expose] public section

noncomputable section

namespace Experts

open Idealize.ShloMosaic

/-- Twice the activation: `z (1 + erf (z / √2))`. -/
def activation (z : EReal) : EReal := z * (1 + Ideal.erf (z * (((Real.sqrt 2)⁻¹ : ℝ) : EReal)))

/-- The gate of an expert: of the heads in which the second key's rank is below the first key's count, the product of the factors. -/
def gate (count first rank second : Fin 8 → EReal) : EReal := ∑ h, if rank h < count h then second h * first h else 0

/-- What an expert adds: its activation at a token, gated. -/
def weight (u x : Fin 1024 → EReal) (count first rank second : Fin 8 → EReal) : EReal :=
  activation (∑ d, u d * x d) * gate count first rank second

theorem two_eq : Ideal.ofBits .f32 0x40000000#32 = ((2 : ℝ) : EReal) := by
  simp [Ideal.ofBits, Ideal.ieee]
  rw [← EReal.coe_mul]
  norm_num

/-- A quotient by the square root of two. -/
theorem div_sqrt_two (z : EReal) : Ideal.div z (Ideal.sqrt (Ideal.ofBits .f32 0x40000000#32)) = z * (((Real.sqrt 2)⁻¹ : ℝ) : EReal) := by
  have h : Ideal.sqrt ((2 : ℝ) : EReal) = ((Real.sqrt 2 : ℝ) : EReal) := by
    show (if (2 : ℝ) < 0 then (⊥ : EReal) else ((Real.sqrt 2 : ℝ) : EReal)) = _
    rw [if_neg (by norm_num)]
  rw [two_eq, h, Ideal.div_coe (by positivity), one_div]

end Experts

end
-- ==== Proof.ExpertsBlock.lean ====
/- The experts' call, by blocks: the weights a chunk of 128 experts gets, a grid point's sum over them, and the last normalisation, each at one element. -/
module

public import proofs.«01_k».proof.Proof.ExpertsRow
public import proofs.«01_k».proof.Proof.Gen.ExpertsIdeal.Skeleton
public import Idealize.ShloMosaic.Lib.Pointwise

@[expose] public section

set_option maxRecDepth 16384

noncomputable section

namespace Experts

open Cert.ExpertsIdeal Cert.ExpertsIdeal.Gen Idealize.ShloMosaic Idealize.ShloMosaic.TcCoe Idealize.SL.Sem

/-- A matrix's row. -/
abbrev rowOf {n w : ℕ} (x : Shape.Idx ⟨2, ![n, w]⟩ → EReal) (r : Fin n) : Fin w → EReal := fun k => x (ix2 r k)

/-- A matrix's column. -/
abbrev colOf {n w : ℕ} (x : Shape.Idx ⟨2, ![n, w]⟩ → EReal) (k : Fin w) : Fin n → EReal := fun r => x (ix2 r k)

/-- The cut of row `q` out of sixteen. -/
abbrev Cut (q : ℕ) : Prop := S16x512.Slices ![q, 0] S1x512

section Chunk

variable (q : ℕ) (hq : Cut q)

/-- A first key's factor of 512 tokens, from the block of sixteen keys, in sixteen equal rows. -/
def factor (x : Vec Ideal S1x16x512 .f32) : FVec Ideal S16x512 .bf16 :=
  truncf .bf16 (broadcastTo S16x512 (shapeCast S1x512 (extractStridedSlice S1x512 ![q, 0] (shapeCast S16x512 x shapeCasts_S1x16x512_S16x512) hq)
    shapeCasts_S1x512_S1x512) broadcasts_S1x512_S16x512) bitsLt_bf16_f32

/-- It, in eight groups of sixteen rows. -/
def spreadOut (x : FVec Ideal S16x512 .bf16) : FVec Ideal S8x16x512 .bf16 :=
  broadcastTo S8x16x512 (shapeCast S1x16x512 x shapeCasts_S16x512_S1x16x512) broadcasts_S1x16x512_S8x16x512

/-- The second keys' factors, in eight groups of sixteen rows. -/
def grouped (x : Vec Ideal S1x128x512 .bf16) : FVec Ideal S8x16x512 .bf16 :=
  shapeCast S8x16x512 (shapeCast S128x512 x shapeCasts_S1x128x512_S128x512) shapeCasts_S128x512_S8x16x512

/-- One head's gate. -/
def headGate (na e1 : Vec Ideal S1x16x512 .f32) (rb e2 : Vec Ideal S1x128x512 .bf16) : FVec Ideal S8x16x512 .bf16 :=
  select (cmpf .olt (grouped rb) (spreadOut (factor q hq na))) (mulf (grouped e2) (spreadOut (factor q hq e1))) (broadcast S8x16x512 (Scalar.ofBits .bf16 0x0000#16))

/-- The heads' gates, added up. -/
def gateSum (na e1 : Fin 8 → Vec Ideal S1x16x512 .f32) (rb e2 : Fin 8 → Vec Ideal S1x128x512 .bf16) : FVec Ideal S8x16x512 .bf16 :=
  addf (addf (addf (addf (addf (addf (addf (addf (broadcast S8x16x512 (Scalar.ofBits .bf16 0x0000#16))
    (headGate q hq (na 0) (e1 0) (rb 0) (e2 0))) (headGate q hq (na 1) (e1 1) (rb 1) (e2 1))) (headGate q hq (na 2) (e1 2) (rb 2) (e2 2)))
    (headGate q hq (na 3) (e1 3) (rb 3) (e2 3))) (headGate q hq (na 4) (e1 4) (rb 4) (e2 4))) (headGate q hq (na 5) (e1 5) (rb 5) (e2 5)))
    (headGate q hq (na 6) (e1 6) (rb 6) (e2 6))) (headGate q hq (na 7) (e1 7) (rb 7) (e2 7))

/-- A chunk's activations. -/
def activations (hu : Vec Ideal S128x512 .f32) : FVec Ideal S128x512 .bf16 :=
  mulf (truncf .bf16 hu bitsLt_bf16_f32) (addf (broadcast S128x512 (Scalar.ofBits .bf16 0x3F80#16))
    (erf (mulf (truncf .bf16 hu bitsLt_bf16_f32) (broadcast S128x512 (Named.named κ "sqrt_half" 0x3F35#16)))))

/-- A chunk's weights. -/
def chunk (hu : Vec Ideal S128x512 .f32) (na e1 : Fin 8 → Vec Ideal S1x16x512 .f32) (rb e2 : Fin 8 → Vec Ideal S1x128x512 .bf16) : FVec Ideal S128x512 .bf16 :=
  shapeCast S128x512 (mulf (activations hu) (shapeCast S128x512 (gateSum q hq na e1 rb e2) shapeCasts_S8x16x512_S128x512)) shapeCasts_S128x512_S128x512

variable (hlt : q < 16)

theorem factor_apply (x : Vec Ideal S1x16x512 .f32) (r : Fin 16) (t : Fin 512) : factor q hq x (ix2 r t) = x (ix3 0 ⟨q, hlt⟩ t) := by
  unfold factor
  pointwise

theorem spreadOut_apply (x : FVec Ideal S16x512 .bf16) (a : Fin 8) (r : Fin 16) (t : Fin 512) : spreadOut x (ix3 a r t) = x (ix2 r t) := by
  unfold spreadOut
  pointwise

theorem grouped_apply (x : Vec Ideal S1x128x512 .bf16) (a : Fin 8) (r : Fin 16) (t : Fin 512) : grouped x (ix3 a r t) = x (ix3 0 ⟨a.val * 16 + r.val, by omega⟩ t) := by
  unfold grouped
  pointwise

theorem headGate_apply (na e1 : Vec Ideal S1x16x512 .f32) (rb e2 : Vec Ideal S1x128x512 .bf16) (a : Fin 8) (r : Fin 16) (t : Fin 512) :
    (headGate q hq na e1 rb e2 (ix3 a r t) : EReal) = if rb (ix3 0 ⟨a.val * 16 + r.val, by omega⟩ t) < na (ix3 0 ⟨q, hlt⟩ t)
      then e2 (ix3 0 ⟨a.val * 16 + r.val, by omega⟩ t) * e1 (ix3 0 ⟨q, hlt⟩ t) else 0 := by
  have h1 := factor_apply q hq hlt na r t
  have h2 := factor_apply q hq hlt e1 r t
  have h3 := spreadOut_apply (factor q hq na) a r t
  have h4 := spreadOut_apply (factor q hq e1) a r t
  have h5 := grouped_apply q rb a r t
  have h6 := grouped_apply q e2 a r t
  unfold headGate
  pointwise
  rw [h3, h4, h5, h6, h1, h2]

theorem gateSum_apply (na e1 : Fin 8 → Vec Ideal S1x16x512 .f32) (rb e2 : Fin 8 → Vec Ideal S1x128x512 .bf16) (a : Fin 8) (r : Fin 16) (t : Fin 512) :
    gateSum q hq na e1 rb e2 (ix3 a r t) = gate (fun h => na h (ix3 0 ⟨q, hlt⟩ t)) (fun h => e1 h (ix3 0 ⟨q, hlt⟩ t))
      (fun h => rb h (ix3 0 ⟨a.val * 16 + r.val, by omega⟩ t)) (fun h => e2 h (ix3 0 ⟨a.val * 16 + r.val, by omega⟩ t)) := by
  have hh := fun h : Fin 8 => headGate_apply q hq hlt (na h) (e1 h) (rb h) (e2 h) a r t
  unfold gate
  rw [Finset.sum_congr rfl fun h _ => (hh h).symm]
  simp only [Fin.sum_univ_eight]
  unfold gateSum
  pointwise

theorem half_eq : (Named.named κ "sqrt_half" 0x3F35#16 : Ideal .bf16) = (((Real.sqrt 2)⁻¹ : ℝ) : EReal) := rfl

theorem one_eq : (Scalar.ofBits (F := Ideal) .bf16 0x3F80#16 : EReal) = 1 := by
  show Ideal.ofBits .bf16 0x3F80#16 = 1
  simp [Ideal.ofBits, Ideal.ieee]
  rw [← EReal.coe_mul]
  norm_num

theorem activations_apply (hu : Vec Ideal S128x512 .f32) (i : S128x512.Idx) : activations hu i = activation (hu i) := by
  show (hu i * (Scalar.ofBits (F := Ideal) .bf16 0x3F80#16 + Ideal.erf (hu i * (Named.named κ "sqrt_half" 0x3F35#16 : Ideal .bf16))) : EReal) = _
  rw [one_eq, half_eq]
  rfl

theorem chunk_apply (hu : Vec Ideal S128x512 .f32) (na e1 : Fin 8 → Vec Ideal S1x16x512 .f32) (rb e2 : Fin 8 → Vec Ideal S1x128x512 .bf16) (k : Fin 128) (t : Fin 512) :
    chunk q hq hu na e1 rb e2 (ix2 k t) = (activation (hu (ix2 k t)) * gate (fun h => na h (ix3 0 ⟨q, hlt⟩ t)) (fun h => e1 h (ix3 0 ⟨q, hlt⟩ t))
      (fun h => rb h (ix3 0 k t)) (fun h => e2 h (ix3 0 k t)) : EReal) := by
  have h1 := activations_apply hu (ix2 k t)
  have h2 := gateSum_apply q hq hlt na e1 rb e2 ⟨k.val / 16, by omega⟩ ⟨k.val % 16, by omega⟩ t
  unfold chunk
  pointwise
  rw [h1, h2]
  have e : (⟨k.val / 16 * 16 + k.val % 16, by omega⟩ : Fin 128) = k := Fin.ext (by show k.val / 16 * 16 + k.val % 16 = k.val; omega)
  simp only [e]

end Chunk

theorem product_apply (u : Vec Ideal S2048x1024 .bf16) (x : Vec Ideal S1024x512 .bf16) (e : Fin 2048) (t : Fin 512) :
    k0_pay3 (F := Ideal) u x (ix2 e t) = ∑ d, rowOf u e d * colOf x t d := by
  unfold k0_pay3
  pointwise

theorem start_apply (t : Fin 512) (d : Fin 1024) : (k0_pay2 (F := Ideal) (ix2 t d) : EReal) = 0 := by
  unfold k0_pay2
  pointwise

theorem sum_apply (acc : Vec Ideal S512x1024 .f32) (a : Vec Ideal S2048x512 .bf16) (v : Vec Ideal S2048x1024 .bf16) (t : Fin 512) (d : Fin 1024) :
    (k0_pay292 (F := Ideal) acc a v (ix2 t d) : EReal) = acc (ix2 t d) + ∑ e, a (ix2 e t) * v (ix2 e d) := by
  unfold k0_pay292
  pointwise

theorem last_apply (h acc : Vec Ideal S512x1024 .f32) (g b : Vec Ideal S1x1024 .f32) (t : Fin 512) (d : Fin 1024) :
    k0_pay1 (F := Ideal) h acc g b (ix2 t d)
      = Merge.normalize (fun k => (Ideal.ofBits .f32 0x3F9837F0#32 * h (ix2 t k) + acc (ix2 t k) : EReal)) (rowOf g 0) (rowOf b 0) d := by
  unfold k0_pay1
  pointwise
  rfl

end Experts

end
-- ==== Proof.ExpertsStores.lean ====
/- The experts' stores: what a grid point leaves in the scratch that holds the weights, in the sum and in the result's block. -/
module

public import proofs.«01_k».proof.Proof.ExpertsBlock
public import proofs.«01_k».proof.Proof.Gen.ExpertsIdeal.Value
public import Idealize.ShloMosaic.Lib.Pipeline.ValueKit.Tiles

@[expose] public section

set_option maxRecDepth 16384

noncomputable section

namespace Experts

open Cert.ExpertsIdeal Cert.ExpertsIdeal.Gen Idealize.ShloMosaic Idealize.ShloMosaic.TcCoe Idealize.ShloMosaic.Tactic Idealize.SL.Sem

theorem exists_index {n w : ℕ} (j : Shape.Idx ⟨2, ![n, w]⟩) : ∃ (r : Fin n) (k : Fin w), j = ix2 r k := by
  refine ⟨⟨(j 0).val, (j 0).isLt⟩, ⟨(j 1).val, (j 1).isLt⟩, ?_⟩
  funext a; apply Fin.ext
  match a with
  | ⟨0, _⟩ => rfl
  | ⟨1, _⟩ => rfl

/-- A load of a rectangle of a whole memref's contents. -/
theorem read_whole {sp : Space} {s : Shape} {e : EltTy} (arg : Memref sig .tc sp s e) (harg : arg.IsWhole) (r : Rect s) (x : s.Idx → Elt Ideal e) :
    arg.view.readAt (Elt Ideal) r.toLoadRect (harg.unread x) = View.ld x r :=
  funext fun y => congrFun (harg.read_unread x) (r.emb y)

theorem ld_tokens {e : EltTy} (y : S1024x512.Idx → Elt Ideal e) : View.ld y (Rect.unit ![0, 0] ![1024, 512] inb_S1024x512_S1024x512_0_0) = y := View.ld_unit_lit _ _ (by decide)
theorem ld_rows {e : EltTy} (y : S512x1024.Idx → Elt Ideal e) : View.ld y (Rect.unit ![0, 0] ![512, 1024] inb_S512x1024_S512x1024_0_0) = y := View.ld_unit_lit _ _ (by decide)
theorem ld_experts {e : EltTy} (y : S2048x1024.Idx → Elt Ideal e) : View.ld y (Rect.unit ![0, 0] ![2048, 1024] inb_S2048x1024_S2048x1024_0_0) = y := View.ld_unit_lit _ _ (by decide)
theorem ld_weights {e : EltTy} (y : S2048x512.Idx → Elt Ideal e) : View.ld y (Rect.unit ![0, 0] ![2048, 512] inb_S2048x512_S2048x512_0_0) = y := View.ld_unit_lit _ _ (by decide)
theorem ld_vector {e : EltTy} (y : S1x1024.Idx → Elt Ideal e) : View.ld y (Rect.unit ![0, 0] ![1, 1024] inb_S1x1024_S1x1024_0_0) = y := View.ld_unit_lit _ _ (by decide)

/-- A load of rows of the products' scratch, which one store filled. -/
theorem read_products (arg : Memref sig .tc .vmem S2048x512 .f32) (w : Vec Ideal S2048x512 .f32) (r : Rect S2048x512) :
    arg.view.readCov [⟨Rect.unit ![0, 0] ![2048, 512] inb_S2048x512_S2048x512_0_0, w⟩] r.toLoadRect = View.ld w r := by
  rw [View.readCov_eq_canon']
  exact funext fun j => congrFun (View.canon_cons_unit_lit _ _ _ (by decide)) (r.emb j)

section Pieces

variable (n : ℕ) (hn : n ≤ 112)

theorem cut (q : Fin 16) : Cut q.val := by
  refine ⟨rfl, fun a => ?_⟩
  match a with
  | ⟨0, _⟩ => show q.val + 1 ≤ 16; omega
  | ⟨1, _⟩ => show 0 + 512 ≤ 512; omega

include hn in
theorem keys_inb (h : Fin 8) : ∀ a, (![h.val, n, 0] : Fin 3 → ℕ) a + (![1, 16, 512] : Fin 3 → ℕ) a ≤ S8x128x512.size a := by
  intro a
  match a with
  | ⟨0, _⟩ => show h.val + 1 ≤ 8; omega
  | ⟨1, _⟩ => show n + 16 ≤ 128; omega
  | ⟨2, _⟩ => show 0 + 512 ≤ 512; omega

theorem head_inb (h : Fin 8) : ∀ a, (![h.val, 0, 0] : Fin 3 → ℕ) a + (![1, 128, 512] : Fin 3 → ℕ) a ≤ S8x128x512.size a := by
  intro a
  match a with
  | ⟨0, _⟩ => show h.val + 1 ≤ 8; omega
  | ⟨1, _⟩ => show 0 + 128 ≤ 128; omega
  | ⟨2, _⟩ => show 0 + 512 ≤ 512; omega

theorem chunk_inb (q : Fin 16) : ∀ a, (![128 * q.val, 0] : Fin 2 → ℕ) a + (![128, 512] : Fin 2 → ℕ) a ≤ S2048x512.size a := by
  intro a
  match a with
  | ⟨0, _⟩ => show 128 * q.val + 128 ≤ 2048; omega
  | ⟨1, _⟩ => show 0 + 512 ≤ 512; omega

/-- Sixteen first keys' factors from the `n`-th, of a head. -/
def firstKeys (x : Vec Ideal S8x128x512 .f32) (h : Fin 8) : Vec Ideal S1x16x512 .f32 := View.ld x (Rect.unit ![h.val, n, 0] ![1, 16, 512] (keys_inb n hn h))

/-- The second keys' factors, of a head. -/
def secondKeys (x : Vec Ideal S8x128x512 .bf16) (h : Fin 8) : Vec Ideal S1x128x512 .bf16 := View.ld x (Rect.unit ![h.val, 0, 0] ![1, 128, 512] (head_inb h))

/-- The store of a chunk's weights. -/
abbrev piece (hu : Vec Ideal S2048x512 .f32) (na e1 : Vec Ideal S8x128x512 .f32) (rb e2 : Vec Ideal S8x128x512 .bf16) (q : Fin 16) : View.Piece (Elt Ideal) S2048x512 .bf16 :=
  ⟨Rect.unit ![128 * q.val, 0] ![128, 512] (chunk_inb q),
    chunk q.val (cut q) (View.ld hu (Rect.unit ![128 * q.val, 0] ![128, 512] (chunk_inb q))) (firstKeys n hn na) (firstKeys n hn e1) (secondKeys rb) (secondKeys e2)⟩

/-- The sixteen stores that fill the weights' scratch, the last one first. -/
def pieces (hu : Vec Ideal S2048x512 .f32) (na e1 : Vec Ideal S8x128x512 .f32) (rb e2 : Vec Ideal S8x128x512 .bf16) : List (View.Piece (Elt Ideal) S2048x512 .bf16) :=
  [piece n hn hu na e1 rb e2 15, piece n hn hu na e1 rb e2 14, piece n hn hu na e1 rb e2 13, piece n hn hu na e1 rb e2 12,
   piece n hn hu na e1 rb e2 11, piece n hn hu na e1 rb e2 10, piece n hn hu na e1 rb e2 9, piece n hn hu na e1 rb e2 8,
   piece n hn hu na e1 rb e2 7, piece n hn hu na e1 rb e2 6, piece n hn hu na e1 rb e2 5, piece n hn hu na e1 rb e2 4,
   piece n hn hu na e1 rb e2 3, piece n hn hu na e1 rb e2 2, piece n hn hu na e1 rb e2 1, piece n hn hu na e1 rb e2 0]

end Pieces

/-- The first of the point's first keys. -/
abbrev base (i : grid0.Coords) : ℕ := BitVec.toNat (Scalar.indexCast (Scalar.muli (BitVec.ofNat 32 (i 1).val) 16#32))

theorem base_le (i : grid0.Coords) : base i ≤ 112 := by
  have h : (i 1).val < 8 := (i 1).isLt
  show ((BitVec.ofNat 32 (i 1).val) * 16#32).toNat ≤ 112
  simp only [BitVec.toNat_mul, BitVec.toNat_ofNat]
  omega

section Filled

variable (n : ℕ) (hn : n ≤ 112) (hu : Vec Ideal S2048x512 .f32) (na e1 : Vec Ideal S8x128x512 .f32) (rb e2 : Vec Ideal S8x128x512 .bf16)

theorem pieces_cover : ∀ y, ∃ p ∈ pieces n hn hu na e1 rb e2, y ∈ p.1.set :=
  View.cover_of_tiledBy _ ![128, 512] (by sl_kernel_rfl)

/-- The weights' scratch. -/
def filled : Vec Ideal S2048x512 .bf16 := View.canon (pieces n hn hu na e1 rb e2)

/-- A load of the whole of it. -/
theorem filled_load (arg : Memref sig .tc .vmem S2048x512 .bf16) :
    arg.view.readCov (pieces n hn hu na e1 rb e2) (Rect.unit ![0, 0] ![2048, 512] inb_S2048x512_S2048x512_0_0).toLoadRect = filled n hn hu na e1 rb e2 :=
  (View.readCov_eq_canon_ld _ _ _ (pieces_cover n hn hu na e1 rb e2)).trans (ld_weights _)

/-- One expert's weight, of the blocks: its first key among the point's, its second key. -/
def blockWeight (e : Fin 2048) (t : Fin 512) : EReal :=
  activation (hu (ix2 e t)) * gate (fun h => na (ix3 h ⟨n + e.val / 128, by omega⟩ t)) (fun h => e1 (ix3 h ⟨n + e.val / 128, by omega⟩ t))
    (fun h => rb (ix3 h ⟨e.val % 128, by omega⟩ t)) (fun h => e2 (ix3 h ⟨e.val % 128, by omega⟩ t))

theorem firstKeys_apply (x : Vec Ideal S8x128x512 .f32) (h : Fin 8) (q : Fin 16) (t : Fin 512) :
    firstKeys n hn x h (ix3 0 q t) = x (ix3 h ⟨n + q.val, by omega⟩ t) :=
  View.ld_unit_apply_of _ _ _ _ _ _ fun a => by
    match a with
    | ⟨0, _⟩ => show h.val = h.val + 0; omega
    | ⟨1, _⟩ => show n + q.val = n + q.val; rfl
    | ⟨2, _⟩ => show t.val = 0 + t.val; omega

theorem secondKeys_apply (x : Vec Ideal S8x128x512 .bf16) (h : Fin 8) (k : Fin 128) (t : Fin 512) : secondKeys x h (ix3 0 k t) = x (ix3 h k t) :=
  View.ld_unit_apply_of _ _ _ _ _ _ fun a => by
    match a with
    | ⟨0, _⟩ => show h.val = h.val + 0; omega
    | ⟨1, _⟩ => show k.val = 0 + k.val; omega
    | ⟨2, _⟩ => show t.val = 0 + t.val; omega

theorem piece_apply (q : Fin 16) (y : (piece n hn hu na e1 rb e2 q).1.shape.Idx) :
    (piece n hn hu na e1 rb e2 q).2 y = (fun j : S2048x512.Idx => blockWeight n hn hu na e1 rb e2 (j 0) (j 1)) ((piece n hn hu na e1 rb e2 q).1.emb y) := by
  obtain ⟨k, t, rfl⟩ := exists_index y
  refine (chunk_apply q.val (cut q) q.isLt _ _ _ _ _ k t).trans ?_
  have et : (⟨0 + 1 * t.val, by omega⟩ : Fin 512) = t := Fin.ext (by show 0 + 1 * t.val = t.val; omega)
  have ef : (⟨n + (128 * q.val + 1 * k.val) / 128, by omega⟩ : Fin 128) = ⟨n + q.val, by omega⟩ := Fin.ext (by show n + (128 * q.val + 1 * k.val) / 128 = n + q.val; omega)
  have es : (⟨(128 * q.val + 1 * k.val) % 128, by omega⟩ : Fin 128) = k := Fin.ext (by show (128 * q.val + 1 * k.val) % 128 = k.val; omega)
  have goal : (piece n hn hu na e1 rb e2 q).1.emb (ix2 k t) = ix2 ⟨128 * q.val + 1 * k.val, by omega⟩ ⟨0 + 1 * t.val, by omega⟩ := by
    funext a
    match a with
    | ⟨0, _⟩ => rfl
    | ⟨1, _⟩ => rfl
  rw [goal]
  show _ = blockWeight n hn hu na e1 rb e2 ⟨128 * q.val + 1 * k.val, by omega⟩ ⟨0 + 1 * t.val, by omega⟩
  unfold blockWeight
  dsimp only
  rw [ef, es, et]
  refine congrArg₂ (fun a b : EReal => a * b) (congrArg activation ?_) ?_
  · exact View.ld_unit_apply_of _ _ _ _ _ _ fun a => by
      match a with
      | ⟨0, _⟩ => show 128 * q.val + 1 * k.val = 128 * q.val + k.val; omega
      | ⟨1, _⟩ => show t.val = 0 + t.val; omega
  · simp only [firstKeys_apply, secondKeys_apply]

theorem filled_apply (e : Fin 2048) (t : Fin 512) : filled n hn hu na e1 rb e2 (ix2 e t) = blockWeight n hn hu na e1 rb e2 e t := by
  have h := piece_apply n hn hu na e1 rb e2
  refine View.canon_apply_of_pieces (fun j : S2048x512.Idx => blockWeight n hn hu na e1 rb e2 (j 0) (j 1)) (pieces n hn hu na e1 rb e2) ?_ (ix2 e t)
    (pieces_cover n hn hu na e1 rb e2 _)
  unfold pieces
  simp only [List.forall_mem_cons, List.not_mem_nil, false_imp_iff, implies_true, and_true]
  exact ⟨h 15, h 14, h 13, h 12, h 11, h 10, h 9, h 8, h 7, h 6, h 5, h 4, h 3, h 2, h 1, h 0⟩

end Filled

section Stores

variable (c : Dev nD) (i : grid0.Coords) (arg2 : Memref sig .tc .vmem S1024x512 .bf16) (harg2 : arg2.IsWhole) (arg3 : Memref sig .tc .vmem S512x1024 .f32) (harg3 : arg3.IsWhole) (arg4 : Memref sig .tc .vmem S2048x1024 .bf16) (harg4 : arg4.IsWhole) (arg5 : Memref sig .tc .vmem S2048x1024 .bf16) (harg5 : arg5.IsWhole) (arg6 : Memref sig .tc .vmem S8x128x512 .f32) (harg6 : arg6.IsWhole) (arg7 : Memref sig .tc .vmem S8x128x512 .f32) (harg7 : arg7.IsWhole) (arg8 : Memref sig .tc .vmem S8x128x512 .bf16) (harg8 : arg8.IsWhole) (arg9 : Memref sig .tc .vmem S8x128x512 .bf16) (harg9 : arg9.IsWhole) (arg10 : Memref sig .tc .vmem S1x1024 .f32) (harg10 : arg10.IsWhole) (arg11 : Memref sig .tc .vmem S1x1024 .f32) (harg11 : arg11.IsWhole) (arg12 : Memref sig .tc .vmem S512x1024 .f32) (harg12 : arg12.IsWhole) (arg13 : Memref sig .tc .vmem S512x1024 .f32) (harg13 : arg13.IsWhole) (arg14 : Memref sig .tc .vmem S2048x512 .f32) (harg14 : arg14.IsWhole) (arg15 : Memref sig .tc .vmem S2048x512 .bf16) (harg15 : arg15.IsWhole)
variable (x0 : Vec Ideal S1024x512 .bf16) (x1 : Vec Ideal S512x1024 .f32) (x2 x3 : Vec Ideal S2048x1024 .bf16) (x4 x5 : Vec Ideal S8x128x512 .f32) (x6 x7 : Vec Ideal S8x128x512 .bf16) (x8 x9 : Vec Ideal S1x1024 .f32) (acc : Vec Ideal S512x1024 .f32)

/-- What a point makes of the sum. -/
def step (acc : Vec Ideal S512x1024 .f32) : Vec Ideal S512x1024 .f32 :=
  k0_pay292 (F := Ideal) acc (filled (base i) (base_le i) (k0_pay3 x2 x0) x4 x5 x6 x7) x3

/-- A load of the sum, which one store filled. -/
theorem read_sum (arg : Memref sig .tc .vmem S512x1024 .f32) (w : Vec Ideal S512x1024 .f32) (L : List (View.Piece (Elt Ideal) S512x1024 .f32)) :
    arg.view.readCov (⟨Rect.unit ![0, 0] ![512, 1024] inb_S512x1024_S512x1024_0_0, w⟩ :: L) (Rect.unit ![0, 0] ![512, 1024] inb_S512x1024_S512x1024_0_0).toLoadRect = w :=
  View.readCov_cons_toLoadRect _ _ _ _

theorem sum_middle (hc0 : ¬cond0_0 i) (hc1 : ¬cond0_1 i) : sout0_B_0 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 acc = step i x0 x2 x3 x4 x5 x6 x7 acc := by
  have h : (kernelRun0_B c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 acc).2.1 = [⟨Rect.unit ![0, 0] ![512, 1024] inb_S512x1024_S512x1024_0_0, step i x0 x2 x3 x4 x5 x6 x7 acc⟩] := by
    unfold step
    rw [← filled_load _ _ _ _ _ _ _ arg15]
    unfold kernelRun0_B
    dsimp only
    sl_unfold_words
    simp only [read_whole, read_products, ld_tokens, ld_experts, ld_rows]
    rfl
  unfold sout0_B_0
  rw [h, View.read_writes_junk_eq_canon, View.canon_cons_unit_lit _ _ _ (by decide)]

theorem sum_last (hc0 : ¬cond0_0 i) (hc1 : cond0_1 i) : sout0_C_0 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 acc = step i x0 x2 x3 x4 x5 x6 x7 acc := by
  have h : (kernelRun0_C c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 acc).2.1 = [⟨Rect.unit ![0, 0] ![512, 1024] inb_S512x1024_S512x1024_0_0, step i x0 x2 x3 x4 x5 x6 x7 acc⟩] := by
    unfold step
    rw [← filled_load _ _ _ _ _ _ _ arg15]
    unfold kernelRun0_C
    dsimp only
    sl_unfold_words
    simp only [read_whole, read_products, ld_tokens, ld_experts, ld_rows]
    rfl
  unfold sout0_C_0
  rw [h, View.read_writes_junk_eq_canon, View.canon_cons_unit_lit _ _ _ (by decide)]

theorem sum_first (hc0 : cond0_0 i) (hc1 : ¬cond0_1 i) : sout0_A_0 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 = step i x0 x2 x3 x4 x5 x6 x7 (k0_pay2 (F := Ideal)) := by
  have h : (kernelRun0_A c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9).2.1 = [⟨Rect.unit ![0, 0] ![512, 1024] inb_S512x1024_S512x1024_0_0, step i x0 x2 x3 x4 x5 x6 x7 (k0_pay2 (F := Ideal))⟩,
      ⟨Rect.unit ![0, 0] ![512, 1024] inb_S512x1024_S512x1024_0_0, k0_pay2 (F := Ideal)⟩] := by
    unfold step
    rw [← filled_load _ _ _ _ _ _ _ arg15]
    unfold kernelRun0_A
    dsimp only
    sl_unfold_words
    simp only [read_whole, read_products, read_sum, ld_tokens, ld_experts, ld_rows]
    rfl
  unfold sout0_A_0
  rw [h, View.read_writes_junk_eq_canon, View.canon_cons_unit_lit _ _ _ (by decide)]

theorem out_last (hc0 : ¬cond0_0 i) (hc1 : cond0_1 i) : out0_C_10 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 acc = k0_pay1 (F := Ideal) x1 (step i x0 x2 x3 x4 x5 x6 x7 acc) x8 x9 := by
  have h : (kernelRun0_C c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 acc).1 = [⟨Rect.unit ![0, 0] ![512, 1024] inb_S512x1024_S512x1024_0_0, k0_pay1 (F := Ideal) x1 (step i x0 x2 x3 x4 x5 x6 x7 acc) x8 x9⟩] := by
    unfold step
    rw [← filled_load _ _ _ _ _ _ _ arg15]
    unfold kernelRun0_C
    dsimp only
    sl_unfold_words
    simp only [read_whole, read_products, read_sum, ld_tokens, ld_experts, ld_rows, ld_vector]
    rfl
  unfold out0_C_10
  rw [h, View.read_writes_junk_eq_canon, View.canon_cons_unit_lit _ _ _ (by decide)]

end Stores

end Experts

end
-- ==== Proof.ExpertsRef.lean ====
/- The experts' reference as a composition, and its value at one element. -/
module

public import proofs.«01_k».proof.Proof.ExpertsRow
public import proofs.«01_k».proof.Proof.Gen.ExpertsReferenceIdeal.Run
public import Idealize.ShloMosaic.Lib.Pointwise

@[expose] public section

set_option maxRecDepth 16384

noncomputable section

namespace ExpertsRef

open Cert.ExpertsReferenceIdeal Cert.ExpertsReferenceIdeal.Gen Idealize.ShloMosaic Idealize.ShloMosaic.TcCoe Idealize.SL.Sem

/-- The rows' means. -/
def means (x : FVec Ideal S16384x1024 .f32) : FVec Ideal S16384x1 .f32 :=
  Host.divf (broadcastInDim S16384x1 ![0] bcast_S16384_S16384x1_0 (Host.reduceAdd x (constant S_ .f32 0x00000000#32) reducesTo_S16384x1024_S16384_d1 h_S_))
    (broadcastInDim S16384x1 ![] bcast_S_S16384x1 (constant S_ .f32 0x44800000#32))

/-- The rows less their means. -/
def spreads (x : FVec Ideal S16384x1024 .f32) : FVec Ideal S16384x1024 .f32 :=
  subf x (broadcastInDim S16384x1024 ![0, 1] bcast_S16384x1_S16384x1024_0_1 (means x))

/-- The rows normalised, scaled and shifted. -/
def normalized (x : FVec Ideal S16384x1024 .f32) (g b : FVec Ideal S1x1024 .f32) : FVec Ideal S16384x1024 .f32 :=
  addf (mulf (mulf (spreads x) (broadcastInDim S16384x1024 ![0, 1] bcast_S16384x1_S16384x1024_0_1
      (Host.rsqrt (addf (means (mulf (spreads x) (spreads x))) (broadcastInDim S16384x1 ![] bcast_S_S16384x1 (constant S_ .f32 0x3727C5AC#32))))))
      (broadcastInDim S16384x1024 ![0, 1] bcast_S1x1024_S16384x1024_0_1 g))
    (broadcastInDim S16384x1024 ![0, 1] bcast_S1x1024_S16384x1024_0_1 b)

/-- A head's factor of the first key, for all experts. -/
def ofFirst (f : FVec Ideal S8x128x16384 .f32) : FVec Ideal S8x128x128x16384 .f32 :=
  broadcastInDim S8x128x128x16384 ![0, 1, 2, 3] bcast_S8x128x1x16384_S8x128x128x16384_0_1_2_3 (broadcastInDim S8x128x1x16384 ![0, 1, 3] bcast_S8x128x16384_S8x128x1x16384_0_1_3 f)

/-- A head's factor of the second key, for all experts. -/
def ofSecond (f : FVec Ideal S8x128x16384 .bf16) : FVec Ideal S8x128x128x16384 .f32 :=
  broadcastInDim S8x128x128x16384 ![0, 1, 2, 3] bcast_S8x1x128x16384_S8x128x128x16384_0_1_2_3
    (extf .f32 (broadcastInDim S8x1x128x16384 ![0, 2, 3] bcast_S8x128x16384_S8x1x128x16384_0_2_3 f) bitsLt_bf16_f32)

/-- Each head's gate, for all experts. -/
def headGates (na e1 : FVec Ideal S8x128x16384 .f32) (rb e2 : FVec Ideal S8x128x16384 .bf16) : FVec Ideal S8x128x128x16384 .f32 :=
  select (cmpf .olt (ofSecond rb) (ofFirst na)) (mulf (ofSecond e2) (ofFirst e1)) (broadcastInDim S8x128x128x16384 ![] bcast_S_S8x128x128x16384 (id (constant S_ .f32 0x00000000#32)))

/-- The gates. -/
def gates (na e1 : FVec Ideal S8x128x16384 .f32) (rb e2 : FVec Ideal S8x128x16384 .bf16) : FVec Ideal S128x128x16384 .f32 :=
  Host.reduceAdd (headGates na e1 rb e2) (constant S_ .f32 0x00000000#32) reducesTo_S8x128x128x16384_S128x128x16384_d0 h_S_

/-- The experts' products with the tokens. -/
def products (u : FVec Ideal S16384x1024 .bf16) (xt : FVec Ideal S1024x16384 .bf16) : FVec Ideal S16384x16384 .f32 :=
  Host.dotGeneral dot_S16384x1024_S1024x16384_S16384x16384_1_0_0_1_n_n none (extf .f32 u bitsLt_bf16_f32) (extf .f32 xt bitsLt_bf16_f32)

/-- The experts' activations. -/
def activations (z : FVec Ideal S16384x16384 .f32) : FVec Ideal S16384x16384 .f32 :=
  mulf z (addf (broadcastInDim S16384x16384 ![] bcast_S_S16384x16384 (constant S_ .f32 0x3F800000#32))
    (Host.erf (Host.divf z (broadcastInDim S16384x16384 ![] bcast_S_S16384x16384 (id (Host.sqrt (constant S_ .f32 0x40000000#32)))))))

/-- The experts' weights. -/
def weights (u : FVec Ideal S16384x1024 .bf16) (xt : FVec Ideal S1024x16384 .bf16) (g : FVec Ideal S128x128x16384 .f32) : FVec Ideal S16384x16384 .f32 :=
  mulf (activations (products u xt)) (shapeCast S16384x16384 g shapeCasts_S128x128x16384_S16384x16384)

/-- The stream, scaled, plus the experts' rows by their weights. -/
def summed (h : FVec Ideal S16384x1024 .f32) (a : FVec Ideal S16384x16384 .f32) (v : FVec Ideal S16384x1024 .bf16) : FVec Ideal S16384x1024 .f32 :=
  addf (mulf (broadcastInDim S16384x1024 ![] bcast_S_S16384x1024 (constant S_ .f32 0x3F9837F0#32)) h)
    (Host.dotGeneral dot_S16384x16384_S16384x1024_S16384x1024_0_0_1_1_n_n none a (extf .f32 v bitsLt_bf16_f32))

/-- The experts' result of its arguments. -/
def whole (xt : FVec Ideal S1024x16384 .bf16) (h : FVec Ideal S16384x1024 .f32) (u v : FVec Ideal S16384x1024 .bf16) (na e1 : FVec Ideal S8x128x16384 .f32)
    (rb e2 : FVec Ideal S8x128x16384 .bf16) (g b : FVec Ideal S1x1024 .f32) : FVec Ideal S16384x1024 .f32 :=
  normalized (summed h (weights u xt (gates na e1 rb e2)) v) g b

theorem result_eq (m : (ℓ : Loc nD τ sig) → Buf (Elt Ideal) ℓ) (c : Dev nD) :
    Value.res_out0 m c = whole (m ((c.tc : Thread nD τ).loc main_arg0)) (m ((c.tc : Thread nD τ).loc main_arg1))
      (m ((c.tc : Thread nD τ).loc main_arg2)) (m ((c.tc : Thread nD τ).loc main_arg3))
      (m ((c.tc : Thread nD τ).loc main_arg4)) (m ((c.tc : Thread nD τ).loc main_arg5))
      (m ((c.tc : Thread nD τ).loc main_arg6)) (m ((c.tc : Thread nD τ).loc main_arg7))
      (m ((c.tc : Thread nD τ).loc main_arg8)) (m ((c.tc : Thread nD τ).loc main_arg9)) := by
  unfold Value.res_out0 Value.res_main_v51
  rfl

/-- An array's row. -/
abbrev rowOf {n w : ℕ} (x : Shape.Idx ⟨2, ![n, w]⟩ → EReal) (r : Fin n) : Fin w → EReal := fun k => x (ix2 r k)

/-- An array's column. -/
abbrev colOf {n w : ℕ} (x : Shape.Idx ⟨2, ![n, w]⟩ → EReal) (k : Fin w) : Fin n → EReal := fun r => x (ix2 r k)

/-- A key's factor at a token, in each head. -/
abbrev headsOf {q n w : ℕ} (x : Shape.Idx ⟨3, ![q, n, w]⟩ → EReal) (k : Fin n) (t : Fin w) : Fin q → EReal := fun h => x (ix3 h k t)

theorem means_apply (x : FVec Ideal S16384x1024 .f32) (r : Fin 16384) : means x (ix2 r 0) = Merge.mean (rowOf x r) := by
  unfold means
  pointwise
  rfl

theorem spreads_apply (x : FVec Ideal S16384x1024 .f32) (r : Fin 16384) (k : Fin 1024) : spreads x (ix2 r k) = Merge.spread (rowOf x r) k := by
  have h := means_apply x r
  unfold spreads
  pointwise
  rw [h]
  rfl

theorem normalized_apply (x : FVec Ideal S16384x1024 .f32) (g b : FVec Ideal S1x1024 .f32) (r : Fin 16384) (k : Fin 1024) :
    normalized x g b (ix2 r k) = Merge.normalize (rowOf x r) (rowOf g 0) (rowOf b 0) k := by
  have h := means_apply (mulf (spreads x) (spreads x)) r
  have hs : rowOf (mulf (spreads x) (spreads x)) r = fun i => Merge.spread (rowOf x r) i * Merge.spread (rowOf x r) i :=
    funext fun i => congrArg₂ (fun u v : EReal => u * v) (spreads_apply x r i) (spreads_apply x r i)
  rw [hs] at h
  have h' := spreads_apply x r k
  unfold normalized
  pointwise
  rw [h, h']
  rfl

theorem gates_apply (na e1 : FVec Ideal S8x128x16384 .f32) (rb e2 : FVec Ideal S8x128x16384 .bf16) (i k : Fin 128) (t : Fin 16384) :
    gates na e1 rb e2 (ix3 i k t) = Experts.gate (headsOf na i t) (headsOf e1 i t) (headsOf rb k t) (headsOf e2 k t) := by
  unfold gates headGates ofFirst ofSecond
  pointwise
  refine Finset.sum_congr rfl fun h _ => ?_
  rw [show (id (constant S_ .f32 0x00000000#32 : FVec Ideal S_ .f32) ix0 : EReal) = 0 from by simp [constant, Ideal.ofBits, Ideal.ieee]]

theorem products_apply (u : FVec Ideal S16384x1024 .bf16) (xt : FVec Ideal S1024x16384 .bf16) (e t : Fin 16384) :
    products u xt (ix2 e t) = ∑ d, rowOf u e d * colOf xt t d := by
  unfold products
  pointwise

theorem activations_apply (z : FVec Ideal S16384x16384 .f32) (i : S16384x16384.Idx) : activations z i = Experts.activation (z i) := by
  show (z i * (Ideal.ofBits .f32 0x3F800000#32 + Ideal.erf (Ideal.div (z i) (Ideal.sqrt (Ideal.ofBits .f32 0x40000000#32)))) : EReal) = _
  rw [Merge.one_eq, Experts.div_sqrt_two]
  rfl

/-- An expert's first and second key. -/
def firstKey (e : Fin 16384) : Fin 128 := ⟨e.val / 128, by omega⟩
def secondKey (e : Fin 16384) : Fin 128 := ⟨e.val % 128, by omega⟩

theorem cast_apply (g : FVec Ideal S128x128x16384 .f32) (e t : Fin 16384) :
    shapeCast S16384x16384 g shapeCasts_S128x128x16384_S16384x16384 (ix2 e t) = g (ix3 (firstKey e) (secondKey e) t) := by
  pointwise
  rfl

/-- An expert's weight in a token, of the arguments. -/
def weightOf (xt : FVec Ideal S1024x16384 .bf16) (u : FVec Ideal S16384x1024 .bf16) (na e1 : FVec Ideal S8x128x16384 .f32) (rb e2 : FVec Ideal S8x128x16384 .bf16)
    (t e : Fin 16384) : EReal :=
  Experts.weight (rowOf u e) (colOf xt t) (headsOf na (firstKey e) t) (headsOf e1 (firstKey e) t) (headsOf rb (secondKey e) t) (headsOf e2 (secondKey e) t)

theorem weights_apply (xt : FVec Ideal S1024x16384 .bf16) (u : FVec Ideal S16384x1024 .bf16) (na e1 : FVec Ideal S8x128x16384 .f32) (rb e2 : FVec Ideal S8x128x16384 .bf16)
    (e t : Fin 16384) : weights u xt (gates na e1 rb e2) (ix2 e t) = weightOf xt u na e1 rb e2 t e := by
  show (activations (products u xt) (ix2 e t) * shapeCast S16384x16384 (gates na e1 rb e2) shapeCasts_S128x128x16384_S16384x16384 (ix2 e t) : EReal) = _
  rw [activations_apply, products_apply, cast_apply, gates_apply]
  rfl

theorem summed_apply (h : FVec Ideal S16384x1024 .f32) (a : FVec Ideal S16384x16384 .f32) (v : FVec Ideal S16384x1024 .bf16) (t : Fin 16384) (d : Fin 1024) :
    summed h a v (ix2 t d) = (Ideal.ofBits .f32 0x3F9837F0#32 * h (ix2 t d) + ∑ e, a (ix2 e t) * v (ix2 e d) : EReal) := by
  unfold summed
  pointwise

/-- One element of the experts' result. -/
theorem whole_apply (xt : FVec Ideal S1024x16384 .bf16) (h : FVec Ideal S16384x1024 .f32) (u v : FVec Ideal S16384x1024 .bf16) (na e1 : FVec Ideal S8x128x16384 .f32)
    (rb e2 : FVec Ideal S8x128x16384 .bf16) (g b : FVec Ideal S1x1024 .f32) (t : Fin 16384) (d : Fin 1024) :
    whole xt h u v na e1 rb e2 g b (ix2 t d)
      = Merge.normalize (fun k => (Ideal.ofBits .f32 0x3F9837F0#32 * h (ix2 t k) + ∑ e, weightOf xt u na e1 rb e2 t e * v (ix2 e k) : EReal)) (rowOf g 0) (rowOf b 0) d := by
  unfold whole
  rw [normalized_apply]
  refine congrArg (fun x => Merge.normalize x (rowOf g 0) (rowOf b 0) d) (funext fun k => ?_)
  show summed h _ v (ix2 t k) = _
  rw [summed_apply]
  refine congrArg (fun s : EReal => (Ideal.ofBits .f32 0x3F9837F0#32 * h (ix2 t k) + s : EReal)) (Finset.sum_congr rfl fun e _ => ?_)
  rw [weights_apply]

end ExpertsRef

end
-- ==== Proof.ExpertsWhole.lean ====
/- The experts' arrays: which block a point reads, the sum over a token block's points, and the array that the run leaves. -/
module

public import proofs.«01_k».proof.Proof.ExpertsStores
public import proofs.«01_k».proof.Proof.ExpertsRef

@[expose] public section

set_option maxRecDepth 16384

noncomputable section

namespace Experts

open Cert.ExpertsIdeal Cert.ExpertsIdeal.Gen Idealize.ShloMosaic Idealize.ShloMosaic.TcCoe Idealize.ShloMosaic.Tactic Idealize.SL.Sem

theorem points_lt (t : Fin cfg0.N) : t.val < 256 := lt_of_lt_of_eq t.isLt (show cfg0.N = 256 from N_0)

/-- The token of a point's block. -/
def token (n : ℕ) (hn : n < 256) (r : Fin 512) : Fin 16384 := ⟨512 * (n / 8) + r.val, by omega⟩

/-- The expert of a point's block. -/
def expert (n : ℕ) (e : Fin 2048) : Fin 16384 := ⟨2048 * (n % 8) + e.val, by omega⟩

theorem base_eq : ∀ t : Fin cfg0.N, base (grid0.coords t) = 16 * (t.val % 8) :=
  (by decide +kernel : ∀ t : Fin grid0.N, base (grid0.coords t) = 16 * (t.val % 8))

/-! ## Blocks -/

theorem index_tokens : ∀ t : Fin cfg0.N, (win0_0.index t (0 : Fin 2) = 0 ∧ win0_0.index t (1 : Fin 2) = t.val / 8) ∧ (win0_1.index t (0 : Fin 2) = t.val / 8 ∧ win0_1.index t (1 : Fin 2) = 0) ∧
    (win0_10.index t (0 : Fin 2) = t.val / 8 ∧ win0_10.index t (1 : Fin 2) = 0) :=
  (by decide +kernel : ∀ t : Fin grid0.N, (win0_0.index t (0 : Fin 2) = 0 ∧ win0_0.index t (1 : Fin 2) = t.val / 8) ∧ (win0_1.index t (0 : Fin 2) = t.val / 8 ∧ win0_1.index t (1 : Fin 2) = 0) ∧
    (win0_10.index t (0 : Fin 2) = t.val / 8 ∧ win0_10.index t (1 : Fin 2) = 0))

theorem index_experts : ∀ t : Fin cfg0.N, (win0_2.index t (0 : Fin 2) = t.val % 8 ∧ win0_2.index t (1 : Fin 2) = 0) ∧ (win0_3.index t (0 : Fin 2) = t.val % 8 ∧ win0_3.index t (1 : Fin 2) = 0) :=
  (by decide +kernel : ∀ t : Fin grid0.N, (win0_2.index t (0 : Fin 2) = t.val % 8 ∧ win0_2.index t (1 : Fin 2) = 0) ∧ (win0_3.index t (0 : Fin 2) = t.val % 8 ∧ win0_3.index t (1 : Fin 2) = 0))

theorem index_keys : ∀ t : Fin cfg0.N, win0_4.index t = ![0, 0, t.val / 8] ∧ win0_5.index t = ![0, 0, t.val / 8] ∧ win0_6.index t = ![0, 0, t.val / 8] ∧ win0_7.index t = ![0, 0, t.val / 8] :=
  (by decide +kernel : ∀ t : Fin grid0.N, win0_4.index t = ![0, 0, t.val / 8] ∧ win0_5.index t = ![0, 0, t.val / 8] ∧ win0_6.index t = ![0, 0, t.val / 8] ∧ win0_7.index t = ![0, 0, t.val / 8])

theorem index_vectors : ∀ (t : Fin cfg0.N) (a : Fin 2), win0_8.index t a = 0 ∧ win0_9.index t a = 0 :=
  (by decide +kernel : ∀ (t : Fin grid0.N) (a : Fin 2), win0_8.index t a = 0 ∧ win0_9.index t a = 0)

section Blocks

variable (m : (ℓ : Loc nD τ sig) → Buf (Elt Ideal) ℓ) (c : Dev nD) (t : Fin cfg0.N)

theorem tokens_block (d : Fin 1024) (r : Fin 512) : iblk m c 0 t (ix2 d r) = m ((c : Thread nD τ).loc main_arg0) (ix2 d (token t.val (points_lt t) r)) := by
  show m ((c : Thread nD τ).loc main_arg0) (((cfg0.win 0).blk t).view.emb (ix2 d r)) = _
  obtain ⟨⟨e0, e1⟩, -⟩ := index_tokens t
  refine congrArg _ ?_
  funext a; apply Fin.ext
  match a with
  | ⟨0, _⟩ => show win0_0.index t (0 : Fin 2) * 1024 + 1 * d.val = d.val; omega
  | ⟨1, _⟩ => show win0_0.index t (1 : Fin 2) * 512 + 1 * r.val = 512 * (t.val / 8) + r.val; omega

theorem stream_block (r : Fin 512) (d : Fin 1024) : iblk m c 1 t (ix2 r d) = m ((c : Thread nD τ).loc main_arg1) (ix2 (token t.val (points_lt t) r) d) := by
  show m ((c : Thread nD τ).loc main_arg1) (((cfg0.win 1).blk t).view.emb (ix2 r d)) = _
  obtain ⟨-, ⟨e0, e1⟩, -⟩ := index_tokens t
  refine congrArg _ ?_
  funext a; apply Fin.ext
  match a with
  | ⟨0, _⟩ => show win0_1.index t (0 : Fin 2) * 512 + 1 * r.val = 512 * (t.val / 8) + r.val; omega
  | ⟨1, _⟩ => show win0_1.index t (1 : Fin 2) * 1024 + 1 * d.val = d.val; omega

theorem inner_block (e : Fin 2048) (d : Fin 1024) : iblk m c 2 t (ix2 e d) = m ((c : Thread nD τ).loc main_arg2) (ix2 (expert t.val e) d) := by
  show m ((c : Thread nD τ).loc main_arg2) (((cfg0.win 2).blk t).view.emb (ix2 e d)) = _
  obtain ⟨⟨e0, e1⟩, -⟩ := index_experts t
  refine congrArg _ ?_
  funext a; apply Fin.ext
  match a with
  | ⟨0, _⟩ => show win0_2.index t (0 : Fin 2) * 2048 + 1 * e.val = 2048 * (t.val % 8) + e.val; omega
  | ⟨1, _⟩ => show win0_2.index t (1 : Fin 2) * 1024 + 1 * d.val = d.val; omega

theorem outer_block (e : Fin 2048) (d : Fin 1024) : iblk m c 3 t (ix2 e d) = m ((c : Thread nD τ).loc main_arg3) (ix2 (expert t.val e) d) := by
  show m ((c : Thread nD τ).loc main_arg3) (((cfg0.win 3).blk t).view.emb (ix2 e d)) = _
  obtain ⟨-, ⟨e0, e1⟩⟩ := index_experts t
  refine congrArg _ ?_
  funext a; apply Fin.ext
  match a with
  | ⟨0, _⟩ => show win0_3.index t (0 : Fin 2) * 2048 + 1 * e.val = 2048 * (t.val % 8) + e.val; omega
  | ⟨1, _⟩ => show win0_3.index t (1 : Fin 2) * 1024 + 1 * d.val = d.val; omega

/-- The keys' four blocks are laid out alike. -/
theorem keys_index {s : Fin 3 → ℕ} (hs : s = ![0, 0, t.val / 8]) (h : Fin 8) (k : Fin 128) (r : Fin 512) (j : S8x128x16384.Idx)
    (h0 : (j 0).val = s 0 * 8 + 1 * h.val) (h1 : (j 1).val = s 1 * 128 + 1 * k.val) (h2 : (j 2).val = s 2 * 512 + 1 * r.val) :
    j = ix3 h k (token t.val (points_lt t) r) := by
  subst hs
  funext a; apply Fin.ext
  match a with
  | ⟨0, _⟩ => exact h0.trans (by show 0 * 8 + 1 * h.val = h.val; omega)
  | ⟨1, _⟩ => exact h1.trans (by show 0 * 128 + 1 * k.val = k.val; omega)
  | ⟨2, _⟩ => exact h2.trans (by show t.val / 8 * 512 + 1 * r.val = 512 * (t.val / 8) + r.val; omega)

theorem count_block (h : Fin 8) (k : Fin 128) (r : Fin 512) : iblk m c 4 t (ix3 h k r) = m ((c : Thread nD τ).loc main_arg4) (ix3 h k (token t.val (points_lt t) r)) :=
  congrArg (m ((c : Thread nD τ).loc main_arg4)) (keys_index t (index_keys t).1 h k r (((cfg0.win 4).blk t).view.emb (ix3 h k r)) rfl rfl rfl)

theorem first_block (h : Fin 8) (k : Fin 128) (r : Fin 512) : iblk m c 5 t (ix3 h k r) = m ((c : Thread nD τ).loc main_arg5) (ix3 h k (token t.val (points_lt t) r)) :=
  congrArg (m ((c : Thread nD τ).loc main_arg5)) (keys_index t (index_keys t).2.1 h k r (((cfg0.win 5).blk t).view.emb (ix3 h k r)) rfl rfl rfl)

theorem rank_block (h : Fin 8) (k : Fin 128) (r : Fin 512) : iblk m c 6 t (ix3 h k r) = m ((c : Thread nD τ).loc main_arg6) (ix3 h k (token t.val (points_lt t) r)) :=
  congrArg (m ((c : Thread nD τ).loc main_arg6)) (keys_index t (index_keys t).2.2.1 h k r (((cfg0.win 6).blk t).view.emb (ix3 h k r)) rfl rfl rfl)

theorem second_block (h : Fin 8) (k : Fin 128) (r : Fin 512) : iblk m c 7 t (ix3 h k r) = m ((c : Thread nD τ).loc main_arg7) (ix3 h k (token t.val (points_lt t) r)) :=
  congrArg (m ((c : Thread nD τ).loc main_arg7)) (keys_index t (index_keys t).2.2.2 h k r (((cfg0.win 7).blk t).view.emb (ix3 h k r)) rfl rfl rfl)

theorem scale_block : iblk m c 8 t = m ((c : Thread nD τ).loc main_arg8) := by
  funext y
  refine congrArg (m ((c : Thread nD τ).loc main_arg8)) (funext fun a => Fin.ext ?_)
  show win0_8.index t a * S1x1024.size a + 1 * (y a).val = (y a).val
  rw [(index_vectors t a).1]; omega

theorem shift_block : iblk m c 9 t = m ((c : Thread nD τ).loc main_arg9) := by
  funext y
  refine congrArg (m ((c : Thread nD τ).loc main_arg9)) (funext fun a => Fin.ext ?_)
  show win0_9.index t a * S1x1024.size a + 1 * (y a).val = (y a).val
  rw [(index_vectors t a).2]; omega

theorem result_emb (r : Fin 512) (d : Fin 1024) : ((cfg0.win 10).blk t).view.emb (ix2 r d) = ix2 (token t.val (points_lt t) r) d := by
  obtain ⟨-, -, ⟨e0, e1⟩⟩ := index_tokens t
  funext a; apply Fin.ext
  match a with
  | ⟨0, _⟩ => show win0_10.index t (0 : Fin 2) * 512 + 1 * r.val = 512 * (t.val / 8) + r.val; omega
  | ⟨1, _⟩ => show win0_10.index t (1 : Fin 2) * 1024 + 1 * d.val = d.val; omega

/-! ## The sum -/

/-- An expert's weight in a token, of the launched arrays. -/
abbrev weightAt (r e : Fin 16384) : EReal :=
  ExpertsRef.weightOf (m ((c : Thread nD τ).loc main_arg0)) (m ((c : Thread nD τ).loc main_arg2)) (m ((c : Thread nD τ).loc main_arg4)) (m ((c : Thread nD τ).loc main_arg5))
    (m ((c : Thread nD τ).loc main_arg6)) (m ((c : Thread nD τ).loc main_arg7)) r e

/-- What a point adds to the sum. -/
def added (n : ℕ) (i : S512x1024.Idx) : EReal :=
  if hn : n < 256 then ∑ e : Fin 2048, weightAt m c (token n hn (i 0)) (expert n e) * m ((c : Thread nD τ).loc main_arg3) (ix2 (expert n e) (i 1)) else 0

theorem added_of_lt (n : ℕ) (hn : n < 256) (i : S512x1024.Idx) :
    added m c n i = ∑ e : Fin 2048, weightAt m c (token n hn (i 0)) (expert n e) * m ((c : Thread nD τ).loc main_arg3) (ix2 (expert n e) (i 1)) :=
  dif_pos hn

/-- What a point makes of the sum, at its blocks. -/
abbrev stepAt (acc : Vec Ideal S512x1024 .f32) : Vec Ideal S512x1024 .f32 :=
  step (grid0.coords t) (iblk m c 0 t) (iblk m c 2 t) (iblk m c 3 t) (iblk m c 4 t) (iblk m c 5 t) (iblk m c 6 t) (iblk m c 7 t) acc

theorem weight_eq (e : Fin 2048) (r : Fin 512) :
    blockWeight (base (grid0.coords t)) (base_le (grid0.coords t)) (k0_pay3 (F := Ideal) (iblk m c 2 t) (iblk m c 0 t)) (iblk m c 4 t) (iblk m c 5 t) (iblk m c 6 t) (iblk m c 7 t) e r
      = weightAt m c (token t.val (points_lt t) r) (expert t.val e) := by
  have hf : (⟨base (grid0.coords t) + e.val / 128, by have := base_le (grid0.coords t); omega⟩ : Fin 128) = ExpertsRef.firstKey (expert t.val e) :=
    Fin.ext (by show base (grid0.coords t) + e.val / 128 = (2048 * (t.val % 8) + e.val) / 128; rw [base_eq t]; omega)
  have hs : (⟨e.val % 128, by omega⟩ : Fin 128) = ExpertsRef.secondKey (expert t.val e) :=
    Fin.ext (by show e.val % 128 = (2048 * (t.val % 8) + e.val) % 128; omega)
  unfold blockWeight
  rw [product_apply, hf, hs]
  simp only [count_block, first_block, rank_block, second_block]
  rw [show (∑ d, rowOf (iblk m c 2 t) e d * colOf (iblk m c 0 t) r d : EReal)
      = ∑ d, ExpertsRef.rowOf (m ((c : Thread nD τ).loc main_arg2)) (expert t.val e) d * ExpertsRef.colOf (m ((c : Thread nD τ).loc main_arg0)) (token t.val (points_lt t) r) d from
    Finset.sum_congr rfl fun d _ => congrArg₂ (fun a b : EReal => a * b) (inner_block m c t e d) (tokens_block m c t d r)]
  rfl

theorem step_apply (acc : Vec Ideal S512x1024 .f32) (i : S512x1024.Idx) : stepAt m c t acc i = (acc i + added m c t.val i : EReal) := by
  obtain ⟨r, d, rfl⟩ := exists_index i
  unfold stepAt step
  rw [sum_apply]
  refine congrArg (fun s : EReal => (acc (ix2 r d) + s : EReal)) ?_
  rw [added_of_lt m c t.val (points_lt t)]
  refine Finset.sum_congr rfl fun e _ => ?_
  rw [filled_apply, weight_eq, outer_block]
  rfl

end Blocks

section Final

variable (m : (ℓ : Loc nD τ sig) → Buf (Elt Ideal) ℓ) (c : Dev nD)

theorem start_point (n : ℕ) (h : n < cfg0.N) (hn : n % 8 = 0) (acc : Vec Ideal S512x1024 .f32) (i : S512x1024.Idx) :
    Value.scAt0_0 m c n h acc i = (0 + added m c n i : EReal) := by
  unfold Value.scAt0_0
  rw [dif_pos hn, dif_neg (by omega), sum_first]
  refine (step_apply m c ⟨n, h⟩ _ i).trans ?_
  obtain ⟨r, d, rfl⟩ := exists_index i
  rw [start_apply]

theorem later_point (n : ℕ) (h : n < cfg0.N) (hn : n % 8 ≠ 0) (acc : Vec Ideal S512x1024 .f32) (i : S512x1024.Idx) :
    Value.scAt0_0 m c n h acc i = (acc i + added m c n i : EReal) := by
  unfold Value.scAt0_0
  rw [dif_neg hn]
  by_cases h7 : n % 8 = 7
  · rw [dif_pos h7, sum_last]
    exact step_apply m c ⟨n, h⟩ acc i
  · rw [dif_neg h7, sum_middle]
    exact step_apply m c ⟨n, h⟩ acc i

/-- The sum that a token block's last point leaves. -/
theorem sum_eq (t : Fin cfg0.N) (ht : t.val % 8 = 7) (i : S512x1024.Idx) :
    (outsAt0 m c t.val t.isLt).2 i = (∑ e, weightAt m c (token t.val (points_lt t) (i 0)) e * m ((c : Thread nD τ).loc main_arg3) (ix2 e (i 1)) : EReal) := by
  have hN := points_lt t
  rw [Value.soutsAt0_0_eq]
  refine (Pipeline.accAt_add_apply _ _ (fun _ => (0 : EReal)) (added m c) (8 * (t.val / 8)) (t.val % 8)
    (fun h i => start_point m c _ h (by omega) _ i) (fun n h acc i h1 h2 => later_point m c n h (by omega) acc i) _ le_rfl _ i).trans ?_
  rw [zero_add, ht]
  rw [Finset.sum_range]
  have hs : ∀ s : Fin (7 + 1), added m c (8 * (t.val / 8) + s.val) i
      = ∑ e : Fin 2048, weightAt m c (token t.val hN (i 0)) ⟨2048 * s.val + e.val, by omega⟩ * m ((c : Thread nD τ).loc main_arg3) (ix2 ⟨2048 * s.val + e.val, by omega⟩ (i 1)) := by
    intro s
    refine (added_of_lt m c _ (by omega) i).trans (Finset.sum_congr rfl fun e _ => ?_)
    have h1 : token (8 * (t.val / 8) + s.val) (by omega) (i 0) = token t.val hN (i 0) :=
      Fin.ext (by show 512 * ((8 * (t.val / 8) + s.val) / 8) + (i 0).val = 512 * (t.val / 8) + (i 0).val; omega)
    have h2 : expert (8 * (t.val / 8) + s.val) e = ⟨2048 * s.val + e.val, by omega⟩ :=
      Fin.ext (by show 2048 * ((8 * (t.val / 8) + s.val) % 8) + e.val = 2048 * s.val + e.val; omega)
    rw [h1, h2]
  rw [Finset.sum_congr rfl fun s _ => hs s]
  rw [← Fintype.sum_prod_type' (f := fun (s : Fin (7 + 1)) (e : Fin 2048) =>
    (weightAt m c (token t.val hN (i 0)) ⟨2048 * s.val + e.val, by omega⟩ * m ((c : Thread nD τ).loc main_arg3) (ix2 ⟨2048 * s.val + e.val, by omega⟩ (i 1)) : EReal))]
  refine Fintype.sum_equiv (finProdFinEquiv.trans (finCongr (by norm_num : (7 + 1) * 2048 = 16384))) _ _ fun x => ?_
  have hx : (⟨2048 * x.1.val + x.2.val, by omega⟩ : Fin 16384) = finProdFinEquiv.trans (finCongr (by norm_num : (7 + 1) * 2048 = 16384)) x :=
    Fin.ext (by show 2048 * x.1.val + x.2.val = x.2.val + 2048 * x.1.val; omega)
  rw [hx]

/-- The result that the arguments call for. -/
def result : FVec Ideal S16384x1024 .f32 :=
  ExpertsRef.whole (m ((c : Thread nD τ).loc main_arg0)) (m ((c : Thread nD τ).loc main_arg1)) (m ((c : Thread nD τ).loc main_arg2)) (m ((c : Thread nD τ).loc main_arg3))
    (m ((c : Thread nD τ).loc main_arg4)) (m ((c : Thread nD τ).loc main_arg5)) (m ((c : Thread nD τ).loc main_arg6)) (m ((c : Thread nD τ).loc main_arg7))
    (m ((c : Thread nD τ).loc main_arg8)) (m ((c : Thread nD τ).loc main_arg9))

/-- What a token block's last point leaves in the result's block. -/
theorem out_eq (t : Fin cfg0.N) (ht : t.val % 8 = 7) :
    (outsAt0 m c t.val t.isLt).1 = k0_pay1 (F := Ideal) (iblk m c 1 t) (outsAt0 m c t.val t.isLt).2 (iblk m c 8 t) (iblk m c 9 t) := by
  rw [outsAt0_C m c t (by omega) ht]
  dsimp only
  rw [out_last, sum_last]

theorem flushed_eq (t : Fin cfg0.N) (hf : (cfg0.win 10).flush t = true) : (dats m 0 c).flushed 10 t = ((cfg0.win 10).blk t).view.read (Elt Ideal) (result m c) := by
  have ht : t.val % 8 = 7 := (flush0_10 t).mp hf
  rw [Value.flushed10, out_eq m c t ht]
  funext j
  obtain ⟨r, d, rfl⟩ := exists_index j
  show k0_pay1 (F := Ideal) (iblk m c 1 t) (outsAt0 m c t.val t.isLt).2 (iblk m c 8 t) (iblk m c 9 t) (ix2 r d) = result m c (((cfg0.win 10).blk t).view.emb (ix2 r d))
  rw [result_emb, last_apply]
  unfold result
  rw [ExpertsRef.whole_apply, scale_block, shift_block]
  refine congrArg (fun x => Merge.normalize x _ _ d) (funext fun k => ?_)
  rw [stream_block, sum_eq m c t ht]
  rfl

theorem cover (i : S16384x1024.Idx) : ∃ t : Fin cfg0.N, (cfg0.win 10).flush t = true ∧ i ∈ ((cfg0.win 10).blk t).view.set :=
  (Value.covered_iff10 i).2 (by
    have h0 : (i 0).val < 16384 := (i 0).isLt
    have h1 : (i 1).val < 1024 := (i 1).isLt
    omega)

theorem array_eq : (dats m 0 c).arrAt 10 cfg0.N = result m c :=
  (dats m 0 c).arrAt_eq_of_cover 10 _ (fun t hf => flushed_eq m c t hf) (cover)

end Final

end Experts

end
-- ==== Proof.AttendBlock.lean ====
/- The attention's block of 128 queries, for one pair of heads, as a function of what the kernel loads; and the bias of a head. -/
module

public import proofs.«01_k».proof.Proof.Gen.AttendIdeal.Skeleton
public import proofs.«01_k».proof.Proof.Heads
public import Idealize.ShloMosaic.Lib.Pointwise

@[expose] public section

set_option maxRecDepth 16384

noncomputable section

namespace Attend

open Cert.AttendIdeal Cert.AttendIdeal.Gen Idealize.ShloMosaic Idealize.ShloMosaic.TcCoe Idealize.SL.Sem
open Fox (headOf)

/-- The zero of the half that a head has not. -/
abbrev none16 : Ideal .bf16 := Scalar.ofBits .bf16 0x0000#16

/-- The lanes of the first head of a pair, in a block of queries and in a block of keys. -/
def queryLanes : IVec S128x128 1 := cmpi .slt (iota .tc S128x128 32 [1] iota_S128x128_d1_w32) (broadcast S128x128 64#32)
def keyLanes : IVec S256x128 1 := cmpi .slt (iota .tc S256x128 32 [1] iota_S256x128_d1_w32) (broadcast S256x128 64#32)

/-- Two blocks of 128 rows, one above the other. -/
def stacked (a b : Vec Ideal S1x128x128 .bf16) : FVec Ideal S256x128 .bf16 :=
  concatenate S256x128 0 [⟨S128x128, shapeCast S128x128 a shapeCasts_S1x128x128_S128x128⟩, ⟨S128x128, shapeCast S128x128 b shapeCasts_S1x128x128_S128x128⟩]
    concatenates_S128x128_S128x128_S256x128_d0

/-- The queries of one head of a pair, zero in the other head's lanes. -/
def queriesOf (h : Fin 2) (q : Vec Ideal S1x128x128 .bf16) : FVec Ideal S128x128 .bf16 :=
  match h with
  | 0 => select queryLanes (shapeCast S128x128 q shapeCasts_S1x128x128_S128x128) (broadcast S128x128 none16)
  | 1 => select queryLanes (broadcast S128x128 none16) (shapeCast S128x128 q shapeCasts_S1x128x128_S128x128)

/-- The values of one head of a pair, zero in the other head's lanes. -/
def valuesOf (h : Fin 2) (a b : Vec Ideal S1x128x128 .bf16) : FVec Ideal S256x128 .bf16 :=
  match h with
  | 0 => select keyLanes (stacked a b) (broadcast S256x128 none16)
  | 1 => select keyLanes (broadcast S256x128 none16) (stacked a b)

/-- The keys that are no padding, the block's first key being number `w`. -/
def seen (w : BitVec 32) : IVec S128x256 1 :=
  cmpi .sge (addi (broadcast S128x256 w) (iota .tc S128x256 32 [1] iota_S128x256_d1_w32)) (broadcast S128x256 112#32)

/-- The logits of one head. -/
def logits (w : BitVec 32) (q : FVec Ideal S128x128 .bf16) (kk : FVec Ideal S256x128 .bf16) (bias : Vec Ideal S1x128x256 .f32) : FVec Ideal S128x256 .f32 :=
  select (seen w) (addf (matmul dot_S128x128_S256x128_S128x256_1_1_0_0_n_n none q kk (constant S128x256 .f32 0x00000000#32))
    (shapeCast S128x256 bias shapeCasts_S1x128x256_S128x256)) (broadcast S128x256 (Named.named κ "mask" 0xF149F2CA#32))

/-- The sink's logit. -/
def sinkLogit (s : Ideal .f32) : Ideal .f32 := Scalar.mulf s (Named.named κ "log2e" 0x3FB8AA3B#32)

/-- The greatest logit of each query, the sink's among them. -/
def rowTop (l : FVec Ideal S128x256 .f32) (s : Ideal .f32) : FVec Ideal S128x1 .f32 :=
  maximumf (shapeCast S128x1 (multiReduction .maximumf [1] S128 l 0xFF800000#32 reduces_S128x256_S128 (.inl rfl) rfl) shapeCasts_S128_S128x1) (broadcast S128x1 s)

/-- The weights before they are divided. -/
def weights (l : FVec Ideal S128x256 .f32) (s : Ideal .f32) : FVec Ideal S128x256 .f32 :=
  exp2 (subf l (broadcastTo S128x256 (rowTop l s) broadcasts_S128x1_S128x256))

/-- Their sum, with the sink's. -/
def total (l : FVec Ideal S128x256 .f32) (s : Ideal .f32) : FVec Ideal S128x1 .f32 :=
  addf (shapeCast S128x1 (multiReduction .add [1] S128 (weights l s) 0x00000000#32 reduces_S128x256_S128 (.inl rfl) rfl) shapeCasts_S128_S128x1)
    (exp2 (subf (broadcast S128x1 s) (rowTop l s)))

/-- The values of one head, summed by weight. -/
def headOut (l : FVec Ideal S128x256 .f32) (s : Ideal .f32) (v : FVec Ideal S256x128 .bf16) : FVec Ideal S128x128 .f32 :=
  divf (matmul dot_S128x256_S256x128_S128x128_1_0_0_1_n_n none (truncf .bf16 (weights l s) bitsLt_bf16_f32) v (constant S128x128 .f32 0x00000000#32))
    (broadcastTo S128x128 (total l s) broadcasts_S128x1_S128x128)

/-- What is stored for a pair of heads. -/
def pairOut (w : BitVec 32) (q ka kb va vb : Vec Ideal S1x128x128 .bf16) (bias0 bias1 : Vec Ideal S1x128x256 .f32) (s0 s1 : Ideal .f32) : FVec Ideal S1x128x128 .bf16 :=
  shapeCast S1x128x128 (truncf .bf16 (addf
    (headOut (logits w (queriesOf 0 q) (stacked ka kb) bias0) (sinkLogit s0) (valuesOf 0 va vb))
    (headOut (logits w (queriesOf 1 q) (stacked ka kb) bias1) (sinkLogit s1) (valuesOf 1 va vb))) bitsLt_bf16_f32) shapeCasts_S128x128_S1x128x128

/-- The bias of a head after the first `n` buckets. -/
def biasOf (bucket : Vec Ideal S128x256 .i32) (rel : ℕ → Ideal .f32) : ℕ → FVec Ideal S128x256 .f32
  | 0 => select (cmpi .slt bucket (broadcast S128x256 0#32)) (broadcast S128x256 (Named.named κ "mask" 0xF149F2CA#32)) (broadcast S128x256 (Scalar.ofBits .f32 0x00000000#32))
  | n + 1 => select (cmpi .eq bucket (broadcast S128x256 (BitVec.ofNat 32 n))) (broadcast S128x256 (Scalar.mulf (rel n) (Named.named κ "log2e" 0x3FB8AA3B#32))) (biasOf bucket rel n)

theorem mask_eq : (Named.named κ "mask" 0xF149F2CA#32 : Ideal .f32) = (⊥ : EReal) := rfl

theorem log2e_eq : (Named.named κ "log2e" 0x3FB8AA3B#32 : Ideal .f32) = (((Real.log 2)⁻¹ : ℝ) : EReal) := rfl

theorem stacked_low (a b : Vec Ideal S1x128x128 .bf16) (k d : Fin 128) : stacked a b (ix2 ⟨k.val, by omega⟩ d) = a (ix3 0 k d) := by
  unfold stacked
  pointwise

theorem stacked_high (a b : Vec Ideal S1x128x128 .bf16) (k d : Fin 128) : stacked a b (ix2 ⟨128 + k.val, by omega⟩ d) = b (ix3 0 k d) := by
  unfold stacked
  pointwise

theorem lane_word (d : Fin 128) : IntOp.cmpi .slt (BitVec.ofNat 32 d.val) 64#32 = if headOf d = 0 then 1#1 else 0#1 := by
  revert d
  decide +kernel

theorem half (d : Fin 128) : headOf d = 0 ∨ headOf d = 1 := by
  generalize headOf d = x
  revert x
  decide

theorem queriesOf_apply (h : Fin 2) (q : Vec Ideal S1x128x128 .bf16) (r d : Fin 128) :
    queriesOf h q (ix2 r d) = if headOf d = h then (q (ix3 0 r d) : EReal) else 0 := by
  have h0 : (none16 : EReal) = 0 := Ideal.ofBits_zero _
  match h with
  | 0 =>
    unfold queriesOf queryLanes
    pointwise
    rw [lane_word]
    by_cases e : headOf d = 0 <;> simp [e, Scalar.select, h0]
  | 1 =>
    unfold queriesOf queryLanes
    pointwise
    rw [lane_word]
    rcases half d with e | e <;> simp [e, Scalar.select, h0]

theorem valuesOf_apply (h : Fin 2) (a b : Vec Ideal S1x128x128 .bf16) (k : Fin 256) (d : Fin 128) :
    valuesOf h a b (ix2 k d) = if headOf d = h then (stacked a b (ix2 k d) : EReal) else 0 := by
  have h0 : (none16 : EReal) = 0 := Ideal.ofBits_zero _
  match h with
  | 0 =>
    unfold valuesOf keyLanes
    generalize stacked a b = x
    pointwise
    rw [lane_word]
    by_cases e : headOf d = 0 <;> simp [e, Scalar.select, h0]
  | 1 =>
    unfold valuesOf keyLanes
    generalize stacked a b = x
    pointwise
    rw [lane_word]
    rcases half d with e | e <;> simp [e, Scalar.select, h0]

theorem logits_apply (n : ℕ) (hn : n ≤ 2048) (q : FVec Ideal S128x128 .bf16) (kk : FVec Ideal S256x128 .bf16) (bias : Vec Ideal S1x128x256 .f32) (r : Fin 128) (k : Fin 256) :
    logits (BitVec.ofNat 32 n) q kk bias (ix2 r k) =
      if 112 ≤ n + k.val then (∑ d : Fin 128, (q (ix2 r d) * kk (ix2 k d) : EReal)) + bias (ix3 0 r k) else (⊥ : EReal) := by
  unfold logits seen
  pointwise
  rw [show IntOp.addi (BitVec.ofNat 32 n) (BitVec.ofNat 32 k.val) = BitVec.ofNat 32 (n + k.val) from (BitVec.ofNat_add n k.val).symm,
    show IntOp.cmpi .sge (BitVec.ofNat 32 (n + k.val)) 112#32 = IntOp.cmpi .sle (BitVec.ofNat 32 112) (BitVec.ofNat 32 (n + k.val)) from rfl,
    Fox.sle_ofNat (by omega) (by omega)]
  by_cases h2 : 112 ≤ n + k.val <;> simp [h2, Scalar.select, mask_eq]

theorem rowTop_apply (l : FVec Ideal S128x256 .f32) (s : Ideal .f32) (r : Fin 128) :
    rowTop l s (ix2 r 0) = max (Finset.univ.sup fun k : Fin 256 => (l (ix2 r k) : EReal)) (s : EReal) := by
  have hr : multiReduction .maximumf [1] S128 l 0xFF800000#32 reduces_S128x256_S128 (.inl rfl) rfl (ix1 r)
      = Finset.fold max (Ideal.ofBits .f32 0xFF800000#32) (fun k : Fin 256 => (l (ix2 r k) : EReal)) Finset.univ := by
    pointwise
  unfold rowTop
  show max (shapeCast S128x1 _ shapeCasts_S128_S128x1 (ix2 r 0) : EReal) (s : EReal) = _
  rw [show shapeCast S128x1 (multiReduction .maximumf [1] S128 l 0xFF800000#32 reduces_S128x256_S128 (.inl rfl) rfl) shapeCasts_S128_S128x1 (ix2 r 0)
    = multiReduction .maximumf [1] S128 l 0xFF800000#32 reduces_S128x256_S128 (.inl rfl) rfl (ix1 r) from by pointwise, hr, Fox.negInf_eq]
  rfl

theorem weights_apply (l : FVec Ideal S128x256 .f32) (s : Ideal .f32) (r : Fin 128) (k : Fin 256) :
    weights l s (ix2 r k) = Ideal.exp2 (l (ix2 r k) - rowTop l s (ix2 r 0)) := by
  unfold weights
  pointwise
  rfl

theorem total_apply (l : FVec Ideal S128x256 .f32) (s : Ideal .f32) (r : Fin 128) :
    total l s (ix2 r 0) = (∑ k : Fin 256, (weights l s (ix2 r k) : EReal)) + Ideal.exp2 (s - rowTop l s (ix2 r 0)) := by
  unfold total
  pointwise
  rfl

theorem headOut_apply (l : FVec Ideal S128x256 .f32) (s : Ideal .f32) (v : FVec Ideal S256x128 .bf16) (r d : Fin 128) :
    headOut l s v (ix2 r d) = Ideal.div (∑ k : Fin 256, (weights l s (ix2 r k) * v (ix2 k d) : EReal)) (total l s (ix2 r 0)) := by
  unfold headOut
  pointwise

theorem pairOut_apply (w : BitVec 32) (q ka kb va vb : Vec Ideal S1x128x128 .bf16) (bias0 bias1 : Vec Ideal S1x128x256 .f32) (s0 s1 : Ideal .f32) (r d : Fin 128) :
    pairOut w q ka kb va vb bias0 bias1 s0 s1 (ix3 0 r d) =
      (headOut (logits w (queriesOf 0 q) (stacked ka kb) bias0) (sinkLogit s0) (valuesOf 0 va vb) (ix2 r d) : EReal) +
      headOut (logits w (queriesOf 1 q) (stacked ka kb) bias1) (sinkLogit s1) (valuesOf 1 va vb) (ix2 r d) := by
  unfold pairOut
  pointwise

/-- The bias of a bucket. -/
def biasAt (rel : ℕ → EReal) (n : ℕ) (w : BitVec 32) : EReal :=
  if w.toNat < n then rel w.toNat * (((Real.log 2)⁻¹ : ℝ) : EReal) else if w.slt 0#32 then ⊥ else 0

theorem select_eq (w : BitVec 32) (n : ℕ) (a b : EReal) :
    Scalar.select (IntOp.cmpi .eq w (BitVec.ofNat 32 n)) a b = if w = BitVec.ofNat 32 n then a else b := by
  by_cases h : w = BitVec.ofNat 32 n
  · simp [IntOp.cmpi, Scalar.select, h]
  · simp [IntOp.cmpi, Scalar.select, h, beq_eq_false_iff_ne.mpr h]

theorem biasOf_apply (bucket : Vec Ideal S128x256 .i32) (rel : ℕ → Ideal .f32) (n : ℕ) (hn : n ≤ 32) (j : S128x256.Idx) :
    biasOf bucket rel n j = biasAt rel n (bucket j) := by
  induction n with
  | zero =>
    show Scalar.select (IntOp.cmpi .slt (bucket j) 0#32) (⊥ : EReal) (Ideal.ofBits .f32 0x00000000#32 : EReal) = _
    rw [Ideal.ofBits_zero]
    unfold biasAt
    rw [if_neg (by omega)]
    by_cases h : (bucket j).slt 0#32 = true <;> simp [IntOp.cmpi, Scalar.select, h]
  | succ n ih =>
    show Scalar.select (IntOp.cmpi .eq (bucket j) (BitVec.ofNat 32 n)) (rel n * (((Real.log 2)⁻¹ : ℝ) : EReal) : EReal) (biasOf bucket rel n j : EReal) = _
    rw [ih (by omega)]
    unfold biasAt
    rw [select_eq]
    generalize bucket j = w
    by_cases h : w = BitVec.ofNat 32 n
    · have e : w.toNat = n := by rw [h, BitVec.toNat_ofNat]; omega
      rw [if_pos h, if_pos (show w.toNat < n + 1 by omega), e]
    · have e : w.toNat ≠ n := fun e => h (by rw [← e]; simp)
      have e2 : (w.toNat < n + 1) = (w.toNat < n) := by apply propext; omega
      rw [if_neg h]
      simp only [e2]

end Attend

end
-- ==== Proof.AttendStores.lean ====
/- The attention's stores: the bias of the heads, which the first point leaves in the scratch, and the sixteen pieces of a point's block. -/
module

public import proofs.«01_k».proof.Proof.AttendBlock
public import proofs.«01_k».proof.Proof.Gen.AttendIdeal.Value
public import Idealize.ShloMosaic.Lib.Pipeline.ValueKit.Tiles

@[expose] public section

set_option maxRecDepth 65536

noncomputable section

namespace Attend

open Cert.AttendIdeal Cert.AttendIdeal.Gen Idealize.ShloMosaic Idealize.ShloMosaic.TcCoe Idealize.ShloMosaic.Tactic Idealize.SL.Sem

/-- A load of a rectangle of a whole memref's contents. -/
theorem read_whole {sp : Space} {s : Shape} {e : EltTy} (arg : Memref sig .tc sp s e) (harg : arg.IsWhole) (r : Rect s) (x : s.Idx → Elt Ideal e) :
    arg.view.readAt (Elt Ideal) r.toLoadRect (harg.unread x) = View.ld x r :=
  funext fun y => congrFun (harg.read_unread x) (r.emb y)

theorem ld_bucket {e : EltTy} (y : S128x256.Idx → Elt Ideal e) : View.ld y (Rect.unit ![0, 0] ![128, 256] inb_S128x256_S128x256_0_0) = y := View.ld_unit_lit _ _ (by decide)

theorem head_inb (h : Fin 8) : ∀ a, (![h.val, 0, 0] : Fin 3 → ℕ) a + (![1, 128, 256] : Fin 3 → ℕ) a ≤ S8x128x256.size a := by
  intro a
  match a with
  | ⟨0, _⟩ => show h.val + 1 ≤ 8; omega
  | ⟨1, _⟩ => show 0 + 128 ≤ 128; omega
  | ⟨2, _⟩ => show 0 + 256 ≤ 256; omega

theorem rows_inb (s p : Fin 4) : ∀ a, (![0, 128 * s.val, 128 * p.val] : Fin 3 → ℕ) a + (![1, 128, 128] : Fin 3 → ℕ) a ≤ S1x512x512.size a := by
  intro a
  match a with
  | ⟨0, _⟩ => show 0 + 1 ≤ 1; omega
  | ⟨1, _⟩ => show 128 * s.val + 128 ≤ 512; omega
  | ⟨2, _⟩ => show 128 * p.val + 128 ≤ 512; omega

theorem lanes_inb (g : Fin 4) : ∀ a, (![0, 0, 128 * g.val] : Fin 3 → ℕ) a + (![1, 128, 128] : Fin 3 → ℕ) a ≤ S1x128x512.size a := by
  intro a
  match a with
  | ⟨0, _⟩ => show 0 + 1 ≤ 1; omega
  | ⟨1, _⟩ => show 0 + 128 ≤ 128; omega
  | ⟨2, _⟩ => show 128 * g.val + 128 ≤ 512; omega

theorem sink_inb (h : Fin 8) : ∀ a, (![h.val] : Fin 1 → ℕ) a + (![1] : Fin 1 → ℕ) a ≤ S8.size a := by
  intro a
  match a with
  | ⟨0, _⟩ => show h.val + 1 ≤ 8; omega

theorem rel_inb (t : ℕ) (ht : t < 32) (h : Fin 8) : ∀ a, (![t, h.val] : Fin 2 → ℕ) a + (![1, 1] : Fin 2 → ℕ) a ≤ S32x8.size a := by
  intro a
  match a with
  | ⟨0, _⟩ => show t + 1 ≤ 32; omega
  | ⟨1, _⟩ => show h.val + 1 ≤ 8; omega

/-- A head's bias, in the scratch. -/
def biasRows (y : Vec Ideal S8x128x256 .f32) (h : Fin 8) : Vec Ideal S1x128x256 .f32 := View.ld y (Rect.unit ![h.val, 0, 0] ![1, 128, 256] (head_inb h))

/-- A head's sink. -/
def sinkOf (x2 : Vec Ideal S8 .f32) (h : Fin 8) : Ideal .f32 := View.ld x2 (Rect.unit ![h.val] ![1] (sink_inb h)) (Shape.Idx.first (show 0 < S1.numel by decide))

/-- The bias of bucket `t` and head `h`. -/
def relOf (x1 : Vec Ideal S32x8 .f32) (h : Fin 8) (t : ℕ) : Ideal .f32 :=
  if ht : t < 32 then View.ld x1 (Rect.unit ![t, h.val] ![1, 1] (rel_inb t ht h)) (Shape.Idx.first (show 0 < S1x1.numel by decide)) else (0 : EReal)

/-- The queries of a block of rows and a pair of heads. -/
def queryRows (x3 : Vec Ideal S1x512x512 .bf16) (s p : Fin 4) : Vec Ideal S1x128x128 .bf16 :=
  View.ld x3 (Rect.unit ![0, 128 * s.val, 128 * p.val] ![1, 128, 128] (rows_inb s p))

/-- A quarter of a block's lanes. -/
def laneRows (x : Vec Ideal S1x128x512 .bf16) (g : Fin 4) : Vec Ideal S1x128x128 .bf16 := View.ld x (Rect.unit ![0, 0, 128 * g.val] ![1, 128, 128] (lanes_inb g))

/-- The first key of the block before the rows `s` of the point. -/
def firstKey (n : BitVec 32) (s : Fin 4) : BitVec 32 := Scalar.muli (Scalar.addi (Scalar.muli n 4#32) (BitVec.ofNat 32 s.val)) 128#32

/-- What is stored for the rows `s` and the pair `p`. -/
def stored (n : BitVec 32) (x2 : Vec Ideal S8 .f32) (x3 : Vec Ideal S1x512x512 .bf16) (kv : Fin 5 → Vec Ideal S1x128x512 .bf16) (b : Fin 8 → Vec Ideal S1x128x256 .f32)
    (s p : Fin 4) : FVec Ideal S1x128x128 .bf16 :=
  pairOut (firstKey n s) (queryRows x3 s p) (laneRows (kv s.castSucc) ⟨p.val / 2, by omega⟩) (laneRows (kv s.succ) ⟨p.val / 2, by omega⟩)
    (laneRows (kv s.castSucc) ⟨2 + p.val / 2, by omega⟩) (laneRows (kv s.succ) ⟨2 + p.val / 2, by omega⟩)
    (b ⟨2 * p.val, by omega⟩) (b ⟨2 * p.val + 1, by omega⟩) (sinkOf x2 ⟨2 * p.val, by omega⟩) (sinkOf x2 ⟨2 * p.val + 1, by omega⟩)

abbrev piece (n : BitVec 32) (x2 : Vec Ideal S8 .f32) (x3 : Vec Ideal S1x512x512 .bf16) (kv : Fin 5 → Vec Ideal S1x128x512 .bf16) (b : Fin 8 → Vec Ideal S1x128x256 .f32)
    (s p : Fin 4) : View.Piece (Elt Ideal) S1x512x512 .bf16 :=
  ⟨Rect.unit ![0, 128 * s.val, 128 * p.val] ![1, 128, 128] (rows_inb s p), stored n x2 x3 kv b s p⟩

/-- The sixteen stores of a point, the last one first. -/
def pieces (n : BitVec 32) (x2 : Vec Ideal S8 .f32) (x3 : Vec Ideal S1x512x512 .bf16) (kv : Fin 5 → Vec Ideal S1x128x512 .bf16) (b : Fin 8 → Vec Ideal S1x128x256 .f32) :
    List (View.Piece (Elt Ideal) S1x512x512 .bf16) :=
  [piece n x2 x3 kv b 3 3, piece n x2 x3 kv b 3 2, piece n x2 x3 kv b 3 1, piece n x2 x3 kv b 3 0, piece n x2 x3 kv b 2 3, piece n x2 x3 kv b 2 2, piece n x2 x3 kv b 2 1, piece n x2 x3 kv b 2 0, piece n x2 x3 kv b 1 3, piece n x2 x3 kv b 1 2, piece n x2 x3 kv b 1 1, piece n x2 x3 kv b 1 0, piece n x2 x3 kv b 0 3, piece n x2 x3 kv b 0 2, piece n x2 x3 kv b 0 1, piece n x2 x3 kv b 0 0]

/-- The store of a head's bias. -/
abbrev biasPiece (x0 : Vec Ideal S128x256 .i32) (x1 : Vec Ideal S32x8 .f32) (h : Fin 8) : View.Piece (Elt Ideal) S8x128x256 .f32 :=
  ⟨Rect.unit ![h.val, 0, 0] ![1, 128, 256] (head_inb h), shapeCast S1x128x256 (biasOf x0 (relOf x1 h) 32) shapeCasts_S128x256_S1x128x256⟩

def biasPieces (x0 : Vec Ideal S128x256 .i32) (x1 : Vec Ideal S32x8 .f32) : List (View.Piece (Elt Ideal) S8x128x256 .f32) :=
  [biasPiece x0 x1 7, biasPiece x0 x1 6, biasPiece x0 x1 5, biasPiece x0 x1 4, biasPiece x0 x1 3, biasPiece x0 x1 2, biasPiece x0 x1 1, biasPiece x0 x1 0]

theorem biasPieces_cover (x0 : Vec Ideal S128x256 .i32) (x1 : Vec Ideal S32x8 .f32) : ∀ y, ∃ p ∈ biasPieces x0 x1, y ∈ p.1.set :=
  View.cover_of_tiledBy _ ![1, 128, 256] (by sl_kernel_rfl)

/-- The bias of all heads. -/
def biases (x0 : Vec Ideal S128x256 .i32) (x1 : Vec Ideal S32x8 .f32) : Vec Ideal S8x128x256 .f32 := View.canon (biasPieces x0 x1)

theorem biases_load (x0 : Vec Ideal S128x256 .i32) (x1 : Vec Ideal S32x8 .f32) (arg : Memref sig .tc .vmem S8x128x256 .f32) (r : Rect S8x128x256) :
    arg.view.readCov (biasPieces x0 x1) r.toLoadRect = View.ld (biases x0 x1) r :=
  View.readCov_eq_canon_ld _ _ _ (biasPieces_cover x0 x1)

/-- A head's bias, loaded from the scratch that the first point fills. -/
theorem biasRows_load (x0 : Vec Ideal S128x256 .i32) (x1 : Vec Ideal S32x8 .f32) (arg : Memref sig .tc .vmem S8x128x256 .f32) :
    biasRows (biases x0 x1) = fun h => arg.view.readCov (biasPieces x0 x1) (Rect.unit ![h.val, 0, 0] ![1, 128, 256] (head_inb h)).toLoadRect := by
  funext h
  unfold biasRows
  exact (biases_load x0 x1 arg (Rect.unit ![h.val, 0, 0] ![1, 128, 256] (head_inb h))).symm

section Elements

variable (x0 : Vec Ideal S128x256 .i32) (x1 : Vec Ideal S32x8 .f32) (n : BitVec 32) (x2 : Vec Ideal S8 .f32) (x3 : Vec Ideal S1x512x512 .bf16)
  (kv : Fin 5 → Vec Ideal S1x128x512 .bf16) (b : Fin 8 → Vec Ideal S1x128x256 .f32)

theorem exists_row {w v : ℕ} (j : Shape.Idx ⟨3, ![1, w, v]⟩) : ∃ (r : Fin w) (l : Fin v), j = ix3 0 r l := by
  refine ⟨⟨(j 1).val, (j 1).isLt⟩, ⟨(j 2).val, (j 2).isLt⟩, ?_⟩
  have h0 : (j 0).val < 1 := (j 0).isLt
  funext a; apply Fin.ext
  match a with
  | ⟨0, _⟩ => show (j 0).val = 0; omega
  | ⟨1, _⟩ => rfl
  | ⟨2, _⟩ => rfl

theorem biasPiece_apply (h : Fin 8) (y : (biasPiece x0 x1 h).1.shape.Idx) :
    (biasPiece x0 x1 h).2 y = (fun j : S8x128x256.Idx => biasAt (relOf x1 (j 0)) 32 (x0 (ix2 (j 1) (j 2)))) ((biasPiece x0 x1 h).1.emb y) := by
  obtain ⟨r, k, rfl⟩ := exists_row y
  have goal : (biasPiece x0 x1 h).1.emb (ix3 0 r k) = ix3 h r k := by
    funext a; apply Fin.ext
    match a with
    | ⟨0, _⟩ => show h.val + 1 * 0 = h.val; omega
    | ⟨1, _⟩ => show 0 + 1 * r.val = r.val; omega
    | ⟨2, _⟩ => show 0 + 1 * k.val = k.val; omega
  rw [goal]
  show shapeCast S1x128x256 (biasOf x0 (relOf x1 h) 32) shapeCasts_S128x256_S1x128x256 (ix3 0 r k) = biasAt (relOf x1 h) 32 (x0 (ix2 r k))
  rw [← biasOf_apply x0 (relOf x1 h) 32 le_rfl (ix2 r k)]
  generalize biasOf x0 (relOf x1 h) 32 = z
  pointwise

theorem biases_apply (h : Fin 8) (r : Fin 128) (k : Fin 256) : biases x0 x1 (ix3 h r k) = biasAt (relOf x1 h) 32 (x0 (ix2 r k)) := by
  have e := biasPiece_apply x0 x1
  refine View.canon_apply_of_pieces (fun j : S8x128x256.Idx => biasAt (relOf x1 (j 0)) 32 (x0 (ix2 (j 1) (j 2)))) (biasPieces x0 x1) ?_ (ix3 h r k) (biasPieces_cover x0 x1 _)
  unfold biasPieces
  simp only [List.forall_mem_cons, List.not_mem_nil, false_imp_iff, implies_true, and_true]
  exact ⟨e 7, e 6, e 5, e 4, e 3, e 2, e 1, e 0⟩

theorem biasRows_apply (y : Vec Ideal S8x128x256 .f32) (h : Fin 8) (r : Fin 128) (k : Fin 256) : biasRows y h (ix3 0 r k) = y (ix3 h r k) :=
  View.ld_unit_apply_of _ _ _ _ _ _ fun a => by
    match a with
    | ⟨0, _⟩ => show h.val = h.val + 0; omega
    | ⟨1, _⟩ => show r.val = 0 + r.val; omega
    | ⟨2, _⟩ => show k.val = 0 + k.val; omega

theorem queryRows_apply (s p : Fin 4) (r l : Fin 128) : queryRows x3 s p (ix3 0 r l) = x3 (ix3 0 ⟨128 * s.val + r.val, by omega⟩ ⟨128 * p.val + l.val, by omega⟩) :=
  View.ld_unit_apply_of _ _ _ _ _ _ fun a => by
    match a with
    | ⟨0, _⟩ => rfl
    | ⟨1, _⟩ => rfl
    | ⟨2, _⟩ => rfl

theorem laneRows_apply (x : Vec Ideal S1x128x512 .bf16) (g : Fin 4) (r l : Fin 128) : laneRows x g (ix3 0 r l) = x (ix3 0 r ⟨128 * g.val + l.val, by omega⟩) :=
  View.ld_unit_apply_of _ _ _ _ _ _ fun a => by
    match a with
    | ⟨0, _⟩ => rfl
    | ⟨1, _⟩ => show r.val = 0 + r.val; omega
    | ⟨2, _⟩ => rfl

theorem sinkOf_apply (h : Fin 8) : sinkOf x2 h = x2 (ix1 h) :=
  View.ld_unit_apply_of _ _ _ _ _ _ fun a => by
    match a with
    | ⟨0, _⟩ => rfl

theorem relOf_apply (h : Fin 8) (t : Fin 32) : relOf x1 h t.val = x1 (ix2 t h) :=
  (dif_pos t.isLt).trans (View.ld_unit_apply_of _ _ _ _ _ _ fun a => by
    match a with
    | ⟨0, _⟩ => rfl
    | ⟨1, _⟩ => rfl)

theorem pieces_cover : ∀ y, ∃ p ∈ pieces n x2 x3 kv b, y ∈ p.1.set :=
  View.cover_of_tiledBy _ ![1, 128, 128] (by sl_kernel_rfl)

/-- The block that a point writes. -/
def block : Vec Ideal S1x512x512 .bf16 := View.canon (pieces n x2 x3 kv b)

/-- The block's element, by the store that writes it. -/
def blockAt (j : S1x512x512.Idx) : EReal :=
  stored n x2 x3 kv b ⟨(j 1).val / 128, by have h : (j 1).val < 512 := (j 1).isLt; omega⟩ ⟨(j 2).val / 128, by have h : (j 2).val < 512 := (j 2).isLt; omega⟩
    (ix3 0 ⟨(j 1).val % 128, by omega⟩ ⟨(j 2).val % 128, by omega⟩)

theorem blockAt_eq (s p : Fin 4) (r l : Fin 128) :
    blockAt n x2 x3 kv b (ix3 0 ⟨128 * s.val + r.val, by omega⟩ ⟨128 * p.val + l.val, by omega⟩) = stored n x2 x3 kv b s p (ix3 0 r l) := by
  have e1 : (⟨(128 * s.val + r.val) / 128, by omega⟩ : Fin 4) = s := Fin.ext (by show (128 * s.val + r.val) / 128 = s.val; omega)
  have e2 : (⟨(128 * p.val + l.val) / 128, by omega⟩ : Fin 4) = p := Fin.ext (by show (128 * p.val + l.val) / 128 = p.val; omega)
  have e3 : (⟨(128 * s.val + r.val) % 128, by omega⟩ : Fin 128) = r := Fin.ext (by show (128 * s.val + r.val) % 128 = r.val; omega)
  have e4 : (⟨(128 * p.val + l.val) % 128, by omega⟩ : Fin 128) = l := Fin.ext (by show (128 * p.val + l.val) % 128 = l.val; omega)
  show stored n x2 x3 kv b ⟨(128 * s.val + r.val) / 128, _⟩ ⟨(128 * p.val + l.val) / 128, _⟩ (ix3 0 ⟨(128 * s.val + r.val) % 128, _⟩ ⟨(128 * p.val + l.val) % 128, _⟩) = _
  rw [e1, e2, e3, e4]

theorem piece_apply (s p : Fin 4) (y : (piece n x2 x3 kv b s p).1.shape.Idx) : (piece n x2 x3 kv b s p).2 y = blockAt n x2 x3 kv b ((piece n x2 x3 kv b s p).1.emb y) := by
  obtain ⟨r, l, rfl⟩ := exists_row y
  have goal : (piece n x2 x3 kv b s p).1.emb (ix3 0 r l) = ix3 0 ⟨128 * s.val + r.val, by omega⟩ ⟨128 * p.val + l.val, by omega⟩ := by
    funext a; apply Fin.ext
    match a with
    | ⟨0, _⟩ => rfl
    | ⟨1, _⟩ => show 128 * s.val + 1 * r.val = 128 * s.val + r.val; omega
    | ⟨2, _⟩ => show 128 * p.val + 1 * l.val = 128 * p.val + l.val; omega
  rw [goal, blockAt_eq]

theorem block_apply (s p : Fin 4) (r l : Fin 128) :
    block n x2 x3 kv b (ix3 0 ⟨128 * s.val + r.val, by omega⟩ ⟨128 * p.val + l.val, by omega⟩) = stored n x2 x3 kv b s p (ix3 0 r l) := by
  have h := piece_apply n x2 x3 kv b
  refine (View.canon_apply_of_pieces (blockAt n x2 x3 kv b) (pieces n x2 x3 kv b) ?_ _ (pieces_cover n x2 x3 kv b _)).trans (blockAt_eq n x2 x3 kv b s p r l)
  unfold pieces
  simp only [List.forall_mem_cons, List.not_mem_nil, false_imp_iff, implies_true, and_true]
  exact ⟨h 3 3, h 3 2, h 3 1, h 3 0, h 2 3, h 2 2, h 2 1, h 2 0, h 1 3, h 1 2, h 1 1, h 1 0, h 0 3, h 0 2, h 0 1, h 0 0⟩

end Elements

section Stores

variable (c : Dev nD) (i : grid0.Coords) (arg2 : Memref sig .tc .vmem S128x256 .i32) (harg2 : arg2.IsWhole) (arg3 : Memref sig .tc .smem S32x8 .f32) (harg3 : arg3.IsWhole) (arg4 : Memref sig .tc .smem S8 .f32) (harg4 : arg4.IsWhole) (arg5 : Memref sig .tc .vmem S1x512x512 .bf16) (harg5 : arg5.IsWhole) (arg6 : Memref sig .tc .vmem S1x128x512 .bf16) (harg6 : arg6.IsWhole) (arg7 : Memref sig .tc .vmem S1x128x512 .bf16) (harg7 : arg7.IsWhole) (arg8 : Memref sig .tc .vmem S1x128x512 .bf16) (harg8 : arg8.IsWhole) (arg9 : Memref sig .tc .vmem S1x128x512 .bf16) (harg9 : arg9.IsWhole) (arg10 : Memref sig .tc .vmem S1x128x512 .bf16) (harg10 : arg10.IsWhole) (arg11 : Memref sig .tc .vmem S1x512x512 .bf16) (harg11 : arg11.IsWhole) (arg12 : Memref sig .tc .vmem S8x128x256 .f32) (harg12 : arg12.IsWhole)
variable (x0 : Vec Ideal S128x256 .i32) (x1 : Vec Ideal S32x8 .f32) (x2 : Vec Ideal S8 .f32) (x3 : Vec Ideal S1x512x512 .bf16) (x4 x5 x6 x7 x8 : Vec Ideal S1x128x512 .bf16) (y : Vec Ideal S8x128x256 .f32)

theorem bias_stores (hc0 : cond0_0 i) : (kernelRun0_A c i arg2 harg2 arg3 harg3 arg4 harg4 arg5 harg5 arg6 harg6 arg7 harg7 arg8 harg8 arg9 harg9 arg10 harg10 arg11 harg11 arg12 harg12 hc0 x0 x1 x2 x3 x4 x5 x6 x7 x8).2.1 = biasPieces x0 x1 := by
  unfold kernelRun0_A biasPieces
  dsimp only
  sl_unfold_words
  simp only [read_whole, ld_bucket]
  rfl

theorem stores_later (hc0 : ¬cond0_0 i) : (kernelRun0_B c i arg2 harg2 arg3 harg3 arg4 harg4 arg5 harg5 arg6 harg6 arg7 harg7 arg8 harg8 arg9 harg9 arg10 harg10 arg11 harg11 arg12 harg12 hc0 x0 x1 x2 x3 x4 x5 x6 x7 x8 y).1 = pieces (BitVec.ofNat 32 (i 1).val) x2 x3 ![x4, x5, x6, x7, x8] (biasRows y) := by
  unfold kernelRun0_B pieces
  dsimp only
  sl_unfold_words
  simp only [read_whole]
  rfl

theorem stores_first (hc0 : cond0_0 i) : (kernelRun0_A c i arg2 harg2 arg3 harg3 arg4 harg4 arg5 harg5 arg6 harg6 arg7 harg7 arg8 harg8 arg9 harg9 arg10 harg10 arg11 harg11 arg12 harg12 hc0 x0 x1 x2 x3 x4 x5 x6 x7 x8).1 = pieces (BitVec.ofNat 32 (i 1).val) x2 x3 ![x4, x5, x6, x7, x8] (biasRows (biases x0 x1)) := by
  rw [biasRows_load x0 x1 arg12]
  unfold kernelRun0_A pieces biasPieces
  dsimp only
  sl_unfold_words
  simp only [read_whole, ld_bucket]
  rfl

theorem scratch_first (hc0 : cond0_0 i) : sout0_A_0 c i arg2 harg2 arg3 harg3 arg4 harg4 arg5 harg5 arg6 harg6 arg7 harg7 arg8 harg8 arg9 harg9 arg10 harg10 arg11 harg11 arg12 harg12 hc0 x0 x1 x2 x3 x4 x5 x6 x7 x8 = biases x0 x1 := by
  unfold sout0_A_0
  rw [bias_stores, View.read_writes_junk_eq_canon]
  rfl

theorem out_first (hc0 : cond0_0 i) : out0_A_9 c i arg2 harg2 arg3 harg3 arg4 harg4 arg5 harg5 arg6 harg6 arg7 harg7 arg8 harg8 arg9 harg9 arg10 harg10 arg11 harg11 arg12 harg12 hc0 x0 x1 x2 x3 x4 x5 x6 x7 x8 = block (BitVec.ofNat 32 (i 1).val) x2 x3 ![x4, x5, x6, x7, x8] (biasRows (biases x0 x1)) := by
  unfold out0_A_9
  rw [stores_first, View.read_writes_junk_eq_canon]
  rfl

theorem out_later (hc0 : ¬cond0_0 i) : out0_B_9 c i arg2 harg2 arg3 harg3 arg4 harg4 arg5 harg5 arg6 harg6 arg7 harg7 arg8 harg8 arg9 harg9 arg10 harg10 arg11 harg11 arg12 harg12 hc0 x0 x1 x2 x3 x4 x5 x6 x7 x8 y = block (BitVec.ofNat 32 (i 1).val) x2 x3 ![x4, x5, x6, x7, x8] (biasRows y) := by
  unfold out0_B_9
  rw [stores_later, View.read_writes_junk_eq_canon]
  rfl

end Stores

end Attend

end
-- ==== Proof.AttendRef.lean ====
/- The sliding-window reference as a composition, and at one element. -/
module

public import proofs.«01_k».proof.Proof.Gen.AttendReferenceIdeal.Run
public import proofs.«01_k».proof.Proof.Heads
public import proofs.«01_k».proof.Proof.RefValue
public import Idealize.ShloMosaic.Lib.Pointwise

@[expose] public section

set_option maxRecDepth 16384

noncomputable section

namespace AttendRef

open Cert.AttendReferenceIdeal Cert.AttendReferenceIdeal.Gen Idealize.ShloMosaic Idealize.ShloMosaic.TcCoe Idealize.SL.Sem

/-- The keys and values of each block of queries: the block before and its own. -/
def blocks (kva : FVec Ideal S8x2176x512 .bf16) : FVec Ideal S128x256x512 .f32 :=
  concatenate S128x256x512 1
    [⟨S128x128x512, shapeCast S128x128x512 (extractStridedSlice S8x16x128x512 ![0, 0, 0, 0] (shapeCast S8x17x128x512 (extf .f32 kva bitsLt_bf16_f32) shapeCasts_S8x2176x512_S8x17x128x512)
      slices_S8x17x128x512_S8x16x128x512_0_0_0_0) shapeCasts_S8x16x128x512_S128x128x512⟩,
     ⟨S128x128x512, shapeCast S128x128x512 (extractStridedSlice S8x16x128x512 ![0, 1, 0, 0] (shapeCast S8x17x128x512 (extf .f32 kva bitsLt_bf16_f32) shapeCasts_S8x2176x512_S8x17x128x512)
      slices_S8x17x128x512_S8x16x128x512_0_1_0_0) shapeCasts_S8x16x128x512_S128x128x512⟩] concatenates_S128x128x512_S128x128x512_S128x256x512_d1

/-- The eight heads' keys or values, of four slots that two heads each share. -/
def heads (x : FVec Ideal S128x256x256 .f32) : FVec Ideal S128x256x8x64 .f32 :=
  concatenate S128x256x8x64 2
    [⟨S128x256x2x64, extractStridedSlice S128x256x2x64 ![0, 0, 0, 0] (shapeCast S128x256x4x64 x shapeCasts_S128x256x256_S128x256x4x64) slices_S128x256x4x64_S128x256x2x64_0_0_0_0⟩,
     ⟨S128x256x2x64, extractStridedSlice S128x256x2x64 ![0, 0, 0, 0] (shapeCast S128x256x4x64 x shapeCasts_S128x256x256_S128x256x4x64) slices_S128x256x4x64_S128x256x2x64_0_0_0_0⟩,
     ⟨S128x256x2x64, extractStridedSlice S128x256x2x64 ![0, 0, 2, 0] (shapeCast S128x256x4x64 x shapeCasts_S128x256x256_S128x256x4x64) slices_S128x256x4x64_S128x256x2x64_0_0_2_0⟩,
     ⟨S128x256x2x64, extractStridedSlice S128x256x2x64 ![0, 0, 2, 0] (shapeCast S128x256x4x64 x shapeCasts_S128x256x256_S128x256x4x64) slices_S128x256x4x64_S128x256x2x64_0_0_2_0⟩]
    concatenates_S128x256x2x64_S128x256x2x64_S128x256x2x64_S128x256x2x64_S128x256x8x64_d2

/-- The queries by block and head. -/
def queries (zq : FVec Ideal S8x2048x3072 .bf16) : FVec Ideal S128x128x8x64 .f32 :=
  shapeCast S128x128x8x64 (mulf (extf .f32 (extractStridedSlice S8x2048x512 ![0, 0, 0] zq slices_S8x2048x3072_S8x2048x512_0_0_0) bitsLt_bf16_f32)
    (broadcastInDim S8x2048x512 ![] bcast_S_S8x2048x512 (Host.log (constant S_ .f32 0x40000000#32)))) shapeCasts_S8x2048x512_S128x128x8x64

/-- The products of queries and keys. -/
def products (zq : FVec Ideal S8x2048x3072 .bf16) (kva : FVec Ideal S8x2176x512 .bf16) : FVec Ideal S128x8x128x256 .f32 :=
  Host.dotGeneral dot_S128x128x8x64_S128x256x8x64_S128x8x128x256_3_3_1_1_02_02 none (queries zq)
    (heads (extractStridedSlice S128x256x256 ![0, 0, 0] (blocks kva) slices_S128x256x512_S128x256x256_0_0_0))

/-- The bias of each head, query and key. -/
def bias (bucket : IVec S128x256 32) (rel : FVec Ideal S32x8 .f32) : FVec Ideal S8x128x256 .f32 :=
  transpose S8x128x256 [2, 0, 1] (Host.reduceAdd (select (broadcastInDim S128x256x32x8 ![0, 1, 2, 3] bcast_S128x256x32x1_S128x256x32x8_0_1_2_3
      (cmpi .eq (broadcastInDim S128x256x32x1 ![0, 1, 2, 3] bcast_S128x256x1x1_S128x256x32x1_0_1_2_3 (broadcastInDim S128x256x1x1 ![0, 1] bcast_S128x256_S128x256x1x1_0_1 bucket))
        (broadcastInDim S128x256x32x1 ![0, 1, 2, 3] bcast_S1x1x32x1_S128x256x32x1_0_1_2_3 (broadcastInDim S1x1x32x1 ![2, 3] bcast_S32x1_S1x1x32x1_2_3
          (broadcastInDim S32x1 ![0] bcast_S32_S32x1_0 (iotaInDim S32 32 0))))))
      (broadcastInDim S128x256x32x8 ![2, 3] bcast_S32x8_S128x256x32x8_2_3 rel)
      (broadcastInDim S128x256x32x8 ![] bcast_S_S128x256x32x8 (id (constant S_ .f32 0x00000000#32))))
    (constant S_ .f32 0x00000000#32) reducesTo_S128x256x32x8_S128x256x8_d2 h_S_) transposes_S128x256x8_S8x128x256_2_0_1

/-- The number of blocks of a batch. -/
def count : IVec S_ 32 := select (cmpi .eq (id (constantI S_ 32 16#32)) (constantI S_ 32 0#32)) (constantI S_ 32 1#32) (id (constantI S_ 32 16#32))

/-- A block's place in its batch, before its sign is mended. -/
def place : IVec S128 32 := Host.remsi (iotaInDim S128 32 0) (broadcastInDim S128 ![] bcast_S_S128 count)

/-- Which blocks are a batch's first. -/
def first : IVec S128 1 :=
  cmpi .eq (select (andi (cmpi .ne (cmpi .slt place (broadcastInDim S128 ![] bcast_S_S128 (constantI S_ 32 0#32)))
        (broadcastInDim S128 ![] bcast_S_S128 (cmpi .slt count (constantI S_ 32 0#32))))
      (cmpi .ne place (broadcastInDim S128 ![] bcast_S_S128 (constantI S_ 32 0#32))))
    (addi place (broadcastInDim S128 ![] bcast_S_S128 count)) place) (broadcastInDim S128 ![] bcast_S_S128 (constantI S_ 32 0#32))

/-- Which keys a query sees. -/
def valid (bucket : IVec S128x256 32) : IVec S128x128x256 1 :=
  andi (broadcastInDim S128x128x256 ![0, 1, 2] bcast_S1x128x256_S128x128x256_0_1_2 (broadcastInDim S1x128x256 ![1, 2] bcast_S128x256_S1x128x256_1_2
      (cmpi .sge bucket (broadcastInDim S128x256 ![] bcast_S_S128x256 (constantI S_ 32 0#32)))))
    (broadcastInDim S128x128x256 ![0, 1, 2] bcast_S128x1x256_S128x128x256_0_1_2 (noti (andi
      (broadcastInDim S128x1x256 ![0, 1, 2] bcast_S128x1x1_S128x1x256_0_1_2 (broadcastInDim S128x1x1 ![0] bcast_S128_S128x1x1_0 first))
      (broadcastInDim S128x1x256 ![0, 1, 2] bcast_S1x1x256_S128x1x256_0_1_2 (broadcastInDim S1x1x256 ![2] bcast_S256_S1x1x256_2
        (cmpi .slt (iotaInDim S256 32 0) (broadcastInDim S256 ![] bcast_S_S256 (constantI S_ 32 112#32))))))))

/-- The scores, −∞ where a key is not seen. -/
def scores (bucket : IVec S128x256 32) (zq : FVec Ideal S8x2048x3072 .bf16) (kva : FVec Ideal S8x2176x512 .bf16) (rel : FVec Ideal S32x8 .f32) : FVec Ideal S128x8x128x256 .f32 :=
  select (broadcastInDim S128x8x128x256 ![0, 1, 2, 3] bcast_S128x1x128x256_S128x8x128x256_0_1_2_3 (broadcastInDim S128x1x128x256 ![0, 2, 3] bcast_S128x128x256_S128x1x128x256_0_2_3 (valid bucket)))
    (addf (products zq kva) (broadcastInDim S128x8x128x256 ![0, 1, 2, 3] bcast_S1x8x128x256_S128x8x128x256_0_1_2_3
      (broadcastInDim S1x8x128x256 ![1, 2, 3] bcast_S8x128x256_S1x8x128x256_1_2_3 (bias bucket rel))))
    (broadcastInDim S128x8x128x256 ![] bcast_S_S128x8x128x256 (id (constant S_ .f32 0xFF800000#32)))

/-- The scores and, after them, the sink. -/
def withSink (s : FVec Ideal S128x8x128x256 .f32) (sinks : FVec Ideal S8 .f32) : FVec Ideal S128x8x128x257 .f32 :=
  concatenate S128x8x128x257 3 [⟨S128x8x128x256, s⟩,
    ⟨S128x8x128x1, broadcastInDim S128x8x128x1 ![1, 2, 3] bcast_S8x1x1_S128x8x128x1_1_2_3 (broadcastInDim S8x1x1 ![0] bcast_S8_S8x1x1_0 sinks)⟩]
    concatenates_S128x8x128x256_S128x8x128x1_S128x8x128x257_d3

/-- The greatest score of each query and head. -/
def rowMax (s : FVec Ideal S128x8x128x257 .f32) : FVec Ideal S128x8x128 .f32 :=
  maximumf (broadcastInDim S128x8x128 ![] bcast_S_S128x8x128 (constant S_ .f32 0xFF800000#32))
    (Host.reduce FloatOps.maximumf s (constant S_ .f32 0xFF800000#32) reducesTo_S128x8x128x257_S128x8x128_d3 h_S_)

/-- The exponentials of the scores less their maximum. -/
def expScores (s : FVec Ideal S128x8x128x257 .f32) : FVec Ideal S128x8x128x257 .f32 :=
  Host.exp (subf s (broadcastInDim S128x8x128x257 ![0, 1, 2, 3] bcast_S128x8x128x1_S128x8x128x257_0_1_2_3 (broadcastInDim S128x8x128x1 ![0, 1, 2] bcast_S128x8x128_S128x8x128x1_0_1_2
    (rowMax s))))

/-- The exponentials over their sum. -/
def weights (e : FVec Ideal S128x8x128x257 .f32) : FVec Ideal S128x8x128x257 .f32 :=
  Host.divf e (broadcastInDim S128x8x128x257 ![0, 1, 2, 3] bcast_S128x8x128x1_S128x8x128x257_0_1_2_3 (broadcastInDim S128x8x128x1 ![0, 1, 2] bcast_S128x8x128_S128x8x128x1_0_1_2
    (Host.reduceAdd e (constant S_ .f32 0x00000000#32) reducesTo_S128x8x128x257_S128x8x128_d3 h_S_)))

/-- The values summed by weight. -/
def mixed (w : FVec Ideal S128x8x128x257 .f32) (kva : FVec Ideal S8x2176x512 .bf16) : FVec Ideal S8x2048x512 .bf16 :=
  truncf .bf16 (shapeCast S8x2048x512 (transpose S128x128x8x64 [0, 3, 1, 2]
    (Host.dotGeneral dot_S128x256x8x64_S128x8x128x256_S128x8x64x128_1_3_3_2_02_01 none
      (heads (extractStridedSlice S128x256x256 ![0, 0, 256] (blocks kva) slices_S128x256x512_S128x256x256_0_0_256))
      (extractStridedSlice S128x8x128x256 ![0, 0, 0, 0] w slices_S128x8x128x257_S128x8x128x256_0_0_0_0))
    transposes_S128x8x64x128_S128x128x8x64_0_3_1_2) shapeCasts_S128x128x8x64_S8x2048x512) bitsLt_bf16_f32

/-- The reference, put together. -/
def whole (bucket : IVec S128x256 32) (zq : FVec Ideal S8x2048x3072 .bf16) (kva : FVec Ideal S8x2176x512 .bf16) (rel : FVec Ideal S32x8 .f32) (sinks : FVec Ideal S8 .f32) :
    FVec Ideal S8x2048x512 .bf16 :=
  mixed (weights (expScores (withSink (scores bucket zq kva rel) sinks))) kva

theorem result_eq (m : (ℓ : Loc nD τ sig) → Buf (Elt Ideal) ℓ) (c : Dev nD) :
    Cert.AttendReferenceIdeal.Value.res_out0 m c =
      whole (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) := rfl

/-- The row of a block's query among its batch's, and of the block's keys. -/
def row (n : Fin 128) (r : Fin 128) : Fin 2048 := ⟨128 * (n.val % 16) + r.val, by omega⟩
def key (n : Fin 128) (k : Fin 256) : Fin 2176 := ⟨128 * (n.val % 16) + k.val, by omega⟩
def batch (n : Fin 128) : Fin 8 := ⟨n.val / 16, by omega⟩

/-- The slot's lane that holds a head's. -/
def slotLane (h : Fin 8) (d : Fin 64) : Fin 256 := ⟨128 * (h.val / 4) + 64 * (h.val % 2) + d.val, by omega⟩

theorem blocks_apply (kva : FVec Ideal S8x2176x512 .bf16) (n : Fin 128) (k : Fin 256) (l : Fin 512) :
    blocks kva (ix3 n k l) = kva (ix3 (batch n) (key n k) l) := by
  by_cases h : k.val < 128
  · obtain ⟨j, rfl⟩ : ∃ j : Fin 128, k = ⟨j.val, Nat.lt_trans j.isLt (by decide)⟩ := ⟨⟨k.val, h⟩, rfl⟩
    clear h
    unfold blocks
    pointwise
    congr 2 <;> ext <;> simp [batch, key] <;> omega
  · obtain ⟨j, rfl⟩ : ∃ j : Fin 128, k = ⟨128 + j.val, Nat.add_lt_add_left j.isLt 128⟩ := ⟨⟨k.val - 128, by omega⟩, Fin.ext (by simp; omega)⟩
    clear h
    unfold blocks
    pointwise
    congr 2 <;> ext <;> simp [batch, key] <;> omega

theorem heads_apply (x : FVec Ideal S128x256x256 .f32) (n : Fin 128) (k : Fin 256) (h : Fin 8) (d : Fin 64) :
    heads x (ix4 n k h d) = x (ix3 n k (slotLane h d)) := by
  unfold heads
  fin_cases h <;> (pointwise; congr 2; try (ext; simp [slotLane]))

theorem queries_apply (zq : FVec Ideal S8x2048x3072 .bf16) (n r : Fin 128) (h : Fin 8) (d : Fin 64) :
    queries zq (ix4 n r h d) = (zq (ix3 (batch n) (row n r) ⟨64 * h.val + d.val, by omega⟩) : EReal) * ((Real.log 2 : ℝ) : EReal) := by
  unfold queries
  pointwise
  rw [Fox.two_eq, Ideal.log_coe, if_neg (not_le.mpr two_pos)]
  congr 3 <;> ext <;> simp [batch, row] <;> omega

theorem products_apply (zq : FVec Ideal S8x2048x3072 .bf16) (kva : FVec Ideal S8x2176x512 .bf16) (n r : Fin 128) (h : Fin 8) (k : Fin 256) :
    products zq kva (ix4 n h r k) = ∑ d : Fin 64, (queries zq (ix4 n r h d) * kva (ix3 (batch n) (key n k) ⟨(slotLane h d).val, by omega⟩) : EReal) := by
  unfold products
  pointwise
  refine Finset.sum_congr rfl fun d _ => ?_
  rw [heads_apply]
  pointwise
  rw [blocks_apply]

theorem bias_apply (bucket : IVec S128x256 32) (rel : FVec Ideal S32x8 .f32) (h : Fin 8) (r : Fin 128) (k : Fin 256) :
    bias bucket rel (ix3 h r k) = ∑ t : Fin 32, if bucket (ix2 r k) = BitVec.ofNat 32 t.val then (rel (ix2 t h) : EReal) else 0 := by
  unfold bias
  pointwise
  refine Finset.sum_congr rfl fun t _ => ?_
  have hz : (id (constant (F := Ideal) S_ .f32 0x00000000#32) ix0 : EReal) = 0 := (Ideal.ofBits_zero .f32 :)
  rw [hz]
  by_cases h : bucket (ix2 r k) = BitVec.ofNat 32 t.val
  · simp [Scalar.select, IntOp.cmpi, h]
  · simp [Scalar.select, IntOp.cmpi, h, beq_eq_false_iff_ne.mpr h]

theorem first_apply (n : Fin 128) : first (ix1 n) = if n.val % 16 = 0 then 1#1 else 0#1 := by
  unfold first place count
  pointwise
  revert n
  decide +kernel

theorem scores_apply (bucket : IVec S128x256 32) (zq : FVec Ideal S8x2048x3072 .bf16) (kva : FVec Ideal S8x2176x512 .bf16) (rel : FVec Ideal S32x8 .f32)
    (n r : Fin 128) (h : Fin 8) (k : Fin 256) :
    scores bucket zq kva rel (ix4 n h r k) =
      if (bucket (ix2 r k)).slt 0#32 = false ∧ ¬ (n.val % 16 = 0 ∧ k.val < 112) then (products zq kva (ix4 n h r k) + bias bucket rel (ix3 h r k) : EReal) else ⊥ := by
  unfold scores valid
  pointwise
  rw [first_apply]
  have hb : (id (constant (F := Ideal) S_ .f32 0xFF800000#32) ix0 : EReal) = ⊥ := Fox.negInf_eq
  have hk : (BitVec.ofNat 32 k.val).slt 112#32 = decide (k.val < 112) := by
    revert k; decide +kernel
  have hs : (0#32).sle (bucket (ix2 r k)) = !(bucket (ix2 r k)).slt 0#32 := by
    rw [BitVec.sle_eq_not_slt]
  rw [hb]
  by_cases h1 : (bucket (ix2 r k)).slt 0#32 = true <;> by_cases h2 : n.val % 16 = 0 <;> by_cases h3 : k.val < 112 <;>
    simp [Scalar.select, IntOp.cmpi, IntOp.andi, hk, hs, h1, h2, h3]

theorem withSink_low (s : FVec Ideal S128x8x128x256 .f32) (sinks : FVec Ideal S8 .f32) (n r : Fin 128) (h : Fin 8) (k : Fin 256) :
    withSink s sinks (ix4 n h r ⟨k.val, by omega⟩) = s (ix4 n h r k) := by
  unfold withSink
  pointwise

theorem withSink_last (s : FVec Ideal S128x8x128x256 .f32) (sinks : FVec Ideal S8 .f32) (n r : Fin 128) (h : Fin 8) :
    withSink s sinks (ix4 n h r ⟨256, by omega⟩) = sinks (ix1 h) := by
  unfold withSink
  pointwise

theorem rowMax_apply (s : FVec Ideal S128x8x128x257 .f32) (n r : Fin 128) (h : Fin 8) :
    rowMax s (ix3 n h r) = Finset.univ.sup fun i : Fin 257 => (s (ix4 n h r i) : EReal) := by
  have hr : Host.reduce FloatOps.maximumf s (constant S_ .f32 0xFF800000#32) reducesTo_S128x8x128x257_S128x8x128_d3 h_S_ (ix3 n h r)
      = Finset.fold max (Ideal.ofBits .f32 0xFF800000#32) (fun i : Fin 257 => (s (ix4 n h r i) : EReal)) Finset.univ := by
    pointwise
  have hb : broadcastInDim S128x8x128 ![] bcast_S_S128x8x128 (constant S_ .f32 0xFF800000#32) (ix3 n h r) = Ideal.ofBits .f32 0xFF800000#32 := by
    pointwise
  rw [rowMax, FoxRef.maximumf_at, hr, hb]
  exact FoxRef.fold_max_eq_sup _ Fox.negInf_eq

theorem expScores_apply (s : FVec Ideal S128x8x128x257 .f32) (n r : Fin 128) (h : Fin 8) (j : Fin 257) :
    expScores s (ix4 n h r j) = Ideal.exp (s (ix4 n h r j) - rowMax s (ix3 n h r)) := by
  unfold expScores
  pointwise

theorem weights_apply (e : FVec Ideal S128x8x128x257 .f32) (n r : Fin 128) (h : Fin 8) (j : Fin 257) :
    weights e (ix4 n h r j) = Ideal.div (e (ix4 n h r j)) (∑ i : Fin 257, (e (ix4 n h r i) : EReal)) := by
  unfold weights
  pointwise

theorem mixed_apply (w : FVec Ideal S128x8x128x257 .f32) (kva : FVec Ideal S8x2176x512 .bf16) (n r : Fin 128) (h : Fin 8) (d : Fin 64) :
    mixed w kva (ix3 (batch n) (row n r) ⟨64 * h.val + d.val, by omega⟩) =
      ∑ k : Fin 256, (w (ix4 n h r ⟨k.val, by omega⟩) * kva (ix3 (batch n) (key n k) ⟨256 + (slotLane h d).val, by omega⟩) : EReal) := by
  have e1 : (⟨(batch n).val * 16 + (row n r).val / 128, by simp [batch, row]; omega⟩ : Fin 128) = n :=
    Fin.ext (by simp [batch, row]; omega)
  have e2 : (⟨(row n r).val % 128, by omega⟩ : Fin 128) = r := Fin.ext (by simp [row])
  unfold mixed
  pointwise
  refine Finset.sum_congr rfl fun k _ => ?_
  rw [heads_apply, e1, e2, mul_comm]
  pointwise
  rw [blocks_apply]

end AttendRef

end
-- ==== Proof.AttendRow.lean ====
/- One query of one head: the kernel's quotient in powers of two, with the sink's logit among the maxima and in the sum, is the
   reference's softmax of 257 scores, of which the last, the sink's, has no value. -/
module

public import proofs.«01_k».proof.Proof.AttendBlock
public import proofs.«01_k».proof.Proof.AttendRef

@[expose] public section

set_option maxRecDepth 16384

noncomputable section

namespace Attend

open Idealize.ShloMosaic Idealize.ShloMosaic.TcCoe Idealize.SL.Sem
open Fox (headOf halfLane head)

/-- A row of 256 logits and one more. -/
def extended (x : Fin 256 → EReal) (s : EReal) : ℕ → EReal := fun j => if h : j < 256 then x ⟨j, h⟩ else s

theorem extended_low (x : Fin 256 → EReal) (s : EReal) (k : Fin 256) : extended x s k.val = x k := dif_pos k.isLt

theorem extended_last (x : Fin 256 → EReal) (s : EReal) : extended x s 256 = s := dif_neg (by decide)

theorem top_extended (x : Fin 256 → EReal) (s : EReal) : Fox.top (extended x s) 257 = max (Finset.univ.sup x) s := by
  have h := Fox.top_add (extended x s) 256 1
  rw [Fox.top_eq_sup _ 256] at h
  simp only [extended_low] at h
  rw [h]
  congr 1
  simp [extended_last]

theorem sum_extended (f : ℕ → EReal) : ∑ j ∈ Finset.range 257, f j = (∑ k : Fin 256, f k.val) + f 256 := by
  rw [Finset.sum_range_succ, Finset.sum_range]

/-- The softmax with a sink. -/
theorem softmax_eq {x : Fin 256 → EReal} {z : Fin 257 → EReal} {s : EReal} (P : Fin 256 → Prop) (τ : Fin 256 → ℝ) (σ : ℝ)
    (hx : ∀ k, P k → x k = ((τ k * (Real.log 2)⁻¹ : ℝ) : EReal)) (hx' : ∀ k, ¬ P k → x k = ⊥)
    (hs : s = ((σ * (Real.log 2)⁻¹ : ℝ) : EReal))
    (hz : ∀ k : Fin 256, P k → z ⟨k.val, by omega⟩ = (τ k : EReal)) (hz' : ∀ k : Fin 256, ¬ P k → z ⟨k.val, by omega⟩ = ⊥)
    (hl : z ⟨256, by omega⟩ = (σ : EReal)) (v : Fin 256 → EReal) :
    Ideal.div (∑ k : Fin 256, Ideal.exp2 (x k - max (Finset.univ.sup x) s) * v k)
        ((∑ k : Fin 256, Ideal.exp2 (x k - max (Finset.univ.sup x) s)) + Ideal.exp2 (s - max (Finset.univ.sup x) s)) =
      ∑ k : Fin 256, Ideal.div (Ideal.exp (z ⟨k.val, by omega⟩ - Finset.univ.sup z)) (∑ i : Fin 257, Ideal.exp (z i - Finset.univ.sup z)) * v k := by
  classical
  set T := extended x s
  set Y : ℕ → EReal := fun j => if h : j < 257 then z ⟨j, h⟩ else 0
  set τ' : ℕ → ℝ := fun j => if h : j < 256 then τ ⟨j, h⟩ else σ
  set v' := extended v 0
  have hY : ∀ i : Fin 257, Y i.val = z i := fun i => dif_pos i.isLt
  have hV : ∀ j, j ∈ (Finset.range 257).filter (fun j => ∀ h : j < 256, P ⟨j, h⟩) ↔ j < 257 ∧ ∀ h : j < 256, P ⟨j, h⟩ := fun j => by
    rw [Finset.mem_filter, Finset.mem_range]
  have key := Fox.attention_eq (t := T) (s := Y) (N := 257) (K := 257) (V := (Finset.range 257).filter (fun j => ∀ h : j < 256, P ⟨j, h⟩))
    ⟨256, (hV 256).2 ⟨by decide, fun h => absurd h (by decide)⟩⟩ (Finset.filter_subset _ _) (Finset.filter_subset _ _) τ' 0
    (by
      intro j hj
      obtain ⟨h1, h2⟩ := (hV j).1 hj
      by_cases h : j < 256
      · show (if h : j < 256 then x ⟨j, h⟩ else s) = (((if h : j < 256 then τ ⟨j, h⟩ else σ) * (Real.log 2)⁻¹ + 0 : ℝ) : EReal)
        rw [dif_pos h, dif_pos h, add_zero]
        exact hx _ (h2 h)
      · show (if h : j < 256 then x ⟨j, h⟩ else s) = (((if h : j < 256 then τ ⟨j, h⟩ else σ) * (Real.log 2)⁻¹ + 0 : ℝ) : EReal)
        rw [dif_neg h, dif_neg h, add_zero]
        exact hs)
    (by
      intro j hj hn
      by_cases h : j < 256
      · show (if h : j < 256 then x ⟨j, h⟩ else s) = ⊥
        rw [dif_pos h]
        exact hx' _ fun hp => hn ((hV j).2 ⟨hj, fun _ => hp⟩)
      · exact absurd ((hV j).2 ⟨hj, fun h' => absurd h' h⟩) hn)
    (by
      intro j hj
      obtain ⟨h1, h2⟩ := (hV j).1 hj
      by_cases h : j < 256
      · show (if h : j < 257 then z ⟨j, h⟩ else 0) = ((if h : j < 256 then τ ⟨j, h⟩ else σ : ℝ) : EReal)
        rw [dif_pos h1, dif_pos h]
        exact hz ⟨j, h⟩ (h2 h)
      · obtain rfl : j = 256 := by omega
        show (if h : 256 < 257 then z ⟨256, h⟩ else 0) = ((if h : 256 < 256 then τ ⟨256, h⟩ else σ : ℝ) : EReal)
        rw [dif_pos (by decide), dif_neg (by decide)]
        exact hl)
    (by
      intro j hj hn
      by_cases h : j < 256
      · show (if h : j < 257 then z ⟨j, h⟩ else 0) = ⊥
        rw [dif_pos hj]
        exact hz' ⟨j, h⟩ fun hp => hn ((hV j).2 ⟨hj, fun _ => hp⟩)
      · exact absurd ((hV j).2 ⟨hj, fun h' => absurd h' h⟩) hn)
    v'
  have htop : Fox.top Y 257 = Finset.univ.sup z := by
    rw [Fox.top_eq_sup]
    simp only [hY]
  have hsum : ∑ i ∈ Finset.range 257, Ideal.exp (Y i - Finset.univ.sup z) = ∑ i : Fin 257, Ideal.exp (z i - Finset.univ.sup z) := by
    rw [Finset.sum_range]
    simp only [hY]
  unfold Fox.mass at key
  rw [top_extended, htop, hsum, sum_extended, sum_extended, sum_extended] at key
  simp only [T, v', extended_low, extended_last, mul_zero, add_zero, mul_one] at key
  rw [key]
  refine Finset.sum_congr rfl fun k _ => ?_
  rw [hY ⟨k.val, by omega⟩]

/-- A head's bias of a bucket, in nats. -/
theorem bias_nats (w : BitVec 32) (f : Fin 32 → EReal) :
    (∑ t : Fin 32, if w = BitVec.ofNat 32 t.val then f t else 0) = if h : w.toNat < 32 then f ⟨w.toNat, h⟩ else 0 := by
  by_cases h : w.toNat < 32
  · rw [dif_pos h, Finset.sum_eq_single ⟨w.toNat, h⟩]
    · simp
    · intro t _ ht
      rw [if_neg]
      intro e
      apply ht
      apply Fin.ext
      show t.val = w.toNat
      rw [e, BitVec.toNat_ofNat]
      omega
    · intro hn
      exact absurd (Finset.mem_univ _) hn
  · rw [dif_neg h]
    refine Finset.sum_eq_zero fun t _ => if_neg ?_
    intro e
    apply h
    rw [e, BitVec.toNat_ofNat]
    omega

theorem not_slt_of_small {w : BitVec 32} (h : w.toNat < 32) : w.slt 0#32 = false := by
  rw [BitVec.slt_zero_eq_msb, BitVec.msb_eq_false_iff_two_mul_lt]
  omega

/- The bounds of the lanes and keys that the statements below name. -/
theorem lt_wide (l : Fin 512) : l.val < 3072 := by omega
theorem lt_narrow (l : Fin 256) : l.val < 512 := by omega
theorem lt_query (p : Fin 4) (l : Fin 128) : 128 * p.val + l.val < 3072 := by omega
theorem lt_before (j : Fin 128) : j.val < 256 := by omega
theorem lt_own (j : Fin 128) : 128 + j.val < 256 := by omega
theorem lt_slot (p : Fin 4) (l : Fin 128) : 128 * (p.val / 2) + l.val < 512 := by omega
theorem lt_value (p : Fin 4) (l : Fin 128) : 256 + 128 * (p.val / 2) + l.val < 512 := by omega

section Row

open Cert.AttendIdeal AttendRef

variable {bucket : IVec S128x256 32} {zq : FVec Ideal S8x2048x3072 .bf16} {kva : FVec Ideal S8x2176x512 .bf16} {rel : FVec Ideal S32x8 .f32} {sinks : FVec Ideal S8 .f32}
  {Z : Fin 8 → Fin 2048 → Fin 512 → ℝ} {K : Fin 8 → Fin 2176 → Fin 256 → ℝ} {R : Fin 32 → Fin 8 → ℝ} {D : Fin 8 → ℝ}
  (hZ : ∀ b t (l : Fin 512), zq (ix3 b t ⟨l.val, lt_wide l⟩) = (Z b t l : EReal)) (hK : ∀ b j (l : Fin 256), kva (ix3 b j ⟨l.val, lt_narrow l⟩) = (K b j l : EReal))
  (hR : ∀ t h, rel (ix2 t h) = (R t h : EReal)) (hS : ∀ h, sinks (ix1 h) = (D h : EReal)) (n : Fin 128) (r : Fin 128)

/-- The lane of a head among the queries'. -/
def queryLane (h : Fin 8) (d : Fin 64) : Fin 512 := ⟨64 * h.val + d.val, by omega⟩

/-- A key that a query sees. -/
def Sees (bucket : IVec S128x256 32) (n r : Fin 128) (k : Fin 256) : Prop := (bucket (ix2 r k)).slt 0#32 = false ∧ ¬ (n.val % 16 = 0 ∧ k.val < 112)

/-- The product of a query and a key. -/
def dot (Z : Fin 8 → Fin 2048 → Fin 512 → ℝ) (K : Fin 8 → Fin 2176 → Fin 256 → ℝ) (n r : Fin 128) (h : Fin 8) (k : Fin 256) : ℝ :=
  ∑ d : Fin 64, Z (batch n) (row n r) (queryLane h d) * K (batch n) (key n k) (slotLane h d)

/-- The bias, among the reals. -/
def offset (bucket : IVec S128x256 32) (R : Fin 32 → Fin 8 → ℝ) (r : Fin 128) (h : Fin 8) (k : Fin 256) : ℝ :=
  if e : (bucket (ix2 r k)).toNat < 32 then R ⟨(bucket (ix2 r k)).toNat, e⟩ h else 0

/-- The score, among the reals. -/
def score (bucket : IVec S128x256 32) (Z : Fin 8 → Fin 2048 → Fin 512 → ℝ) (K : Fin 8 → Fin 2176 → Fin 256 → ℝ) (R : Fin 32 → Fin 8 → ℝ) (n r : Fin 128) (h : Fin 8)
    (k : Fin 256) : ℝ := dot Z K n r h k * Real.log 2 + offset bucket R r h k

include hZ hK in
theorem products_real (h : Fin 8) (k : Fin 256) : products zq kva (ix4 n h r k) = ((dot Z K n r h k * Real.log 2 : ℝ) : EReal) := by
  rw [products_apply]
  have e : ∀ d : Fin 64, (queries zq (ix4 n r h d) * kva (ix3 (batch n) (key n k) ⟨(slotLane h d).val, by omega⟩) : EReal) =
      ((Z (batch n) (row n r) (queryLane h d) * K (batch n) (key n k) (slotLane h d) * Real.log 2 : ℝ) : EReal) := by
    intro d
    rw [queries_apply, hK]
    rw [show zq (ix3 (batch n) (row n r) ⟨64 * h.val + d.val, by omega⟩) = (Z (batch n) (row n r) (queryLane h d) : EReal) from hZ _ _ (queryLane h d)]
    rw [← EReal.coe_mul, ← EReal.coe_mul]
    congr 1
    ring
  simp only [e]
  rw [← Fox.coe_sum, ← Finset.sum_mul]
  rfl

include hR in
theorem bias_real (h : Fin 8) (k : Fin 256) : bias bucket rel (ix3 h r k) = (offset bucket R r h k : EReal) := by
  rw [bias_apply, bias_nats]
  unfold offset
  split
  · rw [hR]
  · rfl

include hZ hK hR in
theorem scores_real (h : Fin 8) (k : Fin 256) (hs : Sees bucket n r k) : scores bucket zq kva rel (ix4 n h r k) = (score bucket Z K R n r h k : EReal) := by
  rw [scores_apply]
  refine (if_pos hs).trans ?_
  rw [products_real hZ hK, bias_real hR, ← EReal.coe_add]
  rfl

theorem scores_unseen (h : Fin 8) (k : Fin 256) (hs : ¬ Sees bucket n r k) : scores bucket zq kva rel (ix4 n h r k) = ⊥ := by
  rw [scores_apply]
  exact if_neg hs

/-- The first key of the block before. -/
def firstOf (n : Fin 128) : BitVec 32 := BitVec.ofNat 32 (128 * (n.val % 16))

variable {p : Fin 4} {q ka kb va vb : Vec Ideal S1x128x128 .bf16}
  (hq : ∀ (a : Fin 128) (l : Fin 128), q (ix3 0 a l) = zq (ix3 (batch n) (row n a) ⟨128 * p.val + l.val, lt_query p l⟩))
  (hka : ∀ (j : Fin 128) (l : Fin 128), ka (ix3 0 j l) = kva (ix3 (batch n) (key n ⟨j.val, lt_before j⟩) ⟨128 * (p.val / 2) + l.val, lt_slot p l⟩))
  (hkb : ∀ (j : Fin 128) (l : Fin 128), kb (ix3 0 j l) = kva (ix3 (batch n) (key n ⟨128 + j.val, lt_own j⟩) ⟨128 * (p.val / 2) + l.val, lt_slot p l⟩))
  (hva : ∀ (j : Fin 128) (l : Fin 128), va (ix3 0 j l) = kva (ix3 (batch n) (key n ⟨j.val, lt_before j⟩) ⟨256 + 128 * (p.val / 2) + l.val, lt_value p l⟩))
  (hvb : ∀ (j : Fin 128) (l : Fin 128), vb (ix3 0 j l) = kva (ix3 (batch n) (key n ⟨128 + j.val, lt_own j⟩) ⟨256 + 128 * (p.val / 2) + l.val, lt_value p l⟩))

/-- Two blocks of rows of the keys or of the values. -/
theorem stacked_eq {a b : Vec Ideal S1x128x128 .bf16} {f : Fin 256 → Fin 128 → EReal}
    (ha : ∀ (j : Fin 128) (l : Fin 128), a (ix3 0 j l) = f ⟨j.val, by omega⟩ l) (hb : ∀ (j : Fin 128) (l : Fin 128), b (ix3 0 j l) = f ⟨128 + j.val, by omega⟩ l)
    (k : Fin 256) (l : Fin 128) : stacked a b (ix2 k l) = f k l := by
  by_cases h : k.val < 128
  · exact (stacked_low a b ⟨k.val, h⟩ l).trans (ha ⟨k.val, h⟩ l)
  · have e : k = ⟨128 + (⟨k.val - 128, by omega⟩ : Fin 128).val, Nat.add_lt_add_left (Fin.isLt _) 128⟩ := Fin.ext (by show k.val = 128 + (k.val - 128); omega)
    rw [e]
    exact (stacked_high a b ⟨k.val - 128, by omega⟩ l).trans (hb ⟨k.val - 128, by omega⟩ l)

include hZ hK hq hka hkb in
/-- The product of a head's queries and keys in the kernel. -/
theorem kernel_dot (e : Fin 2) (k : Fin 256) :
    (∑ d : Fin 128, (queriesOf e q (ix2 r d) * stacked ka kb (ix2 k d) : EReal)) = (dot Z K n r (head p e) k : EReal) := by
  simp only [queriesOf_apply, ite_mul, zero_mul]
  rw [Fox.sum_half e fun d => (q (ix3 0 r d) * stacked ka kb (ix2 k d) : EReal)]
  unfold dot
  rw [Fox.coe_sum]
  refine Finset.sum_congr rfl fun d _ => ?_
  rw [EReal.coe_mul, hq, stacked_eq (f := fun k l => kva (ix3 (batch n) (key n k) ⟨128 * (p.val / 2) + l.val, by omega⟩)) hka hkb, ← hZ, ← hK]
  refine congrArg₂ (fun a b : EReal => a * b) (congrArg zq (congrArg _ (Fin.ext ?_))) (congrArg kva (congrArg _ (Fin.ext ?_)))
  · show 128 * p.val + (64 * e.val + d.val) = 64 * (2 * p.val + e.val) + d.val
    omega
  · show 128 * (p.val / 2) + (64 * e.val + d.val) = 128 * ((2 * p.val + e.val) / 4) + 64 * ((2 * p.val + e.val) % 2) + d.val
    omega

variable (e : Fin 2) {b : Vec Ideal S1x128x256 .f32} {s : Ideal .f32} {g : ℕ → EReal}
  (hb : ∀ k : Fin 256, b (ix3 0 r k) = biasAt g 32 (bucket (ix2 r k))) (hg : ∀ t : Fin 32, g t.val = rel (ix2 t (head p e))) (hs : s = sinks (ix1 (head p e)))

include hR hb hg in
theorem kernel_bias (k : Fin 256) (h : (bucket (ix2 r k)).slt 0#32 = false) :
    b (ix3 0 r k) = ((offset bucket R r (head p e) k * (Real.log 2)⁻¹ : ℝ) : EReal) := by
  rw [hb]
  unfold biasAt offset
  by_cases h1 : (bucket (ix2 r k)).toNat < 32
  · rw [if_pos h1, dif_pos h1, EReal.coe_mul, ← hR, ← hg]
  · rw [if_neg h1, dif_neg h1, h, zero_mul]
    rfl

include hZ hK hR hq hka hkb hb hg in
theorem logits_seen (k : Fin 256) (h : Sees bucket n r k) :
    logits (firstOf n) (queriesOf e q) (stacked ka kb) b (ix2 r k) = ((score bucket Z K R n r (head p e) k * (Real.log 2)⁻¹ : ℝ) : EReal) := by
  unfold firstOf
  have hl : Real.log 2 ≠ 0 := Fox.log_two_ne
  rw [logits_apply _ (by omega), if_pos (by have := h.2; omega), kernel_dot hZ hK n r hq hka hkb, kernel_bias hR r e hb hg k h.1, ← EReal.coe_add]
  unfold score
  congr 1
  field_simp

include hb hZ hK hq hka hkb in
theorem logits_unseen (k : Fin 256) (h : ¬ Sees bucket n r k) :
    logits (firstOf n) (queriesOf e q) (stacked ka kb) b (ix2 r k) = ⊥ := by
  unfold firstOf
  rw [logits_apply _ (by omega)]
  by_cases h1 : 112 ≤ 128 * (n.val % 16) + k.val
  · rw [if_pos h1, hb]
    have h2 : (bucket (ix2 r k)).slt 0#32 = true := by
      by_contra h2
      exact h ⟨by simpa using h2, by omega⟩
    unfold biasAt
    rw [if_neg (fun h3 => by rw [not_slt_of_small h3] at h2; exact absurd h2 (by decide)), if_pos h2]
    exact EReal.add_bot _
  · rw [if_neg h1]

include hZ hK hR hS hq hka hkb hb hg hs in
/-- One head's part, at one query and lane. -/
theorem head_eq (v : FVec Ideal S256x128 .bf16) (d : Fin 128) :
    headOut (logits (firstOf n) (queriesOf e q) (stacked ka kb) b) (sinkLogit s) v (ix2 r d) =
      ∑ k : Fin 256, (AttendRef.weights (expScores (withSink (scores bucket zq kva rel) sinks)) (ix4 n (head p e) r ⟨k.val, by omega⟩) * v (ix2 k d) : EReal) := by
  rw [headOut_apply, total_apply]
  simp only [Attend.weights_apply, rowTop_apply, AttendRef.weights_apply, expScores_apply, rowMax_apply]
  exact softmax_eq (Sees bucket n r) (score bucket Z K R n r (head p e)) (D (head p e))
    (fun k h => logits_seen hZ hK hR n r hq hka hkb e hb hg k h) (fun k h => logits_unseen hZ hK n r hq hka hkb e hb k h)
    (by
      rw [EReal.coe_mul, ← hS, ← hs]
      rfl)
    (fun k h => (withSink_low _ _ n r _ k).trans (scores_real hZ hK hR n r _ k h))
    (fun k h => (withSink_low _ _ n r _ k).trans (scores_unseen n r _ k h))
    ((withSink_last _ _ n r _).trans (hS _)) _

end Row

section Pair

open Cert.AttendIdeal AttendRef

variable {bucket : IVec S128x256 32} {zq : FVec Ideal S8x2048x3072 .bf16} {kva : FVec Ideal S8x2176x512 .bf16} {rel : FVec Ideal S32x8 .f32} {sinks : FVec Ideal S8 .f32}
  {Z : Fin 8 → Fin 2048 → Fin 512 → ℝ} {K : Fin 8 → Fin 2176 → Fin 256 → ℝ} {R : Fin 32 → Fin 8 → ℝ} {D : Fin 8 → ℝ}
  (hZ : ∀ b t (l : Fin 512), zq (ix3 b t ⟨l.val, lt_wide l⟩) = (Z b t l : EReal)) (hK : ∀ b j (l : Fin 256), kva (ix3 b j ⟨l.val, lt_narrow l⟩) = (K b j l : EReal))
  (hR : ∀ t h, rel (ix2 t h) = (R t h : EReal)) (hS : ∀ h, sinks (ix1 h) = (D h : EReal)) (n : Fin 128) (r : Fin 128)
variable {p : Fin 4} {q ka kb va vb : Vec Ideal S1x128x128 .bf16}
  (hq : ∀ (a : Fin 128) (l : Fin 128), q (ix3 0 a l) = zq (ix3 (batch n) (row n a) ⟨128 * p.val + l.val, lt_query p l⟩))
  (hka : ∀ (j : Fin 128) (l : Fin 128), ka (ix3 0 j l) = kva (ix3 (batch n) (key n ⟨j.val, lt_before j⟩) ⟨128 * (p.val / 2) + l.val, lt_slot p l⟩))
  (hkb : ∀ (j : Fin 128) (l : Fin 128), kb (ix3 0 j l) = kva (ix3 (batch n) (key n ⟨128 + j.val, lt_own j⟩) ⟨128 * (p.val / 2) + l.val, lt_slot p l⟩))
  (hva : ∀ (j : Fin 128) (l : Fin 128), va (ix3 0 j l) = kva (ix3 (batch n) (key n ⟨j.val, lt_before j⟩) ⟨256 + 128 * (p.val / 2) + l.val, lt_value p l⟩))
  (hvb : ∀ (j : Fin 128) (l : Fin 128), vb (ix3 0 j l) = kva (ix3 (batch n) (key n ⟨128 + j.val, lt_own j⟩) ⟨256 + 128 * (p.val / 2) + l.val, lt_value p l⟩))
  {b0 b1 : Vec Ideal S1x128x256 .f32} {s0 s1 : Ideal .f32} {g0 g1 : ℕ → EReal}
  (hb0 : ∀ k : Fin 256, b0 (ix3 0 r k) = biasAt g0 32 (bucket (ix2 r k))) (hg0 : ∀ t : Fin 32, g0 t.val = rel (ix2 t (head p 0))) (hs0 : s0 = sinks (ix1 (head p 0)))
  (hb1 : ∀ k : Fin 256, b1 (ix3 0 r k) = biasAt g1 32 (bucket (ix2 r k))) (hg1 : ∀ t : Fin 32, g1 t.val = rel (ix2 t (head p 1))) (hs1 : s1 = sinks (ix1 (head p 1)))

include hZ hK hR hS hq hka hkb hva hvb hb0 hg0 hs0 hb1 hg1 hs1 in
/-- What is stored for a pair of heads is the reference's, at one query and lane. -/
theorem pair_eq (i : Fin 2) (d : Fin 64) :
    pairOut (firstOf n) q ka kb va vb b0 b1 s0 s1 (ix3 0 r (halfLane i d)) =
      whole bucket zq kva rel sinks (ix3 (batch n) (row n r) ⟨64 * (head p i).val + d.val, by omega⟩) := by
  rw [pairOut_apply, head_eq hZ hK hR hS n r hq hka hkb 0 hb0 hg0 hs0, head_eq hZ hK hR hS n r hq hka hkb 1 hb1 hg1 hs1]
  unfold whole
  rw [mixed_apply]
  have hv : ∀ k : Fin 256, stacked va vb (ix2 k (halfLane i d)) = kva (ix3 (batch n) (key n k) ⟨256 + (slotLane (head p i) d).val, by omega⟩) := by
    intro k
    rw [stacked_eq (f := fun k l => kva (ix3 (batch n) (key n k) ⟨256 + 128 * (p.val / 2) + l.val, by omega⟩)) hva hvb]
    refine congrArg kva (congrArg _ (Fin.ext ?_))
    show 256 + 128 * (p.val / 2) + (64 * i.val + d.val) = 256 + (128 * ((2 * p.val + i.val) / 4) + 64 * ((2 * p.val + i.val) % 2) + d.val)
    omega
  simp only [valuesOf_apply, Fox.headOf_halfLane, hv]
  match i with
  | 0 => simp
  | 1 => simp

end Pair

end Attend

end
-- ==== Proof.AttendWhole.lean ====
/- The sliding-window array: which block a point reads, the bias that all points find in the scratch, and the array that the run leaves. -/
module

public import proofs.«01_k».proof.Proof.AttendStores
public import proofs.«01_k».proof.Proof.AttendRow
public import proofs.«01_k».proof.Proof.Whole
public import proofs.«01_k».proof.Proof.Gen.Pre_attended_finite

@[expose] public section

set_option maxRecDepth 16384

noncomputable section

namespace Attend

open Cert.AttendIdeal Cert.AttendIdeal.Gen Idealize.ShloMosaic Idealize.ShloMosaic.TcCoe Idealize.ShloMosaic.Tactic Idealize.SL.Sem
open Fox (headOf halfLane head)

theorem points_lt (t : Fin cfg0.N) : t.val < 32 := lt_of_lt_of_eq t.isLt (show cfg0.N = 32 from N_0)

/-- A point's batch, and its place in the batch. -/
def batchOf (t : Fin cfg0.N) : Fin 8 := ⟨t.val / 4, by have := points_lt t; omega⟩
def placeOf (t : Fin cfg0.N) : Fin 4 := ⟨t.val % 4, by omega⟩

/-- A block of 128 queries among all. -/
def blockOf (t : Fin cfg0.N) (s : Fin 4) : Fin 128 := ⟨4 * t.val + s.val, by have := points_lt t; omega⟩

theorem coord_eq : ∀ t : Fin cfg0.N, (grid0.coords t 1).val = t.val % 4 :=
  (by decide +kernel : ∀ t : Fin grid0.N, (grid0.coords t 1).val = t.val % 4)

theorem index_all : ∀ t : Fin cfg0.N, (∀ a : Fin 2, win0_0.index t a = 0) ∧ (∀ a : Fin 2, win0_1.index t a = 0) ∧ (∀ a : Fin 1, win0_2.index t a = 0) :=
  (by decide +kernel : ∀ t : Fin grid0.N, (∀ a : Fin 2, win0_0.index t a = 0) ∧ (∀ a : Fin 2, win0_1.index t a = 0) ∧ (∀ a : Fin 1, win0_2.index t a = 0))

theorem index_queries : ∀ t : Fin cfg0.N, win0_3.index t = ![t.val / 4, t.val % 4, 0] ∧ win0_9.index t = ![t.val / 4, t.val % 4, 0] :=
  (by decide +kernel : ∀ t : Fin grid0.N, win0_3.index t = ![t.val / 4, t.val % 4, 0] ∧ win0_9.index t = ![t.val / 4, t.val % 4, 0])

theorem index_keys : ∀ t : Fin cfg0.N, win0_4.index t = ![t.val / 4, 4 * (t.val % 4) + 0, 0] ∧ win0_5.index t = ![t.val / 4, 4 * (t.val % 4) + 1, 0] ∧
    win0_6.index t = ![t.val / 4, 4 * (t.val % 4) + 2, 0] ∧ win0_7.index t = ![t.val / 4, 4 * (t.val % 4) + 3, 0] ∧ win0_8.index t = ![t.val / 4, 4 * (t.val % 4) + 4, 0] :=
  (by decide +kernel : ∀ t : Fin grid0.N, win0_4.index t = ![t.val / 4, 4 * (t.val % 4) + 0, 0] ∧ win0_5.index t = ![t.val / 4, 4 * (t.val % 4) + 1, 0] ∧
    win0_6.index t = ![t.val / 4, 4 * (t.val % 4) + 2, 0] ∧ win0_7.index t = ![t.val / 4, 4 * (t.val % 4) + 3, 0] ∧ win0_8.index t = ![t.val / 4, 4 * (t.val % 4) + 4, 0])

theorem firstKey_eq (t : Fin cfg0.N) (s : Fin 4) : firstKey (BitVec.ofNat 32 (grid0.coords t 1).val) s = firstOf (blockOf t s) := by
  have h : ∀ u s : Fin 4, firstKey (BitVec.ofNat 32 u.val) s = BitVec.ofNat 32 (128 * (4 * u.val + s.val)) := by decide +kernel
  rw [coord_eq t]
  refine (h (placeOf t) s).trans ?_
  unfold firstOf
  congr 2
  show 4 * (t.val % 4) + s.val = (4 * t.val + s.val) % 16
  omega

section Blocks

variable (m : (ℓ : Loc nD τ sig) → Buf (Elt Ideal) ℓ) (c : Dev nD) (t : Fin cfg0.N)

theorem bucket_block : iblk m c 0 t = m ((c : Thread nD τ).loc main_arg0) := by
  funext y
  refine congrArg (m ((c : Thread nD τ).loc main_arg0)) (funext fun a => Fin.ext ?_)
  show win0_0.index t a * S128x256.size a + 1 * (y a).val = (y a).val
  rw [(index_all t).1 a]; omega

theorem rel_block : iblk m c 1 t = m ((c : Thread nD τ).loc main_arg3) := by
  funext y
  refine congrArg (m ((c : Thread nD τ).loc main_arg3)) (funext fun a => Fin.ext ?_)
  show win0_1.index t a * S32x8.size a + 1 * (y a).val = (y a).val
  rw [(index_all t).2.1 a]; omega

theorem sinks_block : iblk m c 2 t = m ((c : Thread nD τ).loc main_arg4) := by
  funext y
  refine congrArg (m ((c : Thread nD τ).loc main_arg4)) (funext fun a => Fin.ext ?_)
  show win0_2.index t a * S8.size a + 1 * (y a).val = (y a).val
  rw [(index_all t).2.2 a]; omega

theorem queries_block (s : Fin 4) (r : Fin 128) (l : Fin 512) :
    iblk m c 3 t (ix3 0 ⟨128 * s.val + r.val, by omega⟩ l) =
      m ((c : Thread nD τ).loc main_arg1) (ix3 (AttendRef.batch (blockOf t s)) (AttendRef.row (blockOf t s) r) ⟨l.val, by omega⟩) := by
  show m ((c : Thread nD τ).loc main_arg1) (((cfg0.win 3).blk t).view.emb (ix3 0 ⟨128 * s.val + r.val, by omega⟩ l)) = _
  have e := (index_queries t).1
  refine congrArg _ ?_
  funext a; apply Fin.ext
  match a with
  | ⟨0, _⟩ => show win0_3.index t (0 : Fin 3) * 1 + 1 * 0 = (4 * t.val + s.val) / 16; rw [e]; show t.val / 4 * 1 + 1 * 0 = _; omega
  | ⟨1, _⟩ => show win0_3.index t (1 : Fin 3) * 512 + 1 * (128 * s.val + r.val) = 128 * ((4 * t.val + s.val) % 16) + r.val; rw [e]; show t.val % 4 * 512 + 1 * (128 * s.val + r.val) = _; omega
  | ⟨2, _⟩ => show win0_3.index t (2 : Fin 3) * 512 + 1 * l.val = l.val; rw [e]; show 0 * 512 + 1 * l.val = _; omega

/-- The five blocks of keys and values of a point. -/
abbrev windows : Fin 5 → Vec Ideal S1x128x512 .bf16 := ![iblk m c 4 t, iblk m c 5 t, iblk m c 6 t, iblk m c 7 t, iblk m c 8 t]

/-- The five blocks are laid out alike. -/
theorem keys_index {s : Fin 3 → ℕ} (g : ℕ) (hg : g < 5) (hs : s = ![t.val / 4, 4 * (t.val % 4) + g, 0]) (r : Fin 128) (l : Fin 512) (j : S8x2176x512.Idx)
    (h0 : (j 0).val = s 0 * 1 + 1 * 0) (h1 : (j 1).val = s 1 * 128 + 1 * r.val) (h2 : (j 2).val = s 2 * 512 + 1 * l.val) :
    j = ix3 (batchOf t) ⟨512 * (t.val % 4) + 128 * g + r.val, by omega⟩ l := by
  subst hs
  funext a; apply Fin.ext
  match a with
  | ⟨0, _⟩ => exact h0.trans (by show t.val / 4 * 1 + 1 * 0 = t.val / 4; omega)
  | ⟨1, _⟩ => exact h1.trans (by show (4 * (t.val % 4) + g) * 128 + 1 * r.val = 512 * (t.val % 4) + 128 * g + r.val; omega)
  | ⟨2, _⟩ => exact h2.trans (by show 0 * 512 + 1 * l.val = l.val; omega)

theorem keys_block (g : Fin 5) (r : Fin 128) (l : Fin 512) :
    windows m c t g (ix3 0 r l) = m ((c : Thread nD τ).loc main_arg2) (ix3 (batchOf t) ⟨512 * (t.val % 4) + 128 * g.val + r.val, by omega⟩ l) := by
  obtain ⟨e4, e5, e6, e7, e8⟩ := index_keys t
  match g with
  | ⟨0, _⟩ => exact congrArg (m ((c : Thread nD τ).loc main_arg2)) (keys_index t 0 (by decide) e4 r l (((cfg0.win 4).blk t).view.emb (ix3 0 r l)) rfl rfl rfl)
  | ⟨1, _⟩ => exact congrArg (m ((c : Thread nD τ).loc main_arg2)) (keys_index t 1 (by decide) e5 r l (((cfg0.win 5).blk t).view.emb (ix3 0 r l)) rfl rfl rfl)
  | ⟨2, _⟩ => exact congrArg (m ((c : Thread nD τ).loc main_arg2)) (keys_index t 2 (by decide) e6 r l (((cfg0.win 6).blk t).view.emb (ix3 0 r l)) rfl rfl rfl)
  | ⟨3, _⟩ => exact congrArg (m ((c : Thread nD τ).loc main_arg2)) (keys_index t 3 (by decide) e7 r l (((cfg0.win 7).blk t).view.emb (ix3 0 r l)) rfl rfl rfl)
  | ⟨4, _⟩ => exact congrArg (m ((c : Thread nD τ).loc main_arg2)) (keys_index t 4 (by decide) e8 r l (((cfg0.win 8).blk t).view.emb (ix3 0 r l)) rfl rfl rfl)

/-- The block before a block of queries, and the block itself. -/
theorem before_block (s : Fin 4) (j : Fin 128) (l : Fin 512) :
    windows m c t s.castSucc (ix3 0 j l) = m ((c : Thread nD τ).loc main_arg2) (ix3 (AttendRef.batch (blockOf t s)) (AttendRef.key (blockOf t s) ⟨j.val, by omega⟩) l) := by
  rw [keys_block]
  refine congrArg _ ?_
  funext a; apply Fin.ext
  match a with
  | ⟨0, _⟩ => show t.val / 4 = (4 * t.val + s.val) / 16; omega
  | ⟨1, _⟩ => show 512 * (t.val % 4) + 128 * s.val + j.val = 128 * ((4 * t.val + s.val) % 16) + j.val; omega
  | ⟨2, _⟩ => rfl

theorem own_block (s : Fin 4) (j : Fin 128) (l : Fin 512) :
    windows m c t s.succ (ix3 0 j l) = m ((c : Thread nD τ).loc main_arg2) (ix3 (AttendRef.batch (blockOf t s)) (AttendRef.key (blockOf t s) ⟨128 + j.val, by omega⟩) l) := by
  rw [keys_block]
  refine congrArg _ ?_
  funext a; apply Fin.ext
  match a with
  | ⟨0, _⟩ => show t.val / 4 = (4 * t.val + s.val) / 16; omega
  | ⟨1, _⟩ => show 512 * (t.val % 4) + 128 * (s.val + 1) + j.val = 128 * ((4 * t.val + s.val) % 16) + (128 + j.val); omega
  | ⟨2, _⟩ => rfl

/-- The result's block at a point. -/
theorem result_emb (s : Fin 4) (r : Fin 128) (l : Fin 512) :
    ((cfg0.win 9).blk t).view.emb (ix3 0 ⟨128 * s.val + r.val, by omega⟩ l) = ix3 (AttendRef.batch (blockOf t s)) (AttendRef.row (blockOf t s) r) l := by
  have e := (index_queries t).2
  funext a; apply Fin.ext
  match a with
  | ⟨0, _⟩ => show win0_9.index t (0 : Fin 3) * 1 + 1 * 0 = (4 * t.val + s.val) / 16; rw [e]; show t.val / 4 * 1 + 1 * 0 = _; omega
  | ⟨1, _⟩ => show win0_9.index t (1 : Fin 3) * 512 + 1 * (128 * s.val + r.val) = 128 * ((4 * t.val + s.val) % 16) + r.val; rw [e]; show t.val % 4 * 512 + 1 * (128 * s.val + r.val) = _; omega
  | ⟨2, _⟩ => show win0_9.index t (2 : Fin 3) * 512 + 1 * l.val = l.val; rw [e]; show 0 * 512 + 1 * l.val = _; omega

end Blocks

section Final

variable (m : (ℓ : Loc nD τ sig) → Buf (Elt Ideal) ℓ) (c : Dev nD)

/-- The bias of all heads, of the launched arrays. -/
abbrev biasAll : Vec Ideal S8x128x256 .f32 := biases (m ((c : Thread nD τ).loc main_arg0)) (m ((c : Thread nD τ).loc main_arg3))

/-- The scratch after any point. -/
theorem scratch_eq (n : ℕ) (hn : n < cfg0.N) : (outsAt0 m c n hn).2 = biasAll m c := by
  induction n with
  | zero =>
    rw [outsAt0_A m c ⟨0, hn⟩ rfl]
    dsimp only
    rw [scratch_first, bucket_block, rel_block]
  | succ n ih =>
    have hN := points_lt ⟨n + 1, hn⟩
    simp only [] at hN
    rw [outsAt0_B m c ⟨n + 1, hn⟩ (by simp only []; omega)]
    exact ih (Nat.lt_of_succ_lt hn)

/-- What a point leaves in the result's block. -/
theorem out_eq (t : Fin cfg0.N) :
    (outsAt0 m c t.val t.isLt).1 = block (BitVec.ofNat 32 (grid0.coords t 1).val) (m ((c : Thread nD τ).loc main_arg4)) (iblk m c 3 t) (windows m c t) (biasRows (biasAll m c)) := by
  by_cases h : t.val % 32 = 0
  · rw [outsAt0_A m c t h]
    dsimp only
    rw [out_first, bucket_block, rel_block, sinks_block]
  · rw [outsAt0_B m c t h]
    dsimp only
    rw [out_later, sinks_block, scratch_eq]

/-- The result that the arguments call for. -/
def result : FVec Ideal S8x2048x512 .bf16 :=
  AttendRef.whole (m ((c : Thread nD τ).loc main_arg0)) (m ((c : Thread nD τ).loc main_arg1)) (m ((c : Thread nD τ).loc main_arg2)) (m ((c : Thread nD τ).loc main_arg3))
    (m ((c : Thread nD τ).loc main_arg4))

/-- The queries, the keys, the biases and the sinks are reals. -/
def Real4 : Prop :=
  (∀ (b : Fin 8) (t : Fin 2048) (l : Fin 512), ∃ x : ℝ, (m ((c : Thread nD τ).loc main_arg1) : FVec Ideal S8x2048x3072 .bf16) (ix3 b t ⟨l.val, by omega⟩) = (x : EReal)) ∧
  (∀ (b : Fin 8) (j : Fin 2176) (l : Fin 256), ∃ x : ℝ, (m ((c : Thread nD τ).loc main_arg2) : FVec Ideal S8x2176x512 .bf16) (ix3 b j ⟨l.val, by omega⟩) = (x : EReal)) ∧
  (∀ (t : Fin 32) (h : Fin 8), ∃ x : ℝ, (m ((c : Thread nD τ).loc main_arg3) : FVec Ideal S32x8 .f32) (ix2 t h) = (x : EReal)) ∧
  (∀ h : Fin 8, ∃ x : ℝ, (m ((c : Thread nD τ).loc main_arg4) : FVec Ideal S8 .f32) (ix1 h) = (x : EReal))

/-- Every row of a block is one of its four blocks of queries'. -/
theorem exists_query (r : Fin 512) : ∃ (s : Fin 4) (a : Fin 128), r = ⟨128 * s.val + a.val, by omega⟩ :=
  ⟨⟨r.val / 128, by omega⟩, ⟨r.val % 128, by omega⟩, Fin.ext (by show r.val = 128 * (r.val / 128) + r.val % 128; omega)⟩

theorem flushed_eq (hm : Real4 m c) (t : Fin cfg0.N) : (dats m 0 c).flushed 9 t = ((cfg0.win 9).blk t).view.read (Elt Ideal) (result m c) := by
  obtain ⟨hZ, hK, hR, hS⟩ := hm
  choose Z hZ using hZ
  choose K hK using hK
  choose R hR using hR
  choose D hS using hS
  rw [Value.flushed9, out_eq]
  funext j
  obtain ⟨r, l, rfl⟩ := Fox.exists_block_index j
  obtain ⟨s, a, rfl⟩ := exists_query r
  obtain ⟨p, e, rfl⟩ := exists_query l
  show block (BitVec.ofNat 32 (grid0.coords t 1).val) (m ((c : Thread nD τ).loc main_arg4)) (iblk m c 3 t) (windows m c t) (biasRows (biasAll m c))
    (ix3 0 ⟨128 * s.val + a.val, by omega⟩ ⟨128 * p.val + e.val, by omega⟩) = result m c (((cfg0.win 9).blk t).view.emb (ix3 0 ⟨128 * s.val + a.val, by omega⟩ ⟨128 * p.val + e.val, by omega⟩))
  rw [result_emb, block_apply]
  obtain ⟨d, hd⟩ := Fox.exists_halfLane e
  generalize headOf e = i at hd
  subst hd
  unfold stored
  rw [firstKey_eq]
  have hl : (⟨128 * p.val + (halfLane i d).val, by omega⟩ : Fin 512) = ⟨64 * (head p i).val + d.val, by omega⟩ :=
    Fin.ext (by show 128 * p.val + (64 * i.val + d.val) = 64 * (2 * p.val + i.val) + d.val; omega)
  rw [hl]
  refine pair_eq hZ hK hR hS (blockOf t s) a (p := p) ?_ ?_ ?_ ?_ ?_ ?_ (relOf_apply _ _) (sinkOf_apply _ _) ?_ (relOf_apply _ _) (sinkOf_apply _ _) i d
  · intro a l
    rw [queryRows_apply]
    exact queries_block m c t s a _
  · intro j l
    rw [laneRows_apply]
    exact before_block m c t s j _
  · intro j l
    rw [laneRows_apply]
    exact own_block m c t s j _
  · intro j l
    rw [laneRows_apply, before_block]
    refine congrArg _ (congrArg _ (Fin.ext ?_))
    show 128 * (2 + p.val / 2) + l.val = 256 + 128 * (p.val / 2) + l.val
    omega
  · intro j l
    rw [laneRows_apply, own_block]
    refine congrArg _ (congrArg _ (Fin.ext ?_))
    show 128 * (2 + p.val / 2) + l.val = 256 + 128 * (p.val / 2) + l.val
    omega
  · intro k
    rw [biasRows_apply]
    exact biases_apply _ _ _ a k
  · intro k
    rw [biasRows_apply]
    exact biases_apply _ _ _ a k

theorem cover (i : S8x2048x512.Idx) : ∃ t : Fin cfg0.N, (cfg0.win 9).flush t = true ∧ i ∈ ((cfg0.win 9).blk t).view.set :=
  (Value.covered_iff9 i).2 (by
    have h0 : (i 0).val < 8 := (i 0).isLt
    have h1 : (i 1).val < 2048 := (i 1).isLt
    have h2 : (i 2).val < 512 := (i 2).isLt
    omega)

/-- The array after the run. -/
theorem final (hm : Real4 m c) : (dats m 0 c).arrAt 9 cfg0.N = result m c :=
  (dats m 0 c).arrAt_eq_of_cover 9 (result m c) (fun t _ => flushed_eq m c hm t) cover

end Final

instance : Subsingleton Cert.Pre_attended_finite.S_.Idx := ⟨fun a b => by funext x; exact x.elim0⟩

/-- The precondition: the queries, the keys, the biases and the sinks are reals. -/
theorem real_of_pre (m : (ℓ : Loc nD τ sig) → Buf (Elt Ideal) ℓ) (h : Cert.Pre_AttendIdeal_attended_finite m) (c : Dev nD) : Real4 m c := by
  have hc := congrFun (h c) ix0
  dsimp only [Cert.Pre_attended_finite.fn, Cert.Pre_attended_finite.fn_part1] at hc
  obtain ⟨hqkr, hs⟩ := IntOp.andi_eq_one.1 hc
  obtain ⟨hqk, hr⟩ := IntOp.andi_eq_one.1 hqkr
  obtain ⟨hq, hk⟩ := IntOp.andi_eq_one.1 hqk
  refine ⟨fun b t l => ?_, fun b j l => ?_, fun t h => Fox.real_of_abs_lt (Host.reduce_andi_all _ _ _ _ _ hr (ix2 t h)), fun h => Fox.real_of_abs_lt (Host.reduce_andi_all _ _ _ _ _ hs (ix1 h))⟩
  · obtain ⟨x, hx⟩ := Fox.real_of_abs_lt (Host.reduce_andi_all _ _ _ _ _ hq (ix3 b t l))
    refine ⟨x, Eq.trans (congrArg _ ?_) hx⟩
    funext a; apply Fin.ext
    match a with
    | ⟨0, _⟩ => show b.val = 0 + b.val; omega
    | ⟨1, _⟩ => show t.val = 0 + t.val; omega
    | ⟨2, _⟩ => show l.val = 0 + l.val; omega
  · obtain ⟨x, hx⟩ := Fox.real_of_abs_lt (Host.reduce_andi_all _ _ _ _ _ hk (ix3 b j l))
    refine ⟨x, Eq.trans (congrArg _ ?_) hx⟩
    funext a; apply Fin.ext
    match a with
    | ⟨0, _⟩ => show b.val = 0 + b.val; omega
    | ⟨1, _⟩ => show j.val = 0 + j.val; omega
    | ⟨2, _⟩ => show l.val = 0 + l.val; omega

end Attend

end
-- ==== Proof.lean ====
/- The claims, put together: for each of the calls the frames of the kernel and of the reference, what the idealized program
   keeps, and the equality of the kernel's results with the reference's. -/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_inputs_finite
public import proofs.«01_k».proof.Proof.Gen.Pre_attended_finite
public import proofs.«01_k».proof.Proof.Gen.Attend
public import proofs.«01_k».proof.Proof.Gen.Attend.Skeleton
public import proofs.«01_k».proof.Proof.Gen.Attend.Launch
public import proofs.«01_k».proof.Proof.Gen.Attend.Points
public import proofs.«01_k».proof.Proof.Gen.Attend.Frame
public import proofs.«01_k».proof.Proof.Gen.AttendIdeal
public import proofs.«01_k».proof.Proof.Gen.AttendIdeal.Skeleton
public import proofs.«01_k».proof.Proof.Gen.AttendIdeal.Launch
public import proofs.«01_k».proof.Proof.Gen.AttendIdeal.Points
public import proofs.«01_k».proof.Proof.Gen.AttendIdeal.Frame
public import proofs.«01_k».proof.Proof.Gen.AttendIdeal.Value
public import proofs.«01_k».proof.Proof.Gen.AttendReferenceIdeal
public import proofs.«01_k».proof.Proof.Gen.AttendReferenceIdeal.Run
public import proofs.«01_k».proof.Proof.Gen.KernelIdeal.Value
public import proofs.«01_k».proof.Proof.Gen.ReferenceIdeal.Run
public import proofs.«01_k».proof.Proof.Gen.Project
public import proofs.«01_k».proof.Proof.Gen.Project.Skeleton
public import proofs.«01_k».proof.Proof.Gen.Project.Launch
public import proofs.«01_k».proof.Proof.Gen.Project.Points
public import proofs.«01_k».proof.Proof.Gen.Project.Frame
public import proofs.«01_k».proof.Proof.Gen.ProjectIdeal
public import proofs.«01_k».proof.Proof.Gen.ProjectIdeal.Skeleton
public import proofs.«01_k».proof.Proof.Gen.ProjectIdeal.Launch
public import proofs.«01_k».proof.Proof.Gen.ProjectIdeal.Points
public import proofs.«01_k».proof.Proof.Gen.ProjectIdeal.Frame
public import proofs.«01_k».proof.Proof.Gen.ProjectReferenceIdeal
public import proofs.«01_k».proof.Proof.Gen.ProjectReferenceIdeal.Run
public import proofs.«01_k».proof.Proof.Gen.Merge
public import proofs.«01_k».proof.Proof.Gen.Merge.Skeleton
public import proofs.«01_k».proof.Proof.Gen.Merge.Launch
public import proofs.«01_k».proof.Proof.Gen.Merge.Points
public import proofs.«01_k».proof.Proof.Gen.Merge.Frame
public import proofs.«01_k».proof.Proof.Gen.MergeIdeal
public import proofs.«01_k».proof.Proof.Gen.MergeIdeal.Skeleton
public import proofs.«01_k».proof.Proof.Gen.MergeIdeal.Launch
public import proofs.«01_k».proof.Proof.Gen.MergeIdeal.Points
public import proofs.«01_k».proof.Proof.Gen.MergeIdeal.Frame
public import proofs.«01_k».proof.Proof.Gen.Experts
public import proofs.«01_k».proof.Proof.Gen.Experts.Skeleton
public import proofs.«01_k».proof.Proof.Gen.Experts.Launch
public import proofs.«01_k».proof.Proof.Gen.Experts.Points
public import proofs.«01_k».proof.Proof.Gen.Experts.Frame
public import proofs.«01_k».proof.Proof.Gen.ExpertsIdeal
public import proofs.«01_k».proof.Proof.Gen.ExpertsIdeal.Skeleton
public import proofs.«01_k».proof.Proof.Gen.ExpertsIdeal.Launch
public import proofs.«01_k».proof.Proof.Gen.ExpertsIdeal.Points
public import proofs.«01_k».proof.Proof.Gen.ExpertsIdeal.Frame
public import proofs.«01_k».proof.Proof.Gen.ExpertsIdeal.Value
public import proofs.«01_k».proof.Proof.Gen.ExpertsReferenceIdeal
public import proofs.«01_k».proof.Proof.Gen.ExpertsReferenceIdeal.Run
public import proofs.«01_k».proof.Proof.Gen.MergeReferenceIdeal
public import proofs.«01_k».proof.Proof.Gen.MergeIdeal.Value
public import proofs.«01_k».proof.Proof.Gen.MergeReferenceIdeal.Run
public import proofs.«01_k».proof.Proof.Whole
public import proofs.«01_k».proof.Proof.ProjectFrame
public import proofs.«01_k».proof.Proof.ProjectWhole
public import proofs.«01_k».proof.Proof.MergeWhole
public import proofs.«01_k».proof.Proof.ExpertsWhole
public import proofs.«01_k».proof.Proof.AttendWhole
public import Idealize.ShloMosaic.Adequacy
public import Idealize.ShloMosaic.Init

@[expose] public section

noncomputable section

namespace Cert.Proof

open Idealize.ShloMosaic Idealize.SL.Sem Cert.Kernel

/-- The reference runs, keeps its arguments and ends with every semaphore at zero. -/
theorem reference_frame (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0) :=
  (θ_run Cert.ReferenceIdeal.defs _ _).mono
    (fun r h => ⟨fun c => (h c).2, Idealize.ShloMosaic.sem_eq_zero_of_no_sems (by decide) r.2⟩)
    (Cert.ReferenceIdeal.Value.run (F := Ideal) m ρ)

/-- The kernel's result is the reference's. -/
theorem algebraic : Cert.algebraic_KernelIdeal_ReferenceIdeal_pre_inputs_finite := by
  intro m ρ m' ρ' hpre hagree
  refine ⟨fun c => Fox.result m c, ?_, ?_⟩
  · exact (θ_run Cert.KernelIdeal.defs _ _).mono
      (fun r h c => ⟨(h c).1.trans (Fox.final m c (Fox.real_of_pre m hpre c)), (h c).2⟩) (Cert.KernelIdeal.Value.run_blocks (F := Ideal) m ρ)
  · refine (θ_run Cert.ReferenceIdeal.defs _ _).mono (fun r h c => ⟨(h c).1.trans ?_, (h c).2⟩) (Cert.ReferenceIdeal.Value.run (F := Ideal) m' ρ')
    obtain ⟨e0, e1, e2, e3⟩ := hagree c
    refine (FoxRef.result_eq m' c).trans ?_
    show Fox.whole _ _ _ _ = Fox.whole _ _ _ _
    rw [e0, e1, e2, e3]

/-- The projections' results are their reference's. -/
theorem project_algebraic : Cert.algebraic_ProjectIdeal_ProjectReferenceIdeal := by
  intro m ρ m' ρ' _ hagree
  refine ⟨fun c => Project.keysOf m c, fun c => Project.lookbackOf m c, fun c => Project.valuesOf m c, fun c => Project.gatesOf m c, fun c => Project.queriesOf m c, ?_, ?_⟩
  · exact (θ_run Cert.ProjectIdeal.defs _ _).mono
      (fun r h c => ⟨(h.1 c).1, (h.1 c).2.1, (h.1 c).2.2.1, (h.1 c).2.2.2.1, (h.1 c).2.2.2.2, h.2.1 c⟩)
      (θ_run_and (Project.run m ρ) (Cert.ProjectIdeal.Hand.frame (F := Ideal) m ρ))
  · refine (θ_run Cert.ProjectReferenceIdeal.defs _ _).mono
      (fun r h c => ⟨(h c).1.1.trans ?_, (h c).1.2.1.trans ?_, (h c).1.2.2.1.trans ?_, (h c).1.2.2.2.1.trans ?_, (h c).1.2.2.2.2.trans ?_, (h c).2⟩) (ProjectRef.run m' ρ')
    all_goals
      obtain ⟨e0, e1, e2, e3, e4, e5, e6, e7, e8, e9, e10, e11⟩ := hagree c
      unfold ProjectRef.inputOf
      simp only [e0, e1, e2, e3, e4, e5, e6, e7, e8, e9, e10, e11]
      rfl

/-- The merge's results are its reference's. -/
theorem merge_algebraic : Cert.algebraic_MergeIdeal_MergeReferenceIdeal := by
  intro m ρ m' ρ' _ hagree
  refine ⟨fun c => Merge.result m c, fun c => MergeRef.wholeT (Merge.result m c), ?_, ?_⟩
  · exact (θ_run Cert.MergeIdeal.defs _ _).mono
      (fun r h c => ⟨(h c).1.trans (Merge.final m c), (h c).2.1.trans (Merge.finalT m c), (h c).2.2⟩) (Cert.MergeIdeal.Value.run_blocks (F := Ideal) m ρ)
  · have hr : ∀ c, Cert.MergeReferenceIdeal.Value.res_out0 m' c = Merge.result m c := by
      intro c
      obtain ⟨e0, e1, e2, e3, e4, e5, e6, e7, e8, e9, e10⟩ := hagree c
      refine (MergeRef.result_eq m' c).trans ?_
      rw [e0, e1, e2, e3, e4, e5, e6, e7, e8, e9, e10]
      rfl
    exact (θ_run Cert.MergeReferenceIdeal.defs _ _).mono
      (fun r h c => ⟨(h c).1.trans (hr c), (h c).2.1.trans ((MergeRef.resultT_eq m' c).trans (congrArg MergeRef.wholeT (hr c))), (h c).2.2⟩)
      (Cert.MergeReferenceIdeal.Value.run (F := Ideal) m' ρ')

/-- The experts' result is its reference's. -/
theorem experts_algebraic : Cert.algebraic_ExpertsIdeal_ExpertsReferenceIdeal := by
  intro m ρ m' ρ' _ hagree
  refine ⟨fun c => Experts.result m c, ?_, ?_⟩
  · exact (θ_run Cert.ExpertsIdeal.defs _ _).mono
      (fun r h c => ⟨(h c).1.trans (Experts.array_eq m c), (h c).2⟩) (Cert.ExpertsIdeal.Value.run_blocks (F := Ideal) m ρ)
  · refine (θ_run Cert.ExpertsReferenceIdeal.defs _ _).mono (fun r h c => ⟨(h c).1.trans ?_, (h c).2⟩)
      (Cert.ExpertsReferenceIdeal.Value.run (F := Ideal) m' ρ')
    obtain ⟨e0, e1, e2, e3, e4, e5, e6, e7, e8, e9⟩ := hagree c
    refine (ExpertsRef.result_eq m' c).trans ?_
    rw [e0, e1, e2, e3, e4, e5, e6, e7, e8, e9]
    rfl

/-- The sliding-window attention's result is its reference's. -/
theorem attend_algebraic : Cert.algebraic_AttendIdeal_AttendReferenceIdeal_pre_attended_finite := by
  intro m ρ m' ρ' hpre hagree
  refine ⟨fun c => Attend.result m c, ?_, ?_⟩
  · exact (θ_run Cert.AttendIdeal.defs _ _).mono
      (fun r h c => ⟨(h c).1.trans (Attend.final m c (Attend.real_of_pre m hpre c)), (h c).2⟩) (Cert.AttendIdeal.Value.run_blocks (F := Ideal) m ρ)
  · refine (θ_run Cert.AttendReferenceIdeal.defs _ _).mono (fun r h c => ⟨(h c).1.trans ?_, (h c).2⟩)
      (Cert.AttendReferenceIdeal.Value.run (F := Ideal) m' ρ')
    obtain ⟨e0, e1, e2, e3, e4⟩ := hagree c
    refine (AttendRef.result_eq m' c).trans ?_
    rw [e0, e1, e2, e3, e4]
    rfl

/-- The sliding-window attention's reference runs, keeps its arguments and ends with every semaphore at zero. -/
theorem attend_reference_frame (m : (ℓ : Loc Cert.AttendReferenceIdeal.nD Cert.AttendReferenceIdeal.τ Cert.AttendReferenceIdeal.sig) → Buf (Elt Ideal) ℓ)
    (ρ : Dev Cert.AttendReferenceIdeal.nD → PrngReg) :
    θ_run (Cert.AttendReferenceIdeal.defs (F := Ideal)) (onTc (τ := Cert.AttendReferenceIdeal.τ) (Cert.AttendReferenceIdeal.main (F := Ideal))) ⟨m, fun _ => 0, ρ⟩ (fun r => (∀ c : Dev Cert.AttendReferenceIdeal.nD,
      r.2.mem ((c.tc : Thread Cert.AttendReferenceIdeal.nD Cert.AttendReferenceIdeal.τ).loc Cert.AttendReferenceIdeal.main_arg0) = m ((c.tc : Thread Cert.AttendReferenceIdeal.nD Cert.AttendReferenceIdeal.τ).loc Cert.AttendReferenceIdeal.main_arg0)
      ∧ r.2.mem ((c.tc : Thread Cert.AttendReferenceIdeal.nD Cert.AttendReferenceIdeal.τ).loc Cert.AttendReferenceIdeal.main_arg1) = m ((c.tc : Thread Cert.AttendReferenceIdeal.nD Cert.AttendReferenceIdeal.τ).loc Cert.AttendReferenceIdeal.main_arg1)
      ∧ r.2.mem ((c.tc : Thread Cert.AttendReferenceIdeal.nD Cert.AttendReferenceIdeal.τ).loc Cert.AttendReferenceIdeal.main_arg2) = m ((c.tc : Thread Cert.AttendReferenceIdeal.nD Cert.AttendReferenceIdeal.τ).loc Cert.AttendReferenceIdeal.main_arg2)
      ∧ r.2.mem ((c.tc : Thread Cert.AttendReferenceIdeal.nD Cert.AttendReferenceIdeal.τ).loc Cert.AttendReferenceIdeal.main_arg3) = m ((c.tc : Thread Cert.AttendReferenceIdeal.nD Cert.AttendReferenceIdeal.τ).loc Cert.AttendReferenceIdeal.main_arg3)
      ∧ r.2.mem ((c.tc : Thread Cert.AttendReferenceIdeal.nD Cert.AttendReferenceIdeal.τ).loc Cert.AttendReferenceIdeal.main_arg4) = m ((c.tc : Thread Cert.AttendReferenceIdeal.nD Cert.AttendReferenceIdeal.τ).loc Cert.AttendReferenceIdeal.main_arg4))
      ∧ r.2.sem = fun _ => 0) :=
  (θ_run Cert.AttendReferenceIdeal.defs _ _).mono
    (fun r h => ⟨fun c => (h c).2, Idealize.ShloMosaic.sem_eq_zero_of_no_sems (by decide) r.2⟩)
    (Cert.AttendReferenceIdeal.Value.run (F := Ideal) m ρ)

theorem claim : Cert.Claim := ⟨Cert.Kernel.Gen.facts, Cert.KernelIdeal.Gen.facts, Cert.ReferenceIdeal.Gen.facts, Cert.Project.Gen.facts, Cert.ProjectIdeal.Gen.facts,
    Cert.ProjectReferenceIdeal.Gen.facts, Cert.Merge.Gen.facts, Cert.MergeIdeal.Gen.facts,
    Cert.MergeReferenceIdeal.Gen.facts, Cert.Experts.Gen.facts, Cert.ExpertsIdeal.Gen.facts,
    Cert.ExpertsReferenceIdeal.Gen.facts, Cert.Attend.Gen.facts, Cert.AttendIdeal.Gen.facts, Cert.AttendReferenceIdeal.Gen.facts, Cert.Pre_inputs_finite.Gen.facts,
    Cert.Pre_attended_finite.Gen.facts,
  fun m ρ _ => Cert.Kernel.Gen.frame m ρ,
  fun m ρ _ => Cert.KernelIdeal.Gen.frame m ρ,
  fun m ρ _ => Cert.KernelIdeal.Gen.frame m ρ,
  fun m ρ _ => reference_frame m ρ,
  fun m ρ _ => reference_frame m ρ,
  fun m ρ _ => Cert.Project.Hand.frame m ρ,
  fun m ρ _ => Cert.ProjectIdeal.Hand.frame m ρ,
  fun m ρ _ => (θ_run Cert.ProjectReferenceIdeal.defs _ _).mono
    (fun r h => ⟨fun c => (h c).2, Idealize.ShloMosaic.sem_eq_zero_of_no_sems (by decide) r.2⟩) (ProjectRef.run m ρ),
  fun m ρ _ => Cert.Merge.Gen.frame m ρ,
  fun m ρ _ => Cert.MergeIdeal.Gen.frame m ρ,
  fun m ρ _ => (θ_run Cert.MergeReferenceIdeal.defs _ _).mono
    (fun r h => ⟨fun c => (h c).2.2, Idealize.ShloMosaic.sem_eq_zero_of_no_sems (by decide) r.2⟩) (Cert.MergeReferenceIdeal.Value.run (F := Ideal) m ρ),
  fun m ρ _ => Cert.Experts.Gen.frame m ρ,
  fun m ρ _ => Cert.ExpertsIdeal.Gen.frame m ρ,
  fun m ρ _ => (θ_run Cert.ExpertsReferenceIdeal.defs _ _).mono
    (fun r h => ⟨fun c => (h c).2, Idealize.ShloMosaic.sem_eq_zero_of_no_sems (by decide) r.2⟩) (Cert.ExpertsReferenceIdeal.Value.run (F := Ideal) m ρ),
  fun m ρ _ => Cert.Attend.Gen.frame m ρ,
  fun m ρ _ => Cert.AttendIdeal.Gen.frame m ρ,
  fun m ρ _ => Cert.AttendIdeal.Gen.frame m ρ,
  fun m ρ _ => attend_reference_frame m ρ,
  fun m ρ _ => attend_reference_frame m ρ,
  ⟨IdealRules.named_const.statement _ _ _ _ _ rfl, IdealRules.named_const.statement _ _ _ _ _ rfl⟩,
  algebraic,
  trivial,
  project_algebraic,
  trivial,
  merge_algebraic,
  IdealRules.named_const.statement _ _ _ _ _ rfl,
  experts_algebraic,
  ⟨IdealRules.named_const.statement _ _ _ _ _ rfl, IdealRules.named_const.statement _ _ _ _ _ rfl⟩,
  attend_algebraic⟩

end Cert.Proof

end
